-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).2.1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_MlaKernel (m : (ℓ : Loc Cert.MlaKernel.nD Cert.MlaKernel.τ Cert.MlaKernel.sig) → Buf (Elt Bits) ℓ) : Prop :=
  True

def Pre_MlaKernelIdeal (m : (ℓ : Loc Cert.MlaKernelIdeal.nD Cert.MlaKernelIdeal.τ Cert.MlaKernelIdeal.sig) → Buf (Elt Ideal) ℓ) : Prop :=
  True

def Pre_MlaKernelIdeal_mla_finite [hPre_mla_finite : Cert.Pre_mla_finite.Facts] (m : (ℓ : Loc Cert.MlaKernelIdeal.nD Cert.MlaKernelIdeal.τ Cert.MlaKernelIdeal.sig) → Buf (Elt Ideal) ℓ) : Prop :=
  ∀ c : Dev Cert.MlaKernelIdeal.nD,
    (Cert.Pre_mla_finite.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3)) (m ((c.tc : Thread Cert.MlaKernelIdeal.nD Cert.MlaKernelIdeal.τ).loc Cert.MlaKernelIdeal.main_arg4)) (m ((c.tc : Thread Cert.MlaKernelIdeal.nD Cert.MlaKernelIdeal.τ).loc Cert.MlaKernelIdeal.main_arg5))).1 = (fun _ => 1#1)
    ∧ (Cert.Pre_mla_finite.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3)) (m ((c.tc : Thread Cert.MlaKernelIdeal.nD Cert.MlaKernelIdeal.τ).loc Cert.MlaKernelIdeal.main_arg4)) (m ((c.tc : Thread Cert.MlaKernelIdeal.nD Cert.MlaKernelIdeal.τ).loc Cert.MlaKernelIdeal.main_arg5))).2.1 = (fun _ => 1#1)
    ∧ (Cert.Pre_mla_finite.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3)) (m ((c.tc : Thread Cert.MlaKernelIdeal.nD Cert.MlaKernelIdeal.τ).loc Cert.MlaKernelIdeal.main_arg4)) (m ((c.tc : Thread Cert.MlaKernelIdeal.nD Cert.MlaKernelIdeal.τ).loc Cert.MlaKernelIdeal.main_arg5))).2.2.1 = (fun _ => 1#1)
    ∧ (Cert.Pre_mla_finite.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3)) (m ((c.tc : Thread Cert.MlaKernelIdeal.nD Cert.MlaKernelIdeal.τ).loc Cert.MlaKernelIdeal.main_arg4)) (m ((c.tc : Thread Cert.MlaKernelIdeal.nD Cert.MlaKernelIdeal.τ).loc Cert.MlaKernelIdeal.main_arg5))).2.2.2.1 = (fun _ => 1#1)
    ∧ (Cert.Pre_mla_finite.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3)) (m ((c.tc : Thread Cert.MlaKernelIdeal.nD Cert.MlaKernelIdeal.τ).loc Cert.MlaKernelIdeal.main_arg4)) (m ((c.tc : Thread Cert.MlaKernelIdeal.nD Cert.MlaKernelIdeal.τ).loc Cert.MlaKernelIdeal.main_arg5))).2.2.2.2.1 = (fun _ => 1#1)
    ∧ (Cert.Pre_mla_finite.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3)) (m ((c.tc : Thread Cert.MlaKernelIdeal.nD Cert.MlaKernelIdeal.τ).loc Cert.MlaKernelIdeal.main_arg4)) (m ((c.tc : Thread Cert.MlaKernelIdeal.nD Cert.MlaKernelIdeal.τ).loc Cert.MlaKernelIdeal.main_arg5))).2.2.2.2.2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).2.2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).2.2.2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).2.2.2.2.2 = (fun _ => 1#1)

def Pre_InpKernel (m : (ℓ : Loc Cert.InpKernel.nD Cert.InpKernel.τ Cert.InpKernel.sig) → Buf (Elt Bits) ℓ) : Prop :=
  True

def Pre_InpKernelIdeal (m : (ℓ : Loc Cert.InpKernelIdeal.nD Cert.InpKernelIdeal.τ Cert.InpKernelIdeal.sig) → Buf (Elt Ideal) ℓ) : Prop :=
  True

def Pre_InpKernelIdeal_inp_finite [hPre_inp_finite : Cert.Pre_inp_finite.Facts] (m : (ℓ : Loc Cert.InpKernelIdeal.nD Cert.InpKernelIdeal.τ Cert.InpKernelIdeal.sig) → Buf (Elt Ideal) ℓ) : Prop :=
  ∀ c : Dev Cert.InpKernelIdeal.nD,
    (Cert.Pre_inp_finite.fn (F := Ideal) (m ((c.tc : Thread Cert.InpKernelIdeal.nD Cert.InpKernelIdeal.τ).loc Cert.InpKernelIdeal.main_arg0)) (m ((c.tc : Thread Cert.InpKernelIdeal.nD Cert.InpKernelIdeal.τ).loc Cert.InpKernelIdeal.main_arg1)) (m ((c.tc : Thread Cert.InpKernelIdeal.nD Cert.InpKernelIdeal.τ).loc Cert.InpKernelIdeal.main_arg2)) (m ((c.tc : Thread Cert.InpKernelIdeal.nD Cert.InpKernelIdeal.τ).loc Cert.InpKernelIdeal.main_arg3)) (m ((c.tc : Thread Cert.InpKernelIdeal.nD Cert.InpKernelIdeal.τ).loc Cert.InpKernelIdeal.main_arg4))).1 = (fun _ => 1#1)
    ∧ (Cert.Pre_inp_finite.fn (F := Ideal) (m ((c.tc : Thread Cert.InpKernelIdeal.nD Cert.InpKernelIdeal.τ).loc Cert.InpKernelIdeal.main_arg0)) (m ((c.tc : Thread Cert.InpKernelIdeal.nD Cert.InpKernelIdeal.τ).loc Cert.InpKernelIdeal.main_arg1)) (m ((c.tc : Thread Cert.InpKernelIdeal.nD Cert.InpKernelIdeal.τ).loc Cert.InpKernelIdeal.main_arg2)) (m ((c.tc : Thread Cert.InpKernelIdeal.nD Cert.InpKernelIdeal.τ).loc Cert.InpKernelIdeal.main_arg3)) (m ((c.tc : Thread Cert.InpKernelIdeal.nD Cert.InpKernelIdeal.τ).loc Cert.InpKernelIdeal.main_arg4))).2.1 = (fun _ => 1#1)
    ∧ (Cert.Pre_inp_finite.fn (F := Ideal) (m ((c.tc : Thread Cert.InpKernelIdeal.nD Cert.InpKernelIdeal.τ).loc Cert.InpKernelIdeal.main_arg0)) (m ((c.tc : Thread Cert.InpKernelIdeal.nD Cert.InpKernelIdeal.τ).loc Cert.InpKernelIdeal.main_arg1)) (m ((c.tc : Thread Cert.InpKernelIdeal.nD Cert.InpKernelIdeal.τ).loc Cert.InpKernelIdeal.main_arg2)) (m ((c.tc : Thread Cert.InpKernelIdeal.nD Cert.InpKernelIdeal.τ).loc Cert.InpKernelIdeal.main_arg3)) (m ((c.tc : Thread Cert.InpKernelIdeal.nD Cert.InpKernelIdeal.τ).loc Cert.InpKernelIdeal.main_arg4))).2.2.1 = (fun _ => 1#1)
    ∧ (Cert.Pre_inp_finite.fn (F := Ideal) (m ((c.tc : Thread Cert.InpKernelIdeal.nD Cert.InpKernelIdeal.τ).loc Cert.InpKernelIdeal.main_arg0)) (m ((c.tc : Thread Cert.InpKernelIdeal.nD Cert.InpKernelIdeal.τ).loc Cert.InpKernelIdeal.main_arg1)) (m ((c.tc : Thread Cert.InpKernelIdeal.nD Cert.InpKernelIdeal.τ).loc Cert.InpKernelIdeal.main_arg2)) (m ((c.tc : Thread Cert.InpKernelIdeal.nD Cert.InpKernelIdeal.τ).loc Cert.InpKernelIdeal.main_arg3)) (m ((c.tc : Thread Cert.InpKernelIdeal.nD Cert.InpKernelIdeal.τ).loc Cert.InpKernelIdeal.main_arg4))).2.2.2.1 = (fun _ => 1#1)
    ∧ (Cert.Pre_inp_finite.fn (F := Ideal) (m ((c.tc : Thread Cert.InpKernelIdeal.nD Cert.InpKernelIdeal.τ).loc Cert.InpKernelIdeal.main_arg0)) (m ((c.tc : Thread Cert.InpKernelIdeal.nD Cert.InpKernelIdeal.τ).loc Cert.InpKernelIdeal.main_arg1)) (m ((c.tc : Thread Cert.InpKernelIdeal.nD Cert.InpKernelIdeal.τ).loc Cert.InpKernelIdeal.main_arg2)) (m ((c.tc : Thread Cert.InpKernelIdeal.nD Cert.InpKernelIdeal.τ).loc Cert.InpKernelIdeal.main_arg3)) (m ((c.tc : Thread Cert.InpKernelIdeal.nD Cert.InpKernelIdeal.τ).loc Cert.InpKernelIdeal.main_arg4))).2.2.2.2 = (fun _ => 1#1)

def Pre_InpRefIdeal (m : (ℓ : Loc Cert.InpRefIdeal.nD Cert.InpRefIdeal.τ Cert.InpRefIdeal.sig) → Buf (Elt Ideal) ℓ) : Prop :=
  True

def Pre_InpRefIdeal_inp_finite [hPre_inp_finite : Cert.Pre_inp_finite.Facts] (m : (ℓ : Loc Cert.InpRefIdeal.nD Cert.InpRefIdeal.τ Cert.InpRefIdeal.sig) → Buf (Elt Ideal) ℓ) : Prop :=
  ∀ c : Dev Cert.InpRefIdeal.nD,
    (Cert.Pre_inp_finite.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4))).1 = (fun _ => 1#1)
    ∧ (Cert.Pre_inp_finite.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4))).2.1 = (fun _ => 1#1)
    ∧ (Cert.Pre_inp_finite.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4))).2.2.1 = (fun _ => 1#1)
    ∧ (Cert.Pre_inp_finite.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4))).2.2.2.1 = (fun _ => 1#1)
    ∧ (Cert.Pre_inp_finite.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4))).2.2.2.2 = (fun _ => 1#1)

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_gate_finite [hPre_gate_finite : Cert.Pre_gate_finite.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))).1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))).2.1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))).2.2.1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))).2.2.2.1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))).2.2.2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.2.2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.2.2.2 = (fun _ => 1#1)

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdKernelIdeal_fwd_finite [hPre_fwd_finite : Cert.Pre_fwd_finite.Facts] (m : (ℓ : Loc Cert.FwdKernelIdeal.nD Cert.FwdKernelIdeal.τ Cert.FwdKernelIdeal.sig) → Buf (Elt Ideal) ℓ) : Prop :=
  ∀ c : Dev Cert.FwdKernelIdeal.nD,
    (Cert.Pre_fwd_finite.fn (F := Ideal) (m ((c.tc : Thread Cert.FwdKernelIdeal.nD Cert.FwdKernelIdeal.τ).loc Cert.FwdKernelIdeal.main_arg0)) (m ((c.tc : Thread Cert.FwdKernelIdeal.nD Cert.FwdKernelIdeal.τ).loc Cert.FwdKernelIdeal.main_arg1)) (m ((c.tc : Thread Cert.FwdKernelIdeal.nD Cert.FwdKernelIdeal.τ).loc Cert.FwdKernelIdeal.main_arg2)) (m ((c.tc : Thread Cert.FwdKernelIdeal.nD Cert.FwdKernelIdeal.τ).loc Cert.FwdKernelIdeal.main_arg3)) (m ((c.tc : Thread Cert.FwdKernelIdeal.nD Cert.FwdKernelIdeal.τ).loc Cert.FwdKernelIdeal.main_arg4))).1 = (fun _ => 1#1)
    ∧ (Cert.Pre_fwd_finite.fn (F := Ideal) (m ((c.tc : Thread Cert.FwdKernelIdeal.nD Cert.FwdKernelIdeal.τ).loc Cert.FwdKernelIdeal.main_arg0)) (m ((c.tc : Thread Cert.FwdKernelIdeal.nD Cert.FwdKernelIdeal.τ).loc Cert.FwdKernelIdeal.main_arg1)) (m ((c.tc : Thread Cert.FwdKernelIdeal.nD Cert.FwdKernelIdeal.τ).loc Cert.FwdKernelIdeal.main_arg2)) (m ((c.tc : Thread Cert.FwdKernelIdeal.nD Cert.FwdKernelIdeal.τ).loc Cert.FwdKernelIdeal.main_arg3)) (m ((c.tc : Thread Cert.FwdKernelIdeal.nD Cert.FwdKernelIdeal.τ).loc Cert.FwdKernelIdeal.main_arg4))).2.1 = (fun _ => 1#1)
    ∧ (Cert.Pre_fwd_finite.fn (F := Ideal) (m ((c.tc : Thread Cert.FwdKernelIdeal.nD Cert.FwdKernelIdeal.τ).loc Cert.FwdKernelIdeal.main_arg0)) (m ((c.tc : Thread Cert.FwdKernelIdeal.nD Cert.FwdKernelIdeal.τ).loc Cert.FwdKernelIdeal.main_arg1)) (m ((c.tc : Thread Cert.FwdKernelIdeal.nD Cert.FwdKernelIdeal.τ).loc Cert.FwdKernelIdeal.main_arg2)) (m ((c.tc : Thread Cert.FwdKernelIdeal.nD Cert.FwdKernelIdeal.τ).loc Cert.FwdKernelIdeal.main_arg3)) (m ((c.tc : Thread Cert.FwdKernelIdeal.nD Cert.FwdKernelIdeal.τ).loc Cert.FwdKernelIdeal.main_arg4))).2.2.1 = (fun _ => 1#1)
    ∧ (Cert.Pre_fwd_finite.fn (F := Ideal) (m ((c.tc : Thread Cert.FwdKernelIdeal.nD Cert.FwdKernelIdeal.τ).loc Cert.FwdKernelIdeal.main_arg0)) (m ((c.tc : Thread Cert.FwdKernelIdeal.nD Cert.FwdKernelIdeal.τ).loc Cert.FwdKernelIdeal.main_arg1)) (m ((c.tc : Thread Cert.FwdKernelIdeal.nD Cert.FwdKernelIdeal.τ).loc Cert.FwdKernelIdeal.main_arg2)) (m ((c.tc : Thread Cert.FwdKernelIdeal.nD Cert.FwdKernelIdeal.τ).loc Cert.FwdKernelIdeal.main_arg3)) (m ((c.tc : Thread Cert.FwdKernelIdeal.nD Cert.FwdKernelIdeal.τ).loc Cert.FwdKernelIdeal.main_arg4))).2.2.2.1 = (fun _ => 1#1)
    ∧ (Cert.Pre_fwd_finite.fn (F := Ideal) (m ((c.tc : Thread Cert.FwdKernelIdeal.nD Cert.FwdKernelIdeal.τ).loc Cert.FwdKernelIdeal.main_arg0)) (m ((c.tc : Thread Cert.FwdKernelIdeal.nD Cert.FwdKernelIdeal.τ).loc Cert.FwdKernelIdeal.main_arg1)) (m ((c.tc : Thread Cert.FwdKernelIdeal.nD Cert.FwdKernelIdeal.τ).loc Cert.FwdKernelIdeal.main_arg2)) (m ((c.tc : Thread Cert.FwdKernelIdeal.nD Cert.FwdKernelIdeal.τ).loc Cert.FwdKernelIdeal.main_arg3)) (m ((c.tc : Thread Cert.FwdKernelIdeal.nD Cert.FwdKernelIdeal.τ).loc Cert.FwdKernelIdeal.main_arg4))).2.2.2.2 = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_fwd_finite [hPre_fwd_finite : Cert.Pre_fwd_finite.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4))).1 = (fun _ => 1#1)
    ∧ (Cert.Pre_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4))).2.1 = (fun _ => 1#1)
    ∧ (Cert.Pre_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4))).2.2.1 = (fun _ => 1#1)
    ∧ (Cert.Pre_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4))).2.2.2.1 = (fun _ => 1#1)
    ∧ (Cert.Pre_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4))).2.2.2.2 = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_LatKernel (m : (ℓ : Loc Cert.LatKernel.nD Cert.LatKernel.τ Cert.LatKernel.sig) → Buf (Elt Bits) ℓ) : Prop :=
  True

def Pre_LatKernelIdeal (m : (ℓ : Loc Cert.LatKernelIdeal.nD Cert.LatKernelIdeal.τ Cert.LatKernelIdeal.sig) → Buf (Elt Ideal) ℓ) : Prop :=
  True

def Pre_LatRefIdeal (m : (ℓ : Loc Cert.LatRefIdeal.nD Cert.LatRefIdeal.τ Cert.LatRefIdeal.sig) → Buf (Elt Ideal) ℓ) : Prop :=
  True

def Pre_WinKernel (m : (ℓ : Loc Cert.WinKernel.nD Cert.WinKernel.τ Cert.WinKernel.sig) → Buf (Elt Bits) ℓ) : Prop :=
  True

def Pre_WinKernelIdeal (m : (ℓ : Loc Cert.WinKernelIdeal.nD Cert.WinKernelIdeal.τ Cert.WinKernelIdeal.sig) → Buf (Elt Ideal) ℓ) : Prop :=
  True

def Pre_WinKernelIdeal_win_finite [hPre_win_finite : Cert.Pre_win_finite.Facts] (m : (ℓ : Loc Cert.WinKernelIdeal.nD Cert.WinKernelIdeal.τ Cert.WinKernelIdeal.sig) → Buf (Elt Ideal) ℓ) : Prop :=
  ∀ c : Dev Cert.WinKernelIdeal.nD,
    (Cert.Pre_win_finite.fn (F := Ideal) (m ((c.tc : Thread Cert.WinKernelIdeal.nD Cert.WinKernelIdeal.τ).loc Cert.WinKernelIdeal.main_arg0)) (m ((c.tc : Thread Cert.WinKernelIdeal.nD Cert.WinKernelIdeal.τ).loc Cert.WinKernelIdeal.main_arg1))).1 = (fun _ => 1#1)
    ∧ (Cert.Pre_win_finite.fn (F := Ideal) (m ((c.tc : Thread Cert.WinKernelIdeal.nD Cert.WinKernelIdeal.τ).loc Cert.WinKernelIdeal.main_arg0)) (m ((c.tc : Thread Cert.WinKernelIdeal.nD Cert.WinKernelIdeal.τ).loc Cert.WinKernelIdeal.main_arg1))).2 = (fun _ => 1#1)

def Pre_WinRefIdeal (m : (ℓ : Loc Cert.WinRefIdeal.nD Cert.WinRefIdeal.τ Cert.WinRefIdeal.sig) → Buf (Elt Ideal) ℓ) : Prop :=
  True

def Pre_WinRefIdeal_win_finite [hPre_win_finite : Cert.Pre_win_finite.Facts] (m : (ℓ : Loc Cert.WinRefIdeal.nD Cert.WinRefIdeal.τ Cert.WinRefIdeal.sig) → Buf (Elt Ideal) ℓ) : Prop :=
  ∀ c : Dev Cert.WinRefIdeal.nD,
    (Cert.Pre_win_finite.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1))).1 = (fun _ => 1#1)
    ∧ (Cert.Pre_win_finite.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1))).2 = (fun _ => 1#1)

def Pre_OptKernel (m : (ℓ : Loc Cert.OptKernel.nD Cert.OptKernel.τ Cert.OptKernel.sig) → Buf (Elt Bits) ℓ) : Prop :=
  True

def Pre_OptKernelIdeal (m : (ℓ : Loc Cert.OptKernelIdeal.nD Cert.OptKernelIdeal.τ Cert.OptKernelIdeal.sig) → Buf (Elt Ideal) ℓ) : Prop :=
  True

def Pre_OptRefIdeal (m : (ℓ : Loc Cert.OptRefIdeal.nD Cert.OptRefIdeal.τ Cert.OptRefIdeal.sig) → Buf (Elt Ideal) ℓ) : Prop :=
  True

def Pre_TnKernel (m : (ℓ : Loc Cert.TnKernel.nD Cert.TnKernel.τ Cert.TnKernel.sig) → Buf (Elt Bits) ℓ) : Prop :=
  True

def Pre_TnKernelIdeal (m : (ℓ : Loc Cert.TnKernelIdeal.nD Cert.TnKernelIdeal.τ Cert.TnKernelIdeal.sig) → Buf (Elt Ideal) ℓ) : Prop :=
  True

def Pre_TnRefIdeal (m : (ℓ : Loc Cert.TnRefIdeal.nD Cert.TnRefIdeal.τ Cert.TnRefIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_MlaKernel [hMlaKernel : Cert.MlaKernel.Facts] : Prop :=
  ∀ (m : (ℓ : Loc Cert.MlaKernel.nD Cert.MlaKernel.τ Cert.MlaKernel.sig) → Buf (Elt Bits) ℓ) (g : Dev Cert.MlaKernel.nD → PrngReg), Pre_MlaKernel m →
    θ_run (Cert.MlaKernel.defs (F := Bits)) (onTc (τ := Cert.MlaKernel.τ) (Cert.MlaKernel.main (F := Bits))) ⟨m, fun _ => 0, g⟩ (fun r => (∀ c : Dev Cert.MlaKernel.nD,
      r.2.mem ((c.tc : Thread Cert.MlaKernel.nD Cert.MlaKernel.τ).loc Cert.MlaKernel.main_arg0) = m ((c.tc : Thread Cert.MlaKernel.nD Cert.MlaKernel.τ).loc Cert.MlaKernel.main_arg0)
      ∧ r.2.mem ((c.tc : Thread Cert.MlaKernel.nD Cert.MlaKernel.τ).loc Cert.MlaKernel.main_arg1) = m ((c.tc : Thread Cert.MlaKernel.nD Cert.MlaKernel.τ).loc Cert.MlaKernel.main_arg1)
      ∧ r.2.mem ((c.tc : Thread Cert.MlaKernel.nD Cert.MlaKernel.τ).loc Cert.MlaKernel.main_arg2) = m ((c.tc : Thread Cert.MlaKernel.nD Cert.MlaKernel.τ).loc Cert.MlaKernel.main_arg2)
      ∧ r.2.mem ((c.tc : Thread Cert.MlaKernel.nD Cert.MlaKernel.τ).loc Cert.MlaKernel.main_arg3) = m ((c.tc : Thread Cert.MlaKernel.nD Cert.MlaKernel.τ).loc Cert.MlaKernel.main_arg3)
      ∧ r.2.mem ((c.tc : Thread Cert.MlaKernel.nD Cert.MlaKernel.τ).loc Cert.MlaKernel.main_arg4) = m ((c.tc : Thread Cert.MlaKernel.nD Cert.MlaKernel.τ).loc Cert.MlaKernel.main_arg4)
      ∧ r.2.mem ((c.tc : Thread Cert.MlaKernel.nD Cert.MlaKernel.τ).loc Cert.MlaKernel.main_arg5) = m ((c.tc : Thread Cert.MlaKernel.nD Cert.MlaKernel.τ).loc Cert.MlaKernel.main_arg5))
      ∧ r.2.sem = fun _ => 0)

def quiescent_MlaKernelIdeal [hMlaKernelIdeal : Cert.MlaKernelIdeal.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
      ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
      ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5))
      ∧ r.2.sem = fun _ => 0)

def quiescent_MlaKernelIdeal_pre_mla_finite [hMlaKernelIdeal : Cert.MlaKernelIdeal.Facts] [hPre_mla_finite : Cert.Pre_mla_finite.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal_mla_finite m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
      ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
      ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5))
      ∧ r.2.sem = fun _ => 0)

def quiescent_InpKernel [hInpKernel : Cert.InpKernel.Facts] : Prop :=
  ∀ (m : (ℓ : Loc Cert.InpKernel.nD Cert.InpKernel.τ Cert.InpKernel.sig) → Buf (Elt Bits) ℓ) (g : Dev Cert.InpKernel.nD → PrngReg), Pre_InpKernel m →
    θ_run (Cert.InpKernel.defs (F := Bits)) (onTc (τ := Cert.InpKernel.τ) (Cert.InpKernel.main (F := Bits))) ⟨m, fun _ => 0, g⟩ (fun r => (∀ c : Dev Cert.InpKernel.nD,
      r.2.mem ((c.tc : Thread Cert.InpKernel.nD Cert.InpKernel.τ).loc Cert.InpKernel.main_arg0) = m ((c.tc : Thread Cert.InpKernel.nD Cert.InpKernel.τ).loc Cert.InpKernel.main_arg0)
      ∧ r.2.mem ((c.tc : Thread Cert.InpKernel.nD Cert.InpKernel.τ).loc Cert.InpKernel.main_arg1) = m ((c.tc : Thread Cert.InpKernel.nD Cert.InpKernel.τ).loc Cert.InpKernel.main_arg1)
      ∧ r.2.mem ((c.tc : Thread Cert.InpKernel.nD Cert.InpKernel.τ).loc Cert.InpKernel.main_arg2) = m ((c.tc : Thread Cert.InpKernel.nD Cert.InpKernel.τ).loc Cert.InpKernel.main_arg2)
      ∧ r.2.mem ((c.tc : Thread Cert.InpKernel.nD Cert.InpKernel.τ).loc Cert.InpKernel.main_arg3) = m ((c.tc : Thread Cert.InpKernel.nD Cert.InpKernel.τ).loc Cert.InpKernel.main_arg3)
      ∧ r.2.mem ((c.tc : Thread Cert.InpKernel.nD Cert.InpKernel.τ).loc Cert.InpKernel.main_arg4) = m ((c.tc : Thread Cert.InpKernel.nD Cert.InpKernel.τ).loc Cert.InpKernel.main_arg4))
      ∧ r.2.sem = fun _ => 0)

def quiescent_InpKernelIdeal [hInpKernelIdeal : Cert.InpKernelIdeal.Facts] : Prop :=
  ∀ (m : (ℓ : Loc Cert.InpKernelIdeal.nD Cert.InpKernelIdeal.τ Cert.InpKernelIdeal.sig) → Buf (Elt Ideal) ℓ) (g : Dev Cert.InpKernelIdeal.nD → PrngReg), Pre_InpKernelIdeal m →
    θ_run (Cert.InpKernelIdeal.defs (F := Ideal)) (onTc (τ := Cert.InpKernelIdeal.τ) (Cert.InpKernelIdeal.main (F := Ideal))) ⟨m, fun _ => 0, g⟩ (fun r => (∀ c : Dev Cert.InpKernelIdeal.nD,
      r.2.mem ((c.tc : Thread Cert.InpKernelIdeal.nD Cert.InpKernelIdeal.τ).loc Cert.InpKernelIdeal.main_arg0) = m ((c.tc : Thread Cert.InpKernelIdeal.nD Cert.InpKernelIdeal.τ).loc Cert.InpKernelIdeal.main_arg0)
      ∧ r.2.mem ((c.tc : Thread Cert.InpKernelIdeal.nD Cert.InpKernelIdeal.τ).loc Cert.InpKernelIdeal.main_arg1) = m ((c.tc : Thread Cert.InpKernelIdeal.nD Cert.InpKernelIdeal.τ).loc Cert.InpKernelIdeal.main_arg1)
      ∧ r.2.mem ((c.tc : Thread Cert.InpKernelIdeal.nD Cert.InpKernelIdeal.τ).loc Cert.InpKernelIdeal.main_arg2) = m ((c.tc : Thread Cert.InpKernelIdeal.nD Cert.InpKernelIdeal.τ).loc Cert.InpKernelIdeal.main_arg2)
      ∧ r.2.mem ((c.tc : Thread Cert.InpKernelIdeal.nD Cert.InpKernelIdeal.τ).loc Cert.InpKernelIdeal.main_arg3) = m ((c.tc : Thread Cert.InpKernelIdeal.nD Cert.InpKernelIdeal.τ).loc Cert.InpKernelIdeal.main_arg3)
      ∧ r.2.mem ((c.tc : Thread Cert.InpKernelIdeal.nD Cert.InpKernelIdeal.τ).loc Cert.InpKernelIdeal.main_arg4) = m ((c.tc : Thread Cert.InpKernelIdeal.nD Cert.InpKernelIdeal.τ).loc Cert.InpKernelIdeal.main_arg4))
      ∧ r.2.sem = fun _ => 0)

def quiescent_InpKernelIdeal_pre_inp_finite [hInpKernelIdeal : Cert.InpKernelIdeal.Facts] [hPre_inp_finite : Cert.Pre_inp_finite.Facts] : Prop :=
  ∀ (m : (ℓ : Loc Cert.InpKernelIdeal.nD Cert.InpKernelIdeal.τ Cert.InpKernelIdeal.sig) → Buf (Elt Ideal) ℓ) (g : Dev Cert.InpKernelIdeal.nD → PrngReg), Pre_InpKernelIdeal_inp_finite m →
    θ_run (Cert.InpKernelIdeal.defs (F := Ideal)) (onTc (τ := Cert.InpKernelIdeal.τ) (Cert.InpKernelIdeal.main (F := Ideal))) ⟨m, fun _ => 0, g⟩ (fun r => (∀ c : Dev Cert.InpKernelIdeal.nD,
      r.2.mem ((c.tc : Thread Cert.InpKernelIdeal.nD Cert.InpKernelIdeal.τ).loc Cert.InpKernelIdeal.main_arg0) = m ((c.tc : Thread Cert.InpKernelIdeal.nD Cert.InpKernelIdeal.τ).loc Cert.InpKernelIdeal.main_arg0)
      ∧ r.2.mem ((c.tc : Thread Cert.InpKernelIdeal.nD Cert.InpKernelIdeal.τ).loc Cert.InpKernelIdeal.main_arg1) = m ((c.tc : Thread Cert.InpKernelIdeal.nD Cert.InpKernelIdeal.τ).loc Cert.InpKernelIdeal.main_arg1)
      ∧ r.2.mem ((c.tc : Thread Cert.InpKernelIdeal.nD Cert.InpKernelIdeal.τ).loc Cert.InpKernelIdeal.main_arg2) = m ((c.tc : Thread Cert.InpKernelIdeal.nD Cert.InpKernelIdeal.τ).loc Cert.InpKernelIdeal.main_arg2)
      ∧ r.2.mem ((c.tc : Thread Cert.InpKernelIdeal.nD Cert.InpKernelIdeal.τ).loc Cert.InpKernelIdeal.main_arg3) = m ((c.tc : Thread Cert.InpKernelIdeal.nD Cert.InpKernelIdeal.τ).loc Cert.InpKernelIdeal.main_arg3)
      ∧ r.2.mem ((c.tc : Thread Cert.InpKernelIdeal.nD Cert.InpKernelIdeal.τ).loc Cert.InpKernelIdeal.main_arg4) = m ((c.tc : Thread Cert.InpKernelIdeal.nD Cert.InpKernelIdeal.τ).loc Cert.InpKernelIdeal.main_arg4))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4))
      ∧ r.2.sem = fun _ => 0)

def quiescent_InpRefIdeal_pre_inp_finite [hInpRefIdeal : Cert.InpRefIdeal.Facts] [hPre_inp_finite : Cert.Pre_inp_finite.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal_inp_finite m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3)
      ∧ r.2.mem ((c.tc : Thread Cert.GateKernel.nD Cert.GateKernel.τ).loc Cert.GateKernel.main_arg4) = m ((c.tc : Thread Cert.GateKernel.nD Cert.GateKernel.τ).loc Cert.GateKernel.main_arg4))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ r.2.sem = fun _ => 0)

def quiescent_GateKernelIdeal_pre_gate_finite [hGateKernelIdeal : Cert.GateKernelIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_gate_finite m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2)
      ∧ r.2.mem ((c.tc : Thread Cert.FwdKernel.nD Cert.FwdKernel.τ).loc Cert.FwdKernel.main_arg3) = m ((c.tc : Thread Cert.FwdKernel.nD Cert.FwdKernel.τ).loc Cert.FwdKernel.main_arg3)
      ∧ r.2.mem ((c.tc : Thread Cert.FwdKernel.nD Cert.FwdKernel.τ).loc Cert.FwdKernel.main_arg4) = m ((c.tc : Thread Cert.FwdKernel.nD Cert.FwdKernel.τ).loc Cert.FwdKernel.main_arg4))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
      ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4))
      ∧ r.2.sem = fun _ => 0)

def quiescent_FwdKernelIdeal_pre_fwd_finite [hFwdKernelIdeal : Cert.FwdKernelIdeal.Facts] [hPre_fwd_finite : Cert.Pre_fwd_finite.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal_fwd_finite m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
      ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4))
      ∧ r.2.sem = fun _ => 0)

def quiescent_FwdRefIdeal_pre_fwd_finite [hFwdRefIdeal : Cert.FwdRefIdeal.Facts] [hPre_fwd_finite : Cert.Pre_fwd_finite.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_fwd_finite m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_LatKernel [hLatKernel : Cert.LatKernel.Facts] : Prop :=
  ∀ (m : (ℓ : Loc Cert.LatKernel.nD Cert.LatKernel.τ Cert.LatKernel.sig) → Buf (Elt Bits) ℓ) (g : Dev Cert.LatKernel.nD → PrngReg), Pre_LatKernel m →
    θ_run (Cert.LatKernel.defs (F := Bits)) (onTc (τ := Cert.LatKernel.τ) (Cert.LatKernel.main (F := Bits))) ⟨m, fun _ => 0, g⟩ (fun r => (∀ c : Dev Cert.LatKernel.nD,
      r.2.mem ((c.tc : Thread Cert.LatKernel.nD Cert.LatKernel.τ).loc Cert.LatKernel.main_arg0) = m ((c.tc : Thread Cert.LatKernel.nD Cert.LatKernel.τ).loc Cert.LatKernel.main_arg0)
      ∧ r.2.mem ((c.tc : Thread Cert.LatKernel.nD Cert.LatKernel.τ).loc Cert.LatKernel.main_arg1) = m ((c.tc : Thread Cert.LatKernel.nD Cert.LatKernel.τ).loc Cert.LatKernel.main_arg1)
      ∧ r.2.mem ((c.tc : Thread Cert.LatKernel.nD Cert.LatKernel.τ).loc Cert.LatKernel.main_arg2) = m ((c.tc : Thread Cert.LatKernel.nD Cert.LatKernel.τ).loc Cert.LatKernel.main_arg2)
      ∧ r.2.mem ((c.tc : Thread Cert.LatKernel.nD Cert.LatKernel.τ).loc Cert.LatKernel.main_arg3) = m ((c.tc : Thread Cert.LatKernel.nD Cert.LatKernel.τ).loc Cert.LatKernel.main_arg3)
      ∧ r.2.mem ((c.tc : Thread Cert.LatKernel.nD Cert.LatKernel.τ).loc Cert.LatKernel.main_arg4) = m ((c.tc : Thread Cert.LatKernel.nD Cert.LatKernel.τ).loc Cert.LatKernel.main_arg4))
      ∧ r.2.sem = fun _ => 0)

def quiescent_LatKernelIdeal [hLatKernelIdeal : Cert.LatKernelIdeal.Facts] : Prop :=
  ∀ (m : (ℓ : Loc Cert.LatKernelIdeal.nD Cert.LatKernelIdeal.τ Cert.LatKernelIdeal.sig) → Buf (Elt Ideal) ℓ) (g : Dev Cert.LatKernelIdeal.nD → PrngReg), Pre_LatKernelIdeal m →
    θ_run (Cert.LatKernelIdeal.defs (F := Ideal)) (onTc (τ := Cert.LatKernelIdeal.τ) (Cert.LatKernelIdeal.main (F := Ideal))) ⟨m, fun _ => 0, g⟩ (fun r => (∀ c : Dev Cert.LatKernelIdeal.nD,
      r.2.mem ((c.tc : Thread Cert.LatKernelIdeal.nD Cert.LatKernelIdeal.τ).loc Cert.LatKernelIdeal.main_arg0) = m ((c.tc : Thread Cert.LatKernelIdeal.nD Cert.LatKernelIdeal.τ).loc Cert.LatKernelIdeal.main_arg0)
      ∧ r.2.mem ((c.tc : Thread Cert.LatKernelIdeal.nD Cert.LatKernelIdeal.τ).loc Cert.LatKernelIdeal.main_arg1) = m ((c.tc : Thread Cert.LatKernelIdeal.nD Cert.LatKernelIdeal.τ).loc Cert.LatKernelIdeal.main_arg1)
      ∧ r.2.mem ((c.tc : Thread Cert.LatKernelIdeal.nD Cert.LatKernelIdeal.τ).loc Cert.LatKernelIdeal.main_arg2) = m ((c.tc : Thread Cert.LatKernelIdeal.nD Cert.LatKernelIdeal.τ).loc Cert.LatKernelIdeal.main_arg2)
      ∧ r.2.mem ((c.tc : Thread Cert.LatKernelIdeal.nD Cert.LatKernelIdeal.τ).loc Cert.LatKernelIdeal.main_arg3) = m ((c.tc : Thread Cert.LatKernelIdeal.nD Cert.LatKernelIdeal.τ).loc Cert.LatKernelIdeal.main_arg3)
      ∧ r.2.mem ((c.tc : Thread Cert.LatKernelIdeal.nD Cert.LatKernelIdeal.τ).loc Cert.LatKernelIdeal.main_arg4) = m ((c.tc : Thread Cert.LatKernelIdeal.nD Cert.LatKernelIdeal.τ).loc Cert.LatKernelIdeal.main_arg4))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4))
      ∧ r.2.sem = fun _ => 0)

def quiescent_WinKernel [hWinKernel : Cert.WinKernel.Facts] : Prop :=
  ∀ (m : (ℓ : Loc Cert.WinKernel.nD Cert.WinKernel.τ Cert.WinKernel.sig) → Buf (Elt Bits) ℓ) (g : Dev Cert.WinKernel.nD → PrngReg), Pre_WinKernel m →
    θ_run (Cert.WinKernel.defs (F := Bits)) (onTc (τ := Cert.WinKernel.τ) (Cert.WinKernel.main (F := Bits))) ⟨m, fun _ => 0, g⟩ (fun r => (∀ c : Dev Cert.WinKernel.nD,
      r.2.mem ((c.tc : Thread Cert.WinKernel.nD Cert.WinKernel.τ).loc Cert.WinKernel.main_arg0) = m ((c.tc : Thread Cert.WinKernel.nD Cert.WinKernel.τ).loc Cert.WinKernel.main_arg0)
      ∧ r.2.mem ((c.tc : Thread Cert.WinKernel.nD Cert.WinKernel.τ).loc Cert.WinKernel.main_arg1) = m ((c.tc : Thread Cert.WinKernel.nD Cert.WinKernel.τ).loc Cert.WinKernel.main_arg1))
      ∧ r.2.sem = fun _ => 0)

def quiescent_WinKernelIdeal [hWinKernelIdeal : Cert.WinKernelIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg), Pre_WinKernelIdeal m →
    θ_run (Cert.WinKernelIdeal.defs (F := Ideal)) (onTc (τ := Cert.WinKernelIdeal.τ) (Cert.WinKernelIdeal.main (F := Ideal))) ⟨m, fun _ => 0, g⟩ (fun r => (∀ c : Dev Cert.WinKernelIdeal.nD,
      r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
      ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1))
      ∧ r.2.sem = fun _ => 0)

def quiescent_WinKernelIdeal_pre_win_finite [hWinKernelIdeal : Cert.WinKernelIdeal.Facts] [hPre_win_finite : Cert.Pre_win_finite.Facts] : Prop :=
  ∀ (m : (ℓ : Loc Cert.WinKernelIdeal.nD Cert.WinKernelIdeal.τ Cert.WinKernelIdeal.sig) → Buf (Elt Ideal) ℓ) (g : Dev Cert.WinKernelIdeal.nD → PrngReg), Pre_WinKernelIdeal_win_finite m →
    θ_run (Cert.WinKernelIdeal.defs (F := Ideal)) (onTc (τ := Cert.WinKernelIdeal.τ) (Cert.WinKernelIdeal.main (F := Ideal))) ⟨m, fun _ => 0, g⟩ (fun r => (∀ c : Dev Cert.WinKernelIdeal.nD,
      r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
      ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_WinRefIdeal_pre_win_finite [hWinRefIdeal : Cert.WinRefIdeal.Facts] [hPre_win_finite : Cert.Pre_win_finite.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal_win_finite m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_OptKernel [hOptKernel : Cert.OptKernel.Facts] : Prop :=
  ∀ (m : (ℓ : Loc Cert.OptKernel.nD Cert.OptKernel.τ Cert.OptKernel.sig) → Buf (Elt Bits) ℓ) (g : Dev Cert.OptKernel.nD → PrngReg), Pre_OptKernel m →
    θ_run (Cert.OptKernel.defs (F := Bits)) (onTc (τ := Cert.OptKernel.τ) (Cert.OptKernel.main (F := Bits))) ⟨m, fun _ => 0, g⟩ (fun r => (∀ c : Dev Cert.OptKernel.nD,
      r.2.mem ((c.tc : Thread Cert.OptKernel.nD Cert.OptKernel.τ).loc Cert.OptKernel.main_arg0) = m ((c.tc : Thread Cert.OptKernel.nD Cert.OptKernel.τ).loc Cert.OptKernel.main_arg0)
      ∧ r.2.mem ((c.tc : Thread Cert.OptKernel.nD Cert.OptKernel.τ).loc Cert.OptKernel.main_arg1) = m ((c.tc : Thread Cert.OptKernel.nD Cert.OptKernel.τ).loc Cert.OptKernel.main_arg1)
      ∧ r.2.mem ((c.tc : Thread Cert.OptKernel.nD Cert.OptKernel.τ).loc Cert.OptKernel.main_arg2) = m ((c.tc : Thread Cert.OptKernel.nD Cert.OptKernel.τ).loc Cert.OptKernel.main_arg2)
      ∧ r.2.mem ((c.tc : Thread Cert.OptKernel.nD Cert.OptKernel.τ).loc Cert.OptKernel.main_arg3) = m ((c.tc : Thread Cert.OptKernel.nD Cert.OptKernel.τ).loc Cert.OptKernel.main_arg3)
      ∧ r.2.mem ((c.tc : Thread Cert.OptKernel.nD Cert.OptKernel.τ).loc Cert.OptKernel.main_arg4) = m ((c.tc : Thread Cert.OptKernel.nD Cert.OptKernel.τ).loc Cert.OptKernel.main_arg4)
      ∧ r.2.mem ((c.tc : Thread Cert.OptKernel.nD Cert.OptKernel.τ).loc Cert.OptKernel.main_arg5) = m ((c.tc : Thread Cert.OptKernel.nD Cert.OptKernel.τ).loc Cert.OptKernel.main_arg5)
      ∧ r.2.mem ((c.tc : Thread Cert.OptKernel.nD Cert.OptKernel.τ).loc Cert.OptKernel.main_arg6) = m ((c.tc : Thread Cert.OptKernel.nD Cert.OptKernel.τ).loc Cert.OptKernel.main_arg6))
      ∧ r.2.sem = fun _ => 0)

def quiescent_OptKernelIdeal [hOptKernelIdeal : Cert.OptKernelIdeal.Facts] : Prop :=
  ∀ (m : (ℓ : Loc Cert.OptKernelIdeal.nD Cert.OptKernelIdeal.τ Cert.OptKernelIdeal.sig) → Buf (Elt Ideal) ℓ) (g : Dev Cert.OptKernelIdeal.nD → PrngReg), Pre_OptKernelIdeal m →
    θ_run (Cert.OptKernelIdeal.defs (F := Ideal)) (onTc (τ := Cert.OptKernelIdeal.τ) (Cert.OptKernelIdeal.main (F := Ideal))) ⟨m, fun _ => 0, g⟩ (fun r => (∀ c : Dev Cert.OptKernelIdeal.nD,
      r.2.mem ((c.tc : Thread Cert.OptKernelIdeal.nD Cert.OptKernelIdeal.τ).loc Cert.OptKernelIdeal.main_arg0) = m ((c.tc : Thread Cert.OptKernelIdeal.nD Cert.OptKernelIdeal.τ).loc Cert.OptKernelIdeal.main_arg0)
      ∧ r.2.mem ((c.tc : Thread Cert.OptKernelIdeal.nD Cert.OptKernelIdeal.τ).loc Cert.OptKernelIdeal.main_arg1) = m ((c.tc : Thread Cert.OptKernelIdeal.nD Cert.OptKernelIdeal.τ).loc Cert.OptKernelIdeal.main_arg1)
      ∧ r.2.mem ((c.tc : Thread Cert.OptKernelIdeal.nD Cert.OptKernelIdeal.τ).loc Cert.OptKernelIdeal.main_arg2) = m ((c.tc : Thread Cert.OptKernelIdeal.nD Cert.OptKernelIdeal.τ).loc Cert.OptKernelIdeal.main_arg2)
      ∧ r.2.mem ((c.tc : Thread Cert.OptKernelIdeal.nD Cert.OptKernelIdeal.τ).loc Cert.OptKernelIdeal.main_arg3) = m ((c.tc : Thread Cert.OptKernelIdeal.nD Cert.OptKernelIdeal.τ).loc Cert.OptKernelIdeal.main_arg3)
      ∧ r.2.mem ((c.tc : Thread Cert.OptKernelIdeal.nD Cert.OptKernelIdeal.τ).loc Cert.OptKernelIdeal.main_arg4) = m ((c.tc : Thread Cert.OptKernelIdeal.nD Cert.OptKernelIdeal.τ).loc Cert.OptKernelIdeal.main_arg4)
      ∧ r.2.mem ((c.tc : Thread Cert.OptKernelIdeal.nD Cert.OptKernelIdeal.τ).loc Cert.OptKernelIdeal.main_arg5) = m ((c.tc : Thread Cert.OptKernelIdeal.nD Cert.OptKernelIdeal.τ).loc Cert.OptKernelIdeal.main_arg5)
      ∧ r.2.mem ((c.tc : Thread Cert.OptKernelIdeal.nD Cert.OptKernelIdeal.τ).loc Cert.OptKernelIdeal.main_arg6) = m ((c.tc : Thread Cert.OptKernelIdeal.nD Cert.OptKernelIdeal.τ).loc Cert.OptKernelIdeal.main_arg6))
      ∧ r.2.sem = fun _ => 0)

def quiescent_OptRefIdeal [hOptRefIdeal : Cert.OptRefIdeal.Facts] : Prop :=
  ∀ (m : (ℓ : Loc Cert.OptRefIdeal.nD Cert.OptRefIdeal.τ Cert.OptRefIdeal.sig) → Buf (Elt Ideal) ℓ) (g : Dev Cert.OptRefIdeal.nD → PrngReg), Pre_OptRefIdeal m →
    θ_run (Cert.OptRefIdeal.defs (F := Ideal)) (onTc (τ := Cert.OptRefIdeal.τ) (Cert.OptRefIdeal.main (F := Ideal))) ⟨m, fun _ => 0, g⟩ (fun r => (∀ c : Dev Cert.OptRefIdeal.nD,
      r.2.mem ((c.tc : Thread Cert.OptRefIdeal.nD Cert.OptRefIdeal.τ).loc Cert.OptRefIdeal.main_arg0) = m ((c.tc : Thread Cert.OptRefIdeal.nD Cert.OptRefIdeal.τ).loc Cert.OptRefIdeal.main_arg0)
      ∧ r.2.mem ((c.tc : Thread Cert.OptRefIdeal.nD Cert.OptRefIdeal.τ).loc Cert.OptRefIdeal.main_arg1) = m ((c.tc : Thread Cert.OptRefIdeal.nD Cert.OptRefIdeal.τ).loc Cert.OptRefIdeal.main_arg1)
      ∧ r.2.mem ((c.tc : Thread Cert.OptRefIdeal.nD Cert.OptRefIdeal.τ).loc Cert.OptRefIdeal.main_arg2) = m ((c.tc : Thread Cert.OptRefIdeal.nD Cert.OptRefIdeal.τ).loc Cert.OptRefIdeal.main_arg2)
      ∧ r.2.mem ((c.tc : Thread Cert.OptRefIdeal.nD Cert.OptRefIdeal.τ).loc Cert.OptRefIdeal.main_arg3) = m ((c.tc : Thread Cert.OptRefIdeal.nD Cert.OptRefIdeal.τ).loc Cert.OptRefIdeal.main_arg3)
      ∧ r.2.mem ((c.tc : Thread Cert.OptRefIdeal.nD Cert.OptRefIdeal.τ).loc Cert.OptRefIdeal.main_arg4) = m ((c.tc : Thread Cert.OptRefIdeal.nD Cert.OptRefIdeal.τ).loc Cert.OptRefIdeal.main_arg4)
      ∧ r.2.mem ((c.tc : Thread Cert.OptRefIdeal.nD Cert.OptRefIdeal.τ).loc Cert.OptRefIdeal.main_arg5) = m ((c.tc : Thread Cert.OptRefIdeal.nD Cert.OptRefIdeal.τ).loc Cert.OptRefIdeal.main_arg5)
      ∧ r.2.mem ((c.tc : Thread Cert.OptRefIdeal.nD Cert.OptRefIdeal.τ).loc Cert.OptRefIdeal.main_arg6) = m ((c.tc : Thread Cert.OptRefIdeal.nD Cert.OptRefIdeal.τ).loc Cert.OptRefIdeal.main_arg6))
      ∧ r.2.sem = fun _ => 0)

def quiescent_TnKernel [hTnKernel : Cert.TnKernel.Facts] : Prop :=
  ∀ (m : (ℓ : Loc Cert.TnKernel.nD Cert.TnKernel.τ Cert.TnKernel.sig) → Buf (Elt Bits) ℓ) (g : Dev Cert.TnKernel.nD → PrngReg), Pre_TnKernel m →
    θ_run (Cert.TnKernel.defs (F := Bits)) (onTc (τ := Cert.TnKernel.τ) (Cert.TnKernel.main (F := Bits))) ⟨m, fun _ => 0, g⟩ (fun r => (∀ c : Dev Cert.TnKernel.nD,
      r.2.mem ((c.tc : Thread Cert.TnKernel.nD Cert.TnKernel.τ).loc Cert.TnKernel.main_arg0) = m ((c.tc : Thread Cert.TnKernel.nD Cert.TnKernel.τ).loc Cert.TnKernel.main_arg0)
      ∧ r.2.mem ((c.tc : Thread Cert.TnKernel.nD Cert.TnKernel.τ).loc Cert.TnKernel.main_arg1) = m ((c.tc : Thread Cert.TnKernel.nD Cert.TnKernel.τ).loc Cert.TnKernel.main_arg1))
      ∧ r.2.sem = fun _ => 0)

def quiescent_TnKernelIdeal [hTnKernelIdeal : Cert.TnKernelIdeal.Facts] : Prop :=
  ∀ (m : (ℓ : Loc Cert.TnKernelIdeal.nD Cert.TnKernelIdeal.τ Cert.TnKernelIdeal.sig) → Buf (Elt Ideal) ℓ) (g : Dev Cert.TnKernelIdeal.nD → PrngReg), Pre_TnKernelIdeal m →
    θ_run (Cert.TnKernelIdeal.defs (F := Ideal)) (onTc (τ := Cert.TnKernelIdeal.τ) (Cert.TnKernelIdeal.main (F := Ideal))) ⟨m, fun _ => 0, g⟩ (fun r => (∀ c : Dev Cert.TnKernelIdeal.nD,
      r.2.mem ((c.tc : Thread Cert.TnKernelIdeal.nD Cert.TnKernelIdeal.τ).loc Cert.TnKernelIdeal.main_arg0) = m ((c.tc : Thread Cert.TnKernelIdeal.nD Cert.TnKernelIdeal.τ).loc Cert.TnKernelIdeal.main_arg0)
      ∧ r.2.mem ((c.tc : Thread Cert.TnKernelIdeal.nD Cert.TnKernelIdeal.τ).loc Cert.TnKernelIdeal.main_arg1) = m ((c.tc : Thread Cert.TnKernelIdeal.nD Cert.TnKernelIdeal.τ).loc Cert.TnKernelIdeal.main_arg1))
      ∧ r.2.sem = fun _ => 0)

def quiescent_TnRefIdeal [hTnRefIdeal : Cert.TnRefIdeal.Facts] : Prop :=
  ∀ (m : (ℓ : Loc Cert.TnRefIdeal.nD Cert.TnRefIdeal.τ Cert.TnRefIdeal.sig) → Buf (Elt Ideal) ℓ) (g : Dev Cert.TnRefIdeal.nD → PrngReg), Pre_TnRefIdeal m →
    θ_run (Cert.TnRefIdeal.defs (F := Ideal)) (onTc (τ := Cert.TnRefIdeal.τ) (Cert.TnRefIdeal.main (F := Ideal))) ⟨m, fun _ => 0, g⟩ (fun r => (∀ c : Dev Cert.TnRefIdeal.nD,
      r.2.mem ((c.tc : Thread Cert.TnRefIdeal.nD Cert.TnRefIdeal.τ).loc Cert.TnRefIdeal.main_arg0) = m ((c.tc : Thread Cert.TnRefIdeal.nD Cert.TnRefIdeal.τ).loc Cert.TnRefIdeal.main_arg0)
      ∧ r.2.mem ((c.tc : Thread Cert.TnRefIdeal.nD Cert.TnRefIdeal.τ).loc Cert.TnRefIdeal.main_arg1) = m ((c.tc : Thread Cert.TnRefIdeal.nD Cert.TnRefIdeal.τ).loc Cert.TnRefIdeal.main_arg1))
      ∧ r.2.sem = fun _ => 0)

def preserves_LossKernel_LossKernelIdeal : Prop :=
  True

def algebraic_LossKernelIdeal_LossRefIdeal_pre_loss_finite [hLossKernelIdeal : Cert.LossKernelIdeal.Facts] [hLossRefIdeal : Cert.LossRefIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossKernelIdeal_loss_finite m →
    (∀ c : Dev Cert.LossKernelIdeal.nD,
      m' ((c.tc : Thread Cert.LossRefIdeal.nD Cert.LossRefIdeal.τ).loc Cert.LossRefIdeal.main_arg0) = m ((c.tc : Thread Cert.LossKernelIdeal.nD Cert.LossKernelIdeal.τ).loc Cert.LossKernelIdeal.main_arg0)
      ∧ m' ((c.tc : Thread Cert.LossRefIdeal.nD Cert.LossRefIdeal.τ).loc Cert.LossRefIdeal.main_arg1) = m ((c.tc : Thread Cert.LossKernelIdeal.nD Cert.LossKernelIdeal.τ).loc Cert.LossKernelIdeal.main_arg1)
      ∧ m' ((c.tc : Thread Cert.LossRefIdeal.nD Cert.LossRefIdeal.τ).loc Cert.LossRefIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v1_0)) (v1 : (c : Dev Cert.LossKernelIdeal.nD) → Buf (Elt Ideal) ((c.tc : Thread Cert.LossKernelIdeal.nD Cert.LossKernelIdeal.τ).loc Cert.LossKernelIdeal.main_v1_1)) (v2 : (c : Dev Cert.LossKernelIdeal.nD) → Buf (Elt Ideal) ((c.tc : Thread Cert.LossKernelIdeal.nD Cert.LossKernelIdeal.τ).loc Cert.LossKernelIdeal.main_v1_2)) (v3 : (c : Dev Cert.LossKernelIdeal.nD) → Buf (Elt Ideal) ((c.tc : Thread Cert.LossKernelIdeal.nD Cert.LossKernelIdeal.τ).loc Cert.LossKernelIdeal.main_v1_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v1_0) = v0 c
          ∧ r.2.mem ((c.tc : Thread Cert.LossKernelIdeal.nD Cert.LossKernelIdeal.τ).loc Cert.LossKernelIdeal.main_v1_1) = v1 c
          ∧ r.2.mem ((c.tc : Thread Cert.LossKernelIdeal.nD Cert.LossKernelIdeal.τ).loc Cert.LossKernelIdeal.main_v1_2) = v2 c
          ∧ r.2.mem ((c.tc : Thread Cert.LossKernelIdeal.nD Cert.LossKernelIdeal.τ).loc Cert.LossKernelIdeal.main_v1_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_v53) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_MlaKernel_MlaKernelIdeal : Prop :=
  IdealRules.named_const.Statement Cert.MlaKernelIdeal.κ "mask" .f32 0xF149F2CA#32 ⊥
  ∧ IdealRules.named_const.Statement Cert.MlaKernelIdeal.κ "scale2" .f32 0x3DD53B95#32 (((Real.sqrt 192)⁻¹ * (Real.log 2)⁻¹ : ℝ) : EReal)
  ∧ IdealRules.named_const.Statement Cert.MlaKernelIdeal.κ "scale" .f32 0x3D93CD3A#32 (((Real.sqrt 192)⁻¹ : ℝ) : EReal)

def algebraic_MlaKernelIdeal_MlaRefIdeal_pre_mla_finite [hMlaKernelIdeal : Cert.MlaKernelIdeal.Facts] [hMlaRefIdeal : Cert.MlaRefIdeal.Facts] [hPre_mla_finite : Cert.Pre_mla_finite.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaKernelIdeal_mla_finite m →
    (∀ c : Dev Cert.MlaKernelIdeal.nD,
      m' ((c.tc : Thread Cert.MlaRefIdeal.nD Cert.MlaRefIdeal.τ).loc Cert.MlaRefIdeal.main_arg0) = m ((c.tc : Thread Cert.MlaKernelIdeal.nD Cert.MlaKernelIdeal.τ).loc Cert.MlaKernelIdeal.main_arg0)
      ∧ m' ((c.tc : Thread Cert.MlaRefIdeal.nD Cert.MlaRefIdeal.τ).loc Cert.MlaRefIdeal.main_arg1) = m ((c.tc : Thread Cert.MlaKernelIdeal.nD Cert.MlaKernelIdeal.τ).loc Cert.MlaKernelIdeal.main_arg1)
      ∧ m' ((c.tc : Thread Cert.MlaRefIdeal.nD Cert.MlaRefIdeal.τ).loc Cert.MlaRefIdeal.main_arg2) = m ((c.tc : Thread Cert.MlaKernelIdeal.nD Cert.MlaKernelIdeal.τ).loc Cert.MlaKernelIdeal.main_arg2)
      ∧ m' ((c.tc : Thread Cert.MlaRefIdeal.nD Cert.MlaRefIdeal.τ).loc Cert.MlaRefIdeal.main_arg3) = m ((c.tc : Thread Cert.MlaKernelIdeal.nD Cert.MlaKernelIdeal.τ).loc Cert.MlaKernelIdeal.main_arg3)
      ∧ m' ((c.tc : Thread Cert.MlaRefIdeal.nD Cert.MlaRefIdeal.τ).loc Cert.MlaRefIdeal.main_arg4) = m ((c.tc : Thread Cert.MlaKernelIdeal.nD Cert.MlaKernelIdeal.τ).loc Cert.MlaKernelIdeal.main_arg4)
      ∧ m' ((c.tc : Thread Cert.MlaRefIdeal.nD Cert.MlaRefIdeal.τ).loc Cert.MlaRefIdeal.main_arg5) = m ((c.tc : Thread Cert.MlaKernelIdeal.nD Cert.MlaKernelIdeal.τ).loc Cert.MlaKernelIdeal.main_arg5)) →
    ∃ (v0 : (c : Dev Cert.MlaKernelIdeal.nD) → Buf (Elt Ideal) ((c.tc : Thread Cert.MlaKernelIdeal.nD Cert.MlaKernelIdeal.τ).loc Cert.MlaKernelIdeal.main_v77)) (v1 : (c : Dev Cert.MlaKernelIdeal.nD) → Buf (Elt Ideal) ((c.tc : Thread Cert.MlaKernelIdeal.nD Cert.MlaKernelIdeal.τ).loc Cert.MlaKernelIdeal.main_v79)) (v2 : (c : Dev Cert.MlaKernelIdeal.nD) → Buf (Elt Ideal) ((c.tc : Thread Cert.MlaKernelIdeal.nD Cert.MlaKernelIdeal.τ).loc Cert.MlaKernelIdeal.main_v81)) (v3 : (c : Dev Cert.MlaKernelIdeal.nD) → Buf (Elt Ideal) ((c.tc : Thread Cert.MlaKernelIdeal.nD Cert.MlaKernelIdeal.τ).loc Cert.MlaKernelIdeal.main_v83)) (v4 : (c : Dev Cert.MlaKernelIdeal.nD) → Buf (Elt Ideal) ((c.tc : Thread Cert.MlaKernelIdeal.nD Cert.MlaKernelIdeal.τ).loc Cert.MlaKernelIdeal.main_v84)),
      θ_run (Cert.MlaKernelIdeal.defs (F := Ideal)) (onTc (τ := Cert.MlaKernelIdeal.τ) (Cert.MlaKernelIdeal.main (F := Ideal))) ⟨m, fun _ => 0, g⟩ (fun r => ∀ c : Dev Cert.MlaKernelIdeal.nD,
          r.2.mem ((c.tc : Thread Cert.MlaKernelIdeal.nD Cert.MlaKernelIdeal.τ).loc Cert.MlaKernelIdeal.main_v77) = v0 c
          ∧ r.2.mem ((c.tc : Thread Cert.MlaKernelIdeal.nD Cert.MlaKernelIdeal.τ).loc Cert.MlaKernelIdeal.main_v79) = v1 c
          ∧ r.2.mem ((c.tc : Thread Cert.MlaKernelIdeal.nD Cert.MlaKernelIdeal.τ).loc Cert.MlaKernelIdeal.main_v81) = v2 c
          ∧ r.2.mem ((c.tc : Thread Cert.MlaKernelIdeal.nD Cert.MlaKernelIdeal.τ).loc Cert.MlaKernelIdeal.main_v83) = v3 c
          ∧ r.2.mem ((c.tc : Thread Cert.MlaKernelIdeal.nD Cert.MlaKernelIdeal.τ).loc Cert.MlaKernelIdeal.main_v84) = v4 c
          ∧ r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
          ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
          ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
          ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
          ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
          ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v71) = v0 c
          ∧ r.2.mem ((c.tc : Thread Cert.MlaRefIdeal.nD Cert.MlaRefIdeal.τ).loc Cert.MlaRefIdeal.main_v66) = v1 c
          ∧ r.2.mem ((c.tc : Thread Cert.MlaRefIdeal.nD Cert.MlaRefIdeal.τ).loc Cert.MlaRefIdeal.main_v69) = v2 c
          ∧ r.2.mem ((c.tc : Thread Cert.MlaRefIdeal.nD Cert.MlaRefIdeal.τ).loc Cert.MlaRefIdeal.main_v67) = v3 c
          ∧ r.2.mem ((c.tc : Thread Cert.MlaRefIdeal.nD Cert.MlaRefIdeal.τ).loc Cert.MlaRefIdeal.main_v49) = v4 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5))

def preserves_InpKernel_InpKernelIdeal : Prop :=
  True

def algebraic_InpKernelIdeal_InpRefIdeal_pre_inp_finite [hInpKernelIdeal : Cert.InpKernelIdeal.Facts] [hInpRefIdeal : Cert.InpRefIdeal.Facts] [hPre_inp_finite : Cert.Pre_inp_finite.Facts] : Prop :=
  ∀ (m : (ℓ : Loc Cert.InpKernelIdeal.nD Cert.InpKernelIdeal.τ Cert.InpKernelIdeal.sig) → Buf (Elt Ideal) ℓ) (g : Dev Cert.InpKernelIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpKernelIdeal_inp_finite m →
    (∀ c : Dev Cert.InpKernelIdeal.nD,
      m' ((c.tc : Thread Cert.InpRefIdeal.nD Cert.InpRefIdeal.τ).loc Cert.InpRefIdeal.main_arg0) = m ((c.tc : Thread Cert.InpKernelIdeal.nD Cert.InpKernelIdeal.τ).loc Cert.InpKernelIdeal.main_arg0)
      ∧ m' ((c.tc : Thread Cert.InpRefIdeal.nD Cert.InpRefIdeal.τ).loc Cert.InpRefIdeal.main_arg1) = m ((c.tc : Thread Cert.InpKernelIdeal.nD Cert.InpKernelIdeal.τ).loc Cert.InpKernelIdeal.main_arg1)
      ∧ m' ((c.tc : Thread Cert.InpRefIdeal.nD Cert.InpRefIdeal.τ).loc Cert.InpRefIdeal.main_arg2) = m ((c.tc : Thread Cert.InpKernelIdeal.nD Cert.InpKernelIdeal.τ).loc Cert.InpKernelIdeal.main_arg2)
      ∧ m' ((c.tc : Thread Cert.InpRefIdeal.nD Cert.InpRefIdeal.τ).loc Cert.InpRefIdeal.main_arg3) = m ((c.tc : Thread Cert.InpKernelIdeal.nD Cert.InpKernelIdeal.τ).loc Cert.InpKernelIdeal.main_arg3)
      ∧ m' ((c.tc : Thread Cert.InpRefIdeal.nD Cert.InpRefIdeal.τ).loc Cert.InpRefIdeal.main_arg4) = m ((c.tc : Thread Cert.InpKernelIdeal.nD Cert.InpKernelIdeal.τ).loc Cert.InpKernelIdeal.main_arg4)) →
    ∃ (v0 : (c : Dev Cert.InpKernelIdeal.nD) → Buf (Elt Ideal) ((c.tc : Thread Cert.InpKernelIdeal.nD Cert.InpKernelIdeal.τ).loc Cert.InpKernelIdeal.main_v21_0)) (v1 : (c : Dev Cert.InpKernelIdeal.nD) → Buf (Elt Ideal) ((c.tc : Thread Cert.InpKernelIdeal.nD Cert.InpKernelIdeal.τ).loc Cert.InpKernelIdeal.main_v21_1)) (v2 : (c : Dev Cert.InpKernelIdeal.nD) → Buf (Elt Ideal) ((c.tc : Thread Cert.InpKernelIdeal.nD Cert.InpKernelIdeal.τ).loc Cert.InpKernelIdeal.main_v21_2)),
      θ_run (Cert.InpKernelIdeal.defs (F := Ideal)) (onTc (τ := Cert.InpKernelIdeal.τ) (Cert.InpKernelIdeal.main (F := Ideal))) ⟨m, fun _ => 0, g⟩ (fun r => ∀ c : Dev Cert.InpKernelIdeal.nD,
          r.2.mem ((c.tc : Thread Cert.InpKernelIdeal.nD Cert.InpKernelIdeal.τ).loc Cert.InpKernelIdeal.main_v21_0) = v0 c
          ∧ r.2.mem ((c.tc : Thread Cert.InpKernelIdeal.nD Cert.InpKernelIdeal.τ).loc Cert.InpKernelIdeal.main_v21_1) = v1 c
          ∧ r.2.mem ((c.tc : Thread Cert.InpKernelIdeal.nD Cert.InpKernelIdeal.τ).loc Cert.InpKernelIdeal.main_v21_2) = v2 c
          ∧ r.2.mem ((c.tc : Thread Cert.InpKernelIdeal.nD Cert.InpKernelIdeal.τ).loc Cert.InpKernelIdeal.main_arg0) = m ((c.tc : Thread Cert.InpKernelIdeal.nD Cert.InpKernelIdeal.τ).loc Cert.InpKernelIdeal.main_arg0)
          ∧ r.2.mem ((c.tc : Thread Cert.InpKernelIdeal.nD Cert.InpKernelIdeal.τ).loc Cert.InpKernelIdeal.main_arg1) = m ((c.tc : Thread Cert.InpKernelIdeal.nD Cert.InpKernelIdeal.τ).loc Cert.InpKernelIdeal.main_arg1)
          ∧ r.2.mem ((c.tc : Thread Cert.InpKernelIdeal.nD Cert.InpKernelIdeal.τ).loc Cert.InpKernelIdeal.main_arg2) = m ((c.tc : Thread Cert.InpKernelIdeal.nD Cert.InpKernelIdeal.τ).loc Cert.InpKernelIdeal.main_arg2)
          ∧ r.2.mem ((c.tc : Thread Cert.InpKernelIdeal.nD Cert.InpKernelIdeal.τ).loc Cert.InpKernelIdeal.main_arg3) = m ((c.tc : Thread Cert.InpKernelIdeal.nD Cert.InpKernelIdeal.τ).loc Cert.InpKernelIdeal.main_arg3)
          ∧ r.2.mem ((c.tc : Thread Cert.InpKernelIdeal.nD Cert.InpKernelIdeal.τ).loc Cert.InpKernelIdeal.main_arg4) = m ((c.tc : Thread Cert.InpKernelIdeal.nD Cert.InpKernelIdeal.τ).loc Cert.InpKernelIdeal.main_arg4))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v38) = v0 c
          ∧ r.2.mem ((c.tc : Thread Cert.InpRefIdeal.nD Cert.InpRefIdeal.τ).loc Cert.InpRefIdeal.main_v39) = v1 c
          ∧ r.2.mem ((c.tc : Thread Cert.InpRefIdeal.nD Cert.InpRefIdeal.τ).loc Cert.InpRefIdeal.main_v40) = v2 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4))

def preserves_GateKernel_GateKernelIdeal : Prop :=
  True

def algebraic_GateKernelIdeal_GateRefIdeal_pre_gate_finite [hGateKernelIdeal : Cert.GateKernelIdeal.Facts] [hGateRefIdeal : Cert.GateRefIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateKernelIdeal_gate_finite m →
    (∀ c : Dev Cert.GateKernelIdeal.nD,
      m' ((c.tc : Thread Cert.GateRefIdeal.nD Cert.GateRefIdeal.τ).loc Cert.GateRefIdeal.main_arg0) = m ((c.tc : Thread Cert.GateKernelIdeal.nD Cert.GateKernelIdeal.τ).loc Cert.GateKernelIdeal.main_arg0)
      ∧ m' ((c.tc : Thread Cert.GateRefIdeal.nD Cert.GateRefIdeal.τ).loc Cert.GateRefIdeal.main_arg1) = m ((c.tc : Thread Cert.GateKernelIdeal.nD Cert.GateKernelIdeal.τ).loc Cert.GateKernelIdeal.main_arg1)
      ∧ m' ((c.tc : Thread Cert.GateRefIdeal.nD Cert.GateRefIdeal.τ).loc Cert.GateRefIdeal.main_arg2) = m ((c.tc : Thread Cert.GateKernelIdeal.nD Cert.GateKernelIdeal.τ).loc Cert.GateKernelIdeal.main_arg2)
      ∧ m' ((c.tc : Thread Cert.GateRefIdeal.nD Cert.GateRefIdeal.τ).loc Cert.GateRefIdeal.main_arg3) = m ((c.tc : Thread Cert.GateKernelIdeal.nD Cert.GateKernelIdeal.τ).loc Cert.GateKernelIdeal.main_arg3)
      ∧ m' ((c.tc : Thread Cert.GateRefIdeal.nD Cert.GateRefIdeal.τ).loc Cert.GateRefIdeal.main_arg4) = m ((c.tc : Thread Cert.GateKernelIdeal.nD Cert.GateKernelIdeal.τ).loc Cert.GateKernelIdeal.main_arg4)) →
    ∃ (v0 : (c : Dev Cert.GateKernelIdeal.nD) → Buf (Elt Ideal) ((c.tc : Thread Cert.GateKernelIdeal.nD Cert.GateKernelIdeal.τ).loc Cert.GateKernelIdeal.main_v12_0)) (v1 : (c : Dev Cert.GateKernelIdeal.nD) → Buf (Elt Ideal) ((c.tc : Thread Cert.GateKernelIdeal.nD Cert.GateKernelIdeal.τ).loc Cert.GateKernelIdeal.main_v12_1)) (v2 : (c : Dev Cert.GateKernelIdeal.nD) → Buf (Elt Ideal) ((c.tc : Thread Cert.GateKernelIdeal.nD Cert.GateKernelIdeal.τ).loc Cert.GateKernelIdeal.main_v12_2)) (v3 : (c : Dev Cert.GateKernelIdeal.nD) → Buf (Elt Ideal) ((c.tc : Thread Cert.GateKernelIdeal.nD Cert.GateKernelIdeal.τ).loc Cert.GateKernelIdeal.main_v12_3)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v12_0) = v0 c
          ∧ r.2.mem ((c.tc : Thread Cert.GateKernelIdeal.nD Cert.GateKernelIdeal.τ).loc Cert.GateKernelIdeal.main_v12_1) = v1 c
          ∧ r.2.mem ((c.tc : Thread Cert.GateKernelIdeal.nD Cert.GateKernelIdeal.τ).loc Cert.GateKernelIdeal.main_v12_2) = v2 c
          ∧ r.2.mem ((c.tc : Thread Cert.GateKernelIdeal.nD Cert.GateKernelIdeal.τ).loc Cert.GateKernelIdeal.main_v12_3) = v3 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
          ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v26) = v0 c
          ∧ r.2.mem ((c.tc : Thread Cert.GateRefIdeal.nD Cert.GateRefIdeal.τ).loc Cert.GateRefIdeal.main_v27) = v1 c
          ∧ r.2.mem ((c.tc : Thread Cert.GateRefIdeal.nD Cert.GateRefIdeal.τ).loc Cert.GateRefIdeal.main_v29) = v2 c
          ∧ r.2.mem ((c.tc : Thread Cert.GateRefIdeal.nD Cert.GateRefIdeal.τ).loc Cert.GateRefIdeal.main_v32) = v3 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_FwdKernel_FwdKernelIdeal : Prop :=
  IdealRules.named_const.Statement Cert.FwdKernelIdeal.κ "mask" .f32 0xF149F2CA#32 ⊥
  ∧ IdealRules.named_const.Statement Cert.FwdKernelIdeal.κ "scale2" .f32 0x3DD53B95#32 (((Real.sqrt 192)⁻¹ * (Real.log 2)⁻¹ : ℝ) : EReal)
  ∧ IdealRules.named_const.Statement Cert.FwdKernelIdeal.κ "log2e" .f32 0x3FB8AA3B#32 (((Real.log 2)⁻¹ : ℝ) : EReal)

def algebraic_FwdKernelIdeal_FwdRefIdeal_pre_fwd_finite [hFwdKernelIdeal : Cert.FwdKernelIdeal.Facts] [hFwdRefIdeal : Cert.FwdRefIdeal.Facts] [hPre_fwd_finite : Cert.Pre_fwd_finite.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdKernelIdeal_fwd_finite m →
    (∀ c : Dev Cert.FwdKernelIdeal.nD,
      m' ((c.tc : Thread Cert.FwdRefIdeal.nD Cert.FwdRefIdeal.τ).loc Cert.FwdRefIdeal.main_arg0) = m ((c.tc : Thread Cert.FwdKernelIdeal.nD Cert.FwdKernelIdeal.τ).loc Cert.FwdKernelIdeal.main_arg0)
      ∧ m' ((c.tc : Thread Cert.FwdRefIdeal.nD Cert.FwdRefIdeal.τ).loc Cert.FwdRefIdeal.main_arg1) = m ((c.tc : Thread Cert.FwdKernelIdeal.nD Cert.FwdKernelIdeal.τ).loc Cert.FwdKernelIdeal.main_arg1)
      ∧ m' ((c.tc : Thread Cert.FwdRefIdeal.nD Cert.FwdRefIdeal.τ).loc Cert.FwdRefIdeal.main_arg2) = m ((c.tc : Thread Cert.FwdKernelIdeal.nD Cert.FwdKernelIdeal.τ).loc Cert.FwdKernelIdeal.main_arg2)
      ∧ m' ((c.tc : Thread Cert.FwdRefIdeal.nD Cert.FwdRefIdeal.τ).loc Cert.FwdRefIdeal.main_arg3) = m ((c.tc : Thread Cert.FwdKernelIdeal.nD Cert.FwdKernelIdeal.τ).loc Cert.FwdKernelIdeal.main_arg3)
      ∧ m' ((c.tc : Thread Cert.FwdRefIdeal.nD Cert.FwdRefIdeal.τ).loc Cert.FwdRefIdeal.main_arg4) = m ((c.tc : Thread Cert.FwdKernelIdeal.nD Cert.FwdKernelIdeal.τ).loc Cert.FwdKernelIdeal.main_arg4)) →
    ∃ (v0 : (c : Dev Cert.FwdKernelIdeal.nD) → Buf (Elt Ideal) ((c.tc : Thread Cert.FwdKernelIdeal.nD Cert.FwdKernelIdeal.τ).loc Cert.FwdKernelIdeal.main_v13_0)) (v1 : (c : Dev Cert.FwdKernelIdeal.nD) → Buf (Elt Ideal) ((c.tc : Thread Cert.FwdKernelIdeal.nD Cert.FwdKernelIdeal.τ).loc Cert.FwdKernelIdeal.main_v13_1)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v13_0) = v0 c
          ∧ r.2.mem ((c.tc : Thread Cert.FwdKernelIdeal.nD Cert.FwdKernelIdeal.τ).loc Cert.FwdKernelIdeal.main_v13_1) = v1 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
          ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
          ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v53) = v0 c
          ∧ r.2.mem ((c.tc : Thread Cert.FwdRefIdeal.nD Cert.FwdRefIdeal.τ).loc Cert.FwdRefIdeal.main_v55) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4))

def preserves_ProjKernel_ProjKernelIdeal : Prop :=
  True

def algebraic_ProjKernelIdeal_ProjRefIdeal [hProjKernelIdeal : Cert.ProjKernelIdeal.Facts] [hProjRefIdeal : Cert.ProjRefIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjKernelIdeal m →
    (∀ c : Dev Cert.ProjKernelIdeal.nD,
      m' ((c.tc : Thread Cert.ProjRefIdeal.nD Cert.ProjRefIdeal.τ).loc Cert.ProjRefIdeal.main_arg0) = m ((c.tc : Thread Cert.ProjKernelIdeal.nD Cert.ProjKernelIdeal.τ).loc Cert.ProjKernelIdeal.main_arg0)
      ∧ m' ((c.tc : Thread Cert.ProjRefIdeal.nD Cert.ProjRefIdeal.τ).loc Cert.ProjRefIdeal.main_arg1) = m ((c.tc : Thread Cert.ProjKernelIdeal.nD Cert.ProjKernelIdeal.τ).loc Cert.ProjKernelIdeal.main_arg1)
      ∧ m' ((c.tc : Thread Cert.ProjRefIdeal.nD Cert.ProjRefIdeal.τ).loc Cert.ProjRefIdeal.main_arg2) = m ((c.tc : Thread Cert.ProjKernelIdeal.nD Cert.ProjKernelIdeal.τ).loc Cert.ProjKernelIdeal.main_arg2)) →
    ∃ (v0 : (c : Dev Cert.ProjKernelIdeal.nD) → Buf (Elt Ideal) ((c.tc : Thread Cert.ProjKernelIdeal.nD Cert.ProjKernelIdeal.τ).loc Cert.ProjKernelIdeal.main_v15)) (v1 : (c : Dev Cert.ProjKernelIdeal.nD) → Buf (Elt Ideal) ((c.tc : Thread Cert.ProjKernelIdeal.nD Cert.ProjKernelIdeal.τ).loc Cert.ProjKernelIdeal.main_v9_1)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v15) = v0 c
          ∧ r.2.mem ((c.tc : Thread Cert.ProjKernelIdeal.nD Cert.ProjKernelIdeal.τ).loc Cert.ProjKernelIdeal.main_v9_1) = v1 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v14) = v0 c
          ∧ r.2.mem ((c.tc : Thread Cert.ProjRefIdeal.nD Cert.ProjRefIdeal.τ).loc Cert.ProjRefIdeal.main_v15) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_LatKernel_LatKernelIdeal : Prop :=
  True

def algebraic_LatKernelIdeal_LatRefIdeal [hLatKernelIdeal : Cert.LatKernelIdeal.Facts] [hLatRefIdeal : Cert.LatRefIdeal.Facts] : Prop :=
  ∀ (m : (ℓ : Loc Cert.LatKernelIdeal.nD Cert.LatKernelIdeal.τ Cert.LatKernelIdeal.sig) → Buf (Elt Ideal) ℓ) (g : Dev Cert.LatKernelIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatKernelIdeal m →
    (∀ c : Dev Cert.LatKernelIdeal.nD,
      m' ((c.tc : Thread Cert.LatRefIdeal.nD Cert.LatRefIdeal.τ).loc Cert.LatRefIdeal.main_arg0) = m ((c.tc : Thread Cert.LatKernelIdeal.nD Cert.LatKernelIdeal.τ).loc Cert.LatKernelIdeal.main_arg0)
      ∧ m' ((c.tc : Thread Cert.LatRefIdeal.nD Cert.LatRefIdeal.τ).loc Cert.LatRefIdeal.main_arg1) = m ((c.tc : Thread Cert.LatKernelIdeal.nD Cert.LatKernelIdeal.τ).loc Cert.LatKernelIdeal.main_arg1)
      ∧ m' ((c.tc : Thread Cert.LatRefIdeal.nD Cert.LatRefIdeal.τ).loc Cert.LatRefIdeal.main_arg2) = m ((c.tc : Thread Cert.LatKernelIdeal.nD Cert.LatKernelIdeal.τ).loc Cert.LatKernelIdeal.main_arg2)
      ∧ m' ((c.tc : Thread Cert.LatRefIdeal.nD Cert.LatRefIdeal.τ).loc Cert.LatRefIdeal.main_arg3) = m ((c.tc : Thread Cert.LatKernelIdeal.nD Cert.LatKernelIdeal.τ).loc Cert.LatKernelIdeal.main_arg3)
      ∧ m' ((c.tc : Thread Cert.LatRefIdeal.nD Cert.LatRefIdeal.τ).loc Cert.LatRefIdeal.main_arg4) = m ((c.tc : Thread Cert.LatKernelIdeal.nD Cert.LatKernelIdeal.τ).loc Cert.LatKernelIdeal.main_arg4)) →
    ∃ (v0 : (c : Dev Cert.LatKernelIdeal.nD) → Buf (Elt Ideal) ((c.tc : Thread Cert.LatKernelIdeal.nD Cert.LatKernelIdeal.τ).loc Cert.LatKernelIdeal.main_v53)) (v1 : (c : Dev Cert.LatKernelIdeal.nD) → Buf (Elt Ideal) ((c.tc : Thread Cert.LatKernelIdeal.nD Cert.LatKernelIdeal.τ).loc Cert.LatKernelIdeal.main_v54)) (v2 : (c : Dev Cert.LatKernelIdeal.nD) → Buf (Elt Ideal) ((c.tc : Thread Cert.LatKernelIdeal.nD Cert.LatKernelIdeal.τ).loc Cert.LatKernelIdeal.main_v55)) (v3 : (c : Dev Cert.LatKernelIdeal.nD) → Buf (Elt Ideal) ((c.tc : Thread Cert.LatKernelIdeal.nD Cert.LatKernelIdeal.τ).loc Cert.LatKernelIdeal.main_v56)) (v4 : (c : Dev Cert.LatKernelIdeal.nD) → Buf (Elt Ideal) ((c.tc : Thread Cert.LatKernelIdeal.nD Cert.LatKernelIdeal.τ).loc Cert.LatKernelIdeal.main_v57)) (v5 : (c : Dev Cert.LatKernelIdeal.nD) → Buf (Elt Ideal) ((c.tc : Thread Cert.LatKernelIdeal.nD Cert.LatKernelIdeal.τ).loc Cert.LatKernelIdeal.main_v50_3)),
      θ_run (Cert.LatKernelIdeal.defs (F := Ideal)) (onTc (τ := Cert.LatKernelIdeal.τ) (Cert.LatKernelIdeal.main (F := Ideal))) ⟨m, fun _ => 0, g⟩ (fun r => ∀ c : Dev Cert.LatKernelIdeal.nD,
          r.2.mem ((c.tc : Thread Cert.LatKernelIdeal.nD Cert.LatKernelIdeal.τ).loc Cert.LatKernelIdeal.main_v53) = v0 c
          ∧ r.2.mem ((c.tc : Thread Cert.LatKernelIdeal.nD Cert.LatKernelIdeal.τ).loc Cert.LatKernelIdeal.main_v54) = v1 c
          ∧ r.2.mem ((c.tc : Thread Cert.LatKernelIdeal.nD Cert.LatKernelIdeal.τ).loc Cert.LatKernelIdeal.main_v55) = v2 c
          ∧ r.2.mem ((c.tc : Thread Cert.LatKernelIdeal.nD Cert.LatKernelIdeal.τ).loc Cert.LatKernelIdeal.main_v56) = v3 c
          ∧ r.2.mem ((c.tc : Thread Cert.LatKernelIdeal.nD Cert.LatKernelIdeal.τ).loc Cert.LatKernelIdeal.main_v57) = v4 c
          ∧ r.2.mem ((c.tc : Thread Cert.LatKernelIdeal.nD Cert.LatKernelIdeal.τ).loc Cert.LatKernelIdeal.main_v50_3) = v5 c
          ∧ r.2.mem ((c.tc : Thread Cert.LatKernelIdeal.nD Cert.LatKernelIdeal.τ).loc Cert.LatKernelIdeal.main_arg0) = m ((c.tc : Thread Cert.LatKernelIdeal.nD Cert.LatKernelIdeal.τ).loc Cert.LatKernelIdeal.main_arg0)
          ∧ r.2.mem ((c.tc : Thread Cert.LatKernelIdeal.nD Cert.LatKernelIdeal.τ).loc Cert.LatKernelIdeal.main_arg1) = m ((c.tc : Thread Cert.LatKernelIdeal.nD Cert.LatKernelIdeal.τ).loc Cert.LatKernelIdeal.main_arg1)
          ∧ r.2.mem ((c.tc : Thread Cert.LatKernelIdeal.nD Cert.LatKernelIdeal.τ).loc Cert.LatKernelIdeal.main_arg2) = m ((c.tc : Thread Cert.LatKernelIdeal.nD Cert.LatKernelIdeal.τ).loc Cert.LatKernelIdeal.main_arg2)
          ∧ r.2.mem ((c.tc : Thread Cert.LatKernelIdeal.nD Cert.LatKernelIdeal.τ).loc Cert.LatKernelIdeal.main_arg3) = m ((c.tc : Thread Cert.LatKernelIdeal.nD Cert.LatKernelIdeal.τ).loc Cert.LatKernelIdeal.main_arg3)
          ∧ r.2.mem ((c.tc : Thread Cert.LatKernelIdeal.nD Cert.LatKernelIdeal.τ).loc Cert.LatKernelIdeal.main_arg4) = m ((c.tc : Thread Cert.LatKernelIdeal.nD Cert.LatKernelIdeal.τ).loc Cert.LatKernelIdeal.main_arg4))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v86) = v0 c
          ∧ r.2.mem ((c.tc : Thread Cert.LatRefIdeal.nD Cert.LatRefIdeal.τ).loc Cert.LatRefIdeal.main_v87) = v1 c
          ∧ r.2.mem ((c.tc : Thread Cert.LatRefIdeal.nD Cert.LatRefIdeal.τ).loc Cert.LatRefIdeal.main_v89) = v2 c
          ∧ r.2.mem ((c.tc : Thread Cert.LatRefIdeal.nD Cert.LatRefIdeal.τ).loc Cert.LatRefIdeal.main_v92) = v3 c
          ∧ r.2.mem ((c.tc : Thread Cert.LatRefIdeal.nD Cert.LatRefIdeal.τ).loc Cert.LatRefIdeal.main_v93) = v4 c
          ∧ r.2.mem ((c.tc : Thread Cert.LatRefIdeal.nD Cert.LatRefIdeal.τ).loc Cert.LatRefIdeal.main_v94) = v5 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1)
          ∧ r.2.mem ((c.tc : Thread Cert.LatRefIdeal.nD Cert.LatRefIdeal.τ).loc Cert.LatRefIdeal.main_arg2) = m' ((c.tc : Thread Cert.LatRefIdeal.nD Cert.LatRefIdeal.τ).loc Cert.LatRefIdeal.main_arg2)
          ∧ r.2.mem ((c.tc : Thread Cert.LatRefIdeal.nD Cert.LatRefIdeal.τ).loc Cert.LatRefIdeal.main_arg3) = m' ((c.tc : Thread Cert.LatRefIdeal.nD Cert.LatRefIdeal.τ).loc Cert.LatRefIdeal.main_arg3)
          ∧ r.2.mem ((c.tc : Thread Cert.LatRefIdeal.nD Cert.LatRefIdeal.τ).loc Cert.LatRefIdeal.main_arg4) = m' ((c.tc : Thread Cert.LatRefIdeal.nD Cert.LatRefIdeal.τ).loc Cert.LatRefIdeal.main_arg4))

def preserves_WinKernel_WinKernelIdeal : Prop :=
  IdealRules.named_const.Statement Cert.WinKernelIdeal.κ "slope7" .f32 0x3BB504F3#32 (((128 * (Real.sqrt 2))⁻¹ : ℝ) : EReal)
  ∧ IdealRules.named_const.Statement Cert.WinKernelIdeal.κ "slope6" .f32 0x3C3504F3#32 (((64 * (Real.sqrt 2))⁻¹ : ℝ) : EReal)
  ∧ IdealRules.named_const.Statement Cert.WinKernelIdeal.κ "slope5" .f32 0x3CB504F3#32 (((32 * (Real.sqrt 2))⁻¹ : ℝ) : EReal)
  ∧ IdealRules.named_const.Statement Cert.WinKernelIdeal.κ "slope4" .f32 0x3D3504F3#32 (((16 * (Real.sqrt 2))⁻¹ : ℝ) : EReal)
  ∧ IdealRules.named_const.Statement Cert.WinKernelIdeal.κ "slope3" .f32 0x3DB504F3#32 (((8 * (Real.sqrt 2))⁻¹ : ℝ) : EReal)
  ∧ IdealRules.named_const.Statement Cert.WinKernelIdeal.κ "slope2" .f32 0x3E3504F3#32 (((4 * (Real.sqrt 2))⁻¹ : ℝ) : EReal)
  ∧ IdealRules.named_const.Statement Cert.WinKernelIdeal.κ "slope1" .f32 0x3EB504F3#32 (((2 * (Real.sqrt 2))⁻¹ : ℝ) : EReal)
  ∧ IdealRules.named_const.Statement Cert.WinKernelIdeal.κ "slope0" .f32 0x3F3504F3#32 (((1 * (Real.sqrt 2))⁻¹ : ℝ) : EReal)
  ∧ IdealRules.named_const.Statement Cert.WinKernelIdeal.κ "mask" .f32 0xF149F2CA#32 ⊥

def algebraic_WinKernelIdeal_WinRefIdeal_pre_win_finite [hWinKernelIdeal : Cert.WinKernelIdeal.Facts] [hWinRefIdeal : Cert.WinRefIdeal.Facts] [hPre_win_finite : Cert.Pre_win_finite.Facts] : Prop :=
  ∀ (m : (ℓ : Loc Cert.WinKernelIdeal.nD Cert.WinKernelIdeal.τ Cert.WinKernelIdeal.sig) → Buf (Elt Ideal) ℓ) (g : Dev Cert.WinKernelIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinKernelIdeal_win_finite m →
    (∀ c : Dev Cert.WinKernelIdeal.nD,
      m' ((c.tc : Thread Cert.WinRefIdeal.nD Cert.WinRefIdeal.τ).loc Cert.WinRefIdeal.main_arg0) = m ((c.tc : Thread Cert.WinKernelIdeal.nD Cert.WinKernelIdeal.τ).loc Cert.WinKernelIdeal.main_arg0)
      ∧ m' ((c.tc : Thread Cert.WinRefIdeal.nD Cert.WinRefIdeal.τ).loc Cert.WinRefIdeal.main_arg1) = m ((c.tc : Thread Cert.WinKernelIdeal.nD Cert.WinKernelIdeal.τ).loc Cert.WinKernelIdeal.main_arg1)) →
    ∃ (v0 : (c : Dev Cert.WinKernelIdeal.nD) → Buf (Elt Ideal) ((c.tc : Thread Cert.WinKernelIdeal.nD Cert.WinKernelIdeal.τ).loc Cert.WinKernelIdeal.main_v8)),
      θ_run (Cert.WinKernelIdeal.defs (F := Ideal)) (onTc (τ := Cert.WinKernelIdeal.τ) (Cert.WinKernelIdeal.main (F := Ideal))) ⟨m, fun _ => 0, g⟩ (fun r => ∀ c : Dev Cert.WinKernelIdeal.nD,
          r.2.mem ((c.tc : Thread Cert.WinKernelIdeal.nD Cert.WinKernelIdeal.τ).loc Cert.WinKernelIdeal.main_v8) = v0 c
          ∧ r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
          ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v102) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_OptKernel_OptKernelIdeal : Prop :=
  True

def algebraic_OptKernelIdeal_OptRefIdeal [hOptKernelIdeal : Cert.OptKernelIdeal.Facts] [hOptRefIdeal : Cert.OptRefIdeal.Facts] : Prop :=
  ∀ (m : (ℓ : Loc Cert.OptKernelIdeal.nD Cert.OptKernelIdeal.τ Cert.OptKernelIdeal.sig) → Buf (Elt Ideal) ℓ) (g : Dev Cert.OptKernelIdeal.nD → PrngReg)
    (m' : (ℓ : Loc Cert.OptRefIdeal.nD Cert.OptRefIdeal.τ Cert.OptRefIdeal.sig) → Buf (Elt Ideal) ℓ) (g' : Dev Cert.OptRefIdeal.nD → PrngReg), Pre_OptKernelIdeal m →
    (∀ c : Dev Cert.OptKernelIdeal.nD,
      m' ((c.tc : Thread Cert.OptRefIdeal.nD Cert.OptRefIdeal.τ).loc Cert.OptRefIdeal.main_arg0) = m ((c.tc : Thread Cert.OptKernelIdeal.nD Cert.OptKernelIdeal.τ).loc Cert.OptKernelIdeal.main_arg0)
      ∧ m' ((c.tc : Thread Cert.OptRefIdeal.nD Cert.OptRefIdeal.τ).loc Cert.OptRefIdeal.main_arg1) = m ((c.tc : Thread Cert.OptKernelIdeal.nD Cert.OptKernelIdeal.τ).loc Cert.OptKernelIdeal.main_arg1)
      ∧ m' ((c.tc : Thread Cert.OptRefIdeal.nD Cert.OptRefIdeal.τ).loc Cert.OptRefIdeal.main_arg2) = m ((c.tc : Thread Cert.OptKernelIdeal.nD Cert.OptKernelIdeal.τ).loc Cert.OptKernelIdeal.main_arg2)
      ∧ m' ((c.tc : Thread Cert.OptRefIdeal.nD Cert.OptRefIdeal.τ).loc Cert.OptRefIdeal.main_arg3) = m ((c.tc : Thread Cert.OptKernelIdeal.nD Cert.OptKernelIdeal.τ).loc Cert.OptKernelIdeal.main_arg3)
      ∧ m' ((c.tc : Thread Cert.OptRefIdeal.nD Cert.OptRefIdeal.τ).loc Cert.OptRefIdeal.main_arg4) = m ((c.tc : Thread Cert.OptKernelIdeal.nD Cert.OptKernelIdeal.τ).loc Cert.OptKernelIdeal.main_arg4)
      ∧ m' ((c.tc : Thread Cert.OptRefIdeal.nD Cert.OptRefIdeal.τ).loc Cert.OptRefIdeal.main_arg5) = m ((c.tc : Thread Cert.OptKernelIdeal.nD Cert.OptKernelIdeal.τ).loc Cert.OptKernelIdeal.main_arg5)
      ∧ m' ((c.tc : Thread Cert.OptRefIdeal.nD Cert.OptRefIdeal.τ).loc Cert.OptRefIdeal.main_arg6) = m ((c.tc : Thread Cert.OptKernelIdeal.nD Cert.OptKernelIdeal.τ).loc Cert.OptKernelIdeal.main_arg6)) →
    ∃ (v0 : (c : Dev Cert.OptKernelIdeal.nD) → Buf (Elt Ideal) ((c.tc : Thread Cert.OptKernelIdeal.nD Cert.OptKernelIdeal.τ).loc Cert.OptKernelIdeal.main_v8)) (v1 : (c : Dev Cert.OptKernelIdeal.nD) → Buf (Elt Ideal) ((c.tc : Thread Cert.OptKernelIdeal.nD Cert.OptKernelIdeal.τ).loc Cert.OptKernelIdeal.main_v9)) (v2 : (c : Dev Cert.OptKernelIdeal.nD) → Buf (Elt Ideal) ((c.tc : Thread Cert.OptKernelIdeal.nD Cert.OptKernelIdeal.τ).loc Cert.OptKernelIdeal.main_v10)) (v3 : (c : Dev Cert.OptKernelIdeal.nD) → Buf (Elt Ideal) ((c.tc : Thread Cert.OptKernelIdeal.nD Cert.OptKernelIdeal.τ).loc Cert.OptKernelIdeal.main_v11)),
      θ_run (Cert.OptKernelIdeal.defs (F := Ideal)) (onTc (τ := Cert.OptKernelIdeal.τ) (Cert.OptKernelIdeal.main (F := Ideal))) ⟨m, fun _ => 0, g⟩ (fun r => ∀ c : Dev Cert.OptKernelIdeal.nD,
          r.2.mem ((c.tc : Thread Cert.OptKernelIdeal.nD Cert.OptKernelIdeal.τ).loc Cert.OptKernelIdeal.main_v8) = v0 c
          ∧ r.2.mem ((c.tc : Thread Cert.OptKernelIdeal.nD Cert.OptKernelIdeal.τ).loc Cert.OptKernelIdeal.main_v9) = v1 c
          ∧ r.2.mem ((c.tc : Thread Cert.OptKernelIdeal.nD Cert.OptKernelIdeal.τ).loc Cert.OptKernelIdeal.main_v10) = v2 c
          ∧ r.2.mem ((c.tc : Thread Cert.OptKernelIdeal.nD Cert.OptKernelIdeal.τ).loc Cert.OptKernelIdeal.main_v11) = v3 c
          ∧ r.2.mem ((c.tc : Thread Cert.OptKernelIdeal.nD Cert.OptKernelIdeal.τ).loc Cert.OptKernelIdeal.main_arg0) = m ((c.tc : Thread Cert.OptKernelIdeal.nD Cert.OptKernelIdeal.τ).loc Cert.OptKernelIdeal.main_arg0)
          ∧ r.2.mem ((c.tc : Thread Cert.OptKernelIdeal.nD Cert.OptKernelIdeal.τ).loc Cert.OptKernelIdeal.main_arg1) = m ((c.tc : Thread Cert.OptKernelIdeal.nD Cert.OptKernelIdeal.τ).loc Cert.OptKernelIdeal.main_arg1)
          ∧ r.2.mem ((c.tc : Thread Cert.OptKernelIdeal.nD Cert.OptKernelIdeal.τ).loc Cert.OptKernelIdeal.main_arg2) = m ((c.tc : Thread Cert.OptKernelIdeal.nD Cert.OptKernelIdeal.τ).loc Cert.OptKernelIdeal.main_arg2)
          ∧ r.2.mem ((c.tc : Thread Cert.OptKernelIdeal.nD Cert.OptKernelIdeal.τ).loc Cert.OptKernelIdeal.main_arg3) = m ((c.tc : Thread Cert.OptKernelIdeal.nD Cert.OptKernelIdeal.τ).loc Cert.OptKernelIdeal.main_arg3)
          ∧ r.2.mem ((c.tc : Thread Cert.OptKernelIdeal.nD Cert.OptKernelIdeal.τ).loc Cert.OptKernelIdeal.main_arg4) = m ((c.tc : Thread Cert.OptKernelIdeal.nD Cert.OptKernelIdeal.τ).loc Cert.OptKernelIdeal.main_arg4)
          ∧ r.2.mem ((c.tc : Thread Cert.OptKernelIdeal.nD Cert.OptKernelIdeal.τ).loc Cert.OptKernelIdeal.main_arg5) = m ((c.tc : Thread Cert.OptKernelIdeal.nD Cert.OptKernelIdeal.τ).loc Cert.OptKernelIdeal.main_arg5)
          ∧ r.2.mem ((c.tc : Thread Cert.OptKernelIdeal.nD Cert.OptKernelIdeal.τ).loc Cert.OptKernelIdeal.main_arg6) = m ((c.tc : Thread Cert.OptKernelIdeal.nD Cert.OptKernelIdeal.τ).loc Cert.OptKernelIdeal.main_arg6))
      ∧ θ_run (Cert.OptRefIdeal.defs (F := Ideal)) (onTc (τ := Cert.OptRefIdeal.τ) (Cert.OptRefIdeal.main (F := Ideal))) ⟨m', fun _ => 0, g'⟩ (fun r => ∀ c : Dev Cert.OptRefIdeal.nD,
          r.2.mem ((c.tc : Thread Cert.OptRefIdeal.nD Cert.OptRefIdeal.τ).loc Cert.OptRefIdeal.main_v8) = v0 c
          ∧ r.2.mem ((c.tc : Thread Cert.OptRefIdeal.nD Cert.OptRefIdeal.τ).loc Cert.OptRefIdeal.main_v32) = v1 c
          ∧ r.2.mem ((c.tc : Thread Cert.OptRefIdeal.nD Cert.OptRefIdeal.τ).loc Cert.OptRefIdeal.main_v13) = v2 c
          ∧ r.2.mem ((c.tc : Thread Cert.OptRefIdeal.nD Cert.OptRefIdeal.τ).loc Cert.OptRefIdeal.main_v19) = v3 c
          ∧ r.2.mem ((c.tc : Thread Cert.OptRefIdeal.nD Cert.OptRefIdeal.τ).loc Cert.OptRefIdeal.main_arg0) = m' ((c.tc : Thread Cert.OptRefIdeal.nD Cert.OptRefIdeal.τ).loc Cert.OptRefIdeal.main_arg0)
          ∧ r.2.mem ((c.tc : Thread Cert.OptRefIdeal.nD Cert.OptRefIdeal.τ).loc Cert.OptRefIdeal.main_arg1) = m' ((c.tc : Thread Cert.OptRefIdeal.nD Cert.OptRefIdeal.τ).loc Cert.OptRefIdeal.main_arg1)
          ∧ r.2.mem ((c.tc : Thread Cert.OptRefIdeal.nD Cert.OptRefIdeal.τ).loc Cert.OptRefIdeal.main_arg2) = m' ((c.tc : Thread Cert.OptRefIdeal.nD Cert.OptRefIdeal.τ).loc Cert.OptRefIdeal.main_arg2)
          ∧ r.2.mem ((c.tc : Thread Cert.OptRefIdeal.nD Cert.OptRefIdeal.τ).loc Cert.OptRefIdeal.main_arg3) = m' ((c.tc : Thread Cert.OptRefIdeal.nD Cert.OptRefIdeal.τ).loc Cert.OptRefIdeal.main_arg3)
          ∧ r.2.mem ((c.tc : Thread Cert.OptRefIdeal.nD Cert.OptRefIdeal.τ).loc Cert.OptRefIdeal.main_arg4) = m' ((c.tc : Thread Cert.OptRefIdeal.nD Cert.OptRefIdeal.τ).loc Cert.OptRefIdeal.main_arg4)
          ∧ r.2.mem ((c.tc : Thread Cert.OptRefIdeal.nD Cert.OptRefIdeal.τ).loc Cert.OptRefIdeal.main_arg5) = m' ((c.tc : Thread Cert.OptRefIdeal.nD Cert.OptRefIdeal.τ).loc Cert.OptRefIdeal.main_arg5)
          ∧ r.2.mem ((c.tc : Thread Cert.OptRefIdeal.nD Cert.OptRefIdeal.τ).loc Cert.OptRefIdeal.main_arg6) = m' ((c.tc : Thread Cert.OptRefIdeal.nD Cert.OptRefIdeal.τ).loc Cert.OptRefIdeal.main_arg6))

def preserves_TnKernel_TnKernelIdeal : Prop :=
  True

def algebraic_TnKernelIdeal_TnRefIdeal [hTnKernelIdeal : Cert.TnKernelIdeal.Facts] [hTnRefIdeal : Cert.TnRefIdeal.Facts] : Prop :=
  ∀ (m : (ℓ : Loc Cert.TnKernelIdeal.nD Cert.TnKernelIdeal.τ Cert.TnKernelIdeal.sig) → Buf (Elt Ideal) ℓ) (g : Dev Cert.TnKernelIdeal.nD → PrngReg)
    (m' : (ℓ : Loc Cert.TnRefIdeal.nD Cert.TnRefIdeal.τ Cert.TnRefIdeal.sig) → Buf (Elt Ideal) ℓ) (g' : Dev Cert.TnRefIdeal.nD → PrngReg), Pre_TnKernelIdeal m →
    (∀ c : Dev Cert.TnKernelIdeal.nD,
      m' ((c.tc : Thread Cert.TnRefIdeal.nD Cert.TnRefIdeal.τ).loc Cert.TnRefIdeal.main_arg0) = m ((c.tc : Thread Cert.TnKernelIdeal.nD Cert.TnKernelIdeal.τ).loc Cert.TnKernelIdeal.main_arg0)
      ∧ m' ((c.tc : Thread Cert.TnRefIdeal.nD Cert.TnRefIdeal.τ).loc Cert.TnRefIdeal.main_arg1) = m ((c.tc : Thread Cert.TnKernelIdeal.nD Cert.TnKernelIdeal.τ).loc Cert.TnKernelIdeal.main_arg1)) →
    ∃ (v0 : (c : Dev Cert.TnKernelIdeal.nD) → Buf (Elt Ideal) ((c.tc : Thread Cert.TnKernelIdeal.nD Cert.TnKernelIdeal.τ).loc Cert.TnKernelIdeal.main_v2)),
      θ_run (Cert.TnKernelIdeal.defs (F := Ideal)) (onTc (τ := Cert.TnKernelIdeal.τ) (Cert.TnKernelIdeal.main (F := Ideal))) ⟨m, fun _ => 0, g⟩ (fun r => ∀ c : Dev Cert.TnKernelIdeal.nD,
          r.2.mem ((c.tc : Thread Cert.TnKernelIdeal.nD Cert.TnKernelIdeal.τ).loc Cert.TnKernelIdeal.main_v2) = v0 c
          ∧ r.2.mem ((c.tc : Thread Cert.TnKernelIdeal.nD Cert.TnKernelIdeal.τ).loc Cert.TnKernelIdeal.main_arg0) = m ((c.tc : Thread Cert.TnKernelIdeal.nD Cert.TnKernelIdeal.τ).loc Cert.TnKernelIdeal.main_arg0)
          ∧ r.2.mem ((c.tc : Thread Cert.TnKernelIdeal.nD Cert.TnKernelIdeal.τ).loc Cert.TnKernelIdeal.main_arg1) = m ((c.tc : Thread Cert.TnKernelIdeal.nD Cert.TnKernelIdeal.τ).loc Cert.TnKernelIdeal.main_arg1))
      ∧ θ_run (Cert.TnRefIdeal.defs (F := Ideal)) (onTc (τ := Cert.TnRefIdeal.τ) (Cert.TnRefIdeal.main (F := Ideal))) ⟨m', fun _ => 0, g'⟩ (fun r => ∀ c : Dev Cert.TnRefIdeal.nD,
          r.2.mem ((c.tc : Thread Cert.TnRefIdeal.nD Cert.TnRefIdeal.τ).loc Cert.TnRefIdeal.main_v2) = v0 c
          ∧ r.2.mem ((c.tc : Thread Cert.TnRefIdeal.nD Cert.TnRefIdeal.τ).loc Cert.TnRefIdeal.main_arg0) = m' ((c.tc : Thread Cert.TnRefIdeal.nD Cert.TnRefIdeal.τ).loc Cert.TnRefIdeal.main_arg0)
          ∧ r.2.mem ((c.tc : Thread Cert.TnRefIdeal.nD Cert.TnRefIdeal.τ).loc Cert.TnRefIdeal.main_arg1) = m' ((c.tc : Thread Cert.TnRefIdeal.nD Cert.TnRefIdeal.τ).loc Cert.TnRefIdeal.main_arg1))

def Claim : Prop :=
  ∃ (hLossKernel : Cert.LossKernel.Facts) (hLossKernelIdeal : Cert.LossKernelIdeal.Facts) (hLossRefIdeal : Cert.LossRefIdeal.Facts) (hMlaKernel : Cert.MlaKernel.Facts) (hMlaKernelIdeal : Cert.MlaKernelIdeal.Facts) (hMlaRefIdeal : Cert.MlaRefIdeal.Facts) (hInpKernel : Cert.InpKernel.Facts) (hInpKernelIdeal : Cert.InpKernelIdeal.Facts) (hInpRefIdeal : Cert.InpRefIdeal.Facts) (hGateKernel : Cert.GateKernel.Facts) (hGateKernelIdeal : Cert.GateKernelIdeal.Facts) (hGateRefIdeal : Cert.GateRefIdeal.Facts) (hFwdKernel : Cert.FwdKernel.Facts) (hFwdKernelIdeal : Cert.FwdKernelIdeal.Facts) (hFwdRefIdeal : Cert.FwdRefIdeal.Facts) (hProjKernel : Cert.ProjKernel.Facts) (hProjKernelIdeal : Cert.ProjKernelIdeal.Facts) (hProjRefIdeal : Cert.ProjRefIdeal.Facts) (hLatKernel : Cert.LatKernel.Facts) (hLatKernelIdeal : Cert.LatKernelIdeal.Facts) (hLatRefIdeal : Cert.LatRefIdeal.Facts) (hWinKernel : Cert.WinKernel.Facts) (hWinKernelIdeal : Cert.WinKernelIdeal.Facts) (hWinRefIdeal : Cert.WinRefIdeal.Facts) (hOptKernel : Cert.OptKernel.Facts) (hOptKernelIdeal : Cert.OptKernelIdeal.Facts) (hOptRefIdeal : Cert.OptRefIdeal.Facts) (hTnKernel : Cert.TnKernel.Facts) (hTnKernelIdeal : Cert.TnKernelIdeal.Facts) (hTnRefIdeal : Cert.TnRefIdeal.Facts) (hPre_loss_finite : Cert.Pre_loss_finite.Facts) (hPre_mla_finite : Cert.Pre_mla_finite.Facts) (hPre_inp_finite : Cert.Pre_inp_finite.Facts) (hPre_gate_finite : Cert.Pre_gate_finite.Facts) (hPre_fwd_finite : Cert.Pre_fwd_finite.Facts) (hPre_win_finite : Cert.Pre_win_finite.Facts),
    quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_MlaKernel (hMlaKernel := hMlaKernel)
    ∧ quiescent_MlaKernelIdeal (hMlaKernelIdeal := hMlaKernelIdeal)
    ∧ quiescent_MlaKernelIdeal_pre_mla_finite (hMlaKernelIdeal := hMlaKernelIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_InpKernel (hInpKernel := hInpKernel)
    ∧ quiescent_InpKernelIdeal (hInpKernelIdeal := hInpKernelIdeal)
    ∧ quiescent_InpKernelIdeal_pre_inp_finite (hInpKernelIdeal := hInpKernelIdeal) (hPre_inp_finite := hPre_inp_finite)
    ∧ quiescent_InpRefIdeal (hInpRefIdeal := hInpRefIdeal)
    ∧ quiescent_InpRefIdeal_pre_inp_finite (hInpRefIdeal := hInpRefIdeal) (hPre_inp_finite := hPre_inp_finite)
    ∧ quiescent_GateKernel (hGateKernel := hGateKernel)
    ∧ quiescent_GateKernelIdeal (hGateKernelIdeal := hGateKernelIdeal)
    ∧ quiescent_GateKernelIdeal_pre_gate_finite (hGateKernelIdeal := hGateKernelIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_FwdKernel (hFwdKernel := hFwdKernel)
    ∧ quiescent_FwdKernelIdeal (hFwdKernelIdeal := hFwdKernelIdeal)
    ∧ quiescent_FwdKernelIdeal_pre_fwd_finite (hFwdKernelIdeal := hFwdKernelIdeal) (hPre_fwd_finite := hPre_fwd_finite)
    ∧ quiescent_FwdRefIdeal (hFwdRefIdeal := hFwdRefIdeal)
    ∧ quiescent_FwdRefIdeal_pre_fwd_finite (hFwdRefIdeal := hFwdRefIdeal) (hPre_fwd_finite := hPre_fwd_finite)
    ∧ quiescent_ProjKernel (hProjKernel := hProjKernel)
    ∧ quiescent_ProjKernelIdeal (hProjKernelIdeal := hProjKernelIdeal)
    ∧ quiescent_ProjRefIdeal (hProjRefIdeal := hProjRefIdeal)
    ∧ quiescent_LatKernel (hLatKernel := hLatKernel)
    ∧ quiescent_LatKernelIdeal (hLatKernelIdeal := hLatKernelIdeal)
    ∧ quiescent_LatRefIdeal (hLatRefIdeal := hLatRefIdeal)
    ∧ quiescent_WinKernel (hWinKernel := hWinKernel)
    ∧ quiescent_WinKernelIdeal (hWinKernelIdeal := hWinKernelIdeal)
    ∧ quiescent_WinKernelIdeal_pre_win_finite (hWinKernelIdeal := hWinKernelIdeal) (hPre_win_finite := hPre_win_finite)
    ∧ quiescent_WinRefIdeal (hWinRefIdeal := hWinRefIdeal)
    ∧ quiescent_WinRefIdeal_pre_win_finite (hWinRefIdeal := hWinRefIdeal) (hPre_win_finite := hPre_win_finite)
    ∧ quiescent_OptKernel (hOptKernel := hOptKernel)
    ∧ quiescent_OptKernelIdeal (hOptKernelIdeal := hOptKernelIdeal)
    ∧ quiescent_OptRefIdeal (hOptRefIdeal := hOptRefIdeal)
    ∧ quiescent_TnKernel (hTnKernel := hTnKernel)
    ∧ quiescent_TnKernelIdeal (hTnKernelIdeal := hTnKernelIdeal)
    ∧ quiescent_TnRefIdeal (hTnRefIdeal := hTnRefIdeal)
    ∧ preserves_LossKernel_LossKernelIdeal
    ∧ algebraic_LossKernelIdeal_LossRefIdeal_pre_loss_finite (hLossKernelIdeal := hLossKernelIdeal) (hLossRefIdeal := hLossRefIdeal) (hPre_loss_finite := hPre_loss_finite)
    ∧ preserves_MlaKernel_MlaKernelIdeal
    ∧ algebraic_MlaKernelIdeal_MlaRefIdeal_pre_mla_finite (hMlaKernelIdeal := hMlaKernelIdeal) (hMlaRefIdeal := hMlaRefIdeal) (hPre_mla_finite := hPre_mla_finite)
    ∧ preserves_InpKernel_InpKernelIdeal
    ∧ algebraic_InpKernelIdeal_InpRefIdeal_pre_inp_finite (hInpKernelIdeal := hInpKernelIdeal) (hInpRefIdeal := hInpRefIdeal) (hPre_inp_finite := hPre_inp_finite)
    ∧ preserves_GateKernel_GateKernelIdeal
    ∧ algebraic_GateKernelIdeal_GateRefIdeal_pre_gate_finite (hGateKernelIdeal := hGateKernelIdeal) (hGateRefIdeal := hGateRefIdeal) (hPre_gate_finite := hPre_gate_finite)
    ∧ preserves_FwdKernel_FwdKernelIdeal
    ∧ algebraic_FwdKernelIdeal_FwdRefIdeal_pre_fwd_finite (hFwdKernelIdeal := hFwdKernelIdeal) (hFwdRefIdeal := hFwdRefIdeal) (hPre_fwd_finite := hPre_fwd_finite)
    ∧ preserves_ProjKernel_ProjKernelIdeal
    ∧ algebraic_ProjKernelIdeal_ProjRefIdeal (hProjKernelIdeal := hProjKernelIdeal) (hProjRefIdeal := hProjRefIdeal)
    ∧ preserves_LatKernel_LatKernelIdeal
    ∧ algebraic_LatKernelIdeal_LatRefIdeal (hLatKernelIdeal := hLatKernelIdeal) (hLatRefIdeal := hLatRefIdeal)
    ∧ preserves_WinKernel_WinKernelIdeal
    ∧ algebraic_WinKernelIdeal_WinRefIdeal_pre_win_finite (hWinKernelIdeal := hWinKernelIdeal) (hWinRefIdeal := hWinRefIdeal) (hPre_win_finite := hPre_win_finite)
    ∧ preserves_OptKernel_OptKernelIdeal
    ∧ algebraic_OptKernelIdeal_OptRefIdeal (hOptKernelIdeal := hOptKernelIdeal) (hOptRefIdeal := hOptRefIdeal)
    ∧ preserves_TnKernel_TnKernelIdeal
    ∧ algebraic_TnKernelIdeal_TnRefIdeal (hTnKernelIdeal := hTnKernelIdeal) (hTnRefIdeal := hTnRefIdeal)
-- ==== Pre_fwd_finite.lean ====
abbrev S4096x8x128 : Shape := ⟨3, ![4096, 8, 128]⟩
abbrev S4096x8x64 : Shape := ⟨3, ![4096, 8, 64]⟩
abbrev S4096x64 : Shape := ⟨2, ![4096, 64]⟩
abbrev S_ : Shape := ⟨0, ![]⟩

class Facts : Prop where
  bcast_S_S4096x8x128 : S_.BroadcastsInDim S4096x8x128 (![] : Fin 0 → Fin S4096x8x128.rank)
  bcast_S_S4096x8x64 : S_.BroadcastsInDim S4096x8x64 (![] : Fin 0 → Fin S4096x8x64.rank)
  bcast_S_S4096x64 : S_.BroadcastsInDim S4096x64 (![] : Fin 0 → Fin S4096x64.rank)

variable [Facts]

def fn {F : FTy → Type} [FloatOps F] (main_arg0 : FVec F S4096x8x128 .f32) (main_arg1 : FVec F S4096x8x64 .f32) (main_arg2 : FVec F S4096x8x128 .f32) (main_arg3 : FVec F S4096x64 .f32) (main_arg4 : FVec F S4096x8x128 .f32) : IVec S4096x8x128 1 × IVec S4096x8x64 1 × IVec S4096x8x128 1 × IVec S4096x64 1 × IVec S4096x8x128 1 :=
  let main_v0 : FVec F S4096x8x128 .f32 := Host.absf main_arg0
  let main_cst : FVec F S_ .f32 := constant S_ .f32 0x7F800000#32
  let main_v1 : FVec F S4096x8x128 .f32 := broadcastInDim S4096x8x128 ![] bcast_S_S4096x8x128 main_cst
  let main_v2 : IVec S4096x8x128 1 := cmpf .olt main_v0 main_v1
  let main_v3 : FVec F S4096x8x64 .f32 := Host.absf main_arg1
  let main_cst_0 : FVec F S_ .f32 := constant S_ .f32 0x7F800000#32
  let main_v4 : FVec F S4096x8x64 .f32 := broadcastInDim S4096x8x64 ![] bcast_S_S4096x8x64 main_cst_0
  let main_v5 : IVec S4096x8x64 1 := cmpf .olt main_v3 main_v4
  let main_v6 : FVec F S4096x8x128 .f32 := Host.absf main_arg2
  let main_cst_1 : FVec F S_ .f32 := constant S_ .f32 0x7F800000#32
  let main_v7 : FVec F S4096x8x128 .f32 := broadcastInDim S4096x8x128 ![] bcast_S_S4096x8x128 main_cst_1
  let main_v8 : IVec S4096x8x128 1 := cmpf .olt main_v6 main_v7
  let main_v9 : FVec F S4096x64 .f32 := Host.absf main_arg3
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_v12 : FVec F S4096x8x128 .f32 := Host.absf main_arg4
  let main_cst_3 : FVec F S_ .f32 := constant S_ .f32 0x7F800000#32
  let main_v13 : FVec F S4096x8x128 .f32 := broadcastInDim S4096x8x128 ![] bcast_S_S4096x8x128 main_cst_3
  let main_v14 : IVec S4096x8x128 1 := cmpf .olt main_v12 main_v13
  (main_v2, main_v5, main_v8, main_v11, main_v14)
-- ==== Pre_gate_finite.lean ====
abbrev S4096x2048 : Shape := ⟨2, ![4096, 2048]⟩
abbrev S4096x4032 : Shape := ⟨2, ![4096, 4032]⟩
abbrev S4096x1024 : Shape := ⟨2, ![4096, 1024]⟩
abbrev S2048x2048 : Shape := ⟨2, ![2048, 2048]⟩
abbrev S_ : Shape := ⟨0, ![]⟩

class Facts : Prop where
  bcast_S_S4096x2048 : S_.BroadcastsInDim S4096x2048 (![] : Fin 0 → Fin S4096x2048.rank)
  bcast_S_S4096x4032 : S_.BroadcastsInDim S4096x4032 (![] : Fin 0 → Fin S4096x4032.rank)
  bcast_S_S4096x1024 : S_.BroadcastsInDim S4096x1024 (![] : Fin 0 → Fin S4096x1024.rank)
  bcast_S_S2048x2048 : S_.BroadcastsInDim S2048x2048 (![] : Fin 0 → Fin S2048x2048.rank)

variable [Facts]

def fn {F : FTy → Type} [FloatOps F] (main_arg0 : FVec F S4096x2048 .f32) (main_arg1 : FVec F S4096x4032 .f32) (main_arg2 : FVec F S4096x1024 .f32) (main_arg3 : FVec F S4096x1024 .f32) (main_arg4 : FVec F S2048x2048 .f32) : IVec S4096x2048 1 × IVec S4096x4032 1 × IVec S4096x1024 1 × IVec S4096x1024 1 × IVec S2048x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x4032 .f32 := Host.absf main_arg1
  let main_cst_0 : FVec F S_ .f32 := constant S_ .f32 0x7F800000#32
  let main_v4 : FVec F S4096x4032 .f32 := broadcastInDim S4096x4032 ![] bcast_S_S4096x4032 main_cst_0
  let main_v5 : IVec S4096x4032 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S2048x2048 .f32 := Host.absf main_arg4
  let main_cst_3 : FVec F S_ .f32 := constant S_ .f32 0x7F800000#32
  let main_v13 : FVec F S2048x2048 .f32 := broadcastInDim S2048x2048 ![] bcast_S_S2048x2048 main_cst_3
  let main_v14 : IVec S2048x2048 1 := cmpf .olt main_v12 main_v13
  (main_v2, main_v5, main_v8, main_v11, main_v14)
-- ==== Pre_inp_finite.lean ====
abbrev S4096x4032 : Shape := ⟨2, ![4096, 4032]⟩
abbrev S2048x4032 : Shape := ⟨2, ![2048, 4032]⟩
abbrev S4096x2048 : Shape := ⟨2, ![4096, 2048]⟩
abbrev S2048 : Shape := ⟨1, ![2048]⟩
abbrev S_ : Shape := ⟨0, ![]⟩

class Facts : Prop where
  bcast_S_S4096x4032 : S_.BroadcastsInDim S4096x4032 (![] : Fin 0 → Fin S4096x4032.rank)
  bcast_S_S2048x4032 : S_.BroadcastsInDim S2048x4032 (![] : Fin 0 → Fin S2048x4032.rank)
  bcast_S_S4096x2048 : S_.BroadcastsInDim S4096x2048 (![] : Fin 0 → Fin S4096x2048.rank)
  bcast_S_S2048 : S_.BroadcastsInDim S2048 (![] : Fin 0 → Fin S2048.rank)

variable [Facts]

def fn {F : FTy → Type} [FloatOps F] (main_arg0 : FVec F S4096x4032 .f32) (main_arg1 : FVec F S2048x4032 .f32) (main_arg2 : FVec F S4096x2048 .f32) (main_arg3 : FVec F S4096x2048 .f32) (main_arg4 : FVec F S2048 .f32) : IVec S4096x4032 1 × IVec S2048x4032 1 × IVec S4096x2048 1 × IVec S4096x2048 1 × IVec S2048 1 :=
  let main_v0 : FVec F S4096x4032 .f32 := Host.absf main_arg0
  let main_cst : FVec F S_ .f32 := constant S_ .f32 0x7F800000#32
  let main_v1 : FVec F S4096x4032 .f32 := broadcastInDim S4096x4032 ![] bcast_S_S4096x4032 main_cst
  let main_v2 : IVec S4096x4032 1 := cmpf .olt main_v0 main_v1
  let main_v3 : FVec F S2048x4032 .f32 := Host.absf main_arg1
  let main_cst_0 : FVec F S_ .f32 := constant S_ .f32 0x7F800000#32
  let main_v4 : FVec F S2048x4032 .f32 := broadcastInDim S2048x4032 ![] bcast_S_S2048x4032 main_cst_0
  let main_v5 : IVec S2048x4032 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  let main_v9 : FVec F S4096x2048 .f32 := Host.absf main_arg3
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_v12 : FVec F S2048 .f32 := Host.absf main_arg4
  let main_cst_3 : FVec F S_ .f32 := constant S_ .f32 0x7F800000#32
  let main_v13 : FVec F S2048 .f32 := broadcastInDim S2048 ![] bcast_S_S2048 main_cst_3
  let main_v14 : IVec S2048 1 := cmpf .olt main_v12 main_v13
  (main_v2, main_v5, main_v8, main_v11, main_v14)
-- ==== Pre_loss_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  bcast_S_S2048 : S_.BroadcastsInDim S2048 (![] : Fin 0 → Fin S2048.rank)

variable [Facts]

def fn {F : FTy → Type} [FloatOps F] (main_arg0 : FVec F S4096x2048 .f32) (main_arg1 : FVec F S4096x2048 .f32) (main_arg2 : FVec F S2048 .f32) : IVec S4096x2048 1 × IVec S4096x2048 1 × IVec S2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  (main_v2, main_v5, main_v8)
-- ==== Pre_mla_finite.lean ====
abbrev S4096x8x128 : Shape := ⟨3, ![4096, 8, 128]⟩
abbrev S4096x8x64 : Shape := ⟨3, ![4096, 8, 64]⟩
abbrev S4096x64 : Shape := ⟨2, ![4096, 64]⟩
abbrev S4096x1024 : Shape := ⟨2, ![4096, 1024]⟩
abbrev S_ : Shape := ⟨0, ![]⟩

class Facts : Prop where
  bcast_S_S4096x8x128 : S_.BroadcastsInDim S4096x8x128 (![] : Fin 0 → Fin S4096x8x128.rank)
  bcast_S_S4096x8x64 : S_.BroadcastsInDim S4096x8x64 (![] : Fin 0 → Fin S4096x8x64.rank)
  bcast_S_S4096x64 : S_.BroadcastsInDim S4096x64 (![] : Fin 0 → Fin S4096x64.rank)
  bcast_S_S4096x1024 : S_.BroadcastsInDim S4096x1024 (![] : Fin 0 → Fin S4096x1024.rank)

variable [Facts]

def fn {F : FTy → Type} [FloatOps F] (main_arg0 : FVec F S4096x8x128 .f32) (main_arg1 : FVec F S4096x8x64 .f32) (main_arg2 : FVec F S4096x8x128 .f32) (main_arg3 : FVec F S4096x64 .f32) (main_arg4 : FVec F S4096x8x128 .f32) (main_arg5 : FVec F S4096x1024 .f32) : IVec S4096x8x128 1 × IVec S4096x8x64 1 × IVec S4096x8x128 1 × IVec S4096x64 1 × IVec S4096x8x128 1 × IVec S4096x1024 1 :=
  let main_v0 : FVec F S4096x8x128 .f32 := Host.absf main_arg0
  let main_cst : FVec F S_ .f32 := constant S_ .f32 0x7F800000#32
  let main_v1 : FVec F S4096x8x128 .f32 := broadcastInDim S4096x8x128 ![] bcast_S_S4096x8x128 main_cst
  let main_v2 : IVec S4096x8x128 1 := cmpf .olt main_v0 main_v1
  let main_v3 : FVec F S4096x8x64 .f32 := Host.absf main_arg1
  let main_cst_0 : FVec F S_ .f32 := constant S_ .f32 0x7F800000#32
  let main_v4 : FVec F S4096x8x64 .f32 := broadcastInDim S4096x8x64 ![] bcast_S_S4096x8x64 main_cst_0
  let main_v5 : IVec S4096x8x64 1 := cmpf .olt main_v3 main_v4
  let main_v6 : FVec F S4096x8x128 .f32 := Host.absf main_arg2
  let main_cst_1 : FVec F S_ .f32 := constant S_ .f32 0x7F800000#32
  let main_v7 : FVec F S4096x8x128 .f32 := broadcastInDim S4096x8x128 ![] bcast_S_S4096x8x128 main_cst_1
  let main_v8 : IVec S4096x8x128 1 := cmpf .olt main_v6 main_v7
  let main_v9 : FVec F S4096x64 .f32 := Host.absf main_arg3
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_v12 : FVec F S4096x8x128 .f32 := Host.absf main_arg4
  let main_cst_3 : FVec F S_ .f32 := constant S_ .f32 0x7F800000#32
  let main_v13 : FVec F S4096x8x128 .f32 := broadcastInDim S4096x8x128 ![] bcast_S_S4096x8x128 main_cst_3
  let main_v14 : IVec S4096x8x128 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_win_finite.lean ====
abbrev S4096x4032 : Shape := ⟨2, ![4096, 4032]⟩
abbrev S16 : Shape := ⟨1, ![16]⟩
abbrev S_ : Shape := ⟨0, ![]⟩

class Facts : Prop where
  bcast_S_S4096x4032 : S_.BroadcastsInDim S4096x4032 (![] : Fin 0 → Fin S4096x4032.rank)
  bcast_S_S16 : S_.BroadcastsInDim S16 (![] : Fin 0 → Fin S16.rank)

variable [Facts]

def fn {F : FTy → Type} [FloatOps F] (main_arg0 : FVec F S4096x4032 .f32) (main_arg1 : FVec F S16 .f32) : IVec S4096x4032 1 × IVec S16 1 :=
  let main_v0 : FVec F S4096x4032 .f32 := Host.absf main_arg0
  let main_cst : FVec F S_ .f32 := constant S_ .f32 0x7F800000#32
  let main_v1 : FVec F S4096x4032 .f32 := broadcastInDim S4096x4032 ![] bcast_S_S4096x4032 main_cst
  let main_v2 : IVec S4096x4032 1 := cmpf .olt main_v0 main_v1
  let main_v3 : FVec F S16 .f32 := Host.absf main_arg1
  let main_cst_0 : FVec F S_ .f32 := constant S_ .f32 0x7F800000#32
  let main_v4 : FVec F S16 .f32 := broadcastInDim S16 ![] bcast_S_S16 main_cst_0
  let main_v5 : IVec S16 1 := cmpf .olt main_v3 main_v4
  (main_v2, main_v5)
-- ==== LossKernel.lean ====
abbrev S4096x2048 : Shape := ⟨2, ![4096, 2048]⟩
abbrev S2048 : Shape := ⟨1, ![2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .hbm, ⟨7, _⟩ => ⟨S8x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S8x128 : Shape := ⟨2, ![8, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .bf16⟩
  | .hbm, ⟨72, _⟩ => ⟨S1x2048, .f32⟩
  | .hbm, ⟨73, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== MlaKernel.lean ====
abbrev S4096x8x128 : Shape := ⟨3, ![4096, 8, 128]⟩
abbrev S4096x8x64 : Shape := ⟨3, ![4096, 8, 64]⟩
abbrev S4096x64 : Shape := ⟨2, ![4096, 64]⟩
abbrev S4096x1024 : Shape := ⟨2, ![4096, 1024]⟩
abbrev S_ : Shape := ⟨0, ![]⟩
abbrev S8x4096x4096 : Shape := ⟨3, ![8, 4096, 4096]⟩
abbrev S4096x4096x8 : Shape := ⟨3, ![4096, 4096, 8]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8 : Shape := ⟨2, ![4096, 8]⟩
abbrev S4096x8x256 : Shape := ⟨3, ![4096, 8, 256]⟩
abbrev S8x4096x256 : Shape := ⟨3, ![8, 4096, 256]⟩
abbrev S4096x1x64 : Shape := ⟨3, ![4096, 1, 64]⟩
abbrev S8x4096x128 : Shape := ⟨3, ![8, 4096, 128]⟩
abbrev S8x1x4096 : Shape := ⟨3, ![8, 1, 4096]⟩
abbrev S8x8x4096 : Shape := ⟨3, ![8, 8, 4096]⟩
abbrev S1x4096x256 : Shape := ⟨3, ![1, 4096, 256]⟩
abbrev S1x512x256 : Shape := ⟨3, ![1, 512, 256]⟩
abbrev S1x512x128 : Shape := ⟨3, ![1, 512, 128]⟩
abbrev S4096x128 : Shape := ⟨2, ![4096, 128]⟩
abbrev S1x8x4096 : Shape := ⟨3, ![1, 8, 4096]⟩
abbrev S512x256 : Shape := ⟨2, ![512, 256]⟩
abbrev S512x128 : Shape := ⟨2, ![512, 128]⟩
abbrev S512x512 : Shape := ⟨2, ![512, 512]⟩
abbrev S1x1x512 : Shape := ⟨3, ![1, 1, 512]⟩
abbrev S1x512 : Shape := ⟨2, ![1, 512]⟩
abbrev S1x2048x256 : Shape := ⟨3, ![1, 2048, 256]⟩
abbrev S2048x256 : Shape := ⟨2, ![2048, 256]⟩
abbrev S2048x128 : Shape := ⟨2, ![2048, 128]⟩
abbrev S512x2048 : Shape := ⟨2, ![512, 2048]⟩
abbrev S1x1x2048 : Shape := ⟨3, ![1, 1, 2048]⟩
abbrev S1x2048 : Shape := ⟨2, ![1, 2048]⟩
abbrev S1x1024x256 : Shape := ⟨3, ![1, 1024, 256]⟩
abbrev S1024x256 : Shape := ⟨2, ![1024, 256]⟩
abbrev S1024x128 : Shape := ⟨2, ![1024, 128]⟩
abbrev S512x1024 : Shape := ⟨2, ![512, 1024]⟩
abbrev S1x1x1024 : Shape := ⟨3, ![1, 1, 1024]⟩
abbrev S1x1024 : Shape := ⟨2, ![1, 1024]⟩
abbrev S8x4096x64 : Shape := ⟨3, ![8, 4096, 64]⟩

abbrev nBuf : Space → Nat
  | .hbm => 112
  | .vmem => 18
  | .smem => 0
  | _ => 0

abbrev bufTy : (tb : Table) → Fin (tcTables nBuf tb) → BufTy
  | .hbm, ⟨0, _⟩ => ⟨S4096x8x128, .f32⟩
  | .hbm, ⟨1, _⟩ => ⟨S4096x8x64, .f32⟩
  | .hbm, ⟨2, _⟩ => ⟨S4096x8x128, .f32⟩
  | .hbm, ⟨3, _⟩ => ⟨S4096x64, .f32⟩
  | .hbm, ⟨4, _⟩ => ⟨S4096x8x128, .f32⟩
  | .hbm, ⟨5, _⟩ => ⟨S4096x1024, .f32⟩
  | .hbm, ⟨6, _⟩ => ⟨S_, .f32⟩
  | .hbm, ⟨7, _⟩ => ⟨S_, .f32⟩
  | .hbm, ⟨8, _⟩ => ⟨S8x4096x4096, .f32⟩
  | .hbm, ⟨9, _⟩ => ⟨S4096x4096x8, .f32⟩
  | .hbm, ⟨10, _⟩ => ⟨S8x4096x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S8x4096x4096, .i1⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S8x4096x1, .f32⟩
  | .hbm, ⟨35, _⟩ => ⟨S8x4096x1, .f32⟩
  | .hbm, ⟨36, _⟩ => ⟨S_, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S_, .f32⟩
  | .hbm, ⟨41, _⟩ => ⟨S_, .f32⟩
  | .hbm, ⟨42, _⟩ => ⟨S8x4096x4096, .f32⟩
  | .hbm, ⟨43, _⟩ => ⟨S4096x4096x8, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S4096, .i32⟩
  | .hbm, ⟨49, _⟩ => ⟨S1x4096, .i32⟩
  | .hbm, ⟨50, _⟩ => ⟨S4096x1, .i32⟩
  | .hbm, ⟨51, _⟩ => ⟨S4096x4096, .i32⟩
  | .hbm, ⟨52, _⟩ => ⟨S4096x4096, .i32⟩
  | .hbm, ⟨53, _⟩ => ⟨S4096x4096, .i1⟩
  | .hbm, ⟨54, _⟩ => ⟨S_, .f32⟩
  | .hbm, ⟨55, _⟩ => ⟨S_, .f32⟩
  | .hbm, ⟨56, _⟩ => ⟨S8x4096x4096, .i1⟩
  | .hbm, ⟨57, _⟩ => ⟨S8x4096x4096, .f32⟩
  | .hbm, ⟨58, _⟩ => ⟨S8x4096x4096, .f32⟩
  | .hbm, ⟨59, _⟩ => ⟨S_, .f32⟩
  | .hbm, ⟨60, _⟩ => ⟨S8x4096, .f32⟩
  | .hbm, ⟨61, _⟩ => ⟨S_, .f32⟩
  | .hbm, ⟨62, _⟩ => ⟨S8x4096, .f32⟩
  | .hbm, ⟨63, _⟩ => ⟨S8x4096, .f32⟩
  | .hbm, ⟨64, _⟩ => ⟨S8x4096x1, .f32⟩
  | .hbm, ⟨65, _⟩ => ⟨S8x4096x4096, .f32⟩
  | .hbm, ⟨66, _⟩ => ⟨S8x4096x4096, .f32⟩
  | .hbm, ⟨67, _⟩ => ⟨S8x4096x4096, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S8x4096x4096, .f32⟩
  | .hbm, ⟨72, _⟩ => ⟨S8x4096x4096, .f32⟩
  | .hbm, ⟨73, _⟩ => ⟨S8x128x4096, .f32⟩
  | .hbm, ⟨74, _⟩ => ⟨S4096x8x128, .f32⟩
  | .hbm, ⟨75, _⟩ => ⟨S4096x1024, .f32⟩
  | .hbm, ⟨76, _⟩ => ⟨S4096x1024, .f32⟩
  | .hbm, ⟨77, _⟩ => ⟨S4096x8x128, .f32⟩
  | .hbm, ⟨78, _⟩ => ⟨S_, .f32⟩
  | .hbm, ⟨79, _⟩ => ⟨S4096x8, .f32⟩
  | .hbm, ⟨80, _⟩ => ⟨S_, .f32⟩
  | .hbm, ⟨81, _⟩ => ⟨S4096x8x64, .f32⟩
  | .hbm, ⟨82, _⟩ => ⟨S4096x8x256, .f32⟩
  | .hbm, ⟨83, _⟩ => ⟨S8x4096x256, .f32⟩
  | .hbm, ⟨84, _⟩ => ⟨S4096x1x64, .f32⟩
  | .hbm, ⟨85, _⟩ => ⟨S4096x8x64, .f32⟩
  | .hbm, ⟨86, _⟩ => ⟨S4096x8x256, .f32⟩
  | .hbm, ⟨87, _⟩ => ⟨S8x4096x256, .f32⟩
  | .hbm, ⟨88, _⟩ => ⟨S8x4096x256, .bf16⟩
  | .hbm, ⟨89, _⟩ => ⟨S8x4096x256, .bf16⟩
  | .hbm, ⟨90, _⟩ => ⟨S8x4096x128, .f32⟩
  | .hbm, ⟨91, _⟩ => ⟨S8x4096x128, .bf16⟩
  | .hbm, ⟨92, _⟩ => ⟨S4096x1024, .bf16⟩
  | .hbm, ⟨93, _⟩ => ⟨S8x4096, .f32⟩
  | .hbm, ⟨94, _⟩ => ⟨S8x1x4096, .f32⟩
  | .hbm, ⟨95, _⟩ => ⟨S8x8x4096, .f32⟩
  | .hbm, ⟨96, _⟩ => ⟨S8x4096, .f32⟩
  | .hbm, ⟨97, _⟩ => ⟨S8x1x4096, .f32⟩
  | .hbm, ⟨98, _⟩ => ⟨S8x8x4096, .f32⟩
  | .hbm, ⟨99, _⟩ => ⟨S8x4096x256, .f32⟩
  | .hbm, ⟨100, _⟩ => ⟨S8x4096x256, .f32⟩
  | .hbm, ⟨101, _⟩ => ⟨S8x4096x128, .f32⟩
  | .hbm, ⟨102, _⟩ => ⟨S8x4096x128, .f32⟩
  | .hbm, ⟨103, _⟩ => ⟨S4096x8x128, .f32⟩
  | .hbm, ⟨104, _⟩ => ⟨S8x4096x64, .f32⟩
  | .hbm, ⟨105, _⟩ => ⟨S4096x8x64, .f32⟩
  | .hbm, ⟨106, _⟩ => ⟨S8x4096x128, .f32⟩
  | .hbm, ⟨107, _⟩ => ⟨S4096x8x128, .f32⟩
  | .hbm, ⟨108, _⟩ => ⟨S8x4096x64, .f32⟩
  | .hbm, ⟨109, _⟩ => ⟨S_, .f32⟩
  | .hbm, ⟨110, _⟩ => ⟨S4096x64, .f32⟩
  | .hbm, ⟨111, _⟩ => ⟨S4096x8x128, .f32⟩
  | .local _ .vmem, ⟨0, _⟩ => ⟨S1x4096x256, .bf16⟩
  | .local _ .vmem, ⟨1, _⟩ => ⟨S1x4096x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x128, .bf16⟩
  | .local _ .vmem, ⟨5, _⟩ => ⟨S1x512x128, .bf16⟩
  | .local _ .vmem, ⟨6, _⟩ => ⟨S4096x128, .bf16⟩
  | .local _ .vmem, ⟨7, _⟩ => ⟨S4096x128, .bf16⟩
  | .local _ .vmem, ⟨8, _⟩ => ⟨S1x8x4096, .f32⟩
  | .local _ .vmem, ⟨9, _⟩ => ⟨S1x8x4096, .f32⟩
  | .local _ .vmem, ⟨10, _⟩ => ⟨S1x8x4096, .f32⟩
  | .local _ .vmem, ⟨11, _⟩ => ⟨S1x8x4096, .f32⟩
  | .local _ .vmem, ⟨12, _⟩ => ⟨S1x4096x256, .f32⟩
  | .local _ .vmem, ⟨13, _⟩ => ⟨S1x4096x256, .f32⟩
  | .local _ .vmem, ⟨14, _⟩ => ⟨S1x512x256, .f32⟩
  | .local _ .vmem, ⟨15, _⟩ => ⟨S1x512x256, .f32⟩
  | .local _ .vmem, ⟨16, _⟩ => ⟨S1x512x128, .f32⟩
  | .local _ .vmem, ⟨17, _⟩ => ⟨S1x512x128, .f32⟩
  | _, _ => ⟨S4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75_0 : Ref sig .tc := ⟨.hbm, 99, rfl⟩
abbrev main_v75_1 : Ref sig .tc := ⟨.hbm, 100, rfl⟩
abbrev main_v75_2 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_11 : Ref sig .tc := ⟨.hbm, 109, rfl⟩
abbrev main_v83 : Ref sig .tc := ⟨.hbm, 110, rfl⟩
abbrev main_v84 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 3 → Nat :=
  let c0 : Index := 0#32
  let arg1 : BitVec 32 := BitVec.ofNat 32 (i 1).val
  let c512_i32 : BitVec 32 := 512#32
  let v0 : BitVec 32 := Scalar.muli arg1 c512_i32
  let v1 : BitVec 32 := v0
  let v2 : Index := Scalar.indexCast v1
  let c0_0 : Index := 0#32
  ![0, v2.toNat, 0]
def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v7 : Index := Scalar.indexCast v1
  let c0_4 : Index := 0#32
  ![v7.toNat, 0]
def k0_off3 (i : grid0.Coords) : Fin 3 → Nat :=
  let c0_7 : Index := 0#32
  let c0_8 : Index := 0#32
  let arg1 : BitVec 32 := BitVec.ofNat 32 (i 1).val
  let c512_i32 : BitVec 32 := 512#32
  let v0 : BitVec 32 := Scalar.muli arg1 c512_i32
  let v1 : BitVec 32 := v0
  let v18 : Index := Scalar.indexCast v1
  ![0, 0, v18.toNat]
def k0_cond1 (i : grid0.Coords) : BitVec 1 :=
  let arg1 : BitVec 32 := BitVec.ofNat 32 (i 1).val
  let c0_i32 : BitVec 32 := 0#32
  let v45 : BitVec 1 := Scalar.cmpi .eq arg1 c0_i32
  let v46 : BitVec 32 := Scalar.extui v45
  let c0_i32_24 : BitVec 32 := 0#32
  let v47 : BitVec 1 := Scalar.cmpi .ne v46 c0_i32_24
  v47

def k0_off4 (i : grid0.Coords) : Fin 3 → Nat :=
  let c0_60 : Index := 0#32
  let arg1 : BitVec 32 := BitVec.ofNat 32 (i 1).val
  let c512_i32 : BitVec 32 := 512#32
  let v0 : BitVec 32 := Scalar.muli arg1 c512_i32
  let v1 : BitVec 32 := v0
  let v109 : Index := Scalar.indexCast v1
  let c0_61 : Index := 0#32
  ![0, v109.toNat, 0]
def k0_cond2 (i : grid0.Coords) : BitVec 1 :=
  let arg1 : BitVec 32 := BitVec.ofNat 32 (i 1).val
  let c0_i32_25 : BitVec 32 := 0#32
  let v48 : BitVec 1 := Scalar.cmpi .sgt arg1 c0_i32_25
  let v49 : BitVec 32 := Scalar.extui v48
  let c0_i32_26 : BitVec 32 := 0#32
  let v50 : BitVec 1 := Scalar.cmpi .ne v49 c0_i32_26
  v50

def k0_off5 (i : grid0.Coords) : Fin 3 → Nat :=
  let c0_59 : Index := 0#32
  let arg1 : BitVec 32 := BitVec.ofNat 32 (i 1).val
  let c512_i32 : BitVec 32 := 512#32
  let v0 : BitVec 32 := Scalar.muli arg1 c512_i32
  let v1 : BitVec 32 := v0
  let v107 : Index := Scalar.indexCast v1
  let c0_60 : Index := 0#32
  ![0, v107.toNat, 0]
@[reducible] def k0_t1_loop (i : grid0.Coords) : Scf.Loop 32 :=
  let c0_i32_33 : BitVec 32 := 0#32
  let c7_i32 : BitVec 32 := 7#32
  let arg1 : BitVec 32 := BitVec.ofNat 32 (i 1).val
  let v51 : BitVec 32 := Scalar.subi c7_i32 arg1
  let c0_i32_27 : BitVec 32 := 0#32
  let v53 : BitVec 1 := Scalar.cmpi .sgt v51 c0_i32_27
  let v54 : BitVec 32 := Scalar.extui v53
  let c0_i32_28 : BitVec 32 := 0#32
  let v55 : BitVec 1 := Scalar.cmpi .slt v51 c0_i32_28
  let v56 : BitVec 32 := Scalar.extui v55
  let v57 : BitVec 32 := Scalar.subi v54 v56
  let c4_i32 : BitVec 32 := 4#32
  let c0_i32_29 : BitVec 32 := 0#32
  let v58 : BitVec 1 := Scalar.cmpi .sgt c4_i32 c0_i32_29
  let v59 : BitVec 32 := Scalar.extui v58
  let c0_i32_30 : BitVec 32 := 0#32
  let v60 : BitVec 1 := Scalar.cmpi .slt c4_i32 c0_i32_30
  let v61 : BitVec 32 := Scalar.extui v60
  let v62 : BitVec 32 := Scalar.subi v59 v61
  let v63 : BitVec 1 := Scalar.cmpi .ne v57 v62
  let v64 : BitVec 32 := Scalar.remsi v51 c4_i32
  let c0_i32_31 : BitVec 32 := 0#32
  let v65 : BitVec 1 := Scalar.cmpi .ne v64 c0_i32_31
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_33
  let c1_i32_34 : BitVec 32 := 1#32
  let v71 : BitVec 32 := Scalar.divsi v69 c1_i32_34
  let v72 : BitVec 32 := Scalar.muli v71 c1_i32_34
  let v73 : BitVec 32 := Scalar.addi c0_i32_33 v72
  let c1_i32_35 : BitVec 32 := 1#32
  ⟨c0_i32_33, v73, c1_i32_35⟩
def k0_mult2 (i : grid0.Coords) (k0_t1 : Fin (k0_t1_loop i).trips) : BitVec 32 :=
  let arg1 : BitVec 32 := BitVec.ofNat 32 (i 1).val
  let c1_i32_59 : BitVec 32 := 1#32
  let v107 : BitVec 32 := Scalar.addi arg1 c1_i32_59
  let c4_i32_60 : BitVec 32 := 4#32
  let c0_i32_33 : BitVec 32 := 0#32
  let c1_i32_35 : BitVec 32 := 1#32
  let arg11 : BitVec 32 := Scf.iv c0_i32_33 c1_i32_35 k0_t1
  let v108 : BitVec 32 := Scalar.muli c4_i32_60 arg11
  let v109 : BitVec 32 := Scalar.addi v107 v108
  let c512_i32_61 : BitVec 32 := 512#32
  let v110 : BitVec 32 := Scalar.muli v109 c512_i32_61
  v110
def k0_off6 (i : grid0.Coords) (k0_t1 : Fin (k0_t1_loop i).trips) : Fin 3 → Nat :=
  let c0_62 : Index := 0#32
  let arg1 : BitVec 32 := BitVec.ofNat 32 (i 1).val
  let c1_i32_59 : BitVec 32 := 1#32
  let v107 : BitVec 32 := Scalar.addi arg1 c1_i32_59
  let c4_i32_60 : BitVec 32 := 4#32
  let c0_i32_33 : BitVec 32 := 0#32
  let c1_i32_35 : BitVec 32 := 1#32
  let arg11 : BitVec 32 := Scf.iv c0_i32_33 c1_i32_35 k0_t1
  let v108 : BitVec 32 := Scalar.muli c4_i32_60 arg11
  let v109 : BitVec 32 := Scalar.addi v107 v108
  let c512_i32_61 : BitVec 32 := 512#32
  let v110 : BitVec 32 := Scalar.muli v109 c512_i32_61
  let v111 : BitVec 32 := v110
  let v112 : Index := Scalar.indexCast v111
  let c0_63 : Index := 0#32
  ![0, v112.toNat, 0]
def k0_off7 (i : grid0.Coords) (k0_t1 : Fin (k0_t1_loop i).trips) : Fin 2 → Nat :=
  let arg1 : BitVec 32 := BitVec.ofNat 32 (i 1).val
  let c1_i32_59 : BitVec 32 := 1#32
  let v107 : BitVec 32 := Scalar.addi arg1 c1_i32_59
  let c4_i32_60 : BitVec 32 := 4#32
  let c0_i32_33 : BitVec 32 := 0#32
  let c1_i32_35 : BitVec 32 := 1#32
  let arg11 : BitVec 32 := Scf.iv c0_i32_33 c1_i32_35 k0_t1
  let v108 : BitVec 32 := Scalar.muli c4_i32_60 arg11
  let v109 : BitVec 32 := Scalar.addi v107 v108
  let c512_i32_61 : BitVec 32 := 512#32
  let v110 : BitVec 32 := Scalar.muli v109 c512_i32_61
  let v111 : BitVec 32 := v110
  let v117 : Index := Scalar.indexCast v111
  let c0_67 : Index := 0#32
  ![v117.toNat, 0]
def k0_off8 (i : grid0.Coords) (k0_t1 : Fin (k0_t1_loop i).trips) : Fin 3 → Nat :=
  let c0_70 : Index := 0#32
  let c0_71 : Index := 0#32
  let arg1 : BitVec 32 := BitVec.ofNat 32 (i 1).val
  let c1_i32_59 : BitVec 32 := 1#32
  let v107 : BitVec 32 := Scalar.addi arg1 c1_i32_59
  let c4_i32_60 : BitVec 32 := 4#32
  let c0_i32_33 : BitVec 32 := 0#32
  let c1_i32_35 : BitVec 32 := 1#32
  let arg11 : BitVec 32 := Scf.iv c0_i32_33 c1_i32_35 k0_t1
  let v108 : BitVec 32 := Scalar.muli c4_i32_60 arg11
  let v109 : BitVec 32 := Scalar.addi v107 v108
  let c512_i32_61 : BitVec 32 := 512#32
  let v110 : BitVec 32 := Scalar.muli v109 c512_i32_61
  let v111 : BitVec 32 := v110
  let v123 : Index := Scalar.indexCast v111
  ![0, 0, v123.toNat]
def k0_cond3 (i : grid0.Coords) : BitVec 1 :=
  let arg1 : BitVec 32 := BitVec.ofNat 32 (i 1).val
  let c0_i32_93 : BitVec 32 := 0#32
  let v156 : BitVec 1 := Scalar.cmpi .eq arg1 c0_i32_93
  let v157 : BitVec 32 := Scalar.extui v156
  let c0_i32_94 : BitVec 32 := 0#32
  let v158 : BitVec 1 := Scalar.cmpi .ne v157 c0_i32_94
  v158

def k0_off9 (i : grid0.Coords) (k0_t1 : Fin (k0_t1_loop i).trips) : Fin 3 → Nat :=
  let c0_97 : Index := 0#32
  let arg1 : BitVec 32 := BitVec.ofNat 32 (i 1).val
  let c1_i32_59 : BitVec 32 := 1#32
  let v107 : BitVec 32 := Scalar.addi arg1 c1_i32_59
  let c4_i32_60 : BitVec 32 := 4#32
  let c0_i32_33 : BitVec 32 := 0#32
  let c1_i32_35 : BitVec 32 := 1#32
  let arg11 : BitVec 32 := Scf.iv c0_i32_33 c1_i32_35 k0_t1
  let v108 : BitVec 32 := Scalar.muli c4_i32_60 arg11
  let v109 : BitVec 32 := Scalar.addi v107 v108
  let c512_i32_61 : BitVec 32 := 512#32
  let v110 : BitVec 32 := Scalar.muli v109 c512_i32_61
  let v111 : BitVec 32 := v110
  let v162 : Index := Scalar.indexCast v111
  let c0_98 : Index := 0#32
  ![0, v162.toNat, 0]
def k0_cond4 (i : grid0.Coords) : BitVec 1 :=
  let arg1 : BitVec 32 := BitVec.ofNat 32 (i 1).val
  let c0_i32_95 : BitVec 32 := 0#32
  let v159 : BitVec 1 := Scalar.cmpi .sgt arg1 c0_i32_95
  let v160 : BitVec 32 := Scalar.extui v159
  let c0_i32_96 : BitVec 32 := 0#32
  let v161 : BitVec 1 := Scalar.cmpi .ne v160 c0_i32_96
  v161

def k0_off10 (i : grid0.Coords) (k0_t1 : Fin (k0_t1_loop i).trips) : Fin 3 → Nat :=
  let c0_97 : Index := 0#32
  let arg1 : BitVec 32 := BitVec.ofNat 32 (i 1).val
  let c1_i32_59 : BitVec 32 := 1#32
  let v107 : BitVec 32 := Scalar.addi arg1 c1_i32_59
  let c4_i32_60 : BitVec 32 := 4#32
  let c0_i32_33 : BitVec 32 := 0#32
  let c1_i32_35 : BitVec 32 := 1#32
  let arg11 : BitVec 32 := Scf.iv c0_i32_33 c1_i32_35 k0_t1
  let v108 : BitVec 32 := Scalar.muli c4_i32_60 arg11
  let v109 : BitVec 32 := Scalar.addi v107 v108
  let c512_i32_61 : BitVec 32 := 512#32
  let v110 : BitVec 32 := Scalar.muli v109 c512_i32_61
  let v111 : BitVec 32 := v110
  let v162 : Index := Scalar.indexCast v111
  let c0_98 : Index := 0#32
  ![0, v162.toNat, 0]
@[reducible] def k0_t2_loop (i : grid0.Coords) : Scf.Loop 32 :=
  let c0_i32_33 : BitVec 32 := 0#32
  let c7_i32 : BitVec 32 := 7#32
  let arg1 : BitVec 32 := BitVec.ofNat 32 (i 1).val
  let v51 : BitVec 32 := Scalar.subi c7_i32 arg1
  let c0_i32_27 : BitVec 32 := 0#32
  let v53 : BitVec 1 := Scalar.cmpi .sgt v51 c0_i32_27
  let v54 : BitVec 32 := Scalar.extui v53
  let c0_i32_28 : BitVec 32 := 0#32
  let v55 : BitVec 1 := Scalar.cmpi .slt v51 c0_i32_28
  let v56 : BitVec 32 := Scalar.extui v55
  let v57 : BitVec 32 := Scalar.subi v54 v56
  let c4_i32 : BitVec 32 := 4#32
  let c0_i32_29 : BitVec 32 := 0#32
  let v58 : BitVec 1 := Scalar.cmpi .sgt c4_i32 c0_i32_29
  let v59 : BitVec 32 := Scalar.extui v58
  let c0_i32_30 : BitVec 32 := 0#32
  let v60 : BitVec 1 := Scalar.cmpi .slt c4_i32 c0_i32_30
  let v61 : BitVec 32 := Scalar.extui v60
  let v62 : BitVec 32 := Scalar.subi v59 v61
  let v63 : BitVec 1 := Scalar.cmpi .ne v57 v62
  let v64 : BitVec 32 := Scalar.remsi v51 c4_i32
  let c0_i32_31 : BitVec 32 := 0#32
  let v65 : BitVec 1 := Scalar.cmpi .ne v64 c0_i32_31
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_33
  let c1_i32_34 : BitVec 32 := 1#32
  let v71 : BitVec 32 := Scalar.divsi v69 c1_i32_34
  let v72 : BitVec 32 := Scalar.muli v71 c1_i32_34
  let v73 : BitVec 32 := Scalar.addi c0_i32_33 v72
  let v70 : BitVec 32 := Scalar.addi c0_i32_33 v69
  let c1_i32_36 : BitVec 32 := 1#32
  ⟨v73, v70, c1_i32_36⟩
def k0_mult3 (i : grid0.Coords) (k0_t2 : Fin (k0_t2_loop i).trips) : BitVec 32 :=
  let arg1 : BitVec 32 := BitVec.ofNat 32 (i 1).val
  let c1_i32_59 : BitVec 32 := 1#32
  let v107 : BitVec 32 := Scalar.addi arg1 c1_i32_59
  let c4_i32_60 : BitVec 32 := 4#32
  let c0_i32_33 : BitVec 32 := 0#32
  let c7_i32 : BitVec 32 := 7#32
  let v51 : BitVec 32 := Scalar.subi c7_i32 arg1
  let c0_i32_27 : BitVec 32 := 0#32
  let v53 : BitVec 1 := Scalar.cmpi .sgt v51 c0_i32_27
  let v54 : BitVec 32 := Scalar.extui v53
  let c0_i32_28 : BitVec 32 := 0#32
  let v55 : BitVec 1 := Scalar.cmpi .slt v51 c0_i32_28
  let v56 : BitVec 32 := Scalar.extui v55
  let v57 : BitVec 32 := Scalar.subi v54 v56
  let c4_i32 : BitVec 32 := 4#32
  let c0_i32_29 : BitVec 32 := 0#32
  let v58 : BitVec 1 := Scalar.cmpi .sgt c4_i32 c0_i32_29
  let v59 : BitVec 32 := Scalar.extui v58
  let c0_i32_30 : BitVec 32 := 0#32
  let v60 : BitVec 1 := Scalar.cmpi .slt c4_i32 c0_i32_30
  let v61 : BitVec 32 := Scalar.extui v60
  let v62 : BitVec 32 := Scalar.subi v59 v61
  let v63 : BitVec 1 := Scalar.cmpi .ne v57 v62
  let v64 : BitVec 32 := Scalar.remsi v51 c4_i32
  let c0_i32_31 : BitVec 32 := 0#32
  let v65 : BitVec 1 := Scalar.cmpi .ne v64 c0_i32_31
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_33
  let c1_i32_34 : BitVec 32 := 1#32
  let v71 : BitVec 32 := Scalar.divsi v69 c1_i32_34
  let v72 : BitVec 32 := Scalar.muli v71 c1_i32_34
  let v73 : BitVec 32 := Scalar.addi c0_i32_33 v72
  let c1_i32_36 : BitVec 32 := 1#32
  let arg11 : BitVec 32 := Scf.iv v73 c1_i32_36 k0_t2
  let v108 : BitVec 32 := Scalar.muli c4_i32_60 arg11
  let v109 : BitVec 32 := Scalar.addi v107 v108
  let c512_i32_61 : BitVec 32 := 512#32
  let v110 : BitVec 32 := Scalar.muli v109 c512_i32_61
  v110
def k0_off11 (i : grid0.Coords) (k0_t2 : Fin (k0_t2_loop i).trips) : Fin 3 → Nat :=
  let c0_62 : Index := 0#32
  let arg1 : BitVec 32 := BitVec.ofNat 32 (i 1).val
  let c1_i32_59 : BitVec 32 := 1#32
  let v107 : BitVec 32 := Scalar.addi arg1 c1_i32_59
  let c4_i32_60 : BitVec 32 := 4#32
  let c0_i32_33 : BitVec 32 := 0#32
  let c7_i32 : BitVec 32 := 7#32
  let v51 : BitVec 32 := Scalar.subi c7_i32 arg1
  let c0_i32_27 : BitVec 32 := 0#32
  let v53 : BitVec 1 := Scalar.cmpi .sgt v51 c0_i32_27
  let v54 : BitVec 32 := Scalar.extui v53
  let c0_i32_28 : BitVec 32 := 0#32
  let v55 : BitVec 1 := Scalar.cmpi .slt v51 c0_i32_28
  let v56 : BitVec 32 := Scalar.extui v55
  let v57 : BitVec 32 := Scalar.subi v54 v56
  let c4_i32 : BitVec 32 := 4#32
  let c0_i32_29 : BitVec 32 := 0#32
  let v58 : BitVec 1 := Scalar.cmpi .sgt c4_i32 c0_i32_29
  let v59 : BitVec 32 := Scalar.extui v58
  let c0_i32_30 : BitVec 32 := 0#32
  let v60 : BitVec 1 := Scalar.cmpi .slt c4_i32 c0_i32_30
  let v61 : BitVec 32 := Scalar.extui v60
  let v62 : BitVec 32 := Scalar.subi v59 v61
  let v63 : BitVec 1 := Scalar.cmpi .ne v57 v62
  let v64 : BitVec 32 := Scalar.remsi v51 c4_i32
  let c0_i32_31 : BitVec 32 := 0#32
  let v65 : BitVec 1 := Scalar.cmpi .ne v64 c0_i32_31
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_33
  let c1_i32_34 : BitVec 32 := 1#32
  let v71 : BitVec 32 := Scalar.divsi v69 c1_i32_34
  let v72 : BitVec 32 := Scalar.muli v71 c1_i32_34
  let v73 : BitVec 32 := Scalar.addi c0_i32_33 v72
  let c1_i32_36 : BitVec 32 := 1#32
  let arg11 : BitVec 32 := Scf.iv v73 c1_i32_36 k0_t2
  let v108 : BitVec 32 := Scalar.muli c4_i32_60 arg11
  let v109 : BitVec 32 := Scalar.addi v107 v108
  let c512_i32_61 : BitVec 32 := 512#32
  let v110 : BitVec 32 := Scalar.muli v109 c512_i32_61
  let v111 : BitVec 32 := v110
  let v112 : Index := Scalar.indexCast v111
  let c0_63 : Index := 0#32
  ![0, v112.toNat, 0]
def k0_off12 (i : grid0.Coords) (k0_t2 : Fin (k0_t2_loop i).trips) : Fin 2 → Nat :=
  let arg1 : BitVec 32 := BitVec.ofNat 32 (i 1).val
  let c1_i32_59 : BitVec 32 := 1#32
  let v107 : BitVec 32 := Scalar.addi arg1 c1_i32_59
  let c4_i32_60 : BitVec 32 := 4#32
  let c0_i32_33 : BitVec 32 := 0#32
  let c7_i32 : BitVec 32 := 7#32
  let v51 : BitVec 32 := Scalar.subi c7_i32 arg1
  let c0_i32_27 : BitVec 32 := 0#32
  let v53 : BitVec 1 := Scalar.cmpi .sgt v51 c0_i32_27
  let v54 : BitVec 32 := Scalar.extui v53
  let c0_i32_28 : BitVec 32 := 0#32
  let v55 : BitVec 1 := Scalar.cmpi .slt v51 c0_i32_28
  let v56 : BitVec 32 := Scalar.extui v55
  let v57 : BitVec 32 := Scalar.subi v54 v56
  let c4_i32 : BitVec 32 := 4#32
  let c0_i32_29 : BitVec 32 := 0#32
  let v58 : BitVec 1 := Scalar.cmpi .sgt c4_i32 c0_i32_29
  let v59 : BitVec 32 := Scalar.extui v58
  let c0_i32_30 : BitVec 32 := 0#32
  let v60 : BitVec 1 := Scalar.cmpi .slt c4_i32 c0_i32_30
  let v61 : BitVec 32 := Scalar.extui v60
  let v62 : BitVec 32 := Scalar.subi v59 v61
  let v63 : BitVec 1 := Scalar.cmpi .ne v57 v62
  let v64 : BitVec 32 := Scalar.remsi v51 c4_i32
  let c0_i32_31 : BitVec 32 := 0#32
  let v65 : BitVec 1 := Scalar.cmpi .ne v64 c0_i32_31
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_33
  let c1_i32_34 : BitVec 32 := 1#32
  let v71 : BitVec 32 := Scalar.divsi v69 c1_i32_34
  let v72 : BitVec 32 := Scalar.muli v71 c1_i32_34
  let v73 : BitVec 32 := Scalar.addi c0_i32_33 v72
  let c1_i32_36 : BitVec 32 := 1#32
  let arg11 : BitVec 32 := Scf.iv v73 c1_i32_36 k0_t2
  let v108 : BitVec 32 := Scalar.muli c4_i32_60 arg11
  let v109 : BitVec 32 := Scalar.addi v107 v108
  let c512_i32_61 : BitVec 32 := 512#32
  let v110 : BitVec 32 := Scalar.muli v109 c512_i32_61
  let v111 : BitVec 32 := v110
  let v117 : Index := Scalar.indexCast v111
  let c0_67 : Index := 0#32
  ![v117.toNat, 0]
def k0_off13 (i : grid0.Coords) (k0_t2 : Fin (k0_t2_loop i).trips) : Fin 3 → Nat :=
  let c0_70 : Index := 0#32
  let c0_71 : Index := 0#32
  let arg1 : BitVec 32 := BitVec.ofNat 32 (i 1).val
  let c1_i32_59 : BitVec 32 := 1#32
  let v107 : BitVec 32 := Scalar.addi arg1 c1_i32_59
  let c4_i32_60 : BitVec 32 := 4#32
  let c0_i32_33 : BitVec 32 := 0#32
  let c7_i32 : BitVec 32 := 7#32
  let v51 : BitVec 32 := Scalar.subi c7_i32 arg1
  let c0_i32_27 : BitVec 32 := 0#32
  let v53 : BitVec 1 := Scalar.cmpi .sgt v51 c0_i32_27
  let v54 : BitVec 32 := Scalar.extui v53
  let c0_i32_28 : BitVec 32 := 0#32
  let v55 : BitVec 1 := Scalar.cmpi .slt v51 c0_i32_28
  let v56 : BitVec 32 := Scalar.extui v55
  let v57 : BitVec 32 := Scalar.subi v54 v56
  let c4_i32 : BitVec 32 := 4#32
  let c0_i32_29 : BitVec 32 := 0#32
  let v58 : BitVec 1 := Scalar.cmpi .sgt c4_i32 c0_i32_29
  let v59 : BitVec 32 := Scalar.extui v58
  let c0_i32_30 : BitVec 32 := 0#32
  let v60 : BitVec 1 := Scalar.cmpi .slt c4_i32 c0_i32_30
  let v61 : BitVec 32 := Scalar.extui v60
  let v62 : BitVec 32 := Scalar.subi v59 v61
  let v63 : BitVec 1 := Scalar.cmpi .ne v57 v62
  let v64 : BitVec 32 := Scalar.remsi v51 c4_i32
  let c0_i32_31 : BitVec 32 := 0#32
  let v65 : BitVec 1 := Scalar.cmpi .ne v64 c0_i32_31
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_33
  let c1_i32_34 : BitVec 32 := 1#32
  let v71 : BitVec 32 := Scalar.divsi v69 c1_i32_34
  let v72 : BitVec 32 := Scalar.muli v71 c1_i32_34
  let v73 : BitVec 32 := Scalar.addi c0_i32_33 v72
  let c1_i32_36 : BitVec 32 := 1#32
  let arg11 : BitVec 32 := Scf.iv v73 c1_i32_36 k0_t2
  let v108 : BitVec 32 := Scalar.muli c4_i32_60 arg11
  let v109 : BitVec 32 := Scalar.addi v107 v108
  let c512_i32_61 : BitVec 32 := 512#32
  let v110 : BitVec 32 := Scalar.muli v109 c512_i32_61
  let v111 : BitVec 32 := v110
  let v123 : Index := Scalar.indexCast v111
  ![0, 0, v123.toNat]
def k0_cond5 (i : grid0.Coords) : BitVec 1 :=
  let arg1 : BitVec 32 := BitVec.ofNat 32 (i 1).val
  let c0_i32_93 : BitVec 32 := 0#32
  let v156 : BitVec 1 := Scalar.cmpi .eq arg1 c0_i32_93
  let v157 : BitVec 32 := Scalar.extui v156
  let c0_i32_94 : BitVec 32 := 0#32
  let v158 : BitVec 1 := Scalar.cmpi .ne v157 c0_i32_94
  v158

def k0_off14 (i : grid0.Coords) (k0_t2 : Fin (k0_t2_loop i).trips) : Fin 3 → Nat :=
  let c0_97 : Index := 0#32
  let arg1 : BitVec 32 := BitVec.ofNat 32 (i 1).val
  let c1_i32_59 : BitVec 32 := 1#32
  let v107 : BitVec 32 := Scalar.addi arg1 c1_i32_59
  let c4_i32_60 : BitVec 32 := 4#32
  let c0_i32_33 : BitVec 32 := 0#32
  let c7_i32 : BitVec 32 := 7#32
  let v51 : BitVec 32 := Scalar.subi c7_i32 arg1
  let c0_i32_27 : BitVec 32 := 0#32
  let v53 : BitVec 1 := Scalar.cmpi .sgt v51 c0_i32_27
  let v54 : BitVec 32 := Scalar.extui v53
  let c0_i32_28 : BitVec 32 := 0#32
  let v55 : BitVec 1 := Scalar.cmpi .slt v51 c0_i32_28
  let v56 : BitVec 32 := Scalar.extui v55
  let v57 : BitVec 32 := Scalar.subi v54 v56
  let c4_i32 : BitVec 32 := 4#32
  let c0_i32_29 : BitVec 32 := 0#32
  let v58 : BitVec 1 := Scalar.cmpi .sgt c4_i32 c0_i32_29
  let v59 : BitVec 32 := Scalar.extui v58
  let c0_i32_30 : BitVec 32 := 0#32
  let v60 : BitVec 1 := Scalar.cmpi .slt c4_i32 c0_i32_30
  let v61 : BitVec 32 := Scalar.extui v60
  let v62 : BitVec 32 := Scalar.subi v59 v61
  let v63 : BitVec 1 := Scalar.cmpi .ne v57 v62
  let v64 : BitVec 32 := Scalar.remsi v51 c4_i32
  let c0_i32_31 : BitVec 32 := 0#32
  let v65 : BitVec 1 := Scalar.cmpi .ne v64 c0_i32_31
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_33
  let c1_i32_34 : BitVec 32 := 1#32
  let v71 : BitVec 32 := Scalar.divsi v69 c1_i32_34
  let v72 : BitVec 32 := Scalar.muli v71 c1_i32_34
  let v73 : BitVec 32 := Scalar.addi c0_i32_33 v72
  let c1_i32_36 : BitVec 32 := 1#32
  let arg11 : BitVec 32 := Scf.iv v73 c1_i32_36 k0_t2
  let v108 : BitVec 32 := Scalar.muli c4_i32_60 arg11
  let v109 : BitVec 32 := Scalar.addi v107 v108
  let c512_i32_61 : BitVec 32 := 512#32
  let v110 : BitVec 32 := Scalar.muli v109 c512_i32_61
  let v111 : BitVec 32 := v110
  let v162 : Index := Scalar.indexCast v111
  let c0_98 : Index := 0#32
  ![0, v162.toNat, 0]
def k0_cond6 (i : grid0.Coords) : BitVec 1 :=
  let arg1 : BitVec 32 := BitVec.ofNat 32 (i 1).val
  let c0_i32_95 : BitVec 32 := 0#32
  let v159 : BitVec 1 := Scalar.cmpi .sgt arg1 c0_i32_95
  let v160 : BitVec 32 := Scalar.extui v159
  let c0_i32_96 : BitVec 32 := 0#32
  let v161 : BitVec 1 := Scalar.cmpi .ne v160 c0_i32_96
  v161

def k0_off15 (i : grid0.Coords) (k0_t2 : Fin (k0_t2_loop i).trips) : Fin 3 → Nat :=
  let c0_97 : Index := 0#32
  let arg1 : BitVec 32 := BitVec.ofNat 32 (i 1).val
  let c1_i32_59 : BitVec 32 := 1#32
  let v107 : BitVec 32 := Scalar.addi arg1 c1_i32_59
  let c4_i32_60 : BitVec 32 := 4#32
  let c0_i32_33 : BitVec 32 := 0#32
  let c7_i32 : BitVec 32 := 7#32
  let v51 : BitVec 32 := Scalar.subi c7_i32 arg1
  let c0_i32_27 : BitVec 32 := 0#32
  let v53 : BitVec 1 := Scalar.cmpi .sgt v51 c0_i32_27
  let v54 : BitVec 32 := Scalar.extui v53
  let c0_i32_28 : BitVec 32 := 0#32
  let v55 : BitVec 1 := Scalar.cmpi .slt v51 c0_i32_28
  let v56 : BitVec 32 := Scalar.extui v55
  let v57 : BitVec 32 := Scalar.subi v54 v56
  let c4_i32 : BitVec 32 := 4#32
  let c0_i32_29 : BitVec 32 := 0#32
  let v58 : BitVec 1 := Scalar.cmpi .sgt c4_i32 c0_i32_29
  let v59 : BitVec 32 := Scalar.extui v58
  let c0_i32_30 : BitVec 32 := 0#32
  let v60 : BitVec 1 := Scalar.cmpi .slt c4_i32 c0_i32_30
  let v61 : BitVec 32 := Scalar.extui v60
  let v62 : BitVec 32 := Scalar.subi v59 v61
  let v63 : BitVec 1 := Scalar.cmpi .ne v57 v62
  let v64 : BitVec 32 := Scalar.remsi v51 c4_i32
  let c0_i32_31 : BitVec 32 := 0#32
  let v65 : BitVec 1 := Scalar.cmpi .ne v64 c0_i32_31
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_33
  let c1_i32_34 : BitVec 32 := 1#32
  let v71 : BitVec 32 := Scalar.divsi v69 c1_i32_34
  let v72 : BitVec 32 := Scalar.muli v71 c1_i32_34
  let v73 : BitVec 32 := Scalar.addi c0_i32_33 v72
  let c1_i32_36 : BitVec 32 := 1#32
  let arg11 : BitVec 32 := Scf.iv v73 c1_i32_36 k0_t2
  let v108 : BitVec 32 := Scalar.muli c4_i32_60 arg11
  let v109 : BitVec 32 := Scalar.addi v107 v108
  let c512_i32_61 : BitVec 32 := 512#32
  let v110 : BitVec 32 := Scalar.muli v109 c512_i32_61
  let v111 : BitVec 32 := v110
  let v162 : Index := Scalar.indexCast v111
  let c0_98 : Index := 0#32
  ![0, v162.toNat, 0]
def k0_cond7 (i : grid0.Coords) : BitVec 1 :=
  let c7_i32 : BitVec 32 := 7#32
  let arg1 : BitVec 32 := BitVec.ofNat 32 (i 1).val
  let v51 : BitVec 32 := Scalar.subi c7_i32 arg1
  let c4_i32_37 : BitVec 32 := 4#32
  let c0_i32_38 : BitVec 32 := 0#32
  let v74 : BitVec 1 := Scalar.cmpi .eq c4_i32_37 c0_i32_38
  let c1_i32_39 : BitVec 32 := 1#32
  let v75 : BitVec 32 := Scalar.select v74 c1_i32_39 c4_i32_37
  let v76 : BitVec 32 := Scalar.remsi v51 v75
  let c0_i32_41 : BitVec 32 := 0#32
  let v78 : BitVec 1 := Scalar.cmpi .slt v76 c0_i32_41
  let c0_i32_42 : BitVec 32 := 0#32
  let v79 : BitVec 1 := Scalar.cmpi .slt v75 c0_i32_42
  let v80 : BitVec 1 := Scalar.xori v78 v79
  let c0_i32_40 : BitVec 32 := 0#32
  let v77 : BitVec 1 := Scalar.cmpi .ne v76 c0_i32_40
  let v81 : BitVec 1 := Scalar.andi v80 v77
  let v82 : BitVec 32 := Scalar.addi v76 v75
  let v83 : BitVec 32 := Scalar.select v81 v82 v76
  let c2_i32 : BitVec 32 := 2#32
  let v84 : BitVec 1 := Scalar.cmpi .sge v83 c2_i32
  let v85 : BitVec 32 := Scalar.extui v84
  let c0_i32_43 : BitVec 32 := 0#32
  let v86 : BitVec 1 := Scalar.cmpi .ne v85 c0_i32_43
  v86

def k0_mult4 (i : grid0.Coords) : BitVec 32 :=
  let arg1 : BitVec 32 := BitVec.ofNat 32 (i 1).val
  let c1_i32_59 : BitVec 32 := 1#32
  let v107 : BitVec 32 := Scalar.addi arg1 c1_i32_59
  let c4_i32_67 : BitVec 32 := 4#32
  let c7_i32 : BitVec 32 := 7#32
  let v51 : BitVec 32 := Scalar.subi c7_i32 arg1
  let c0_i32_61 : BitVec 32 := 0#32
  let v109 : BitVec 1 := Scalar.cmpi .sgt v51 c0_i32_61
  let v110 : BitVec 32 := Scalar.extui v109
  let c0_i32_62 : BitVec 32 := 0#32
  let v111 : BitVec 1 := Scalar.cmpi .slt v51 c0_i32_62
  let v112 : BitVec 32 := Scalar.extui v111
  let v113 : BitVec 32 := Scalar.subi v110 v112
  let c4_i32_60 : BitVec 32 := 4#32
  let c0_i32_63 : BitVec 32 := 0#32
  let v114 : BitVec 1 := Scalar.cmpi .sgt c4_i32_60 c0_i32_63
  let v115 : BitVec 32 := Scalar.extui v114
  let c0_i32_64 : BitVec 32 := 0#32
  let v116 : BitVec 1 := Scalar.cmpi .slt c4_i32_60 c0_i32_64
  let v117 : BitVec 32 := Scalar.extui v116
  let v118 : BitVec 32 := Scalar.subi v115 v117
  let v119 : BitVec 1 := Scalar.cmpi .ne v113 v118
  let v120 : BitVec 32 := Scalar.remsi v51 c4_i32_60
  let c0_i32_65 : BitVec 32 := 0#32
  let v121 : BitVec 1 := Scalar.cmpi .ne v120 c0_i32_65
  let v122 : BitVec 1 := Scalar.andi v119 v121
  let v108 : BitVec 32 := Scalar.divsi v51 c4_i32_60
  let c1_i32_66 : BitVec 32 := 1#32
  let v123 : BitVec 32 := Scalar.subi v108 c1_i32_66
  let v124 : BitVec 32 := Scalar.select v122 v123 v108
  let v125 : BitVec 32 := Scalar.muli c4_i32_67 v124
  let v126 : BitVec 32 := Scalar.addi v107 v125
  let c512_i32_68 : BitVec 32 := 512#32
  let v127 : BitVec 32 := Scalar.muli v126 c512_i32_68
  v127
def k0_off16 (i : grid0.Coords) : Fin 3 → Nat :=
  let c0_69 : Index := 0#32
  let arg1 : BitVec 32 := BitVec.ofNat 32 (i 1).val
  let c1_i32_59 : BitVec 32 := 1#32
  let v107 : BitVec 32 := Scalar.addi arg1 c1_i32_59
  let c4_i32_67 : BitVec 32 := 4#32
  let c7_i32 : BitVec 32 := 7#32
  let v51 : BitVec 32 := Scalar.subi c7_i32 arg1
  let c0_i32_61 : BitVec 32 := 0#32
  let v109 : BitVec 1 := Scalar.cmpi .sgt v51 c0_i32_61
  let v110 : BitVec 32 := Scalar.extui v109
  let c0_i32_62 : BitVec 32 := 0#32
  let v111 : BitVec 1 := Scalar.cmpi .slt v51 c0_i32_62
  let v112 : BitVec 32 := Scalar.extui v111
  let v113 : BitVec 32 := Scalar.subi v110 v112
  let c4_i32_60 : BitVec 32 := 4#32
  let c0_i32_63 : BitVec 32 := 0#32
  let v114 : BitVec 1 := Scalar.cmpi .sgt c4_i32_60 c0_i32_63
  let v115 : BitVec 32 := Scalar.extui v114
  let c0_i32_64 : BitVec 32 := 0#32
  let v116 : BitVec 1 := Scalar.cmpi .slt c4_i32_60 c0_i32_64
  let v117 : BitVec 32 := Scalar.extui v116
  let v118 : BitVec 32 := Scalar.subi v115 v117
  let v119 : BitVec 1 := Scalar.cmpi .ne v113 v118
  let v120 : BitVec 32 := Scalar.remsi v51 c4_i32_60
  let c0_i32_65 : BitVec 32 := 0#32
  let v121 : BitVec 1 := Scalar.cmpi .ne v120 c0_i32_65
  let v122 : BitVec 1 := Scalar.andi v119 v121
  let v108 : BitVec 32 := Scalar.divsi v51 c4_i32_60
  let c1_i32_66 : BitVec 32 := 1#32
  let v123 : BitVec 32 := Scalar.subi v108 c1_i32_66
  let v124 : BitVec 32 := Scalar.select v122 v123 v108
  let v125 : BitVec 32 := Scalar.muli c4_i32_67 v124
  let v126 : BitVec 32 := Scalar.addi v107 v125
  let c512_i32_68 : BitVec 32 := 512#32
  let v127 : BitVec 32 := Scalar.muli v126 c512_i32_68
  let v128 : BitVec 32 := v127
  let v129 : Index := Scalar.indexCast v128
  let c0_70 : Index := 0#32
  ![0, v129.toNat, 0]
def k0_off17 (i : grid0.Coords) : Fin 2 → Nat :=
  let arg1 : BitVec 32 := BitVec.ofNat 32 (i 1).val
  let c1_i32_59 : BitVec 32 := 1#32
  let v107 : BitVec 32 := Scalar.addi arg1 c1_i32_59
  let c4_i32_67 : BitVec 32 := 4#32
  let c7_i32 : BitVec 32 := 7#32
  let v51 : BitVec 32 := Scalar.subi c7_i32 arg1
  let c0_i32_61 : BitVec 32 := 0#32
  let v109 : BitVec 1 := Scalar.cmpi .sgt v51 c0_i32_61
  let v110 : BitVec 32 := Scalar.extui v109
  let c0_i32_62 : BitVec 32 := 0#32
  let v111 : BitVec 1 := Scalar.cmpi .slt v51 c0_i32_62
  let v112 : BitVec 32 := Scalar.extui v111
  let v113 : BitVec 32 := Scalar.subi v110 v112
  let c4_i32_60 : BitVec 32 := 4#32
  let c0_i32_63 : BitVec 32 := 0#32
  let v114 : BitVec 1 := Scalar.cmpi .sgt c4_i32_60 c0_i32_63
  let v115 : BitVec 32 := Scalar.extui v114
  let c0_i32_64 : BitVec 32 := 0#32
  let v116 : BitVec 1 := Scalar.cmpi .slt c4_i32_60 c0_i32_64
  let v117 : BitVec 32 := Scalar.extui v116
  let v118 : BitVec 32 := Scalar.subi v115 v117
  let v119 : BitVec 1 := Scalar.cmpi .ne v113 v118
  let v120 : BitVec 32 := Scalar.remsi v51 c4_i32_60
  let c0_i32_65 : BitVec 32 := 0#32
  let v121 : BitVec 1 := Scalar.cmpi .ne v120 c0_i32_65
  let v122 : BitVec 1 := Scalar.andi v119 v121
  let v108 : BitVec 32 := Scalar.divsi v51 c4_i32_60
  let c1_i32_66 : BitVec 32 := 1#32
  let v123 : BitVec 32 := Scalar.subi v108 c1_i32_66
  let v124 : BitVec 32 := Scalar.select v122 v123 v108
  let v125 : BitVec 32 := Scalar.muli c4_i32_67 v124
  let v126 : BitVec 32 := Scalar.addi v107 v125
  let c512_i32_68 : BitVec 32 := 512#32
  let v127 : BitVec 32 := Scalar.muli v126 c512_i32_68
  let v128 : BitVec 32 := v127
  let v134 : Index := Scalar.indexCast v128
  let c0_74 : Index := 0#32
  ![v134.toNat, 0]
def k0_off18 (i : grid0.Coords) : Fin 3 → Nat :=
  let c0_77 : Index := 0#32
  let c0_78 : Index := 0#32
  let arg1 : BitVec 32 := BitVec.ofNat 32 (i 1).val
  let c1_i32_59 : BitVec 32 := 1#32
  let v107 : BitVec 32 := Scalar.addi arg1 c1_i32_59
  let c4_i32_67 : BitVec 32 := 4#32
  let c7_i32 : BitVec 32 := 7#32
  let v51 : BitVec 32 := Scalar.subi c7_i32 arg1
  let c0_i32_61 : BitVec 32 := 0#32
  let v109 : BitVec 1 := Scalar.cmpi .sgt v51 c0_i32_61
  let v110 : BitVec 32 := Scalar.extui v109
  let c0_i32_62 : BitVec 32 := 0#32
  let v111 : BitVec 1 := Scalar.cmpi .slt v51 c0_i32_62
  let v112 : BitVec 32 := Scalar.extui v111
  let v113 : BitVec 32 := Scalar.subi v110 v112
  let c4_i32_60 : BitVec 32 := 4#32
  let c0_i32_63 : BitVec 32 := 0#32
  let v114 : BitVec 1 := Scalar.cmpi .sgt c4_i32_60 c0_i32_63
  let v115 : BitVec 32 := Scalar.extui v114
  let c0_i32_64 : BitVec 32 := 0#32
  let v116 : BitVec 1 := Scalar.cmpi .slt c4_i32_60 c0_i32_64
  let v117 : BitVec 32 := Scalar.extui v116
  let v118 : BitVec 32 := Scalar.subi v115 v117
  let v119 : BitVec 1 := Scalar.cmpi .ne v113 v118
  let v120 : BitVec 32 := Scalar.remsi v51 c4_i32_60
  let c0_i32_65 : BitVec 32 := 0#32
  let v121 : BitVec 1 := Scalar.cmpi .ne v120 c0_i32_65
  let v122 : BitVec 1 := Scalar.andi v119 v121
  let v108 : BitVec 32 := Scalar.divsi v51 c4_i32_60
  let c1_i32_66 : BitVec 32 := 1#32
  let v123 : BitVec 32 := Scalar.subi v108 c1_i32_66
  let v124 : BitVec 32 := Scalar.select v122 v123 v108
  let v125 : BitVec 32 := Scalar.muli c4_i32_67 v124
  let v126 : BitVec 32 := Scalar.addi v107 v125
  let c512_i32_68 : BitVec 32 := 512#32
  let v127 : BitVec 32 := Scalar.muli v126 c512_i32_68
  let v128 : BitVec 32 := v127
  let v140 : Index := Scalar.indexCast v128
  ![0, 0, v140.toNat]
def k0_cond8 (i : grid0.Coords) : BitVec 1 :=
  let arg1 : BitVec 32 := BitVec.ofNat 32 (i 1).val
  let c0_i32_100 : BitVec 32 := 0#32
  let v173 : BitVec 1 := Scalar.cmpi .eq arg1 c0_i32_100
  let v174 : BitVec 32 := Scalar.extui v173
  let c0_i32_101 : BitVec 32 := 0#32
  let v175 : BitVec 1 := Scalar.cmpi .ne v174 c0_i32_101
  v175

def k0_off19 (i : grid0.Coords) : Fin 3 → Nat :=
  let c0_104 : Index := 0#32
  let arg1 : BitVec 32 := BitVec.ofNat 32 (i 1).val
  let c1_i32_59 : BitVec 32 := 1#32
  let v107 : BitVec 32 := Scalar.addi arg1 c1_i32_59
  let c4_i32_67 : BitVec 32 := 4#32
  let c7_i32 : BitVec 32 := 7#32
  let v51 : BitVec 32 := Scalar.subi c7_i32 arg1
  let c0_i32_61 : BitVec 32 := 0#32
  let v109 : BitVec 1 := Scalar.cmpi .sgt v51 c0_i32_61
  let v110 : BitVec 32 := Scalar.extui v109
  let c0_i32_62 : BitVec 32 := 0#32
  let v111 : BitVec 1 := Scalar.cmpi .slt v51 c0_i32_62
  let v112 : BitVec 32 := Scalar.extui v111
  let v113 : BitVec 32 := Scalar.subi v110 v112
  let c4_i32_60 : BitVec 32 := 4#32
  let c0_i32_63 : BitVec 32 := 0#32
  let v114 : BitVec 1 := Scalar.cmpi .sgt c4_i32_60 c0_i32_63
  let v115 : BitVec 32 := Scalar.extui v114
  let c0_i32_64 : BitVec 32 := 0#32
  let v116 : BitVec 1 := Scalar.cmpi .slt c4_i32_60 c0_i32_64
  let v117 : BitVec 32 := Scalar.extui v116
  let v118 : BitVec 32 := Scalar.subi v115 v117
  let v119 : BitVec 1 := Scalar.cmpi .ne v113 v118
  let v120 : BitVec 32 := Scalar.remsi v51 c4_i32_60
  let c0_i32_65 : BitVec 32 := 0#32
  let v121 : BitVec 1 := Scalar.cmpi .ne v120 c0_i32_65
  let v122 : BitVec 1 := Scalar.andi v119 v121
  let v108 : BitVec 32 := Scalar.divsi v51 c4_i32_60
  let c1_i32_66 : BitVec 32 := 1#32
  let v123 : BitVec 32 := Scalar.subi v108 c1_i32_66
  let v124 : BitVec 32 := Scalar.select v122 v123 v108
  let v125 : BitVec 32 := Scalar.muli c4_i32_67 v124
  let v126 : BitVec 32 := Scalar.addi v107 v125
  let c512_i32_68 : BitVec 32 := 512#32
  let v127 : BitVec 32 := Scalar.muli v126 c512_i32_68
  let v128 : BitVec 32 := v127
  let v179 : Index := Scalar.indexCast v128
  let c0_105 : Index := 0#32
  ![0, v179.toNat, 0]
def k0_cond9 (i : grid0.Coords) : BitVec 1 :=
  let arg1 : BitVec 32 := BitVec.ofNat 32 (i 1).val
  let c0_i32_102 : BitVec 32 := 0#32
  let v176 : BitVec 1 := Scalar.cmpi .sgt arg1 c0_i32_102
  let v177 : BitVec 32 := Scalar.extui v176
  let c0_i32_103 : BitVec 32 := 0#32
  let v178 : BitVec 1 := Scalar.cmpi .ne v177 c0_i32_103
  v178

def k0_off20 (i : grid0.Coords) : Fin 3 → Nat :=
  let c0_104 : Index := 0#32
  let arg1 : BitVec 32 := BitVec.ofNat 32 (i 1).val
  let c1_i32_59 : BitVec 32 := 1#32
  let v107 : BitVec 32 := Scalar.addi arg1 c1_i32_59
  let c4_i32_67 : BitVec 32 := 4#32
  let c7_i32 : BitVec 32 := 7#32
  let v51 : BitVec 32 := Scalar.subi c7_i32 arg1
  let c0_i32_61 : BitVec 32 := 0#32
  let v109 : BitVec 1 := Scalar.cmpi .sgt v51 c0_i32_61
  let v110 : BitVec 32 := Scalar.extui v109
  let c0_i32_62 : BitVec 32 := 0#32
  let v111 : BitVec 1 := Scalar.cmpi .slt v51 c0_i32_62
  let v112 : BitVec 32 := Scalar.extui v111
  let v113 : BitVec 32 := Scalar.subi v110 v112
  let c4_i32_60 : BitVec 32 := 4#32
  let c0_i32_63 : BitVec 32 := 0#32
  let v114 : BitVec 1 := Scalar.cmpi .sgt c4_i32_60 c0_i32_63
  let v115 : BitVec 32 := Scalar.extui v114
  let c0_i32_64 : BitVec 32 := 0#32
  let v116 : BitVec 1 := Scalar.cmpi .slt c4_i32_60 c0_i32_64
  let v117 : BitVec 32 := Scalar.extui v116
  let v118 : BitVec 32 := Scalar.subi v115 v117
  let v119 : BitVec 1 := Scalar.cmpi .ne v113 v118
  let v120 : BitVec 32 := Scalar.remsi v51 c4_i32_60
  let c0_i32_65 : BitVec 32 := 0#32
  let v121 : BitVec 1 := Scalar.cmpi .ne v120 c0_i32_65
  let v122 : BitVec 1 := Scalar.andi v119 v121
  let v108 : BitVec 32 := Scalar.divsi v51 c4_i32_60
  let c1_i32_66 : BitVec 32 := 1#32
  let v123 : BitVec 32 := Scalar.subi v108 c1_i32_66
  let v124 : BitVec 32 := Scalar.select v122 v123 v108
  let v125 : BitVec 32 := Scalar.muli c4_i32_67 v124
  let v126 : BitVec 32 := Scalar.addi v107 v125
  let c512_i32_68 : BitVec 32 := 512#32
  let v127 : BitVec 32 := Scalar.muli v126 c512_i32_68
  let v128 : BitVec 32 := v127
  let v179 : Index := Scalar.indexCast v128
  let c0_105 : Index := 0#32
  ![0, v179.toNat, 0]
def k0_cond10 (i : grid0.Coords) : BitVec 1 :=
  let c7_i32 : BitVec 32 := 7#32
  let arg1 : BitVec 32 := BitVec.ofNat 32 (i 1).val
  let v51 : BitVec 32 := Scalar.subi c7_i32 arg1
  let c2_i32_44 : BitVec 32 := 2#32
  let c0_i32_45 : BitVec 32 := 0#32
  let v87 : BitVec 1 := Scalar.cmpi .eq c2_i32_44 c0_i32_45
  let c1_i32_46 : BitVec 32 := 1#32
  let v88 : BitVec 32 := Scalar.select v87 c1_i32_46 c2_i32_44
  let v89 : BitVec 32 := Scalar.remsi v51 v88
  let c0_i32_48 : BitVec 32 := 0#32
  let v91 : BitVec 1 := Scalar.cmpi .slt v89 c0_i32_48
  let c0_i32_49 : BitVec 32 := 0#32
  let v92 : BitVec 1 := Scalar.cmpi .slt v88 c0_i32_49
  let v93 : BitVec 1 := Scalar.xori v91 v92
  let c0_i32_47 : BitVec 32 := 0#32
  let v90 : BitVec 1 := Scalar.cmpi .ne v89 c0_i32_47
  let v94 : BitVec 1 := Scalar.andi v93 v90
  let v95 : BitVec 32 := Scalar.addi v89 v88
  let v96 : BitVec 32 := Scalar.select v94 v95 v89
  let c1_i32_50 : BitVec 32 := 1#32
  let v97 : BitVec 1 := Scalar.cmpi .eq v96 c1_i32_50
  let v98 : BitVec 32 := Scalar.extui v97
  let c0_i32_51 : BitVec 32 := 0#32
  let v99 : BitVec 1 := Scalar.cmpi .ne v98 c0_i32_51
  v99

def k0_mult5 : BitVec 32 :=
  let c3584_i32 : BitVec 32 := 3584#32
  c3584_i32
def k0_cond11 (i : grid0.Coords) : BitVec 1 :=
  let arg1 : BitVec 32 := BitVec.ofNat 32 (i 1).val
  let c0_i32_90 : BitVec 32 := 0#32
  let v152 : BitVec 1 := Scalar.cmpi .eq arg1 c0_i32_90
  let v153 : BitVec 32 := Scalar.extui v152
  let c0_i32_91 : BitVec 32 := 0#32
  let v154 : BitVec 1 := Scalar.cmpi .ne v153 c0_i32_91
  v154

def k0_cond12 (i : grid0.Coords) : BitVec 1 :=
  let arg1 : BitVec 32 := BitVec.ofNat 32 (i 1).val
  let c0_i32_92 : BitVec 32 := 0#32
  let v155 : BitVec 1 := Scalar.cmpi .sgt arg1 c0_i32_92
  let v156 : BitVec 32 := Scalar.extui v155
  let c0_i32_93 : BitVec 32 := 0#32
  let v157 : BitVec 1 := Scalar.cmpi .ne v156 c0_i32_93
  v157

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MlaKernelIdeal.lean ====
variable {F : FTy → Type} [FloatOps F] [Named F]
def κ : String → Option EReal := fun
  | "mask" => some ⊥
  | "scale" => some (((Real.sqrt 192)⁻¹ : ℝ) : EReal)
  | "scale2" => some (((Real.sqrt 192)⁻¹ * (Real.log 2)⁻¹ : ℝ) : EReal)
  | _ => none
-- ==== MlaRefIdeal.lean ====
abbrev S4096x8x128 : Shape := ⟨3, ![4096, 8, 128]⟩
abbrev S4096x8x64 : Shape := ⟨3, ![4096, 8, 64]⟩
abbrev S4096x64 : Shape := ⟨2, ![4096, 64]⟩
abbrev S4096x1024 : Shape := ⟨2, ![4096, 1024]⟩
abbrev S_ : Shape := ⟨0, ![]⟩
abbrev S8x4096x4096 : Shape := ⟨3, ![8, 4096, 4096]⟩
abbrev S4096x4096x8 : Shape := ⟨3, ![4096, 4096, 8]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x128 : Shape := ⟨3, ![8, 4096, 128]⟩

abbrev nBuf : Space → Nat
  | .hbm => 99
  | .vmem => 0
  | .smem => 0
  | _ => 0

abbrev bufTy : (tb : Table) → Fin (tcTables nBuf tb) → BufTy
  | .hbm, ⟨0, _⟩ => ⟨S4096x8x128, .f32⟩
  | .hbm, ⟨1, _⟩ => ⟨S4096x8x64, .f32⟩
  | .hbm, ⟨2, _⟩ => ⟨S4096x8x128, .f32⟩
  | .hbm, ⟨3, _⟩ => ⟨S4096x64, .f32⟩
  | .hbm, ⟨4, _⟩ => ⟨S4096x8x128, .f32⟩
  | .hbm, ⟨5, _⟩ => ⟨S4096x1024, .f32⟩
  | .hbm, ⟨6, _⟩ => ⟨S_, .f32⟩
  | .hbm, ⟨7, _⟩ => ⟨S_, .f32⟩
  | .hbm, ⟨8, _⟩ => ⟨S8x4096x4096, .f32⟩
  | .hbm, ⟨9, _⟩ => ⟨S4096x4096x8, .f32⟩
  | .hbm, ⟨10, _⟩ => ⟨S8x4096x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S8x4096x4096, .i1⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S8x4096x4096, .f32⟩
  | .hbm, ⟨31, _⟩ => ⟨S8x4096x4096, .i1⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S_, .f32⟩
  | .hbm, ⟨36, _⟩ => ⟨S8x4096, .f32⟩
  | .hbm, ⟨37, _⟩ => ⟨S8x4096, .f32⟩
  | .hbm, ⟨38, _⟩ => ⟨S_, .f32⟩
  | .hbm, ⟨39, _⟩ => ⟨S8x4096, .f32⟩
  | .hbm, ⟨40, _⟩ => ⟨S8x4096, .i1⟩
  | .hbm, ⟨41, _⟩ => ⟨S_, .f32⟩
  | .hbm, ⟨42, _⟩ => ⟨S8x4096, .f32⟩
  | .hbm, ⟨43, _⟩ => ⟨S8x4096, .i1⟩
  | .hbm, ⟨44, _⟩ => ⟨S_, .f32⟩
  | .hbm, ⟨45, _⟩ => ⟨S8x4096, .f32⟩
  | .hbm, ⟨46, _⟩ => ⟨S_, .f32⟩
  | .hbm, ⟨47, _⟩ => ⟨S8x4096, .f32⟩
  | .hbm, ⟨48, _⟩ => ⟨S_, .f32⟩
  | .hbm, ⟨49, _⟩ => ⟨S8x4096, .f32⟩
  | .hbm, ⟨50, _⟩ => ⟨S8x4096, .f32⟩
  | .hbm, ⟨51, _⟩ => ⟨S8x4096, .f32⟩
  | .hbm, ⟨52, _⟩ => ⟨S8x4096x1, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S_, .f32⟩
  | .hbm, ⟨57, _⟩ => ⟨S8x4096, .f32⟩
  | .hbm, ⟨58, _⟩ => ⟨S8x4096x1, .f32⟩
  | .hbm, ⟨59, _⟩ => ⟨S8x4096x4096, .f32⟩
  | .hbm, ⟨60, _⟩ => ⟨S8x4096x4096, .f32⟩
  | .hbm, ⟨61, _⟩ => ⟨S8x4096x1, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S8x128x4096, .f32⟩
  | .hbm, ⟨66, _⟩ => ⟨S4096x8x128, .f32⟩
  | .hbm, ⟨67, _⟩ => ⟨S4096x1024, .f32⟩
  | .hbm, ⟨68, _⟩ => ⟨S4096x8x128, .f32⟩
  | .hbm, ⟨69, _⟩ => ⟨S8x128x4096, .f32⟩
  | .hbm, ⟨70, _⟩ => ⟨S8x4096x4096, .f32⟩
  | .hbm, ⟨71, _⟩ => ⟨S8x128x4096, .f32⟩
  | .hbm, ⟨72, _⟩ => ⟨S4096x8x128, .f32⟩
  | .hbm, ⟨73, _⟩ => ⟨S8x4096x4096, .f32⟩
  | .hbm, ⟨74, _⟩ => ⟨S8x4096x4096, .f32⟩
  | .hbm, ⟨75, _⟩ => ⟨S8x4096x4096, .f32⟩
  | .hbm, ⟨76, _⟩ => ⟨S_, .f32⟩
  | .hbm, ⟨77, _⟩ => ⟨S8x4096, .f32⟩
  | .hbm, ⟨78, _⟩ => ⟨S8x4096x1, .f32⟩
  | .hbm, ⟨79, _⟩ => ⟨S8x4096x1, .f32⟩
  | .hbm, ⟨80, _⟩ => ⟨S8x4096x4096, .f32⟩
  | .hbm, ⟨81, _⟩ => ⟨S8x4096x4096, .f32⟩
  | .hbm, ⟨82, _⟩ => ⟨S_, .f32⟩
  | .hbm, ⟨83, _⟩ => ⟨S8x4096, .f32⟩
  | .hbm, ⟨84, _⟩ => ⟨S8x4096x4096, .f32⟩
  | .hbm, ⟨85, _⟩ => ⟨S8x4096x4096, .f32⟩
  | .hbm, ⟨86, _⟩ => ⟨S8x4096x4096, .f32⟩
  | .hbm, ⟨87, _⟩ => ⟨S_, .f32⟩
  | .hbm, ⟨88, _⟩ => ⟨S8x4096x4096, .f32⟩
  | .hbm, ⟨89, _⟩ => ⟨S8x4096x4096, .f32⟩
  | .hbm, ⟨90, _⟩ => ⟨S8x4096x4096, .f32⟩
  | .hbm, ⟨91, _⟩ => ⟨S8x4096x4096, .f32⟩
  | .hbm, ⟨92, _⟩ => ⟨S4096x4096x8, .f32⟩
  | .hbm, ⟨93, _⟩ => ⟨S4096x8x64, .f32⟩
  | .hbm, ⟨94, _⟩ => ⟨S4096x64, .f32⟩
  | .hbm, ⟨95, _⟩ => ⟨S8x4096x128, .f32⟩
  | .hbm, ⟨96, _⟩ => ⟨S4096x8x128, .f32⟩
  | .hbm, ⟨97, _⟩ => ⟨S8x4096x128, .f32⟩
  | .hbm, ⟨98, _⟩ => ⟨S4096x8x128, .f32⟩
  | _, _ => ⟨S4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_v13_1 : Ref sig .tc := ⟨.hbm, 22, rfl⟩
abbrev main_call0_v2 : Ref sig .tc := ⟨.hbm, 23, rfl⟩
abbrev main_v13_0 : Ref sig .tc := ⟨.hbm, 24, rfl⟩
abbrev main_call0_cst : Ref sig .tc := ⟨.hbm, 25, rfl⟩
abbrev main_v13_2 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩

abbrev nD : Nat := 1
abbrev τ : Topo := Topo.v7x

variable {F : FTy → Type} [FloatOps F]
-- ==== InpKernel.lean ====
abbrev S4096x4032 : Shape := ⟨2, ![4096, 4032]⟩
abbrev S2048x4032 : Shape := ⟨2, ![2048, 4032]⟩
abbrev S4096x2048 : Shape := ⟨2, ![4096, 2048]⟩
abbrev S2048 : Shape := ⟨1, ![2048]⟩
abbrev S_ : Shape := ⟨0, ![]⟩
abbrev S4096x64 : Shape := ⟨2, ![4096, 64]⟩
abbrev S4096x1024 : Shape := ⟨2, ![4096, 1024]⟩
abbrev S4096x704 : Shape := ⟨2, ![4096, 704]⟩
abbrev S4096x256 : Shape := ⟨2, ![4096, 256]⟩
abbrev S4096x4096 : Shape := ⟨2, ![4096, 4096]⟩
abbrev S2048x64 : Shape := ⟨2, ![2048, 64]⟩
abbrev S2048x1024 : Shape := ⟨2, ![2048, 1024]⟩
abbrev S2048x704 : Shape := ⟨2, ![2048, 704]⟩
abbrev S2048x256 : Shape := ⟨2, ![2048, 256]⟩
abbrev S2048x4096 : Shape := ⟨2, ![2048, 4096]⟩
abbrev S4096x768 : Shape := ⟨2, ![4096, 768]⟩
abbrev S1x2048 : Shape := ⟨2, ![1, 2048]⟩
abbrev S256x1024 : Shape := ⟨2, ![256, 1024]⟩
abbrev S256x2048 : Shape := ⟨2, ![256, 2048]⟩
abbrev S256x768 : Shape := ⟨2, ![256, 768]⟩
abbrev S256x256 : Shape := ⟨2, ![256, 256]⟩
abbrev S2048x768 : Shape := ⟨2, ![2048, 768]⟩
abbrev S256 : Shape := ⟨1, ![256]⟩
abbrev S256x1 : Shape := ⟨2, ![256, 1]⟩

abbrev nBuf : Space → Nat
  | .hbm => 31
  | .vmem => 19
  | .smem => 0
  | _ => 0

abbrev bufTy : (tb : Table) → Fin (tcTables nBuf tb) → BufTy
  | .hbm, ⟨0, _⟩ => ⟨S4096x4032, .f32⟩
  | .hbm, ⟨1, _⟩ => ⟨S2048x4032, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S_, .f32⟩
  | .hbm, ⟨6, _⟩ => ⟨S4096x64, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x704, .f32⟩
  | .hbm, ⟨11, _⟩ => ⟨S4096x256, .f32⟩
  | .hbm, ⟨12, _⟩ => ⟨S4096x4096, .f32⟩
  | .hbm, ⟨13, _⟩ => ⟨S4096x4096, .bf16⟩
  | .hbm, ⟨14, _⟩ => ⟨S_, .f32⟩
  | .hbm, ⟨15, _⟩ => ⟨S2048x64, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x704, .f32⟩
  | .hbm, ⟨20, _⟩ => ⟨S2048x256, .f32⟩
  | .hbm, ⟨21, _⟩ => ⟨S2048x4096, .f32⟩
  | .hbm, ⟨22, _⟩ => ⟨S2048x4096, .bf16⟩
  | .hbm, ⟨23, _⟩ => ⟨S4096x1024, .bf16⟩
  | .hbm, ⟨24, _⟩ => ⟨S4096x2048, .bf16⟩
  | .hbm, ⟨25, _⟩ => ⟨S4096x768, .bf16⟩
  | .hbm, ⟨26, _⟩ => ⟨S4096x256, .bf16⟩
  | .hbm, ⟨27, _⟩ => ⟨S1x2048, .f32⟩
  | .hbm, ⟨28, _⟩ => ⟨S4096x2048, .f32⟩
  | .hbm, ⟨29, _⟩ => ⟨S4096x2048, .bf16⟩
  | .hbm, ⟨30, _⟩ => ⟨S1x2048, .f32⟩
  | .local _ .vmem, ⟨0, _⟩ => ⟨S256x1024, .bf16⟩
  | .local _ .vmem, ⟨1, _⟩ => ⟨S256x1024, .bf16⟩
  | .local _ .vmem, ⟨2, _⟩ => ⟨S256x2048, .bf16⟩
  | .local _ .vmem, ⟨3, _⟩ => ⟨S256x2048, .bf16⟩
  | .local _ .vmem, ⟨4, _⟩ => ⟨S256x768, .bf16⟩
  | .local _ .vmem, ⟨5, _⟩ => ⟨S256x768, .bf16⟩
  | .local _ .vmem, ⟨6, _⟩ => ⟨S256x256, .bf16⟩
  | .local _ .vmem, ⟨7, _⟩ => ⟨S256x256, .bf16⟩
  | .local _ .vmem, ⟨8, _⟩ => ⟨S2048x4096, .bf16⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | .local _ .vmem, ⟨18, _⟩ => ⟨S1x2048, .f32⟩
  | _, _ => ⟨S4096x4032, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev main_v21_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InpRefIdeal.lean ====
abbrev S4096x4032 : Shape := ⟨2, ![4096, 4032]⟩
abbrev S2048x4032 : Shape := ⟨2, ![2048, 4032]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4096x4032, .f32⟩
  | .hbm, ⟨1, _⟩ => ⟨S2048x4032, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x4032, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .bf16⟩
  | .hbm, ⟨54, _⟩ => ⟨S1x2048, .f32⟩
  | _, _ => ⟨S4096x4032, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== GateKernel.lean ====
abbrev S4096x2048 : Shape := ⟨2, ![4096, 2048]⟩
abbrev S4096x4032 : Shape := ⟨2, ![4096, 4032]⟩
abbrev S4096x1024 : Shape := ⟨2, ![4096, 1024]⟩
abbrev S2048x2048 : Shape := ⟨2, ![2048, 2048]⟩
abbrev S_ : Shape := ⟨0, ![]⟩
abbrev S4096x64 : Shape := ⟨2, ![4096, 64]⟩
abbrev S4096x704 : Shape := ⟨2, ![4096, 704]⟩
abbrev S4096x256 : Shape := ⟨2, ![4096, 256]⟩
abbrev S4096x4096 : Shape := ⟨2, ![4096, 4096]⟩
abbrev S8x8x4096 : Shape := ⟨3, ![8, 8, 4096]⟩
abbrev S512x2048 : Shape := ⟨2, ![512, 2048]⟩
abbrev S512x1024 : Shape := ⟨2, ![512, 1024]⟩
abbrev S8x8x512 : Shape := ⟨3, ![8, 8, 512]⟩
abbrev S1024x2048 : Shape := ⟨2, ![1024, 2048]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S8x512 : Shape := ⟨2, ![8, 512]⟩
abbrev S1x8x512 : Shape := ⟨3, ![1, 8, 512]⟩

abbrev nBuf : Space → Nat
  | .hbm => 22
  | .vmem => 19
  | .smem => 0
  | _ => 0

abbrev bufTy : (tb : Table) → Fin (tcTables nBuf tb) → BufTy
  | .hbm, ⟨0, _⟩ => ⟨S4096x2048, .f32⟩
  | .hbm, ⟨1, _⟩ => ⟨S4096x4032, .f32⟩
  | .hbm, ⟨2, _⟩ => ⟨S4096x1024, .f32⟩
  | .hbm, ⟨3, _⟩ => ⟨S4096x1024, .f32⟩
  | .hbm, ⟨4, _⟩ => ⟨S2048x2048, .f32⟩
  | .hbm, ⟨5, _⟩ => ⟨S4096x2048, .bf16⟩
  | .hbm, ⟨6, _⟩ => ⟨S_, .f32⟩
  | .hbm, ⟨7, _⟩ => ⟨S4096x64, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x704, .f32⟩
  | .hbm, ⟨12, _⟩ => ⟨S4096x256, .f32⟩
  | .hbm, ⟨13, _⟩ => ⟨S4096x4096, .f32⟩
  | .hbm, ⟨14, _⟩ => ⟨S4096x4096, .bf16⟩
  | .hbm, ⟨15, _⟩ => ⟨S4096x1024, .bf16⟩
  | .hbm, ⟨16, _⟩ => ⟨S4096x1024, .bf16⟩
  | .hbm, ⟨17, _⟩ => ⟨S2048x2048, .bf16⟩
  | .hbm, ⟨18, _⟩ => ⟨S4096x1024, .bf16⟩
  | .hbm, ⟨19, _⟩ => ⟨S4096x1024, .bf16⟩
  | .hbm, ⟨20, _⟩ => ⟨S4096x2048, .bf16⟩
  | .hbm, ⟨21, _⟩ => ⟨S8x8x4096, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S2048x2048, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | .local _ .vmem, ⟨17, _⟩ => ⟨S8x8x512, .f32⟩
  | .local _ .vmem, ⟨18, _⟩ => ⟨S8x8x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GateRefIdeal.lean ====
abbrev S4096x2048 : Shape := ⟨2, ![4096, 2048]⟩
abbrev S4096x4032 : Shape := ⟨2, ![4096, 4032]⟩
abbrev S4096x1024 : Shape := ⟨2, ![4096, 1024]⟩
abbrev S2048x2048 : Shape := ⟨2, ![2048, 2048]⟩
abbrev S4096x128 : Shape := ⟨2, ![4096, 128]⟩
abbrev S4096x384 : Shape := ⟨2, ![4096, 384]⟩
abbrev S4096x256 : Shape := ⟨2, ![4096, 256]⟩
abbrev S4096x64 : Shape := ⟨2, ![4096, 64]⟩
abbrev S_ : Shape := ⟨0, ![]⟩
abbrev S4096x8x128 : Shape := ⟨3, ![4096, 8, 128]⟩
abbrev S4096x8 : Shape := ⟨2, ![4096, 8]⟩
abbrev S8x4096 : Shape := ⟨2, ![8, 4096]⟩
abbrev S8x1x4096 : Shape := ⟨3, ![8, 1, 4096]⟩
abbrev S8x8x4096 : Shape := ⟨3, ![8, 8, 4096]⟩

abbrev nBuf : Space → Nat
  | .hbm => 69
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4032, .f32⟩
  | .hbm, ⟨2, _⟩ => ⟨S4096x1024, .f32⟩
  | .hbm, ⟨3, _⟩ => ⟨S4096x1024, .f32⟩
  | .hbm, ⟨4, _⟩ => ⟨S2048x2048, .f32⟩
  | .hbm, ⟨5, _⟩ => ⟨S4096x1024, .f32⟩
  | .hbm, ⟨6, _⟩ => ⟨S4096x128, .f32⟩
  | .hbm, ⟨7, _⟩ => ⟨S4096x128, .f32⟩
  | .hbm, ⟨8, _⟩ => ⟨S4096x1024, .f32⟩
  | .hbm, ⟨9, _⟩ => ⟨S4096x384, .f32⟩
  | .hbm, ⟨10, _⟩ => ⟨S4096x256, .f32⟩
  | .hbm, ⟨11, _⟩ => ⟨S4096x64, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x8x128, .f32⟩
  | .hbm, ⟨60, _⟩ => ⟨S_, .f32⟩
  | .hbm, ⟨61, _⟩ => ⟨S4096x8, .f32⟩
  | .hbm, ⟨62, _⟩ => ⟨S4096x1024, .bf16⟩
  | .hbm, ⟨63, _⟩ => ⟨S4096x1024, .bf16⟩
  | .hbm, ⟨64, _⟩ => ⟨S4096x2048, .f32⟩
  | .hbm, ⟨65, _⟩ => ⟨S4096x2048, .bf16⟩
  | .hbm, ⟨66, _⟩ => ⟨S8x4096, .f32⟩
  | .hbm, ⟨67, _⟩ => ⟨S8x1x4096, .f32⟩
  | .hbm, ⟨68, _⟩ => ⟨S8x8x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v8_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v8_1 : Ref sig .tc := ⟨.hbm, 24, rfl⟩
abbrev main_v8_0 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_v10_2 : Ref sig .tc := ⟨.hbm, 34, rfl⟩
abbrev main_call1_cst_1 : Ref sig .tc := ⟨.hbm, 35, rfl⟩
abbrev main_call1_v6 : Ref sig .tc := ⟨.hbm, 36, rfl⟩
abbrev main_call1_v7 : Ref sig .tc := ⟨.hbm, 37, rfl⟩
abbrev main_v10_1 : Ref sig .tc := ⟨.hbm, 38, rfl⟩
abbrev main_v10_0 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_cst : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩

abbrev nD : Nat := 1
abbrev τ : Topo := Topo.v7x

variable {F : FTy → Type} [FloatOps F]
-- ==== FwdKernel.lean ====
abbrev S4096x8x128 : Shape := ⟨3, ![4096, 8, 128]⟩
abbrev S4096x8x64 : Shape := ⟨3, ![4096, 8, 64]⟩
abbrev S4096x64 : Shape := ⟨2, ![4096, 64]⟩
abbrev S_ : Shape := ⟨0, ![]⟩
abbrev S4096x8x256 : Shape := ⟨3, ![4096, 8, 256]⟩
abbrev S8x4096x256 : Shape := ⟨3, ![8, 4096, 256]⟩
abbrev S4096x1x64 : Shape := ⟨3, ![4096, 1, 64]⟩
abbrev S8x128x4096 : Shape := ⟨3, ![8, 128, 4096]⟩
abbrev S8x256x4096 : Shape := ⟨3, ![8, 256, 4096]⟩
abbrev S4096x1024 : Shape := ⟨2, ![4096, 1024]⟩
abbrev S8x8x4096 : Shape := ⟨3, ![8, 8, 4096]⟩
abbrev S1x512x256 : Shape := ⟨3, ![1, 512, 256]⟩
abbrev S1x4096x256 : Shape := ⟨3, ![1, 4096, 256]⟩
abbrev S1x256x4096 : Shape := ⟨3, ![1, 256, 4096]⟩
abbrev S512x128 : Shape := ⟨2, ![512, 128]⟩
abbrev S1x8x512 : Shape := ⟨3, ![1, 8, 512]⟩
abbrev S8x512 : Shape := ⟨2, ![8, 512]⟩
abbrev S256x512 : Shape := ⟨2, ![256, 512]⟩
abbrev S1x2048x256 : Shape := ⟨3, ![1, 2048, 256]⟩
abbrev S2048x256 : Shape := ⟨2, ![2048, 256]⟩
abbrev S512x256 : Shape := ⟨2, ![512, 256]⟩
abbrev S2048x512 : Shape := ⟨2, ![2048, 512]⟩
abbrev S512 : Shape := ⟨1, ![512]⟩
abbrev S1x512 : Shape := ⟨2, ![1, 512]⟩
abbrev S1x256x2048 : Shape := ⟨3, ![1, 256, 2048]⟩
abbrev S256x2048 : Shape := ⟨2, ![256, 2048]⟩
abbrev S1x1024x256 : Shape := ⟨3, ![1, 1024, 256]⟩
abbrev S1024x256 : Shape := ⟨2, ![1024, 256]⟩
abbrev S1024x512 : Shape := ⟨2, ![1024, 512]⟩
abbrev S1x256x1024 : Shape := ⟨3, ![1, 256, 1024]⟩
abbrev S256x1024 : Shape := ⟨2, ![256, 1024]⟩
abbrev S512x512 : Shape := ⟨2, ![512, 512]⟩
abbrev S1x256x512 : Shape := ⟨3, ![1, 256, 512]⟩
abbrev S1x256x256 : Shape := ⟨3, ![1, 256, 256]⟩
abbrev S256x256 : Shape := ⟨2, ![256, 256]⟩
abbrev S8x256 : Shape := ⟨2, ![8, 256]⟩
abbrev S256 : Shape := ⟨1, ![256]⟩
abbrev S1x256 : Shape := ⟨2, ![1, 256]⟩
abbrev S128x512 : Shape := ⟨2, ![128, 512]⟩

abbrev nBuf : Space → Nat
  | .hbm => 22
  | .vmem => 12
  | .smem => 0
  | _ => 0

abbrev bufTy : (tb : Table) → Fin (tcTables nBuf tb) → BufTy
  | .hbm, ⟨0, _⟩ => ⟨S4096x8x128, .f32⟩
  | .hbm, ⟨1, _⟩ => ⟨S4096x8x64, .f32⟩
  | .hbm, ⟨2, _⟩ => ⟨S4096x8x128, .f32⟩
  | .hbm, ⟨3, _⟩ => ⟨S4096x64, .f32⟩
  | .hbm, ⟨4, _⟩ => ⟨S4096x8x128, .f32⟩
  | .hbm, ⟨5, _⟩ => ⟨S_, .f32⟩
  | .hbm, ⟨6, _⟩ => ⟨S4096x8x64, .f32⟩
  | .hbm, ⟨7, _⟩ => ⟨S4096x8x256, .f32⟩
  | .hbm, ⟨8, _⟩ => ⟨S8x4096x256, .f32⟩
  | .hbm, ⟨9, _⟩ => ⟨S4096x1x64, .f32⟩
  | .hbm, ⟨10, _⟩ => ⟨S4096x8x64, .f32⟩
  | .hbm, ⟨11, _⟩ => ⟨S4096x8x256, .f32⟩
  | .hbm, ⟨12, _⟩ => ⟨S8x4096x256, .f32⟩
  | .hbm, ⟨13, _⟩ => ⟨S8x128x4096, .f32⟩
  | .hbm, ⟨14, _⟩ => ⟨S_, .f32⟩
  | .hbm, ⟨15, _⟩ => ⟨S8x128x4096, .f32⟩
  | .hbm, ⟨16, _⟩ => ⟨S8x256x4096, .f32⟩
  | .hbm, ⟨17, _⟩ => ⟨S8x4096x256, .bf16⟩
  | .hbm, ⟨18, _⟩ => ⟨S8x4096x256, .bf16⟩
  | .hbm, ⟨19, _⟩ => ⟨S8x256x4096, .bf16⟩
  | .hbm, ⟨20, _⟩ => ⟨S4096x1024, .bf16⟩
  | .hbm, ⟨21, _⟩ => ⟨S8x8x4096, .f32⟩
  | .local _ .vmem, ⟨0, _⟩ => ⟨S1x512x256, .bf16⟩
  | .local _ .vmem, ⟨1, _⟩ => ⟨S1x512x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x256x4096, .bf16⟩
  | .local _ .vmem, ⟨5, _⟩ => ⟨S1x256x4096, .bf16⟩
  | .local _ .vmem, ⟨6, _⟩ => ⟨S512x128, .bf16⟩
  | .local _ .vmem, ⟨7, _⟩ => ⟨S512x128, .bf16⟩
  | .local _ .vmem, ⟨8, _⟩ => ⟨S1x8x512, .f32⟩
  | .local _ .vmem, ⟨9, _⟩ => ⟨S1x8x512, .f32⟩
  | .local _ .vmem, ⟨10, _⟩ => ⟨S8x512, .f32⟩
  | .local _ .vmem, ⟨11, _⟩ => ⟨S256x512, .f32⟩
  | _, _ => ⟨S4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_9 : BitVec 32 := 0#32
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_4 : BitVec 32 := 0#32
  let v11 : BitVec 1 := Scalar.cmpi .slt arg1 c0_i32_4
  let v12 : BitVec 32 := Scalar.extui v11
  let v13 : BitVec 32 := Scalar.subi v10 v12
  let c4_i32 : BitVec 32 := 4#32
  let c0_i32_5 : BitVec 32 := 0#32
  let v14 : BitVec 1 := Scalar.cmpi .sgt c4_i32 c0_i32_5
  let v15 : BitVec 32 := Scalar.extui v14
  let c0_i32_6 : BitVec 32 := 0#32
  let v16 : BitVec 1 := Scalar.cmpi .slt c4_i32 c0_i32_6
  let v17 : BitVec 32 := Scalar.extui v16
  let v18 : BitVec 32 := Scalar.subi v15 v17
  let v19 : BitVec 1 := Scalar.cmpi .ne v13 v18
  let v20 : BitVec 32 := Scalar.remsi arg1 c4_i32
  let c0_i32_7 : BitVec 32 := 0#32
  let v21 : BitVec 1 := Scalar.cmpi .ne v20 c0_i32_7
  let v22 : BitVec 1 := Scalar.andi v19 v21
  let v8 : BitVec 32 := Scalar.divsi arg1 c4_i32
  let c1_i32 : BitVec 32 := 1#32
  let v23 : BitVec 32 := Scalar.subi v8 c1_i32
  let v24 : BitVec 32 := Scalar.select v22 v23 v8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_11 : BitVec 32 := 1#32
  ⟨c0_i32_9, v29, c1_i32_11⟩
def k0_mult1 (i : grid0.Coords) (k0_t1 : Fin (k0_t1_loop i).trips) : BitVec 32 :=
  let c0_i32_9 : BitVec 32 := 0#32
  let c1_i32_11 : BitVec 32 := 1#32
  let arg9 : BitVec 32 := Scf.iv c0_i32_9 c1_i32_11 k0_t1
  let c2048_i32 : BitVec 32 := 2048#32
  let v155 : BitVec 32 := Scalar.muli arg9 c2048_i32
  v155
def k0_off1 (i : grid0.Coords) (k0_t1 : Fin (k0_t1_loop i).trips) : Fin 3 → Nat :=
  let c0_77 : Index := 0#32
  let c0_i32_9 : BitVec 32 := 0#32
  let c1_i32_11 : BitVec 32 := 1#32
  let arg9 : BitVec 32 := Scf.iv c0_i32_9 c1_i32_11 k0_t1
  let c2048_i32 : BitVec 32 := 2048#32
  let v155 : BitVec 32 := Scalar.muli arg9 c2048_i32
  let v156 : BitVec 32 := v155
  let v157 : Index := Scalar.indexCast v156
  let c0_78 : Index := 0#32
  ![0, v157.toNat, 0]
def k0_off2 (i : grid0.Coords) (k0_t1 : Fin (k0_t1_loop i).trips) : Fin 3 → Nat :=
  let c0_90 : Index := 0#32
  let c0_91 : Index := 0#32
  let c0_i32_9 : BitVec 32 := 0#32
  let c1_i32_11 : BitVec 32 := 1#32
  let arg9 : BitVec 32 := Scf.iv c0_i32_9 c1_i32_11 k0_t1
  let c2048_i32 : BitVec 32 := 2048#32
  let v155 : BitVec 32 := Scalar.muli arg9 c2048_i32
  let v156 : BitVec 32 := v155
  let v182 : Index := Scalar.indexCast v156
  ![0, 0, v182.toNat]
@[reducible] def k0_t2_loop (i : grid0.Coords) : Scf.Loop 32 :=
  let c0_i32_9 : BitVec 32 := 0#32
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_4 : BitVec 32 := 0#32
  let v11 : BitVec 1 := Scalar.cmpi .slt arg1 c0_i32_4
  let v12 : BitVec 32 := Scalar.extui v11
  let v13 : BitVec 32 := Scalar.subi v10 v12
  let c4_i32 : BitVec 32 := 4#32
  let c0_i32_5 : BitVec 32 := 0#32
  let v14 : BitVec 1 := Scalar.cmpi .sgt c4_i32 c0_i32_5
  let v15 : BitVec 32 := Scalar.extui v14
  let c0_i32_6 : BitVec 32 := 0#32
  let v16 : BitVec 1 := Scalar.cmpi .slt c4_i32 c0_i32_6
  let v17 : BitVec 32 := Scalar.extui v16
  let v18 : BitVec 32 := Scalar.subi v15 v17
  let v19 : BitVec 1 := Scalar.cmpi .ne v13 v18
  let v20 : BitVec 32 := Scalar.remsi arg1 c4_i32
  let c0_i32_7 : BitVec 32 := 0#32
  let v21 : BitVec 1 := Scalar.cmpi .ne v20 c0_i32_7
  let v22 : BitVec 1 := Scalar.andi v19 v21
  let v8 : BitVec 32 := Scalar.divsi arg1 c4_i32
  let c1_i32 : BitVec 32 := 1#32
  let v23 : BitVec 32 := Scalar.subi v8 c1_i32
  let v24 : BitVec 32 := Scalar.select v22 v23 v8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let v26 : BitVec 32 := Scalar.addi c0_i32_9 v25
  let c1_i32_12 : BitVec 32 := 1#32
  ⟨v29, v26, c1_i32_12⟩
def k0_mult2 (i : grid0.Coords) (k0_t2 : Fin (k0_t2_loop i).trips) : BitVec 32 :=
  let c0_i32_9 : BitVec 32 := 0#32
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_4 : BitVec 32 := 0#32
  let v11 : BitVec 1 := Scalar.cmpi .slt arg1 c0_i32_4
  let v12 : BitVec 32 := Scalar.extui v11
  let v13 : BitVec 32 := Scalar.subi v10 v12
  let c4_i32 : BitVec 32 := 4#32
  let c0_i32_5 : BitVec 32 := 0#32
  let v14 : BitVec 1 := Scalar.cmpi .sgt c4_i32 c0_i32_5
  let v15 : BitVec 32 := Scalar.extui v14
  let c0_i32_6 : BitVec 32 := 0#32
  let v16 : BitVec 1 := Scalar.cmpi .slt c4_i32 c0_i32_6
  let v17 : BitVec 32 := Scalar.extui v16
  let v18 : BitVec 32 := Scalar.subi v15 v17
  let v19 : BitVec 1 := Scalar.cmpi .ne v13 v18
  let v20 : BitVec 32 := Scalar.remsi arg1 c4_i32
  let c0_i32_7 : BitVec 32 := 0#32
  let v21 : BitVec 1 := Scalar.cmpi .ne v20 c0_i32_7
  let v22 : BitVec 1 := Scalar.andi v19 v21
  let v8 : BitVec 32 := Scalar.divsi arg1 c4_i32
  let c1_i32 : BitVec 32 := 1#32
  let v23 : BitVec 32 := Scalar.subi v8 c1_i32
  let v24 : BitVec 32 := Scalar.select v22 v23 v8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg9 : BitVec 32 := Scf.iv v29 c1_i32_12 k0_t2
  let c2048_i32 : BitVec 32 := 2048#32
  let v155 : BitVec 32 := Scalar.muli arg9 c2048_i32
  v155
def k0_off3 (i : grid0.Coords) (k0_t2 : Fin (k0_t2_loop i).trips) : Fin 3 → Nat :=
  let c0_77 : Index := 0#32
  let c0_i32_9 : BitVec 32 := 0#32
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_4 : BitVec 32 := 0#32
  let v11 : BitVec 1 := Scalar.cmpi .slt arg1 c0_i32_4
  let v12 : BitVec 32 := Scalar.extui v11
  let v13 : BitVec 32 := Scalar.subi v10 v12
  let c4_i32 : BitVec 32 := 4#32
  let c0_i32_5 : BitVec 32 := 0#32
  let v14 : BitVec 1 := Scalar.cmpi .sgt c4_i32 c0_i32_5
  let v15 : BitVec 32 := Scalar.extui v14
  let c0_i32_6 : BitVec 32 := 0#32
  let v16 : BitVec 1 := Scalar.cmpi .slt c4_i32 c0_i32_6
  let v17 : BitVec 32 := Scalar.extui v16
  let v18 : BitVec 32 := Scalar.subi v15 v17
  let v19 : BitVec 1 := Scalar.cmpi .ne v13 v18
  let v20 : BitVec 32 := Scalar.remsi arg1 c4_i32
  let c0_i32_7 : BitVec 32 := 0#32
  let v21 : BitVec 1 := Scalar.cmpi .ne v20 c0_i32_7
  let v22 : BitVec 1 := Scalar.andi v19 v21
  let v8 : BitVec 32 := Scalar.divsi arg1 c4_i32
  let c1_i32 : BitVec 32 := 1#32
  let v23 : BitVec 32 := Scalar.subi v8 c1_i32
  let v24 : BitVec 32 := Scalar.select v22 v23 v8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg9 : BitVec 32 := Scf.iv v29 c1_i32_12 k0_t2
  let c2048_i32 : BitVec 32 := 2048#32
  let v155 : BitVec 32 := Scalar.muli arg9 c2048_i32
  let v156 : BitVec 32 := v155
  let v157 : Index := Scalar.indexCast v156
  let c0_78 : Index := 0#32
  ![0, v157.toNat, 0]
def k0_off4 (i : grid0.Coords) (k0_t2 : Fin (k0_t2_loop i).trips) : Fin 3 → Nat :=
  let c0_90 : Index := 0#32
  let c0_91 : Index := 0#32
  let c0_i32_9 : BitVec 32 := 0#32
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_4 : BitVec 32 := 0#32
  let v11 : BitVec 1 := Scalar.cmpi .slt arg1 c0_i32_4
  let v12 : BitVec 32 := Scalar.extui v11
  let v13 : BitVec 32 := Scalar.subi v10 v12
  let c4_i32 : BitVec 32 := 4#32
  let c0_i32_5 : BitVec 32 := 0#32
  let v14 : BitVec 1 := Scalar.cmpi .sgt c4_i32 c0_i32_5
  let v15 : BitVec 32 := Scalar.extui v14
  let c0_i32_6 : BitVec 32 := 0#32
  let v16 : BitVec 1 := Scalar.cmpi .slt c4_i32 c0_i32_6
  let v17 : BitVec 32 := Scalar.extui v16
  let v18 : BitVec 32 := Scalar.subi v15 v17
  let v19 : BitVec 1 := Scalar.cmpi .ne v13 v18
  let v20 : BitVec 32 := Scalar.remsi arg1 c4_i32
  let c0_i32_7 : BitVec 32 := 0#32
  let v21 : BitVec 1 := Scalar.cmpi .ne v20 c0_i32_7
  let v22 : BitVec 1 := Scalar.andi v19 v21
  let v8 : BitVec 32 := Scalar.divsi arg1 c4_i32
  let c1_i32 : BitVec 32 := 1#32
  let v23 : BitVec 32 := Scalar.subi v8 c1_i32
  let v24 : BitVec 32 := Scalar.select v22 v23 v8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg9 : BitVec 32 := Scf.iv v29 c1_i32_12 k0_t2
  let c2048_i32 : BitVec 32 := 2048#32
  let v155 : BitVec 32 := Scalar.muli arg9 c2048_i32
  let v156 : BitVec 32 := v155
  let v182 : Index := Scalar.indexCast v156
  ![0, 0, v182.toNat]
def k0_cond1 (i : grid0.Coords) : BitVec 1 :=
  let arg1 : BitVec 32 := BitVec.ofNat 32 (i 1).val
  let c4_i32_13 : BitVec 32 := 4#32
  let c0_i32_14 : BitVec 32 := 0#32
  let v30 : BitVec 1 := Scalar.cmpi .eq c4_i32_13 c0_i32_14
  let c1_i32_15 : BitVec 32 := 1#32
  let v31 : BitVec 32 := Scalar.select v30 c1_i32_15 c4_i32_13
  let v32 : BitVec 32 := Scalar.remsi arg1 v31
  let c0_i32_17 : BitVec 32 := 0#32
  let v34 : BitVec 1 := Scalar.cmpi .slt v32 c0_i32_17
  let c0_i32_18 : BitVec 32 := 0#32
  let v35 : BitVec 1 := Scalar.cmpi .slt v31 c0_i32_18
  let v36 : BitVec 1 := Scalar.xori v34 v35
  let c0_i32_16 : BitVec 32 := 0#32
  let v33 : BitVec 1 := Scalar.cmpi .ne v32 c0_i32_16
  let v37 : BitVec 1 := Scalar.andi v36 v33
  let v38 : BitVec 32 := Scalar.addi v32 v31
  let v39 : BitVec 32 := Scalar.select v37 v38 v32
  let c2_i32 : BitVec 32 := 2#32
  let v40 : BitVec 1 := Scalar.cmpi .sge v39 c2_i32
  let v41 : BitVec 32 := Scalar.extui v40
  let c0_i32_19 : BitVec 32 := 0#32
  let v42 : BitVec 1 := Scalar.cmpi .ne v41 c0_i32_19
  v42

def k0_mult3 (i : grid0.Coords) : BitVec 32 :=
  let arg1 : BitVec 32 := BitVec.ofNat 32 (i 1).val
  let c0_i32_78 : BitVec 32 := 0#32
  let v156 : BitVec 1 := Scalar.cmpi .sgt arg1 c0_i32_78
  let v157 : BitVec 32 := Scalar.extui v156
  let c0_i32_79 : BitVec 32 := 0#32
  let v158 : BitVec 1 := Scalar.cmpi .slt arg1 c0_i32_79
  let v159 : BitVec 32 := Scalar.extui v158
  let v160 : BitVec 32 := Scalar.subi v157 v159
  let c4_i32_77 : BitVec 32 := 4#32
  let c0_i32_80 : BitVec 32 := 0#32
  let v161 : BitVec 1 := Scalar.cmpi .sgt c4_i32_77 c0_i32_80
  let v162 : BitVec 32 := Scalar.extui v161
  let c0_i32_81 : BitVec 32 := 0#32
  let v163 : BitVec 1 := Scalar.cmpi .slt c4_i32_77 c0_i32_81
  let v164 : BitVec 32 := Scalar.extui v163
  let v165 : BitVec 32 := Scalar.subi v162 v164
  let v166 : BitVec 1 := Scalar.cmpi .ne v160 v165
  let v167 : BitVec 32 := Scalar.remsi arg1 c4_i32_77
  let c0_i32_82 : BitVec 32 := 0#32
  let v168 : BitVec 1 := Scalar.cmpi .ne v167 c0_i32_82
  let v169 : BitVec 1 := Scalar.andi v166 v168
  let v155 : BitVec 32 := Scalar.divsi arg1 c4_i32_77
  let c1_i32_83 : BitVec 32 := 1#32
  let v170 : BitVec 32 := Scalar.subi v155 c1_i32_83
  let v171 : BitVec 32 := Scalar.select v169 v170 v155
  let c2048_i32 : BitVec 32 := 2048#32
  let v172 : BitVec 32 := Scalar.muli v171 c2048_i32
  v172
def k0_off5 (i : grid0.Coords) : Fin 3 → Nat :=
  let c0_84 : Index := 0#32
  let arg1 : BitVec 32 := BitVec.ofNat 32 (i 1).val
  let c0_i32_78 : BitVec 32 := 0#32
  let v156 : BitVec 1 := Scalar.cmpi .sgt arg1 c0_i32_78
  let v157 : BitVec 32 := Scalar.extui v156
  let c0_i32_79 : BitVec 32 := 0#32
  let v158 : BitVec 1 := Scalar.cmpi .slt arg1 c0_i32_79
  let v159 : BitVec 32 := Scalar.extui v158
  let v160 : BitVec 32 := Scalar.subi v157 v159
  let c4_i32_77 : BitVec 32 := 4#32
  let c0_i32_80 : BitVec 32 := 0#32
  let v161 : BitVec 1 := Scalar.cmpi .sgt c4_i32_77 c0_i32_80
  let v162 : BitVec 32 := Scalar.extui v161
  let c0_i32_81 : BitVec 32 := 0#32
  let v163 : BitVec 1 := Scalar.cmpi .slt c4_i32_77 c0_i32_81
  let v164 : BitVec 32 := Scalar.extui v163
  let v165 : BitVec 32 := Scalar.subi v162 v164
  let v166 : BitVec 1 := Scalar.cmpi .ne v160 v165
  let v167 : BitVec 32 := Scalar.remsi arg1 c4_i32_77
  let c0_i32_82 : BitVec 32 := 0#32
  let v168 : BitVec 1 := Scalar.cmpi .ne v167 c0_i32_82
  let v169 : BitVec 1 := Scalar.andi v166 v168
  let v155 : BitVec 32 := Scalar.divsi arg1 c4_i32_77
  let c1_i32_83 : BitVec 32 := 1#32
  let v170 : BitVec 32 := Scalar.subi v155 c1_i32_83
  let v171 : BitVec 32 := Scalar.select v169 v170 v155
  let c2048_i32 : BitVec 32 := 2048#32
  let v172 : BitVec 32 := Scalar.muli v171 c2048_i32
  let v173 : BitVec 32 := v172
  let v174 : Index := Scalar.indexCast v173
  let c0_85 : Index := 0#32
  ![0, v174.toNat, 0]
def k0_off6 (i : grid0.Coords) : Fin 3 → Nat :=
  let c0_97 : Index := 0#32
  let c0_98 : Index := 0#32
  let arg1 : BitVec 32 := BitVec.ofNat 32 (i 1).val
  let c0_i32_78 : BitVec 32 := 0#32
  let v156 : BitVec 1 := Scalar.cmpi .sgt arg1 c0_i32_78
  let v157 : BitVec 32 := Scalar.extui v156
  let c0_i32_79 : BitVec 32 := 0#32
  let v158 : BitVec 1 := Scalar.cmpi .slt arg1 c0_i32_79
  let v159 : BitVec 32 := Scalar.extui v158
  let v160 : BitVec 32 := Scalar.subi v157 v159
  let c4_i32_77 : BitVec 32 := 4#32
  let c0_i32_80 : BitVec 32 := 0#32
  let v161 : BitVec 1 := Scalar.cmpi .sgt c4_i32_77 c0_i32_80
  let v162 : BitVec 32 := Scalar.extui v161
  let c0_i32_81 : BitVec 32 := 0#32
  let v163 : BitVec 1 := Scalar.cmpi .slt c4_i32_77 c0_i32_81
  let v164 : BitVec 32 := Scalar.extui v163
  let v165 : BitVec 32 := Scalar.subi v162 v164
  let v166 : BitVec 1 := Scalar.cmpi .ne v160 v165
  let v167 : BitVec 32 := Scalar.remsi arg1 c4_i32_77
  let c0_i32_82 : BitVec 32 := 0#32
  let v168 : BitVec 1 := Scalar.cmpi .ne v167 c0_i32_82
  let v169 : BitVec 1 := Scalar.andi v166 v168
  let v155 : BitVec 32 := Scalar.divsi arg1 c4_i32_77
  let c1_i32_83 : BitVec 32 := 1#32
  let v170 : BitVec 32 := Scalar.subi v155 c1_i32_83
  let v171 : BitVec 32 := Scalar.select v169 v170 v155
  let c2048_i32 : BitVec 32 := 2048#32
  let v172 : BitVec 32 := Scalar.muli v171 c2048_i32
  let v173 : BitVec 32 := v172
  let v199 : Index := Scalar.indexCast v173
  ![0, 0, v199.toNat]
def k0_cond2 (i : grid0.Coords) : BitVec 1 :=
  let arg1 : BitVec 32 := BitVec.ofNat 32 (i 1).val
  let c2_i32_20 : BitVec 32 := 2#32
  let c0_i32_21 : BitVec 32 := 0#32
  let v43 : BitVec 1 := Scalar.cmpi .eq c2_i32_20 c0_i32_21
  let c1_i32_22 : BitVec 32 := 1#32
  let v44 : BitVec 32 := Scalar.select v43 c1_i32_22 c2_i32_20
  let v45 : BitVec 32 := Scalar.remsi arg1 v44
  let c0_i32_24 : BitVec 32 := 0#32
  let v47 : BitVec 1 := Scalar.cmpi .slt v45 c0_i32_24
  let c0_i32_25 : BitVec 32 := 0#32
  let v48 : BitVec 1 := Scalar.cmpi .slt v44 c0_i32_25
  let v49 : BitVec 1 := Scalar.xori v47 v48
  let c0_i32_23 : BitVec 32 := 0#32
  let v46 : BitVec 1 := Scalar.cmpi .ne v45 c0_i32_23
  let v50 : BitVec 1 := Scalar.andi v49 v46
  let v51 : BitVec 32 := Scalar.addi v45 v44
  let v52 : BitVec 32 := Scalar.select v50 v51 v45
  let c1_i32_26 : BitVec 32 := 1#32
  let v53 : BitVec 1 := Scalar.cmpi .eq v52 c1_i32_26
  let v54 : BitVec 32 := Scalar.extui v53
  let c0_i32_27 : BitVec 32 := 0#32
  let v55 : BitVec 1 := Scalar.cmpi .ne v54 c0_i32_27
  v55

def k0_mult4 (i : grid0.Coords) : BitVec 32 :=
  let arg1 : BitVec 32 := BitVec.ofNat 32 (i 1).val
  let c1_i32_77 : BitVec 32 := 1#32
  let v155 : BitVec 32 := Scalar.subi arg1 c1_i32_77
  let c512_i32_78 : BitVec 32 := 512#32
  let v156 : BitVec 32 := Scalar.muli v155 c512_i32_78
  v156
def k0_off7 (i : grid0.Coords) : Fin 3 → Nat :=
  let c0_79 : Index := 0#32
  let arg1 : BitVec 32 := BitVec.ofNat 32 (i 1).val
  let c1_i32_77 : BitVec 32 := 1#32
  let v155 : BitVec 32 := Scalar.subi arg1 c1_i32_77
  let c512_i32_78 : BitVec 32 := 512#32
  let v156 : BitVec 32 := Scalar.muli v155 c512_i32_78
  let v157 : BitVec 32 := v156
  let v158 : Index := Scalar.indexCast v157
  let c0_80 : Index := 0#32
  ![0, v158.toNat, 0]
def k0_off8 (i : grid0.Coords) : Fin 3 → Nat :=
  let c0_92 : Index := 0#32
  let c0_93 : Index := 0#32
  let arg1 : BitVec 32 := BitVec.ofNat 32 (i 1).val
  let c1_i32_77 : BitVec 32 := 1#32
  let v155 : BitVec 32 := Scalar.subi arg1 c1_i32_77
  let c512_i32_78 : BitVec 32 := 512#32
  let v156 : BitVec 32 := Scalar.muli v155 c512_i32_78
  let v157 : BitVec 32 := v156
  let v183 : Index := Scalar.indexCast v157
  ![0, 0, v183.toNat]
def k0_mult5 (i : grid0.Coords) : BitVec 32 :=
  let arg1 : BitVec 32 := BitVec.ofNat 32 (i 1).val
  let c512_i32 : BitVec 32 := 512#32
  let v56 : BitVec 32 := Scalar.muli arg1 c512_i32
  v56
def k0_mult6 (i : grid0.Coords) : BitVec 32 :=
  let arg1 : BitVec 32 := BitVec.ofNat 32 (i 1).val
  let c512_i32_28 : BitVec 32 := 512#32
  let v58 : BitVec 32 := Scalar.muli arg1 c512_i32_28
  let c256_i32 : BitVec 32 := 256#32
  let v59 : BitVec 32 := Scalar.addi v58 c256_i32
  v59
def k0_off9 (i : grid0.Coords) : Fin 3 → Nat :=
  let c0_29 : Index := 0#32
  let arg1 : BitVec 32 := BitVec.ofNat 32 (i 1).val
  let c512_i32 : BitVec 32 := 512#32
  let v56 : BitVec 32 := Scalar.muli arg1 c512_i32
  let v57 : BitVec 32 := v56
  let v61 : Index := Scalar.indexCast v57
  let c0_30 : Index := 0#32
  ![0, v61.toNat, 0]
def k0_off10 (i : grid0.Coords) : Fin 3 → Nat :=
  let c0_36 : Index := 0#32
  let arg1 : BitVec 32 := BitVec.ofNat 32 (i 1).val
  let c512_i32_28 : BitVec 32 := 512#32
  let v58 : BitVec 32 := Scalar.muli arg1 c512_i32_28
  let c256_i32 : BitVec 32 := 256#32
  let v59 : BitVec 32 := Scalar.addi v58 c256_i32
  let v60 : BitVec 32 := v59
  let v72 : Index := Scalar.indexCast v60
  let c0_37 : Index := 0#32
  ![0, v72.toNat, 0]
def k0_off11 (i : grid0.Coords) : Fin 3 → Nat :=
  let c0_51 : Index := 0#32
  let c0_52 : Index := 0#32
  let arg1 : BitVec 32 := BitVec.ofNat 32 (i 1).val
  let c512_i32 : BitVec 32 := 512#32
  let v56 : BitVec 32 := Scalar.muli arg1 c512_i32
  let v57 : BitVec 32 := v56
  let v115 : Index := Scalar.indexCast v57
  ![0, 0, v115.toNat]
def k0_off12 (i : grid0.Coords) : Fin 3 → Nat :=
  let c0_58 : Index := 0#32
  let c0_59 : Index := 0#32
  let arg1 : BitVec 32 := BitVec.ofNat 32 (i 1).val
  let c512_i32_28 : BitVec 32 := 512#32
  let v58 : BitVec 32 := Scalar.muli arg1 c512_i32_28
  let c256_i32 : BitVec 32 := 256#32
  let v59 : BitVec 32 := Scalar.addi v58 c256_i32
  let v60 : BitVec 32 := v59
  let v125 : Index := Scalar.indexCast v60
  ![0, 0, v125.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdKernelIdeal.lean ====
variable {F : FTy → Type} [FloatOps F] [Named F]
def κ : String → Option EReal := fun
  | "log2e" => some (((Real.log 2)⁻¹ : ℝ) : EReal)
  | "mask" => some ⊥
  | "scale2" => some (((Real.sqrt 192)⁻¹ * (Real.log 2)⁻¹ : ℝ) : EReal)
  | _ => none
-- ==== FwdRefIdeal.lean ====
abbrev S4096x8x128 : Shape := ⟨3, ![4096, 8, 128]⟩
abbrev S4096x8x64 : Shape := ⟨3, ![4096, 8, 64]⟩
abbrev S4096x64 : Shape := ⟨2, ![4096, 64]⟩
abbrev S_ : Shape := ⟨0, ![]⟩
abbrev S8x4096x4096 : Shape := ⟨3, ![8, 4096, 4096]⟩
abbrev S4096x4096x8 : Shape := ⟨3, ![4096, 4096, 8]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x1024 : Shape := ⟨2, ![4096, 1024]⟩
abbrev S8x1x4096 : Shape := ⟨3, ![8, 1, 4096]⟩
abbrev S8x8x4096 : Shape := ⟨3, ![8, 8, 4096]⟩

abbrev nBuf : Space → Nat
  | .hbm => 77
  | .vmem => 0
  | .smem => 0
  | _ => 0

abbrev bufTy : (tb : Table) → Fin (tcTables nBuf tb) → BufTy
  | .hbm, ⟨0, _⟩ => ⟨S4096x8x128, .f32⟩
  | .hbm, ⟨1, _⟩ => ⟨S4096x8x64, .f32⟩
  | .hbm, ⟨2, _⟩ => ⟨S4096x8x128, .f32⟩
  | .hbm, ⟨3, _⟩ => ⟨S4096x64, .f32⟩
  | .hbm, ⟨4, _⟩ => ⟨S4096x8x128, .f32⟩
  | .hbm, ⟨5, _⟩ => ⟨S_, .f32⟩
  | .hbm, ⟨6, _⟩ => ⟨S_, .f32⟩
  | .hbm, ⟨7, _⟩ => ⟨S8x4096x4096, .f32⟩
  | .hbm, ⟨8, _⟩ => ⟨S4096x4096x8, .f32⟩
  | .hbm, ⟨9, _⟩ => ⟨S8x4096x4096, .f32⟩
  | .hbm, ⟨10, _⟩ => ⟨S8x4096x4096, .f32⟩
  | .hbm, ⟨11, _⟩ => ⟨S8x4096x4096, .f32⟩
  | .hbm, ⟨12, _⟩ => ⟨S8x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S8x4096x4096, .i1⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S8x4096, .f32⟩
  | .hbm, ⟨33, _⟩ => ⟨S8x4096, .f32⟩
  | .hbm, ⟨34, _⟩ => ⟨S_, .f32⟩
  | .hbm, ⟨35, _⟩ => ⟨S_, .f32⟩
  | .hbm, ⟨36, _⟩ => ⟨S8x4096, .f32⟩
  | .hbm, ⟨37, _⟩ => ⟨S8x4096, .f32⟩
  | .hbm, ⟨38, _⟩ => ⟨S_, .f32⟩
  | .hbm, ⟨39, _⟩ => ⟨S_, .f32⟩
  | .hbm, ⟨40, _⟩ => ⟨S8x4096x4096, .f32⟩
  | .hbm, ⟨41, _⟩ => ⟨S4096x4096x8, .f32⟩
  | .hbm, ⟨42, _⟩ => ⟨S8x4096x4096, .f32⟩
  | .hbm, ⟨43, _⟩ => ⟨S8x4096x4096, .f32⟩
  | .hbm, ⟨44, _⟩ => ⟨S8x4096x4096, .f32⟩
  | .hbm, ⟨45, _⟩ => ⟨S8x4096x4096, .f32⟩
  | .hbm, ⟨46, _⟩ => ⟨S4096, .i32⟩
  | .hbm, ⟨47, _⟩ => ⟨S1x4096, .i32⟩
  | .hbm, ⟨48, _⟩ => ⟨S4096x1, .i32⟩
  | .hbm, ⟨49, _⟩ => ⟨S4096x4096, .i32⟩
  | .hbm, ⟨50, _⟩ => ⟨S4096x4096, .i32⟩
  | .hbm, ⟨51, _⟩ => ⟨S4096x4096, .i1⟩
  | .hbm, ⟨52, _⟩ => ⟨S_, .f32⟩
  | .hbm, ⟨53, _⟩ => ⟨S_, .f32⟩
  | .hbm, ⟨54, _⟩ => ⟨S8x4096x4096, .i1⟩
  | .hbm, ⟨55, _⟩ => ⟨S8x4096x4096, .f32⟩
  | .hbm, ⟨56, _⟩ => ⟨S8x4096x4096, .f32⟩
  | .hbm, ⟨57, _⟩ => ⟨S_, .f32⟩
  | .hbm, ⟨58, _⟩ => ⟨S8x4096, .f32⟩
  | .hbm, ⟨59, _⟩ => ⟨S_, .f32⟩
  | .hbm, ⟨60, _⟩ => ⟨S8x4096, .f32⟩
  | .hbm, ⟨61, _⟩ => ⟨S8x4096, .f32⟩
  | .hbm, ⟨62, _⟩ => ⟨S8x4096x1, .f32⟩
  | .hbm, ⟨63, _⟩ => ⟨S8x4096x4096, .f32⟩
  | .hbm, ⟨64, _⟩ => ⟨S8x4096x4096, .f32⟩
  | .hbm, ⟨65, _⟩ => ⟨S8x4096x4096, .f32⟩
  | .hbm, ⟨66, _⟩ => ⟨S_, .f32⟩
  | .hbm, ⟨67, _⟩ => ⟨S8x4096, .f32⟩
  | .hbm, ⟨68, _⟩ => ⟨S8x4096x1, .f32⟩
  | .hbm, ⟨69, _⟩ => ⟨S8x4096x4096, .f32⟩
  | .hbm, ⟨70, _⟩ => ⟨S8x4096x4096, .f32⟩
  | .hbm, ⟨71, _⟩ => ⟨S8x128x4096, .f32⟩
  | .hbm, ⟨72, _⟩ => ⟨S4096x8x128, .f32⟩
  | .hbm, ⟨73, _⟩ => ⟨S4096x1024, .f32⟩
  | .hbm, ⟨74, _⟩ => ⟨S4096x1024, .bf16⟩
  | .hbm, ⟨75, _⟩ => ⟨S8x1x4096, .f32⟩
  | .hbm, ⟨76, _⟩ => ⟨S8x8x4096, .f32⟩
  | _, _ => ⟨S4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== ProjKernel.lean ====
abbrev S4096x2048 : Shape := ⟨2, ![4096, 2048]⟩
abbrev S2048 : Shape := ⟨1, ![2048]⟩
abbrev S2048x4032 : Shape := ⟨2, ![2048, 4032]⟩
abbrev S1x2048 : Shape := ⟨2, ![1, 2048]⟩
abbrev S_ : Shape := ⟨0, ![]⟩
abbrev S2048x64 : Shape := ⟨2, ![2048, 64]⟩
abbrev S2048x1024 : Shape := ⟨2, ![2048, 1024]⟩
abbrev S2048x704 : Shape := ⟨2, ![2048, 704]⟩
abbrev S2048x256 : Shape := ⟨2, ![2048, 256]⟩
abbrev S2048x4096 : Shape := ⟨2, ![2048, 4096]⟩
abbrev S4096x4096 : Shape := ⟨2, ![4096, 4096]⟩
abbrev S512x2048 : Shape := ⟨2, ![512, 2048]⟩
abbrev S512x4096 : Shape := ⟨2, ![512, 4096]⟩
abbrev S512 : Shape := ⟨1, ![512]⟩
abbrev S512x1 : Shape := ⟨2, ![512, 1]⟩
abbrev S512x1024 : Shape := ⟨2, ![512, 1024]⟩
abbrev S4096x1024 : Shape := ⟨2, ![4096, 1024]⟩
abbrev S4096x256 : Shape := ⟨2, ![4096, 256]⟩
abbrev S4096x704 : Shape := ⟨2, ![4096, 704]⟩
abbrev S4096x4032 : Shape := ⟨2, ![4096, 4032]⟩

abbrev nBuf : Space → Nat
  | .hbm => 21
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048x4032, .f32⟩
  | .hbm, ⟨3, _⟩ => ⟨S1x2048, .f32⟩
  | .hbm, ⟨4, _⟩ => ⟨S_, .f32⟩
  | .hbm, ⟨5, _⟩ => ⟨S2048x64, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x704, .f32⟩
  | .hbm, ⟨10, _⟩ => ⟨S2048x256, .f32⟩
  | .hbm, ⟨11, _⟩ => ⟨S2048x4096, .f32⟩
  | .hbm, ⟨12, _⟩ => ⟨S2048x4096, .bf16⟩
  | .hbm, ⟨13, _⟩ => ⟨S4096x4096, .bf16⟩
  | .hbm, ⟨14, _⟩ => ⟨S4096x2048, .bf16⟩
  | .hbm, ⟨15, _⟩ => ⟨S4096x1024, .bf16⟩
  | .hbm, ⟨16, _⟩ => ⟨S4096x256, .bf16⟩
  | .hbm, ⟨17, _⟩ => ⟨S4096x1024, .bf16⟩
  | .hbm, ⟨18, _⟩ => ⟨S4096x704, .bf16⟩
  | .hbm, ⟨19, _⟩ => ⟨S4096x1024, .bf16⟩
  | .hbm, ⟨20, _⟩ => ⟨S4096x4032, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4096, .bf16⟩
  | .local _ .vmem, ⟨4, _⟩ => ⟨S512x4096, .bf16⟩
  | .local _ .vmem, ⟨5, _⟩ => ⟨S512x4096, .bf16⟩
  | .local _ .vmem, ⟨6, _⟩ => ⟨S512x2048, .bf16⟩
  | .local _ .vmem, ⟨7, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjRefIdeal.lean ====
abbrev S4096x2048 : Shape := ⟨2, ![4096, 2048]⟩
abbrev S2048 : Shape := ⟨1, ![2048]⟩
abbrev S2048x4032 : Shape := ⟨2, ![2048, 4032]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S4096x4032 : Shape := ⟨2, ![4096, 4032]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048x4032, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x4032, .f32⟩
  | .hbm, ⟨20, _⟩ => ⟨S4096x4032, .bf16⟩
  | .hbm, ⟨21, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== LatKernel.lean ====
abbrev S4096x4032 : Shape := ⟨2, ![4096, 4032]⟩
abbrev S384 : Shape := ⟨1, ![384]⟩
abbrev S256 : Shape := ⟨1, ![256]⟩
abbrev S384x1536 : Shape := ⟨2, ![384, 1536]⟩
abbrev S256x2048 : Shape := ⟨2, ![256, 2048]⟩
abbrev S384x8x192 : Shape := ⟨3, ![384, 8, 192]⟩
abbrev S384x8x64 : Shape := ⟨3, ![384, 8, 64]⟩
abbrev S_ : Shape := ⟨0, ![]⟩
abbrev S384x8x128 : Shape := ⟨3, ![384, 8, 128]⟩
abbrev S384x1024 : Shape := ⟨2, ![384, 1024]⟩
abbrev S384x2048 : Shape := ⟨2, ![384, 2048]⟩
abbrev S256x8x256 : Shape := ⟨3, ![256, 8, 256]⟩
abbrev S256x8x128 : Shape := ⟨3, ![256, 8, 128]⟩
abbrev S256x1024 : Shape := ⟨2, ![256, 1024]⟩
abbrev S4096x64 : Shape := ⟨2, ![4096, 64]⟩
abbrev S4096x1024 : Shape := ⟨2, ![4096, 1024]⟩
abbrev S4096x704 : Shape := ⟨2, ![4096, 704]⟩
abbrev S4096x256 : Shape := ⟨2, ![4096, 256]⟩
abbrev S4096x4096 : Shape := ⟨2, ![4096, 4096]⟩
abbrev S1x384 : Shape := ⟨2, ![1, 384]⟩
abbrev S1x256 : Shape := ⟨2, ![1, 256]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S8x4096x256 : Shape := ⟨3, ![8, 4096, 256]⟩
abbrev S8x4096x128 : Shape := ⟨3, ![8, 4096, 128]⟩
abbrev S8x256x4096 : Shape := ⟨3, ![8, 256, 4096]⟩
abbrev S512x768 : Shape := ⟨2, ![512, 768]⟩
abbrev S512x128 : Shape := ⟨2, ![512, 128]⟩
abbrev S8x512x256 : Shape := ⟨3, ![8, 512, 256]⟩
abbrev S8x512x128 : Shape := ⟨3, ![8, 512, 128]⟩
abbrev S8x256x512 : Shape := ⟨3, ![8, 256, 512]⟩
abbrev S512x384 : Shape := ⟨2, ![512, 384]⟩
abbrev S512 : Shape := ⟨1, ![512]⟩
abbrev S512x1 : Shape := ⟨2, ![512, 1]⟩
abbrev S512x256 : Shape := ⟨2, ![512, 256]⟩
abbrev S512x2048 : Shape := ⟨2, ![512, 2048]⟩
abbrev S1x512x128 : Shape := ⟨3, ![1, 512, 128]⟩
abbrev S128x512 : Shape := ⟨2, ![128, 512]⟩
abbrev S1x128x512 : Shape := ⟨3, ![1, 128, 512]⟩
abbrev S4096x8x256 : Shape := ⟨3, ![4096, 8, 256]⟩
abbrev S4096x8x128 : Shape := ⟨3, ![4096, 8, 128]⟩
abbrev S4096x8x64 : Shape := ⟨3, ![4096, 8, 64]⟩

abbrev nBuf : Space → Nat
  | .hbm => 74
  | .vmem => 20
  | .smem => 0
  | _ => 0

abbrev bufTy : (tb : Table) → Fin (tcTables nBuf tb) → BufTy
  | .hbm, ⟨0, _⟩ => ⟨S4096x4032, .f32⟩
  | .hbm, ⟨1, _⟩ => ⟨S384, .f32⟩
  | .hbm, ⟨2, _⟩ => ⟨S256, .f32⟩
  | .hbm, ⟨3, _⟩ => ⟨S384x1536, .f32⟩
  | .hbm, ⟨4, _⟩ => ⟨S256x2048, .f32⟩
  | .hbm, ⟨5, _⟩ => ⟨S384x8x192, .f32⟩
  | .hbm, ⟨6, _⟩ => ⟨S384x8x64, .f32⟩
  | .hbm, ⟨7, _⟩ => ⟨S_, .f32⟩
  | .hbm, ⟨8, _⟩ => ⟨S384x8x64, .f32⟩
  | .hbm, ⟨9, _⟩ => ⟨S384x8x128, .f32⟩
  | .hbm, ⟨10, _⟩ => ⟨S384x8x128, .f32⟩
  | .hbm, ⟨11, _⟩ => ⟨S384x1024, .f32⟩
  | .hbm, ⟨12, _⟩ => ⟨S384x1024, .f32⟩
  | .hbm, ⟨13, _⟩ => ⟨S384x2048, .f32⟩
  | .hbm, ⟨14, _⟩ => ⟨S256x8x256, .f32⟩
  | .hbm, ⟨15, _⟩ => ⟨S256x8x128, .f32⟩
  | .hbm, ⟨16, _⟩ => ⟨S256x1024, .f32⟩
  | .hbm, ⟨17, _⟩ => ⟨S256x8x128, .f32⟩
  | .hbm, ⟨18, _⟩ => ⟨S256x1024, .f32⟩
  | .hbm, ⟨19, _⟩ => ⟨S256x2048, .f32⟩
  | .hbm, ⟨20, _⟩ => ⟨S_, .f32⟩
  | .hbm, ⟨21, _⟩ => ⟨S4096x64, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x704, .f32⟩
  | .hbm, ⟨26, _⟩ => ⟨S4096x256, .f32⟩
  | .hbm, ⟨27, _⟩ => ⟨S4096x4096, .f32⟩
  | .hbm, ⟨28, _⟩ => ⟨S4096x4096, .bf16⟩
  | .hbm, ⟨29, _⟩ => ⟨S1x384, .f32⟩
  | .hbm, ⟨30, _⟩ => ⟨S1x256, .f32⟩
  | .hbm, ⟨31, _⟩ => ⟨S384x2048, .bf16⟩
  | .hbm, ⟨32, _⟩ => ⟨S256x2048, .bf16⟩
  | .hbm, ⟨33, _⟩ => ⟨S4096, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S4096x1, .f32⟩
  | .hbm, ⟨49, _⟩ => ⟨S1x32, .f32⟩
  | .hbm, ⟨50, _⟩ => ⟨S4096x32, .f32⟩
  | .hbm, ⟨51, _⟩ => ⟨S4096x32, .f32⟩
  | .hbm, ⟨52, _⟩ => ⟨S4096x32, .f32⟩
  | .hbm, ⟨53, _⟩ => ⟨S4096x32, .f32⟩
  | .hbm, ⟨54, _⟩ => ⟨S4096x32, .f32⟩
  | .hbm, ⟨55, _⟩ => ⟨S_, .f32⟩
  | .hbm, ⟨56, _⟩ => ⟨S4096x32, .f32⟩
  | .hbm, ⟨57, _⟩ => ⟨S_, .f32⟩
  | .hbm, ⟨58, _⟩ => ⟨S4096x64, .f32⟩
  | .hbm, ⟨59, _⟩ => ⟨S4096x128, .f32⟩
  | .hbm, ⟨60, _⟩ => ⟨S4096x128, .f32⟩
  | .hbm, ⟨61, _⟩ => ⟨S4096x32, .f32⟩
  | .hbm, ⟨62, _⟩ => ⟨S4096x128, .f32⟩
  | .hbm, ⟨63, _⟩ => ⟨S8x4096x256, .bf16⟩
  | .hbm, ⟨64, _⟩ => ⟨S8x4096x256, .bf16⟩
  | .hbm, ⟨65, _⟩ => ⟨S8x4096x128, .bf16⟩
  | .hbm, ⟨66, _⟩ => ⟨S8x256x4096, .bf16⟩
  | .hbm, ⟨67, _⟩ => ⟨S4096x8x256, .bf16⟩
  | .hbm, ⟨68, _⟩ => ⟨S4096x8x256, .bf16⟩
  | .hbm, ⟨69, _⟩ => ⟨S4096x8x128, .bf16⟩
  | .hbm, ⟨70, _⟩ => ⟨S4096x8x64, .bf16⟩
  | .hbm, ⟨71, _⟩ => ⟨S4096x8x128, .bf16⟩
  | .hbm, ⟨72, _⟩ => ⟨S4096x8x64, .bf16⟩
  | .hbm, ⟨73, _⟩ => ⟨S4096x8x128, .bf16⟩
  | .local _ .vmem, ⟨0, _⟩ => ⟨S512x768, .bf16⟩
  | .local _ .vmem, ⟨1, _⟩ => ⟨S512x768, .bf16⟩
  | .local _ .vmem, ⟨2, _⟩ => ⟨S1x384, .f32⟩
  | .local _ .vmem, ⟨3, _⟩ => ⟨S1x256, .f32⟩
  | .local _ .vmem, ⟨4, _⟩ => ⟨S384x2048, .bf16⟩
  | .local _ .vmem, ⟨5, _⟩ => ⟨S256x2048, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S8x512x256, .bf16⟩
  | .local _ .vmem, ⟨13, _⟩ => ⟨S8x512x256, .bf16⟩
  | .local _ .vmem, ⟨14, _⟩ => ⟨S8x512x256, .bf16⟩
  | .local _ .vmem, ⟨15, _⟩ => ⟨S8x512x256, .bf16⟩
  | .local _ .vmem, ⟨16, _⟩ => ⟨S8x512x128, .bf16⟩
  | .local _ .vmem, ⟨17, _⟩ => ⟨S8x512x128, .bf16⟩
  | .local _ .vmem, ⟨18, _⟩ => ⟨S8x256x512, .bf16⟩
  | .local _ .vmem, ⟨19, _⟩ => ⟨S8x256x512, .bf16⟩
  | _, _ => ⟨S4096x4032, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50_0 : Ref sig .tc := ⟨.hbm, 63, rfl⟩
abbrev main_v50_1 : Ref sig .tc := ⟨.hbm, 64, rfl⟩
abbrev main_v50_2 : Ref sig .tc := ⟨.hbm, 65, rfl⟩
abbrev main_v50_3 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== LatRefIdeal.lean ====
abbrev S4096x4032 : Shape := ⟨2, ![4096, 4032]⟩
abbrev S384 : Shape := ⟨1, ![384]⟩
abbrev S256 : Shape := ⟨1, ![256]⟩
abbrev S384x1536 : Shape := ⟨2, ![384, 1536]⟩
abbrev S256x2048 : Shape := ⟨2, ![256, 2048]⟩
abbrev S4096x1024 : Shape := ⟨2, ![4096, 1024]⟩
abbrev S4096x128 : Shape := ⟨2, ![4096, 128]⟩
abbrev S4096x384 : Shape := ⟨2, ![4096, 384]⟩
abbrev S4096x256 : Shape := ⟨2, ![4096, 256]⟩
abbrev S4096x64 : Shape := ⟨2, ![4096, 64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x384 : Shape := ⟨2, ![1, 384]⟩
abbrev S4096x1536 : Shape := ⟨2, ![4096, 1536]⟩
abbrev S4096x8x192 : Shape := ⟨3, ![4096, 8, 192]⟩
abbrev S4096x8x64 : Shape := ⟨3, ![4096, 8, 64]⟩
abbrev S4096x1x32 : Shape := ⟨3, ![4096, 1, 32]⟩
abbrev S4096x8x32 : Shape := ⟨3, ![4096, 8, 32]⟩
abbrev S1x256 : Shape := ⟨2, ![1, 256]⟩
abbrev S4096x2048 : Shape := ⟨2, ![4096, 2048]⟩
abbrev S4096x8x256 : Shape := ⟨3, ![4096, 8, 256]⟩
abbrev S4096x8x128 : Shape := ⟨3, ![4096, 8, 128]⟩
abbrev S8x128x4096 : Shape := ⟨3, ![8, 128, 4096]⟩
abbrev S8x256x4096 : Shape := ⟨3, ![8, 256, 4096]⟩
abbrev S4096x1x64 : Shape := ⟨3, ![4096, 1, 64]⟩

abbrev nBuf : Space → Nat
  | .hbm => 111
  | .vmem => 0
  | .smem => 0
  | _ => 0

abbrev bufTy : (tb : Table) → Fin (tcTables nBuf tb) → BufTy
  | .hbm, ⟨0, _⟩ => ⟨S4096x4032, .f32⟩
  | .hbm, ⟨1, _⟩ => ⟨S384, .f32⟩
  | .hbm, ⟨2, _⟩ => ⟨S256, .f32⟩
  | .hbm, ⟨3, _⟩ => ⟨S384x1536, .f32⟩
  | .hbm, ⟨4, _⟩ => ⟨S256x2048, .f32⟩
  | .hbm, ⟨5, _⟩ => ⟨S4096x1024, .f32⟩
  | .hbm, ⟨6, _⟩ => ⟨S4096x128, .f32⟩
  | .hbm, ⟨7, _⟩ => ⟨S4096x128, .f32⟩
  | .hbm, ⟨8, _⟩ => ⟨S4096x1024, .f32⟩
  | .hbm, ⟨9, _⟩ => ⟨S4096x384, .f32⟩
  | .hbm, ⟨10, _⟩ => ⟨S4096x256, .f32⟩
  | .hbm, ⟨11, _⟩ => ⟨S4096x64, .f32⟩
  | .hbm, ⟨12, _⟩ => ⟨S4096x1024, .f32⟩
  | .hbm, ⟨13, _⟩ => ⟨S4096, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S4096x1, .f32⟩
  | .hbm, ⟨29, _⟩ => ⟨S1x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S4096x384, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x384, .f32⟩
  | .hbm, ⟨47, _⟩ => ⟨S4096x384, .f32⟩
  | .hbm, ⟨48, _⟩ => ⟨S1x384, .f32⟩
  | .hbm, ⟨49, _⟩ => ⟨S4096x384, .f32⟩
  | .hbm, ⟨50, _⟩ => ⟨S4096x384, .f32⟩
  | .hbm, ⟨51, _⟩ => ⟨S4096x1536, .f32⟩
  | .hbm, ⟨52, _⟩ => ⟨S4096x8x192, .f32⟩
  | .hbm, ⟨53, _⟩ => ⟨S4096x8x64, .f32⟩
  | .hbm, ⟨54, _⟩ => ⟨S4096x1x32, .f32⟩
  | .hbm, ⟨55, _⟩ => ⟨S4096x1x32, .f32⟩
  | .hbm, ⟨56, _⟩ => ⟨S4096x8x32, .f32⟩
  | .hbm, ⟨57, _⟩ => ⟨S4096x8x32, .f32⟩
  | .hbm, ⟨58, _⟩ => ⟨S4096x8x32, .f32⟩
  | .hbm, ⟨59, _⟩ => ⟨S4096x8x32, .f32⟩
  | .hbm, ⟨60, _⟩ => ⟨S4096x8x32, .f32⟩
  | .hbm, ⟨61, _⟩ => ⟨S4096x8x32, .f32⟩
  | .hbm, ⟨62, _⟩ => ⟨S4096x8x32, .f32⟩
  | .hbm, ⟨63, _⟩ => ⟨S4096x8x32, .f32⟩
  | .hbm, ⟨64, _⟩ => ⟨S4096x8x32, .f32⟩
  | .hbm, ⟨65, _⟩ => ⟨S4096x8x32, .f32⟩
  | .hbm, ⟨66, _⟩ => ⟨S4096x8x32, .f32⟩
  | .hbm, ⟨67, _⟩ => ⟨S4096x8x32, .f32⟩
  | .hbm, ⟨68, _⟩ => ⟨S4096x8x64, .f32⟩
  | .hbm, ⟨69, _⟩ => ⟨S4096x256, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S4096x1, .f32⟩
  | .hbm, ⟨80, _⟩ => ⟨S4096x256, .f32⟩
  | .hbm, ⟨81, _⟩ => ⟨S4096x256, .f32⟩
  | .hbm, ⟨82, _⟩ => ⟨S1x256, .f32⟩
  | .hbm, ⟨83, _⟩ => ⟨S4096x256, .f32⟩
  | .hbm, ⟨84, _⟩ => ⟨S4096x256, .f32⟩
  | .hbm, ⟨85, _⟩ => ⟨S4096x2048, .f32⟩
  | .hbm, ⟨86, _⟩ => ⟨S4096x8x256, .f32⟩
  | .hbm, ⟨87, _⟩ => ⟨S4096x32, .f32⟩
  | .hbm, ⟨88, _⟩ => ⟨S4096x32, .f32⟩
  | .hbm, ⟨89, _⟩ => ⟨S4096x32, .f32⟩
  | .hbm, ⟨90, _⟩ => ⟨S4096x32, .f32⟩
  | .hbm, ⟨91, _⟩ => ⟨S4096x32, .f32⟩
  | .hbm, ⟨92, _⟩ => ⟨S4096x32, .f32⟩
  | .hbm, ⟨93, _⟩ => ⟨S4096x32, .f32⟩
  | .hbm, ⟨94, _⟩ => ⟨S4096x32, .f32⟩
  | .hbm, ⟨95, _⟩ => ⟨S4096x64, .f32⟩
  | .hbm, ⟨96, _⟩ => ⟨S4096x8x128, .f32⟩
  | .hbm, ⟨97, _⟩ => ⟨S8x128x4096, .f32⟩
  | .hbm, ⟨98, _⟩ => ⟨S_, .f32⟩
  | .hbm, ⟨99, _⟩ => ⟨S8x128x4096, .f32⟩
  | .hbm, ⟨100, _⟩ => ⟨S8x256x4096, .f32⟩
  | .hbm, ⟨101, _⟩ => ⟨S4096x8x128, .f32⟩
  | .hbm, ⟨102, _⟩ => ⟨S4096x8x128, .bf16⟩
  | .hbm, ⟨103, _⟩ => ⟨S4096x8x64, .bf16⟩
  | .hbm, ⟨104, _⟩ => ⟨S4096x8x128, .f32⟩
  | .hbm, ⟨105, _⟩ => ⟨S4096x8x128, .bf16⟩
  | .hbm, ⟨106, _⟩ => ⟨S4096x1x64, .f32⟩
  | .hbm, ⟨107, _⟩ => ⟨S4096x8x64, .f32⟩
  | .hbm, ⟨108, _⟩ => ⟨S4096x8x64, .bf16⟩
  | .hbm, ⟨109, _⟩ => ⟨S4096x8x128, .bf16⟩
  | .hbm, ⟨110, _⟩ => ⟨S8x256x4096, .bf16⟩
  | _, _ => ⟨S4096x4032, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_6 : Ref sig .tc := ⟨.hbm, 70, rfl⟩
abbrev main_v58 : Ref sig .tc := ⟨.hbm, 71, rfl⟩
abbrev main_v59 : Ref sig .tc := ⟨.hbm, 72, rfl⟩
abbrev main_cst_7 : Ref sig .tc := ⟨.hbm, 73, rfl⟩
abbrev main_v60 : Ref sig .tc := ⟨.hbm, 74, rfl⟩
abbrev main_v61 : Ref sig .tc := ⟨.hbm, 75, rfl⟩
abbrev main_cst_8 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_cst_9 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩

abbrev nD : Nat := 1
abbrev τ : Topo := Topo.v7x

variable {F : FTy → Type} [FloatOps F]
-- ==== WinKernel.lean ====
abbrev S4096x4032 : Shape := ⟨2, ![4096, 4032]⟩
abbrev S16 : Shape := ⟨1, ![16]⟩
abbrev S_ : Shape := ⟨0, ![]⟩
abbrev S4096x64 : Shape := ⟨2, ![4096, 64]⟩
abbrev S4096x1024 : Shape := ⟨2, ![4096, 1024]⟩
abbrev S4096x704 : Shape := ⟨2, ![4096, 704]⟩
abbrev S4096x256 : Shape := ⟨2, ![4096, 256]⟩
abbrev S4096x4096 : Shape := ⟨2, ![4096, 4096]⟩
abbrev S128x1024 : Shape := ⟨2, ![128, 1024]⟩
abbrev S128x256 : Shape := ⟨2, ![128, 256]⟩
abbrev S256x2048 : Shape := ⟨2, ![256, 2048]⟩
abbrev S1x2048 : Shape := ⟨2, ![1, 2048]⟩
abbrev S128x128 : Shape := ⟨2, ![128, 128]⟩
abbrev S256x128 : Shape := ⟨2, ![256, 128]⟩
abbrev S1024x128 : Shape := ⟨2, ![1024, 128]⟩
abbrev S512x128 : Shape := ⟨2, ![512, 128]⟩
abbrev S2048x128 : Shape := ⟨2, ![2048, 128]⟩
abbrev S1 : Shape := ⟨1, ![1]⟩
abbrev S2048 : Shape := ⟨1, ![2048]⟩
abbrev S128x2048 : Shape := ⟨2, ![128, 2048]⟩
abbrev S64x512 : Shape := ⟨2, ![64, 512]⟩
abbrev S128x512 : Shape := ⟨2, ![128, 512]⟩

abbrev nBuf : Space → Nat
  | .hbm => 12
  | .vmem => 9
  | .smem => 1
  | _ => 0

abbrev bufTy : (tb : Table) → Fin (tcTables nBuf tb) → BufTy
  | .hbm, ⟨0, _⟩ => ⟨S4096x4032, .f32⟩
  | .hbm, ⟨1, _⟩ => ⟨S16, .f32⟩
  | .hbm, ⟨2, _⟩ => ⟨S_, .f32⟩
  | .hbm, ⟨3, _⟩ => ⟨S4096x64, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x704, .f32⟩
  | .hbm, ⟨8, _⟩ => ⟨S4096x256, .f32⟩
  | .hbm, ⟨9, _⟩ => ⟨S4096x4096, .f32⟩
  | .hbm, ⟨10, _⟩ => ⟨S4096x4096, .bf16⟩
  | .hbm, ⟨11, _⟩ => ⟨S4096x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x1024, .bf16⟩
  | .local _ .vmem, ⟨7, _⟩ => ⟨S128x1024, .bf16⟩
  | .local _ .vmem, ⟨8, _⟩ => ⟨S256x2048, .f32⟩
  | .local _ .smem, ⟨0, _⟩ => ⟨S16, .f32⟩
  | _, _ => ⟨S4096x4032, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c15_i32 : BitVec 32 := 15#32
  let c0_i32_0 : BitVec 32 := 0#32
  ![v1.toNat, c15_i32.toNat]

def cc0_transform_3 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== WinKernelIdeal.lean ====
variable {F : FTy → Type} [FloatOps F] [Named F]
def κ : String → Option EReal := fun
  | "mask" => some ⊥
  | "slope0" => some (((1 * (Real.sqrt 2))⁻¹ : ℝ) : EReal)
  | "slope1" => some (((2 * (Real.sqrt 2))⁻¹ : ℝ) : EReal)
  | "slope2" => some (((4 * (Real.sqrt 2))⁻¹ : ℝ) : EReal)
  | "slope3" => some (((8 * (Real.sqrt 2))⁻¹ : ℝ) : EReal)
  | "slope4" => some (((16 * (Real.sqrt 2))⁻¹ : ℝ) : EReal)
  | "slope5" => some (((32 * (Real.sqrt 2))⁻¹ : ℝ) : EReal)
  | "slope6" => some (((64 * (Real.sqrt 2))⁻¹ : ℝ) : EReal)
  | "slope7" => some (((128 * (Real.sqrt 2))⁻¹ : ℝ) : EReal)
  | _ => none
-- ==== WinRefIdeal.lean ====
abbrev S4096x4032 : Shape := ⟨2, ![4096, 4032]⟩
abbrev S16 : Shape := ⟨1, ![16]⟩
abbrev S4096x1024 : Shape := ⟨2, ![4096, 1024]⟩
abbrev S4096x128 : Shape := ⟨2, ![4096, 128]⟩
abbrev S4096x384 : Shape := ⟨2, ![4096, 384]⟩
abbrev S4096x256 : Shape := ⟨2, ![4096, 256]⟩
abbrev S4096x64 : Shape := ⟨2, ![4096, 64]⟩
abbrev S1x4096x16x64 : Shape := ⟨4, ![1, 4096, 16, 64]⟩
abbrev S1x4096x2x64 : Shape := ⟨4, ![1, 4096, 2, 64]⟩
abbrev S1x32x128x2x8x64 : Shape := ⟨6, ![1, 32, 128, 2, 8, 64]⟩
abbrev S_ : Shape := ⟨0, ![]⟩
abbrev S1x128x2x64 : Shape := ⟨4, ![1, 128, 2, 64]⟩
abbrev S1x4224x2x64 : Shape := ⟨4, ![1, 4224, 2, 64]⟩
abbrev S1x33x128x2x64 : Shape := ⟨5, ![1, 33, 128, 2, 64]⟩
abbrev S1x32x128x2x64 : Shape := ⟨5, ![1, 32, 128, 2, 64]⟩
abbrev S1x32x256x2x64 : Shape := ⟨5, ![1, 32, 256, 2, 64]⟩
abbrev S1x32x2x256x128x8 : Shape := ⟨6, ![1, 32, 2, 256, 128, 8]⟩
abbrev S1x32x2x8x128x256 : Shape := ⟨6, ![1, 32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S2x8 : Shape := ⟨2, ![2, 8]⟩
abbrev S2x8x1x1 : Shape := ⟨4, ![2, 8, 1, 1]⟩
abbrev S1x1x128x256 : Shape := ⟨4, ![1, 1, 128, 256]⟩
abbrev S2x8x128x256 : Shape := ⟨4, ![2, 8, 128, 256]⟩
abbrev S1x32x1x1x128x256 : Shape := ⟨6, ![1, 32, 1, 1, 128, 256]⟩
abbrev S1x1x2x8x128x256 : Shape := ⟨6, ![1, 1, 2, 8, 128, 256]⟩
abbrev S1x32x2x8x128x1 : Shape := ⟨6, ![1, 32, 2, 8, 128, 1]⟩
abbrev S1x32x2x8x128x257 : Shape := ⟨6, ![1, 32, 2, 8, 128, 257]⟩
abbrev S1x32x2x8x128 : Shape := ⟨5, ![1, 32, 2, 8, 128]⟩
abbrev S1x32x2x64x8x128 : Shape := ⟨6, ![1, 32, 2, 64, 8, 128]⟩
abbrev S1x4096x1024 : Shape := ⟨3, ![1, 4096, 1024]⟩

abbrev nBuf : Space → Nat
  | .hbm => 124
  | .vmem => 0
  | .smem => 0
  | _ => 0

abbrev bufTy : (tb : Table) → Fin (tcTables nBuf tb) → BufTy
  | .hbm, ⟨0, _⟩ => ⟨S4096x4032, .f32⟩
  | .hbm, ⟨1, _⟩ => ⟨S16, .f32⟩
  | .hbm, ⟨2, _⟩ => ⟨S4096x1024, .f32⟩
  | .hbm, ⟨3, _⟩ => ⟨S4096x128, .f32⟩
  | .hbm, ⟨4, _⟩ => ⟨S4096x128, .f32⟩
  | .hbm, ⟨5, _⟩ => ⟨S4096x1024, .f32⟩
  | .hbm, ⟨6, _⟩ => ⟨S4096x384, .f32⟩
  | .hbm, ⟨7, _⟩ => ⟨S4096x256, .f32⟩
  | .hbm, ⟨8, _⟩ => ⟨S4096x64, .f32⟩
  | .hbm, ⟨9, _⟩ => ⟨S4096x1024, .f32⟩
  | .hbm, ⟨10, _⟩ => ⟨S1x4096x16x64, .f32⟩
  | .hbm, ⟨11, _⟩ => ⟨S1x4096x2x64, .f32⟩
  | .hbm, ⟨12, _⟩ => ⟨S1x4096x2x64, .f32⟩
  | .hbm, ⟨13, _⟩ => ⟨S1x32x128x2x8x64, .f32⟩
  | .hbm, ⟨14, _⟩ => ⟨S_, .f32⟩
  | .hbm, ⟨15, _⟩ => ⟨S1x128x2x64, .f32⟩
  | .hbm, ⟨16, _⟩ => ⟨S1x4224x2x64, .f32⟩
  | .hbm, ⟨17, _⟩ => ⟨S1x33x128x2x64, .f32⟩
  | .hbm, ⟨18, _⟩ => ⟨S1x4224x2x64, .f32⟩
  | .hbm, ⟨19, _⟩ => ⟨S1x33x128x2x64, .f32⟩
  | .hbm, ⟨20, _⟩ => ⟨S1x32x128x2x64, .f32⟩
  | .hbm, ⟨21, _⟩ => ⟨S1x32x128x2x64, .f32⟩
  | .hbm, ⟨22, _⟩ => ⟨S1x32x256x2x64, .f32⟩
  | .hbm, ⟨23, _⟩ => ⟨S1x32x128x2x64, .f32⟩
  | .hbm, ⟨24, _⟩ => ⟨S1x32x128x2x64, .f32⟩
  | .hbm, ⟨25, _⟩ => ⟨S1x32x256x2x64, .f32⟩
  | .hbm, ⟨26, _⟩ => ⟨S1x32x2x256x128x8, .f32⟩
  | .hbm, ⟨27, _⟩ => ⟨S1x32x2x8x128x256, .f32⟩
  | .hbm, ⟨28, _⟩ => ⟨S_, .f32⟩
  | .hbm, ⟨29, _⟩ => ⟨S1x32x2x8x128x256, .f32⟩
  | .hbm, ⟨30, _⟩ => ⟨S1x32x2x8x128x256, .f32⟩
  | .hbm, ⟨31, _⟩ => ⟨S128, .i32⟩
  | .hbm, ⟨32, _⟩ => ⟨S128x1, .i32⟩
  | .hbm, ⟨33, _⟩ => ⟨S256, .i32⟩
  | .hbm, ⟨34, _⟩ => ⟨S1x256, .i32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S128x256, .i32⟩
  | .hbm, ⟨39, _⟩ => ⟨S128x256, .i32⟩
  | .hbm, ⟨40, _⟩ => ⟨S128x256, .i32⟩
  | .hbm, ⟨41, _⟩ => ⟨S32, .i32⟩
  | .hbm, ⟨42, _⟩ => ⟨S32x1, .i32⟩
  | .hbm, ⟨43, _⟩ => ⟨S_, .i32⟩
  | .hbm, ⟨44, _⟩ => ⟨S32x1, .i32⟩
  | .hbm, ⟨45, _⟩ => ⟨S32x1, .i32⟩
  | .hbm, ⟨46, _⟩ => ⟨S_, .i32⟩
  | .hbm, ⟨47, _⟩ => ⟨S32x1, .i32⟩
  | .hbm, ⟨48, _⟩ => ⟨S32x1, .i32⟩
  | .hbm, ⟨49, _⟩ => ⟨S256, .i32⟩
  | .hbm, ⟨50, _⟩ => ⟨S1x256, .i32⟩
  | .hbm, ⟨51, _⟩ => ⟨S32x256, .i32⟩
  | .hbm, ⟨52, _⟩ => ⟨S32x256, .i32⟩
  | .hbm, ⟨53, _⟩ => ⟨S32x256, .i32⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S_, .i32⟩
  | .hbm, ⟨58, _⟩ => ⟨S128x256, .i32⟩
  | .hbm, ⟨59, _⟩ => ⟨S128x256, .i1⟩
  | .hbm, ⟨60, _⟩ => ⟨S128x256, .i1⟩
  | .hbm, ⟨61, _⟩ => ⟨S1x128x256, .i1⟩
  | .hbm, ⟨62, _⟩ => ⟨S_, .i32⟩
  | .hbm, ⟨63, _⟩ => ⟨S32x256, .i32⟩
  | .hbm, ⟨64, _⟩ => ⟨S32x256, .i1⟩
  | .hbm, ⟨65, _⟩ => ⟨S32x1x256, .i1⟩
  | .hbm, ⟨66, _⟩ => ⟨S32x128x256, .i1⟩
  | .hbm, ⟨67, _⟩ => ⟨S32x128x256, .i1⟩
  | .hbm, ⟨68, _⟩ => ⟨S32x128x256, .i1⟩
  | .hbm, ⟨69, _⟩ => ⟨S_, .f32⟩
  | .hbm, ⟨70, _⟩ => ⟨S_, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S_, .f32⟩
  | .hbm, ⟨76, _⟩ => ⟨S16, .f32⟩
  | .hbm, ⟨77, _⟩ => ⟨S16, .f32⟩
  | .hbm, ⟨78, _⟩ => ⟨S_, .f32⟩
  | .hbm, ⟨79, _⟩ => ⟨S16, .f32⟩
  | .hbm, ⟨80, _⟩ => ⟨S16, .f32⟩
  | .hbm, ⟨81, _⟩ => ⟨S16, .f32⟩
  | .hbm, ⟨82, _⟩ => ⟨S16, .f32⟩
  | .hbm, ⟨83, _⟩ => ⟨S16, .f32⟩
  | .hbm, ⟨84, _⟩ => ⟨S2x8, .f32⟩
  | .hbm, ⟨85, _⟩ => ⟨S2x8x1x1, .f32⟩
  | .hbm, ⟨86, _⟩ => ⟨S2x8x1x1, .f32⟩
  | .hbm, ⟨87, _⟩ => ⟨S128x256, .f32⟩
  | .hbm, ⟨88, _⟩ => ⟨S1x1x128x256, .f32⟩
  | .hbm, ⟨89, _⟩ => ⟨S2x8x128x256, .f32⟩
  | .hbm, ⟨90, _⟩ => ⟨S2x8x128x256, .f32⟩
  | .hbm, ⟨91, _⟩ => ⟨S2x8x128x256, .f32⟩
  | .hbm, ⟨92, _⟩ => ⟨S1x32x1x1x128x256, .i1⟩
  | .hbm, ⟨93, _⟩ => ⟨S1x1x2x8x128x256, .f32⟩
  | .hbm, ⟨94, _⟩ => ⟨S1x32x2x8x128x256, .f32⟩
  | .hbm, ⟨95, _⟩ => ⟨S1x32x2x8x128x256, .f32⟩
  | .hbm, ⟨96, _⟩ => ⟨S_, .f32⟩
  | .hbm, ⟨97, _⟩ => ⟨S_, .f32⟩
  | .hbm, ⟨98, _⟩ => ⟨S1x32x2x8x128x256, .i1⟩
  | .hbm, ⟨99, _⟩ => ⟨S1x32x2x8x128x256, .f32⟩
  | .hbm, ⟨100, _⟩ => ⟨S1x32x2x8x128x256, .f32⟩
  | .hbm, ⟨101, _⟩ => ⟨S2x8x1x1, .f32⟩
  | .hbm, ⟨102, _⟩ => ⟨S1x32x2x8x128x1, .f32⟩
  | .hbm, ⟨103, _⟩ => ⟨S1x32x2x8x128x257, .f32⟩
  | .hbm, ⟨104, _⟩ => ⟨S_, .f32⟩
  | .hbm, ⟨105, _⟩ => ⟨S1x32x2x8x128, .f32⟩
  | .hbm, ⟨106, _⟩ => ⟨S_, .f32⟩
  | .hbm, ⟨107, _⟩ => ⟨S1x32x2x8x128, .f32⟩
  | .hbm, ⟨108, _⟩ => ⟨S1x32x2x8x128, .f32⟩
  | .hbm, ⟨109, _⟩ => ⟨S1x32x2x8x128x1, .f32⟩
  | .hbm, ⟨110, _⟩ => ⟨S1x32x2x8x128x257, .f32⟩
  | .hbm, ⟨111, _⟩ => ⟨S1x32x2x8x128x257, .f32⟩
  | .hbm, ⟨112, _⟩ => ⟨S1x32x2x8x128x257, .f32⟩
  | .hbm, ⟨113, _⟩ => ⟨S_, .f32⟩
  | .hbm, ⟨114, _⟩ => ⟨S1x32x2x8x128, .f32⟩
  | .hbm, ⟨115, _⟩ => ⟨S1x32x2x8x128x1, .f32⟩
  | .hbm, ⟨116, _⟩ => ⟨S1x32x2x8x128x257, .f32⟩
  | .hbm, ⟨117, _⟩ => ⟨S1x32x2x8x128x257, .f32⟩
  | .hbm, ⟨118, _⟩ => ⟨S1x32x2x8x128x256, .f32⟩
  | .hbm, ⟨119, _⟩ => ⟨S1x32x2x64x8x128, .f32⟩
  | .hbm, ⟨120, _⟩ => ⟨S1x32x128x2x8x64, .f32⟩
  | .hbm, ⟨121, _⟩ => ⟨S1x4096x1024, .f32⟩
  | .hbm, ⟨122, _⟩ => ⟨S4096x1024, .f32⟩
  | .hbm, ⟨123, _⟩ => ⟨S4096x1024, .bf16⟩
  | _, _ => ⟨S4096x4032, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_0 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_c : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_c_1 : Ref sig .tc := ⟨.hbm, 43, rfl⟩
abbrev main_v38 : Ref sig .tc := ⟨.hbm, 44, rfl⟩
abbrev main_v39 : Ref sig .tc := ⟨.hbm, 45, rfl⟩
abbrev main_c_2 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_c_3 : Ref sig .tc := ⟨.hbm, 54, rfl⟩
abbrev main_v47 : Ref sig .tc := ⟨.hbm, 55, rfl⟩
abbrev main_v48 : Ref sig .tc := ⟨.hbm, 56, rfl⟩
abbrev main_c_4 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_c_5 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_6 : Ref sig .tc := ⟨.hbm, 69, rfl⟩
abbrev main_v59 : Ref sig .tc := ⟨.hbm, 70, rfl⟩
abbrev main_v60 : Ref sig .tc := ⟨.hbm, 71, rfl⟩
abbrev main_cst_7 : Ref sig .tc := ⟨.hbm, 72, rfl⟩
abbrev main_v61 : Ref sig .tc := ⟨.hbm, 73, rfl⟩
abbrev main_v62 : Ref sig .tc := ⟨.hbm, 74, rfl⟩
abbrev main_cst_8 : Ref sig .tc := ⟨.hbm, 75, rfl⟩
abbrev main_v63 : Ref sig .tc := ⟨.hbm, 76, rfl⟩
abbrev main_v64 : Ref sig .tc := ⟨.hbm, 77, rfl⟩
abbrev main_cst_9 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_cst_10 : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_11 : Ref sig .tc := ⟨.hbm, 104, rfl⟩
abbrev main_v86 : Ref sig .tc := ⟨.hbm, 105, rfl⟩
abbrev main_cst_12 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_13 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩

abbrev nD : Nat := 1
abbrev τ : Topo := Topo.v7x

variable {F : FTy → Type} [FloatOps F]
-- ==== OptKernel.lean ====
abbrev S8x256x2048 : Shape := ⟨3, ![8, 256, 2048]⟩
abbrev S4x256x2048 : Shape := ⟨3, ![4, 256, 2048]⟩
abbrev S1024x2048 : Shape := ⟨2, ![1024, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 22
  | .vmem => 22
  | .smem => 0
  | _ => 0

abbrev bufTy : (tb : Table) → Fin (tcTables nBuf tb) → BufTy
  | .hbm, ⟨0, _⟩ => ⟨S8x256x2048, .f32⟩
  | .hbm, ⟨1, _⟩ => ⟨S8x256x2048, .f32⟩
  | .hbm, ⟨2, _⟩ => ⟨S8x256x2048, .f32⟩
  | .hbm, ⟨3, _⟩ => ⟨S8x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S8x256x2048, .bf16⟩
  | .hbm, ⟨8, _⟩ => ⟨S8x256x2048, .bf16⟩
  | .hbm, ⟨9, _⟩ => ⟨S8x256x2048, .bf16⟩
  | .hbm, ⟨10, _⟩ => ⟨S8x256x2048, .bf16⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S4x256x2048, .f32⟩
  | .hbm, ⟨19, _⟩ => ⟨S4x256x2048, .f32⟩
  | .hbm, ⟨20, _⟩ => ⟨S4x256x2048, .f32⟩
  | .hbm, ⟨21, _⟩ => ⟨S4x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S8x128x2048, .bf16⟩
  | .local _ .vmem, ⟨3, _⟩ => ⟨S8x128x2048, .bf16⟩
  | .local _ .vmem, ⟨4, _⟩ => ⟨S8x128x2048, .bf16⟩
  | .local _ .vmem, ⟨5, _⟩ => ⟨S8x128x2048, .bf16⟩
  | .local _ .vmem, ⟨6, _⟩ => ⟨S8x128x2048, .bf16⟩
  | .local _ .vmem, ⟨7, _⟩ => ⟨S8x128x2048, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OptRefIdeal.lean ====
abbrev S8x256x2048 : Shape := ⟨3, ![8, 256, 2048]⟩
abbrev S4x256x2048 : Shape := ⟨3, ![4, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S8x256x2048, .f32⟩
  | .hbm, ⟨2, _⟩ => ⟨S8x256x2048, .f32⟩
  | .hbm, ⟨3, _⟩ => ⟨S8x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S_, .f32⟩
  | .hbm, ⟨8, _⟩ => ⟨S256x2048, .f32⟩
  | .hbm, ⟨9, _⟩ => ⟨S_, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S1x256x2048, .f32⟩
  | .hbm, ⟨16, _⟩ => ⟨S1x256x2048, .f32⟩
  | .hbm, ⟨17, _⟩ => ⟨S1x256x2048, .f32⟩
  | .hbm, ⟨18, _⟩ => ⟨S1x256x2048, .f32⟩
  | .hbm, ⟨19, _⟩ => ⟨S4x256x2048, .f32⟩
  | .hbm, ⟨20, _⟩ => ⟨S_, .f32⟩
  | .hbm, ⟨21, _⟩ => ⟨S4x256x2048, .f32⟩
  | .hbm, ⟨22, _⟩ => ⟨S4x256x2048, .f32⟩
  | .hbm, ⟨23, _⟩ => ⟨S_, .f32⟩
  | .hbm, ⟨24, _⟩ => ⟨S4x256x2048, .f32⟩
  | .hbm, ⟨25, _⟩ => ⟨S4x256x2048, .f32⟩
  | .hbm, ⟨26, _⟩ => ⟨S4x256x2048, .f32⟩
  | .hbm, ⟨27, _⟩ => ⟨S_, .f32⟩
  | .hbm, ⟨28, _⟩ => ⟨S4x256x2048, .f32⟩
  | .hbm, ⟨29, _⟩ => ⟨S4x256x2048, .f32⟩
  | .hbm, ⟨30, _⟩ => ⟨S4x256x2048, .f32⟩
  | .hbm, ⟨31, _⟩ => ⟨S_, .f32⟩
  | .hbm, ⟨32, _⟩ => ⟨S4x256x2048, .f32⟩
  | .hbm, ⟨33, _⟩ => ⟨S4x256x2048, .f32⟩
  | .hbm, ⟨34, _⟩ => ⟨S4x256x2048, .f32⟩
  | .hbm, ⟨35, _⟩ => ⟨S_, .f32⟩
  | .hbm, ⟨36, _⟩ => ⟨S4x256x2048, .f32⟩
  | .hbm, ⟨37, _⟩ => ⟨S4x256x2048, .f32⟩
  | .hbm, ⟨38, _⟩ => ⟨S_, .f32⟩
  | .hbm, ⟨39, _⟩ => ⟨S4x256x2048, .f32⟩
  | .hbm, ⟨40, _⟩ => ⟨S4x256x2048, .f32⟩
  | .hbm, ⟨41, _⟩ => ⟨S4x256x2048, .f32⟩
  | .hbm, ⟨42, _⟩ => ⟨S_, .f32⟩
  | .hbm, ⟨43, _⟩ => ⟨S4x256x2048, .f32⟩
  | .hbm, ⟨44, _⟩ => ⟨S4x256x2048, .f32⟩
  | .hbm, ⟨45, _⟩ => ⟨S4x256x2048, .f32⟩
  | .hbm, ⟨46, _⟩ => ⟨S_, .f32⟩
  | .hbm, ⟨47, _⟩ => ⟨S4x256x2048, .f32⟩
  | .hbm, ⟨48, _⟩ => ⟨S4x256x2048, .f32⟩
  | .hbm, ⟨49, _⟩ => ⟨S4x256x2048, .f32⟩
  | .hbm, ⟨50, _⟩ => ⟨S_, .f32⟩
  | .hbm, ⟨51, _⟩ => ⟨S4x256x2048, .f32⟩
  | .hbm, ⟨52, _⟩ => ⟨S4x256x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== TnKernel.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnRefIdeal.lean ====
abbrev S4096x2048 : Shape := ⟨2, ![4096, 2048]⟩
abbrev S2048x4096 : Shape := ⟨2, ![2048, 4096]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x4096, .f32⟩
  | .hbm, ⟨3, _⟩ => ⟨S2048x2048, .f32⟩
  | .hbm, ⟨4, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Reals.lean ====
/- Arrays of extended reals whose elements are all real, and the operations on them. -/
module

public import Idealize.ShloMosaic.Lib.Pointwise
public import Idealize.ShloMosaic.Lib.IdealHost

@[expose] public section

set_option maxRecDepth 16384

noncomputable section

open Idealize.ShloMosaic

namespace Cert.Reals

/-- The bit pattern of +∞ read as an extended real. -/
theorem ofBits_inf : Ideal.ofBits .f32 0x7F800000#32 = ⊤ := by
  simp [Ideal.ofBits, Ideal.ieee]

/-- An array of which every element passes `|x| < ∞` is an array of reals. -/
theorem exists_real {S : Shape} (x : FVec Ideal S .f32) (hb : (⟨0, ![]⟩ : Shape).BroadcastsInDim S ![])
    (h : cmpf .olt (Host.absf x) (broadcastInDim S ![] hb (constant ⟨0, ![]⟩ .f32 0x7F800000#32)) = fun _ => 1#1) :
    ∃ X : S.Idx → ℝ, x = fun i => ((X i : ℝ) : EReal) := by
  have hx : ∀ i, ∃ r : ℝ, x i = (r : EReal) := by
    intro i
    have hi := congrFun h i
    pointwise at hi
    rw [ofBits_inf] at hi
    have hlt : max (x i) (-(x i)) < (⊤ : EReal) := by
      have := congrArg BitVec.toNat hi
      by_contra hc
      have hd : decide (FloatOps.absf (x i) < (⊤ : EReal)) = false := decide_eq_false hc
      rw [hd] at hi
      exact absurd hi (by decide)
    induction hv : x i using EReal.rec with
    | bot => rw [hv] at hlt; simp at hlt
    | coe r => exact ⟨r, rfl⟩
    | top => rw [hv] at hlt; simp at hlt
  choose X hX using hx
  exact ⟨X, funext hX⟩

/-- A finite sum of reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals by a real that is not zero. -/
theorem div_coe {x y : ℝ} (h : y ≠ 0) : Ideal.div (x : EReal) (y : EReal) = ((x / y : ℝ) : EReal) := by
  rw [Ideal.div_coe h, ← EReal.coe_mul, one_div, div_eq_mul_inv]

/-- The reciprocal root of a positive real. -/
theorem rsqrt_coe {x : ℝ} (h : 0 < x) : Ideal.rsqrt (x : EReal) = (((Real.sqrt x)⁻¹ : ℝ) : EReal) := by
  rw [Ideal.rsqrt_coe, if_neg (not_lt.2 h.le), if_neg h.ne']

/-- The mean of the squares of a row of reals, plus `e`. -/
def ms (c e : ℝ) {n : ℕ} (f : Fin n → ℝ) : ℝ := (∑ x, f x * f x) / c + e

/-- The reciprocal root of the mean of squares. -/
def rn (c e : ℝ) {n : ℕ} (f : Fin n → ℝ) : ℝ := (Real.sqrt (ms c e f))⁻¹

theorem ms_pos {c e : ℝ} (hc : 0 < c) (he : 0 < e) {n : ℕ} (f : Fin n → ℝ) : 0 < ms c e f :=
  add_pos_of_nonneg_of_pos (div_nonneg (Finset.sum_nonneg fun _ _ => mul_self_nonneg _) hc.le) he

theorem rn_sq {c e : ℝ} (hc : 0 < c) (he : 0 < e) {n : ℕ} (f : Fin n → ℝ) : rn c e f * rn c e f = 1 / ms c e f := by
  unfold rn
  rw [← mul_inv, Real.mul_self_sqrt (ms_pos hc he f).le, one_div]

theorem ms_coe {c e : ℝ} (hc : 0 < c) {n : ℕ} (f : Fin n → ℝ) :
    Ideal.div (∑ x, (f x : EReal) * (f x : EReal)) (c : EReal) + (e : EReal) = ((ms c e f : ℝ) : EReal) := by
  simp only [← EReal.coe_mul, coe_sum]
  rw [div_coe hc.ne', ← EReal.coe_add, ms]

theorem rn_coe {c e : ℝ} (hc : 0 < c) (he : 0 < e) {n : ℕ} (f : Fin n → ℝ) :
    Ideal.rsqrt ((ms c e f : ℝ) : EReal) = ((rn c e f : ℝ) : EReal) := by
  rw [rsqrt_coe (ms_pos hc he f), rn]

/-- The gradient of a row's normalisation, from the derivative of the reciprocal root to the form that subtracts the
    mean of the products. -/
theorem rms_bwd {c e : ℝ} (hc : 0 < c) (he : 0 < e) {n : ℕ} (f d : Fin n → ℝ) (j : Fin n) :
    d j * rn c e f + f j * ((∑ x, f x * d x) * (-(1 / 2) * (rn c e f / ms c e f)) / c)
      + (∑ x, f x * d x) * (-(1 / 2) * (rn c e f / ms c e f)) / c * f j
    = rn c e f * (d j - f j * rn c e f * ((∑ x, d x * (f x * rn c e f)) / c)) := by
  have h1 : rn c e f / ms c e f = rn c e f * (rn c e f * rn c e f) := by
    rw [rn_sq hc he, mul_one_div]
  have h2 : ∑ x, d x * (f x * rn c e f) = (∑ x, f x * d x) * rn c e f := by
    rw [Finset.sum_mul]
    exact Finset.sum_congr rfl fun x _ => by ring
  rw [h1, h2]
  ring

/-- The constant under the root, 1e-6 rounded to f32. -/
def eps : ℝ := 8796093 / 8796093022208
theorem eps_pos : 0 < eps := by norm_num [eps]
theorem ofBits_eps : Ideal.ofBits .f32 0x358637BD#32 = ((eps : ℝ) : EReal) := by
  simp [Ideal.ofBits, Ideal.ieee, eps, -EReal.coe_mul]; norm_num
theorem ofBits_2048 : Ideal.ofBits .f32 0x45000000#32 = ((2048 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_inv2048 : Ideal.ofBits .f32 0x3A000000#32 = ((1 / 2048 : ℝ) : EReal) := by
  simp [Ideal.ofBits, Ideal.ieee, -EReal.coe_mul]; norm_num

theorem n2048 : (0 : ℝ) < 2048 := by norm_num
theorem rn_c {n : ℕ} (f : Fin n → ℝ) :
    Ideal.rsqrt (((∑ x, f x * f x) / 2048 + eps : ℝ) : EReal) = ((rn 2048 eps f : ℝ) : EReal) :=
  rn_coe n2048 eps_pos f
theorem div_ms {n : ℕ} (x : ℝ) (f : Fin n → ℝ) :
    Ideal.div (x : EReal) (((∑ x, f x * f x) / 2048 + eps : ℝ) : EReal) = ((x / ms 2048 eps f : ℝ) : EReal) :=
  div_coe (ms_pos n2048 eps_pos f).ne'
theorem div_2048 (x : ℝ) : Ideal.div (x : EReal) ((2048 : ℝ) : EReal) = ((x / 2048 : ℝ) : EReal) := div_coe n2048.ne'

end Cert.Reals

end
-- ==== Proof.LossPure.lean ====
module
public import proofs.«01_k».proof.Proof.Reals
public import proofs.«01_k».proof.Proof.Gen.LossRefIdeal.Run
public import proofs.«01_k».proof.Proof.Gen.LossKernelIdeal.Value
public import Idealize.ShloMosaic.Lib.Pipeline.ValueKit
@[expose] public section
set_option maxRecDepth 16384
noncomputable section
open Idealize.ShloMosaic Idealize.ShloMosaic.TcCoe Idealize.SL.Sem
open Cert.Reals
namespace Cert.LossPure

abbrev Row := Fin 2048 → ℝ
/-- The error of one row at one lane. -/
def err (x t g : Row) (j : Fin 2048) : ℝ := x j * rn 2048 eps x * g j - t j
/-- One row's part of the gradient of the gain. -/
def dgr (x t g : Row) (j : Fin 2048) : ℝ := err x t g j * (1 / 2048) * (x j * rn 2048 eps x)
/-- The gradient of one row. -/
def dxr (x t g : Row) (j : Fin 2048) : ℝ :=
  rn 2048 eps x * (err x t g j * (1 / 2048) * g j
    - x j * rn 2048 eps x * ((∑ k, err x t g k * (1 / 2048) * g k * (x k * rn 2048 eps x)) / 2048))
/-- One row's mean of squared errors. -/
def lossr (x t g : Row) : ℝ := (∑ k, err x t g k * err x t g k) / 2048

section
open Cert.LossKernelIdeal Cert.LossKernelIdeal.Gen
variable (x t : Vec Ideal S512x2048 .f32) (g : Vec Ideal S1x2048 .f32) (X T : S512x2048.Idx → ℝ) (G : S1x2048.Idx → ℝ)
    (hX : x = fun i => ((X i : ℝ) : EReal)) (hT : t = fun i => ((T i : ℝ) : EReal)) (hG : g = fun i => ((G i : ℝ) : EReal))
include hX hT hG

theorem ker_dx (i : Fin 512) (j : Fin 2048) :
    k0_pay2 (F := Ideal) (k0_pay6 x) (k0_pay7 x) (k0_pay8 g) (k0_pay11 x g t) (ix2 i j)
      = ((dxr (fun k => X (ix2 i k)) (fun k => T (ix2 i k)) (fun k => G (ix2 0 k)) j : ℝ) : EReal) := by
  subst hX hT hG
  pointwise [k0_pay2, k0_pay6, k0_pay7, k0_pay8, k0_pay11, k0_pay9]
  simp only [ofBits_2048, ofBits_eps, ofBits_inv2048, rn_c, ← EReal.coe_mul, ← EReal.coe_sub, ← EReal.coe_add, coe_sum, div_2048]
  rfl

theorem ker_dg (acc : Vec Ideal S1x2048 .f32) (j : Fin 2048) :
    k0_pay1 (F := Ideal) (k0_pay7 x) (k0_pay11 x g t) acc (ix2 0 j)
      = acc (ix2 0 j) + ((∑ i, dgr (fun k => X (ix2 i k)) (fun k => T (ix2 i k)) (fun k => G (ix2 0 k)) j : ℝ) : EReal) := by
  subst hX hT hG
  pointwise [k0_pay1, k0_pay6, k0_pay7, k0_pay8, k0_pay11, k0_pay9]
  simp only [ofBits_2048, ofBits_eps, ofBits_inv2048, rn_c, ← EReal.coe_mul, ← EReal.coe_sub, ← EReal.coe_add, coe_sum, div_2048]
  rfl

theorem ker_loss (acc : Vec Ideal S8x128 .f32) (a : Fin 8) (j : Fin 128) :
    k0_pay10 (F := Ideal) x g t acc (ix2 a j)
      = acc (ix2 a j) + ((1 / 2 * ∑ i, lossr (fun k => X (ix2 i k)) (fun k => T (ix2 i k)) (fun k => G (ix2 0 k)) : ℝ) : EReal) := by
  subst hX hT hG
  pointwise [k0_pay10, k0_pay6, k0_pay7, k0_pay8, k0_pay11, k0_pay9]
  simp only [ofBits_2048, ofBits_eps, ofBits_half, rn_c, ← EReal.coe_mul, ← EReal.coe_sub, ← EReal.coe_add, coe_sum, div_2048]
  rfl
end
section
open Cert.LossRefIdeal Cert.LossRefIdeal.Gen Cert.LossRefIdeal.Value
variable (m : (ℓ : Loc nD τ sig) → Buf (Elt Ideal) ℓ) (c : Dev nD)
variable (X T : S4096x2048.Idx → ℝ) (G : S2048.Idx → ℝ)
  (hX : m ((c.tc : Thread nD τ).loc main_arg0) = fun i => ((X i : ℝ) : EReal))
  (hT : m ((c.tc : Thread nD τ).loc main_arg1) = fun i => ((T i : ℝ) : EReal))
  (hG : m ((c.tc : Thread nD τ).loc main_arg2) = fun i => ((G i : ℝ) : EReal))

section
include hX hT hG
theorem ref_dx (i : Fin 4096) (j : Fin 2048) :
    (show FVec Ideal S4096x2048 .f32 from res_main_v50 (F := Ideal) m c) (ix2 i j)
      = ((dxr (fun k => X (ix2 i k)) (fun k => T (ix2 i k)) (fun k => G (ix1 k)) j : ℝ) : EReal) := by
  show (_ : EReal) = _
  unfold res_main_v50
  rw [hX, hT, hG]
  pointwise
  simp only [ofBits_2048, ofBits_eps, ofBits_half, ofBits_two, ofBits_neg_half, rn_c, ← EReal.coe_mul, ← EReal.coe_sub, ← EReal.coe_add, coe_sum, div_2048, div_ms]
  simp only [Finset.univ_unique, Finset.sum_singleton]
  refine congrArg _ ?_
  refine Eq.trans ?_ (rms_bwd n2048 eps_pos (fun x => X (ix2 i x)) (fun k => err (fun k => X (ix2 i k)) (fun k => T (ix2 i k)) (fun k => G (ix1 k)) k * (1 / 2048) * G (ix1 k)) j)
  have hd : ∀ e g : ℝ, 1 / 2 / 2048 * (2 * e) * g = e * (1 / 2048) * g := fun e g => by ring
  simp only [hd]
  rfl
theorem ref_dxb (i : Fin 4096) (j : Fin 2048) :
    (show FVec Ideal S4096x2048 .bf16 from res_main_v51 (F := Ideal) m c) (ix2 i j)
      = ((dxr (fun k => X (ix2 i k)) (fun k => T (ix2 i k)) (fun k => G (ix1 k)) j : ℝ) : EReal) := by
  refine Eq.trans ?_ (ref_dx m c X T G hX hT hG i j)
  unfold res_main_v50 res_main_v51
  rfl

end

/-- The reference's run, each result at its real-valued form. -/
theorem ref_run (ρ : Dev nD → PrngReg) (hm : ∀ c : Dev nD,
      m ((c.tc : Thread nD τ).loc main_arg0) = (fun i => ((X i : ℝ) : EReal))
      ∧ m ((c.tc : Thread nD τ).loc main_arg1) = (fun i => ((T i : ℝ) : EReal))
      ∧ m ((c.tc : Thread nD τ).loc main_arg2) = (fun i => ((G i : ℝ) : EReal))) :
    θ_run defs (onTc (τ := τ) (main (F := Ideal))) ⟨m, fun _ => 0, ρ⟩ fun r => ∀ c : Dev nD,
      r.2.mem ((c.tc : Thread nD τ).loc main_v50) = (fun i : S4096x2048.Idx => ((dxr (fun k => X (ix2 (i 0) k)) (fun k => T (ix2 (i 0) k)) (fun k => G (ix1 k)) (i 1) : ℝ) : EReal))
      ∧ r.2.mem ((c.tc : Thread nD τ).loc main_v51) = (fun i : S4096x2048.Idx => ((dxr (fun k => X (ix2 (i 0) k)) (fun k => T (ix2 (i 0) k)) (fun k => G (ix1 k)) (i 1) : ℝ) : EReal))
      ∧ r.2.mem ((c.tc : Thread nD τ).loc main_v52) = (fun i : S1x2048.Idx => ((∑ a, dgr (fun k => X (ix2 a k)) (fun k => T (ix2 a k)) (fun k => G (ix1 k)) (i 1) : ℝ) : EReal))
      ∧ r.2.mem ((c.tc : Thread nD τ).loc main_v53) = (fun i : S8x128.Idx => ((1 / 2 * ∑ a, lossr (fun k => X (ix2 a k)) (fun k => T (ix2 a k)) (fun k => G (ix1 k)) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run m ρ)
  obtain ⟨h0, h1, h2, h3, h4⟩ := h c
  obtain ⟨hX, hT, hG⟩ := hm c
  refine ⟨h0.trans ?_, h1.trans ?_, h2.trans ?_, h3.trans ?_, h4⟩
  · funext i; idx_vars i
    exact ref_dx m c X T G hX hT hG _ _
  · funext i; idx_vars i
    exact ref_dxb m c X T G hX hT hG _ _
  · funext i; idx_vars i
    show (_ : EReal) = _
    rw [hX, hT, hG]
    pointwise
    simp only [ofBits_2048, ofBits_eps, ofBits_half, ofBits_two, ofBits_neg_half, rn_c, ← EReal.coe_mul, ← EReal.coe_sub, ← EReal.coe_add, coe_sum, div_2048, div_ms]
    simp only [Finset.univ_unique, Finset.sum_singleton]
    have hd : ∀ x e : ℝ, x * (1 / 2 / 2048 * (2 * e)) = e * (1 / 2048) * x := fun e g => by ring
    simp only [hd]
    rfl
  · funext i; idx_vars i
    show (_ : EReal) = _
    rw [hX, hT, hG]
    pointwise
    simp only [ofBits_2048, ofBits_eps, ofBits_half, ofBits_two, ofBits_neg_half, rn_c, ← EReal.coe_mul, ← EReal.coe_sub, ← EReal.coe_add, coe_sum, div_2048, div_ms]
    rfl
end
end Cert.LossPure
end
-- ==== Proof.LossValue.lean ====
/- What the loss kernel's arrays hold after its run. -/
module

public import proofs.«01_k».proof.Proof.LossPure

@[expose] public section

set_option maxRecDepth 16384

noncomputable section

open Idealize.ShloMosaic Idealize.ShloMosaic.TcCoe Idealize.SL.Sem
open Idealize.ShloMosaic.Pipeline (Dat)
open Cert.Reals Cert.LossPure

namespace Cert.LossValue

open Cert.LossKernelIdeal Cert.LossKernelIdeal.Gen

variable (m : (ℓ : Loc nD τ sig) → Buf (Elt Ideal) ℓ) (c : Dev nD)
variable (X T : S4096x2048.Idx → ℝ) (G : S2048.Idx → ℝ)
  (hX : m ((c.tc : Thread nD τ).loc main_arg0) = fun i => ((X i : ℝ) : EReal))
  (hT : m ((c.tc : Thread nD τ).loc main_arg1) = fun i => ((T i : ℝ) : EReal))
  (hG : m ((c.tc : Thread nD τ).loc main_arg2) = fun i => ((G i : ℝ) : EReal))

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0] ∧ t.val < 8 :=
  (by decide +kernel : ∀ t : Fin grid0.N, _)

/-- Row `r` of block `t`. -/
def row (t : Fin cfg0.N) (r : Fin 512) : Fin 4096 := ⟨t.val * 512 + r.val, by have := (idx t).2.2.2.2.2.2.2; omega⟩

include hX in
theorem blk0 (t : Fin cfg0.N) : iblk m c 0 t = fun y : S512x2048.Idx => ((X (ix2 (row t (y 0)) (y 1)) : ℝ) : EReal) := by
  funext y
  have h : iblk m c 0 t y = m ((c.tc : Thread nD τ).loc main_arg0) (ix2 (row t (y 0)) (y 1)) := by blk_ext [iblk, V, idx t, row]
  rw [h, hX]

include hT in
theorem blk1 (t : Fin cfg0.N) : iblk m c 1 t = fun y : S512x2048.Idx => ((T (ix2 (row t (y 0)) (y 1)) : ℝ) : EReal) := by
  funext y
  have h : iblk m c 1 t y = m ((c.tc : Thread nD τ).loc main_arg1) (ix2 (row t (y 0)) (y 1)) := by blk_ext [iblk, V, idx t, row]
  rw [h, hT]

include hG in
theorem blk2 (t : Fin cfg0.N) : iblk m c 2 t = fun y : S1x2048.Idx => ((G (ix1 (y 1)) : ℝ) : EReal) := by
  funext y
  have h : iblk m c 2 t y = m ((c.tc : Thread nD τ).loc main_arg2) (ix1 (y 1)) := by
    blk_simp [iblk]
    entry_read
    pointwise
    blk_ext [idx t]
  rw [h, hG]

/-- The gradient at an array index. -/
def DX (i : S4096x2048.Idx) : EReal := ((dxr (fun k => X (ix2 (i 0) k)) (fun k => T (ix2 (i 0) k)) (fun k => G (ix1 k)) (i 1) : ℝ) : EReal)
/-- A block's part of the gradient of the gain. -/
def DGpart (t : Fin cfg0.N) (j : Fin 2048) : EReal :=
  ((∑ r, dgr (fun k => X (ix2 (row t r) k)) (fun k => T (ix2 (row t r) k)) (fun k => G (ix1 k)) j : ℝ) : EReal)
/-- A block's part of the loss. -/
def Lpart (t : Fin cfg0.N) : EReal :=
  ((1 / 2 * ∑ r, lossr (fun k => X (ix2 (row t r) k)) (fun k => T (ix2 (row t r) k)) (fun k => G (ix1 k)) : ℝ) : EReal)

include hX hT hG in
theorem point_dx (t : Fin cfg0.N) (y : S512x2048.Idx) :
    k0_pay2 (F := Ideal) (k0_pay6 (iblk m c 0 t)) (k0_pay7 (iblk m c 0 t)) (k0_pay8 (iblk m c 2 t))
      (k0_pay11 (iblk m c 0 t) (iblk m c 2 t) (iblk m c 1 t)) y = DX X T G (ix2 (row t (y 0)) (y 1)) := by
  rw [eq_ix2 y]
  exact ker_dx _ _ _ _ _ _ (blk0 m c X hX t) (blk1 m c T hT t) (blk2 m c G hG t) (y 0) (y 1)

include hX hT hG in
theorem point_dg (t : Fin cfg0.N) (acc : Vec Ideal S1x2048 .f32) (y : S1x2048.Idx) :
    k0_pay1 (F := Ideal) (k0_pay7 (iblk m c 0 t)) (k0_pay11 (iblk m c 0 t) (iblk m c 2 t) (iblk m c 1 t)) acc y
      = acc y + DGpart X T G t (y 1) := by
  obtain ⟨a, b, rfl⟩ : ∃ (a : Fin 1) (b : Fin 2048), y = ix2 a b := ⟨y 0, y 1, eq_ix2 y⟩
  obtain rfl : a = 0 := Subsingleton.elim _ _
  exact ker_dg _ _ _ _ _ _ (blk0 m c X hX t) (blk1 m c T hT t) (blk2 m c G hG t) acc b

include hX hT hG in
theorem point_loss (t : Fin cfg0.N) (acc : Vec Ideal S8x128 .f32) (y : S8x128.Idx) :
    k0_pay10 (F := Ideal) (iblk m c 0 t) (iblk m c 2 t) (iblk m c 1 t) acc y = acc y + Lpart X T G t := by
  obtain ⟨a, b, rfl⟩ : ∃ (a : Fin 8) (b : Fin 128), y = ix2 a b := ⟨y 0, y 1, eq_ix2 y⟩
  exact ker_loss _ _ _ _ _ _ (blk0 m c X hX t) (blk1 m c T hT t) (blk2 m c G hG t) acc a b

theorem emb3 (t : Fin cfg0.N) (y : S512x2048.Idx) : ((cfg0.win 3).blk t).view.emb y = (ix2 (row t (y 0)) (y 1) : S4096x2048.Idx) := by
  blk_ext [idx t, row]
theorem emb4 (t : Fin cfg0.N) (y : S512x2048.Idx) : ((cfg0.win 4).blk t).view.emb y = (ix2 (row t (y 0)) (y 1) : S4096x2048.Idx) := by
  blk_ext [idx t, row]

include hX hT hG in
theorem final3 : (dats m 0 c).arrAt 3 (cfgs 0).N = DX X T G := by
  refine (dats m 0 c).arrAt_eq_of_covers 3 _ (by decide +kernel) fun t hf y => ?_
  refine Eq.trans ?_ (congrArg (DX X T G) (emb3 t y).symm)
  refine Eq.trans ?_ (point_dx m c X T G hX hT hG t y)
  blk_simp
  rw [after0_3]
  by_cases h0 : t.val % 8 = 0
  · rw [outsAt0_A m c t h0]; frame_out
  · rw [outsAt0_B m c t h0]; frame_out

include hX hT hG in
theorem final4 : (dats m 0 c).arrAt 4 (cfgs 0).N = DX X T G := by
  refine (dats m 0 c).arrAt_eq_of_covers 4 _ (by decide +kernel) fun t hf y => ?_
  refine Eq.trans ?_ (congrArg (DX X T G) (emb4 t y).symm)
  refine Eq.trans ?_ (point_dx m c X T G hX hT hG t y)
  blk_simp
  rw [after0_4]
  by_cases h0 : t.val % 8 = 0
  · rw [outsAt0_A m c t h0]; frame_out; rfl
  · rw [outsAt0_B m c t h0]; frame_out; rfl

/-- The blocks' partial sums make the whole sum. -/
theorem sum_rows (f : Fin 4096 → ℝ) : ∑ p : Fin cfg0.N, ((∑ r, f (row p r) : ℝ) : EReal) = ((∑ a, f a : ℝ) : EReal) := by
  rw [coe_sum]
  refine congrArg _ ?_
  refine Fin.sum_mul_add_congr (fun s k hl => ?_) (congrArg (· * 512) N_0).symm
  rfl

theorem zero4 (j : S1x2048.Idx) : k0_pay4 (F := Ideal) j = 0 := by pointwise [k0_pay4]
theorem zero5 (j : S8x128.Idx) : k0_pay5 (F := Ideal) j = 0 := by pointwise [k0_pay5]

include hX hT hG in
theorem final5 : (dats m 0 c).arrAt 5 (cfgs 0).N
    = fun i : S1x2048.Idx => ((∑ a, dgr (fun k => X (ix2 a k)) (fun k => T (ix2 a k)) (fun k => G (ix1 k)) (i 1) : ℝ) : EReal) := by
  refine (dats m 0 c).arrAt_eq_of_after_last 5 t0_7 (by decide +kernel) _ fun j => ?_
  blk_simp
  rw [after0_5, Pipeline.eq_sum_fin_of_reset_step_apply_last (fun n h => (outsAt0 m c n h).2.2.1) 8 (fun _ => 0)
    (fun t j => DGpart X T G t (j 1))
    (fun t h j => by rw [outsAt0_A m c t h]; frame_out; rw [point_dg m c X T G hX hT hG, zero4])
    (fun t h j => by rw [outsAt0_B m c t h]; frame_out; rw [point_dg m c X T G hX hT hG])
    (le_of_eq N_0) t0_7 rfl j, zero_add]
  exact sum_rows fun a => dgr (fun k => X (ix2 a k)) (fun k => T (ix2 a k)) (fun k => G (ix1 k)) (j 1)

include hX hT hG in
theorem final6 : (dats m 0 c).arrAt 6 (cfgs 0).N
    = fun i : S8x128.Idx => ((1 / 2 * ∑ a, lossr (fun k => X (ix2 a k)) (fun k => T (ix2 a k)) (fun k => G (ix1 k)) : ℝ) : EReal) := by
  refine (dats m 0 c).arrAt_eq_of_after_last 6 t0_7 (by decide +kernel) _ fun j => ?_
  blk_simp
  rw [after0_6, Pipeline.eq_sum_fin_of_reset_step_apply_last (fun n h => (outsAt0 m c n h).2.2.2) 8 (fun _ => 0)
    (fun t j => Lpart X T G t)
    (fun t h j => by rw [outsAt0_A m c t h]; frame_out; rw [point_loss m c X T G hX hT hG, zero5])
    (fun t h j => by rw [outsAt0_B m c t h]; frame_out; rw [point_loss m c X T G hX hT hG])
    (le_of_eq N_0) t0_7 rfl j, zero_add]
  unfold Lpart
  simp only [Finset.mul_sum]
  exact sum_rows fun a => 1 / 2 * lossr (fun k => X (ix2 a k)) (fun k => T (ix2 a k)) (fun k => G (ix1 k))

/-- The kernel's run, each result at its real-valued form. -/
theorem ker_run (ρ : Dev nD → PrngReg) (hm : ∀ c : Dev nD,
      m ((c.tc : Thread nD τ).loc main_arg0) = (fun i => ((X i : ℝ) : EReal))
      ∧ m ((c.tc : Thread nD τ).loc main_arg1) = (fun i => ((T i : ℝ) : EReal))
      ∧ m ((c.tc : Thread nD τ).loc main_arg2) = (fun i => ((G i : ℝ) : EReal))) :
    θ_run defs (onTc (τ := τ) (main (F := Ideal))) ⟨m, fun _ => 0, ρ⟩ fun r => ∀ c : Dev nD,
      r.2.mem ((c.tc : Thread nD τ).loc main_v1_0) = (fun i : S4096x2048.Idx => ((dxr (fun k => X (ix2 (i 0) k)) (fun k => T (ix2 (i 0) k)) (fun k => G (ix1 k)) (i 1) : ℝ) : EReal))
      ∧ r.2.mem ((c.tc : Thread nD τ).loc main_v1_1) = (fun i : S4096x2048.Idx => ((dxr (fun k => X (ix2 (i 0) k)) (fun k => T (ix2 (i 0) k)) (fun k => G (ix1 k)) (i 1) : ℝ) : EReal))
      ∧ r.2.mem ((c.tc : Thread nD τ).loc main_v1_2) = (fun i : S1x2048.Idx => ((∑ a, dgr (fun k => X (ix2 a k)) (fun k => T (ix2 a k)) (fun k => G (ix1 k)) (i 1) : ℝ) : EReal))
      ∧ r.2.mem ((c.tc : Thread nD τ).loc main_v1_3) = (fun i : S8x128.Idx => ((1 / 2 * ∑ a, lossr (fun k => X (ix2 a k)) (fun k => T (ix2 a k)) (fun k => G (ix1 k)) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run_blocks m ρ)
  obtain ⟨h0, h1, h2, h3, h4⟩ := h c
  obtain ⟨hX, hT, hG⟩ := hm c
  exact ⟨h0.trans (final3 m c X T G hX hT hG), h1.trans (final4 m c X T G hX hT hG), h2.trans (final5 m c X T G hX hT hG),
    h3.trans (final6 m c X T G hX hT hG), h4⟩

end Cert.LossValue

end
-- ==== Proof.LossClaim.lean ====
/- The loss kernel's results are the reference's. -/
module

public import proofs.«01_k».proof.Defs
public import proofs.«01_k».proof.Proof.LossValue

@[expose] public section

set_option maxRecDepth 16384

noncomputable section

open Idealize.ShloMosaic Idealize.ShloMosaic.TcCoe Idealize.SL.Sem

namespace Cert.LossClaim

instance pre : Cert.Pre_loss_finite.Facts where
  bcast_S_S4096x2048 := Cert.LossRefIdeal.Gen.bcast_S_S4096x2048
  bcast_S_S2048 := by decide

theorem algebraic : Cert.algebraic_LossKernelIdeal_LossRefIdeal_pre_loss_finite := by
  intro m g m' g' hpre hagree
  have hreal : ∃ (X T : Cert.LossKernelIdeal.S4096x2048.Idx → ℝ) (G : Cert.LossKernelIdeal.S2048.Idx → ℝ),
      ∀ c : Dev Cert.LossKernelIdeal.nD,
        m ((c.tc : Thread Cert.LossKernelIdeal.nD Cert.LossKernelIdeal.τ).loc Cert.LossKernelIdeal.main_arg0) = (fun i => ((X i : ℝ) : EReal))
        ∧ m ((c.tc : Thread Cert.LossKernelIdeal.nD Cert.LossKernelIdeal.τ).loc Cert.LossKernelIdeal.main_arg1) = (fun i => ((T i : ℝ) : EReal))
        ∧ m ((c.tc : Thread Cert.LossKernelIdeal.nD Cert.LossKernelIdeal.τ).loc Cert.LossKernelIdeal.main_arg2) = (fun i => ((G i : ℝ) : EReal)) := by
    obtain ⟨h0, h1, h2⟩ := hpre 0
    obtain ⟨X, hX⟩ := Cert.Reals.exists_real _ _ h0
    obtain ⟨T, hT⟩ := Cert.Reals.exists_real _ _ h1
    obtain ⟨G, hG⟩ := Cert.Reals.exists_real _ _ h2
    refine ⟨X, T, G, fun c => ?_⟩
    obtain rfl : c = 0 := Subsingleton.elim _ _
    exact ⟨hX, hT, hG⟩
  obtain ⟨X, T, G, hm⟩ := hreal
  exact ⟨_, _, _, _, Cert.LossValue.ker_run m X T G g hm,
    Cert.LossPure.ref_run m' X T G g' fun c =>
      ⟨(hagree c).1.trans (hm c).1, (hagree c).2.1.trans (hm c).2.1, (hagree c).2.2.trans (hm c).2.2⟩⟩

end Cert.LossClaim

end
-- ==== Proof.MlaSteps.lean ====
/-
  What one grid point of the attention's backward kernel leaves in its three outputs, in plain words. At head `h` and key
  block `j` (512 keys) the body visits the query blocks `j … 7`: the diagonal block first, then four at once if four or
  more remain, then two at once, then one. Every visit adds a term to `dk` and `dv` and writes the rows it visited of `dq`:
  at `j = 0` it stores them, at `j > 0` it adds to what the key blocks before left. At the end `dk` is scaled.
-/
module

public import proofs.«01_k».proof.Proof.Gen.MlaKernelIdeal.Frame
public import proofs.«01_k».proof.Proof.Gen.MlaKernelIdeal.Skeleton
public import Idealize.ShloMosaic.Lib.WritesUnit
public import Idealize.ShloMosaic.Lib.WholeRead
public import Idealize.ShloMosaic.Lib.Pointwise

@[expose] public section

noncomputable section

namespace Cert.MlaRun

open Idealize.ShloMosaic Idealize.ShloMosaic.Pointwise Cert.MlaKernelIdeal Cert.MlaKernelIdeal.Gen

variable {F : FTy → Type} [FloatOps F] [Named F]

/-! ## The rows a visit reads and writes -/

/-- A position below 4096. -/
def row (n : ℕ) : Fin 4096 := ⟨n % 4096, Nat.mod_lt _ (by omega)⟩

/-- The first entry of a one-entry axis. -/
def one0 : Fin 1 := 0

/-- Rows `o … o + w` of an array of one head's 4096 rows of 256 columns. -/
def rowsQ {e : EltTy} (o w : ℕ) (x : Vec F S1x4096x256 e) : Vec F ⟨3, ![1, w, 256]⟩ e :=
  fun y => x (show S1x4096x256.Idx from ix3 one0 (row (o + (y 1).val)) (y 2))

/-- Rows `o … o + w` of the cotangent's 128 columns. -/
def rowsD {e : EltTy} (o w : ℕ) (x : Vec F S4096x128 e) : Vec F ⟨2, ![w, 128]⟩ e :=
  fun y => x (show S4096x128.Idx from ix2 (row (o + (y 0).val)) (y 1))

/-- Positions `o … o + w` of the first of the eight equal rows. -/
def rowsL {e : EltTy} (o w : ℕ) (x : Vec F S1x8x4096 e) : Vec F ⟨3, ![1, 1, w]⟩ e :=
  fun y => x (show S1x8x4096.Idx from ix3 one0 (0 : Fin 8) (row (o + (y 2).val)))

/-- `Y` with its rows `o … o + w` replaced by `P`. -/
def put {e : EltTy} (o w : ℕ) (P : Vec F ⟨3, ![1, w, 256]⟩ e) (Y : Vec F S1x4096x256 e) : Vec F S1x4096x256 e :=
  fun y => if h : o ≤ (y 1).val ∧ (y 1).val < o + w then
      P (show (⟨3, ![1, w, 256]⟩ : Shape).Idx from ix3 one0 (⟨(y 1).val - o, by omega⟩ : Fin w) (y 2))
    else Y y

/-! ## The visits -/

variable (j : ℕ) (x0 : Vec F S1x4096x256 .bf16) (x1 : Vec F S1x512x256 .bf16) (x2 : Vec F S1x512x128 .bf16)
  (x3 : Vec F S4096x128 .bf16) (x4 x5 : Vec F S1x8x4096 .f32)

/-- The diagonal visit's rows of `dq`. -/
def diagQ (Y : Vec F S1x4096x256 .f32) : Vec F S1x4096x256 .f32 :=
  if j = 0 then
    put (512 * j) 512 (k0_pay47 (k0_pay37 x1) (k0_pay43 (rowsQ (512 * j) 512 x0) x1 (rowsD (512 * j) 512 x3)
      (rowsL (512 * j) 512 x5) x2 (rowsL (512 * j) 512 x4))) Y
  else
    put (512 * j) 512 (k0_pay48 (k0_pay37 x1) (k0_pay43 (rowsQ (512 * j) 512 x0) x1 (rowsD (512 * j) 512 x3)
      (rowsL (512 * j) 512 x5) x2 (rowsL (512 * j) 512 x4)) (rowsQ (512 * j) 512 Y)) Y

/-- The diagonal visit's `dk`. -/
def diagK : Vec F S1x512x256 .f32 :=
  k0_pay45 (k0_pay42 (rowsQ (512 * j) 512 x0) x1 (rowsD (512 * j) 512 x3) (rowsL (512 * j) 512 x5) x2
    (rowsL (512 * j) 512 x4))

/-- The diagonal visit's `dv`. -/
def diagV : Vec F S1x512x128 .f32 :=
  k0_pay46 (k0_pay40 (rowsQ (512 * j) 512 x0) x1 (rowsD (512 * j) 512 x3) (rowsL (512 * j) 512 x5))

/-- The visit of four query blocks: made when four or more remain. -/
def quadQ (Y : Vec F S1x4096x256 .f32) : Vec F S1x4096x256 .f32 :=
  if j ≤ 3 then
    if j = 0 then
      put (512 * (j + 1)) 2048 (k0_pay51 (k0_pay9 (rowsQ (512 * (j + 1)) 2048 x0) x1 (rowsD (512 * (j + 1)) 2048 x3)
        (rowsL (512 * (j + 1)) 2048 x5) x2 (rowsL (512 * (j + 1)) 2048 x4))) Y
    else
      put (512 * (j + 1)) 2048 (k0_pay52 (k0_pay9 (rowsQ (512 * (j + 1)) 2048 x0) x1 (rowsD (512 * (j + 1)) 2048 x3)
        (rowsL (512 * (j + 1)) 2048 x5) x2 (rowsL (512 * (j + 1)) 2048 x4)) (rowsQ (512 * (j + 1)) 2048 Y)) Y
  else Y

/-- The visit of four query blocks adds to `dk`. -/
def quadK (D : Vec F S1x512x256 .f32) : Vec F S1x512x256 .f32 :=
  if j ≤ 3 then
    k0_pay49 (k0_pay8 (rowsQ (512 * (j + 1)) 2048 x0) x1 (rowsD (512 * (j + 1)) 2048 x3)
      (rowsL (512 * (j + 1)) 2048 x5) x2 (rowsL (512 * (j + 1)) 2048 x4)) D
  else D

/-- The visit of four query blocks adds to `dv`. -/
def quadV (D : Vec F S1x512x128 .f32) : Vec F S1x512x128 .f32 :=
  if j ≤ 3 then
    k0_pay50 (k0_pay6 (rowsQ (512 * (j + 1)) 2048 x0) x1 (rowsD (512 * (j + 1)) 2048 x3)
      (rowsL (512 * (j + 1)) 2048 x5)) D
  else D

/-- Where the visit of two query blocks begins: behind the diagonal block and the four, if any. -/
def pairAt : ℕ := 512 * (j + 1 + 4 * ((7 - j) / 4))

/-- The visit of two query blocks: made when two or three remain behind the four. -/
def pairQ (Y : Vec F S1x4096x256 .f32) : Vec F S1x4096x256 .f32 :=
  if 2 ≤ (7 - j) % 4 then
    if j = 0 then
      put (pairAt j) 1024 (k0_pay27 (k0_pay19 x1) (k0_pay20 (rowsD (pairAt j) 1024 x3))
        (k0_pay21 (rowsQ (pairAt j) 1024 x0) x1 (rowsL (pairAt j) 1024 x5)) x2 (rowsL (pairAt j) 1024 x4)) Y
    else
      put (pairAt j) 1024 (k0_pay57 (k0_pay24 (k0_pay19 x1) (k0_pay20 (rowsD (pairAt j) 1024 x3))
        (k0_pay21 (rowsQ (pairAt j) 1024 x0) x1 (rowsL (pairAt j) 1024 x5)) x2 (rowsL (pairAt j) 1024 x4))
        (rowsQ (pairAt j) 1024 Y)) Y
  else Y

/-- The visit of two query blocks adds to `dk`. -/
def pairK (D : Vec F S1x512x256 .f32) : Vec F S1x512x256 .f32 :=
  if 2 ≤ (7 - j) % 4 then
    k0_pay25 (k0_pay18 (rowsQ (pairAt j) 1024 x0)) (k0_pay20 (rowsD (pairAt j) 1024 x3))
      (k0_pay21 (rowsQ (pairAt j) 1024 x0) x1 (rowsL (pairAt j) 1024 x5)) x2 (rowsL (pairAt j) 1024 x4) D
  else D

/-- The visit of two query blocks adds to `dv`. -/
def pairV (D : Vec F S1x512x128 .f32) : Vec F S1x512x128 .f32 :=
  if 2 ≤ (7 - j) % 4 then
    k0_pay26 (k0_pay20 (rowsD (pairAt j) 1024 x3))
      (k0_pay22 (rowsQ (pairAt j) 1024 x0) x1 (rowsL (pairAt j) 1024 x5)) D
  else D

/-- The visit of the last query block alone: made when an odd number remain. -/
def lastQ (Y : Vec F S1x4096x256 .f32) : Vec F S1x4096x256 .f32 :=
  if (7 - j) % 2 = 1 then
    if j = 0 then
      put 3584 512 (k0_pay60 (k0_pay34 (rowsQ 3584 512 x0) x1 (rowsD 3584 512 x3) (rowsL 3584 512 x5) x2
        (rowsL 3584 512 x4))) Y
    else
      put 3584 512 (k0_pay61 (k0_pay34 (rowsQ 3584 512 x0) x1 (rowsD 3584 512 x3) (rowsL 3584 512 x5) x2
        (rowsL 3584 512 x4)) (rowsQ 3584 512 Y)) Y
  else Y

/-- The visit of the last query block adds to `dk`. -/
def lastK (D : Vec F S1x512x256 .f32) : Vec F S1x512x256 .f32 :=
  if (7 - j) % 2 = 1 then
    k0_pay58 (k0_pay35 (rowsQ 3584 512 x0) x1 (rowsD 3584 512 x3) (rowsL 3584 512 x5) x2 (rowsL 3584 512 x4) D)
  else D

/-- The visit of the last query block adds to `dv`. -/
def lastV (D : Vec F S1x512x128 .f32) : Vec F S1x512x128 .f32 :=
  if (7 - j) % 2 = 1 then
    k0_pay59 (k0_pay32 (rowsQ 3584 512 x0) x1 (rowsD 3584 512 x3) (rowsL 3584 512 x5)) D
  else D

/-- `dq`'s block after key block `j`, from what it held before. -/
def outQ (Y : Vec F S1x4096x256 .f32) : Vec F S1x4096x256 .f32 :=
  lastQ j x0 x1 x2 x3 x4 x5 (pairQ j x0 x1 x2 x3 x4 x5 (quadQ j x0 x1 x2 x3 x4 x5 (diagQ j x0 x1 x2 x3 x4 x5 Y)))

/-- `dk`'s block after key block `j`. -/
def outK : Vec F S1x512x256 .f32 :=
  k0_pay1 (k0_pay62 (lastK j x0 x1 x2 x3 x4 x5 (pairK j x0 x1 x2 x3 x4 x5 (quadK j x0 x1 x2 x3 x4 x5
    (diagK j x0 x1 x2 x3 x4 x5)))))

/-- `dv`'s block after key block `j`. -/
def outV : Vec F S1x512x128 .f32 :=
  lastV j x0 x1 x3 x5 (pairV j x0 x1 x3 x5 (quadV j x0 x1 x3 x5 (diagV j x0 x1 x3 x5)))

end Cert.MlaRun

end
-- ==== Proof.MlaOffs.lean ====
/-
  Where the attention's backward kernel reads and writes, in closed form, and which of its branches a key block takes:
  each fact is a check over the 64 grid points.
-/
module

public import proofs.«01_k».proof.Proof.MlaSteps
public import Idealize.ShloMosaic.Lib.Tactic
public import Idealize.ShloMosaic.Lib.LoopRemainder

@[expose] public section

noncomputable section

namespace Cert.MlaRun

open Idealize.ShloMosaic Cert.MlaKernelIdeal Cert.MlaKernelIdeal.Gen

theorem off6_eq : ∀ (i : grid0.Coords) (k : Fin (k0_t1_loop i).trips), k0_off6 i k = ![0, 512 * ((i 1).val + 1), 0] := by
  decide +kernel
theorem off7_eq : ∀ (i : grid0.Coords) (k : Fin (k0_t1_loop i).trips), k0_off7 i k = ![512 * ((i 1).val + 1), 0] := by
  decide +kernel
theorem off8_eq : ∀ (i : grid0.Coords) (k : Fin (k0_t1_loop i).trips), k0_off8 i k = ![0, 0, 512 * ((i 1).val + 1)] := by
  decide +kernel
theorem off9_eq : ∀ (i : grid0.Coords) (k : Fin (k0_t1_loop i).trips), k0_off9 i k = ![0, 512 * ((i 1).val + 1), 0] := by
  decide +kernel
theorem off10_eq : ∀ (i : grid0.Coords) (k : Fin (k0_t1_loop i).trips), k0_off10 i k = ![0, 512 * ((i 1).val + 1), 0] := by
  decide +kernel
theorem off16_eq : ∀ i : grid0.Coords, k0_off16 i = ![0, 512 * ((i 1).val + 1 + 4 * ((7 - (i 1).val) / 4)), 0] := by
  decide +kernel
theorem off17_eq : ∀ i : grid0.Coords, k0_off17 i = ![512 * ((i 1).val + 1 + 4 * ((7 - (i 1).val) / 4)), 0] := by
  decide +kernel
theorem off18_eq : ∀ i : grid0.Coords, k0_off18 i = ![0, 0, 512 * ((i 1).val + 1 + 4 * ((7 - (i 1).val) / 4))] := by
  decide +kernel
theorem off19_eq : ∀ i : grid0.Coords, k0_off19 i = ![0, 512 * ((i 1).val + 1 + 4 * ((7 - (i 1).val) / 4)), 0] := by
  decide +kernel
theorem off20_eq : ∀ i : grid0.Coords, k0_off20 i = ![0, 512 * ((i 1).val + 1 + 4 * ((7 - (i 1).val) / 4)), 0] := by
  decide +kernel

instance (i : grid0.Coords) (k : Fin (k0_t1_loop i).trips) : ClosedOff (k0_off6 i k) := ⟨_, off6_eq i k⟩
instance (i : grid0.Coords) (k : Fin (k0_t1_loop i).trips) : ClosedOff (k0_off7 i k) := ⟨_, off7_eq i k⟩
instance (i : grid0.Coords) (k : Fin (k0_t1_loop i).trips) : ClosedOff (k0_off8 i k) := ⟨_, off8_eq i k⟩
instance (i : grid0.Coords) (k : Fin (k0_t1_loop i).trips) : ClosedOff (k0_off9 i k) := ⟨_, off9_eq i k⟩
instance (i : grid0.Coords) (k : Fin (k0_t1_loop i).trips) : ClosedOff (k0_off10 i k) := ⟨_, off10_eq i k⟩
instance (i : grid0.Coords) : ClosedOff (k0_off16 i) := ⟨_, off16_eq i⟩
instance (i : grid0.Coords) : ClosedOff (k0_off17 i) := ⟨_, off17_eq i⟩
instance (i : grid0.Coords) : ClosedOff (k0_off18 i) := ⟨_, off18_eq i⟩
instance (i : grid0.Coords) : ClosedOff (k0_off19 i) := ⟨_, off19_eq i⟩
instance (i : grid0.Coords) : ClosedOff (k0_off20 i) := ⟨_, off20_eq i⟩

/-- The first key block: what is visited is stored. -/
theorem first_iff : ∀ i : grid0.Coords, (k0_cond1 i = 1#1 ↔ (i 1).val = 0) ∧ (k0_cond3 i = 1#1 ↔ (i 1).val = 0)
    ∧ (k0_cond8 i = 1#1 ↔ (i 1).val = 0) ∧ (k0_cond11 i = 1#1 ↔ (i 1).val = 0) := by decide +kernel
/-- A later key block: what is visited is added to. -/
theorem later_iff : ∀ i : grid0.Coords, (k0_cond2 i = 1#1 ↔ (i 1).val ≠ 0) ∧ (k0_cond4 i = 1#1 ↔ (i 1).val ≠ 0)
    ∧ (k0_cond9 i = 1#1 ↔ (i 1).val ≠ 0) ∧ (k0_cond12 i = 1#1 ↔ (i 1).val ≠ 0) := by decide +kernel
theorem pair_iff : ∀ i : grid0.Coords, k0_cond7 i = 1#1 ↔ 2 ≤ (7 - (i 1).val) % 4 := by decide +kernel
theorem last_iff : ∀ i : grid0.Coords, k0_cond10 i = 1#1 ↔ (7 - (i 1).val) % 2 = 1 := by decide +kernel
theorem quad_one : ∀ i : grid0.Coords, (i 1).val ≤ 3 → (k0_t1_loop i).trips = 1 := by decide +kernel
theorem quad_none : ∀ i : grid0.Coords, ¬ (i 1).val ≤ 3 → (k0_t1_loop i).trips = 0 := by decide +kernel
theorem rest_none : ∀ i : grid0.Coords, (k0_t2_loop i).trips = 0 := by decide +kernel

/-- A counted loop of one trip is that trip. -/
theorem loop_one {w : ℕ} {E : Type → Type} {σ : Type} (l : Scf.Loop w) (hok : l.OK) (init : σ)
    (body : Fin l.trips → σ → Idealize.SL.Sem.Prog E σ) (h : l.trips = 1) :
    Scf.Loop.for l hok init body = body ⟨0, by omega⟩ init := by
  have hl : List.finRange l.trips = [⟨0, by omega⟩] :=
    List.ext_getElem (by rw [List.length_finRange]; exact h) fun n h1 h2 => Fin.ext (by
      simp only [List.getElem_finRange, List.length_singleton, Fin.cast_mk] at h2 ⊢
      have : n = 0 := by omega
      subst this; rfl)
  show Scf.for l.lb l.ub l.st hok init body = _
  rw [Scf.for_eq]
  show Scf.forFrom body (List.finRange l.trips) init = _
  rw [hl]
  exact bind_pure _

/-- A counted loop of no trips does nothing. -/
theorem loop_none {w : ℕ} {E : Type → Type} {σ : Type} (l : Scf.Loop w) (hok : l.OK) (init : σ)
    (body : Fin l.trips → σ → Idealize.SL.Sem.Prog E σ) (h : l.trips = 0) :
    Scf.Loop.for l hok init body = pure init := Scf.for_eq_ret _ _ _ hok init body h

end Cert.MlaRun
-- ==== Proof.MlaBody.lean ====
/-
  The body of the attention's backward kernel, run once per kind of key block: from the six inputs' blocks, `dq`'s block as
  the key blocks before left it and any `dk`, `dv`, it ends with the three outputs at what `MlaSteps` states.
-/
module

public import proofs.«01_k».proof.Proof.MlaOffs

@[expose] public section

set_option maxRecDepth 16384

noncomputable section

namespace Cert.MlaRun

open Cert.MlaKernelIdeal Cert.MlaKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What a load reads and what a store leaves, over whole blocks -/

section Reads

variable {sp : Space} {e : EltTy}

theorem coord_of_unit {s : Shape} (off size : Fin s.rank → ℕ) (inb : ∀ a, off a + size a ≤ s.size a)
    (x : (Rect.unit off size inb).toLoadRect.shape.Idx) (a : Fin s.rank) :
    ((Rect.unit off size inb).toLoadRect.idx x a).val = off a + (x a).val :=
  congrArg (off a + ·) (Nat.one_mul (x a).val)

theorem readQ (v : View sig .tc sp S1x4096x256 e) (f : v.ty.Contents (Elt F)) {off : Fin 3 → ℕ} (w o : ℕ)
    (eo : off = ![0, o, 0]) (inb : ∀ a, off a + (![1, w, 256] : Fin 3 → ℕ) a ≤ S1x4096x256.size a) :
    View.readAt (Elt F) v (Rect.unit (s := S1x4096x256) off ![1, w, 256] inb).toLoadRect f = rowsQ o w (v.read (Elt F) f) := by
  subst eo
  funext x
  show v.read (Elt F) f _ = v.read (Elt F) f _
  refine congrArg (v.read (Elt F) f) (funext fun a => Fin.ext ?_)
  rw [coord_of_unit]
  have h1 : o + w ≤ 4096 := inb 1
  have hx1 : (x (1 : Fin 3)).val < w := (x (1 : Fin 3)).isLt
  have hx0 : (x (0 : Fin 3)).val < 1 := (x (0 : Fin 3)).isLt
  match a with
  | 0 => show 0 + (x (0 : Fin 3)).val = 0; omega
  | 1 => show o + (x (1 : Fin 3)).val = (o + (x (1 : Fin 3)).val) % 4096; omega
  | 2 => show 0 + (x (2 : Fin 3)).val = (x (2 : Fin 3)).val; omega

/-- Rows behind the ones a visit wrote are as before. -/
theorem rowsQ_put {w o w' o' : ℕ} (P : Vec F ⟨3, ![1, w', 256]⟩ e) (Y : Vec F S1x4096x256 e) (h : o + w ≤ 4096)
    (hd : o' + w' ≤ o) : rowsQ o w (put o' w' P Y) = rowsQ o w Y := by
  funext x
  have hx1 : (x (1 : Fin 3)).val < w := (x (1 : Fin 3)).isLt
  refine dif_neg fun hh => ?_
  have h2 : (o + (x (1 : Fin 3)).val) % 4096 < o' + w' := hh.2
  omega

theorem readD {m : Memref sig .tc sp S4096x128 e} (h : m.IsWhole) (X : Vec F S4096x128 e) {off : Fin 2 → ℕ} (w o : ℕ)
    (eo : off = ![o, 0]) (inb : ∀ a, off a + (![w, 128] : Fin 2 → ℕ) a ≤ S4096x128.size a) :
    View.readAt (Elt F) m.view (Rect.unit (s := S4096x128) off ![w, 128] inb).toLoadRect (h.unread X) = rowsD o w X := by
  subst eo
  funext x
  rw [h.readAt_unread]
  refine congrArg X (funext fun a => Fin.ext ?_)
  rw [coord_of_unit]
  have h1 : o + w ≤ 4096 := inb 0
  have hx1 : (x (0 : Fin 2)).val < w := (x (0 : Fin 2)).isLt
  match a with
  | 0 => show o + (x (0 : Fin 2)).val = (o + (x (0 : Fin 2)).val) % 4096; omega
  | 1 => show 0 + (x (1 : Fin 2)).val = (x (1 : Fin 2)).val; omega

theorem readL {m : Memref sig .tc sp S1x8x4096 e} (h : m.IsWhole) (X : Vec F S1x8x4096 e) {off : Fin 3 → ℕ} (w o : ℕ)
    (eo : off = ![0, 0, o]) (inb : ∀ a, off a + (![1, 1, w] : Fin 3 → ℕ) a ≤ S1x8x4096.size a) :
    View.readAt (Elt F) m.view (Rect.unit (s := S1x8x4096) off ![1, 1, w] inb).toLoadRect (h.unread X) = rowsL o w X := by
  subst eo
  funext x
  rw [h.readAt_unread]
  refine congrArg X (funext fun a => Fin.ext ?_)
  rw [coord_of_unit]
  have h1 : o + w ≤ 4096 := inb 2
  have hx2 : (x (2 : Fin 3)).val < w := (x (2 : Fin 3)).isLt
  have hx0 : (x (0 : Fin 3)).val < 1 := (x (0 : Fin 3)).isLt
  have hx1 : (x (1 : Fin 3)).val < 1 := (x (1 : Fin 3)).isLt
  match a with
  | 0 => show 0 + (x (0 : Fin 3)).val = 0; omega
  | 1 => show 0 + (x (1 : Fin 3)).val = 0; omega
  | 2 => show o + (x (2 : Fin 3)).val = (o + (x (2 : Fin 3)).val) % 4096; omega

theorem zero3 : (![0, 0, 0] : Fin 3 → ℕ) = fun _ => 0 := by
  funext a; match a with | 0 => rfl | 1 => rfl | 2 => rfl

theorem readWhole {s : Shape} {m : Memref sig .tc sp s e} (h : m.IsWhole) (X : Vec F s e) {off : Fin s.rank → ℕ}
    (eo : off = fun _ => 0) (inb : ∀ a, off a + s.size a ≤ s.size a) :
    View.readAt (Elt F) m.view (Rect.unit off s.size inb).toLoadRect (h.unread X) = X := by
  subst eo
  funext x
  rw [h.readAt_unread]
  exact congrArg X (funext fun a => Fin.ext (by rw [coord_of_unit]; exact Nat.zero_add _))

theorem writeWhole {s : Shape} (v : View sig .tc sp s e) (f : v.ty.Contents (Elt F)) {off : Fin s.rank → ℕ}
    (eo : off = fun _ => 0) (inb : ∀ a, off a + s.size a ≤ s.size a) (P : s.Idx → Elt F e) (L : List (View.Piece (Elt F) s e)) :
    v.read (Elt F) (v.writes (Elt F) f ((⟨Rect.unit off s.size inb, P⟩ : View.Piece (Elt F) s e) :: L)) = P := by
  subst eo
  funext y
  exact View.read_writes_cons_unit_of_mem v f inb P L y y rfl fun a => (Nat.zero_add _).symm

theorem writeQ (v : View sig .tc sp S1x4096x256 e) (f : v.ty.Contents (Elt F)) {off : Fin 3 → ℕ} (w o : ℕ)
    (eo : off = ![0, o, 0]) (inb : ∀ a, off a + (![1, w, 256] : Fin 3 → ℕ) a ≤ S1x4096x256.size a)
    (P : Vec F ⟨3, ![1, w, 256]⟩ e) (L : List (View.Piece (Elt F) S1x4096x256 e)) :
    v.read (Elt F) (v.writes (Elt F) f ((⟨Rect.unit (s := S1x4096x256) off ![1, w, 256] inb, P⟩ : View.Piece (Elt F) S1x4096x256 e) :: L))
      = put o w P (v.read (Elt F) (v.writes (Elt F) f L)) := by
  subst eo
  funext y
  unfold put
  have hy0 : (y (0 : Fin 3)).val < 1 := (y (0 : Fin 3)).isLt
  split
  · rename_i h
    refine View.read_writes_cons_unit_of_mem v f inb P L y _ rfl fun a => ?_
    match a with
    | 0 => show (y (0 : Fin 3)).val = 0 + 0; omega
    | 1 => show (y (1 : Fin 3)).val = o + ((y (1 : Fin 3)).val - o); omega
    | 2 => show (y (2 : Fin 3)).val = 0 + (y (2 : Fin 3)).val; omega
  · rename_i h
    refine View.read_writes_cons_unit_of_not_mem v f inb P L y rfl (1 : Fin 3) ?_
    show (y (1 : Fin 3)).val < o ∨ o + w ≤ (y (1 : Fin 3)).val
    omega

theorem writeNone {s : Shape} {m : Memref sig .tc sp s e} (h : m.IsWhole) (X : Vec F s e) :
    View.read (Elt F) m.view (m.view.writes (Elt F) (h.unread X) []) = X := h.read_unread X

end Reads

/-! ## The run -/

set_option maxHeartbeats 8000000 in
theorem body_run (c : Dev nD) (i : grid0.Coords) (arg2 : Memref sig .tc .vmem S1x4096x256 .bf16) (harg2 : arg2.IsWhole) (arg3 : Memref sig .tc .vmem S1x512x256 .bf16) (harg3 : arg3.IsWhole) (arg4 : Memref sig .tc .vmem S1x512x128 .bf16) (harg4 : arg4.IsWhole) (arg5 : Memref sig .tc .vmem S4096x128 .bf16) (harg5 : arg5.IsWhole) (arg6 : Memref sig .tc .vmem S1x8x4096 .f32) (harg6 : arg6.IsWhole) (arg7 : Memref sig .tc .vmem S1x8x4096 .f32) (harg7 : arg7.IsWhole) (arg8 : Memref sig .tc .vmem S1x4096x256 .f32) (harg8 : arg8.IsWhole) (arg9 : Memref sig .tc .vmem S1x512x256 .f32) (harg9 : arg9.IsWhole) (arg10 : Memref sig .tc .vmem S1x512x128 .f32) (harg10 : arg10.IsWhole)
    (x0 : Vec F S1x4096x256 .bf16) (x1 : Vec F S1x512x256 .bf16) (x2 : Vec F S1x512x128 .bf16)
    (x3 : Vec F S4096x128 .bf16) (x4 x5 : Vec F S1x8x4096 .f32) (Y : Vec F S1x4096x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare Y ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4 ∗ owns (c : Thread nD τ) arg7 fullShare x5
          ∗ owns (c : Thread nD τ) arg8 fullShare (outQ (i 1).val x0 x1 x2 x3 x4 x5 Y)
          ∗ owns (c : Thread nD τ) arg9 fullShare (outK (i 1).val x0 x1 x2 x3 x4 x5)
          ∗ owns (c : Thread nD τ) arg10 fullShare (outV (i 1).val x0 x1 x3 x5)) -∗ K ⟨⟩))
      ⊢ wp frame (wpE (defs₀ (F := F)) Variants.none c none) E (cc0_mla_bwd i arg2 harg2 arg3 harg3 arg4 harg4 arg5 harg5 arg6 harg6 arg7 harg7 arg8 harg8 arg9 harg9 arg10 harg10) K := by
  obtain ⟨f1, f3, f8, f11⟩ := first_iff i
  obtain ⟨g2, g4, g9, g12⟩ := later_iff i
  have p7 := pair_iff i
  have p10 := last_iff i
  simp only [cc0_mla_bwd_eq_skeleton]; unfold cc0_mla_bwd_skel
  simp only [k0_part8_eq_skeleton]
  unfold k0_part8_skel k0_t1_body
  simp only [k0_part1_eq_skeleton, k0_part3_eq_skeleton, k0_part4_eq_skeleton, k0_part5_eq_skeleton, k0_part6_eq_skeleton, k0_part7_eq_skeleton]
  unfold owns
  iintro ⟨⟨%f0, %hf0, H0⟩, ⟨%f1', %hf1, H1⟩, ⟨%f2, %hf2, H2⟩, ⟨%f3', %hf3, H3⟩, ⟨%f4, %hf4, H4⟩, ⟨%f5, %hf5, H5⟩, ⟨%f6, %hf6, H6⟩, ⟨%d7, %f7, -, H7⟩, ⟨%d8, %f8', -, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  have hj : (i 1).val < 8 := (i 1).isLt
  by_cases hq : (i 1).val ≤ 3
  all_goals by_cases hp : 2 ≤ (7 - (i 1).val) % 4
  all_goals by_cases hl : (7 - (i 1).val) % 2 = 1
  all_goals by_cases hz : (i 1).val = 0
  all_goals first
    | (exfalso; omega)
    | skip
  all_goals
    first
      | simp only [loop_one (k0_t1_loop i) _ _ _ (quad_one i hq), loop_none (k0_t2_loop i) _ _ _ (rest_none i)]
      | simp only [loop_none (k0_t1_loop i) _ _ _ (quad_none i hq), loop_none (k0_t2_loop i) _ _ _ (rest_none i)]
    simp only [hp, iff_true, iff_false] at p7
    simp only [hl, iff_true, iff_false] at p10
    simp only [hz, ne_eq, not_true_eq_false, not_false_eq_true, iff_true, iff_false] at f1 f3 f8 f11 g2 g4 g9 g12
    sl_exec (disch := first | sl_exact f1 | sl_exact g2 | sl_exact f3 | sl_exact g4 | sl_exact p7 | sl_exact p10 | sl_exact f8 | sl_exact f11 | sl_exact g9 | sl_exact g12)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      sl_unfold_run_names
      simp only [readQ _ _ 512 _ (k0_off1_eq i), readD _ _ 512 _ (k0_off2_eq i), readL _ _ 512 _ (k0_off3_eq i),
        readQ _ _ 512 _ (k0_off5_eq i), readQ _ _ 2048 _ (off6_eq i _), readD _ _ 2048 _ (off7_eq i _),
        readL _ _ 2048 _ (off8_eq i _), readQ _ _ 2048 _ (off10_eq i _), readQ _ _ 1024 _ (off16_eq i),
        readD _ _ 1024 _ (off17_eq i), readL _ _ 1024 _ (off18_eq i), readQ _ _ 1024 _ (off20_eq i),
        readQ _ _ 512 3584 rfl, readD _ _ 512 3584 rfl, readL _ _ 512 3584 rfl, readWhole (s := S1x512x256) _ _ zero3, readWhole (s := S1x512x128) _ _ zero3,
        View.readCov_cons_toLoadRect, writeWhole (s := S1x512x256) _ _ zero3, writeWhole (s := S1x512x128) _ _ zero3, writeQ _ _ 512 _ (k0_off4_eq i),
        writeQ _ _ 512 _ (k0_off5_eq i), writeQ _ _ 2048 _ (off9_eq i _), writeQ _ _ 2048 _ (off10_eq i _),
        writeQ _ _ 1024 _ (off19_eq i), writeQ _ _ 1024 _ (off20_eq i), writeQ _ _ 512 3584 rfl, writeNone, Memref.IsWhole.read_unread]
      simp (disch := omega) only [outQ, lastQ, pairQ, quadQ, diagQ, pairAt, hz, hq, hp, hl, if_true, if_false, rowsQ_put] <;> rfl
    isplitl [H7]
    · iexists _; isplitr; swap; · iexact H7
      ipureintro
      sl_unfold_run_names
      simp only [readQ _ _ 512 _ (k0_off1_eq i), readD _ _ 512 _ (k0_off2_eq i), readL _ _ 512 _ (k0_off3_eq i),
        readQ _ _ 512 _ (k0_off5_eq i), readQ _ _ 2048 _ (off6_eq i _), readD _ _ 2048 _ (off7_eq i _),
        readL _ _ 2048 _ (off8_eq i _), readQ _ _ 2048 _ (off10_eq i _), readQ _ _ 1024 _ (off16_eq i),
        readD _ _ 1024 _ (off17_eq i), readL _ _ 1024 _ (off18_eq i), readQ _ _ 1024 _ (off20_eq i),
        readQ _ _ 512 3584 rfl, readD _ _ 512 3584 rfl, readL _ _ 512 3584 rfl, readWhole (s := S1x512x256) _ _ zero3, readWhole (s := S1x512x128) _ _ zero3,
        View.readCov_cons_toLoadRect, writeWhole (s := S1x512x256) _ _ zero3, writeWhole (s := S1x512x128) _ _ zero3, writeQ _ _ 512 _ (k0_off4_eq i),
        writeQ _ _ 512 _ (k0_off5_eq i), writeQ _ _ 2048 _ (off9_eq i _), writeQ _ _ 2048 _ (off10_eq i _),
        writeQ _ _ 1024 _ (off19_eq i), writeQ _ _ 1024 _ (off20_eq i), writeQ _ _ 512 3584 rfl, writeNone, Memref.IsWhole.read_unread]
      simp (disch := omega) only [outK, lastK, pairK, quadK, diagK, pairAt, hz, hq, hp, hl, if_true, if_false, rowsQ_put] <;> rfl
    · iexists _; isplitr; swap; · iexact H8
      ipureintro
      sl_unfold_run_names
      simp only [readQ _ _ 512 _ (k0_off1_eq i), readD _ _ 512 _ (k0_off2_eq i), readL _ _ 512 _ (k0_off3_eq i),
        readQ _ _ 512 _ (k0_off5_eq i), readQ _ _ 2048 _ (off6_eq i _), readD _ _ 2048 _ (off7_eq i _),
        readL _ _ 2048 _ (off8_eq i _), readQ _ _ 2048 _ (off10_eq i _), readQ _ _ 1024 _ (off16_eq i),
        readD _ _ 1024 _ (off17_eq i), readL _ _ 1024 _ (off18_eq i), readQ _ _ 1024 _ (off20_eq i),
        readQ _ _ 512 3584 rfl, readD _ _ 512 3584 rfl, readL _ _ 512 3584 rfl, readWhole (s := S1x512x256) _ _ zero3, readWhole (s := S1x512x128) _ _ zero3,
        View.readCov_cons_toLoadRect, writeWhole (s := S1x512x256) _ _ zero3, writeWhole (s := S1x512x128) _ _ zero3, writeQ _ _ 512 _ (k0_off4_eq i),
        writeQ _ _ 512 _ (k0_off5_eq i), writeQ _ _ 2048 _ (off9_eq i _), writeQ _ _ 2048 _ (off10_eq i _),
        writeQ _ _ 1024 _ (off19_eq i), writeQ _ _ 1024 _ (off20_eq i), writeQ _ _ 512 3584 rfl, writeNone, Memref.IsWhole.read_unread]
      simp (disch := omega) only [outV, lastV, pairV, quadV, diagV, pairAt, hz, hq, hp, hl, if_true, if_false, rowsQ_put] <;> rfl

end Cert.MlaRun
-- ==== Proof.MlaFrame.lean ====
/-
  The run of the attention's backward kernel around its host lines: the contents of the three outputs after every grid
  point, the body's triple there, and the launch.
-/
module

public import proofs.«01_k».proof.Proof.MlaBody
public import Idealize.ShloMosaic.Lib.Claim

@[expose] public section

set_option maxRecDepth 16384

noncomputable section

namespace Cert.MlaRun

open Cert.MlaKernelIdeal Cert.MlaKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- At the first key block every row of `dq` is stored, so what the buffer held before is gone. -/
theorem outQ_first (x0 : Vec F S1x4096x256 .bf16) (x1 : Vec F S1x512x256 .bf16) (x2 : Vec F S1x512x128 .bf16)
    (x3 : Vec F S4096x128 .bf16) (x4 x5 : Vec F S1x8x4096 .f32) (Y Z : Vec F S1x4096x256 .f32) :
    outQ 0 x0 x1 x2 x3 x4 x5 Y = outQ 0 x0 x1 x2 x3 x4 x5 Z := by
  funext y
  have hy : (y 1).val < 4096 := lt_of_lt_of_eq (y 1).isLt (show S1x4096x256.size 1 = 4096 from rfl)
  simp only [outQ, lastQ, pairQ, quadQ, diagQ, put, pairAt, if_true, eq_self, and_true, true_and, Nat.zero_le, Nat.sub_zero, Nat.reduceMod, Nat.reduceDiv,
    Nat.reduceMul, Nat.reduceAdd, Nat.reduceLeDiff]
  split
  · rfl
  · split
    · rfl
    · split
      · rfl
      · split
        · rfl
        · rename_i h3 h2 h1 h0
          have a0 : 512 ≤ (y 1).val := Nat.le_of_not_lt h0
          have a1 : 2560 ≤ (y 1).val := Nat.le_of_not_lt fun h => h1 ⟨a0, h⟩
          have a2 : 3584 ≤ (y 1).val := Nat.le_of_not_lt fun h => h2 ⟨a1, h⟩
          exact absurd ⟨a2, hy⟩ h3

/-- The second grid coordinate is the key block. -/
theorem coord_key : ∀ t : Fin grid0.N, (grid0.coords t 1).val = t.val % 8 := by decide +kernel

/-- The first grid coordinate is the head. -/
theorem coord_head : ∀ t : Fin grid0.N, (grid0.coords t 0).val = t.val / 8 := by decide +kernel

/-- Every point stores into `dq`'s block: the diagonal rows at least. -/
theorem never_idle : ∀ i : cfg0.grid.Coords, cfg0.idle 6 i = false := by decide +kernel

variable (m : (ℓ : Loc nD τ sig) → Buf (Elt F) ℓ) (ρ : Dev nD → PrngReg)

/-- `dq`'s block after each grid point. -/
def accQ (c : Dev nD) : (n : ℕ) → n < cfg0.N → Vec F S1x4096x256 .f32
  | 0, h => outQ 0 (iblk m c 0 ⟨0, h⟩) (iblk m c 1 ⟨0, h⟩) (iblk m c 2 ⟨0, h⟩) (iblk m c 3 ⟨0, h⟩) (iblk m c 4 ⟨0, h⟩)
      (iblk m c 5 ⟨0, h⟩) (fun _ => FloatOps.ofBits .f32 0)
  | n + 1, h => outQ ((n + 1) % 8) (iblk m c 0 ⟨n + 1, h⟩) (iblk m c 1 ⟨n + 1, h⟩) (iblk m c 2 ⟨n + 1, h⟩)
      (iblk m c 3 ⟨n + 1, h⟩) (iblk m c 4 ⟨n + 1, h⟩) (iblk m c 5 ⟨n + 1, h⟩) (accQ c n (Nat.lt_of_succ_lt h))

/-- The contents of every window's buffer after every grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => accQ m c t.val t.isLt
    | ⟨7, _⟩ => outK (t.val % 8) (iblk m c 0 t) (iblk m c 1 t) (iblk m c 2 t) (iblk m c 3 t) (iblk m c 4 t) (iblk m c 5 t)
    | ⟨8, _⟩ => outV (t.val % 8) (iblk m c 0 t) (iblk m c 1 t) (iblk m c 3 t) (iblk m c 5 t)
    | ⟨_ + 9, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = accQ m c t.val t.isLt := by dsimp only [dats]
theorem after_7 (c : Dev nD) (t : Fin cfg0.N) : (dats m 0 c).after 7 t =
    outK (t.val % 8) (iblk m c 0 t) (iblk m c 1 t) (iblk m c 2 t) (iblk m c 3 t) (iblk m c 4 t) (iblk m c 5 t) := by
  dsimp only [dats]
theorem after_8 (c : Dev nD) (t : Fin cfg0.N) : (dats m 0 c).after 8 t =
    outV (t.val % 8) (iblk m c 0 t) (iblk m c 1 t) (iblk m c 3 t) (iblk m c 5 t) := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- Whatever `dq`'s buffer held at a point's start, the point leaves `accQ` there. -/
theorem accQ_step (c : Dev nD) (t : Fin cfg0.N) (d) :
    outQ (grid0.coords t 1).val (iblk m c 0 t) (iblk m c 1 t) (iblk m c 2 t) (iblk m c 3 t) (iblk m c 4 t) (iblk m c 5 t)
      ((dats m 0 c).before 6 t d) = accQ m c t.val t.isLt := by
  have hk := coord_key t
  rw [hk]
  by_cases h0 : t.val % 8 = 0
  · rw [h0]
    obtain ⟨n, hn⟩ := t
    cases n with
    | zero => exact outQ_first _ _ _ _ _ _ _ _
    | succ n =>
      dsimp only at h0
      unfold accQ
      rw [h0]
      exact outQ_first _ _ _ _ _ _ _ _
  · rw [Dat.before_out_kept _ 6 rfl t (by omega) (Bool.eq_false_iff.mpr fun h => by
      have := (flush0_6 _).mp h; dsimp only at this; omega) never_idle (fun _ _ => rfl), after_6]
    obtain ⟨n, hn⟩ := t
    cases n with
    | zero => exact absurd rfl h0
    | succ n => rfl

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← accQ_step m c t d6, ← coord_key t]
  iapply (body_run c (grid0.coords t) _ _ _ _ _ _ _ _ _ _ _ _ _ _ _ _ _ _ (iblk m c 0 t) (iblk m c 1 t) (iblk m c 2 t)
    (iblk m c 3 t) (iblk m c 4 t) (iblk m c 5 t) ((dats m 0 c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => sep_mono .rfl (sep_mono .rfl (sep_mono .rfl (sep_mono .rfl
    (sep_mono .rfl (sep_mono .rfl (sep_mono .rfl (sep_mono .rfl (sep_mono (by rw [never_idle]) .rfl))))))))

set_option backward.isDefEq.respectTransparency.types false in
/-- The launch, every semaphore at zero at the end. -/
theorem run_main_quiescent : θ_run defs (onTc (τ := τ) (main (F := F))) (s₀ m ρ)
    (fun r => (Pipeline.FramePost cfgs (dats m) 0 (Pipeline.afterTail₀ cfgs (dats m) 0 (V0 m) [hostOps1])) r
      ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ))
    ((θ_run defs _ _).mono (fun _ h => h.2) (run_main_quiescent m ρ))

end Cert.MlaRun

end
-- ==== Proof.MlaFrames.lean ====
/-
  The frames of the attention's backward kernel, as run and idealized, from the one run of `MlaFrame`, and the reference's.
-/
module

public import proofs.«01_k».proof.Proof.MlaFrame
public import proofs.«01_k».proof.Proof.Gen.MlaRefIdeal.Run
public import proofs.«01_k».proof.Proof.Gen.MlaKernel
public import proofs.«01_k».proof.Proof.Gen.MlaKernelIdeal
public import proofs.«01_k».proof.Proof.Gen.MlaRefIdeal
public import proofs.«01_k».proof.Defs

@[expose] public section

set_option maxRecDepth 16384

noncomputable section

namespace Cert.MlaRun

open Idealize.ShloMosaic Idealize.ShloMosaic.TcCoe Idealize.ShloMosaic.Tactic Idealize.SL Idealize.SL.Sem

/-- At floats as bits a named constant is its bits, so the idealized program there is the program itself. -/
local instance namedBits : Named Bits := ⟨fun _ _ {φ} b => FloatOps.ofBits φ b⟩

/-- The idealized program at floats as bits, stated as the program's own frame. -/
def frameAtBits : Prop :=
  ∀ (m : (ℓ : Loc Cert.MlaKernelIdeal.nD Cert.MlaKernelIdeal.τ Cert.MlaKernelIdeal.sig) → Buf (Elt Bits) ℓ)
    (g : Dev Cert.MlaKernelIdeal.nD → PrngReg), True →
    θ_run (Cert.MlaKernelIdeal.defs (F := Bits)) (onTc (τ := Cert.MlaKernelIdeal.τ) (Cert.MlaKernelIdeal.main (F := Bits)))
      ⟨m, fun _ => 0, g⟩ (fun r => (∀ c : Dev Cert.MlaKernelIdeal.nD,
        r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
        ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
        ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
        ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
        ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
        ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5))
      ∧ r.2.sem = fun _ => 0)

theorem frameAtBits_eq : frameAtBits = Cert.quiescent_MlaKernel := by sl_kernel_rfl

theorem frame_kernel : Cert.quiescent_MlaKernel :=
  frameAtBits_eq.mp fun m ρ _ => frame_main (F := Bits) m ρ

theorem frame_kernel_ideal : Cert.quiescent_MlaKernelIdeal := fun m ρ _ => frame_main (F := Ideal) m ρ

theorem frame_ref : Cert.quiescent_MlaRefIdeal := fun m ρ _ =>
  (θ_run Cert.MlaRefIdeal.defs _ _).mono (fun r h => ⟨fun c => (h c).2.2.2.2.2,
    sem_eq_zero_of_no_sems (by decide) r.2⟩) (Cert.MlaRefIdeal.Value.run m ρ)

end Cert.MlaRun

end
-- ==== Proof.MlaPure.lean ====
/-
  The attention's backward pass in real numbers: the scores, the masked softmax, and its gradient, with the three facts on
  which the kernel's way and the reference's way agree.
-/
module

public import proofs.«01_k».proof.Proof.Reals
public import Idealize.ShloMosaic.Lib.Pointwise

@[expose] public section

noncomputable section

namespace Cert.MlaPure

open Idealize.ShloMosaic Cert.Reals

/-- The scores' scale. -/
def scale : ℝ := (Real.sqrt 192)⁻¹

/-- The masked score of a key. -/
def masked (f : Fin 4096 → ℝ) (q k : Fin 4096) : EReal := if k ≤ q then (f k : EReal) else ⊥

/-- The greatest score of a row. -/
def top (f : Fin 4096 → ℝ) (q : Fin 4096) : ℝ := (Finset.univ.fold max (⊥ : EReal) (masked f q)).toReal

theorem top_coe (f : Fin 4096 → ℝ) (q : Fin 4096) : Finset.univ.fold max (⊥ : EReal) (masked f q) = (top f q : EReal) := by
  refine (EReal.coe_toReal (ne_of_lt ?_) (ne_of_gt ?_)).symm
  · rw [Finset.fold_max_lt]
    refine ⟨bot_lt_top, fun k _ => ?_⟩
    unfold masked
    split
    · exact EReal.coe_lt_top _
    · exact bot_lt_top
  · rw [Finset.lt_fold_max]
    refine Or.inr ⟨q, Finset.mem_univ _, ?_⟩
    unfold masked
    rw [if_pos le_rfl]
    exact EReal.bot_lt_coe _

/-- The exponentials below the mask, from the row's greatest score down. -/
def ex (f : Fin 4096 → ℝ) (q k : Fin 4096) : ℝ := if k ≤ q then Real.exp (f k - top f q) else 0

theorem ex_coe (f : Fin 4096 → ℝ) (q k : Fin 4096) : Ideal.exp (masked f q k - (top f q : EReal)) = (ex f q k : EReal) := by
  unfold masked ex
  split
  · rw [← EReal.coe_sub]; rfl
  · rw [EReal.bot_sub]; rfl

theorem ex_nonneg (f : Fin 4096 → ℝ) (q k : Fin 4096) : 0 ≤ ex f q k := by
  unfold ex
  split
  · exact (Real.exp_pos _).le
  · exact le_rfl

/-- The softmax's denominator. -/
def den (f : Fin 4096 → ℝ) (q : Fin 4096) : ℝ := ∑ k, ex f q k

theorem den_pos (f : Fin 4096 → ℝ) (q : Fin 4096) : 0 < den f q := by
  refine Finset.sum_pos' (fun k _ => ex_nonneg f q k) ⟨q, Finset.mem_univ _, ?_⟩
  unfold ex
  rw [if_pos le_rfl]
  exact Real.exp_pos _

/-- The softmax. -/
def soft (f : Fin 4096 → ℝ) (q k : Fin 4096) : ℝ := ex f q k / den f q

/-- The gradient of the scores, from the gradient `d` of the softmax. -/
def dsc (f d : Fin 4096 → ℝ) (q k : Fin 4096) : ℝ := soft f q k * (d k - ∑ x, soft f q x * d x)

/-- The reference's form of it. -/
theorem dsc_ref (f d : Fin 4096 → ℝ) (q k : Fin 4096) :
    (d k / den f q + -∑ x, d x * (1 / (den f q * den f q)) * ex f q x) * ex f q k = dsc f d q k := by
  have hz := (den_pos f q).ne'
  have h : ∑ x, d x * (1 / (den f q * den f q)) * ex f q x = (∑ x, soft f q x * d x) / den f q := by
    rw [Finset.sum_div]
    refine Finset.sum_congr rfl fun x _ => ?_
    unfold soft
    field_simp
  rw [h]
  unfold dsc
  rw [show soft f q k = ex f q k / den f q from rfl]
  field_simp
  ring

/-- The row's saved logarithm, in base two. -/
def lse2 (f : Fin 4096 → ℝ) (q : Fin 4096) : ℝ := (top f q + Real.log (den f q)) / Real.log 2

/-- The softmax from the saved logarithm, as a power of two. -/
theorem soft_pow (f : Fin 4096 → ℝ) (q k : Fin 4096) (h : k ≤ q) :
    (2 : ℝ) ^ (f k * (Real.log 2)⁻¹ - lse2 f q) = soft f q k := by
  have h2 : Real.log 2 ≠ 0 := (Real.log_pos (by norm_num)).ne'
  rw [Real.rpow_def_of_pos (by norm_num), soft, ex, if_pos h]
  have e : Real.log 2 * (f k * (Real.log 2)⁻¹ - lse2 f q) = (f k - top f q) - Real.log (den f q) := by
    unfold lse2
    field_simp
    ring
  rw [e, Real.exp_sub, Real.exp_log (den_pos f q)]

theorem soft_above (f : Fin 4096 → ℝ) (q k : Fin 4096) (h : ¬ k ≤ q) : soft f q k = 0 := by
  unfold soft ex
  rw [if_neg h, zero_div]

theorem dsc_above (f d : Fin 4096 → ℝ) (q k : Fin 4096) (h : ¬ k ≤ q) : dsc f d q k = 0 := by
  unfold dsc
  rw [soft_above f q k h, zero_mul]

theorem scale_pos : 0 < scale := inv_pos.2 (Real.sqrt_pos.2 (by norm_num))

theorem ofBits_192 : Ideal.ofBits .f32 0x43400000#32 = ((192 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee, -EReal.coe_mul]
theorem ofBits_one : Ideal.ofBits .f32 0x3F800000#32 = ((1 : ℝ) : EReal) := by
  simp [Ideal.ofBits, Ideal.ieee, -EReal.coe_mul]; norm_num
theorem ofBits_ninf : Ideal.ofBits .f32 0xFF800000#32 = (⊥ : EReal) := by
  simp [Ideal.ofBits, Ideal.ieee]

/-- The scale as the host computes it. -/
theorem scale_coe : Ideal.rsqrt (Ideal.ofBits .f32 0x43400000#32) = (scale : EReal) := by
  rw [ofBits_192, rsqrt_coe (by norm_num)]; rfl

/-- The mask's comparison of positions. -/
theorem mask_cmp (q k : Fin 4096) : IntOp.cmpi .sle (BitVec.ofNat 32 k.val) (BitVec.ofNat 32 q.val) = if k ≤ q then 1#1 else 0#1 := by
  have hq := q.isLt
  have hk := k.isLt
  have e : (BitVec.ofNat 32 k.val).sle (BitVec.ofNat 32 q.val) = decide (k ≤ q) := by
    rw [BitVec.sle_eq_decide, BitVec.toInt_eq_toNat_of_lt (by simp; omega), BitVec.toInt_eq_toNat_of_lt (by simp; omega)]
    simp only [BitVec.toNat_ofNat, Fin.le_def]
    rw [Nat.mod_eq_of_lt (by omega), Nat.mod_eq_of_lt (by omega)]
    simp
  unfold IntOp.cmpi
  simp only [e]
  by_cases h : k ≤ q
  · rw [if_pos h, decide_eq_true h]; rfl
  · rw [if_neg h, decide_eq_false h]; rfl

theorem select_if {α : Type} (p : Prop) [Decidable p] (a b : α) : Scalar.select (if p then 1#1 else 0#1) a b = if p then a else b := by
  split <;> rfl

end Cert.MlaPure

end
-- ==== Proof.MlaVisit.lean ====
/-
  What each visit of the attention's backward kernel adds, in real numbers: from a head's queries, cotangents and saved row
  numbers and a key block's keys and values.
-/
module

public import proofs.«01_k».proof.Proof.MlaPure
public import proofs.«01_k».proof.Proof.MlaSteps

@[expose] public section

set_option maxRecDepth 16384

noncomputable section

namespace Cert.MlaVisit

open Cert.MlaKernelIdeal Cert.MlaKernelIdeal.Gen Cert.MlaPure Cert.Reals Cert.MlaRun
open Idealize.ShloMosaic Idealize.ShloMosaic.Pointwise Idealize.ShloMosaic.Tactic

theorem named_mask : Named.named (F := Ideal) (φ := .f32) κ "mask" 0xF149F2CA#32 = (⊥ : EReal) :=
  IdealRules.named_const.ideal_named_scalar _ _ _ _ rfl
theorem named_scale2 : Named.named (F := Ideal) (φ := .f32) κ "scale2" 0x3DD53B95#32 = ((scale * (Real.log 2)⁻¹ : ℝ) : EReal) :=
  IdealRules.named_const.ideal_named_scalar _ _ _ _ rfl
theorem named_scale : Named.named (F := Ideal) (φ := .f32) κ "scale" 0x3D93CD3A#32 = ((scale : ℝ) : EReal) :=
  IdealRules.named_const.ideal_named_scalar _ _ _ _ rfl

theorem exp2_real (r : ℝ) : FloatOps.exp2 (F := Ideal) (φ := .f32) (r : EReal) = (((2 : ℝ) ^ r : ℝ) : EReal) := rfl
theorem exp2_bot : FloatOps.exp2 (F := Ideal) (φ := .f32) (⊥ : EReal) = ((0 : ℝ) : EReal) := rfl

theorem cmp_block (q k : Fin 512) : IntOp.cmpi .sle (BitVec.ofNat 32 k.val) (BitVec.ofNat 32 q.val) = if k ≤ q then 1#1 else 0#1 :=
  mask_cmp (Fin.castLE (by omega) q) (Fin.castLE (by omega) k)

variable (Q : Fin 4096 → Fin 256 → ℝ) (K : Fin 512 → Fin 256 → ℝ) (W : Fin 512 → Fin 128 → ℝ) (D : Fin 4096 → Fin 128 → ℝ)
  (T L : Fin 4096 → ℝ)

/-- A weight, from the saved logarithm. -/
def wt (a : Fin 512) (q : Fin 4096) : ℝ := (2 : ℝ) ^ ((∑ x, K a x * Q q x) * (scale * (Real.log 2)⁻¹) - L q)

/-- Key block `j`'s weights: none for the keys behind the query. -/
def P (j : ℕ) (a : Fin 512) (q : Fin 4096) : ℝ := if 512 * j + a.val ≤ q.val then wt Q K L a q else 0

/-- The scores' cotangent. -/
def S (j : ℕ) (a : Fin 512) (q : Fin 4096) : ℝ := P Q K L j a q * (∑ x, W a x * D q x - T q)

theorem row_val {n : ℕ} (h : n < 4096) : (row n).val = n := Nat.mod_eq_of_lt h

theorem P_after {j o w : ℕ} (ho : 512 * (j + 1) ≤ o) (hw : o + w ≤ 4096) (a : Fin 512) (r : Fin w) :
    P Q K L j a (row (o + r.val)) = wt Q K L a (row (o + r.val)) := by
  unfold P
  rw [row_val (by omega), if_pos (by omega)]

theorem P_before {j : ℕ} (a : Fin 512) (q : Fin 4096) (h : q.val < 512 * j) : P Q K L j a q = 0 := if_neg (by omega)

theorem S_before {j : ℕ} (a : Fin 512) (q : Fin 4096) (h : q.val < 512 * j) : S Q K W D T L j a q = 0 := by
  unfold S
  rw [P_before Q K L a q h, zero_mul]

/-- What key block `j` adds to a row of `dq`. -/
def dQ (j : ℕ) (q : Fin 4096) (d : Fin 256) : ℝ := ∑ a, S Q K W D T L j a q * K a d

/-- What `w` queries from `o` on add to key block `j`'s rows of `dk`. -/
def dK (j o w : ℕ) (a : Fin 512) (d : Fin 256) : ℝ := ∑ r : Fin w, S Q K W D T L j a (row (o + r.val)) * Q (row (o + r.val)) d

/-- What they add to its rows of `dv`. -/
def dV (j o w : ℕ) (a : Fin 512) (d : Fin 128) : ℝ := ∑ r : Fin w, P Q K L j a (row (o + r.val)) * D (row (o + r.val)) d

/-! The blocks as the body reads them. -/

def bQ : Vec Ideal S1x4096x256 .bf16 := fun y => ((Q (y 1) (y 2) : ℝ) : EReal)
def bK : Vec Ideal S1x512x256 .bf16 := fun y => ((K (y 1) (y 2) : ℝ) : EReal)
def bW : Vec Ideal S1x512x128 .bf16 := fun y => ((W (y 1) (y 2) : ℝ) : EReal)
def bD : Vec Ideal S4096x128 .bf16 := fun y => ((D (y 0) (y 1) : ℝ) : EReal)
def bL : Vec Ideal S1x8x4096 .f32 := fun y => ((L (y 2) : ℝ) : EReal)

theorem scale2_pos : 0 < scale * (Real.log 2)⁻¹ := mul_pos scale_pos (inv_pos.2 (Real.log_pos (by norm_num)))

/-! The diagonal visit -/

section
variable {j o : ℕ} (ho : o = 512 * j) (hw : o + 512 ≤ 4096)
include ho hw

theorem diag_P : k0_pay39 (F := Ideal) (rowsQ o 512 (bQ Q)) (bK K) (rowsL o 512 (bL L)) = fun i => ((P Q K L j (i 0) (row (o + (i 1).val)) : ℝ) : EReal) := by
  funext i
  idx_vars i
  show (_ : EReal) = _
  pointwise [k0_pay39, k0_pay37, k0_pay36, rowsQ, rowsD, rowsL, bQ, bK, bW, bD, bL]
  rw [cmp_block, select_if, named_mask, named_scale2]
  have hc : 512 * j + i0.val ≤ (row (o + i1.val)).val ↔ i0 ≤ i1 := by
    rw [row_val (by omega), Fin.le_def]
    omega
  by_cases h : i0 ≤ i1
  · rw [if_pos h, P, if_pos (hc.2 h)]
    simp only [← EReal.coe_mul, coe_sum, ← EReal.coe_sub, exp2_real]
    rfl
  · rw [if_neg h, P, if_neg fun x => h (hc.1 x), EReal.bot_mul_coe_of_pos scale2_pos, EReal.bot_sub, exp2_bot]

theorem diag_S : k0_pay41 (F := Ideal) (rowsQ o 512 (bQ Q)) (bK K) (rowsD o 512 (bD D)) (rowsL o 512 (bL L)) (bW W) (rowsL o 512 (bL T))
    = fun i => ((S Q K W D T L j (i 0) (row (o + (i 1).val)) : ℝ) : EReal) := by
  unfold k0_pay41
  rw [diag_P Q K L ho hw]
  funext i
  idx_vars i
  show (_ : EReal) = _
  pointwise [k0_pay38, rowsD, rowsL, bD, bL, bW]
  simp only [← EReal.coe_mul, coe_sum, ← EReal.coe_sub]
  rfl

theorem diag_Q0 (r : Fin 512) (d : Fin 256) : k0_pay47 (F := Ideal) (k0_pay37 (bK K)) (k0_pay43 (rowsQ o 512 (bQ Q)) (bK K) (rowsD o 512 (bD D)) (rowsL o 512 (bL L)) (bW W) (rowsL o 512 (bL T))) (ix3 one0 r d)
    = ((dQ Q K W D T L j (row (o + r.val)) d * scale : ℝ) : EReal) := by
  unfold k0_pay47 k0_pay44 k0_pay43
  rw [diag_S Q K W D T L ho hw]
  show (_ : EReal) = _
  pointwise [k0_pay37, bK]
  rw [named_scale]
  simp only [← EReal.coe_mul, coe_sum]
  rfl

theorem diag_Q1 (Y : Vec Ideal ⟨3, ![1, 512, 256]⟩ .f32) (r : Fin 512) (d : Fin 256) : k0_pay48 (F := Ideal) (k0_pay37 (bK K)) (k0_pay43 (rowsQ o 512 (bQ Q)) (bK K) (rowsD o 512 (bD D)) (rowsL o 512 (bL L)) (bW W) (rowsL o 512 (bL T))) Y (ix3 one0 r d)
    = (Y (ix3 one0 r d) + ((dQ Q K W D T L j (row (o + r.val)) d : ℝ) : EReal)) * ((scale : ℝ) : EReal) := by
  unfold k0_pay48 k0_pay44 k0_pay43
  rw [diag_S Q K W D T L ho hw]
  show (_ : EReal) = _
  pointwise [k0_pay37, bK]
  rw [named_scale]
  simp only [← EReal.coe_mul, coe_sum]
  rfl

theorem diag_K (a : Fin 512) (d : Fin 256) : k0_pay45 (F := Ideal) (k0_pay42 (rowsQ o 512 (bQ Q)) (bK K) (rowsD o 512 (bD D)) (rowsL o 512 (bL L)) (bW W) (rowsL o 512 (bL T))) (ix3 one0 a d) = ((dK Q K W D T L j o 512 a d : ℝ) : EReal) := by
  unfold k0_pay45 k0_pay42
  rw [diag_S Q K W D T L ho hw]
  show (_ : EReal) = _
  pointwise [k0_pay36, rowsQ, bQ]
  simp only [← EReal.coe_mul, coe_sum]
  rfl

theorem diag_V (a : Fin 512) (d : Fin 128) : k0_pay46 (F := Ideal) (k0_pay40 (rowsQ o 512 (bQ Q)) (bK K) (rowsD o 512 (bD D)) (rowsL o 512 (bL L))) (ix3 one0 a d) = ((dV Q K D L j o 512 a d : ℝ) : EReal) := by
  unfold k0_pay46 k0_pay40
  rw [diag_P Q K L ho hw]
  show (_ : EReal) = _
  pointwise [k0_pay38, rowsD, bD]
  simp only [← EReal.coe_mul, coe_sum]
  rfl
end

/-! The visit of four query blocks -/

section
variable {j o : ℕ} (ho : 512 * (j + 1) ≤ o) (hw : o + 2048 ≤ 4096)
include ho hw

theorem quad_P : k0_pay5 (F := Ideal) (rowsQ o 2048 (bQ Q)) (bK K) (rowsL o 2048 (bL L)) = fun i => ((P Q K L j (i 0) (row (o + (i 1).val)) : ℝ) : EReal) := by
  funext i
  idx_vars i
  rw [show P Q K L j i0 (row (o + i1.val)) = _ from P_after Q K L ho hw i0 i1]
  show (_ : EReal) = _
  pointwise [k0_pay5, k0_pay3, k0_pay2, rowsQ, rowsD, rowsL, bQ, bK, bW, bD, bL]
  rw [named_scale2]
  simp only [← EReal.coe_mul, coe_sum, ← EReal.coe_sub, exp2_real]
  rfl

theorem quad_S : k0_pay7 (F := Ideal) (rowsQ o 2048 (bQ Q)) (bK K) (rowsD o 2048 (bD D)) (rowsL o 2048 (bL L)) (bW W) (rowsL o 2048 (bL T))
    = fun i => ((S Q K W D T L j (i 0) (row (o + (i 1).val)) : ℝ) : EReal) := by
  unfold k0_pay7
  rw [quad_P Q K L ho hw]
  funext i
  idx_vars i
  show (_ : EReal) = _
  pointwise [k0_pay4, rowsD, rowsL, bD, bL, bW]
  simp only [← EReal.coe_mul, coe_sum, ← EReal.coe_sub]
  rfl

theorem quad_Q0 (r : Fin 2048) (d : Fin 256) : k0_pay51 (F := Ideal) (k0_pay9 (rowsQ o 2048 (bQ Q)) (bK K) (rowsD o 2048 (bD D)) (rowsL o 2048 (bL L)) (bW W) (rowsL o 2048 (bL T))) (ix3 one0 r d)
    = ((dQ Q K W D T L j (row (o + r.val)) d : ℝ) : EReal) := by
  unfold k0_pay51 k0_pay9
  rw [quad_S Q K W D T L ho hw]
  show (_ : EReal) = _
  pointwise [k0_pay3, bK]
  simp only [← EReal.coe_mul, coe_sum]
  rfl

theorem quad_Q1 (Y : Vec Ideal ⟨3, ![1, 2048, 256]⟩ .f32) (r : Fin 2048) (d : Fin 256) : k0_pay52 (F := Ideal) (k0_pay9 (rowsQ o 2048 (bQ Q)) (bK K) (rowsD o 2048 (bD D)) (rowsL o 2048 (bL L)) (bW W) (rowsL o 2048 (bL T))) Y (ix3 one0 r d)
    = Y (ix3 one0 r d) + ((dQ Q K W D T L j (row (o + r.val)) d : ℝ) : EReal) := by
  unfold k0_pay52 k0_pay9
  rw [quad_S Q K W D T L ho hw]
  show (_ : EReal) = _
  pointwise [k0_pay3, bK]
  simp only [← EReal.coe_mul, coe_sum]
  rfl

theorem quad_K (Y : Vec Ideal S1x512x256 .f32) (a : Fin 512) (d : Fin 256) : k0_pay49 (F := Ideal) (k0_pay8 (rowsQ o 2048 (bQ Q)) (bK K) (rowsD o 2048 (bD D)) (rowsL o 2048 (bL L)) (bW W) (rowsL o 2048 (bL T))) Y (ix3 one0 a d)
    = Y (ix3 one0 a d) + ((dK Q K W D T L j o 2048 a d : ℝ) : EReal) := by
  unfold k0_pay49 k0_pay8
  rw [quad_S Q K W D T L ho hw]
  show (_ : EReal) = _
  pointwise [k0_pay2, rowsQ, bQ]
  simp only [← EReal.coe_mul, coe_sum]
  rfl

theorem quad_V (Y : Vec Ideal S1x512x128 .f32) (a : Fin 512) (d : Fin 128) : k0_pay50 (F := Ideal) (k0_pay6 (rowsQ o 2048 (bQ Q)) (bK K) (rowsD o 2048 (bD D)) (rowsL o 2048 (bL L))) Y (ix3 one0 a d)
    = Y (ix3 one0 a d) + ((dV Q K D L j o 2048 a d : ℝ) : EReal) := by
  unfold k0_pay50 k0_pay6
  rw [quad_P Q K L ho hw]
  show (_ : EReal) = _
  pointwise [k0_pay4, rowsD, bD]
  simp only [← EReal.coe_mul, coe_sum]
  rfl
end

/-! The visit of two -/

section
variable {j o : ℕ} (ho : 512 * (j + 1) ≤ o) (hw : o + 1024 ≤ 4096)
include ho hw

theorem pair_P : k0_pay21 (F := Ideal) (rowsQ o 1024 (bQ Q)) (bK K) (rowsL o 1024 (bL L)) = fun i => ((P Q K L j (i 0) (row (o + (i 1).val)) : ℝ) : EReal) := by
  funext i
  idx_vars i
  rw [show P Q K L j i0 (row (o + i1.val)) = _ from P_after Q K L ho hw i0 i1]
  show (_ : EReal) = _
  pointwise [k0_pay21, k0_pay19, k0_pay18, rowsQ, rowsD, rowsL, bQ, bK, bW, bD, bL]
  rw [named_scale2]
  simp only [← EReal.coe_mul, coe_sum, ← EReal.coe_sub, exp2_real]
  rfl

theorem pair_S : k0_pay23 (F := Ideal) (k0_pay20 (rowsD o 1024 (bD D))) (k0_pay21 (rowsQ o 1024 (bQ Q)) (bK K) (rowsL o 1024 (bL L))) (bW W) (rowsL o 1024 (bL T))
    = fun i => ((S Q K W D T L j (i 0) (row (o + (i 1).val)) : ℝ) : EReal) := by
  unfold k0_pay23
  rw [pair_P Q K L ho hw]
  funext i
  idx_vars i
  show (_ : EReal) = _
  pointwise [k0_pay20, rowsD, rowsL, bD, bL, bW]
  simp only [← EReal.coe_mul, coe_sum, ← EReal.coe_sub]
  rfl

theorem pair_Q0 (r : Fin 1024) (d : Fin 256) : k0_pay27 (F := Ideal) (k0_pay19 (bK K)) (k0_pay20 (rowsD o 1024 (bD D))) (k0_pay21 (rowsQ o 1024 (bQ Q)) (bK K) (rowsL o 1024 (bL L))) (bW W) (rowsL o 1024 (bL T)) (ix3 one0 r d)
    = ((dQ Q K W D T L j (row (o + r.val)) d : ℝ) : EReal) := by
  unfold k0_pay27 k0_pay24
  rw [pair_S Q K W D T L ho hw]
  show (_ : EReal) = _
  pointwise [k0_pay19, bK]
  simp only [← EReal.coe_mul, coe_sum]
  rfl

theorem pair_Q1 (Y : Vec Ideal ⟨3, ![1, 1024, 256]⟩ .f32) (r : Fin 1024) (d : Fin 256) : k0_pay57 (F := Ideal) (k0_pay24 (k0_pay19 (bK K)) (k0_pay20 (rowsD o 1024 (bD D))) (k0_pay21 (rowsQ o 1024 (bQ Q)) (bK K) (rowsL o 1024 (bL L))) (bW W) (rowsL o 1024 (bL T))) Y (ix3 one0 r d)
    = Y (ix3 one0 r d) + ((dQ Q K W D T L j (row (o + r.val)) d : ℝ) : EReal) := by
  unfold k0_pay57 k0_pay24
  rw [pair_S Q K W D T L ho hw]
  show (_ : EReal) = _
  pointwise [k0_pay19, bK]
  simp only [← EReal.coe_mul, coe_sum]
  rfl

theorem pair_K (Y : Vec Ideal S1x512x256 .f32) (a : Fin 512) (d : Fin 256) : k0_pay25 (F := Ideal) (k0_pay18 (rowsQ o 1024 (bQ Q))) (k0_pay20 (rowsD o 1024 (bD D))) (k0_pay21 (rowsQ o 1024 (bQ Q)) (bK K) (rowsL o 1024 (bL L))) (bW W) (rowsL o 1024 (bL T)) Y (ix3 one0 a d)
    = Y (ix3 one0 a d) + ((dK Q K W D T L j o 1024 a d : ℝ) : EReal) := by
  unfold k0_pay25
  rw [pair_S Q K W D T L ho hw]
  show (_ : EReal) = _
  pointwise [k0_pay18, rowsQ, bQ]
  simp only [← EReal.coe_mul, coe_sum]
  rfl

theorem pair_V (Y : Vec Ideal S1x512x128 .f32) (a : Fin 512) (d : Fin 128) : k0_pay26 (F := Ideal) (k0_pay20 (rowsD o 1024 (bD D))) (k0_pay22 (rowsQ o 1024 (bQ Q)) (bK K) (rowsL o 1024 (bL L))) Y (ix3 one0 a d)
    = Y (ix3 one0 a d) + ((dV Q K D L j o 1024 a d : ℝ) : EReal) := by
  unfold k0_pay26 k0_pay22
  rw [pair_P Q K L ho hw]
  show (_ : EReal) = _
  pointwise [k0_pay20, rowsD, bD]
  simp only [← EReal.coe_mul, coe_sum]
  rfl
end

/-! The visit of one -/

section
variable {j o : ℕ} (ho : 512 * (j + 1) ≤ o) (hw : o + 512 ≤ 4096)
include ho hw

theorem last_P : k0_pay31 (F := Ideal) (rowsQ o 512 (bQ Q)) (bK K) (rowsL o 512 (bL L)) = fun i => ((P Q K L j (i 0) (row (o + (i 1).val)) : ℝ) : EReal) := by
  funext i
  idx_vars i
  rw [show P Q K L j i0 (row (o + i1.val)) = _ from P_after Q K L ho hw i0 i1]
  show (_ : EReal) = _
  pointwise [k0_pay31, k0_pay29, k0_pay28, rowsQ, rowsD, rowsL, bQ, bK, bW, bD, bL]
  rw [named_scale2]
  simp only [← EReal.coe_mul, coe_sum, ← EReal.coe_sub, exp2_real]
  rfl

theorem last_S : k0_pay33 (F := Ideal) (rowsQ o 512 (bQ Q)) (bK K) (rowsD o 512 (bD D)) (rowsL o 512 (bL L)) (bW W) (rowsL o 512 (bL T))
    = fun i => ((S Q K W D T L j (i 0) (row (o + (i 1).val)) : ℝ) : EReal) := by
  unfold k0_pay33
  rw [last_P Q K L ho hw]
  funext i
  idx_vars i
  show (_ : EReal) = _
  pointwise [k0_pay30, rowsD, rowsL, bD, bL, bW]
  simp only [← EReal.coe_mul, coe_sum, ← EReal.coe_sub]
  rfl

theorem last_Q0 (r : Fin 512) (d : Fin 256) : k0_pay60 (F := Ideal) (k0_pay34 (rowsQ o 512 (bQ Q)) (bK K) (rowsD o 512 (bD D)) (rowsL o 512 (bL L)) (bW W) (rowsL o 512 (bL T))) (ix3 one0 r d)
    = ((dQ Q K W D T L j (row (o + r.val)) d : ℝ) : EReal) := by
  unfold k0_pay60 k0_pay34
  rw [last_S Q K W D T L ho hw]
  show (_ : EReal) = _
  pointwise [k0_pay29, bK]
  simp only [← EReal.coe_mul, coe_sum]
  rfl

theorem last_Q1 (Y : Vec Ideal ⟨3, ![1, 512, 256]⟩ .f32) (r : Fin 512) (d : Fin 256) : k0_pay61 (F := Ideal) (k0_pay34 (rowsQ o 512 (bQ Q)) (bK K) (rowsD o 512 (bD D)) (rowsL o 512 (bL L)) (bW W) (rowsL o 512 (bL T))) Y (ix3 one0 r d)
    = Y (ix3 one0 r d) + ((dQ Q K W D T L j (row (o + r.val)) d : ℝ) : EReal) := by
  unfold k0_pay61 k0_pay34
  rw [last_S Q K W D T L ho hw]
  show (_ : EReal) = _
  pointwise [k0_pay29, bK]
  simp only [← EReal.coe_mul, coe_sum]
  rfl

theorem last_K (Y : Vec Ideal S1x512x256 .f32) (a : Fin 512) (d : Fin 256) : k0_pay58 (F := Ideal) (k0_pay35 (rowsQ o 512 (bQ Q)) (bK K) (rowsD o 512 (bD D)) (rowsL o 512 (bL L)) (bW W) (rowsL o 512 (bL T)) Y) (ix3 one0 a d)
    = Y (ix3 one0 a d) + ((dK Q K W D T L j o 512 a d : ℝ) : EReal) := by
  unfold k0_pay58 k0_pay35
  rw [last_S Q K W D T L ho hw]
  show (_ : EReal) = _
  pointwise [k0_pay28, rowsQ, bQ]
  simp only [← EReal.coe_mul, coe_sum]
  rfl

theorem last_V (Y : Vec Ideal S1x512x128 .f32) (a : Fin 512) (d : Fin 128) : k0_pay59 (F := Ideal) (k0_pay32 (rowsQ o 512 (bQ Q)) (bK K) (rowsD o 512 (bD D)) (rowsL o 512 (bL L))) Y (ix3 one0 a d)
    = Y (ix3 one0 a d) + ((dV Q K D L j o 512 a d : ℝ) : EReal) := by
  unfold k0_pay59 k0_pay32
  rw [last_P Q K L ho hw]
  show (_ : EReal) = _
  pointwise [k0_pay30, rowsD, bD]
  simp only [← EReal.coe_mul, coe_sum]
  rfl
end

end Cert.MlaVisit

end
-- ==== Proof.MlaOut.lean ====
/-
  What one grid point leaves in its three outputs, in real numbers: the visits' parts put together.
-/
module

public import proofs.«01_k».proof.Proof.MlaVisit

@[expose] public section

set_option maxRecDepth 16384

noncomputable section

namespace Cert.MlaOut

open Cert.MlaKernelIdeal Cert.MlaKernelIdeal.Gen Cert.MlaPure Cert.Reals Cert.MlaRun Cert.MlaVisit
open Idealize.ShloMosaic Idealize.ShloMosaic.Pointwise Idealize.ShloMosaic.Tactic

theorem sum_span (g : Fin 4096 → ℝ) (o w : ℕ) : ∑ r : Fin w, g (row (o + r.val)) = ∑ n ∈ Finset.Ico o (o + w), g (row n) := by
  rw [Finset.sum_Ico_eq_sum_range, Nat.add_sub_cancel_left, ← Fin.sum_univ_eq_sum_range fun n => g (row (o + n))]

theorem sum_all (g : Fin 4096 → ℝ) : ∑ n ∈ Finset.Ico 0 4096, g (row n) = ∑ q, g q := by
  rw [show Finset.Ico 0 4096 = Finset.Ico 0 (0 + 4096) from rfl, ← sum_span]
  refine Finset.sum_congr rfl fun q _ => congrArg g (Fin.ext ?_)
  rw [row_val (by omega), Nat.zero_add]

/-- Widths of the visits behind the diagonal: none where the visit isn't made. -/
def quadW (j : ℕ) : ℕ := if j ≤ 3 then 2048 else 0
def pairW (j : ℕ) : ℕ := if 2 ≤ (7 - j) % 4 then 1024 else 0
def lastW (j : ℕ) : ℕ := if (7 - j) % 2 = 1 then 512 else 0

/-- A function that is zero before key block `j`'s rows sums to what the visits sum to. -/
theorem sum_visits (g : Fin 4096 → ℝ) (j : ℕ) (hj : j < 8) (hz : ∀ q : Fin 4096, q.val < 512 * j → g q = 0) :
    (∑ r : Fin 512, g (row (512 * j + r.val)) + ∑ r : Fin (quadW j), g (row (512 * (j + 1) + r.val))
      + ∑ r : Fin (pairW j), g (row (pairAt j + r.val))) + ∑ r : Fin (lastW j), g (row (3584 + r.val)) = ∑ q, g q := by
  have h3 : ∑ r : Fin (lastW j), g (row (3584 + r.val)) = ∑ r : Fin (lastW j), g (row (4096 - lastW j + r.val)) := by
    refine Finset.sum_congr rfl fun r _ => ?_
    have hr := r.isLt
    have : lastW j = 512 := by
      unfold lastW at hr ⊢
      split at hr
      · rw [if_pos (by assumption)]
      · omega
    exact congrArg (fun z => g (row (z + r.val))) (by omega)
  rw [h3]
  simp only [sum_span]
  have e0 : 512 * j + 512 = 512 * (j + 1) := by ring
  have e1 : 512 * (j + 1) + quadW j = pairAt j := by unfold quadW pairAt; split <;> omega
  have e2 : pairAt j + pairW j = 4096 - lastW j := by unfold pairAt pairW lastW; split <;> split <;> omega
  have e3 : 4096 - lastW j + lastW j = 4096 := by unfold lastW; split <;> omega
  have l1 : 512 * (j + 1) ≤ pairAt j := by omega
  have l2 : pairAt j ≤ 4096 - lastW j := by omega
  rw [e0, e1, e2, e3, Finset.sum_Ico_consecutive _ (by omega) l1, Finset.sum_Ico_consecutive _ (by omega) l2,
    Finset.sum_Ico_consecutive _ (by omega) (by omega), ← sum_all, ← Finset.sum_Ico_consecutive _ (Nat.zero_le (512 * j)) (by omega : 512 * j ≤ 4096)]
  refine (add_eq_right.2 (Finset.sum_eq_zero fun n hn => hz _ ?_)).symm
  have := (Finset.mem_Ico.1 hn).2
  rw [row_val (by omega)]
  exact this

/-- Replaced rows. -/
theorem put_in {e : EltTy} (o w : ℕ) (B : Vec Ideal ⟨3, ![1, w, 256]⟩ e) (Y : Vec Ideal S1x4096x256 e) (q : Fin 4096) (d : Fin 256)
    (h : o ≤ q.val ∧ q.val < o + w) : put o w B Y (ix3 one0 q d) = B (show (⟨3, ![1, w, 256]⟩ : Shape).Idx from ix3 one0 (⟨q.val - o, by omega⟩ : Fin w) d) := dif_pos h
theorem put_out {e : EltTy} (o w : ℕ) (B : Vec Ideal ⟨3, ![1, w, 256]⟩ e) (Y : Vec Ideal S1x4096x256 e) (q : Fin 4096) (d : Fin 256)
    (h : ¬ (o ≤ q.val ∧ q.val < o + w)) : put o w B Y (ix3 one0 q d) = Y (ix3 one0 q d) := dif_neg h

variable (Q : Fin 4096 → Fin 256 → ℝ) (K : Fin 512 → Fin 256 → ℝ) (W : Fin 512 → Fin 128 → ℝ) (D : Fin 4096 → Fin 128 → ℝ)
  (T L : Fin 4096 → ℝ) (j : ℕ) (hj : j < 8)

section
include hj

theorem quadK_pt (Y : Vec Ideal S1x512x256 .f32) (a : Fin 512) (d : Fin 256) :
    quadK j (bQ Q) (bK K) (bW W) (bD D) (bL T) (bL L) Y (ix3 one0 a d)
      = Y (ix3 one0 a d) + ((dK Q K W D T L j (512 * (j + 1)) (quadW j) a d : ℝ) : EReal) := by
  unfold quadK quadW
  by_cases h : j ≤ 3
  · rw [if_pos h, if_pos h]
    exact quad_K Q K W D T L le_rfl (by omega) Y a d
  · rw [if_neg h, if_neg h]
    simp [dK]

theorem pairK_pt (Y : Vec Ideal S1x512x256 .f32) (a : Fin 512) (d : Fin 256) :
    pairK j (bQ Q) (bK K) (bW W) (bD D) (bL T) (bL L) Y (ix3 one0 a d)
      = Y (ix3 one0 a d) + ((dK Q K W D T L j (pairAt j) (pairW j) a d : ℝ) : EReal) := by
  unfold pairK pairW
  by_cases h : 2 ≤ (7 - j) % 4
  · rw [if_pos h, if_pos h]
    exact pair_K Q K W D T L (by unfold pairAt; omega) (by unfold pairAt; omega) Y a d
  · rw [if_neg h, if_neg h]
    simp [dK]

theorem lastK_pt (Y : Vec Ideal S1x512x256 .f32) (a : Fin 512) (d : Fin 256) :
    lastK j (bQ Q) (bK K) (bW W) (bD D) (bL T) (bL L) Y (ix3 one0 a d)
      = Y (ix3 one0 a d) + ((dK Q K W D T L j 3584 (lastW j) a d : ℝ) : EReal) := by
  unfold lastK lastW
  by_cases h : (7 - j) % 2 = 1
  · rw [if_pos h, if_pos h]
    exact last_K Q K W D T L (by omega) (by omega) Y a d
  · rw [if_neg h, if_neg h]
    simp [dK]

theorem quadV_pt (Y : Vec Ideal S1x512x128 .f32) (a : Fin 512) (d : Fin 128) :
    quadV j (bQ Q) (bK K) (bD D) (bL L) Y (ix3 one0 a d)
      = Y (ix3 one0 a d) + ((dV Q K D L j (512 * (j + 1)) (quadW j) a d : ℝ) : EReal) := by
  unfold quadV quadW
  by_cases h : j ≤ 3
  · rw [if_pos h, if_pos h]
    exact quad_V Q K D L le_rfl (by omega) Y a d
  · rw [if_neg h, if_neg h]
    simp [dV]

theorem pairV_pt (Y : Vec Ideal S1x512x128 .f32) (a : Fin 512) (d : Fin 128) :
    pairV j (bQ Q) (bK K) (bD D) (bL L) Y (ix3 one0 a d)
      = Y (ix3 one0 a d) + ((dV Q K D L j (pairAt j) (pairW j) a d : ℝ) : EReal) := by
  unfold pairV pairW
  by_cases h : 2 ≤ (7 - j) % 4
  · rw [if_pos h, if_pos h]
    exact pair_V Q K D L (by unfold pairAt; omega) (by unfold pairAt; omega) Y a d
  · rw [if_neg h, if_neg h]
    simp [dV]

theorem lastV_pt (Y : Vec Ideal S1x512x128 .f32) (a : Fin 512) (d : Fin 128) :
    lastV j (bQ Q) (bK K) (bD D) (bL L) Y (ix3 one0 a d)
      = Y (ix3 one0 a d) + ((dV Q K D L j 3584 (lastW j) a d : ℝ) : EReal) := by
  unfold lastV lastW
  by_cases h : (7 - j) % 2 = 1
  · rw [if_pos h, if_pos h]
    exact last_V Q K D L (by omega) (by omega) Y a d
  · rw [if_neg h, if_neg h]
    simp [dV]

/-- `dk`'s block. -/
theorem outK_pt (a : Fin 512) (d : Fin 256) :
    outK j (bQ Q) (bK K) (bW W) (bD D) (bL T) (bL L) (ix3 one0 a d) = (((∑ q, S Q K W D T L j a q * Q q d) * scale : ℝ) : EReal) := by
  have h : ∀ Y : Vec Ideal S1x512x256 .f32, k0_pay1 (F := Ideal) (k0_pay62 Y) (ix3 one0 a d) = Y (ix3 one0 a d) * ((scale : ℝ) : EReal) := fun Y => by
    show (_ : EReal) = _
    pointwise [k0_pay1, k0_pay62]
    rw [named_scale]
    rfl
  unfold outK
  rw [h, lastK_pt Q K W D T L j hj, pairK_pt Q K W D T L j hj, quadK_pt Q K W D T L j hj]
  unfold diagK
  rw [diag_K Q K W D T L rfl (by omega)]
  simp only [← EReal.coe_add, ← EReal.coe_mul]
  refine congrArg (fun z : ℝ => ((z * scale : ℝ) : EReal)) ?_
  exact sum_visits (fun q => S Q K W D T L j a q * Q q d) j hj fun q hq => by rw [S_before Q K W D T L a q hq, zero_mul]

/-- `dv`'s block. -/
theorem outV_pt (a : Fin 512) (d : Fin 128) :
    outV j (bQ Q) (bK K) (bD D) (bL L) (ix3 one0 a d) = ((∑ q, P Q K L j a q * D q d : ℝ) : EReal) := by
  unfold outV
  rw [lastV_pt Q K D L j hj, pairV_pt Q K D L j hj, quadV_pt Q K D L j hj]
  unfold diagV
  rw [diag_V Q K D L rfl (by omega)]
  simp only [← EReal.coe_add]
  refine congrArg (fun z : ℝ => (z : EReal)) ?_
  exact sum_visits (fun q => P Q K L j a q * D q d) j hj fun q hq => by rw [P_before Q K L a q hq, zero_mul]

end

theorem row_back (o : ℕ) (q : Fin 4096) (h : o ≤ q.val) : row (o + (q.val - o)) = q := Fin.ext (by rw [row_val (by omega)]; omega)

/-- What a row held that key block `j` adds to: nothing for the first key block. -/
def held (Y : Vec Ideal S1x4096x256 .f32) (q : Fin 4096) (d : Fin 256) : EReal := if j = 0 then 0 else Y (ix3 one0 q d)

section
include hj

theorem quadQ_in (Y : Vec Ideal S1x4096x256 .f32) (q : Fin 4096) (d : Fin 256) (hc : j ≤ 3) (h : 512 * (j + 1) ≤ q.val ∧ q.val < 512 * (j + 1) + 2048) :
    quadQ j (bQ Q) (bK K) (bW W) (bD D) (bL T) (bL L) Y (ix3 one0 q d) = held j Y q d + ((dQ Q K W D T L j q d : ℝ) : EReal) := by
  have ho : 512 * (j + 1) ≤ 512 * (j + 1) := by omega
  have hw : 512 * (j + 1) + 2048 ≤ 4096 := by omega
  have e := row_back (512 * (j + 1)) q h.1
  unfold quadQ held
  rw [if_pos hc]
  by_cases h0 : j = 0
  · rw [if_pos h0, if_pos h0, put_in _ _ _ _ _ _ h, quad_Q0 Q K W D T L ho hw, e, zero_add]
  · rw [if_neg h0, if_neg h0, put_in _ _ _ _ _ _ h, quad_Q1 Q K W D T L ho hw, e]
    refine congrArg (fun z : Fin 4096 => Y (ix3 one0 z d) + ((dQ Q K W D T L j q d : ℝ) : EReal)) e

theorem quadQ_out (Y : Vec Ideal S1x4096x256 .f32) (q : Fin 4096) (d : Fin 256) (h : ¬ (j ≤ 3 ∧ 512 * (j + 1) ≤ q.val ∧ q.val < 512 * (j + 1) + 2048)) :
    quadQ j (bQ Q) (bK K) (bW W) (bD D) (bL T) (bL L) Y (ix3 one0 q d) = Y (ix3 one0 q d) := by
  unfold quadQ
  by_cases hc : j ≤ 3
  · rw [if_pos hc]
    by_cases h0 : j = 0
    · rw [if_pos h0, put_out _ _ _ _ _ _ fun x => h ⟨hc, x⟩]
    · rw [if_neg h0, put_out _ _ _ _ _ _ fun x => h ⟨hc, x⟩]
  · rw [if_neg hc]

theorem pairQ_in (Y : Vec Ideal S1x4096x256 .f32) (q : Fin 4096) (d : Fin 256) (hc : 2 ≤ (7 - j) % 4) (h : pairAt j ≤ q.val ∧ q.val < pairAt j + 1024) :
    pairQ j (bQ Q) (bK K) (bW W) (bD D) (bL T) (bL L) Y (ix3 one0 q d) = held j Y q d + ((dQ Q K W D T L j q d : ℝ) : EReal) := by
  have ho : 512 * (j + 1) ≤ pairAt j := by unfold pairAt; omega
  have hw : pairAt j + 1024 ≤ 4096 := by unfold pairAt; omega
  have e := row_back (pairAt j) q h.1
  unfold pairQ held
  rw [if_pos hc]
  by_cases h0 : j = 0
  · rw [if_pos h0, if_pos h0, put_in _ _ _ _ _ _ h, pair_Q0 Q K W D T L ho hw, e, zero_add]
  · rw [if_neg h0, if_neg h0, put_in _ _ _ _ _ _ h, pair_Q1 Q K W D T L ho hw, e]
    refine congrArg (fun z : Fin 4096 => Y (ix3 one0 z d) + ((dQ Q K W D T L j q d : ℝ) : EReal)) e

theorem pairQ_out (Y : Vec Ideal S1x4096x256 .f32) (q : Fin 4096) (d : Fin 256) (h : ¬ (2 ≤ (7 - j) % 4 ∧ pairAt j ≤ q.val ∧ q.val < pairAt j + 1024)) :
    pairQ j (bQ Q) (bK K) (bW W) (bD D) (bL T) (bL L) Y (ix3 one0 q d) = Y (ix3 one0 q d) := by
  unfold pairQ
  by_cases hc : 2 ≤ (7 - j) % 4
  · rw [if_pos hc]
    by_cases h0 : j = 0
    · rw [if_pos h0, put_out _ _ _ _ _ _ fun x => h ⟨hc, x⟩]
    · rw [if_neg h0, put_out _ _ _ _ _ _ fun x => h ⟨hc, x⟩]
  · rw [if_neg hc]

theorem lastQ_in (Y : Vec Ideal S1x4096x256 .f32) (q : Fin 4096) (d : Fin 256) (hc : (7 - j) % 2 = 1) (h : 3584 ≤ q.val ∧ q.val < 3584 + 512) :
    lastQ j (bQ Q) (bK K) (bW W) (bD D) (bL T) (bL L) Y (ix3 one0 q d) = held j Y q d + ((dQ Q K W D T L j q d : ℝ) : EReal) := by
  have ho : 512 * (j + 1) ≤ 3584 := by omega
  have hw : 3584 + 512 ≤ 4096 := by omega
  have e := row_back (3584) q h.1
  unfold lastQ held
  rw [if_pos hc]
  by_cases h0 : j = 0
  · rw [if_pos h0, if_pos h0, put_in _ _ _ _ _ _ h, last_Q0 Q K W D T L ho hw, e, zero_add]
  · rw [if_neg h0, if_neg h0, put_in _ _ _ _ _ _ h, last_Q1 Q K W D T L ho hw, e]
    refine congrArg (fun z : Fin 4096 => Y (ix3 one0 z d) + ((dQ Q K W D T L j q d : ℝ) : EReal)) e

theorem lastQ_out (Y : Vec Ideal S1x4096x256 .f32) (q : Fin 4096) (d : Fin 256) (h : ¬ ((7 - j) % 2 = 1 ∧ 3584 ≤ q.val ∧ q.val < 3584 + 512)) :
    lastQ j (bQ Q) (bK K) (bW W) (bD D) (bL T) (bL L) Y (ix3 one0 q d) = Y (ix3 one0 q d) := by
  unfold lastQ
  by_cases hc : (7 - j) % 2 = 1
  · rw [if_pos hc]
    by_cases h0 : j = 0
    · rw [if_pos h0, put_out _ _ _ _ _ _ fun x => h ⟨hc, x⟩]
    · rw [if_neg h0, put_out _ _ _ _ _ _ fun x => h ⟨hc, x⟩]
  · rw [if_neg hc]

theorem diagQ_in (Y : Vec Ideal S1x4096x256 .f32) (q : Fin 4096) (d : Fin 256) (h : 512 * j ≤ q.val ∧ q.val < 512 * j + 512) :
    diagQ j (bQ Q) (bK K) (bW W) (bD D) (bL T) (bL L) Y (ix3 one0 q d)
      = (held j Y q d + ((dQ Q K W D T L j q d : ℝ) : EReal)) * ((scale : ℝ) : EReal) := by
  have hw : 512 * j + 512 ≤ 4096 := by omega
  have e := row_back (512 * j) q h.1
  unfold diagQ held
  by_cases h0 : j = 0
  · rw [if_pos h0, if_pos h0, put_in _ _ _ _ _ _ h, diag_Q0 Q K W D T L rfl hw, e, zero_add, EReal.coe_mul]
  · rw [if_neg h0, if_neg h0, put_in _ _ _ _ _ _ h, diag_Q1 Q K W D T L rfl hw, e]
    refine congrArg (fun z : Fin 4096 => (Y (ix3 one0 z d) + ((dQ Q K W D T L j q d : ℝ) : EReal)) * ((scale : ℝ) : EReal)) e

theorem diagQ_out (Y : Vec Ideal S1x4096x256 .f32) (q : Fin 4096) (d : Fin 256) (h : ¬ (512 * j ≤ q.val ∧ q.val < 512 * j + 512)) :
    diagQ j (bQ Q) (bK K) (bW W) (bD D) (bL T) (bL L) Y (ix3 one0 q d) = Y (ix3 one0 q d) := by
  unfold diagQ
  by_cases h0 : j = 0
  · rw [if_pos h0, put_out _ _ _ _ _ _ h]
  · rw [if_neg h0, put_out _ _ _ _ _ _ h]

/-- `dq`'s rows before the key block's stay, the key block's own are added to and scaled, the later ones added to. -/
theorem outQ_pt (Y : Vec Ideal S1x4096x256 .f32) (q : Fin 4096) (d : Fin 256) :
    outQ j (bQ Q) (bK K) (bW W) (bD D) (bL T) (bL L) Y (ix3 one0 q d)
      = if q.val < 512 * j then Y (ix3 one0 q d)
        else if q.val < 512 * (j + 1) then (held j Y q d + ((dQ Q K W D T L j q d : ℝ) : EReal)) * ((scale : ℝ) : EReal)
        else held j Y q d + ((dQ Q K W D T L j q d : ℝ) : EReal) := by
  have hq := q.isLt
  have hp : pairAt j = 512 * (j + 1 + 4 * ((7 - j) / 4)) := rfl
  have back : ∀ Z : Vec Ideal S1x4096x256 .f32, Z (ix3 one0 q d) = Y (ix3 one0 q d) → held j Z q d = held j Y q d := fun Z hZ => by
    unfold held
    rw [hZ]
  unfold outQ
  by_cases h1 : q.val < 512 * (j + 1)
  · rw [lastQ_out Q K W D T L j hj _ _ _ (by omega), pairQ_out Q K W D T L j hj _ _ _ (by omega), quadQ_out Q K W D T L j hj _ _ _ (by omega)]
    by_cases h0 : q.val < 512 * j
    · rw [diagQ_out Q K W D T L j hj _ _ _ (by omega), if_pos h0]
    · rw [diagQ_in Q K W D T L j hj _ _ _ (by omega), if_neg h0, if_pos h1]
  · rw [if_neg (by omega), if_neg h1]
    have hd := diagQ_out Q K W D T L j hj Y q d (by omega)
    by_cases h2 : j ≤ 3 ∧ 512 * (j + 1) ≤ q.val ∧ q.val < 512 * (j + 1) + 2048
    · rw [lastQ_out Q K W D T L j hj _ _ _ (by omega), pairQ_out Q K W D T L j hj _ _ _ (by omega), quadQ_in Q K W D T L j hj _ _ _ h2.1 h2.2, back _ hd]
    · have h2' := (quadQ_out Q K W D T L j hj (diagQ j (bQ Q) (bK K) (bW W) (bD D) (bL T) (bL L) Y) q d h2).trans hd
      by_cases h3 : 2 ≤ (7 - j) % 4 ∧ pairAt j ≤ q.val ∧ q.val < pairAt j + 1024
      · rw [lastQ_out Q K W D T L j hj _ _ _ (by omega), pairQ_in Q K W D T L j hj _ _ _ h3.1 h3.2, back _ h2']
      · rw [lastQ_in Q K W D T L j hj _ _ _ (by omega) (by omega), back _ ((pairQ_out Q K W D T L j hj _ q d h3).trans h2')]
end

end Cert.MlaOut

end
-- ==== Proof.MlaRef.lean ====
module

public import proofs.«01_k».proof.Proof.Gen.MlaRefIdeal.Run
public import proofs.«01_k».proof.Proof.Gen.MlaRefIdeal
public import proofs.«01_k».proof.Proof.MlaPure
public import Idealize.ShloMosaic.Lib.Pointwise

@[expose] public section

set_option maxRecDepth 16384

noncomputable section

namespace Cert.MlaRef

open Cert.MlaRefIdeal Cert.MlaRefIdeal.Gen Cert.MlaPure Cert.Reals
open Idealize.ShloMosaic Idealize.ShloMosaic.Pointwise Idealize.ShloMosaic.Tactic

/-- The masked scores as the reference writes them. -/
def scores (a0 : FVec Ideal S4096x8x128 .f32) (a1 : FVec Ideal S4096x8x64 .f32) (a2 : FVec Ideal S4096x8x128 .f32)
    (a3 : FVec Ideal S4096x64 .f32) : FVec Ideal S8x4096x4096 .f32 :=
  select (broadcastInDim S8x4096x4096 ![1, 2] bcast_S4096x4096_S8x4096x4096_1_2
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
    (mulf (addf (Host.dotGeneral dot_S4096x8x128_S4096x8x128_S8x4096x4096_2_2_0_0_1_1 none a0 a2)
        (transpose S8x4096x4096 [2, 1, 0] (Host.dotGeneral dot_S4096x64_S4096x8x64_S4096x4096x8_1_2_0_01_n_n none a3 a1) transposes_S4096x4096x8_S8x4096x4096_2_1_0))
      (broadcastInDim S8x4096x4096 ![] bcast_S_S8x4096x4096 (Host.rsqrt (constant S_ .f32 0x43400000#32))))
    (broadcastInDim S8x4096x4096 ![] bcast_S_S8x4096x4096 (constant S_ .f32 0xFF800000#32))

/-- The rows' greatest scores. -/
def tops (x : FVec Ideal S8x4096x4096 .f32) : FVec Ideal S8x4096 .f32 :=
  Host.reduce FloatOps.maximumf x (constant S_ .f32 0xFF800000#32) reducesTo_S8x4096x4096_S8x4096_d2 h_S_

/-- The same against −∞. -/
def tops' (m : FVec Ideal S8x4096 .f32) : FVec Ideal S8x4096 .f32 :=
  maximumf (broadcastInDim S8x4096 ![] bcast_S_S8x4096 (constant S_ .f32 0xFF800000#32)) m

/-- The exponentials. -/
def expo (x : FVec Ideal S8x4096x4096 .f32) (m : FVec Ideal S8x4096 .f32) : FVec Ideal S8x4096x4096 .f32 :=
  Host.exp (subf x (broadcastInDim S8x4096x4096 ![0, 1, 2] bcast_S8x4096x1_S8x4096x4096_0_1_2
    (broadcastInDim S8x4096x1 ![0, 1] bcast_S8x4096_S8x4096x1_0_1 m)))

/-- Their sums over the keys. -/
def sums (e : FVec Ideal S8x4096x4096 .f32) : FVec Ideal S8x4096x1 .f32 :=
  broadcastInDim S8x4096x1 ![0, 1] bcast_S8x4096_S8x4096x1_0_1
    (Host.reduceAdd e (constant S_ .f32 0x00000000#32) reducesTo_S8x4096x4096_S8x4096_d2 h_S_)

/-- The softmax. -/
def weights (e : FVec Ideal S8x4096x4096 .f32) : FVec Ideal S8x4096x4096 .f32 :=
  Host.divf e (broadcastInDim S8x4096x4096 ![0, 1, 2] bcast_S8x4096x1_S8x4096x4096_0_1_2 (sums e))

/-- The cotangent by head, column and position. -/
def cot (a5 : FVec Ideal S4096x1024 .f32) : FVec Ideal S8x128x4096 .f32 :=
  transpose S8x128x4096 [1, 2, 0] (shapeCast S4096x8x128 a5 shapeCasts_S4096x1024_S4096x8x128) transposes_S4096x8x128_S8x128x4096_1_2_0

/-- The softmax's cotangent. -/
def dweights (a4 : FVec Ideal S4096x8x128 .f32) (a5 : FVec Ideal S4096x1024 .f32) : FVec Ideal S8x4096x4096 .f32 :=
  Host.dotGeneral dot_S8x128x4096_S4096x8x128_S8x4096x4096_1_2_2_0_0_1 none (cot a5) a4

/-- The mask. -/
def mask : IVec S8x4096x4096 1 :=
  broadcastInDim S8x4096x4096 ![1, 2] bcast_S4096x4096_S8x4096x4096_1_2
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0))))

/-- The scores' cotangent, before the mask and the scale. -/
def dexpo (e d : FVec Ideal S8x4096x4096 .f32) : FVec Ideal S8x4096x4096 .f32 :=
  mulf (addf (Host.divf d (broadcastInDim S8x4096x4096 ![0, 1, 2] bcast_S8x4096x1_S8x4096x4096_0_1_2 (sums e)))
      (broadcastInDim S8x4096x4096 ![0, 1] bcast_S8x4096_S8x4096x4096_0_1
        (Host.reduceAdd (Host.negf (shapeCast S8x4096x1 (Host.reduceAdd
            (mulf (mulf d (broadcastInDim S8x4096x4096 ![0, 1, 2] bcast_S8x4096x1_S8x4096x4096_0_1_2
              (Host.divf (broadcastInDim S8x4096x1 ![] bcast_S_S8x4096x1 (constant S_ .f32 0x3F800000#32)) (mulf (sums e) (sums e))))) e)
            (constant S_ .f32 0x00000000#32) reducesTo_S8x4096x4096_S8x4096_d2 h_S_) shapeCasts_S8x4096_S8x4096x1))
          (constant S_ .f32 0x00000000#32) reducesTo_S8x4096x1_S8x4096_d2 h_S_))) e

/-- The scores' cotangent. -/
def dscores (e d : FVec Ideal S8x4096x4096 .f32) : FVec Ideal S8x4096x4096 .f32 :=
  mulf (select mask (dexpo e d) (broadcastInDim S8x4096x4096 ![] bcast_S_S8x4096x4096 (constant S_ .f32 0x00000000#32)))
    (broadcastInDim S8x4096x4096 ![] bcast_S_S8x4096x4096 (Host.rsqrt (constant S_ .f32 0x43400000#32)))

/-- The gradient of the queries' plain columns. -/
def gradQn (ds : FVec Ideal S8x4096x4096 .f32) (a2 : FVec Ideal S4096x8x128 .f32) : FVec Ideal S4096x8x128 .f32 :=
  transpose S4096x8x128 [1, 0, 2] (Host.dotGeneral dot_S8x4096x4096_S4096x8x128_S8x4096x128_2_0_1_2_0_1 none ds a2) transposes_S8x4096x128_S4096x8x128_1_0_2

/-- The gradient of the queries' rotary columns. -/
def gradQr (ds : FVec Ideal S8x4096x4096 .f32) (a3 : FVec Ideal S4096x64 .f32) : FVec Ideal S4096x8x64 .f32 :=
  Host.dotGeneral dot_S4096x4096x8_S4096x64_S4096x8x64_0_0_12_1_n_n none (transpose S4096x4096x8 [2, 1, 0] ds transposes_S8x4096x4096_S4096x4096x8_2_1_0) a3

/-- The gradient of the keys' plain columns. -/
def gradKn (ds : FVec Ideal S8x4096x4096 .f32) (a0 : FVec Ideal S4096x8x128 .f32) : FVec Ideal S4096x8x128 .f32 :=
  transpose S4096x8x128 [1, 0, 2] (Host.dotGeneral dot_S8x4096x4096_S4096x8x128_S8x4096x128_1_0_2_2_0_1 none ds a0) transposes_S8x4096x128_S4096x8x128_1_0_2

/-- The gradient of the keys' rotary columns. -/
def gradKr (ds : FVec Ideal S8x4096x4096 .f32) (a1 : FVec Ideal S4096x8x64 .f32) : FVec Ideal S4096x64 .f32 :=
  Host.dotGeneral dot_S4096x4096x8_S4096x8x64_S4096x64_12_01_0_2_n_n none (transpose S4096x4096x8 [2, 1, 0] ds transposes_S8x4096x4096_S4096x4096x8_2_1_0) a1

/-- The gradient of the values. -/
def gradV (p : FVec Ideal S8x4096x4096 .f32) (a5 : FVec Ideal S4096x1024 .f32) : FVec Ideal S4096x8x128 .f32 :=
  transpose S4096x8x128 [2, 0, 1] (Host.dotGeneral dot_S8x128x4096_S8x4096x4096_S8x128x4096_2_1_1_2_0_0 none (cot a5) p) transposes_S8x128x4096_S4096x8x128_2_0_1

variable (X0 : S4096x8x128.Idx → ℝ) (X1 : S4096x8x64.Idx → ℝ) (X2 : S4096x8x128.Idx → ℝ) (X3 : S4096x64.Idx → ℝ)
  (X4 : S4096x8x128.Idx → ℝ) (X5 : S4096x1024.Idx → ℝ)

/-- The scores of a query's row. -/
def sc (h : Fin 8) (q k : Fin 4096) : ℝ :=
  (∑ x : Fin 128, X0 (ix3 q h x) * X2 (ix3 k h x) + ∑ x : Fin 64, X3 (ix2 k x) * X1 (ix3 q h x)) * scale

/-- A column of a head in the cotangent's 1024. -/
def col (h : Fin 8) (x : Fin 128) : Fin 1024 := ⟨h.val * 128 + x.val, by omega⟩

/-- The softmax's cotangent. -/
def dw (h : Fin 8) (q k : Fin 4096) : ℝ := ∑ x : Fin 128, X5 (ix2 q (col h x)) * X4 (ix3 k h x)

theorem scores_eq :
    scores (fun i => ↑(X0 i)) (fun i => ↑(X1 i)) (fun i => ↑(X2 i)) (fun i => ↑(X3 i))
      = fun i : S8x4096x4096.Idx => masked (sc X0 X1 X2 X3 (i 0) (i 1)) (i 1) (i 2) := by
  funext i
  idx_vars i
  show (_ : EReal) = _
  pointwise [scores]
  rw [mask_cmp, select_if, scale_coe, ofBits_ninf]
  simp only [← EReal.coe_mul, coe_sum, ← EReal.coe_add]
  rfl

theorem tops_pt (x : FVec Ideal S8x4096x4096 .f32) (h : Fin 8) (q : Fin 4096) :
    tops x (ix2 h q) = Finset.univ.fold max (Ideal.ofBits .f32 0xFF800000#32) (fun k => x (ix3 h q k)) := by
  show (_ : EReal) = _
  pointwise [tops]

theorem tops_eq (f : Fin 8 → Fin 4096 → Fin 4096 → ℝ) :
    tops (fun i : S8x4096x4096.Idx => masked (f (i 0) (i 1)) (i 1) (i 2)) = fun i : S8x4096.Idx => ((top (f (i 0) (i 1)) (i 1) : ℝ) : EReal) := by
  funext i
  idx_vars i
  rw [tops_pt, ofBits_ninf]
  exact top_coe (f i0 i1) i1

theorem tops'_eq (m : S8x4096.Idx → ℝ) : tops' (fun i => ((m i : ℝ) : EReal)) = fun i => ((m i : ℝ) : EReal) := by
  funext i
  idx_vars i
  show (_ : EReal) = _
  pointwise [tops']
  rw [ofBits_ninf, bot_sup_eq]

theorem expo_eq (f : Fin 8 → Fin 4096 → Fin 4096 → ℝ) :
    expo (fun i : S8x4096x4096.Idx => masked (f (i 0) (i 1)) (i 1) (i 2)) (fun i : S8x4096.Idx => ((top (f (i 0) (i 1)) (i 1) : ℝ) : EReal))
      = fun i : S8x4096x4096.Idx => ((ex (f (i 0) (i 1)) (i 1) (i 2) : ℝ) : EReal) := by
  funext i
  idx_vars i
  show (_ : EReal) = _
  pointwise [expo]
  exact ex_coe (f i0 i1) i1 i2

theorem weights_eq (f : Fin 8 → Fin 4096 → Fin 4096 → ℝ) :
    weights (fun i : S8x4096x4096.Idx => ((ex (f (i 0) (i 1)) (i 1) (i 2) : ℝ) : EReal))
      = fun i : S8x4096x4096.Idx => ((soft (f (i 0) (i 1)) (i 1) (i 2) : ℝ) : EReal) := by
  funext i
  idx_vars i
  show (_ : EReal) = _
  pointwise [weights, sums]
  simp only [coe_sum]
  exact div_coe (den_pos _ _).ne'

theorem dweights_eq :
    dweights (fun i => ↑(X4 i)) (fun i => ↑(X5 i)) = fun i : S8x4096x4096.Idx => ((dw X4 X5 (i 0) (i 1) (i 2) : ℝ) : EReal) := by
  funext i
  idx_vars i
  show (_ : EReal) = _
  pointwise [dweights, cot]
  simp only [← EReal.coe_mul, coe_sum]
  rfl

theorem dscores_eq (f d : Fin 8 → Fin 4096 → Fin 4096 → ℝ) :
    dscores (fun i : S8x4096x4096.Idx => ((ex (f (i 0) (i 1)) (i 1) (i 2) : ℝ) : EReal)) (fun i : S8x4096x4096.Idx => ((d (i 0) (i 1) (i 2) : ℝ) : EReal))
      = fun i : S8x4096x4096.Idx => ((dsc (f (i 0) (i 1)) (d (i 0) (i 1)) (i 1) (i 2) * scale : ℝ) : EReal) := by
  funext i
  idx_vars i
  show (_ : EReal) = _
  pointwise [dscores, dexpo, mask, sums]
  rw [mask_cmp, select_if, scale_coe]
  have hz : den (f i0 i1) i1 ≠ 0 := (den_pos _ _).ne'
  have e : ((∑ k, ex (f i0 i1) i1 k : ℝ)) = den (f i0 i1) i1 := rfl
  simp only [coe_sum, e, Fin.sum_univ_one, ← EReal.coe_one, ← EReal.coe_mul, div_coe hz, div_coe (mul_ne_zero hz hz),
    ← EReal.coe_neg, ← EReal.coe_add, dsc_ref]
  split
  · rfl
  · rw [dsc_above _ _ _ _ (by assumption), zero_mul, EReal.coe_zero]

/-- The scores' cotangent of the arguments. -/
def ds (h : Fin 8) (q k : Fin 4096) : ℝ := dsc (sc X0 X1 X2 X3 h q) (dw X4 X5 h q) q k * scale

/-- The five results. -/
def dqn (i : S4096x8x128.Idx) : ℝ := ∑ k, ds X0 X1 X2 X3 X4 X5 (i 1) (i 0) k * X2 (ix3 k (i 1) (i 2))
def dqr (i : S4096x8x64.Idx) : ℝ := ∑ k, ds X0 X1 X2 X3 X4 X5 (i 1) (i 0) k * X3 (ix2 k (i 2))
def dkn (i : S4096x8x128.Idx) : ℝ := ∑ q, ds X0 X1 X2 X3 X4 X5 (i 1) q (i 0) * X0 (ix3 q (i 1) (i 2))
def dkr (i : S4096x64.Idx) : ℝ := ∑ h, ∑ q, ds X0 X1 X2 X3 X4 X5 h q (i 0) * X1 (ix3 q h (i 1))
def dv (i : S4096x8x128.Idx) : ℝ := ∑ q, soft (sc X0 X1 X2 X3 (i 1) q) q (i 0) * X5 (ix2 q (col (i 1) (i 2)))

theorem gradQn_eq (d : Fin 8 → Fin 4096 → Fin 4096 → ℝ) :
    gradQn (fun i : S8x4096x4096.Idx => ((d (i 0) (i 1) (i 2) : ℝ) : EReal)) (fun i => ↑(X2 i))
      = fun i : S4096x8x128.Idx => ((∑ k, d (i 1) (i 0) k * X2 (ix3 k (i 1) (i 2)) : ℝ) : EReal) := by
  funext i
  idx_vars i
  show (_ : EReal) = _
  pointwise [gradQn]
  simp only [← EReal.coe_mul, coe_sum]

theorem gradQr_eq (d : Fin 8 → Fin 4096 → Fin 4096 → ℝ) :
    gradQr (fun i : S8x4096x4096.Idx => ((d (i 0) (i 1) (i 2) : ℝ) : EReal)) (fun i => ↑(X3 i))
      = fun i : S4096x8x64.Idx => ((∑ k, d (i 1) (i 0) k * X3 (ix2 k (i 2)) : ℝ) : EReal) := by
  funext i
  idx_vars i
  show (_ : EReal) = _
  pointwise [gradQr]
  simp only [← EReal.coe_mul, coe_sum]

theorem gradKn_eq (d : Fin 8 → Fin 4096 → Fin 4096 → ℝ) :
    gradKn (fun i : S8x4096x4096.Idx => ((d (i 0) (i 1) (i 2) : ℝ) : EReal)) (fun i => ↑(X0 i))
      = fun i : S4096x8x128.Idx => ((∑ q, d (i 1) q (i 0) * X0 (ix3 q (i 1) (i 2)) : ℝ) : EReal) := by
  funext i
  idx_vars i
  show (_ : EReal) = _
  pointwise [gradKn]
  simp only [← EReal.coe_mul, coe_sum]

theorem gradKr_eq (d : Fin 8 → Fin 4096 → Fin 4096 → ℝ) :
    gradKr (fun i : S8x4096x4096.Idx => ((d (i 0) (i 1) (i 2) : ℝ) : EReal)) (fun i => ↑(X1 i))
      = fun i : S4096x64.Idx => ((∑ h, ∑ q, d h q (i 0) * X1 (ix3 q h (i 1)) : ℝ) : EReal) := by
  funext i
  idx_vars i
  show (_ : EReal) = _
  pointwise [gradKr]
  simp only [← EReal.coe_mul, coe_sum]
  rw [Finset.sum_comm]

theorem gradV_eq (p : Fin 8 → Fin 4096 → Fin 4096 → ℝ) :
    gradV (fun i : S8x4096x4096.Idx => ((p (i 0) (i 1) (i 2) : ℝ) : EReal)) (fun i => ↑(X5 i))
      = fun i : S4096x8x128.Idx => ((∑ q, p (i 1) q (i 0) * X5 (ix2 q (col (i 1) (i 2))) : ℝ) : EReal) := by
  funext i
  idx_vars i
  show (_ : EReal) = _
  pointwise [gradV, cot]
  simp only [← EReal.coe_mul, coe_sum]
  simp only [mul_comm]
  rfl

section
variable (a0 : FVec Ideal S4096x8x128 .f32) (a1 : FVec Ideal S4096x8x64 .f32) (a2 : FVec Ideal S4096x8x128 .f32)
  (a3 : FVec Ideal S4096x64 .f32) (a4 : FVec Ideal S4096x8x128 .f32) (a5 : FVec Ideal S4096x1024 .f32)

/-- The exponentials of the arguments. -/
def expoOf : FVec Ideal S8x4096x4096 .f32 := expo (scores a0 a1 a2 a3) (tops' (tops (scores a0 a1 a2 a3)))

theorem expoOf_eq : expoOf (fun i => ↑(X0 i)) (fun i => ↑(X1 i)) (fun i => ↑(X2 i)) (fun i => ↑(X3 i))
      = fun i : S8x4096x4096.Idx => ((ex (sc X0 X1 X2 X3 (i 0) (i 1)) (i 1) (i 2) : ℝ) : EReal) := by
  unfold expoOf
  rw [scores_eq, tops_eq, tops'_eq, expo_eq]

/-- The scores' cotangent of the arguments. -/
def dsOf : FVec Ideal S8x4096x4096 .f32 := dscores (expoOf a0 a1 a2 a3) (dweights a4 a5)

theorem dsOf_eq : dsOf (fun i => ↑(X0 i)) (fun i => ↑(X1 i)) (fun i => ↑(X2 i)) (fun i => ↑(X3 i)) (fun i => ↑(X4 i)) (fun i => ↑(X5 i))
      = fun i : S8x4096x4096.Idx => ((ds X0 X1 X2 X3 X4 X5 (i 0) (i 1) (i 2) : ℝ) : EReal) := by
  unfold dsOf
  rw [expoOf_eq, dweights_eq, dscores_eq]
  rfl
end

section
open Cert.MlaRefIdeal.Value
variable (m : (ℓ : Loc nD τ sig) → Buf (Elt Ideal) ℓ) (c : Dev nD)
  (h0 : m ((c.tc : Thread nD τ).loc main_arg0) = fun i => ((X0 i : ℝ) : EReal))
  (h1 : m ((c.tc : Thread nD τ).loc main_arg1) = fun i => ((X1 i : ℝ) : EReal))
  (h2 : m ((c.tc : Thread nD τ).loc main_arg2) = fun i => ((X2 i : ℝ) : EReal))
  (h3 : m ((c.tc : Thread nD τ).loc main_arg3) = fun i => ((X3 i : ℝ) : EReal))
  (h4 : m ((c.tc : Thread nD τ).loc main_arg4) = fun i => ((X4 i : ℝ) : EReal))
  (h5 : m ((c.tc : Thread nD τ).loc main_arg5) = fun i => ((X5 i : ℝ) : EReal))
include h0 h1 h2 h3 h4 h5

theorem res_dqn : res_main_v71 m c = fun i => ((dqn X0 X1 X2 X3 X4 X5 i : ℝ) : EReal) := by
  show gradQn (dsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg2)) = _
  rw [h0, h1, h2, h3, h4, h5, dsOf_eq, gradQn_eq]
  rfl

theorem res_dqr : res_main_v66 m c = fun i => ((dqr X0 X1 X2 X3 X4 X5 i : ℝ) : EReal) := by
  show gradQr (dsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg3)) = _
  rw [h0, h1, h2, h3, h4, h5, dsOf_eq, gradQr_eq]
  rfl

theorem res_dkn : res_main_v69 m c = fun i => ((dkn X0 X1 X2 X3 X4 X5 i : ℝ) : EReal) := by
  show gradKn (dsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg0)) = _
  rw [h0, h1, h2, h3, h4, h5, dsOf_eq, gradKn_eq]
  rfl

theorem res_dkr : res_main_v67 m c = fun i => ((dkr X0 X1 X2 X3 X4 X5 i : ℝ) : EReal) := by
  show gradKr (dsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) = _
  rw [h0, h1, h2, h3, h4, h5, dsOf_eq, gradKr_eq]
  rfl

omit h4 in
theorem res_dv : res_main_v49 m c = fun i => ((dv X0 X1 X2 X3 X5 i : ℝ) : EReal) := by
  show gradV (weights (expoOf (m ((c.tc : Thread nD τ).loc main_arg0)) (m ((c.tc : Thread nD τ).loc main_arg1)) (m ((c.tc : Thread nD τ).loc main_arg2)) (m ((c.tc : Thread nD τ).loc main_arg3)))) (m ((c.tc : Thread nD τ).loc main_arg5)) = _
  rw [h0, h1, h2, h3, h5, expoOf_eq, weights_eq]
  exact gradV_eq X5 (fun h q k => soft (sc X0 X1 X2 X3 h q) q k)
end

end Cert.MlaRef

end
-- ==== Proof.MlaHost.lean ====
module

public import proofs.«01_k».proof.Proof.MlaRef
public import proofs.«01_k».proof.Proof.MlaFrame

@[expose] public section

set_option maxRecDepth 16384

noncomputable section

namespace Cert.MlaHost

open Cert.MlaKernelIdeal Cert.MlaKernelIdeal.Gen Cert.MlaPure Cert.Reals Cert.MlaRef
open Idealize.ShloMosaic Idealize.ShloMosaic.Pointwise Idealize.ShloMosaic.Tactic Idealize.ShloMosaic.TcCoe

/-- The kernel's queries: by head, the plain and the rotary columns and 64 zeros. -/
def packQ (a0 : FVec Ideal S4096x8x128 .f32) (a1 : FVec Ideal S4096x8x64 .f32) : FVec Ideal S8x4096x256 .bf16 :=
  truncf .bf16 (transpose S8x4096x256 [1, 0, 2] (concatenate S4096x8x256 2 [⟨S4096x8x128, a0⟩, ⟨S4096x8x64, a1⟩, ⟨S4096x8x64, broadcastInDim S4096x8x64 ![] bcast_S_S4096x8x64 (constant S_ .f32 0x00000000#32)⟩]
    concatenates_S4096x8x128_S4096x8x64_S4096x8x64_S4096x8x256_d2) transposes_S4096x8x256_S8x4096x256_1_0_2) bitsLt_bf16_f32

/-- The kernel's keys: the heads share the rotary columns. -/
def packK (a2 : FVec Ideal S4096x8x128 .f32) (a3 : FVec Ideal S4096x64 .f32) : FVec Ideal S8x4096x256 .bf16 :=
  packQ a2 (broadcastInDim S4096x8x64 ![0, 1, 2] bcast_S4096x1x64_S4096x8x64_0_1_2 (broadcastInDim S4096x1x64 ![0, 2] bcast_S4096x64_S4096x1x64_0_2 a3))

/-- The kernel's values. -/
def packV (a4 : FVec Ideal S4096x8x128 .f32) : FVec Ideal S8x4096x128 .bf16 :=
  truncf .bf16 (transpose S8x4096x128 [1, 0, 2] a4 transposes_S4096x8x128_S8x4096x128_1_0_2) bitsLt_bf16_f32

/-- The kernel's cotangent. -/
def packD (a5 : FVec Ideal S4096x1024 .f32) : FVec Ideal S4096x1024 .bf16 := truncf .bf16 a5 bitsLt_bf16_f32

/-- A row's logarithm, in base two. -/
def logs (e : FVec Ideal S8x4096x4096 .f32) (t : FVec Ideal S8x4096 .f32) : FVec Ideal S8x4096x1 .f32 :=
  Host.divf (addf (broadcastInDim S8x4096x1 ![0, 1] bcast_S8x4096_S8x4096x1_0_1 t) (Host.log (sums e)))
    (broadcastInDim S8x4096x1 ![] bcast_S_S8x4096x1 (Host.log (constant S_ .f32 0x40000000#32)))

/-- One number to a row, eight times. -/
def rows8 (x : FVec Ideal S8x4096 .f32) : FVec Ideal S8x8x4096 .f32 :=
  broadcastInDim S8x8x4096 ![0, 1, 2] bcast_S8x1x4096_S8x8x4096_0_1_2 (broadcastInDim S8x1x4096 ![0, 2] bcast_S8x4096_S8x1x4096_0_2 x)

/-- The output times its cotangent, summed over a head's columns. -/
def delta (p : FVec Ideal S8x4096x4096 .f32) (a4 : FVec Ideal S4096x8x128 .f32) (a5 : FVec Ideal S4096x1024 .f32) : FVec Ideal S8x4096 .f32 :=
  transpose S8x4096 [1, 0] (Host.reduceAdd (shapeCast S4096x8x128 (mulf a5 (shapeCast S4096x1024 (transpose S4096x8x128 [2, 0, 1]
    (Host.dotGeneral dot_S4096x8x128_S8x4096x4096_S8x128x4096_0_2_2_1_1_0 none a4 p) transposes_S8x128x4096_S4096x8x128_2_0_1)
    shapeCasts_S4096x8x128_S4096x1024)) shapeCasts_S4096x1024_S4096x8x128) (constant S_ .f32 0x00000000#32) reducesTo_S4096x8x128_S4096x8_d2 h_S_) transposes_S4096x8_S8x4096_1_0

variable (X0 : S4096x8x128.Idx → ℝ) (X1 : S4096x8x64.Idx → ℝ) (X2 : S4096x8x128.Idx → ℝ) (X3 : S4096x64.Idx → ℝ)
  (X4 : S4096x8x128.Idx → ℝ) (X5 : S4096x1024.Idx → ℝ)

/-- A query's padded columns. -/
def qpad (h : Fin 8) (t : Fin 4096) (d : Fin 256) : ℝ :=
  if hd : d.val < 128 then X0 (ix3 t h ⟨d.val, hd⟩) else if hd : d.val < 192 then X1 (ix3 t h ⟨d.val - 128, by omega⟩) else 0

/-- A key's padded columns. -/
def kpad (h : Fin 8) (t : Fin 4096) (d : Fin 256) : ℝ :=
  if hd : d.val < 128 then X2 (ix3 t h ⟨d.val, hd⟩) else if hd : d.val < 192 then X3 (ix2 t ⟨d.val - 128, by omega⟩) else 0

theorem packQ_eq : packQ (fun i => ↑(X0 i)) (fun i => ↑(X1 i)) = fun i : S8x4096x256.Idx => ((qpad X0 X1 (i 0) (i 1) (i 2) : ℝ) : EReal) := by
  funext i
  idx_vars i
  show (_ : EReal) = _
  pointwise [packQ]
  unfold qpad
  by_cases h : i2.val < 128
  · rw [dif_pos h, dif_pos h]
  · rw [dif_neg h, dif_neg h]
    by_cases h' : i2.val < 192
    · rw [dif_pos (by omega), dif_pos h']
    · rw [dif_neg (by omega), dif_neg h', EReal.coe_zero]

theorem packK_eq : packK (fun i => ↑(X2 i)) (fun i => ↑(X3 i)) = fun i : S8x4096x256.Idx => ((kpad X2 X3 (i 0) (i 1) (i 2) : ℝ) : EReal) := by
  unfold packK
  refine (congrArg (packQ fun i => ↑(X2 i)) ?_).trans (packQ_eq X2 fun i : S4096x8x64.Idx => X3 (ix2 (i 0) (i 2)))
  funext i
  idx_vars i
  show (_ : EReal) = _
  pointwise

theorem packV_eq : packV (fun i => ↑(X4 i)) = fun i : S8x4096x128.Idx => ((X4 (ix3 (i 1) (i 0) (i 2)) : ℝ) : EReal) := by
  funext i
  idx_vars i
  show (_ : EReal) = _
  pointwise [packV]

theorem packD_eq : packD (fun i => ↑(X5 i)) = fun i : S4096x1024.Idx => ((X5 i : ℝ) : EReal) := by
  funext i
  idx_vars i
  show (_ : EReal) = _
  pointwise [packD]

theorem log_two : Ideal.log (Ideal.ofBits .f32 0x40000000#32) = ((Real.log 2 : ℝ) : EReal) := by
  rw [ofBits_two]
  exact if_neg (by norm_num)

theorem log_pos {x : ℝ} (h : 0 < x) : Ideal.log (x : EReal) = ((Real.log x : ℝ) : EReal) := if_neg (not_le.2 h)

theorem logs_eq (f : Fin 8 → Fin 4096 → Fin 4096 → ℝ) :
    shapeCast S8x4096 (logs (fun i : S8x4096x4096.Idx => ((ex (f (i 0) (i 1)) (i 1) (i 2) : ℝ) : EReal)) (fun i : S8x4096.Idx => ((top (f (i 0) (i 1)) (i 1) : ℝ) : EReal))) shapeCasts_S8x4096x1_S8x4096
      = fun i : S8x4096.Idx => ((lse2 (f (i 0) (i 1)) (i 1) : ℝ) : EReal) := by
  funext i
  idx_vars i
  show (_ : EReal) = _
  pointwise [logs, sums]
  rw [log_two]
  have e : ((∑ k, ex (f i0 i1) i1 k : ℝ)) = den (f i0 i1) i1 := rfl
  simp only [coe_sum, e, log_pos (den_pos _ _), ← EReal.coe_add]
  exact div_coe (Real.log_pos (by norm_num)).ne'

theorem rows8_eq (x : S8x4096.Idx → ℝ) : rows8 (fun i => ↑(x i)) = fun i : S8x8x4096.Idx => ((x (ix2 (i 0) (i 2)) : ℝ) : EReal) := by
  funext i
  idx_vars i
  show (_ : EReal) = _
  pointwise [rows8]

theorem delta_eq (p : Fin 8 → Fin 4096 → Fin 4096 → ℝ) :
    delta (fun i : S8x4096x4096.Idx => ((p (i 0) (i 1) (i 2) : ℝ) : EReal)) (fun i => ↑(X4 i)) (fun i => ↑(X5 i))
      = fun i : S8x4096.Idx => ((∑ k, p (i 0) (i 1) k * dw X4 X5 (i 0) (i 1) k : ℝ) : EReal) := by
  funext i
  idx_vars i
  show (_ : EReal) = _
  pointwise [delta]
  simp only [← EReal.coe_mul, coe_sum]
  refine congrArg _ ?_
  simp only [dw, Finset.mul_sum]
  rw [Finset.sum_comm]
  refine Finset.sum_congr rfl fun k _ => Finset.sum_congr rfl fun x _ => ?_
  rw [show (⟨i0.val * 128 + x.val, _⟩ : Fin 1024) = col i0 x from rfl]
  ring

/-- The padded product of a query and a key is the two products' sum. -/
theorem pad_dot (h : Fin 8) (q k : Fin 4096) :
    (∑ d, kpad X2 X3 h k d * qpad X0 X1 h q d) * scale = sc X0 X1 X2 X3 h q k := by
  unfold sc
  refine congrArg (· * scale) ?_
  rw [show (∑ d : Fin 256, kpad X2 X3 h k d * qpad X0 X1 h q d) = ∑ d : Fin (128 + (64 + 64)), kpad X2 X3 h k d * qpad X0 X1 h q d from rfl,
    Fin.sum_univ_add, Fin.sum_univ_add]
  have e1 : ∀ x : Fin 128, kpad X2 X3 h k (Fin.castAdd (64 + 64) x) * qpad X0 X1 h q (Fin.castAdd (64 + 64) x) = X0 (ix3 q h x) * X2 (ix3 k h x) := fun x => by
    have hx : (Fin.castAdd (64 + 64) x).val < 128 := x.isLt
    unfold kpad qpad
    rw [dif_pos hx, dif_pos hx]
    exact mul_comm _ _
  have e2 : ∀ x : Fin 64, kpad X2 X3 h k (Fin.natAdd 128 (Fin.castAdd 64 x)) * qpad X0 X1 h q (Fin.natAdd 128 (Fin.castAdd 64 x)) = X3 (ix2 k x) * X1 (ix3 q h x) := fun x => by
    have hv : (Fin.natAdd 128 (Fin.castAdd 64 x)).val = 128 + x.val := rfl
    have ha : ¬ (Fin.natAdd 128 (Fin.castAdd 64 x)).val < 128 := by omega
    have hb : (Fin.natAdd 128 (Fin.castAdd 64 x)).val < 192 := by omega
    unfold kpad qpad
    rw [dif_neg ha, dif_neg ha, dif_pos hb, dif_pos hb]
    have : (⟨(Fin.natAdd 128 (Fin.castAdd 64 x)).val - 128, by omega⟩ : Fin 64) = x := Fin.ext (by show 128 + x.val - 128 = x.val; omega)
    rw [this]
  have e3 : ∀ x : Fin 64, kpad X2 X3 h k (Fin.natAdd 128 (Fin.natAdd 64 x)) * qpad X0 X1 h q (Fin.natAdd 128 (Fin.natAdd 64 x)) = 0 := fun x => by
    have hv : (Fin.natAdd 128 (Fin.natAdd 64 x)).val = 128 + (64 + x.val) := rfl
    unfold kpad
    rw [dif_neg (by omega), dif_neg (by omega), zero_mul]
  simp only [e1, e2, e3, Finset.sum_const_zero, add_zero]

variable (m : (ℓ : Loc nD τ sig) → Buf (Elt Ideal) ℓ) (c : Dev nD)

set_option maxHeartbeats 8000000 in
/-- What the host line hands the kernel. -/
theorem entry :
    V m c main_v64 = packQ (m ((c.tc : Thread nD τ).loc main_arg0)) (m ((c.tc : Thread nD τ).loc main_arg1))
    ∧ V m c main_v65 = packK (m ((c.tc : Thread nD τ).loc main_arg2)) (m ((c.tc : Thread nD τ).loc main_arg3))
    ∧ V m c main_v67 = packV (m ((c.tc : Thread nD τ).loc main_arg4))
    ∧ V m c main_v68 = packD (m ((c.tc : Thread nD τ).loc main_arg5))
    ∧ V m c main_v74 = rows8 (shapeCast S8x4096 (logs (expo (scores (m ((c.tc : Thread nD τ).loc main_arg0)) (m ((c.tc : Thread nD τ).loc main_arg1)) (m ((c.tc : Thread nD τ).loc main_arg2)) (m ((c.tc : Thread nD τ).loc main_arg3)))
      (tops (scores (m ((c.tc : Thread nD τ).loc main_arg0)) (m ((c.tc : Thread nD τ).loc main_arg1)) (m ((c.tc : Thread nD τ).loc main_arg2)) (m ((c.tc : Thread nD τ).loc main_arg3)))))
      (tops (scores (m ((c.tc : Thread nD τ).loc main_arg0)) (m ((c.tc : Thread nD τ).loc main_arg1)) (m ((c.tc : Thread nD τ).loc main_arg2)) (m ((c.tc : Thread nD τ).loc main_arg3))))) shapeCasts_S8x4096x1_S8x4096)
    ∧ V m c main_v71 = rows8 (delta (weights (expoOf (m ((c.tc : Thread nD τ).loc main_arg0)) (m ((c.tc : Thread nD τ).loc main_arg1)) (m ((c.tc : Thread nD τ).loc main_arg2)) (m ((c.tc : Thread nD τ).loc main_arg3))))
      (m ((c.tc : Thread nD τ).loc main_arg4)) (m ((c.tc : Thread nD τ).loc main_arg5))) := by
  refine ⟨?_, ?_, ?_, ?_, ?_, ?_⟩ <;>
  (show StableHlo.after (List.flatten [hostOps0, hostOps0_1, hostOps0_2, hostOps0_3, hostOps0_4]) (fun b => m (c, b)) (Proc.devRef .tc _) = _
   simp only [hostOps0, hostOps0_1, hostOps0_2, hostOps0_3, hostOps0_4, List.flatten_cons, List.flatten_nil, List.append_nil, List.cons_append, List.nil_append,
    StableHlo.TRef.nullary, StableHlo.TRef.ternary, StableHlo.TRef.unary, StableHlo.TRef.toBuf, StableHlo.TRef.ofBuf, cast_eq]
   after_results_simp <;> rfl)

section
variable (h0 : m ((c.tc : Thread nD τ).loc main_arg0) = fun i => ((X0 i : ℝ) : EReal))
  (h1 : m ((c.tc : Thread nD τ).loc main_arg1) = fun i => ((X1 i : ℝ) : EReal))
  (h2 : m ((c.tc : Thread nD τ).loc main_arg2) = fun i => ((X2 i : ℝ) : EReal))
  (h3 : m ((c.tc : Thread nD τ).loc main_arg3) = fun i => ((X3 i : ℝ) : EReal))
  (h4 : m ((c.tc : Thread nD τ).loc main_arg4) = fun i => ((X4 i : ℝ) : EReal))
  (h5 : m ((c.tc : Thread nD τ).loc main_arg5) = fun i => ((X5 i : ℝ) : EReal))
include h0 h1 h2 h3 h4 h5

/-- The same in real numbers. -/
theorem entry_real :
    (V m c main_v64 = fun i : S8x4096x256.Idx => ((qpad X0 X1 (i 0) (i 1) (i 2) : ℝ) : EReal))
    ∧ (V m c main_v65 = fun i : S8x4096x256.Idx => ((kpad X2 X3 (i 0) (i 1) (i 2) : ℝ) : EReal))
    ∧ (V m c main_v67 = fun i : S8x4096x128.Idx => ((X4 (ix3 (i 1) (i 0) (i 2)) : ℝ) : EReal))
    ∧ (V m c main_v68 = fun i : S4096x1024.Idx => ((X5 i : ℝ) : EReal))
    ∧ (V m c main_v74 = fun i : S8x8x4096.Idx => ((lse2 (sc X0 X1 X2 X3 (i 0) (i 2)) (i 2) : ℝ) : EReal))
    ∧ (V m c main_v71 = fun i : S8x8x4096.Idx => ((∑ k, soft (sc X0 X1 X2 X3 (i 0) (i 2)) (i 2) k * dw X4 X5 (i 0) (i 2) k : ℝ) : EReal)) := by
  obtain ⟨e0, e1, e2, e3, e4, e5⟩ := entry m c
  refine ⟨e0.trans ?_, e1.trans ?_, e2.trans ?_, e3.trans ?_, e4.trans ?_, e5.trans ?_⟩
  · rw [h0, h1, packQ_eq]
  · rw [h2, h3, packK_eq]
  · rw [h4, packV_eq]
  · rw [h5, packD_eq]
  · rw [h0, h1, h2, h3, scores_eq, tops_eq, expo_eq]
    exact (congrArg rows8 (logs_eq (sc X0 X1 X2 X3))).trans (rows8_eq fun i => lse2 (sc X0 X1 X2 X3 (i 0) (i 1)) (i 1))
  · rw [h0, h1, h2, h3, h4, h5, expoOf_eq, weights_eq]
    exact (congrArg rows8 (delta_eq X4 X5 fun h q k => soft (sc X0 X1 X2 X3 h q) q k)).trans
      (rows8_eq fun i => ∑ k, soft (sc X0 X1 X2 X3 (i 0) (i 1)) (i 1) k * dw X4 X5 (i 0) (i 1) k)
end

end Cert.MlaHost
end
-- ==== Proof.MlaGrad.lean ====
/-
  The visits' real-number forms are the attention's own: weights the softmax's, cotangents the scores'.
-/
module

public import proofs.«01_k».proof.Proof.MlaOut
public import proofs.«01_k».proof.Proof.MlaHost

@[expose] public section

set_option maxRecDepth 16384

noncomputable section

namespace Cert.MlaGrad

open Cert.MlaKernelIdeal Cert.MlaKernelIdeal.Gen Cert.MlaPure Cert.Reals Cert.MlaRun Cert.MlaVisit Cert.MlaOut Cert.MlaHost
open Cert.MlaRef (sc dw col ds)
open Idealize.ShloMosaic Idealize.ShloMosaic.Pointwise Idealize.ShloMosaic.Tactic

variable (X0 : S4096x8x128.Idx → ℝ) (X1 : S4096x8x64.Idx → ℝ) (X2 : S4096x8x128.Idx → ℝ) (X3 : S4096x64.Idx → ℝ)
  (X4 : S4096x8x128.Idx → ℝ) (X5 : S4096x1024.Idx → ℝ)

/-- A head's keys, values and cotangents as the visits take them. -/
def Kh (h : Fin 8) (j : ℕ) (a : Fin 512) (d : Fin 256) : ℝ := kpad X2 X3 h (row (512 * j + a.val)) d
def Wh (h : Fin 8) (j : ℕ) (a : Fin 512) (d : Fin 128) : ℝ := X4 (ix3 (row (512 * j + a.val)) h d)
def Dh (h : Fin 8) (q : Fin 4096) (d : Fin 128) : ℝ := X5 (ix2 q (col h d))
/-- Its saved logarithms, and the sums of `do` times the output. -/
def Lh (h : Fin 8) (q : Fin 4096) : ℝ := lse2 (sc X0 X1 X2 X3 h q) q
def Th (h : Fin 8) (q : Fin 4096) : ℝ := ∑ k, soft (sc X0 X1 X2 X3 h q) q k * dw X4 X5 h q k

theorem P_soft (h : Fin 8) (j : ℕ) (hj : j < 8) (a : Fin 512) (q : Fin 4096) :
    P (qpad X0 X1 h) (Kh X2 X3 h j) (Lh X0 X1 X2 X3 h) j a q = soft (sc X0 X1 X2 X3 h q) q (row (512 * j + a.val)) := by
  have hv : (row (512 * j + a.val)).val = 512 * j + a.val := row_val (by omega)
  unfold P
  by_cases hk : 512 * j + a.val ≤ q.val
  · rw [if_pos hk, ← soft_pow (sc X0 X1 X2 X3 h q) q (row (512 * j + a.val)) (Fin.le_def.2 (by omega)), ← pad_dot]
    unfold wt Lh Kh
    rw [mul_assoc]
  · rw [if_neg hk, soft_above _ _ _ fun hle => hk (by have := Fin.le_def.1 hle; omega)]

theorem S_dsc (h : Fin 8) (j : ℕ) (hj : j < 8) (a : Fin 512) (q : Fin 4096) :
    S (qpad X0 X1 h) (Kh X2 X3 h j) (Wh X4 h j) (Dh X5 h) (Th X0 X1 X2 X3 X4 X5 h) (Lh X0 X1 X2 X3 h) j a q
      = dsc (sc X0 X1 X2 X3 h q) (dw X4 X5 h q) q (row (512 * j + a.val)) := by
  unfold S
  rw [P_soft X0 X1 X2 X3 h j hj]
  unfold dsc Th dw Wh Dh
  refine congrArg (fun z : ℝ => soft (sc X0 X1 X2 X3 h q) q (row (512 * j + a.val)) * (z - _)) (Finset.sum_congr rfl fun x _ => mul_comm _ _)

/-- The first `n` key blocks' keys. -/
theorem sum_blocks (g : Fin 4096 → ℝ) (n : ℕ) :
    ∑ i ∈ Finset.range n, ∑ a : Fin 512, g (row (512 * i + a.val)) = ∑ k ∈ Finset.Ico 0 (512 * n), g (row k) := by
  induction n with
  | zero => simp
  | succ n ih =>
    rw [Finset.sum_range_succ, ih, sum_span, Finset.sum_Ico_consecutive _ (Nat.zero_le _) (by omega)]
    rfl

/-- The first `n` key blocks' parts of a row of `dq`. -/
def part (h : Fin 8) (n : ℕ) (q : Fin 4096) (d : Fin 256) : ℝ :=
  ∑ i ∈ Finset.range n, dQ (qpad X0 X1 h) (Kh X2 X3 h i) (Wh X4 h i) (Dh X5 h) (Th X0 X1 X2 X3 X4 X5 h) (Lh X0 X1 X2 X3 h) i q d

/-- What `dq`'s block holds after key block `n - 1`: the rows up to it scaled already. -/
def acc (h : Fin 8) (n : ℕ) (q : Fin 4096) (d : Fin 256) : ℝ :=
  if q.val < 512 * n then part X0 X1 X2 X3 X4 X5 h n q d * scale else part X0 X1 X2 X3 X4 X5 h n q d

/-- All of the key blocks: the gradient. -/
theorem acc_all (h : Fin 8) (q : Fin 4096) (d : Fin 256) :
    acc X0 X1 X2 X3 X4 X5 h 8 q d = (∑ k, dsc (sc X0 X1 X2 X3 h q) (dw X4 X5 h q) q k * kpad X2 X3 h k d) * scale := by
  unfold acc part
  rw [if_pos (by omega), ← sum_all, ← sum_blocks (fun k => dsc (sc X0 X1 X2 X3 h q) (dw X4 X5 h q) q k * kpad X2 X3 h k d) 8]
  refine congrArg (· * scale) (Finset.sum_congr rfl fun i hi => Finset.sum_congr rfl fun a _ => ?_)
  rw [S_dsc X0 X1 X2 X3 X4 X5 h i (Finset.mem_range.1 hi)]
  rfl

/-- A row before key block `n` gets nothing from it. -/
theorem dQ_before (h : Fin 8) (n : ℕ) (q : Fin 4096) (d : Fin 256) (hq : q.val < 512 * n) :
    dQ (qpad X0 X1 h) (Kh X2 X3 h n) (Wh X4 h n) (Dh X5 h) (Th X0 X1 X2 X3 X4 X5 h) (Lh X0 X1 X2 X3 h) n q d = 0 := by
  unfold dQ
  exact Finset.sum_eq_zero fun a _ => by rw [S_before _ _ _ _ _ _ a q hq, zero_mul]

/-- One key block's step. -/
theorem acc_step (h : Fin 8) (n : ℕ) (hn : n < 8) (Y : Vec Ideal S1x4096x256 .f32)
    (hY : n ≠ 0 → ∀ q d, Y (ix3 one0 q d) = ((acc X0 X1 X2 X3 X4 X5 h n q d : ℝ) : EReal)) (q : Fin 4096) (d : Fin 256) :
    outQ n (bQ (qpad X0 X1 h)) (bK (Kh X2 X3 h n)) (bW (Wh X4 h n)) (bD (Dh X5 h)) (bL (Th X0 X1 X2 X3 X4 X5 h)) (bL (Lh X0 X1 X2 X3 h)) Y (ix3 one0 q d)
      = ((acc X0 X1 X2 X3 X4 X5 h (n + 1) q d : ℝ) : EReal) := by
  rw [outQ_pt _ _ _ _ _ _ n hn]
  have hs : part X0 X1 X2 X3 X4 X5 h (n + 1) q d = part X0 X1 X2 X3 X4 X5 h n q d
      + dQ (qpad X0 X1 h) (Kh X2 X3 h n) (Wh X4 h n) (Dh X5 h) (Th X0 X1 X2 X3 X4 X5 h) (Lh X0 X1 X2 X3 h) n q d := Finset.sum_range_succ _ _
  have held_eq : ¬ q.val < 512 * n → held n Y q d = ((part X0 X1 X2 X3 X4 X5 h n q d : ℝ) : EReal) := fun hq => by
    unfold held
    by_cases h0 : n = 0
    · rw [if_pos h0, h0]
      simp [part]
    · rw [if_neg h0, hY h0]
      unfold acc
      rw [if_neg hq]
  by_cases h1 : q.val < 512 * n
  · rw [if_pos h1, hY (by omega)]
    unfold acc
    rw [if_pos h1, if_pos (by omega), hs, dQ_before X0 X1 X2 X3 X4 X5 h n q d h1, add_zero]
  · rw [if_neg h1, held_eq h1, ← EReal.coe_add, ← hs, ← EReal.coe_mul]
    unfold acc
    by_cases h2 : q.val < 512 * (n + 1)
    · rw [if_pos h2, if_pos h2]
    · rw [if_neg h2, if_neg h2]

end Cert.MlaGrad

end
-- ==== Proof.MlaValue.lean ====
/-
  What the attention backward kernel's arrays hold after its run, and its results.
-/
module

public import proofs.«01_k».proof.Proof.MlaGrad
public import proofs.«01_k».proof.Proof.MlaFrame
public import Idealize.ShloMosaic.Lib.Pipeline.ValueKit

@[expose] public section

set_option maxRecDepth 16384

noncomputable section

namespace Cert.MlaValue

open Cert.MlaKernelIdeal Cert.MlaKernelIdeal.Gen Cert.MlaPure Cert.Reals Cert.MlaRun Cert.MlaVisit Cert.MlaOut Cert.MlaHost Cert.MlaGrad
open Cert.MlaRef (sc dw col ds dqn dqr dkn dkr dv)
open Idealize.ShloMosaic Idealize.ShloMosaic.TcCoe Idealize.SL.Sem Idealize.ShloMosaic.Pointwise Idealize.ShloMosaic.Tactic
open Idealize.ShloMosaic.Pipeline (Dat)

variable (m : (ℓ : Loc nD τ sig) → Buf (Elt Ideal) ℓ) (c : Dev nD)
variable (X0 : S4096x8x128.Idx → ℝ) (X1 : S4096x8x64.Idx → ℝ) (X2 : S4096x8x128.Idx → ℝ) (X3 : S4096x64.Idx → ℝ)
  (X4 : S4096x8x128.Idx → ℝ) (X5 : S4096x1024.Idx → ℝ)
  (h0 : m ((c.tc : Thread nD τ).loc main_arg0) = fun i => ((X0 i : ℝ) : EReal))
  (h1 : m ((c.tc : Thread nD τ).loc main_arg1) = fun i => ((X1 i : ℝ) : EReal))
  (h2 : m ((c.tc : Thread nD τ).loc main_arg2) = fun i => ((X2 i : ℝ) : EReal))
  (h3 : m ((c.tc : Thread nD τ).loc main_arg3) = fun i => ((X3 i : ℝ) : EReal))
  (h4 : m ((c.tc : Thread nD τ).loc main_arg4) = fun i => ((X4 i : ℝ) : EReal))
  (h5 : m ((c.tc : Thread nD τ).loc main_arg5) = fun i => ((X5 i : ℝ) : EReal))

theorem idx : ∀ t : Fin cfg0.N, win0_0.index t = ![t.val / 8, 0, 0] ∧ win0_1.index t = ![t.val / 8, t.val % 8, 0]
    ∧ win0_2.index t = ![t.val / 8, t.val % 8, 0] ∧ win0_3.index t = ![0, t.val / 8] ∧ win0_4.index t = ![t.val / 8, 0, 0]
    ∧ win0_5.index t = ![t.val / 8, 0, 0] ∧ win0_6.index t = ![t.val / 8, 0, 0] ∧ win0_7.index t = ![t.val / 8, t.val % 8, 0]
    ∧ win0_8.index t = ![t.val / 8, t.val % 8, 0] ∧ t.val < 64 :=
  (by decide +kernel : ∀ t : Fin grid0.N, _)

/-- A grid point's head, and its key rows. -/
def head (t : Fin cfg0.N) : Fin 8 := ⟨t.val / 8, by have := (idx t).2.2.2.2.2.2.2.2.2; omega⟩
def krow (t : Fin cfg0.N) (a : Fin 512) : Fin 4096 := ⟨512 * (t.val % 8) + a.val, by omega⟩

theorem krow_eq (t : Fin cfg0.N) (a : Fin 512) : krow t a = row (512 * (t.val % 8) + a.val) := Fin.ext (row_val (by omega)).symm

section
include h0 h1 h2 h3 h4 h5

theorem blk0 (t : Fin cfg0.N) : iblk m c 0 t = bQ (qpad X0 X1 (head t)) := by
  funext y
  have h : iblk m c 0 t y = V m c main_v64 (ix3 (head t) (y 1) (y 2)) := by blk_ext [iblk, idx t, head]
  rw [h, (entry_real X0 X1 X2 X3 X4 X5 m c h0 h1 h2 h3 h4 h5).1]
  rfl
theorem blk1 (t : Fin cfg0.N) : iblk m c 1 t = bK (Kh X2 X3 (head t) (t.val % 8)) := by
  funext y
  have h : iblk m c 1 t y = V m c main_v65 (ix3 (head t) (krow t (y 1)) (y 2)) := by blk_ext [iblk, idx t, head, krow]
  rw [h, (entry_real X0 X1 X2 X3 X4 X5 m c h0 h1 h2 h3 h4 h5).2.1]
  exact congrArg (fun r : Fin 4096 => ((kpad X2 X3 (head t) r (y 2) : ℝ) : EReal)) (krow_eq t (y 1))
theorem blk2 (t : Fin cfg0.N) : iblk m c 2 t = bW (Wh X4 (head t) (t.val % 8)) := by
  funext y
  have h : iblk m c 2 t y = V m c main_v67 (ix3 (head t) (krow t (y 1)) (y 2)) := by blk_ext [iblk, idx t, head, krow]
  rw [h, (entry_real X0 X1 X2 X3 X4 X5 m c h0 h1 h2 h3 h4 h5).2.2.1]
  exact congrArg (fun r : Fin 4096 => ((X4 (ix3 r (head t) (y 2)) : ℝ) : EReal)) (krow_eq t (y 1))
theorem blk3 (t : Fin cfg0.N) : iblk m c 3 t = bD (Dh X5 (head t)) := by
  funext y
  have h : iblk m c 3 t y = V m c main_v68 (ix2 (y 0) (col (head t) (y 1))) := by blk_ext [iblk, idx t, head, col]
  rw [h, (entry_real X0 X1 X2 X3 X4 X5 m c h0 h1 h2 h3 h4 h5).2.2.2.1]
  rfl
theorem blk4 (t : Fin cfg0.N) : iblk m c 4 t = bL (Th X0 X1 X2 X3 X4 X5 (head t)) := by
  funext y
  have h : iblk m c 4 t y = V m c main_v71 (ix3 (head t) (y 1) (y 2)) := by blk_ext [iblk, idx t, head]
  rw [h, (entry_real X0 X1 X2 X3 X4 X5 m c h0 h1 h2 h3 h4 h5).2.2.2.2.2]
  rfl
theorem blk5 (t : Fin cfg0.N) : iblk m c 5 t = bL (Lh X0 X1 X2 X3 (head t)) := by
  funext y
  have h : iblk m c 5 t y = V m c main_v74 (ix3 (head t) (y 1) (y 2)) := by blk_ext [iblk, idx t, head]
  rw [h, (entry_real X0 X1 X2 X3 X4 X5 m c h0 h1 h2 h3 h4 h5).2.2.2.2.1]
  rfl

/-- `dq`'s block after every grid point. -/
theorem accQ_eq (n : ℕ) (hn : n < cfg0.N) (q : Fin 4096) (d : Fin 256) :
    accQ m c n hn (ix3 one0 q d) = ((acc X0 X1 X2 X3 X4 X5 (head ⟨n, hn⟩) (n % 8 + 1) q d : ℝ) : EReal) := by
  induction n generalizing q d with
  | zero =>
    unfold accQ
    rw [blk0 m c X0 X1 X2 X3 X4 X5 h0 h1 h2 h3 h4 h5, blk1 m c X0 X1 X2 X3 X4 X5 h0 h1 h2 h3 h4 h5, blk2 m c X0 X1 X2 X3 X4 X5 h0 h1 h2 h3 h4 h5, blk3 m c X0 X1 X2 X3 X4 X5 h0 h1 h2 h3 h4 h5, blk4 m c X0 X1 X2 X3 X4 X5 h0 h1 h2 h3 h4 h5, blk5 m c X0 X1 X2 X3 X4 X5 h0 h1 h2 h3 h4 h5]
    exact acc_step X0 X1 X2 X3 X4 X5 _ 0 (by omega) _ (fun h => absurd rfl h) q d
  | succ n ih =>
    unfold accQ
    rw [blk0 m c X0 X1 X2 X3 X4 X5 h0 h1 h2 h3 h4 h5, blk1 m c X0 X1 X2 X3 X4 X5 h0 h1 h2 h3 h4 h5, blk2 m c X0 X1 X2 X3 X4 X5 h0 h1 h2 h3 h4 h5, blk3 m c X0 X1 X2 X3 X4 X5 h0 h1 h2 h3 h4 h5, blk4 m c X0 X1 X2 X3 X4 X5 h0 h1 h2 h3 h4 h5, blk5 m c X0 X1 X2 X3 X4 X5 h0 h1 h2 h3 h4 h5]
    refine acc_step X0 X1 X2 X3 X4 X5 _ ((n + 1) % 8) (by omega) _ (fun hk q d => ?_) q d
    rw [ih (Nat.lt_of_succ_lt hn)]
    have e1 : n % 8 + 1 = (n + 1) % 8 := by omega
    have e2 : head ⟨n, Nat.lt_of_succ_lt hn⟩ = head ⟨n + 1, hn⟩ := Fin.ext (by show n / 8 = (n + 1) / 8; omega)
    rw [e1, e2]

end

/-- The three arrays after the launch. -/
def DQ (i : S8x4096x256.Idx) : EReal :=
  (((∑ k, dsc (sc X0 X1 X2 X3 (i 0) (i 1)) (dw X4 X5 (i 0) (i 1)) (i 1) k * kpad X2 X3 (i 0) k (i 2)) * scale : ℝ) : EReal)
def DK (i : S8x4096x256.Idx) : EReal :=
  (((∑ q, dsc (sc X0 X1 X2 X3 (i 0) q) (dw X4 X5 (i 0) q) q (i 1) * qpad X0 X1 (i 0) q (i 2)) * scale : ℝ) : EReal)
def DV (i : S8x4096x128.Idx) : EReal :=
  ((∑ q, soft (sc X0 X1 X2 X3 (i 0) q) q (i 1) * X5 (ix2 q (col (i 0) (i 2))) : ℝ) : EReal)

theorem emb6 (t : Fin cfg0.N) (y : S1x4096x256.Idx) : ((cfg0.win 6).blk t).view.emb y = (ix3 (head t) (y 1) (y 2) : S8x4096x256.Idx) := by
  blk_ext [idx t, head]
theorem emb7 (t : Fin cfg0.N) (y : S1x512x256.Idx) : ((cfg0.win 7).blk t).view.emb y = (ix3 (head t) (krow t (y 1)) (y 2) : S8x4096x256.Idx) := by
  blk_ext [idx t, head, krow]
theorem emb8 (t : Fin cfg0.N) (y : S1x512x128.Idx) : ((cfg0.win 8).blk t).view.emb y = (ix3 (head t) (krow t (y 1)) (y 2) : S8x4096x128.Idx) := by
  blk_ext [idx t, head, krow]

theorem one0_eq (y : Fin 1) : y = one0 := Subsingleton.elim _ _

section
include h0 h1 h2 h3 h4 h5

theorem final6 : (dats m 0 c).arrAt 6 (cfgs 0).N = DQ X0 X1 X2 X3 X4 X5 := by
  refine (dats m 0 c).arrAt_eq_of_covers 6 _ (by decide +kernel) fun t hf y => ?_
  refine Eq.trans ?_ (congrArg (DQ X0 X1 X2 X3 X4 X5) (emb6 t y).symm)
  have ht : t.val % 8 = 7 := (flush0_6 t).1 hf
  obtain ⟨y0, y1, y2, rfl⟩ : ∃ (a : Fin 1) (b : Fin 4096) (d : Fin 256), y = ix3 a b d := ⟨y 0, y 1, y 2, by ext k; fin_cases k <;> rfl⟩
  obtain rfl := one0_eq y0
  blk_simp
  rw [after_6, accQ_eq m c X0 X1 X2 X3 X4 X5 h0 h1 h2 h3 h4 h5, ht, acc_all]
  rfl

theorem final7 : (dats m 0 c).arrAt 7 (cfgs 0).N = DK X0 X1 X2 X3 X4 X5 := by
  refine (dats m 0 c).arrAt_eq_of_covers 7 _ (by decide +kernel) fun t hf y => ?_
  refine Eq.trans ?_ (congrArg (DK X0 X1 X2 X3 X4 X5) (emb7 t y).symm)
  obtain ⟨y0, y1, y2, rfl⟩ : ∃ (a : Fin 1) (b : Fin 512) (d : Fin 256), y = ix3 a b d := ⟨y 0, y 1, y 2, by ext k; fin_cases k <;> rfl⟩
  obtain rfl := one0_eq y0
  blk_simp
  rw [after_7, blk0 m c X0 X1 X2 X3 X4 X5 h0 h1 h2 h3 h4 h5, blk1 m c X0 X1 X2 X3 X4 X5 h0 h1 h2 h3 h4 h5, blk2 m c X0 X1 X2 X3 X4 X5 h0 h1 h2 h3 h4 h5, blk3 m c X0 X1 X2 X3 X4 X5 h0 h1 h2 h3 h4 h5, blk4 m c X0 X1 X2 X3 X4 X5 h0 h1 h2 h3 h4 h5, blk5 m c X0 X1 X2 X3 X4 X5 h0 h1 h2 h3 h4 h5,
    outK_pt _ _ _ _ _ _ _ (by omega)]
  simp only [S_dsc X0 X1 X2 X3 X4 X5 (head t) (t.val % 8) (by omega)]
  rw [← krow_eq]
  rfl

theorem final8 : (dats m 0 c).arrAt 8 (cfgs 0).N = DV X0 X1 X2 X3 X5 := by
  refine (dats m 0 c).arrAt_eq_of_covers 8 _ (by decide +kernel) fun t hf y => ?_
  refine Eq.trans ?_ (congrArg (DV X0 X1 X2 X3 X5) (emb8 t y).symm)
  obtain ⟨y0, y1, y2, rfl⟩ : ∃ (a : Fin 1) (b : Fin 512) (d : Fin 128), y = ix3 a b d := ⟨y 0, y 1, y 2, by ext k; fin_cases k <;> rfl⟩
  obtain rfl := one0_eq y0
  blk_simp
  rw [after_8, blk0 m c X0 X1 X2 X3 X4 X5 h0 h1 h2 h3 h4 h5, blk1 m c X0 X1 X2 X3 X4 X5 h0 h1 h2 h3 h4 h5, blk3 m c X0 X1 X2 X3 X4 X5 h0 h1 h2 h3 h4 h5, blk5 m c X0 X1 X2 X3 X4 X5 h0 h1 h2 h3 h4 h5,
    outV_pt _ _ _ _ _ (by omega)]
  simp only [P_soft X0 X1 X2 X3 (head t) (t.val % 8) (by omega)]
  rw [← krow_eq]
  rfl

end

end Cert.MlaValue

end
-- ==== Proof.MlaTail.lean ====
/-
  The attention backward kernel's results: its padded arrays cut and transposed, and the whole run.
-/
module

public import proofs.«01_k».proof.Proof.MlaValue

@[expose] public section

set_option maxRecDepth 16384

noncomputable section

namespace Cert.MlaTail

open Cert.MlaKernelIdeal Cert.MlaKernelIdeal.Gen Cert.MlaPure Cert.Reals Cert.MlaRun Cert.MlaHost Cert.MlaValue
open Cert.MlaRef (sc dw col ds dqn dqr dkn dkr dv)
open Idealize.ShloMosaic Idealize.ShloMosaic.TcCoe Idealize.SL.Sem Idealize.ShloMosaic.Pointwise Idealize.ShloMosaic.Tactic

variable (X0 : S4096x8x128.Idx → ℝ) (X1 : S4096x8x64.Idx → ℝ) (X2 : S4096x8x128.Idx → ℝ) (X3 : S4096x64.Idx → ℝ)
  (X4 : S4096x8x128.Idx → ℝ) (X5 : S4096x1024.Idx → ℝ)

theorem kpad_low (h : Fin 8) (k : Fin 4096) (x : Fin 128) (hx : x.val < 256) : kpad X2 X3 h k ⟨x.val, hx⟩ = X2 (ix3 k h x) := by
  unfold kpad
  rw [dif_pos x.isLt]
theorem qpad_low (h : Fin 8) (q : Fin 4096) (x : Fin 128) (hx : x.val < 256) : qpad X0 X1 h q ⟨x.val, hx⟩ = X0 (ix3 q h x) := by
  unfold qpad
  rw [dif_pos x.isLt]
theorem kpad_high (h : Fin 8) (k : Fin 4096) (x : Fin 64) (hx : 128 + x.val < 256) : kpad X2 X3 h k ⟨128 + x.val, hx⟩ = X3 (ix2 k x) := by
  unfold kpad
  have h1 : ¬ 128 + x.val < 128 := by omega
  have h2 : 128 + x.val < 192 := by omega
  rw [dif_neg h1, dif_pos h2]
  exact congrArg (fun z => X3 (ix2 k z)) (Fin.ext (by show 128 + x.val - 128 = x.val; omega))
theorem qpad_high (h : Fin 8) (q : Fin 4096) (x : Fin 64) (hx : 128 + x.val < 256) : qpad X0 X1 h q ⟨128 + x.val, hx⟩ = X1 (ix3 q h x) := by
  unfold qpad
  have h1 : ¬ 128 + x.val < 128 := by omega
  have h2 : 128 + x.val < 192 := by omega
  rw [dif_neg h1, dif_pos h2]
  exact congrArg (fun z => X1 (ix3 q h z)) (Fin.ext (by show 128 + x.val - 128 = x.val; omega))

/-- The first 128 columns of a padded array, the row before the head. -/
def plain (D : FVec Ideal S8x4096x256 .f32) : FVec Ideal S4096x8x128 .f32 :=
  transpose S4096x8x128 [1, 0, 2] (extractStridedSlice S8x4096x128 ![0, 0, 0] D slices_S8x4096x256_S8x4096x128_0_0_0) transposes_S8x4096x128_S4096x8x128_1_0_2
/-- The next 64. -/
def rotary (D : FVec Ideal S8x4096x256 .f32) : FVec Ideal S4096x8x64 .f32 :=
  transpose S4096x8x64 [1, 0, 2] (extractStridedSlice S8x4096x64 ![0, 0, 128] D slices_S8x4096x256_S8x4096x64_0_0_128) transposes_S8x4096x64_S4096x8x64_1_0_2
/-- Their sum over the heads. -/
def rotarySum (D : FVec Ideal S8x4096x256 .f32) : FVec Ideal S4096x64 .f32 :=
  Host.reduceAdd (extractStridedSlice S8x4096x64 ![0, 0, 128] D slices_S8x4096x256_S8x4096x64_0_0_128) (constant S_ .f32 0x00000000#32) reducesTo_S8x4096x64_S4096x64_d0 h_S_
/-- The row before the head. -/
def turn (D : FVec Ideal S8x4096x128 .f32) : FVec Ideal S4096x8x128 .f32 := transpose S4096x8x128 [1, 0, 2] D transposes_S8x4096x128_S4096x8x128_1_0_2

theorem turn_dv : turn (DV X0 X1 X2 X3 X5) = fun i : S4096x8x128.Idx => ((dv X0 X1 X2 X3 X5 i : ℝ) : EReal) := by
  funext i
  idx_vars i
  show (_ : EReal) = _
  pointwise [turn]
  rfl

theorem plain_dq : plain (DQ X0 X1 X2 X3 X4 X5) = fun i : S4096x8x128.Idx => ((dqn X0 X1 X2 X3 X4 X5 i : ℝ) : EReal) := by
  funext i
  idx_vars i
  show (_ : EReal) = _
  pointwise [plain]
  refine congrArg (fun z : ℝ => (z : EReal)) ?_
  unfold dqn ds
  rw [Finset.sum_mul]
  refine Finset.sum_congr rfl fun k _ => ?_
  rw [mul_right_comm]
  exact congrArg (fun z => _ * scale * z) (kpad_low X2 X3 _ k _ _)

theorem rotary_dq : rotary (DQ X0 X1 X2 X3 X4 X5) = fun i : S4096x8x64.Idx => ((dqr X0 X1 X2 X3 X4 X5 i : ℝ) : EReal) := by
  funext i
  idx_vars i
  show (_ : EReal) = _
  pointwise [rotary]
  refine congrArg (fun z : ℝ => (z : EReal)) ?_
  unfold dqr ds
  rw [Finset.sum_mul]
  refine Finset.sum_congr rfl fun k _ => ?_
  rw [mul_right_comm]
  exact congrArg (fun z => _ * scale * z) (kpad_high X2 X3 _ k _ _)

theorem plain_dk : plain (DK X0 X1 X2 X3 X4 X5) = fun i : S4096x8x128.Idx => ((dkn X0 X1 X2 X3 X4 X5 i : ℝ) : EReal) := by
  funext i
  idx_vars i
  show (_ : EReal) = _
  pointwise [plain]
  refine congrArg (fun z : ℝ => (z : EReal)) ?_
  unfold dkn ds
  rw [Finset.sum_mul]
  refine Finset.sum_congr rfl fun q _ => ?_
  rw [mul_right_comm]
  exact congrArg (fun z => _ * scale * z) (qpad_low X0 X1 _ q _ _)

theorem rotary_dk : rotarySum (DK X0 X1 X2 X3 X4 X5) = fun i : S4096x64.Idx => ((dkr X0 X1 X2 X3 X4 X5 i : ℝ) : EReal) := by
  funext i
  idx_vars i
  show (_ : EReal) = _
  pointwise [rotarySum]
  unfold DK dkr ds
  rw [coe_sum]
  refine congrArg (fun z : ℝ => (z : EReal)) (Finset.sum_congr rfl fun h _ => ?_)
  rw [Finset.sum_mul]
  refine Finset.sum_congr rfl fun q _ => ?_
  rw [mul_right_comm]
  exact congrArg (fun z => _ * scale * z) (qpad_high X0 X1 _ q _ _)

variable (m : (ℓ : Loc nD τ sig) → Buf (Elt Ideal) ℓ)

/-- What the host lines after the launch leave. -/
theorem tail (c : Dev nD) :
    Pipeline.afterTail₀ cfgs (dats m) 0 (V0 m) [hostOps1] c main_v77 = plain ((dats m 0 c).arrAt 6 (cfgs 0).N)
    ∧ Pipeline.afterTail₀ cfgs (dats m) 0 (V0 m) [hostOps1] c main_v79 = rotary ((dats m 0 c).arrAt 6 (cfgs 0).N)
    ∧ Pipeline.afterTail₀ cfgs (dats m) 0 (V0 m) [hostOps1] c main_v81 = plain ((dats m 0 c).arrAt 7 (cfgs 0).N)
    ∧ Pipeline.afterTail₀ cfgs (dats m) 0 (V0 m) [hostOps1] c main_v83 = rotarySum ((dats m 0 c).arrAt 7 (cfgs 0).N)
    ∧ Pipeline.afterTail₀ cfgs (dats m) 0 (V0 m) [hostOps1] c main_v84 = turn ((dats m 0 c).arrAt 8 (cfgs 0).N) := by
  have e6 := Pipeline.withArrays_arr spec0 launch0.win.arr_inj c (V0 m c) (fun w => (dats m 0 c).arrAt w (cfgs 0).N) 6
  have e7 := Pipeline.withArrays_arr spec0 launch0.win.arr_inj c (V0 m c) (fun w => (dats m 0 c).arrAt w (cfgs 0).N) 7
  have e8 := Pipeline.withArrays_arr spec0 launch0.win.arr_inj c (V0 m c) (fun w => (dats m 0 c).arrAt w (cfgs 0).N) 8
  rw [← e6, ← e7, ← e8]
  unfold Pipeline.afterTail₀
  generalize Pipeline.withArrays spec0 c (V0 m c) (fun w => (dats m 0 c).arrAt w (cfgs 0).N) = W
  refine ⟨?_, ?_, ?_, ?_, ?_⟩ <;>
  (show StableHlo.after (List.flatten [hostOps1]) W (Proc.devRef .tc _) = _
   simp only [hostOps1, List.flatten_cons, List.flatten_nil, List.append_nil, List.cons_append, List.nil_append]
   after_results_simp <;> rfl)

/-- The kernel's run, each result at its real-valued form. -/
theorem ker_run (ρ : Dev nD → PrngReg) (hm : ∀ c : Dev nD, m ((c.tc : Thread nD τ).loc main_arg0) = (fun i => ((X0 i : ℝ) : EReal)) ∧ m ((c.tc : Thread nD τ).loc main_arg1) = (fun i => ((X1 i : ℝ) : EReal)) ∧ m ((c.tc : Thread nD τ).loc main_arg2) = (fun i => ((X2 i : ℝ) : EReal)) ∧ m ((c.tc : Thread nD τ).loc main_arg3) = (fun i => ((X3 i : ℝ) : EReal)) ∧ m ((c.tc : Thread nD τ).loc main_arg4) = (fun i => ((X4 i : ℝ) : EReal)) ∧ m ((c.tc : Thread nD τ).loc main_arg5) = (fun i => ((X5 i : ℝ) : EReal))) :
    θ_run defs (onTc (τ := τ) (main (F := Ideal))) ⟨m, fun _ => 0, ρ⟩ fun r => ∀ c : Dev nD,
      r.2.mem ((c.tc : Thread nD τ).loc main_v77) = (fun i : S4096x8x128.Idx => ((dqn X0 X1 X2 X3 X4 X5 i : ℝ) : EReal))
      ∧ r.2.mem ((c.tc : Thread nD τ).loc main_v79) = (fun i : S4096x8x64.Idx => ((dqr X0 X1 X2 X3 X4 X5 i : ℝ) : EReal))
      ∧ r.2.mem ((c.tc : Thread nD τ).loc main_v81) = (fun i : S4096x8x128.Idx => ((dkn X0 X1 X2 X3 X4 X5 i : ℝ) : EReal))
      ∧ r.2.mem ((c.tc : Thread nD τ).loc main_v83) = (fun i : S4096x64.Idx => ((dkr X0 X1 X2 X3 X4 X5 i : ℝ) : EReal))
      ∧ r.2.mem ((c.tc : Thread nD τ).loc main_v84) = (fun i : S4096x8x128.Idx => ((dv X0 X1 X2 X3 X5 i : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run_main m ρ)
  obtain ⟨h0, h1, h2, h3, h4, h5⟩ := hm c
  obtain ⟨t0, t1, t2, t3, t4⟩ := tail m c
  have f6 := final6 m c X0 X1 X2 X3 X4 X5 h0 h1 h2 h3 h4 h5
  have f7 := final7 m c X0 X1 X2 X3 X4 X5 h0 h1 h2 h3 h4 h5
  have f8 := final8 m c X0 X1 X2 X3 X4 X5 h0 h1 h2 h3 h4 h5
  have hp : Pipeline.FramePost cfgs (dats m) 0 (Pipeline.afterTail₀ cfgs (dats m) 0 (V0 m) [hostOps1]) r := h
  exact ⟨(hp.rest_eq c main_v77 (by decide)).trans (t0.trans ((congrArg plain f6).trans (plain_dq X0 X1 X2 X3 X4 X5))),
    (hp.rest_eq c main_v79 (by decide)).trans (t1.trans ((congrArg rotary f6).trans (rotary_dq X0 X1 X2 X3 X4 X5))),
    (hp.rest_eq c main_v81 (by decide)).trans (t2.trans ((congrArg plain f7).trans (plain_dk X0 X1 X2 X3 X4 X5))),
    (hp.rest_eq c main_v83 (by decide)).trans (t3.trans ((congrArg rotarySum f7).trans (rotary_dk X0 X1 X2 X3 X4 X5))),
    (hp.rest_eq c main_v84 (by decide)).trans (t4.trans ((congrArg turn f8).trans (turn_dv X0 X1 X2 X3 X5))),
    (hp.rest_eq c main_arg0 (by decide)).trans (W_main_arg0 m (dats m) c),
    (hp.rest_eq c main_arg1 (by decide)).trans (W_main_arg1 m (dats m) c),
    (hp.rest_eq c main_arg2 (by decide)).trans (W_main_arg2 m (dats m) c),
    (hp.rest_eq c main_arg3 (by decide)).trans (W_main_arg3 m (dats m) c),
    (hp.rest_eq c main_arg4 (by decide)).trans (W_main_arg4 m (dats m) c),
    (hp.rest_eq c main_arg5 (by decide)).trans (W_main_arg5 m (dats m) c)⟩

end Cert.MlaTail

end
-- ==== Proof.MlaClaim.lean ====
/- The attention backward kernel's results are the reference's. -/
module

public import proofs.«01_k».proof.Defs
public import proofs.«01_k».proof.Proof.MlaTail
public import proofs.«01_k».proof.Proof.Gen.MlaRefIdeal

@[expose] public section

set_option maxRecDepth 16384

noncomputable section

open Idealize.ShloMosaic Idealize.ShloMosaic.TcCoe Idealize.SL.Sem

namespace Cert.MlaRef

open Cert.MlaRefIdeal Cert.MlaRefIdeal.Value

/-- The reference's run, each result at its real-valued form. -/
theorem ref_run (m : (ℓ : Loc nD τ sig) → Buf (Elt Ideal) ℓ) (X0 : S4096x8x128.Idx → ℝ) (X1 : S4096x8x64.Idx → ℝ) (X2 : S4096x8x128.Idx → ℝ) (X3 : S4096x64.Idx → ℝ)
  (X4 : S4096x8x128.Idx → ℝ) (X5 : S4096x1024.Idx → ℝ) (ρ : Dev nD → PrngReg)
    (hm : ∀ c : Dev nD, m ((c.tc : Thread nD τ).loc main_arg0) = (fun i => ((X0 i : ℝ) : EReal)) ∧ m ((c.tc : Thread nD τ).loc main_arg1) = (fun i => ((X1 i : ℝ) : EReal)) ∧ m ((c.tc : Thread nD τ).loc main_arg2) = (fun i => ((X2 i : ℝ) : EReal)) ∧ m ((c.tc : Thread nD τ).loc main_arg3) = (fun i => ((X3 i : ℝ) : EReal)) ∧ m ((c.tc : Thread nD τ).loc main_arg4) = (fun i => ((X4 i : ℝ) : EReal)) ∧ m ((c.tc : Thread nD τ).loc main_arg5) = (fun i => ((X5 i : ℝ) : EReal))) :
    θ_run defs (onTc (τ := τ) (main (F := Ideal))) ⟨m, fun _ => 0, ρ⟩ fun r => ∀ c : Dev nD,
      r.2.mem ((c.tc : Thread nD τ).loc main_v71) = (fun i : S4096x8x128.Idx => ((dqn X0 X1 X2 X3 X4 X5 i : ℝ) : EReal))
      ∧ r.2.mem ((c.tc : Thread nD τ).loc main_v66) = (fun i : S4096x8x64.Idx => ((dqr X0 X1 X2 X3 X4 X5 i : ℝ) : EReal))
      ∧ r.2.mem ((c.tc : Thread nD τ).loc main_v69) = (fun i : S4096x8x128.Idx => ((dkn X0 X1 X2 X3 X4 X5 i : ℝ) : EReal))
      ∧ r.2.mem ((c.tc : Thread nD τ).loc main_v67) = (fun i : S4096x64.Idx => ((dkr X0 X1 X2 X3 X4 X5 i : ℝ) : EReal))
      ∧ r.2.mem ((c.tc : Thread nD τ).loc main_v49) = (fun i : S4096x8x128.Idx => ((dv X0 X1 X2 X3 X5 i : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run m ρ)
  obtain ⟨r0, r1, r2, r3, r4, rest⟩ := h c
  obtain ⟨h0, h1, h2, h3, h4, h5⟩ := hm c
  exact ⟨r0.trans (res_dqn X0 X1 X2 X3 X4 X5 m c h0 h1 h2 h3 h4 h5), r1.trans (res_dqr X0 X1 X2 X3 X4 X5 m c h0 h1 h2 h3 h4 h5),
    r2.trans (res_dkn X0 X1 X2 X3 X4 X5 m c h0 h1 h2 h3 h4 h5), r3.trans (res_dkr X0 X1 X2 X3 X4 X5 m c h0 h1 h2 h3 h4 h5),
    r4.trans (res_dv X0 X1 X2 X3 X5 m c h0 h1 h2 h3 h5), rest⟩

end Cert.MlaRef

namespace Cert.MlaClaim

instance pre : Cert.Pre_mla_finite.Facts where
  bcast_S_S4096x8x128 := by decide
  bcast_S_S4096x8x64 := by decide
  bcast_S_S4096x64 := by decide
  bcast_S_S4096x1024 := by decide

theorem algebraic : Cert.algebraic_MlaKernelIdeal_MlaRefIdeal_pre_mla_finite := by
  intro m g m' g' hpre hagree
  have hreal : ∃ (X0 : Cert.MlaKernelIdeal.S4096x8x128.Idx → ℝ) (X1 : Cert.MlaKernelIdeal.S4096x8x64.Idx → ℝ) (X2 : Cert.MlaKernelIdeal.S4096x8x128.Idx → ℝ) (X3 : Cert.MlaKernelIdeal.S4096x64.Idx → ℝ) (X4 : Cert.MlaKernelIdeal.S4096x8x128.Idx → ℝ) (X5 : Cert.MlaKernelIdeal.S4096x1024.Idx → ℝ),
      ∀ c : Dev Cert.MlaKernelIdeal.nD, m ((c.tc : Thread Cert.MlaKernelIdeal.nD Cert.MlaKernelIdeal.τ).loc Cert.MlaKernelIdeal.main_arg0) = (fun i => ((X0 i : ℝ) : EReal)) ∧ m ((c.tc : Thread Cert.MlaKernelIdeal.nD Cert.MlaKernelIdeal.τ).loc Cert.MlaKernelIdeal.main_arg1) = (fun i => ((X1 i : ℝ) : EReal)) ∧ m ((c.tc : Thread Cert.MlaKernelIdeal.nD Cert.MlaKernelIdeal.τ).loc Cert.MlaKernelIdeal.main_arg2) = (fun i => ((X2 i : ℝ) : EReal)) ∧ m ((c.tc : Thread Cert.MlaKernelIdeal.nD Cert.MlaKernelIdeal.τ).loc Cert.MlaKernelIdeal.main_arg3) = (fun i => ((X3 i : ℝ) : EReal)) ∧ m ((c.tc : Thread Cert.MlaKernelIdeal.nD Cert.MlaKernelIdeal.τ).loc Cert.MlaKernelIdeal.main_arg4) = (fun i => ((X4 i : ℝ) : EReal)) ∧ m ((c.tc : Thread Cert.MlaKernelIdeal.nD Cert.MlaKernelIdeal.τ).loc Cert.MlaKernelIdeal.main_arg5) = (fun i => ((X5 i : ℝ) : EReal)) := by
    obtain ⟨h0, h1, h2, h3, h4, h5⟩ := hpre 0
    obtain ⟨X0, e0⟩ := Cert.Reals.exists_real _ _ h0
    obtain ⟨X1, e1⟩ := Cert.Reals.exists_real _ _ h1
    obtain ⟨X2, e2⟩ := Cert.Reals.exists_real _ _ h2
    obtain ⟨X3, e3⟩ := Cert.Reals.exists_real _ _ h3
    obtain ⟨X4, e4⟩ := Cert.Reals.exists_real _ _ h4
    obtain ⟨X5, e5⟩ := Cert.Reals.exists_real _ _ h5
    refine ⟨X0, X1, X2, X3, X4, X5, fun c => ?_⟩
    obtain rfl : c = 0 := Subsingleton.elim _ _
    exact ⟨e0, e1, e2, e3, e4, e5⟩
  obtain ⟨X0, X1, X2, X3, X4, X5, hm⟩ := hreal
  refine ⟨_, _, _, _, _, Cert.MlaTail.ker_run X0 X1 X2 X3 X4 X5 m g hm, Cert.MlaRef.ref_run m' X0 X1 X2 X3 X4 X5 g' fun c => ?_⟩
  obtain ⟨h0, h1, h2, h3, h4, h5⟩ := hm c
  obtain ⟨a0, a1, a2, a3, a4, a5⟩ := hagree c
  exact ⟨a0.trans h0, a1.trans h1, a2.trans h2, a3.trans h3, a4.trans h4, a5.trans h5⟩

theorem preserves : Cert.preserves_MlaKernel_MlaKernelIdeal :=
  ⟨IdealRules.named_const.statement _ _ _ _ _ rfl, IdealRules.named_const.statement _ _ _ _ _ rfl, IdealRules.named_const.statement _ _ _ _ _ rfl⟩

end Cert.MlaClaim

end
-- ==== Proof.InpPure.lean ====
/- The last gradient of a layer: the products over the projection's columns, and the gradient of the row's normalisation. -/
module

public import proofs.«01_k».proof.Proof.Reals
public import proofs.«01_k».proof.Proof.Gen.InpRefIdeal.Run
public import proofs.«01_k».proof.Proof.Gen.InpKernelIdeal.Value
public import Idealize.ShloMosaic.Lib.Pipeline.ValueKit

@[expose] public section

set_option maxRecDepth 16384

noncomputable section

open Idealize.ShloMosaic Idealize.ShloMosaic.TcCoe Idealize.SL.Sem
open Cert.Reals

namespace Cert.InpPure

abbrev Row := Fin 2048 → ℝ
/-- One row's part of the gradient of the gain. -/
def dgr (d x : Row) (j : Fin 2048) : ℝ := d j * (x j * rn 2048 eps x)
/-- The gradient of one row. -/
def dxr (d x o g : Row) (j : Fin 2048) : ℝ :=
  o j + rn 2048 eps x * (d j * g j - x j * rn 2048 eps x * ((∑ k, d k * g k * (x k * rn 2048 eps x)) / 2048))

/-- A row of the projection's columns in the kernel's order, 64 zeros among them. -/
def cpad (f : Fin 4032 → ℝ) (q : Fin 4096) : ℝ :=
  if h : q.val < 1024 then f ⟨q.val, by omega⟩
  else if h1 : q.val < 2048 then f ⟨q.val - 1024 + 1280, by omega⟩
  else if h2 : q.val < 3072 then f ⟨q.val - 2048 + 3008, by omega⟩
  else if h3 : q.val < 3776 then f ⟨q.val - 3072 + 2304, by omega⟩
  else if q.val < 3840 then 0
  else f ⟨q.val - 3840 + 1024, by omega⟩

theorem cpad_a (f : Fin 4032 → ℝ) (q : Fin 4096) (h : q.val < 1024) : cpad f q = f ⟨q.val, by omega⟩ := dif_pos h
theorem cpad_b (f : Fin 4032 → ℝ) (q : Fin 4096) (h : 1024 ≤ q.val) (h1 : q.val < 2048) : cpad f q = f ⟨q.val - 1024 + 1280, by omega⟩ := by
  unfold cpad; rw [dif_neg (by omega), dif_pos h1]
theorem cpad_c (f : Fin 4032 → ℝ) (q : Fin 4096) (h : 2048 ≤ q.val) (h1 : q.val < 3072) : cpad f q = f ⟨q.val - 2048 + 3008, by omega⟩ := by
  unfold cpad; rw [dif_neg (by omega), dif_neg (by omega), dif_pos h1]
theorem cpad_d (f : Fin 4032 → ℝ) (q : Fin 4096) (h : 3072 ≤ q.val) (h1 : q.val < 3776) : cpad f q = f ⟨q.val - 3072 + 2304, by omega⟩ := by
  unfold cpad; rw [dif_neg (by omega), dif_neg (by omega), dif_neg (by omega), dif_pos h1]
theorem cpad_z (f : Fin 4032 → ℝ) (q : Fin 4096) (h : 3776 ≤ q.val) (h1 : q.val < 3840) : cpad f q = 0 := by
  unfold cpad; rw [dif_neg (by omega), dif_neg (by omega), dif_neg (by omega), dif_neg (by omega), if_pos h1]
theorem cpad_e (f : Fin 4032 → ℝ) (q : Fin 4096) (h : 3840 ≤ q.val) : cpad f q = f ⟨q.val - 3840 + 1024, by omega⟩ := by
  unfold cpad; rw [dif_neg (by omega), dif_neg (by omega), dif_neg (by omega), dif_neg (by omega), if_neg (by omega)]

/-- The pieces laid side by side are the padded row. -/
theorem cpad_chain (f : Fin 4032 → ℝ) (q : Fin 4096) :
    (if h : q.val < 1024 then ((f ⟨q.val, by omega⟩ : ℝ) : EReal)
      else if h : q.val - 1024 < 1024 then ((f ⟨1280 + (q.val - 1024), by omega⟩ : ℝ) : EReal)
      else if h : q.val - 1024 - 1024 < 1024 then ((f ⟨3008 + (q.val - 1024 - 1024), by omega⟩ : ℝ) : EReal)
      else if h : q.val - 1024 - 1024 - 1024 < 704 then ((f ⟨2304 + (q.val - 1024 - 1024 - 1024), by omega⟩ : ℝ) : EReal)
      else if h : q.val - 1024 - 1024 - 1024 - 704 < 64 then 0
      else ((f ⟨1024 + (q.val - 1024 - 1024 - 1024 - 704 - 64), by omega⟩ : ℝ) : EReal)) = ((cpad f q : ℝ) : EReal) := by
  unfold cpad
  split_ifs <;> first
    | (exfalso; omega)
    | rfl
    | exact EReal.coe_zero.symm
    | exact congrArg (fun z => ((f z : ℝ) : EReal)) (Fin.ext (by show _ + (_ - _) = _ - _ + _; omega))

/-- The five products over the kernel's columns make the product over the reference's. -/
theorem five (f g : Fin 4032 → ℝ) :
    (∑ k : Fin 1024, cpad f ⟨k.val, by omega⟩ * cpad g ⟨k.val, by omega⟩)
      + (∑ k : Fin 1024, cpad f ⟨1024 + k.val, by omega⟩ * cpad g ⟨1024 + k.val, by omega⟩)
      + (∑ k : Fin 1024, cpad f ⟨2048 + k.val, by omega⟩ * cpad g ⟨2048 + k.val, by omega⟩)
      + (∑ k : Fin 768, cpad f ⟨3072 + k.val, by omega⟩ * cpad g ⟨3072 + k.val, by omega⟩)
      + (∑ k : Fin 256, cpad f ⟨3840 + k.val, by omega⟩ * cpad g ⟨3840 + k.val, by omega⟩)
    = ∑ k, f k * g k := by
  have hs : ∀ F : Fin 4032 → ℝ, ∑ k, F k = (∑ k : Fin 1024, F ⟨k.val, by omega⟩) + ((∑ k : Fin 256, F ⟨1024 + k.val, by omega⟩)
      + ((∑ k : Fin 1024, F ⟨1280 + k.val, by omega⟩) + ((∑ k : Fin 704, F ⟨2304 + k.val, by omega⟩) + ∑ k : Fin 1024, F ⟨3008 + k.val, by omega⟩))) := fun F => by
    rw [show ∑ k, F k = ∑ k : Fin (1024 + (256 + (1024 + (704 + 1024)))), F k from rfl, Fin.sum_univ_add, Fin.sum_univ_add, Fin.sum_univ_add, Fin.sum_univ_add]
    refine congrArg₂ _ rfl (congrArg₂ _ rfl (congrArg₂ _ ?_ (congrArg₂ _ ?_ ?_))) <;>
      refine Finset.sum_congr rfl fun k _ => congrArg F (Fin.ext ?_) <;> simp [Fin.natAdd] <;> omega
  have h4 : (∑ k : Fin 768, cpad f ⟨3072 + k.val, by omega⟩ * cpad g ⟨3072 + k.val, by omega⟩)
      = ∑ k : Fin 704, f ⟨2304 + k.val, by omega⟩ * g ⟨2304 + k.val, by omega⟩ := by
    rw [show (∑ k : Fin 768, cpad f ⟨3072 + k.val, by omega⟩ * cpad g ⟨3072 + k.val, by omega⟩)
      = ∑ k : Fin (704 + 64), cpad f ⟨3072 + k.val, by omega⟩ * cpad g ⟨3072 + k.val, by omega⟩ from rfl, Fin.sum_univ_add]
    have hz : ∀ k : Fin 64, cpad f ⟨3072 + (Fin.natAdd 704 k).val, by omega⟩ * cpad g ⟨3072 + (Fin.natAdd 704 k).val, by omega⟩ = 0 := fun k => by
      have e : (Fin.natAdd 704 k).val = 704 + k.val := rfl
      rw [cpad_z f _ (by show 3776 ≤ 3072 + (Fin.natAdd 704 k).val; omega) (by show 3072 + (Fin.natAdd 704 k).val < 3840; omega), zero_mul]
    simp only [hz, Finset.sum_const_zero, add_zero]
    refine Finset.sum_congr rfl fun k _ => ?_
    have e : (Fin.castAdd 64 k).val = k.val := rfl
    rw [cpad_d f _ (by show 3072 ≤ 3072 + _; omega) (by show 3072 + (Fin.castAdd 64 k).val < 3776; omega),
      cpad_d g _ (by show 3072 ≤ 3072 + _; omega) (by show 3072 + (Fin.castAdd 64 k).val < 3776; omega)]
    refine congrArg₂ (fun a b => f a * g b) (Fin.ext ?_) (Fin.ext ?_) <;> simp <;> omega
  rw [hs fun k => f k * g k, h4]
  have h1 : (∑ k : Fin 1024, cpad f ⟨k.val, by omega⟩ * cpad g ⟨k.val, by omega⟩) = ∑ k : Fin 1024, f ⟨k.val, by omega⟩ * g ⟨k.val, by omega⟩ :=
    Finset.sum_congr rfl fun k _ => by rw [cpad_a f _ k.isLt, cpad_a g _ k.isLt]
  have h2 : (∑ k : Fin 1024, cpad f ⟨1024 + k.val, by omega⟩ * cpad g ⟨1024 + k.val, by omega⟩) = ∑ k : Fin 1024, f ⟨1280 + k.val, by omega⟩ * g ⟨1280 + k.val, by omega⟩ :=
    Finset.sum_congr rfl fun k _ => by
      rw [cpad_b f _ (by show 1024 ≤ 1024 + _; omega) (by show 1024 + k.val < 2048; omega), cpad_b g _ (by show 1024 ≤ 1024 + _; omega) (by show 1024 + k.val < 2048; omega)]
      refine congrArg₂ (fun a b => f a * g b) (Fin.ext ?_) (Fin.ext ?_) <;> simp <;> omega
  have h3 : (∑ k : Fin 1024, cpad f ⟨2048 + k.val, by omega⟩ * cpad g ⟨2048 + k.val, by omega⟩) = ∑ k : Fin 1024, f ⟨3008 + k.val, by omega⟩ * g ⟨3008 + k.val, by omega⟩ :=
    Finset.sum_congr rfl fun k _ => by
      rw [cpad_c f _ (by show 2048 ≤ 2048 + _; omega) (by show 2048 + k.val < 3072; omega), cpad_c g _ (by show 2048 ≤ 2048 + _; omega) (by show 2048 + k.val < 3072; omega)]
      refine congrArg₂ (fun a b => f a * g b) (Fin.ext ?_) (Fin.ext ?_) <;> simp <;> omega
  have h5 : (∑ k : Fin 256, cpad f ⟨3840 + k.val, by omega⟩ * cpad g ⟨3840 + k.val, by omega⟩) = ∑ k : Fin 256, f ⟨1024 + k.val, by omega⟩ * g ⟨1024 + k.val, by omega⟩ :=
    Finset.sum_congr rfl fun k _ => by
      rw [cpad_e f _ (by show 3840 ≤ 3840 + _; omega), cpad_e g _ (by show 3840 ≤ 3840 + _; omega)]
      refine congrArg₂ (fun a b => f a * g b) (Fin.ext ?_) (Fin.ext ?_) <;> simp <;> omega
  rw [h1, h2, h3, h5]
  ring

section
open Cert.InpKernelIdeal Cert.InpKernelIdeal.Gen
variable (a b : FVec Ideal S256x2048 .f32) (x o : Vec Ideal S256x2048 .f32) (g : Vec Ideal S1x2048 .f32)
  (D X O : S256x2048.Idx → ℝ) (G : S1x2048.Idx → ℝ)
  (hD : k0_pay4 (F := Ideal) a b = fun i => ((D i : ℝ) : EReal)) (hX : x = fun i => ((X i : ℝ) : EReal))

include hD hX in
theorem ker_dg (acc : Vec Ideal S1x2048 .f32) (j : Fin 2048) :
    k0_pay7 (F := Ideal) a b x acc (ix2 0 j)
      = acc (ix2 0 j) + ((∑ i, dgr (fun k => D (ix2 i k)) (fun k => X (ix2 i k)) j : ℝ) : EReal) := by
  subst hX
  pointwise [k0_pay7, k0_pay6, k0_pay5, hD]
  simp only [ofBits_2048, ofBits_eps, rn_c, ← EReal.coe_mul, ← EReal.coe_sub, ← EReal.coe_add, coe_sum, div_2048]
  rfl

include hD hX in
theorem ker_dx (hO : o = fun i => ((O i : ℝ) : EReal)) (hG : g = fun i => ((G i : ℝ) : EReal)) (i : Fin 256) (j : Fin 2048) :
    k0_pay8 (F := Ideal) a b x o g (ix2 i j)
      = ((dxr (fun k => D (ix2 i k)) (fun k => X (ix2 i k)) (fun k => O (ix2 i k)) (fun k => G (ix2 0 k)) j : ℝ) : EReal) := by
  subst hX hO hG
  pointwise [k0_pay8, k0_pay6, k0_pay5, hD]
  simp only [ofBits_2048, ofBits_eps, rn_c, ← EReal.coe_mul, ← EReal.coe_sub, ← EReal.coe_add, coe_sum, div_2048]
  rfl
end

section
open Cert.InpRefIdeal Cert.InpRefIdeal.Gen Cert.InpRefIdeal.Value
variable (m : (ℓ : Loc nD τ sig) → Buf (Elt Ideal) ℓ) (c : Dev nD)
variable (P : S4096x4032.Idx → ℝ) (W : S2048x4032.Idx → ℝ) (X O : S4096x2048.Idx → ℝ) (G : S2048.Idx → ℝ)
  (hP : m ((c.tc : Thread nD τ).loc main_arg0) = fun i => ((P i : ℝ) : EReal))
  (hW : m ((c.tc : Thread nD τ).loc main_arg1) = fun i => ((W i : ℝ) : EReal))
  (hX : m ((c.tc : Thread nD τ).loc main_arg2) = fun i => ((X i : ℝ) : EReal))
  (hO : m ((c.tc : Thread nD τ).loc main_arg3) = fun i => ((O i : ℝ) : EReal))
  (hG : m ((c.tc : Thread nD τ).loc main_arg4) = fun i => ((G i : ℝ) : EReal))

/-- The gradient of the normalised rows. -/
def dh (i : Fin 4096) (j : Fin 2048) : ℝ := ∑ k, P (ix2 i k) * W (ix2 j k)

/-- The gradient at an index. -/
def DX (i : Fin 4096) (j : Fin 2048) : ℝ := dxr (dh P W i) (fun k => X (ix2 i k)) (fun k => O (ix2 i k)) (fun k => G (ix1 k)) j
/-- The gradient of the gain at an index. -/
def DG (j : Fin 2048) : ℝ := ∑ i, dgr (dh P W i) (fun k => X (ix2 i k)) j

section
include hP hW hX hO hG
theorem ref_dx (i : Fin 4096) (j : Fin 2048) :
    (show FVec Ideal S4096x2048 .f32 from res_main_v38 (F := Ideal) m c) (ix2 i j) = ((DX P W X O G i j : ℝ) : EReal) := by
  show (_ : EReal) = _
  unfold res_main_v38
  rw [hP, hW, hX, hO, hG]
  pointwise
  simp only [ofBits_2048, ofBits_eps, ofBits_neg_half, rn_c, ← EReal.coe_mul, ← EReal.coe_sub, ← EReal.coe_add, coe_sum, div_2048, div_ms]
  simp only [Finset.univ_unique, Finset.sum_singleton]
  refine congrArg _ ?_
  have := rms_bwd n2048 eps_pos (fun x => X (ix2 i x)) (fun k => dh P W i k * G (ix1 k)) j
  unfold DX dxr
  rw [← this]
  simp only [add_assoc]
  rfl

theorem ref_dxb (i : Fin 4096) (j : Fin 2048) :
    (show FVec Ideal S4096x2048 .bf16 from res_main_v39 (F := Ideal) m c) (ix2 i j) = ((DX P W X O G i j : ℝ) : EReal) := by
  refine Eq.trans ?_ (ref_dx m c P W X O G hP hW hX hO hG i j)
  unfold res_main_v38 res_main_v39
  rfl
end

/-- The reference's run, each result at its real-valued form. -/
theorem ref_run (ρ : Dev nD → PrngReg) (hm : ∀ c : Dev nD,
      m ((c.tc : Thread nD τ).loc main_arg0) = (fun i => ((P i : ℝ) : EReal))
      ∧ m ((c.tc : Thread nD τ).loc main_arg1) = (fun i => ((W i : ℝ) : EReal))
      ∧ m ((c.tc : Thread nD τ).loc main_arg2) = (fun i => ((X i : ℝ) : EReal))
      ∧ m ((c.tc : Thread nD τ).loc main_arg3) = (fun i => ((O i : ℝ) : EReal))
      ∧ m ((c.tc : Thread nD τ).loc main_arg4) = (fun i => ((G i : ℝ) : EReal))) :
    θ_run defs (onTc (τ := τ) (main (F := Ideal))) ⟨m, fun _ => 0, ρ⟩ fun r => ∀ c : Dev nD,
      r.2.mem ((c.tc : Thread nD τ).loc main_v38) = (fun i : S4096x2048.Idx => ((DX P W X O G (i 0) (i 1) : ℝ) : EReal))
      ∧ r.2.mem ((c.tc : Thread nD τ).loc main_v39) = (fun i : S4096x2048.Idx => ((DX P W X O G (i 0) (i 1) : ℝ) : EReal))
      ∧ r.2.mem ((c.tc : Thread nD τ).loc main_v40) = (fun i : S1x2048.Idx => ((DG P W X (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run m ρ)
  obtain ⟨h0, h1, h2, h3⟩ := h c
  obtain ⟨hP, hW, hX, hO, hG⟩ := hm c
  refine ⟨h0.trans ?_, h1.trans ?_, h2.trans ?_, h3⟩
  · funext i; idx_vars i
    exact ref_dx m c P W X O G hP hW hX hO hG _ _
  · funext i; idx_vars i
    exact ref_dxb m c P W X O G hP hW hX hO hG _ _
  · funext i; idx_vars i
    show (_ : EReal) = _
    rw [hP, hW, hX]
    pointwise
    simp only [ofBits_2048, ofBits_eps, rn_c, ← EReal.coe_mul, ← EReal.coe_sub, ← EReal.coe_add, coe_sum, div_2048]
    simp only [Finset.univ_unique, Finset.sum_singleton]
    refine congrArg _ (Finset.sum_congr rfl fun k _ => ?_)
    unfold dgr
    rw [mul_comm]
    rfl
end

end Cert.InpPure

end
-- ==== Proof.InpValue.lean ====
/- What the arrays of the last gradient's kernel hold after its run. -/
module

public import proofs.«01_k».proof.Proof.InpPure

@[expose] public section

set_option maxRecDepth 16384

noncomputable section

open Idealize.ShloMosaic Idealize.ShloMosaic.TcCoe Idealize.SL.Sem Idealize.ShloMosaic.Tactic
open Idealize.ShloMosaic.Pipeline (Dat)
open Cert.Reals Cert.InpPure

namespace Cert.InpValue

open Cert.InpKernelIdeal Cert.InpKernelIdeal.Gen

/-- The cotangent's columns in the kernel's order. -/
def packP (a : FVec Ideal S4096x4032 .f32) : FVec Ideal S4096x4096 .f32 :=
  concatenate S4096x4096 1 [⟨S4096x1024, extractStridedSlice S4096x1024 ![0, 0] a slices_S4096x4032_S4096x1024_0_0⟩,
    ⟨S4096x1024, extractStridedSlice S4096x1024 ![0, 1280] a slices_S4096x4032_S4096x1024_0_1280⟩,
    ⟨S4096x1024, extractStridedSlice S4096x1024 ![0, 3008] a slices_S4096x4032_S4096x1024_0_3008⟩,
    ⟨S4096x704, extractStridedSlice S4096x704 ![0, 2304] a slices_S4096x4032_S4096x704_0_2304⟩,
    ⟨S4096x64, broadcastInDim S4096x64 ![] bcast_S_S4096x64 (constant S_ .f32 0x00000000#32)⟩,
    ⟨S4096x256, extractStridedSlice S4096x256 ![0, 1024] a slices_S4096x4032_S4096x256_0_1024⟩]
    concatenates_S4096x1024_S4096x1024_S4096x1024_S4096x704_S4096x64_S4096x256_S4096x4096_d1

/-- The weight's columns in the kernel's order. -/
def packW (a : FVec Ideal S2048x4032 .f32) : FVec Ideal S2048x4096 .f32 :=
  concatenate S2048x4096 1 [⟨S2048x1024, extractStridedSlice S2048x1024 ![0, 0] a slices_S2048x4032_S2048x1024_0_0⟩,
    ⟨S2048x1024, extractStridedSlice S2048x1024 ![0, 1280] a slices_S2048x4032_S2048x1024_0_1280⟩,
    ⟨S2048x1024, extractStridedSlice S2048x1024 ![0, 3008] a slices_S2048x4032_S2048x1024_0_3008⟩,
    ⟨S2048x704, extractStridedSlice S2048x704 ![0, 2304] a slices_S2048x4032_S2048x704_0_2304⟩,
    ⟨S2048x64, broadcastInDim S2048x64 ![] bcast_S_S2048x64 (constant S_ .f32 0x00000000#32)⟩,
    ⟨S2048x256, extractStridedSlice S2048x256 ![0, 1024] a slices_S2048x4032_S2048x256_0_1024⟩]
    concatenates_S2048x1024_S2048x1024_S2048x1024_S2048x704_S2048x64_S2048x256_S2048x4096_d1

theorem packP_eq (X : S4096x4032.Idx → ℝ) :
    packP (fun i => ↑(X i)) = fun i : S4096x4096.Idx => ((cpad (fun k => X (ix2 (i 0) k)) (i 1) : ℝ) : EReal) := by
  funext i
  idx_vars i
  show (_ : EReal) = _
  pointwise [packP]
  exact cpad_chain (fun k => X (ix2 i0 k)) i1

theorem packW_eq (X : S2048x4032.Idx → ℝ) :
    packW (fun i => ↑(X i)) = fun i : S2048x4096.Idx => ((cpad (fun k => X (ix2 (i 0) k)) (i 1) : ℝ) : EReal) := by
  funext i
  idx_vars i
  show (_ : EReal) = _
  pointwise [packW]
  exact cpad_chain (fun k => X (ix2 i0 k)) i1

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![t.val, 0] ∧ win0_9.index t = ![t.val, 0] ∧ win0_10.index t = ![0, 0] ∧ t.val < 16 :=
  (by decide +kernel : ∀ t : Fin grid0.N, _)

/-- Row `r` of block `t`. -/
def row (t : Fin cfg0.N) (r : Fin 256) : Fin 4096 := ⟨t.val * 256 + r.val, by have := (idx t).2.2.2.2.2.2.2.2.2.2.2; omega⟩

theorem entry :
    (V m c main_v16 = extractStridedSlice S4096x1024 ![0, 0] (truncf .bf16 (packP (m ((c.tc : Thread nD τ).loc main_arg0))) bitsLt_bf16_f32) slices_S4096x4096_S4096x1024_0_0)
    ∧ (V m c main_v17 = extractStridedSlice S4096x2048 ![0, 1024] (truncf .bf16 (packP (m ((c.tc : Thread nD τ).loc main_arg0))) bitsLt_bf16_f32) slices_S4096x4096_S4096x2048_0_1024)
    ∧ (V m c main_v18 = extractStridedSlice S4096x768 ![0, 3072] (truncf .bf16 (packP (m ((c.tc : Thread nD τ).loc main_arg0))) bitsLt_bf16_f32) slices_S4096x4096_S4096x768_0_3072)
    ∧ (V m c main_v19 = extractStridedSlice S4096x256 ![0, 3840] (truncf .bf16 (packP (m ((c.tc : Thread nD τ).loc main_arg0))) bitsLt_bf16_f32) slices_S4096x4096_S4096x256_0_3840)
    ∧ (V m c main_v15 = truncf .bf16 (packW (m ((c.tc : Thread nD τ).loc main_arg1))) bitsLt_bf16_f32)
    ∧ (V m c main_v20 = shapeCast S1x2048 (m ((c.tc : Thread nD τ).loc main_arg4)) shapeCasts_S2048_S1x2048) := by
  refine ⟨?_, ?_, ?_, ?_, ?_, ?_⟩ <;>
  (show StableHlo.after (List.flatten [hostOps0]) (fun b => m (c, b)) (Proc.devRef .tc _) = _
   simp only [hostOps0, List.flatten_cons, List.flatten_nil, List.append_nil, List.cons_append, List.nil_append]
   after_results_simp <;> rfl)

variable (P : S4096x4032.Idx → ℝ) (W : S2048x4032.Idx → ℝ) (X O : S4096x2048.Idx → ℝ) (G : S2048.Idx → ℝ)
  (hP : m ((c.tc : Thread nD τ).loc main_arg0) = fun i => ((P i : ℝ) : EReal))
  (hW : m ((c.tc : Thread nD τ).loc main_arg1) = fun i => ((W i : ℝ) : EReal))
  (hX : m ((c.tc : Thread nD τ).loc main_arg2) = fun i => ((X i : ℝ) : EReal))
  (hO : m ((c.tc : Thread nD τ).loc main_arg3) = fun i => ((O i : ℝ) : EReal))
  (hG : m ((c.tc : Thread nD τ).loc main_arg4) = fun i => ((G i : ℝ) : EReal))

section
include hP
theorem ent16 : V m c main_v16 = fun i : S4096x1024.Idx => ((cpad (fun k => P (ix2 (i 0) k)) ⟨(i 1).val, by have := (i 1).isLt; show (i 1).val < 4096; change (i 1).val < 1024 at this; omega⟩ : ℝ) : EReal) := by
  rw [(entry m c).1, hP, packP_eq]
  funext i
  idx_vars i
  show (_ : EReal) = _
  pointwise
theorem ent17 : V m c main_v17 = fun i : S4096x2048.Idx => ((cpad (fun k => P (ix2 (i 0) k)) ⟨1024 + (i 1).val, by have := (i 1).isLt; show 1024 + (i 1).val < 4096; change (i 1).val < 2048 at this; omega⟩ : ℝ) : EReal) := by
  rw [(entry m c).2.1, hP, packP_eq]
  funext i
  idx_vars i
  show (_ : EReal) = _
  pointwise
theorem ent18 : V m c main_v18 = fun i : S4096x768.Idx => ((cpad (fun k => P (ix2 (i 0) k)) ⟨3072 + (i 1).val, by have := (i 1).isLt; show 3072 + (i 1).val < 4096; change (i 1).val < 768 at this; omega⟩ : ℝ) : EReal) := by
  rw [(entry m c).2.2.1, hP, packP_eq]
  funext i
  idx_vars i
  show (_ : EReal) = _
  pointwise
theorem ent19 : V m c main_v19 = fun i : S4096x256.Idx => ((cpad (fun k => P (ix2 (i 0) k)) ⟨3840 + (i 1).val, by have := (i 1).isLt; show 3840 + (i 1).val < 4096; change (i 1).val < 256 at this; omega⟩ : ℝ) : EReal) := by
  rw [(entry m c).2.2.2.1, hP, packP_eq]
  funext i
  idx_vars i
  show (_ : EReal) = _
  pointwise
end

include hP hW in
theorem dh_blk (t : Fin cfg0.N) :
    k0_pay4 (F := Ideal) (k0_pay2 (iblk m c 0 t) (View.ld (iblk m c 4 t) (Rect.unit ![0, 0] ![2048, 1024] inb_S2048x4096_S2048x1024_0_0))
        (View.ld (iblk m c 1 t) (Rect.unit ![0, 0] ![256, 1024] inb_S256x2048_S256x1024_0_0))
        (View.ld (iblk m c 4 t) (Rect.unit ![0, 1024] ![2048, 1024] inb_S2048x4096_S2048x1024_0_1024))
        (View.ld (iblk m c 1 t) (Rect.unit ![0, 1024] ![256, 1024] inb_S256x2048_S256x1024_0_1024))
        (View.ld (iblk m c 4 t) (Rect.unit ![0, 2048] ![2048, 1024] inb_S2048x4096_S2048x1024_0_2048)) (iblk m c 2 t)
        (View.ld (iblk m c 4 t) (Rect.unit ![0, 3072] ![2048, 768] inb_S2048x4096_S2048x768_0_3072)))
      (k0_pay3 (iblk m c 3 t)
        (View.ld (iblk m c 4 t) (Rect.unit ![0, 3840] ![2048, 256] inb_S2048x4096_S2048x256_0_3840)))
    = fun y : S256x2048.Idx => ((dh P W (row t (y 0)) (y 1) : ℝ) : EReal) := by
  have e0 : ∀ (r : Fin 256) (k : Fin 1024), (show EReal from iblk m c 0 t (ix2 r k)) = ((cpad (fun k => P (ix2 (row t r) k)) ⟨k.val, by omega⟩ : ℝ) : EReal) := fun r k => by
    have h : iblk m c 0 t (ix2 r k) = V m c main_v16 (ix2 (row t r) k) := by blk_ext [iblk, idx t, row]
    exact h.trans (congrFun (ent16 m c P hP) _)
  have e1 : ∀ (r : Fin 256) (k : Fin 2048), (show EReal from iblk m c 1 t (ix2 r k)) = ((cpad (fun k => P (ix2 (row t r) k)) ⟨1024 + k.val, by omega⟩ : ℝ) : EReal) := fun r k => by
    have h : iblk m c 1 t (ix2 r k) = V m c main_v17 (ix2 (row t r) k) := by blk_ext [iblk, idx t, row]
    exact h.trans (congrFun (ent17 m c P hP) _)
  have e2 : ∀ (r : Fin 256) (k : Fin 768), (show EReal from iblk m c 2 t (ix2 r k)) = ((cpad (fun k => P (ix2 (row t r) k)) ⟨3072 + k.val, by omega⟩ : ℝ) : EReal) := fun r k => by
    have h : iblk m c 2 t (ix2 r k) = V m c main_v18 (ix2 (row t r) k) := by blk_ext [iblk, idx t, row]
    exact h.trans (congrFun (ent18 m c P hP) _)
  have e3 : ∀ (r : Fin 256) (k : Fin 256), (show EReal from iblk m c 3 t (ix2 r k)) = ((cpad (fun k => P (ix2 (row t r) k)) ⟨3840 + k.val, by omega⟩ : ℝ) : EReal) := fun r k => by
    have h : iblk m c 3 t (ix2 r k) = V m c main_v19 (ix2 (row t r) k) := by blk_ext [iblk, idx t, row]
    exact h.trans (congrFun (ent19 m c P hP) _)
  have e4 : ∀ (r : Fin 2048) (k : Fin 4096), (show EReal from iblk m c 4 t (ix2 r k)) = ((cpad (fun k => W (ix2 r k)) k : ℝ) : EReal) := fun r k => by
    have h : iblk m c 4 t (ix2 r k) = V m c main_v15 (ix2 r k) := by blk_ext [iblk, idx t]
    refine h.trans ?_
    rw [(entry m c).2.2.2.2.1, hW, packW_eq]
    rfl
  generalize iblk m c 0 t = x0 at *
  generalize iblk m c 1 t = x1 at *
  generalize iblk m c 2 t = x2 at *
  generalize iblk m c 3 t = x3 at *
  generalize iblk m c 4 t = x4 at *
  funext y
  idx_vars y
  show (_ : EReal) = _
  pointwise [k0_pay4, k0_pay2, k0_pay3]
  simp only [e0, e1, e2, e3, e4]
  have h2 : ∀ x : Fin 1024, 1024 + (1024 + x.val) = 2048 + x.val := fun x => by omega
  simp only [h2, ← EReal.coe_mul, coe_sum, ← EReal.coe_add]
  exact congrArg _ (five _ _)

include hX in
theorem blk5 (t : Fin cfg0.N) : iblk m c 5 t = fun y : S256x2048.Idx => ((X (ix2 (row t (y 0)) (y 1)) : ℝ) : EReal) := by
  funext y
  have h : iblk m c 5 t y = m ((c.tc : Thread nD τ).loc main_arg2) (ix2 (row t (y 0)) (y 1)) := by blk_ext [iblk, V, idx t, row]
  rw [h, hX]

include hO in
theorem blk6 (t : Fin cfg0.N) : iblk m c 6 t = fun y : S256x2048.Idx => ((O (ix2 (row t (y 0)) (y 1)) : ℝ) : EReal) := by
  funext y
  have h : iblk m c 6 t y = m ((c.tc : Thread nD τ).loc main_arg3) (ix2 (row t (y 0)) (y 1)) := by blk_ext [iblk, V, idx t, row]
  rw [h, hO]

include hG in
theorem blk7 (t : Fin cfg0.N) : iblk m c 7 t = fun y : S1x2048.Idx => ((G (ix1 (y 1)) : ℝ) : EReal) := by
  funext y
  have h : iblk m c 7 t y = V m c main_v20 (ix2 0 (y 1)) := by blk_ext [iblk, idx t]
  rw [h, (entry m c).2.2.2.2.2, hG]
  show (_ : EReal) = _
  pointwise

/-- The gradient at an array index. -/
def RX (i : S4096x2048.Idx) : EReal := ((DX P W X O G (i 0) (i 1) : ℝ) : EReal)

include hP hW hX hO hG in
theorem point_dx (t : Fin cfg0.N) (y : S256x2048.Idx) :
    k0_pay8 (F := Ideal) (k0_pay2 (iblk m c 0 t) (View.ld (iblk m c 4 t) (Rect.unit ![0, 0] ![2048, 1024] inb_S2048x4096_S2048x1024_0_0))
        (View.ld (iblk m c 1 t) (Rect.unit ![0, 0] ![256, 1024] inb_S256x2048_S256x1024_0_0))
        (View.ld (iblk m c 4 t) (Rect.unit ![0, 1024] ![2048, 1024] inb_S2048x4096_S2048x1024_0_1024))
        (View.ld (iblk m c 1 t) (Rect.unit ![0, 1024] ![256, 1024] inb_S256x2048_S256x1024_0_1024))
        (View.ld (iblk m c 4 t) (Rect.unit ![0, 2048] ![2048, 1024] inb_S2048x4096_S2048x1024_0_2048)) (iblk m c 2 t)
        (View.ld (iblk m c 4 t) (Rect.unit ![0, 3072] ![2048, 768] inb_S2048x4096_S2048x768_0_3072)))
      (k0_pay3 (iblk m c 3 t)
        (View.ld (iblk m c 4 t) (Rect.unit ![0, 3840] ![2048, 256] inb_S2048x4096_S2048x256_0_3840)))
      (iblk m c 5 t) (iblk m c 6 t) (iblk m c 7 t) y = RX P W X O G (ix2 (row t (y 0)) (y 1)) := by
  rw [eq_ix2 y]
  exact ker_dx _ _ _ _ _ _ _ _ _ (dh_blk m c P W hP hW t) (blk5 m c X hX t) (blk6 m c O hO t) (blk7 m c G hG t) (y 0) (y 1)

include hP hW hX in
theorem point_dg (t : Fin cfg0.N) (acc : Vec Ideal S1x2048 .f32) (y : S1x2048.Idx) :
    k0_pay7 (F := Ideal) (k0_pay2 (iblk m c 0 t) (View.ld (iblk m c 4 t) (Rect.unit ![0, 0] ![2048, 1024] inb_S2048x4096_S2048x1024_0_0))
        (View.ld (iblk m c 1 t) (Rect.unit ![0, 0] ![256, 1024] inb_S256x2048_S256x1024_0_0))
        (View.ld (iblk m c 4 t) (Rect.unit ![0, 1024] ![2048, 1024] inb_S2048x4096_S2048x1024_0_1024))
        (View.ld (iblk m c 1 t) (Rect.unit ![0, 1024] ![256, 1024] inb_S256x2048_S256x1024_0_1024))
        (View.ld (iblk m c 4 t) (Rect.unit ![0, 2048] ![2048, 1024] inb_S2048x4096_S2048x1024_0_2048)) (iblk m c 2 t)
        (View.ld (iblk m c 4 t) (Rect.unit ![0, 3072] ![2048, 768] inb_S2048x4096_S2048x768_0_3072)))
      (k0_pay3 (iblk m c 3 t)
        (View.ld (iblk m c 4 t) (Rect.unit ![0, 3840] ![2048, 256] inb_S2048x4096_S2048x256_0_3840)))
      (iblk m c 5 t) acc y = acc y + ((∑ r, dgr (dh P W (row t r)) (fun k => X (ix2 (row t r) k)) (y 1) : ℝ) : EReal) := by
  obtain ⟨a, b, rfl⟩ : ∃ (a : Fin 1) (b : Fin 2048), y = ix2 a b := ⟨y 0, y 1, eq_ix2 y⟩
  obtain rfl : a = 0 := Subsingleton.elim _ _
  exact ker_dg _ _ _ _ _ (dh_blk m c P W hP hW t) (blk5 m c X hX t) acc b

theorem emb8 (t : Fin cfg0.N) (y : S256x2048.Idx) : ((cfg0.win 8).blk t).view.emb y = (ix2 (row t (y 0)) (y 1) : S4096x2048.Idx) := by
  blk_ext [idx t, row]
theorem emb9 (t : Fin cfg0.N) (y : S256x2048.Idx) : ((cfg0.win 9).blk t).view.emb y = (ix2 (row t (y 0)) (y 1) : S4096x2048.Idx) := by
  blk_ext [idx t, row]

include hP hW hX hO hG in
theorem final8 : (dats m 0 c).arrAt 8 (cfgs 0).N = RX P W X O G := by
  refine (dats m 0 c).arrAt_eq_of_covers 8 _ (by decide +kernel) fun t hf y => ?_
  refine Eq.trans ?_ (congrArg (RX P W X O G) (emb8 t y).symm)
  refine Eq.trans ?_ (point_dx m c P W X O G hP hW hX hO hG t y)
  blk_simp
  rw [after0_8]
  by_cases h0 : t.val % 16 = 0
  · rw [outsAt0_A m c t h0]; frame_out; rfl
  · rw [outsAt0_B m c t h0]; frame_out; rfl

include hP hW hX hO hG in
theorem final9 : (dats m 0 c).arrAt 9 (cfgs 0).N = RX P W X O G := by
  refine (dats m 0 c).arrAt_eq_of_covers 9 _ (by decide +kernel) fun t hf y => ?_
  refine Eq.trans ?_ (congrArg (RX P W X O G) (emb9 t y).symm)
  refine Eq.trans ?_ (point_dx m c P W X O G hP hW hX hO hG t y)
  blk_simp
  rw [after0_9]
  by_cases h0 : t.val % 16 = 0
  · rw [outsAt0_A m c t h0]; frame_out; rfl
  · rw [outsAt0_B m c t h0]; frame_out; rfl

/-- The blocks' partial sums make the whole sum. -/
theorem sum_rows (f : Fin 4096 → ℝ) : ∑ p : Fin cfg0.N, ((∑ r, f (row p r) : ℝ) : EReal) = ((∑ a, f a : ℝ) : EReal) := by
  rw [coe_sum]
  refine congrArg _ ?_
  refine Fin.sum_mul_add_congr (fun s k hl => ?_) (congrArg (· * 256) N_0).symm
  rfl

theorem zero1 (j : S1x2048.Idx) : k0_pay1 (F := Ideal) j = 0 := by pointwise [k0_pay1]

include hP hW hX in
theorem final10 : (dats m 0 c).arrAt 10 (cfgs 0).N = fun i : S1x2048.Idx => ((DG P W X (i 1) : ℝ) : EReal) := by
  refine (dats m 0 c).arrAt_eq_of_after_last 10 t0_15 (by decide +kernel) _ fun j => ?_
  blk_simp
  rw [after0_10, Pipeline.eq_sum_fin_of_reset_step_apply_last (fun n h => (outsAt0 m c n h).2.2) 16 (fun _ => 0)
    (fun t j => ((∑ r, dgr (dh P W (row t r)) (fun k => X (ix2 (row t r) k)) (j 1) : ℝ) : EReal))
    (fun t h j => by rw [outsAt0_A m c t h]; frame_out; exact (point_dg m c P W X hP hW hX t _ j).trans (congrArg (· + _) (zero1 j)))
    (fun t h j => by rw [outsAt0_B m c t h]; frame_out; exact point_dg m c P W X hP hW hX t _ j)
    (le_of_eq N_0) t0_15 rfl j, zero_add]
  exact sum_rows fun a => dgr (dh P W a) (fun k => X (ix2 a k)) (j 1)

/-- The kernel's run, each result at its real-valued form. -/
theorem ker_run (ρ : Dev nD → PrngReg) (hm : ∀ c : Dev nD,
      m ((c.tc : Thread nD τ).loc main_arg0) = (fun i => ((P i : ℝ) : EReal))
      ∧ m ((c.tc : Thread nD τ).loc main_arg1) = (fun i => ((W i : ℝ) : EReal))
      ∧ m ((c.tc : Thread nD τ).loc main_arg2) = (fun i => ((X i : ℝ) : EReal))
      ∧ m ((c.tc : Thread nD τ).loc main_arg3) = (fun i => ((O i : ℝ) : EReal))
      ∧ m ((c.tc : Thread nD τ).loc main_arg4) = (fun i => ((G i : ℝ) : EReal))) :
    θ_run defs (onTc (τ := τ) (main (F := Ideal))) ⟨m, fun _ => 0, ρ⟩ fun r => ∀ c : Dev nD,
      r.2.mem ((c.tc : Thread nD τ).loc main_v21_0) = (fun i : S4096x2048.Idx => ((DX P W X O G (i 0) (i 1) : ℝ) : EReal))
      ∧ r.2.mem ((c.tc : Thread nD τ).loc main_v21_1) = (fun i : S4096x2048.Idx => ((DX P W X O G (i 0) (i 1) : ℝ) : EReal))
      ∧ r.2.mem ((c.tc : Thread nD τ).loc main_v21_2) = (fun i : S1x2048.Idx => ((DG P W X (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run_blocks m ρ)
  obtain ⟨h0, h1, h2, h3⟩ := h c
  obtain ⟨hP, hW, hX, hO, hG⟩ := hm c
  exact ⟨h0.trans (final8 m c P W X O G hP hW hX hO hG), h1.trans (final9 m c P W X O G hP hW hX hO hG), h2.trans (final10 m c P W X hP hW hX), h3⟩

end Cert.InpValue

end
-- ==== Proof.InpClaim.lean ====
/- The results of the last gradient's kernel are the reference's. -/
module

public import proofs.«01_k».proof.Defs
public import proofs.«01_k».proof.Proof.InpValue

@[expose] public section

set_option maxRecDepth 16384

noncomputable section

open Idealize.ShloMosaic Idealize.ShloMosaic.TcCoe Idealize.SL.Sem

namespace Cert.InpClaim

instance pre : Cert.Pre_inp_finite.Facts where
  bcast_S_S4096x4032 := by decide
  bcast_S_S2048x4032 := by decide
  bcast_S_S4096x2048 := by decide
  bcast_S_S2048 := by decide

open Cert.InpKernelIdeal in
theorem algebraic : Cert.algebraic_InpKernelIdeal_InpRefIdeal_pre_inp_finite := by
  intro m g m' g' hpre hagree
  have hreal : ∃ (P : S4096x4032.Idx → ℝ) (W : S2048x4032.Idx → ℝ) (X O : S4096x2048.Idx → ℝ) (G : S2048.Idx → ℝ), ∀ c : Dev nD,
      m ((c.tc : Thread nD τ).loc main_arg0) = (fun i => ((P i : ℝ) : EReal))
      ∧ m ((c.tc : Thread nD τ).loc main_arg1) = (fun i => ((W i : ℝ) : EReal))
      ∧ m ((c.tc : Thread nD τ).loc main_arg2) = (fun i => ((X i : ℝ) : EReal))
      ∧ m ((c.tc : Thread nD τ).loc main_arg3) = (fun i => ((O i : ℝ) : EReal))
      ∧ m ((c.tc : Thread nD τ).loc main_arg4) = (fun i => ((G i : ℝ) : EReal)) := by
    obtain ⟨h0, h1, h2, h3, h4⟩ := hpre 0
    obtain ⟨P, hP⟩ := Cert.Reals.exists_real _ _ h0
    obtain ⟨W, hW⟩ := Cert.Reals.exists_real _ _ h1
    obtain ⟨X, hX⟩ := Cert.Reals.exists_real _ _ h2
    obtain ⟨O, hO⟩ := Cert.Reals.exists_real _ _ h3
    obtain ⟨G, hG⟩ := Cert.Reals.exists_real _ _ h4
    refine ⟨P, W, X, O, G, fun c => ?_⟩
    obtain rfl : c = 0 := Subsingleton.elim _ _
    exact ⟨hP, hW, hX, hO, hG⟩
  obtain ⟨P, W, X, O, G, hm⟩ := hreal
  exact ⟨_, _, _, Cert.InpValue.ker_run m P W X O G g hm,
    Cert.InpPure.ref_run m' P W X O G g' fun c =>
      ⟨(hagree c).1.trans (hm c).1, (hagree c).2.1.trans (hm c).2.1, (hagree c).2.2.1.trans (hm c).2.2.1,
        (hagree c).2.2.2.1.trans (hm c).2.2.2.1, (hagree c).2.2.2.2.trans (hm c).2.2.2.2⟩⟩

end Cert.InpClaim

end
-- ==== Proof.GatePure.lean ====
/- The gradient of the two gated outputs: the products with the output weight, the gates' derivatives and the row sums. -/
module

public import proofs.«01_k».proof.Proof.InpValue
public import proofs.«01_k».proof.Proof.Gen.GateRefIdeal.Run
public import proofs.«01_k».proof.Proof.Gen.GateKernelIdeal.Value
public import Idealize.ShloMosaic.Lib.Pipeline.ValueKit

@[expose] public section

set_option maxRecDepth 16384

noncomputable section

open Idealize.ShloMosaic Idealize.ShloMosaic.TcCoe Idealize.SL.Sem Idealize.ShloMosaic.Tactic
open Cert.Reals

namespace Cert.GatePure

/-- The logistic function. -/
def sg (z : ℝ) : ℝ := 1 / (1 + Real.exp (-z))
/-- The gate, `z` times its logistic. -/
def gate (z : ℝ) : ℝ := z * sg z
/-- The gate's derivative. -/
def dgate (z : ℝ) : ℝ := sg z * (1 + z * (1 - sg z))

theorem one_coe : (1 : EReal) = ((1 : ℝ) : EReal) := rfl
theorem div_sg (z : ℝ) : Ideal.div ((1 : ℝ) : EReal) (((1 + Real.exp (-z) : ℝ)) : EReal) = ((sg z : ℝ) : EReal) :=
  div_coe (add_pos one_pos (Real.exp_pos _)).ne'

theorem log_sg (z : ℝ) : Ideal.logistic ((z : ℝ) : EReal) = ((sg z : ℝ) : EReal) := by
  have h := div_sg z
  simp only [EReal.coe_add] at h
  rw [← h]
  rfl

section
open Cert.GateKernelIdeal Cert.GateKernelIdeal.Gen
variable (x0 : Vec Ideal S512x2048 .bf16) (x1 x2 x3 x4 : Vec Ideal S512x1024 .bf16) (x5 : Vec Ideal S2048x2048 .bf16)
  (X0 : S512x2048.Idx → ℝ) (X1 X2 X3 X4 : S512x1024.Idx → ℝ) (X5 : S2048x2048.Idx → ℝ)

/-- The sums of a head's columns, one row of the block after the other. -/
def heads (T : FVec Ideal S512x1024 .f32) (y : S8x8x512.Idx) : EReal :=
  ∑ x : Fin 128, T (ix2 (y 2) (⟨128 * (y 0).val + x.val, by have := (y 0).isLt; change (y 0).val < 8 at this; omega⟩ : Fin 1024))

theorem out9_eq (y : S8x8x512.Idx) :
    out0_9 (F := Ideal) x0 x1 x2 x3 x4 x5 y = heads (k0_pay29 x0 x1 x2 x3 x4 x5) y := by
  have e : k0_pay29 (F := Ideal) x0 x1 x2 x3 x4 x5 = k0_pay18 (k0_pay27 x0 x1 x2 x3 x4 x5) (k0_pay28 x0 x1 x2 x3 x4 x5) (View.ld x4 r0_2) := rfl
  unfold out0_9
  generalize k0_pay27 (F := Ideal) x0 x1 x2 x3 x4 x5 = a at *
  generalize k0_pay28 (F := Ideal) x0 x1 x2 x3 x4 x5 = b at *
  unfold k0_pay19 k0_pay20 k0_pay21
  rw [← e]
  generalize k0_pay29 (F := Ideal) x0 x1 x2 x3 x4 x5 = T
  unfold heads
  canon_tiles x h
  all_goals
    open_payloads
    pointwise
    refine Finset.sum_congr rfl fun k _ => ?_
    blk_ext

variable (h0 : x0 = fun i => ((X0 i : ℝ) : EReal)) (h1 : x1 = fun i => ((X1 i : ℝ) : EReal)) (h2 : x2 = fun i => ((X2 i : ℝ) : EReal))
  (h3 : x3 = fun i => ((X3 i : ℝ) : EReal)) (h4 : x4 = fun i => ((X4 i : ℝ) : EReal)) (h5 : x5 = fun i => ((X5 i : ℝ) : EReal))

include h0 h1 h5 in
theorem out6_eq (i : Fin 512) (j : Fin 1024) : (show EReal from out0_6 (F := Ideal) x0 x1 x2 x3 x4 x5 (ix2 i j))
    = (((∑ k, X0 (ix2 i k) * X5 (ix2 (⟨j.val, by omega⟩ : Fin 2048) k)) * gate (X1 (ix2 i j)) : ℝ) : EReal) := by
  subst h0 h1 h5
  frame_out
  show (_ : EReal) = _
  pointwise [k0_pay7, k0_pay6, k0_pay5, k0_pay4, k0_pay3]
  simp only [log_sg, ← EReal.coe_mul, coe_sum]
  rfl

include h0 h2 h5 in
theorem out7_eq (i : Fin 512) (j : Fin 1024) : (show EReal from out0_7 (F := Ideal) x0 x1 x2 x3 x4 x5 (ix2 i j))
    = (((∑ k, X0 (ix2 i k) * X5 (ix2 (⟨1024 + j.val, by omega⟩ : Fin 2048) k)) * gate (X2 (ix2 i j)) : ℝ) : EReal) := by
  subst h0 h2 h5
  frame_out
  show (_ : EReal) = _
  pointwise [k0_pay27, k0_pay28, k0_pay16, k0_pay15, k0_pay12, k0_pay11, k0_pay10, k0_pay9, k0_pay3]
  simp only [log_sg, ← EReal.coe_mul, coe_sum]
  rfl

include h0 h2 h4 h5 in
theorem prod_eq (i : Fin 512) (j : Fin 1024) : (show EReal from k0_pay29 (F := Ideal) x0 x1 x2 x3 x4 x5 (ix2 i j))
    = (((∑ k, X0 (ix2 i k) * X5 (ix2 (⟨1024 + j.val, by omega⟩ : Fin 2048) k)) * gate (X2 (ix2 i j)) * X4 (ix2 i j) : ℝ) : EReal) := by
  subst h0 h2 h4 h5
  show (_ : EReal) = _
  pointwise [k0_pay29, k0_pay27, k0_pay28, k0_pay18, k0_pay14, k0_pay15, k0_pay12, k0_pay11, k0_pay10, k0_pay9, k0_pay3]
  simp only [log_sg, ← EReal.coe_mul, coe_sum]
  rfl

include h0 h1 h3 h5 in
theorem out8a_eq (i : Fin 512) (j : Fin 1024) : (show EReal from k0_pay8 (F := Ideal) (View.ld x0 r0_0) (View.ld x5 r0_1) (View.ld x1 r0_2) (View.ld x3 r0_2) (ix2 i j))
    = (((∑ k, X0 (ix2 i k) * X5 (ix2 (⟨j.val, by omega⟩ : Fin 2048) k)) * X3 (ix2 i j) * dgate (X1 (ix2 i j)) : ℝ) : EReal) := by
  subst h0 h1 h3 h5
  show (_ : EReal) = _
  pointwise [k0_pay8, k0_pay6, k0_pay5, k0_pay4, k0_pay3]
  simp only [log_sg, one_coe, ← EReal.coe_mul, ← EReal.coe_add, ← EReal.coe_sub, coe_sum]
  rfl

include h0 h2 h4 h5 in
theorem out8b_eq (i : Fin 512) (j : Fin 1024) : (show EReal from k0_pay17 (F := Ideal) (k0_pay27 x0 x1 x2 x3 x4 x5) (k0_pay10 (View.ld x2 r0_2)) (k0_pay11 (View.ld x2 r0_2)) (k0_pay13 (View.ld x2 r0_2)) (View.ld x4 r0_2) (ix2 i j))
    = (((∑ k, X0 (ix2 i k) * X5 (ix2 (⟨1024 + j.val, by omega⟩ : Fin 2048) k)) * X4 (ix2 i j) * dgate (X2 (ix2 i j)) : ℝ) : EReal) := by
  subst h0 h2 h4 h5
  show (_ : EReal) = _
  pointwise [k0_pay27, k0_pay17, k0_pay14, k0_pay13, k0_pay11, k0_pay10, k0_pay9, k0_pay3]
  simp only [log_sg, one_coe, ← EReal.coe_mul, ← EReal.coe_add, ← EReal.coe_sub, coe_sum]
  rfl

/-- The two halves of the gates' gradient, side by side. -/
def halves (a b : Fin 512 → Fin 1024 → EReal) (i : Fin 512) (j : Fin 2048) : EReal :=
  if h : j.val < 1024 then a i ⟨j.val, h⟩ else b i ⟨j.val - 1024, by omega⟩

theorem out8_eq (a b : Fin 512 → Fin 1024 → EReal) (i : Fin 512) (j : Fin 2048)
    (ha : ∀ i j, (show EReal from k0_pay8 (F := Ideal) (View.ld x0 r0_0) (View.ld x5 r0_1) (View.ld x1 r0_2) (View.ld x3 r0_2) (ix2 i j)) = a i j)
    (hb : ∀ i j, (show EReal from k0_pay17 (F := Ideal) (k0_pay27 x0 x1 x2 x3 x4 x5) (k0_pay10 (View.ld x2 r0_2)) (k0_pay11 (View.ld x2 r0_2)) (k0_pay13 (View.ld x2 r0_2)) (View.ld x4 r0_2) (ix2 i j)) = b i j) :
    (show EReal from out0_8 (F := Ideal) x0 x1 x2 x3 x4 x5 (ix2 i j)) = halves a b i j := by
  unfold out0_8
  unfold halves
  show (_ : EReal) = _
  generalize k0_pay8 (F := Ideal) (View.ld x0 r0_0) (View.ld x5 r0_1) (View.ld x1 r0_2) (View.ld x3 r0_2) = p at *
  generalize k0_pay17 (F := Ideal) (k0_pay27 x0 x1 x2 x3 x4 x5) (k0_pay10 (View.ld x2 r0_2)) (k0_pay11 (View.ld x2 r0_2)) (k0_pay13 (View.ld x2 r0_2)) (View.ld x4 r0_2) = q at *
  have k0 : ((ix2 i j : S512x2048.Idx) 0).val = i.val := rfl
  have k1 : ((ix2 i j : S512x2048.Idx) 1).val = j.val := rfl
  canon_tiles x h
  · rw [k0] at *
    rw [k1] at *
    rw [dif_neg (by omega), ← hb]
    blk_ext <;> omega
  · rw [k0] at *
    rw [k1] at *
    rw [dif_pos (by omega), ← ha]
    blk_ext <;> omega

end

section
open Cert.GateRefIdeal Cert.GateRefIdeal.Gen Cert.GateRefIdeal.Value
variable (m : (ℓ : Loc nD τ sig) → Buf (Elt Ideal) ℓ) (c : Dev nD)
variable (D : S4096x2048.Idx → ℝ) (P : S4096x4032.Idx → ℝ) (A B : S4096x1024.Idx → ℝ) (W : S2048x2048.Idx → ℝ)

/-- The gradient of the two gated outputs, side by side. -/
def dy (i : Fin 4096) (j : Fin 2048) : ℝ := ∑ k, D (ix2 i k) * W (ix2 j k)
/-- The first gate's argument. -/
def ga (i : Fin 4096) (j : Fin 1024) : ℝ := P (ix2 i (⟨1280 + j.val, by omega⟩ : Fin 4032))
/-- The second gate's argument. -/
def gb (i : Fin 4096) (j : Fin 1024) : ℝ := P (ix2 i (⟨3008 + j.val, by omega⟩ : Fin 4032))
/-- The gradient of the first output. -/
def doA (i : Fin 4096) (j : Fin 1024) : ℝ := dy D W i ⟨j.val, by omega⟩ * gate (ga P i j)
/-- The gradient of the second output. -/
def doB (i : Fin 4096) (j : Fin 1024) : ℝ := dy D W i ⟨1024 + j.val, by omega⟩ * gate (gb P i j)
/-- The gradient of the first gate's argument. -/
def dgA (i : Fin 4096) (j : Fin 1024) : ℝ := dy D W i ⟨j.val, by omega⟩ * A (ix2 i j) * dgate (ga P i j)
/-- The gradient of the second gate's argument. -/
def dgB (i : Fin 4096) (j : Fin 1024) : ℝ := dy D W i ⟨1024 + j.val, by omega⟩ * B (ix2 i j) * dgate (gb P i j)
/-- The gradient of the gates' arguments, side by side. -/
def dg (i : Fin 4096) (j : Fin 2048) : ℝ := if h : j.val < 1024 then dgA D P A W i ⟨j.val, h⟩ else dgB D P B W i ⟨j.val - 1024, by omega⟩
/-- The second output times its gradient, summed over a head's columns. -/
def dl (h : Fin 8) (i : Fin 4096) : ℝ := ∑ x : Fin 128, doB D P W i ⟨128 * h.val + x.val, by omega⟩ * B (ix2 i (⟨128 * h.val + x.val, by omega⟩ : Fin 1024))

theorem gate_ring (b y g s : ℝ) : b * y * s + g * (b * y) * (s * (1 - s)) = y * b * (s * (1 + g * (1 - s))) := by ring

/-- The reference's run, each result at its real-valued form. -/
theorem ref_run (ρ : Dev nD → PrngReg) (hm : ∀ c : Dev nD,
      m ((c.tc : Thread nD τ).loc main_arg0) = (fun i => ((D i : ℝ) : EReal))
      ∧ m ((c.tc : Thread nD τ).loc main_arg1) = (fun i => ((P i : ℝ) : EReal))
      ∧ m ((c.tc : Thread nD τ).loc main_arg2) = (fun i => ((A i : ℝ) : EReal))
      ∧ m ((c.tc : Thread nD τ).loc main_arg3) = (fun i => ((B i : ℝ) : EReal))
      ∧ m ((c.tc : Thread nD τ).loc main_arg4) = (fun i => ((W i : ℝ) : EReal))) :
    θ_run defs (onTc (τ := τ) (main (F := Ideal))) ⟨m, fun _ => 0, ρ⟩ fun r => ∀ c : Dev nD,
      r.2.mem ((c.tc : Thread nD τ).loc main_v26) = (fun i : S4096x1024.Idx => ((doA D P W (i 0) (i 1) : ℝ) : EReal))
      ∧ r.2.mem ((c.tc : Thread nD τ).loc main_v27) = (fun i : S4096x1024.Idx => ((doB D P W (i 0) (i 1) : ℝ) : EReal))
      ∧ r.2.mem ((c.tc : Thread nD τ).loc main_v29) = (fun i : S4096x2048.Idx => ((dg D P A B W (i 0) (i 1) : ℝ) : EReal))
      ∧ r.2.mem ((c.tc : Thread nD τ).loc main_v32) = (fun i : S8x8x4096.Idx => ((dl D P B W (i 0) (i 2) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run m ρ)
  obtain ⟨e0, e1, e2, e3, e4⟩ := h c
  obtain ⟨hD, hP, hA, hB, hW⟩ := hm c
  refine ⟨e0.trans ?_, e1.trans ?_, e2.trans ?_, e3.trans ?_, e4⟩ <;> rw [hD, hP, hW] <;> (try rw [hB]) <;> (try rw [hA]) <;> clear h e0 e1 e2 e3 e4 <;>
    funext i <;> idx_vars i <;> show (_ : EReal) = _
  · pointwise
    simp only [one_coe, ← EReal.coe_neg, Ideal.exp_coe, ← EReal.coe_add, div_sg, ← EReal.coe_mul, coe_sum]
    rfl
  · pointwise
    simp only [one_coe, ← EReal.coe_neg, Ideal.exp_coe, ← EReal.coe_add, div_sg, ← EReal.coe_mul, coe_sum]
    rfl
  · pointwise
    simp only [one_coe, ← EReal.coe_neg, Ideal.exp_coe, ← EReal.coe_add, div_sg, ← EReal.coe_sub, ← EReal.coe_mul, coe_sum, gate_ring]
    unfold dg
    split <;> rfl
  · pointwise
    simp only [one_coe, ← EReal.coe_neg, Ideal.exp_coe, ← EReal.coe_add, div_sg, ← EReal.coe_mul, coe_sum]
    simp only [Nat.mul_comm _ 128]
    rfl
end
end Cert.GatePure

end
-- ==== Proof.GateValue.lean ====
/- What the arrays of the gates' gradient kernel hold after its run. -/
module

public import proofs.«01_k».proof.Proof.GatePure

@[expose] public section

set_option maxRecDepth 16384

noncomputable section

open Idealize.ShloMosaic Idealize.ShloMosaic.TcCoe Idealize.SL.Sem Idealize.ShloMosaic.Tactic
open Idealize.ShloMosaic.Pipeline (Dat)
open Cert.Reals Cert.InpPure Cert.GatePure

namespace Cert.GateValue

open Cert.GateKernelIdeal Cert.GateKernelIdeal.Gen

variable (m : (ℓ : Loc nD τ sig) → Buf (Elt Ideal) ℓ) (c : Dev nD)

theorem idx : ∀ t : Fin cfg0.N, win0_0.index t = ![t.val, 0] ∧ win0_1.index t = ![t.val, 1] ∧ win0_2.index t = ![t.val, 2]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0, t.val] ∧ t.val < 8 :=
  (by decide +kernel : ∀ t : Fin grid0.N, _)

/-- Row `r` of block `t`. -/
def row (t : Fin cfg0.N) (r : Fin 512) : Fin 4096 := ⟨t.val * 512 + r.val, by have := (idx t).2.2.2.2.2.2.2.2.2.2; omega⟩

theorem entry :
    (V m c main_v0 = (truncf .bf16 (m ((c.tc : Thread nD τ).loc main_arg0) : FVec Ideal S4096x2048 .f32) bitsLt_bf16_f32 : FVec Ideal S4096x2048 .bf16))
    ∧ (V m c main_v8 = truncf .bf16 (Cert.InpValue.packP (m ((c.tc : Thread nD τ).loc main_arg1))) bitsLt_bf16_f32)
    ∧ (V m c main_v9 = (truncf .bf16 (m ((c.tc : Thread nD τ).loc main_arg2) : FVec Ideal S4096x1024 .f32) bitsLt_bf16_f32 : FVec Ideal S4096x1024 .bf16))
    ∧ (V m c main_v10 = (truncf .bf16 (m ((c.tc : Thread nD τ).loc main_arg3) : FVec Ideal S4096x1024 .f32) bitsLt_bf16_f32 : FVec Ideal S4096x1024 .bf16))
    ∧ (V m c main_v11 = (truncf .bf16 (m ((c.tc : Thread nD τ).loc main_arg4) : FVec Ideal S2048x2048 .f32) bitsLt_bf16_f32 : FVec Ideal S2048x2048 .bf16)) := by
  refine ⟨?_, ?_, ?_, ?_, ?_⟩ <;>
  (show StableHlo.after (List.flatten [hostOps0]) (fun b => m (c, b)) (Proc.devRef .tc _) = _
   simp only [hostOps0, List.flatten_cons, List.flatten_nil, List.append_nil, List.cons_append, List.nil_append]
   after_results_simp <;> rfl)

variable (D : S4096x2048.Idx → ℝ) (P : S4096x4032.Idx → ℝ) (A B : S4096x1024.Idx → ℝ) (W : S2048x2048.Idx → ℝ)
  (hD : m ((c.tc : Thread nD τ).loc main_arg0) = fun i => ((D i : ℝ) : EReal))
  (hP : m ((c.tc : Thread nD τ).loc main_arg1) = fun i => ((P i : ℝ) : EReal))
  (hA : m ((c.tc : Thread nD τ).loc main_arg2) = fun i => ((A i : ℝ) : EReal))
  (hB : m ((c.tc : Thread nD τ).loc main_arg3) = fun i => ((B i : ℝ) : EReal))
  (hW : m ((c.tc : Thread nD τ).loc main_arg4) = fun i => ((W i : ℝ) : EReal))

include hD in
theorem ent0 : V m c main_v0 = fun i : S4096x2048.Idx => ((D i : ℝ) : EReal) := by rw [(entry m c).1, hD]; rfl
include hP in
theorem ent8 : V m c main_v8 = fun i : S4096x4096.Idx => ((cpad (fun k => P (ix2 (i 0) k)) (i 1) : ℝ) : EReal) := by rw [(entry m c).2.1, hP, Cert.InpValue.packP_eq]; rfl
include hA in
theorem ent9 : V m c main_v9 = fun i : S4096x1024.Idx => ((A i : ℝ) : EReal) := by rw [(entry m c).2.2.1, hA]; rfl
include hB in
theorem ent10 : V m c main_v10 = fun i : S4096x1024.Idx => ((B i : ℝ) : EReal) := by rw [(entry m c).2.2.2.1, hB]; rfl
include hW in
theorem ent11 : V m c main_v11 = fun i : S2048x2048.Idx => ((W i : ℝ) : EReal) := by rw [(entry m c).2.2.2.2, hW]; rfl

include hD in
theorem blk0 (t : Fin cfg0.N) : iblk m c 0 t = fun y : S512x2048.Idx => ((D (ix2 (row t (y 0)) (y 1)) : ℝ) : EReal) := by
  funext y
  have h : iblk m c 0 t y = V m c main_v0 (ix2 (row t (y 0)) (y 1)) := by blk_ext [iblk, idx t, row]
  exact h.trans (congrFun (ent0 m c D hD) _)

include hP in
theorem blk1 (t : Fin cfg0.N) : iblk m c 1 t = fun y : S512x1024.Idx => ((ga P (row t (y 0)) (y 1) : ℝ) : EReal) := by
  funext y
  obtain ⟨r, k, rfl⟩ : ∃ (a : Fin 512) (b : Fin 1024), y = ix2 a b := ⟨y 0, y 1, eq_ix2 y⟩
  have h : iblk m c 1 t (ix2 r k) = V m c main_v8 (ix2 (row t r) (⟨1024 + k.val, by omega⟩ : Fin 4096)) := by blk_ext [iblk, idx t, row]
  refine h.trans ((congrFun (ent8 m c P hP) _).trans ?_)
  have e := cpad_b (fun k => P (ix2 (row t r) k)) ⟨1024 + k.val, by omega⟩ (by show 1024 ≤ 1024 + k.val; omega) (by show 1024 + k.val < 2048; omega)
  refine congrArg _ (e.trans ?_)
  show P _ = P _
  congr 2
  apply Fin.ext
  simp
  omega

include hP in
theorem blk2 (t : Fin cfg0.N) : iblk m c 2 t = fun y : S512x1024.Idx => ((gb P (row t (y 0)) (y 1) : ℝ) : EReal) := by
  funext y
  obtain ⟨r, k, rfl⟩ : ∃ (a : Fin 512) (b : Fin 1024), y = ix2 a b := ⟨y 0, y 1, eq_ix2 y⟩
  have h : iblk m c 2 t (ix2 r k) = V m c main_v8 (ix2 (row t r) (⟨2048 + k.val, by omega⟩ : Fin 4096)) := by blk_ext [iblk, idx t, row]
  refine h.trans ((congrFun (ent8 m c P hP) _).trans ?_)
  have e := cpad_c (fun k => P (ix2 (row t r) k)) ⟨2048 + k.val, by omega⟩ (by show 2048 ≤ 2048 + k.val; omega) (by show 2048 + k.val < 3072; omega)
  refine congrArg _ (e.trans ?_)
  show P _ = P _
  congr 2
  apply Fin.ext
  simp
  omega

include hA in
theorem blk3 (t : Fin cfg0.N) : iblk m c 3 t = fun y : S512x1024.Idx => ((A (ix2 (row t (y 0)) (y 1)) : ℝ) : EReal) := by
  funext y
  have h : iblk m c 3 t y = V m c main_v9 (ix2 (row t (y 0)) (y 1)) := by blk_ext [iblk, idx t, row]
  exact h.trans (congrFun (ent9 m c A hA) _)

include hB in
theorem blk4 (t : Fin cfg0.N) : iblk m c 4 t = fun y : S512x1024.Idx => ((B (ix2 (row t (y 0)) (y 1)) : ℝ) : EReal) := by
  funext y
  have h : iblk m c 4 t y = V m c main_v10 (ix2 (row t (y 0)) (y 1)) := by blk_ext [iblk, idx t, row]
  exact h.trans (congrFun (ent10 m c B hB) _)

include hW in
theorem blk5 (t : Fin cfg0.N) : iblk m c 5 t = fun y : S2048x2048.Idx => ((W y : ℝ) : EReal) := by
  funext y
  have h : iblk m c 5 t y = V m c main_v11 (ix2 (y 0) (y 1)) := by blk_ext [iblk, idx t]
  refine h.trans ((congrFun (ent11 m c W hW) _).trans ?_)
  exact congrArg (fun i => ((W i : ℝ) : EReal)) (eq_ix2 y).symm

theorem emb6 (t : Fin cfg0.N) (y : S512x1024.Idx) : ((cfg0.win 6).blk t).view.emb y = (ix2 (row t (y 0)) (y 1) : S4096x1024.Idx) := by
  blk_ext [idx t, row]
theorem emb7 (t : Fin cfg0.N) (y : S512x1024.Idx) : ((cfg0.win 7).blk t).view.emb y = (ix2 (row t (y 0)) (y 1) : S4096x1024.Idx) := by
  blk_ext [idx t, row]
theorem emb8 (t : Fin cfg0.N) (y : S512x2048.Idx) : ((cfg0.win 8).blk t).view.emb y = (ix2 (row t (y 0)) (y 1) : S4096x2048.Idx) := by
  blk_ext [idx t, row]
theorem emb9 (t : Fin cfg0.N) (y : S8x8x512.Idx) : ((cfg0.win 9).blk t).view.emb y = (ix3 (y 0) (y 1) (row t (y 2)) : S8x8x4096.Idx) := by
  blk_ext [idx t, row]

/-- The first output's gradient at an array index. -/
def RA (i : S4096x1024.Idx) : EReal := ((doA D P W (i 0) (i 1) : ℝ) : EReal)
/-- The second output's gradient at an array index. -/
def RB (i : S4096x1024.Idx) : EReal := ((doB D P W (i 0) (i 1) : ℝ) : EReal)
/-- The gates' gradient at an array index. -/
def RG (i : S4096x2048.Idx) : EReal := ((dg D P A B W (i 0) (i 1) : ℝ) : EReal)
/-- The heads' sums at an array index. -/
def RL (i : S8x8x4096.Idx) : EReal := ((dl D P B W (i 0) (i 2) : ℝ) : EReal)

include hD hP hW in
theorem final6 : (dats m 0 c).arrAt 6 (cfgs 0).N = RA D P W := by
  refine (dats m 0 c).arrAt_eq_of_covers 6 _ (by decide +kernel) fun t hf y => ?_
  refine Eq.trans ?_ (congrArg (RA D P W) (emb6 t y).symm)
  blk_simp
  rw [after0_6]
  obtain ⟨r, k, rfl⟩ : ∃ (a : Fin 512) (b : Fin 1024), y = ix2 a b := ⟨y 0, y 1, eq_ix2 y⟩
  exact out6_eq _ _ _ _ _ _ _ _ _ (blk0 m c D hD t) (blk1 m c P hP t) (blk5 m c W hW t) r k

include hD hP hW in
theorem final7 : (dats m 0 c).arrAt 7 (cfgs 0).N = RB D P W := by
  refine (dats m 0 c).arrAt_eq_of_covers 7 _ (by decide +kernel) fun t hf y => ?_
  refine Eq.trans ?_ (congrArg (RB D P W) (emb7 t y).symm)
  blk_simp
  rw [after0_7]
  obtain ⟨r, k, rfl⟩ : ∃ (a : Fin 512) (b : Fin 1024), y = ix2 a b := ⟨y 0, y 1, eq_ix2 y⟩
  exact out7_eq _ _ _ _ _ _ _ _ _ (blk0 m c D hD t) (blk2 m c P hP t) (blk5 m c W hW t) r k

theorem halves_coe (t : Fin cfg0.N) (r : Fin 512) (k : Fin 2048) :
    halves (fun i j => ((dgA D P A W (row t i) j : ℝ) : EReal)) (fun i j => ((dgB D P B W (row t i) j : ℝ) : EReal)) r k = ((dg D P A B W (row t r) k : ℝ) : EReal) := by
  unfold halves dg
  split <;> rfl

include hD hP hA hB hW in
theorem final8 : (dats m 0 c).arrAt 8 (cfgs 0).N = RG D P A B W := by
  refine (dats m 0 c).arrAt_eq_of_covers 8 _ (by decide +kernel) fun t hf y => ?_
  refine Eq.trans ?_ (congrArg (RG D P A B W) (emb8 t y).symm)
  blk_simp
  rw [after0_8]
  obtain ⟨r, k, rfl⟩ : ∃ (a : Fin 512) (b : Fin 2048), y = ix2 a b := ⟨y 0, y 1, eq_ix2 y⟩
  refine (out8_eq _ _ _ _ _ _ (fun i j => ((dgA D P A W (row t i) j : ℝ) : EReal)) (fun i j => ((dgB D P B W (row t i) j : ℝ) : EReal)) r k
    (fun i j => out8a_eq _ _ _ _ _ _ _ _ (blk0 m c D hD t) (blk1 m c P hP t) (blk3 m c A hA t) (blk5 m c W hW t) i j)
    (fun i j => out8b_eq _ _ _ _ _ _ _ _ _ _ (blk0 m c D hD t) (blk2 m c P hP t) (blk4 m c B hB t) (blk5 m c W hW t) i j)).trans (halves_coe D P A B W t r k)

include hD hP hB hW in
theorem final9 : (dats m 0 c).arrAt 9 (cfgs 0).N = RL D P B W := by
  refine (dats m 0 c).arrAt_eq_of_covers 9 _ (by decide +kernel) fun t hf y => ?_
  refine Eq.trans ?_ (congrArg (RL D P B W) (emb9 t y).symm)
  blk_simp
  rw [after0_9]
  obtain ⟨h, e, r, rfl⟩ : ∃ (a : Fin 8) (b : Fin 8) (d : Fin 512), y = ix3 a b d := ⟨y 0, y 1, y 2, eq_ix3 y⟩
  refine (out9_eq _ _ _ _ _ _ _).trans ?_
  refine (Finset.sum_congr rfl fun x _ => prod_eq _ _ _ _ _ _ _ _ _ _ (blk0 m c D hD t) (blk2 m c P hP t) (blk4 m c B hB t) (blk5 m c W hW t) r ⟨128 * h.val + x.val, by omega⟩).trans ?_
  rw [coe_sum]
  rfl

/-- The kernel's run, each result at its real-valued form. -/
theorem ker_run (ρ : Dev nD → PrngReg) (hm : ∀ c : Dev nD,
      m ((c.tc : Thread nD τ).loc main_arg0) = (fun i => ((D i : ℝ) : EReal))
      ∧ m ((c.tc : Thread nD τ).loc main_arg1) = (fun i => ((P i : ℝ) : EReal))
      ∧ m ((c.tc : Thread nD τ).loc main_arg2) = (fun i => ((A i : ℝ) : EReal))
      ∧ m ((c.tc : Thread nD τ).loc main_arg3) = (fun i => ((B i : ℝ) : EReal))
      ∧ m ((c.tc : Thread nD τ).loc main_arg4) = (fun i => ((W i : ℝ) : EReal))) :
    θ_run defs (onTc (τ := τ) (main (F := Ideal))) ⟨m, fun _ => 0, ρ⟩ fun r => ∀ c : Dev nD,
      r.2.mem ((c.tc : Thread nD τ).loc main_v12_0) = (fun i : S4096x1024.Idx => ((doA D P W (i 0) (i 1) : ℝ) : EReal))
      ∧ r.2.mem ((c.tc : Thread nD τ).loc main_v12_1) = (fun i : S4096x1024.Idx => ((doB D P W (i 0) (i 1) : ℝ) : EReal))
      ∧ r.2.mem ((c.tc : Thread nD τ).loc main_v12_2) = (fun i : S4096x2048.Idx => ((dg D P A B W (i 0) (i 1) : ℝ) : EReal))
      ∧ r.2.mem ((c.tc : Thread nD τ).loc main_v12_3) = (fun i : S8x8x4096.Idx => ((dl D P B W (i 0) (i 2) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run_blocks m ρ)
  obtain ⟨h0, h1, h2, h3, h4⟩ := h c
  obtain ⟨hD, hP, hA, hB, hW⟩ := hm c
  exact ⟨h0.trans (final6 m c D P W hD hP hW), h1.trans (final7 m c D P W hD hP hW), h2.trans (final8 m c D P A B W hD hP hA hB hW),
    h3.trans (final9 m c D P B W hD hP hB hW), h4⟩

end Cert.GateValue

end
-- ==== Proof.GateClaim.lean ====
/- The results of the gates' gradient kernel are the reference's. -/
module

public import proofs.«01_k».proof.Defs
public import proofs.«01_k».proof.Proof.GateValue

@[expose] public section

set_option maxRecDepth 16384

noncomputable section

open Idealize.ShloMosaic Idealize.ShloMosaic.TcCoe Idealize.SL.Sem

namespace Cert.GateClaim

instance pre : Cert.Pre_gate_finite.Facts where
  bcast_S_S4096x2048 := by decide
  bcast_S_S4096x4032 := by decide
  bcast_S_S4096x1024 := by decide
  bcast_S_S2048x2048 := by decide

open Cert.GateKernelIdeal in
theorem algebraic : Cert.algebraic_GateKernelIdeal_GateRefIdeal_pre_gate_finite := by
  intro m g m' g' hpre hagree
  have hreal : ∃ (D : S4096x2048.Idx → ℝ) (P : S4096x4032.Idx → ℝ) (A B : S4096x1024.Idx → ℝ) (W : S2048x2048.Idx → ℝ), ∀ c : Dev nD,
      m ((c.tc : Thread nD τ).loc main_arg0) = (fun i => ((D i : ℝ) : EReal))
      ∧ m ((c.tc : Thread nD τ).loc main_arg1) = (fun i => ((P i : ℝ) : EReal))
      ∧ m ((c.tc : Thread nD τ).loc main_arg2) = (fun i => ((A i : ℝ) : EReal))
      ∧ m ((c.tc : Thread nD τ).loc main_arg3) = (fun i => ((B i : ℝ) : EReal))
      ∧ m ((c.tc : Thread nD τ).loc main_arg4) = (fun i => ((W i : ℝ) : EReal)) := by
    obtain ⟨h0, h1, h2, h3, h4⟩ := hpre 0
    obtain ⟨D, hD⟩ := Cert.Reals.exists_real _ _ h0
    obtain ⟨P, hP⟩ := Cert.Reals.exists_real _ _ h1
    obtain ⟨A, hA⟩ := Cert.Reals.exists_real _ _ h2
    obtain ⟨B, hB⟩ := Cert.Reals.exists_real _ _ h3
    obtain ⟨W, hW⟩ := Cert.Reals.exists_real _ _ h4
    refine ⟨D, P, A, B, W, fun c => ?_⟩
    obtain rfl : c = 0 := Subsingleton.elim _ _
    exact ⟨hD, hP, hA, hB, hW⟩
  obtain ⟨D, P, A, B, W, hm⟩ := hreal
  exact ⟨_, _, _, _, Cert.GateValue.ker_run m D P A B W g hm,
    Cert.GatePure.ref_run m' D P A B W g' fun c =>
      ⟨(hagree c).1.trans (hm c).1, (hagree c).2.1.trans (hm c).2.1, (hagree c).2.2.1.trans (hm c).2.2.1,
        (hagree c).2.2.2.1.trans (hm c).2.2.2.1, (hagree c).2.2.2.2.trans (hm c).2.2.2.2⟩⟩

end Cert.GateClaim

end
-- ==== Proof.FwdPure.lean ====
/-
  The attention's forward pass over key blocks, in real numbers: a running maximum and the sums relative to it. Whatever the
  maximum, the quotients and the saved logarithm are those of the softmax over all keys.
-/
module

public import proofs.«01_k».proof.Proof.MlaPure

@[expose] public section

noncomputable section

namespace Cert.FwdPure

open Idealize.ShloMosaic Cert.Reals Cert.MlaPure

/-- The scale of a score in base two. -/
def s2 : ℝ := scale * (Real.log 2)⁻¹

theorem log2_pos : 0 < Real.log 2 := Real.log_pos (by norm_num)

theorem s2_pos : 0 < s2 := mul_pos scale_pos (inv_pos.2 log2_pos)

/-- The power of two the body takes. -/
theorem pow_eq (y : ℝ) : FloatOps.exp2 (F := Ideal) (φ := .f32) ((y : EReal) * (s2 : EReal)) = ((Real.exp (y * scale) : ℝ) : EReal) := by
  rw [← EReal.coe_mul]
  show (((2 : ℝ) ^ (y * s2) : ℝ) : EReal) = _
  rw [Real.rpow_def_of_pos (by norm_num)]
  refine congrArg _ (congrArg _ ?_)
  unfold s2
  field_simp [log2_pos.ne']

theorem pow_bot (x : ℝ) : FloatOps.exp2 (F := Ideal) (φ := .f32) ((⊥ - (x : EReal)) * (s2 : EReal)) = ((0 : ℝ) : EReal) := by
  rw [EReal.bot_sub, EReal.bot_mul_coe_of_pos s2_pos]
  rfl

variable (g : ℕ → ℝ) (v : Fin 256 → ℕ → ℝ)

/-- The sum over the first `n` keys, relative to `x`. -/
def part (n : ℕ) (x : ℝ) (d : Fin 256) : ℝ := ∑ k ∈ Finset.range n, v d k * Real.exp ((g k - x) * scale)

/-- What is held after the first `n` keys: a maximum and the sums relative to it. -/
def Held (n : ℕ) (μ : EReal) (acc : Fin 256 → EReal) : Prop :=
  (n = 0 ∧ μ = ⊥ ∧ ∀ d, acc d = ((0 : ℝ) : EReal)) ∨ ∃ x : ℝ, μ = x ∧ ∀ d, acc d = ((part g v n x d : ℝ) : EReal)

theorem part_shift (n : ℕ) (x x' : ℝ) (d : Fin 256) : Real.exp ((x - x') * scale) * part g v n x d = part g v n x' d := by
  unfold part
  rw [Finset.mul_sum]
  refine Finset.sum_congr rfl fun k _ => ?_
  rw [mul_left_comm, ← Real.exp_add]
  refine congrArg _ (congrArg _ ?_)
  ring

variable {g v}

/-- The held sums relative to another number. -/
theorem Held.shift {n : ℕ} {μ : EReal} {acc : Fin 256 → EReal} (h : Held g v n μ acc) (x : ℝ) (d : Fin 256) :
    FloatOps.exp2 (F := Ideal) (φ := .f32) ((μ - (x : EReal)) * (s2 : EReal)) * acc d = ((part g v n x d : ℝ) : EReal) := by
  rcases h with ⟨rfl, rfl, h⟩ | ⟨y, rfl, h⟩
  · rw [pow_bot, h, ← EReal.coe_mul]
    simp [part]
  · rw [← EReal.coe_sub, pow_eq, h, ← EReal.coe_mul, part_shift]

/-- A block's masked scores: those of `w` keys from `o` on, and −∞. -/
def some' (g : ℕ → ℝ) (o w j : ℕ) : EReal := if j < w then ((g (o + j) : ℝ) : EReal) else ⊥

/-- What a block adds. -/
theorem block_sum {n o w : ℕ} (hw : w ≤ n) (x : ℝ) (d : Fin 256) :
    (∑ j : Fin n, ((v d (o + j.val) : ℝ) : EReal) * FloatOps.exp2 (F := Ideal) (φ := .f32) ((some' g o w j.val - (x : EReal)) * (s2 : EReal)))
      = ((∑ j ∈ Finset.range w, v d (o + j) * Real.exp ((g (o + j) - x) * scale) : ℝ) : EReal) := by
  have e : ∀ j : Fin n, ((v d (o + j.val) : ℝ) : EReal) * FloatOps.exp2 (F := Ideal) (φ := .f32) ((some' g o w j.val - (x : EReal)) * (s2 : EReal))
      = ((if j.val < w then v d (o + j.val) * Real.exp ((g (o + j.val) - x) * scale) else 0 : ℝ) : EReal) := by
    intro j
    unfold some'
    split
    · rw [← EReal.coe_sub, pow_eq, ← EReal.coe_mul]
    · rw [pow_bot, ← EReal.coe_mul, mul_zero]
  rw [Finset.sum_congr rfl fun j _ => e j, coe_sum]
  refine congrArg _ ?_
  rw [Fin.sum_univ_eq_sum_range (fun j => if j < w then v d (o + j) * Real.exp ((g (o + j) - x) * scale) else 0) n,
    ← Finset.sum_filter]
  refine Finset.sum_congr ?_ fun _ _ => rfl
  ext j
  simp only [Finset.mem_filter, Finset.mem_range]
  omega

theorem part_add (o w : ℕ) (x : ℝ) (d : Fin 256) :
    part g v o x d + ∑ j ∈ Finset.range w, v d (o + j) * Real.exp ((g (o + j) - x) * scale) = part g v (o + w) x d := by
  unfold part
  rw [Finset.sum_range_add]

/-- A number that is neither infinity. -/
theorem real_of {e : EReal} (h : e ≠ ⊤) (h' : e ≠ ⊥) : ∃ x : ℝ, e = x := ⟨e.toReal, (EReal.coe_toReal h h').symm⟩

theorem max_ne_top {a b : EReal} (h : a ≠ ⊤) (h' : b ≠ ⊤) : max a b ≠ ⊤ := ne_of_lt (max_lt (lt_top_iff_ne_top.2 h) (lt_top_iff_ne_top.2 h'))

theorem fold_ne_top {n o w : ℕ} : Finset.univ.fold max (⊥ : EReal) (fun j : Fin n => some' g o w j.val) ≠ ⊤ := by
  refine ne_of_lt ?_
  rw [Finset.fold_max_lt]
  refine ⟨bot_lt_top, fun k _ => ?_⟩
  unfold some'
  split
  · exact EReal.coe_lt_top _
  · exact bot_lt_top

theorem fold_ne_bot {n o w : ℕ} (hw : 0 < w) (hn : 0 < n) : Finset.univ.fold max (⊥ : EReal) (fun j : Fin n => some' g o w j.val) ≠ ⊥ := by
  refine ne_of_gt ?_
  rw [Finset.lt_fold_max]
  refine Or.inr ⟨⟨0, hn⟩, Finset.mem_univ _, ?_⟩
  unfold some'
  rw [if_pos hw]
  exact EReal.bot_lt_coe _

theorem Held.ne_top {n : ℕ} {μ : EReal} {acc : Fin 256 → EReal} (h : Held g v n μ acc) : μ ≠ ⊤ := by
  rcases h with ⟨_, rfl, _⟩ | ⟨y, rfl, _⟩
  · exact bot_ne_top
  · exact EReal.coe_ne_top y

theorem max_ne_bot_right {a b : EReal} (h : b ≠ ⊥) : max a b ≠ ⊥ := ne_of_gt (lt_max_of_lt_right (bot_lt_iff_ne_bot.2 h))
theorem max_ne_bot_left {a b : EReal} (h : a ≠ ⊥) : max a b ≠ ⊥ := ne_of_gt (lt_max_of_lt_left (bot_lt_iff_ne_bot.2 h))

/-- The maximum after a block. -/
theorem Held.max_real {o : ℕ} {μ : EReal} {acc : Fin 256 → EReal} (h : Held g v o μ acc) {n w : ℕ} (hw : 0 < w) (hn : 0 < n) :
    ∃ x : ℝ, max μ (Finset.univ.fold max (⊥ : EReal) (fun j : Fin n => some' g o w j.val)) = x :=
  real_of (max_ne_top h.ne_top fold_ne_top) (max_ne_bot_right (fold_ne_bot hw hn))

/-- A block's step: the new maximum and the new sums. -/
theorem Held.step {o : ℕ} {μ : EReal} {acc : Fin 256 → EReal} (h : Held g v o μ acc) {n w : ℕ} (hw : 0 < w) (hn : w ≤ n) :
    Held g v (o + w) (max μ (Finset.univ.fold max (⊥ : EReal) (fun j : Fin n => some' g o w j.val)))
      (fun d => FloatOps.exp2 (F := Ideal) (φ := .f32)
          ((μ - max μ (Finset.univ.fold max (⊥ : EReal) (fun j : Fin n => some' g o w j.val))) * (s2 : EReal)) * acc d
        + ∑ j : Fin n, ((v d (o + j.val) : ℝ) : EReal) * FloatOps.exp2 (F := Ideal) (φ := .f32)
          ((some' g o w j.val - max μ (Finset.univ.fold max (⊥ : EReal) (fun j : Fin n => some' g o w j.val))) * (s2 : EReal))) := by
  obtain ⟨x, hx⟩ := h.max_real hw (lt_of_lt_of_le hw hn)
  refine Or.inr ⟨x, hx, fun d => ?_⟩
  rw [hx]
  beta_reduce
  rw [h.shift, block_sum hn, ← EReal.coe_add, part_add]

/-- Two blocks under one maximum. -/
theorem Held.step2 {o : ℕ} {μ : EReal} {acc : Fin 256 → EReal} (h : Held g v o μ acc) {n₁ w₁ n₂ w₂ : ℕ} (hw₁ : 0 < w₁) (hn₁ : w₁ ≤ n₁)
    (hn₂ : w₂ ≤ n₂) {M : EReal} (hM : M = max (max μ (Finset.univ.fold max (⊥ : EReal) (fun j : Fin n₁ => some' g o w₁ j.val)))
      (Finset.univ.fold max (⊥ : EReal) (fun j : Fin n₂ => some' g (o + w₁) w₂ j.val))) :
    Held g v (o + w₁ + w₂) M
      (fun d => FloatOps.exp2 (F := Ideal) (φ := .f32) ((μ - M) * (s2 : EReal)) * acc d
        + (∑ j : Fin n₁, ((v d (o + j.val) : ℝ) : EReal) * FloatOps.exp2 (F := Ideal) (φ := .f32) ((some' g o w₁ j.val - M) * (s2 : EReal)))
        + ∑ j : Fin n₂, ((v d (o + w₁ + j.val) : ℝ) : EReal) * FloatOps.exp2 (F := Ideal) (φ := .f32) ((some' g (o + w₁) w₂ j.val - M) * (s2 : EReal))) := by
  obtain ⟨x, hx⟩ := real_of (max_ne_top (max_ne_top h.ne_top (fold_ne_top (g := g) (n := n₁) (o := o) (w := w₁))) (fold_ne_top (g := g) (n := n₂) (o := o + w₁) (w := w₂)))
    (max_ne_bot_left (max_ne_bot_right (fold_ne_bot hw₁ (lt_of_lt_of_le hw₁ hn₁))))
  rw [← hM] at hx
  refine Or.inr ⟨x, hx, fun d => ?_⟩
  rw [hx]
  beta_reduce
  rw [h.shift, block_sum hn₁, block_sum hn₂, ← EReal.coe_add, ← EReal.coe_add, part_add, part_add]

/-! The results -/

section
variable (f : Fin 4096 → ℝ) (u : Fin 4096 → ℝ) (q : Fin 4096) (hg : ∀ k : Fin 4096, g k.val * scale = f k)
include hg

theorem part_all (x : ℝ) (d : Fin 256) (hv : ∀ k : Fin 4096, v d k.val = u k) :
    part g v (q.val + 1) x d = (∑ k, u k * ex f q k) * Real.exp (top f q - x * scale) := by
  have e : ∀ k : Fin 4096, u k * ex f q k * Real.exp (top f q - x * scale)
      = if k.val < q.val + 1 then v d k.val * Real.exp ((g k.val - x) * scale) else 0 := by
    intro k
    unfold ex
    by_cases h : k ≤ q
    · rw [if_pos h, if_pos (by rw [Fin.le_def] at h; omega), hv, mul_assoc, ← Real.exp_add, sub_mul, hg]
      refine congrArg _ (congrArg _ ?_)
      ring
    · rw [if_neg h, if_neg (by rw [Fin.le_def] at h; omega), mul_zero, zero_mul]
  rw [Finset.sum_mul, Finset.sum_congr rfl fun k _ => e k,
    Fin.sum_univ_eq_sum_range (fun k => if k < q.val + 1 then v d k * Real.exp ((g k - x) * scale) else 0) 4096, ← Finset.sum_filter]
  unfold part
  refine (Finset.sum_congr ?_ fun _ _ => rfl)
  ext j
  simp only [Finset.mem_filter, Finset.mem_range]
  omega

/-- The quotient of the sums is the softmax's average. -/
theorem Held.out {μ : EReal} {acc : Fin 256 → EReal} (h : Held g v (q.val + 1) μ acc) (d b : Fin 256) (hv : ∀ k : Fin 4096, v d k.val = u k)
    (hb : ∀ k : Fin 4096, v b k.val = 1) : FloatOps.divf (F := Ideal) (φ := .f32) (acc d) (acc b) = ((∑ k, u k * soft f q k : ℝ) : EReal) := by
  rcases h with ⟨h, _⟩ | ⟨x, _, h⟩
  · omega
  have hd : (∑ k, (fun _ => (1 : ℝ)) k * ex f q k) = den f q := by simp [den]
  have hp := den_pos f q
  rw [h, h, part_all f u q hg x d hv, part_all f (fun _ => 1) q hg x b hb, hd]
  refine (div_coe (mul_pos hp (Real.exp_pos _)).ne').trans (congrArg _ ?_)
  rw [mul_div_mul_right _ _ (Real.exp_pos _).ne', Finset.sum_div]
  refine Finset.sum_congr rfl fun k _ => ?_
  unfold soft
  ring

/-- The maximum and the logarithm of the sum give the row's logarithm. -/
theorem Held.log {μ : EReal} {acc : Fin 256 → EReal} (h : Held g v (q.val + 1) μ acc) (b : Fin 256)
    (hb : ∀ k : Fin 4096, v b k.val = 1) :
    μ * (s2 : EReal) + FloatOps.log (F := Ideal) (φ := .f32) (acc b) * (((Real.log 2)⁻¹ : ℝ) : EReal) = ((lse2 f q : ℝ) : EReal) := by
  rcases h with ⟨h, _⟩ | ⟨x, rfl, h⟩
  · omega
  have hd : (∑ k, (fun _ => (1 : ℝ)) k * ex f q k) = den f q := by simp [den]
  have hp := den_pos f q
  rw [h, part_all f (fun _ => 1) q hg x b hb, hd]
  have hl : FloatOps.log (F := Ideal) (φ := .f32) ((den f q * Real.exp (top f q - x * scale) : ℝ) : EReal)
      = ((Real.log (den f q * Real.exp (top f q - x * scale)) : ℝ) : EReal) := if_neg (not_le.2 (mul_pos hp (Real.exp_pos _)))
  rw [hl, Real.log_mul hp.ne' (Real.exp_pos _).ne', Real.log_exp, ← EReal.coe_mul, ← EReal.coe_mul, ← EReal.coe_add]
  refine congrArg _ ?_
  unfold lse2 s2
  field_simp [log2_pos.ne']
  ring
end

end Cert.FwdPure
-- ==== Proof.FwdState.lean ====
module

public import proofs.«01_k».proof.Proof.Gen.FwdKernelIdeal.Value
public import Idealize.ShloMosaic.Lib.Pipeline.ValueKit
public import Idealize.ShloMosaic.Lib.WritesUnit
public import Idealize.ShloMosaic.Lib.VecWindow

/-! The attention forward kernel, point by point: what a point leaves in its two results, written as a function of the
    running maximum and the running sums before the diagonal tile. -/

@[expose] public section
set_option maxRecDepth 16384
noncomputable section
open Idealize.ShloMosaic Idealize.ShloMosaic.TcCoe Idealize.SL.Sem Idealize.ShloMosaic.Tactic
open Idealize.ShloMosaic.Pipeline (Dat)
namespace Cert.FwdState
open Cert.FwdKernelIdeal Cert.FwdKernelIdeal.Gen

/-- How often the two loops run at each point. -/
theorem trips1 : ∀ t : Fin cfg0.N, (k0_t1_loop (grid0.coords t)).trips = if t.val % 8 < 4 then 0 else 1 :=
  (by decide +kernel : ∀ t : Fin grid0.N, _)
theorem trips2 : ∀ t : Fin cfg0.N, (k0_t2_loop (grid0.coords t)).trips = 0 :=
  (by decide +kernel : ∀ t : Fin grid0.N, _)

variable (c : Dev nD) (i : grid0.Coords) (arg2 : Memref sig .tc .vmem S1x512x256 .bf16) (harg2 : arg2.IsWhole) (arg3 : Memref sig .tc .vmem S1x4096x256 .bf16) (harg3 : arg3.IsWhole) (arg4 : Memref sig .tc .vmem S1x256x4096 .bf16) (harg4 : arg4.IsWhole) (arg5 : Memref sig .tc .vmem S512x128 .bf16) (harg5 : arg5.IsWhole) (arg6 : Memref sig .tc .vmem S1x8x512 .f32) (harg6 : arg6.IsWhole) (arg7 : Memref sig .tc .vmem S8x512 .f32) (harg7 : arg7.IsWhole) (arg8 : Memref sig .tc .vmem S256x512 .f32) (harg8 : arg8.IsWhole) (X2 : BufTy.Contents (Elt Ideal) arg2.view.ty) (X3 : BufTy.Contents (Elt Ideal) arg3.view.ty) (X4 : BufTy.Contents (Elt Ideal) arg4.view.ty) (G7 : BufTy.Contents (Elt Ideal) arg7.view.ty) (G8 : BufTy.Contents (Elt Ideal) arg8.view.ty)

theorem pb2_none (v29 : BitVec 32) (h : (k0_t2_loop i).trips = 0) : ∀ n, pb_k0_t2 Variants.none c none i arg2 harg2 arg3 harg3 arg4 harg4 arg5 harg5 arg6 harg6 arg7 harg7 arg8 harg8 v29 X2 X3 X4 G7 G8 n = ([], [])
  | 0 => rfl
  | n + 1 => by
    rw [pb_k0_t2.eq_2]; unfold pb_k0_t2Step
    rw [dif_neg (by omega), pb2_none v29 h n]

theorem pb1_none (h : (k0_t1_loop i).trips = 0) : ∀ n, pb_k0_t1 Variants.none c none i arg2 harg2 arg3 harg3 arg4 harg4 arg5 harg5 arg6 harg6 arg7 harg7 arg8 harg8 X2 X3 X4 G7 G8 n = ([], [])
  | 0 => rfl
  | n + 1 => by
    rw [pb_k0_t1.eq_2]; unfold pb_k0_t1Step
    rw [dif_neg (by omega), pb1_none h n]

theorem pb1_one (h : (k0_t1_loop i).trips = 1) : ∀ n, pb_k0_t1 Variants.none c none i arg2 harg2 arg3 harg3 arg4 harg4 arg5 harg5 arg6 harg6 arg7 harg7 arg8 harg8 X2 X3 X4 G7 G8 (n + 1) = tripL_k0_t1 Variants.none c none i arg2 harg2 arg3 harg3 arg4 harg4 arg5 harg5 arg6 harg6 arg7 harg7 arg8 harg8 X2 X3 X4 ⟨0, by omega⟩ G7 G8
  | 0 => by
    rw [pb_k0_t1.eq_2]; unfold pb_k0_t1Step
    rw [dif_pos (by omega)]
    simp only [pb_k0_t1.eq_1, List.append_nil, View.writes_nil]
  | n + 1 => by
    rw [pb_k0_t1.eq_2]; unfold pb_k0_t1Step
    rw [dif_neg (by omega), pb1_one h n]

theorem trip_fst (k : Fin (k0_t1_loop i).trips) : (trip_k0_t1 Variants.none c none i arg2 harg2 arg3 harg3 arg4 harg4 arg5 harg5 arg6 harg6 arg7 harg7 arg8 harg8 X2 X3 X4 k).1 G7 G8
    = [⟨Rect.unit ![0, 0] ![8, 512] inb_S8x512_S8x512_0_0,
        k0_pay17 (k0_pay3
          (View.readAt (Elt Ideal) arg3.view (Rect.unit (k0_off1 i k) ![1, 2048, 256] (k0_off1_inb i k)).toLoadRect X3)
          (View.readAt (Elt Ideal) arg2.view (Rect.unit ![0, 0, 0] ![1, 512, 256] inb_S1x512x256_S1x512x256_0_0_0).toLoadRect X2)
          (View.readAt (Elt Ideal) arg7.view (Rect.unit ![0, 0] ![8, 512] inb_S8x512_S8x512_0_0).toLoadRect G7))⟩] := by
  unfold trip_k0_t1; rfl

theorem trip_snd (k : Fin (k0_t1_loop i).trips) : (trip_k0_t1 Variants.none c none i arg2 harg2 arg3 harg3 arg4 harg4 arg5 harg5 arg6 harg6 arg7 harg7 arg8 harg8 X2 X3 X4 k).2.1 G7 G8
    = [⟨Rect.unit ![0, 0] ![256, 512] inb_S256x512_S256x512_0_0,
        k0_pay4
          (View.readAt (Elt Ideal) arg3.view (Rect.unit (k0_off1 i k) ![1, 2048, 256] (k0_off1_inb i k)).toLoadRect X3)
          (View.readAt (Elt Ideal) arg2.view (Rect.unit ![0, 0, 0] ![1, 512, 256] inb_S1x512x256_S1x512x256_0_0_0).toLoadRect X2)
          (View.readAt (Elt Ideal) arg7.view (Rect.unit ![0, 0] ![8, 512] inb_S8x512_S8x512_0_0).toLoadRect G7)
          (View.readAt (Elt Ideal) arg8.view (Rect.unit ![0, 0] ![256, 512] inb_S256x512_S256x512_0_0).toLoadRect G8)
          (View.readAt (Elt Ideal) arg4.view (Rect.unit (k0_off2 i k) ![1, 256, 2048] (k0_off2_inb i k)).toLoadRect X4)⟩] := by
  unfold trip_k0_t1; rfl

/-- The upper half of the columns replaced. -/
def upd (w : Vec Ideal S256x512 .f32) (x : Vec Ideal S256x256 .f32) : Vec Ideal S256x512 .f32 := fun y =>
  if h : 256 ≤ (y 1).val then x (ix2 (⟨(y 0).val, (y 0).isLt⟩ : Fin 256) (⟨(y 1).val - 256, by have : (y 1).val < 512 := (y 1).isLt; omega⟩ : Fin 256)) else w y

section reads
variable {sp : Space}

theorem readCov_right (v : View sig .tc sp S256x512 .f32) (w : Vec Ideal S256x512 .f32) (L : List (View.Piece (Elt Ideal) S256x512 .f32)) (r : Rect S256x512) :
    v.readCov (⟨Rect.unit ![0, 0] ![256, 512] inb_S256x512_S256x512_0_0, w⟩ :: L) r.toLoadRect = View.ld w r := by
  funext j
  exact congrFun (View.read_writes_full v (v.junk (Val := Elt Ideal)) inb_S256x512_S256x512_0_0 w L) (r.toLoadRect.idx j)

theorem readCov7 (v : View sig .tc sp S8x512 .f32) (w : Vec Ideal S8x512 .f32) (L : List (View.Piece (Elt Ideal) S8x512 .f32)) :
    v.readCov (⟨Rect.unit ![0, 0] ![8, 512] inb_S8x512_S8x512_0_0, w⟩ :: L) (Rect.unit ![0, 0] ![8, 512] inb_S8x512_S8x512_0_0).toLoadRect = w :=
  View.readCov_full (Val := Elt Ideal) v inb_S8x512_S8x512_0_0 inb_S8x512_S8x512_0_0 w L

theorem ld_whole8 (w : Vec Ideal S256x512 .f32) : View.ld (Val := Elt Ideal) (e' := .f32) w (Rect.unit ![0, 0] ![256, 512] inb_S256x512_S256x512_0_0) = w :=
  View.ld_unit_lit (S := S256x512) (off := ![0, 0]) inb_S256x512_S256x512_0_0 w (by decide)

theorem readCov_upd (v : View sig .tc sp S256x512 .f32) (w : Vec Ideal S256x512 .f32) (x : Vec Ideal S256x256 .f32) (L : List (View.Piece (Elt Ideal) S256x512 .f32)) (r : Rect S256x512) :
    v.readCov (⟨Rect.unit ![0, 256] ![256, 256] inb_S256x512_S256x256_0_256, x⟩ :: ⟨Rect.unit ![0, 0] ![256, 512] inb_S256x512_S256x512_0_0, w⟩ :: L) r.toLoadRect
      = View.ld (upd w x) r := by
  funext j
  show v.read (Elt Ideal) (v.writes (Elt Ideal) v.junk _) (r.idx j) = upd w x (r.idx j)
  generalize r.idx j = y
  have y0 : (y 0).val < 256 := (y 0).isLt
  have y1 : (y 1).val < 512 := (y 1).isLt
  rw [View.read_writes_cons_unit v _ inb_S256x512_S256x256_0_256 x _ y rfl]
  unfold upd
  by_cases hy : 256 ≤ (y 1).val
  · rw [dif_pos hy, dif_pos (by intro a; match a with
      | 0 => exact ⟨Nat.zero_le _, by simpa using y0⟩
      | 1 => exact ⟨by simpa using hy, by simpa using y1⟩)]
    congr 1
    funext a
    match a with
    | 0 => exact Fin.ext (by rw [Rect.unitLocal_val]; rfl)
    | 1 => exact Fin.ext (by rw [Rect.unitLocal_val]; rfl)
  · rw [dif_neg hy, dif_neg (by intro h; have := (h 1).1; simp at this; omega)]
    exact congrFun (View.read_writes_full v _ inb_S256x512_S256x512_0_0 w L) y

theorem readAt_cov {s : Shape} {e : EltTy} (v : View sig .tc sp s e) (L : List (View.Piece (Elt Ideal) s e)) (B : LoadRect s) :
    v.readAt (Elt Ideal) B (v.writes (Elt Ideal) v.junk L) = v.readCov L B := rfl

end reads

/-! ### The state between the steps -/

section state
variable (m : (ℓ : Loc nD τ sig) → Buf (Elt Ideal) ℓ) (t : Fin cfg0.N)

abbrev Q : Vec Ideal S1x512x256 .bf16 := iblk m c 0 t
abbrev K : Vec Ideal S1x4096x256 .bf16 := iblk m c 1 t
abbrev U : Vec Ideal S1x256x4096 .bf16 := iblk m c 2 t

/-- The running maximum after the loop over four tiles at once. -/
def loop7 : Vec Ideal S8x512 .f32 :=
  if h : (k0_t1_loop (grid0.coords t)).trips = 1 then
    k0_pay17 (k0_pay3 (View.ld (K c m t) (Rect.unit (k0_off1 (grid0.coords t) ⟨0, by omega⟩) ![1, 2048, 256] (k0_off1_inb _ _))) (Q c m t) (k0_pay15 (F := Ideal)))
  else k0_pay15 (F := Ideal)

/-- The running sums after that loop. -/
def loop8 : Vec Ideal S256x512 .f32 :=
  if h : (k0_t1_loop (grid0.coords t)).trips = 1 then
    k0_pay4 (View.ld (K c m t) (Rect.unit (k0_off1 (grid0.coords t) ⟨0, by omega⟩) ![1, 2048, 256] (k0_off1_inb _ _))) (Q c m t) (k0_pay15 (F := Ideal)) (k0_pay16 (F := Ideal))
      (View.ld (U c m t) (Rect.unit (k0_off2 (grid0.coords t) ⟨0, by omega⟩) ![1, 256, 2048] (k0_off2_inb _ _)))
  else k0_pay16 (F := Ideal)

/-- The step over two tiles at once. -/
def pair7 (h : k0_cond1 (grid0.coords t) = 1#1) (a : Vec Ideal S8x512 .f32) : Vec Ideal S8x512 .f32 :=
  k0_pay20 (k0_pay9 (View.ld (K c m t) (Rect.unit (k0_off5 (grid0.coords t)) ![1, 1024, 256] (k0_off5_inb _ h))) (Q c m t) a)
def pair8 (h : k0_cond1 (grid0.coords t) = 1#1) (a : Vec Ideal S8x512 .f32) (b : Vec Ideal S256x512 .f32) : Vec Ideal S256x512 .f32 :=
  k0_pay19 (k0_pay10 (View.ld (K c m t) (Rect.unit (k0_off5 (grid0.coords t)) ![1, 1024, 256] (k0_off5_inb _ h))) (Q c m t) a)
    (k0_pay11 (View.ld (K c m t) (Rect.unit (k0_off5 (grid0.coords t)) ![1, 1024, 256] (k0_off5_inb _ h))) (Q c m t) a) b
    (View.ld (U c m t) (Rect.unit (k0_off6 (grid0.coords t)) ![1, 256, 1024] (k0_off6_inb _ h)))

/-- The step over one tile. -/
def one7 (h : k0_cond2 (grid0.coords t) = 1#1) (a : Vec Ideal S8x512 .f32) : Vec Ideal S8x512 .f32 :=
  k0_pay21 (k0_pay13 (View.ld (K c m t) (Rect.unit (k0_off7 (grid0.coords t)) ![1, 512, 256] (k0_off7_inb _ h))) (Q c m t) a)
def one8 (h : k0_cond2 (grid0.coords t) = 1#1) (a : Vec Ideal S8x512 .f32) (b : Vec Ideal S256x512 .f32) : Vec Ideal S256x512 .f32 :=
  k0_pay14 (View.ld (K c m t) (Rect.unit (k0_off7 (grid0.coords t)) ![1, 512, 256] (k0_off7_inb _ h))) (Q c m t) a b
    (View.ld (U c m t) (Rect.unit (k0_off8 (grid0.coords t)) ![1, 256, 512] (k0_off8_inb _ h)))

/-- The scores of the diagonal tile's lower keys, before the mask. -/
abbrev diagS : FVec Ideal S256x512 .f32 :=
  k0_pay22 (View.ld (K c m t) (Rect.unit (k0_off9 (grid0.coords t)) ![1, 256, 256] (k0_off9_inb _))) (Q c m t)
abbrev iot0 : IVec S256x512 32 := iota .tc S256x512 32 [0] iota_S256x512_d0_w32
abbrev iot1 : IVec S256x512 32 := iota .tc S256x512 32 [1] iota_S256x512_d1_w32
abbrev diagK : Vec Ideal S1x256x256 .bf16 := View.ld (K c m t) (Rect.unit (k0_off10 (grid0.coords t)) ![1, 256, 256] (k0_off10_inb _))
abbrev diagQ : Vec Ideal S1x256x256 .bf16 := View.ld (Q c m t) (Rect.unit ![0, 256, 0] ![1, 256, 256] inb_S1x512x256_S1x256x256_0_256_0)

/-- The running maximum after the diagonal tile. -/
def diag7 (a : Vec Ideal S8x512 .f32) : Vec Ideal S8x512 .f32 := k0_pay25 (diagS c m t) iot0 iot1 (diagK c m t) (diagQ c m t) a
/-- The running sums after the diagonal tile's lower keys. -/
def diagLo (a : Vec Ideal S8x512 .f32) (b : Vec Ideal S256x512 .f32) : Vec Ideal S256x512 .f32 :=
  k0_pay29 (k0_pay26 (diagS c m t) iot0 iot1 (diagK c m t) (diagQ c m t) a) (k0_pay28 (diagS c m t) iot0 iot1 (diagK c m t) (diagQ c m t) a) b
    (View.ld (U c m t) (Rect.unit (k0_off11 (grid0.coords t)) ![1, 256, 256] (k0_off11_inb _)))
/-- The running sums after the diagonal tile. -/
def diag8 (a : Vec Ideal S8x512 .f32) (b : Vec Ideal S256x512 .f32) : Vec Ideal S256x512 .f32 :=
  upd (diagLo c m t a b) (k0_pay30 (k0_pay27 (diagS c m t) iot0 iot1 (diagK c m t) (diagQ c m t) a)
    (View.ld (Val := Elt Ideal) (e' := .f32) (diagLo c m t a b) (Rect.unit ![0, 256] ![256, 256] inb_S256x512_S256x256_0_256))
    (View.ld (U c m t) (Rect.unit (k0_off12 (grid0.coords t)) ![1, 256, 256] (k0_off12_inb _))))

/-- What a point writes into its two results. -/
def outO (b : Vec Ideal S256x512 .f32) : Vec Ideal S512x128 .bf16 :=
  k0_pay32 (View.ld (Val := Elt Ideal) (e' := .f32) b (Rect.unit ![128, 0] ![8, 512] inb_S256x512_S8x512_128_0))
    (View.ld (Val := Elt Ideal) (e' := .f32) b (Rect.unit ![0, 0] ![128, 512] inb_S256x512_S128x512_0_0))
def outL (a : Vec Ideal S8x512 .f32) (b : Vec Ideal S256x512 .f32) : Vec Ideal S1x8x512 .f32 :=
  k0_pay1 (View.ld (Val := Elt Ideal) (e' := .f32) b (Rect.unit ![128, 0] ![8, 512] inb_S256x512_S8x512_128_0)) (k0_pay31 (F := Ideal) a)
def outs (a : Vec Ideal S8x512 .f32) (b : Vec Ideal S256x512 .f32) : Vec Ideal S512x128 .bf16 × Vec Ideal S1x8x512 .f32 :=
  (outO (diag8 c m t a b), outL (diag7 c m t a) (diag8 c m t a b))

theorem trips_cases : (k0_t1_loop (grid0.coords t)).trips = 0 ∨ (k0_t1_loop (grid0.coords t)).trips = 1 := by
  rw [trips1]; split <;> simp

theorem read_loop7 (n : ℕ) (hn : n = (k0_t1_loop (grid0.coords t)).trips) :
    (View.whole cc0_scratch0).readCov ((pb_k0_t1 Variants.none c none (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hs0_0 t).unread (iblk m c 0 t)) ((hs0_1 t).unread (iblk m c 1 t)) ((hs0_2 t).unread (iblk m c 2 t)) (View.writes (View.whole cc0_scratch0) (Elt Ideal) (View.whole cc0_scratch0).junk [⟨Rect.unit ![0, 0] ![8, 512] inb_S8x512_S8x512_0_0, (k0_pay15 (F := Ideal))⟩]) (View.writes (View.whole cc0_scratch1) (Elt Ideal) (View.whole cc0_scratch1).junk [⟨Rect.unit ![0, 0] ![256, 512] inb_S256x512_S256x512_0_0, (k0_pay16 (F := Ideal))⟩]) n).1 ++ [⟨Rect.unit ![0, 0] ![8, 512] inb_S8x512_S8x512_0_0, (k0_pay15 (F := Ideal))⟩])
      (Rect.unit ![0, 0] ![8, 512] inb_S8x512_S8x512_0_0).toLoadRect = loop7 c m t := by
  rcases trips_cases t with h | h
  · rw [pb1_none _ _ _ _ _ _ _ _ _ _ _ _ _ _ _ _ _ _ _ _ _ h, List.nil_append, readCov7, loop7, dif_neg (by omega)]
  · obtain rfl : n = 0 + 1 := hn.trans h
    rw [pb1_one _ _ _ _ _ _ _ _ _ _ _ _ _ _ _ _ _ _ _ _ _ h, loop7, dif_pos h]
    unfold tripL_k0_t1
    dsimp only
    rw [trip_fst]
    frame_out
    simp only [List.cons_append, List.nil_append, readCov7]

theorem read_loop8 (n : ℕ) (hn : n = (k0_t1_loop (grid0.coords t)).trips) (r : Rect S256x512) :
    (View.whole cc0_scratch1).readCov ((pb_k0_t1 Variants.none c none (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hs0_0 t).unread (iblk m c 0 t)) ((hs0_1 t).unread (iblk m c 1 t)) ((hs0_2 t).unread (iblk m c 2 t)) (View.writes (View.whole cc0_scratch0) (Elt Ideal) (View.whole cc0_scratch0).junk [⟨Rect.unit ![0, 0] ![8, 512] inb_S8x512_S8x512_0_0, (k0_pay15 (F := Ideal))⟩]) (View.writes (View.whole cc0_scratch1) (Elt Ideal) (View.whole cc0_scratch1).junk [⟨Rect.unit ![0, 0] ![256, 512] inb_S256x512_S256x512_0_0, (k0_pay16 (F := Ideal))⟩]) n).2 ++ [⟨Rect.unit ![0, 0] ![256, 512] inb_S256x512_S256x512_0_0, (k0_pay16 (F := Ideal))⟩]) r.toLoadRect
      = View.ld (Val := Elt Ideal) (e' := .f32) (loop8 c m t) r := by
  rcases trips_cases t with h | h
  · rw [pb1_none _ _ _ _ _ _ _ _ _ _ _ _ _ _ _ _ _ _ _ _ _ h, List.nil_append, readCov_right, loop8, dif_neg (by omega)]
  · obtain rfl : n = 0 + 1 := hn.trans h
    rw [pb1_one _ _ _ _ _ _ _ _ _ _ _ _ _ _ _ _ _ _ _ _ _ h, loop8, dif_pos h]
    unfold tripL_k0_t1
    simp only [trip_snd]
    frame_out
    simp only [List.cons_append, List.nil_append, readCov_right]

/-! ### What each point leaves, in the four cases -/

theorem outs_A (h0 : ¬(t.val % 4 = 2 ∨ t.val % 4 = 3)) (h1 : ¬t.val % 2 = 1) :
    outsAt0 m c t.val t.isLt = outs c m t (loop7 c m t) (loop8 c m t) := by
  rw [outsAt0_A m c t h0 h1]
  refine Prod.ext ?_ ?_
  all_goals
    dsimp only [outs, outO, outL, diag7, diag8, diagLo]
    frame_out
    simp only [pb2_none c (grid0.coords t) _ _ _ _ _ _ _ _ _ _ _ _ _ _ _ _ _ _ _ _ (trips2 t), List.nil_append]
    generalize hn : Scf.trips _ _ _ = n
    have hn' : n = (k0_t1_loop (grid0.coords t)).trips := hn.symm
    simp only [read_loop7 c m t n hn', read_loop8 c m t n hn', readCov_upd, readCov_right, readCov7, ld_whole8]

theorem outs_B (h0 : ¬(t.val % 4 = 2 ∨ t.val % 4 = 3)) (h1 : t.val % 2 = 1) :
    outsAt0 m c t.val t.isLt = outs c m t (one7 c m t ((hcond0_1 t).mpr h1) (loop7 c m t)) (one8 c m t ((hcond0_1 t).mpr h1) (loop7 c m t) (loop8 c m t)) := by
  rw [outsAt0_B m c t h0 h1]
  refine Prod.ext ?_ ?_
  all_goals
    dsimp only [outs, outO, outL, diag7, diag8, diagLo, one7, one8]
    frame_out
    simp only [pb2_none c (grid0.coords t) _ _ _ _ _ _ _ _ _ _ _ _ _ _ _ _ _ _ _ _ (trips2 t), List.nil_append]
    generalize hn : Scf.trips _ _ _ = n
    have hn' : n = (k0_t1_loop (grid0.coords t)).trips := hn.symm
    simp only [read_loop7 c m t n hn', read_loop8 c m t n hn', readCov_upd, readCov_right, readCov7, ld_whole8]

theorem outs_C (h0 : t.val % 4 = 2 ∨ t.val % 4 = 3) (h1 : ¬t.val % 2 = 1) :
    outsAt0 m c t.val t.isLt = outs c m t (pair7 c m t ((hcond0_0 t).mpr h0) (loop7 c m t)) (pair8 c m t ((hcond0_0 t).mpr h0) (loop7 c m t) (loop8 c m t)) := by
  rw [outsAt0_C m c t h0 h1]
  refine Prod.ext ?_ ?_
  all_goals
    dsimp only [outs, outO, outL, diag7, diag8, diagLo, pair7, pair8]
    frame_out
    simp only [pb2_none c (grid0.coords t) _ _ _ _ _ _ _ _ _ _ _ _ _ _ _ _ _ _ _ _ (trips2 t), List.nil_append]
    generalize hn : Scf.trips _ _ _ = n
    have hn' : n = (k0_t1_loop (grid0.coords t)).trips := hn.symm
    simp only [read_loop7 c m t n hn', read_loop8 c m t n hn', readCov_upd, readCov_right, readCov7, ld_whole8]

theorem outs_D (h0 : t.val % 4 = 2 ∨ t.val % 4 = 3) (h1 : t.val % 2 = 1) :
    outsAt0 m c t.val t.isLt = outs c m t (one7 c m t ((hcond0_1 t).mpr h1) (pair7 c m t ((hcond0_0 t).mpr h0) (loop7 c m t))) (one8 c m t ((hcond0_1 t).mpr h1) (pair7 c m t ((hcond0_0 t).mpr h0) (loop7 c m t)) (pair8 c m t ((hcond0_0 t).mpr h0) (loop7 c m t) (loop8 c m t))) := by
  rw [outsAt0_D m c t h0 h1]
  refine Prod.ext ?_ ?_
  all_goals
    dsimp only [outs, outO, outL, diag7, diag8, diagLo, pair7, pair8, one7, one8]
    frame_out
    simp only [pb2_none c (grid0.coords t) _ _ _ _ _ _ _ _ _ _ _ _ _ _ _ _ _ _ _ _ (trips2 t), List.nil_append]
    generalize hn : Scf.trips _ _ _ = n
    have hn' : n = (k0_t1_loop (grid0.coords t)).trips := hn.symm
    simp only [read_loop7 c m t n hn', read_loop8 c m t n hn', readCov_upd, readCov_right, readCov7, ld_whole8]

end state

end Cert.FwdState
end
-- ==== Proof.FwdSteps.lean ====
/-
  What each step of the attention's forward body does to the running maximum and the running sums, in real numbers.
-/
module

public import proofs.«01_k».proof.Proof.FwdPure
public import proofs.«01_k».proof.Proof.FwdState
public import Idealize.ShloMosaic.Lib.Pointwise

@[expose] public section

set_option maxRecDepth 16384

noncomputable section

namespace Cert.FwdSteps

open Cert.FwdKernelIdeal Cert.FwdKernelIdeal.Gen Cert.FwdState Cert.FwdPure Cert.MlaPure Cert.Reals
open Idealize.ShloMosaic Idealize.ShloMosaic.Pointwise Idealize.ShloMosaic.Tactic

theorem named_mask : Named.named (F := Ideal) (φ := .f32) κ "mask" 0xF149F2CA#32 = (⊥ : EReal) :=
  IdealRules.named_const.ideal_named_scalar _ _ _ _ rfl
theorem named_scale2 : Named.named (F := Ideal) (φ := .f32) κ "scale2" 0x3DD53B95#32 = ((s2 : ℝ) : EReal) :=
  IdealRules.named_const.ideal_named_scalar _ _ _ _ rfl
theorem named_log2e : Named.named (F := Ideal) (φ := .f32) κ "log2e" 0x3FB8AA3B#32 = (((Real.log 2)⁻¹ : ℝ) : EReal) :=
  IdealRules.named_const.ideal_named_scalar _ _ _ _ rfl

theorem some_full {n : ℕ} (g : ℕ → ℝ) (o : ℕ) (i : Fin n) : some' g o n i.val = ((g (o + i.val) : ℝ) : EReal) := if_pos i.isLt

/-- The mask's comparison of two positions. -/
theorem cmp_le (x y : ℕ) (hx : x < 4096) (hy : y < 4096) :
    IntOp.cmpi .sle (BitVec.ofNat 32 x) (BitVec.ofNat 32 y) = if x ≤ y then 1#1 else 0#1 := mask_cmp ⟨y, hy⟩ ⟨x, hx⟩

variable (q : Fin 512 → Fin 256 → ℝ) (k : ℕ → Fin 256 → ℝ) (v : Fin 256 → ℕ → ℝ)

/-- The score of a key for a query of the tile, before the scale. -/
def raw (j : Fin 512) (n : ℕ) : ℝ := ∑ x, k n x * q j x

/-- The tile's state: eight equal rows of maxima, and every query's sums over its first `N` keys. -/
def St (N : Fin 512 → ℕ) (a : Vec Ideal S8x512 .f32) (b : Vec Ideal S256x512 .f32) : Prop :=
  (∀ (r : Fin 8) (j : Fin 512), a (ix2 r j) = a (ix2 (0 : Fin 8) j))
    ∧ ∀ j : Fin 512, Held (raw q k j) v (N j) (a (ix2 (0 : Fin 8) j)) (fun d => b (ix2 d j))

theorem start : St q k v (fun _ => 0) (k0_pay15 (F := Ideal)) (k0_pay16 (F := Ideal)) := by
  have ha : ∀ (r : Fin 8) (j : Fin 512), k0_pay15 (F := Ideal) (ix2 r j) = (⊥ : EReal) := by
    intro r j
    show (_ : EReal) = _
    pointwise [k0_pay15]
    exact named_mask
  refine ⟨fun r j => (ha r j).trans (ha 0 j).symm, fun j => Or.inl ⟨rfl, ha 0 j, fun d => ?_⟩⟩
  show (_ : EReal) = _
  pointwise [k0_pay16]
  exact EReal.coe_zero.symm

/-! Four tiles at once -/

section quad
variable (o : ℕ)

theorem pay2_eq : k0_pay2 (F := Ideal) (fun y : S1x2048x256.Idx => ((k (o + (y 1).val) (y 2) : ℝ) : EReal)) (fun y : S1x512x256.Idx => ((q (y 1) (y 2) : ℝ) : EReal))
    = fun y : S2048x512.Idx => ((raw q k (y 1) (o + (y 0).val) : ℝ) : EReal) := by
  funext i
  idx_vars i
  show (_ : EReal) = _
  pointwise [k0_pay2]
  simp only [← EReal.coe_mul, coe_sum]
  rfl

theorem pay3_pt (a : Vec Ideal S8x512 .f32) (r : Fin 8) (j : Fin 512) :
    k0_pay3 (F := Ideal) (fun y : S1x2048x256.Idx => ((k (o + (y 1).val) (y 2) : ℝ) : EReal)) (fun y : S1x512x256.Idx => ((q (y 1) (y 2) : ℝ) : EReal)) a (ix2 r j)
      = max (a (ix2 r j) : EReal) (Finset.univ.fold max (⊥ : EReal) (fun i : Fin 2048 => some' (raw q k j) o 2048 i.val)) := by
  unfold k0_pay3
  rw [pay2_eq]
  show (_ : EReal) = _
  pointwise
  simp only [some_full]
  rw [ofBits_ninf]

theorem quad_step {a : Vec Ideal S8x512 .f32} {b : Vec Ideal S256x512 .f32} (h : St q k v (fun _ => o) a b) :
    St q k v (fun _ => o + 2048)
      (k0_pay17 (k0_pay3 (F := Ideal) (fun y : S1x2048x256.Idx => ((k (o + (y 1).val) (y 2) : ℝ) : EReal)) (fun y : S1x512x256.Idx => ((q (y 1) (y 2) : ℝ) : EReal)) a))
      (k0_pay4 (F := Ideal) (fun y : S1x2048x256.Idx => ((k (o + (y 1).val) (y 2) : ℝ) : EReal)) (fun y : S1x512x256.Idx => ((q (y 1) (y 2) : ℝ) : EReal)) a b
        (fun y : S1x256x2048.Idx => ((v (y 1) (o + (y 2).val) : ℝ) : EReal))) := by
  have e : ∀ x, k0_pay17 (F := Ideal) x = x := fun x => by
    funext i
    idx_vars i
    show (_ : EReal) = _
    pointwise [k0_pay17]
  rw [e]
  refine ⟨fun r j => ?_, fun j => ?_⟩
  · rw [pay3_pt, pay3_pt, h.1]
  · have hj := h.2 j
    convert hj.step (n := 2048) (w := 2048) (by omega) le_rfl using 1
    · exact pay3_pt q k o a 0 j
    · funext d
      unfold k0_pay4
      rw [pay2_eq]
      show (_ : EReal) = _
      pointwise
      rw [pay3_pt, named_scale2]
      simp only [some_full]
      try rfl
end quad

/-! Two tiles at once -/

section pair
variable (o : ℕ)

theorem pay8_eq : k0_pay8 (F := Ideal) (fun y : S1x1024x256.Idx => ((k (o + (y 1).val) (y 2) : ℝ) : EReal)) (fun y : S1x512x256.Idx => ((q (y 1) (y 2) : ℝ) : EReal))
    = fun y : S1024x512.Idx => ((raw q k (y 1) (o + (y 0).val) : ℝ) : EReal) := by
  funext i
  idx_vars i
  show (_ : EReal) = _
  pointwise [k0_pay8]
  simp only [← EReal.coe_mul, coe_sum]
  rfl

theorem pay9_pt (a : Vec Ideal S8x512 .f32) (r : Fin 8) (j : Fin 512) :
    k0_pay9 (F := Ideal) (fun y : S1x1024x256.Idx => ((k (o + (y 1).val) (y 2) : ℝ) : EReal)) (fun y : S1x512x256.Idx => ((q (y 1) (y 2) : ℝ) : EReal)) a (ix2 r j)
      = max (a (ix2 r j) : EReal) (Finset.univ.fold max (⊥ : EReal) (fun i : Fin 1024 => some' (raw q k j) o 1024 i.val)) := by
  unfold k0_pay9
  rw [pay8_eq]
  show (_ : EReal) = _
  pointwise
  simp only [some_full]
  rw [ofBits_ninf]

theorem pair_step {a : Vec Ideal S8x512 .f32} {b : Vec Ideal S256x512 .f32} (h : St q k v (fun _ => o) a b) :
    St q k v (fun _ => o + 1024)
      (k0_pay20 (k0_pay9 (F := Ideal) (fun y : S1x1024x256.Idx => ((k (o + (y 1).val) (y 2) : ℝ) : EReal)) (fun y : S1x512x256.Idx => ((q (y 1) (y 2) : ℝ) : EReal)) a))
      (k0_pay19 (k0_pay10 (F := Ideal) (fun y : S1x1024x256.Idx => ((k (o + (y 1).val) (y 2) : ℝ) : EReal)) (fun y : S1x512x256.Idx => ((q (y 1) (y 2) : ℝ) : EReal)) a)
        (k0_pay11 (F := Ideal) (fun y : S1x1024x256.Idx => ((k (o + (y 1).val) (y 2) : ℝ) : EReal)) (fun y : S1x512x256.Idx => ((q (y 1) (y 2) : ℝ) : EReal)) a) b
        (fun y : S1x256x1024.Idx => ((v (y 1) (o + (y 2).val) : ℝ) : EReal))) := by
  have e : ∀ x, k0_pay20 (F := Ideal) x = x := fun x => by
    funext i
    idx_vars i
    show (_ : EReal) = _
    pointwise [k0_pay20]
  rw [e]
  refine ⟨fun r j => ?_, fun j => ?_⟩
  · rw [pay9_pt, pay9_pt, h.1]
  · have hj := h.2 j
    convert hj.step (n := 1024) (w := 1024) (by omega) le_rfl using 1
    · exact pay9_pt q k o a 0 j
    · funext d
      unfold k0_pay19 k0_pay10 k0_pay11
      rw [pay8_eq]
      show (_ : EReal) = _
      pointwise
      rw [pay9_pt, named_scale2]
      simp only [some_full]
      try rfl
end pair

/-! One tile -/

section one
variable (o : ℕ)

theorem pay12_eq : k0_pay12 (F := Ideal) (fun y : S1x512x256.Idx => ((k (o + (y 1).val) (y 2) : ℝ) : EReal)) (fun y : S1x512x256.Idx => ((q (y 1) (y 2) : ℝ) : EReal))
    = fun y : S512x512.Idx => ((raw q k (y 1) (o + (y 0).val) : ℝ) : EReal) := by
  funext i
  idx_vars i
  show (_ : EReal) = _
  pointwise [k0_pay12]
  simp only [← EReal.coe_mul, coe_sum]
  rfl

theorem pay13_pt (a : Vec Ideal S8x512 .f32) (r : Fin 8) (j : Fin 512) :
    k0_pay13 (F := Ideal) (fun y : S1x512x256.Idx => ((k (o + (y 1).val) (y 2) : ℝ) : EReal)) (fun y : S1x512x256.Idx => ((q (y 1) (y 2) : ℝ) : EReal)) a (ix2 r j)
      = max (a (ix2 r j) : EReal) (Finset.univ.fold max (⊥ : EReal) (fun i : Fin 512 => some' (raw q k j) o 512 i.val)) := by
  unfold k0_pay13
  rw [pay12_eq]
  show (_ : EReal) = _
  pointwise
  simp only [some_full]
  rw [ofBits_ninf]

theorem one_step {a : Vec Ideal S8x512 .f32} {b : Vec Ideal S256x512 .f32} (h : St q k v (fun _ => o) a b) :
    St q k v (fun _ => o + 512)
      (k0_pay21 (k0_pay13 (F := Ideal) (fun y : S1x512x256.Idx => ((k (o + (y 1).val) (y 2) : ℝ) : EReal)) (fun y : S1x512x256.Idx => ((q (y 1) (y 2) : ℝ) : EReal)) a))
      (k0_pay14 (F := Ideal) (fun y : S1x512x256.Idx => ((k (o + (y 1).val) (y 2) : ℝ) : EReal)) (fun y : S1x512x256.Idx => ((q (y 1) (y 2) : ℝ) : EReal)) a b
        (fun y : S1x256x512.Idx => ((v (y 1) (o + (y 2).val) : ℝ) : EReal))) := by
  have e : ∀ x, k0_pay21 (F := Ideal) x = x := fun x => by
    funext i
    idx_vars i
    show (_ : EReal) = _
    pointwise [k0_pay21]
  rw [e]
  refine ⟨fun r j => ?_, fun j => ?_⟩
  · rw [pay13_pt, pay13_pt, h.1]
  · have hj := h.2 j
    convert hj.step (n := 512) (w := 512) (by omega) le_rfl using 1
    · exact pay13_pt q k o a 0 j
    · funext d
      unfold k0_pay14
      rw [pay12_eq]
      show (_ : EReal) = _
      pointwise
      rw [pay13_pt, named_scale2]
      simp only [some_full]
      try rfl
end one

end Cert.FwdSteps
-- ==== Proof.FwdDiag.lean ====
/-
  The diagonal tile of the attention's forward body: the lower keys for all queries of the tile, the upper keys for the upper
  queries only, both under the mask.
-/
module

public import proofs.«01_k».proof.Proof.FwdSteps

@[expose] public section

set_option maxRecDepth 16384

noncomputable section

namespace Cert.FwdSteps

open Cert.FwdKernelIdeal Cert.FwdKernelIdeal.Gen Cert.FwdState Cert.FwdPure Cert.MlaPure Cert.Reals
open Idealize.ShloMosaic Idealize.ShloMosaic.Pointwise Idealize.ShloMosaic.Tactic

variable (q : Fin 512 → Fin 256 → ℝ) (k : ℕ → Fin 256 → ℝ) (v : Fin 256 → ℕ → ℝ)

/-! The diagonal tile: its lower keys for all queries, its upper keys for the upper queries -/

section diag
variable (o : ℕ)

/-- How many of the lower keys a query sees. -/
def seen (j : Fin 512) : ℕ := min (j.val + 1) 256

def bLo : Vec Ideal S1x256x256 .bf16 := fun y => ((k (o + (y 1).val) (y 2) : ℝ) : EReal)
def bQ : Vec Ideal S1x512x256 .bf16 := fun y => ((q (y 1) (y 2) : ℝ) : EReal)
def bQhi : Vec Ideal S1x256x256 .bf16 := fun y => ((q ⟨256 + (y 1).val, by have : (y 1).val < 256 := (y 1).isLt; omega⟩ (y 2) : ℝ) : EReal)
def bU : Vec Ideal S1x256x256 .bf16 := fun y => ((v (y 1) (o + (y 2).val) : ℝ) : EReal)

theorem pay23_eq : k0_pay23 (F := Ideal) (k0_pay22 (bLo k o) (bQ q)) iot0 iot1 = fun y : S256x512.Idx => some' (raw q k (y 1)) o (seen (y 1)) (y 0).val := by
  funext i
  idx_vars i
  show (_ : EReal) = _
  pointwise [k0_pay23, k0_pay22, iot0, iot1, bLo, bQ]
  rw [cmp_le _ _ (by omega) (by omega), select_if, named_mask]
  simp only [← EReal.coe_mul, coe_sum]
  have hc : i0.val ≤ i1.val ↔ i0.val < seen i1 := by
    unfold seen
    omega
  unfold some'
  simp only [hc]
  rfl

theorem pay24_eq : k0_pay24 (F := Ideal) (bLo k o) (bQhi q)
    = fun y : S256x256.Idx => some' (raw q k ⟨256 + (y 1).val, by have : (y 1).val < 256 := (y 1).isLt; omega⟩) o ((y 1).val + 1) (y 0).val := by
  funext i
  idx_vars i
  show (_ : EReal) = _
  pointwise [k0_pay24, bLo, bQhi]
  rw [cmp_le _ _ (by omega) (by omega), select_if, named_mask]
  simp only [← EReal.coe_mul, coe_sum]
  have hc : i0.val ≤ i1.val ↔ i0.val < i1.val + 1 := Nat.lt_succ_iff.symm
  unfold some'
  simp only [hc]
  rfl

variable (a : Vec Ideal S8x512 .f32) (b : Vec Ideal S256x512 .f32)

/-- The maxima over the lower keys. -/
def hiLo (r : Fin 8) (j : Fin 512) : EReal :=
  max (a (ix2 r j) : EReal) (Finset.univ.fold max (⊥ : EReal) (fun i : Fin 256 => some' (raw q k j) o (seen j) i.val))

/-- The maxima over both. -/
abbrev top7 : Vec Ideal S8x512 .f32 := k0_pay25 (k0_pay22 (bLo k o) (bQ q)) iot0 iot1 (bLo k (o + 256)) (bQhi q) a

theorem top7_left (r : Fin 8) (j : Fin 512) (h : j.val < 256) : top7 q k o a (ix2 r j) = hiLo q k o a r j := by
  unfold top7 k0_pay25
  rw [pay23_eq, pay24_eq]
  show (_ : EReal) = _
  pointwise
  rw [dif_pos h, ofBits_ninf]
  rfl

theorem top7_right (r : Fin 8) (j : Fin 512) (h : ¬ j.val < 256) : top7 q k o a (ix2 r j)
    = max (hiLo q k o a r j) (Finset.univ.fold max (⊥ : EReal) (fun i : Fin 256 => some' (raw q k j) (o + 256) (j.val - 256 + 1) i.val)) := by
  unfold top7 k0_pay25
  rw [pay23_eq, pay24_eq]
  show (_ : EReal) = _
  pointwise
  rw [dif_neg h]
  have e : (⟨256 + (j.val - 256), by omega⟩ : Fin 512) = j := Fin.ext (by show 256 + (j.val - 256) = j.val; omega)
  simp only [e, ofBits_ninf]
  rfl

/-- The sums after the lower keys. -/
abbrev sumLo : Vec Ideal S256x512 .f32 :=
  k0_pay29 (k0_pay26 (k0_pay22 (bLo k o) (bQ q)) iot0 iot1 (bLo k (o + 256)) (bQhi q) a)
    (k0_pay28 (k0_pay22 (bLo k o) (bQ q)) iot0 iot1 (bLo k (o + 256)) (bQhi q) a) b (bU v o)

theorem sumLo_pt (d : Fin 256) (j : Fin 512) : sumLo q k v o a b (ix2 d j)
    = FloatOps.exp2 (F := Ideal) (φ := .f32) ((a (ix2 (0 : Fin 8) j) - top7 q k o a (ix2 (0 : Fin 8) j)) * (s2 : EReal)) * b (ix2 d j)
      + ∑ i : Fin 256, ((v d (o + i.val) : ℝ) : EReal) * FloatOps.exp2 (F := Ideal) (φ := .f32)
        ((some' (raw q k j) o (seen j) i.val - top7 q k o a (ix2 (0 : Fin 8) j)) * (s2 : EReal)) := by
  unfold sumLo k0_pay29 k0_pay28 k0_pay26
  rw [pay23_eq]
  show (_ : EReal) = _
  pointwise [bU]
  rw [named_scale2]
  try rfl

/-- What the upper keys add for the upper queries. -/
abbrev sumHi (w : Vec Ideal S256x256 .f32) : Vec Ideal S256x256 .f32 :=
  k0_pay30 (k0_pay27 (k0_pay22 (bLo k o) (bQ q)) iot0 iot1 (bLo k (o + 256)) (bQhi q) a) w (bU v (o + 256))

theorem sumHi_pt (w : Vec Ideal S256x256 .f32) (d : Fin 256) (j : Fin 256) : sumHi q k v o a w (ix2 d j)
    = (w (ix2 d j) : EReal) + ∑ i : Fin 256, ((v d (o + 256 + i.val) : ℝ) : EReal) * FloatOps.exp2 (F := Ideal) (φ := .f32)
        ((some' (raw q k ⟨256 + j.val, by omega⟩) (o + 256) (j.val + 1) i.val - top7 q k o a (ix2 (0 : Fin 8) (⟨256 + j.val, by omega⟩ : Fin 512))) * (s2 : EReal)) := by
  unfold sumHi k0_pay30 k0_pay27
  rw [pay24_eq]
  show (_ : EReal) = _
  pointwise [bU]
  rw [named_scale2]
  try rfl

theorem diag_step (h : St q k v (fun _ => o) a b) :
    St q k v (fun j => o + (j.val + 1)) (top7 q k o a)
      (upd (sumLo q k v o a b) (sumHi q k v o a (View.ld (Val := Elt Ideal) (e' := .f32) (sumLo q k v o a b) (Rect.unit ![0, 256] ![256, 256] inb_S256x512_S256x256_0_256)))) := by
  have hrow : ∀ (r : Fin 8) (j : Fin 512), hiLo q k o a r j = hiLo q k o a 0 j := fun r j => by
    unfold hiLo
    rw [h.1]
  refine ⟨fun r j => ?_, fun j => ?_⟩
  · by_cases hj : j.val < 256
    · rw [top7_left q k o a r j hj, top7_left q k o a 0 j hj, hrow]
    · rw [top7_right q k o a r j hj, top7_right q k o a 0 j hj, hrow]
  · have hh := h.2 j
    by_cases hj : j.val < 256
    · have hs : seen j = j.val + 1 := by unfold seen; omega
      convert hh.step (n := 256) (w := j.val + 1) (by omega) (by omega) using 1
      · rw [top7_left q k o a 0 j hj, hiLo, hs]
      · funext d
        have e : upd (sumLo q k v o a b) (sumHi q k v o a (View.ld (Val := Elt Ideal) (e' := .f32) (sumLo q k v o a b) (Rect.unit ![0, 256] ![256, 256] inb_S256x512_S256x256_0_256))) (ix2 d j)
            = sumLo q k v o a b (ix2 d j) := dif_neg (show ¬ 256 ≤ j.val by omega)
        rw [e, sumLo_pt, top7_left q k o a 0 j hj, hiLo, hs]
    · have hs : seen j = 256 := by unfold seen; omega
      have hN : o + (j.val + 1) = o + 256 + (j.val - 256 + 1) := by omega
      have e5 : (⟨256 + (j.val - 256), by omega⟩ : Fin 512) = j := Fin.ext (by show 256 + (j.val - 256) = j.val; omega)
      have hM := top7_right q k o a 0 j hj
      rw [hiLo, hs] at hM
      show Held _ _ (o + (j.val + 1)) _ _
      rw [hN]
      convert hh.step2 (n₁ := 256) (w₁ := 256) (n₂ := 256) (w₂ := j.val - 256 + 1) (by omega) le_rfl (by omega) hM using 1
      funext d
      have e : upd (sumLo q k v o a b) (sumHi q k v o a (View.ld (Val := Elt Ideal) (e' := .f32) (sumLo q k v o a b) (Rect.unit ![0, 256] ![256, 256] inb_S256x512_S256x256_0_256))) (ix2 d j)
          = sumHi q k v o a (View.ld (Val := Elt Ideal) (e' := .f32) (sumLo q k v o a b) (Rect.unit ![0, 256] ![256, 256] inb_S256x512_S256x256_0_256))
            (ix2 d (⟨j.val - 256, by omega⟩ : Fin 256)) := dif_pos (show 256 ≤ j.val by omega)
      have e' : (View.ld (Val := Elt Ideal) (e' := .f32) (sumLo q k v o a b) (Rect.unit ![0, 256] ![256, 256] inb_S256x512_S256x256_0_256)) (ix2 d (⟨j.val - 256, by omega⟩ : Fin 256))
          = sumLo q k v o a b (ix2 d j) := by
        rw [View.ld_apply]
        refine congrArg _ ?_
        pointwise
        exact congrArg (ix2 d) e5
      rw [e, sumHi_pt, e', sumLo_pt, hs]
      simp only [e5]
end diag

end Cert.FwdSteps

end
-- ==== Proof.FwdPoint.lean ====
/-
  A grid point of the attention's forward kernel: the blocks it reads in real numbers, where its steps read them, and the state
  it ends with.
-/
module

public import proofs.«01_k».proof.Proof.FwdDiag
public import proofs.«01_k».proof.Proof.MlaHost
public import Idealize.ShloMosaic.Lib.Pipeline.ValueKit

@[expose] public section

set_option maxRecDepth 16384

noncomputable section

namespace Cert.FwdPoint

open Cert.FwdKernelIdeal Cert.FwdKernelIdeal.Gen Cert.FwdState Cert.FwdSteps Cert.FwdPure Cert.MlaPure Cert.Reals
open Idealize.ShloMosaic Idealize.ShloMosaic.Pointwise Idealize.ShloMosaic.Tactic Idealize.ShloMosaic.TcCoe

/-- The kernel's values: by head, a head's 128 columns and 128 columns of ones, transposed. -/
def packU (a4 : FVec Ideal S4096x8x128 .f32) : FVec Ideal S8x256x4096 .bf16 :=
  truncf .bf16 (concatenate S8x256x4096 1 [⟨S8x128x4096, transpose S8x128x4096 [1, 2, 0] a4 transposes_S4096x8x128_S8x128x4096_1_2_0⟩,
    ⟨S8x128x4096, broadcastInDim S8x128x4096 ![] bcast_S_S8x128x4096 (constant S_ .f32 0x3F800000#32)⟩] concatenates_S8x128x4096_S8x128x4096_S8x256x4096_d1) bitsLt_bf16_f32

variable (c : Dev nD) (m : (ℓ : Loc nD τ sig) → Buf (Elt Ideal) ℓ) (t : Fin cfg0.N)

theorem entry :
    V m c main_v10 = Cert.MlaHost.packQ (m ((c.tc : Thread nD τ).loc main_arg0)) (m ((c.tc : Thread nD τ).loc main_arg1))
    ∧ V m c main_v11 = Cert.MlaHost.packK (m ((c.tc : Thread nD τ).loc main_arg2)) (m ((c.tc : Thread nD τ).loc main_arg3))
    ∧ V m c main_v12 = packU (m ((c.tc : Thread nD τ).loc main_arg4)) := by
  refine ⟨?_, ?_, ?_⟩ <;>
  (show StableHlo.after (List.flatten [hostOps0]) (fun b => m (c, b)) (Proc.devRef .tc _) = _
   simp only [hostOps0, List.flatten_cons, List.flatten_nil, List.append_nil, List.cons_append, List.nil_append]
   after_results_simp <;> rfl)

theorem offs : ∀ t : Fin cfg0.N, k0_off5 (grid0.coords t) = ![0, 2048 * (t.val % 8 / 4), 0] ∧ k0_off6 (grid0.coords t) = ![0, 0, 2048 * (t.val % 8 / 4)]
    ∧ (t.val % 2 = 1 → k0_off7 (grid0.coords t) = ![0, 512 * (t.val % 8 - 1), 0] ∧ k0_off8 (grid0.coords t) = ![0, 0, 512 * (t.val % 8 - 1)])
    ∧ k0_off9 (grid0.coords t) = ![0, 512 * (t.val % 8), 0] ∧ k0_off10 (grid0.coords t) = ![0, 512 * (t.val % 8) + 256, 0]
    ∧ k0_off11 (grid0.coords t) = ![0, 0, 512 * (t.val % 8)] ∧ k0_off12 (grid0.coords t) = ![0, 0, 512 * (t.val % 8) + 256] :=
  (by decide +kernel : ∀ t : Fin grid0.N, _)

theorem offs_loop : ∀ (t : Fin cfg0.N) (n : Fin (k0_t1_loop (grid0.coords t)).trips),
    k0_off1 (grid0.coords t) n = ![0, 0, 0] ∧ k0_off2 (grid0.coords t) n = ![0, 0, 0] :=
  (by decide +kernel : ∀ (t : Fin grid0.N) (n : Fin (k0_t1_loop (grid0.coords t)).trips), _)

theorem idx : ∀ t : Fin cfg0.N, win0_0.index t = ![t.val / 8, t.val % 8, 0] ∧ win0_1.index t = ![t.val / 8, 0, 0] ∧ win0_2.index t = ![t.val / 8, 0, 0]
    ∧ win0_3.index t = ![t.val % 8, t.val / 8] ∧ win0_4.index t = ![t.val / 8, 0, t.val % 8] ∧ t.val < 64 :=
  (by decide +kernel : ∀ t : Fin grid0.N, _)

/-- A point's head. -/
def hd (t : Fin cfg0.N) : Fin 8 := ⟨t.val / 8, by have := (idx t).2.2.2.2.2; omega⟩

/-- Row `r` of a point's tile. -/
def row (t : Fin cfg0.N) (r : Fin 512) : Fin 4096 := ⟨t.val % 8 * 512 + r.val, by omega⟩

variable (X0 : S4096x8x128.Idx → ℝ) (X1 : S4096x8x64.Idx → ℝ) (X2 : S4096x8x128.Idx → ℝ) (X3 : S4096x64.Idx → ℝ)
  (X4 : S4096x8x128.Idx → ℝ)

/-- A position by its number. -/
def at' (n : ℕ) : Fin 4096 := ⟨n % 4096, by omega⟩

theorem at_val (k : Fin 4096) : at' k.val = k := Fin.ext (Nat.mod_eq_of_lt k.isLt)

/-- A head's keys by their number. -/
def keys (h : Fin 8) (n : ℕ) (x : Fin 256) : ℝ := Cert.MlaHost.kpad X2 X3 h (at' n) x
/-- A head's values by their number, and ones. -/
def vals (h : Fin 8) (d : Fin 256) (n : ℕ) : ℝ := if hd : d.val < 128 then X4 (ix3 (at' n) h (⟨d.val, hd⟩ : Fin 128)) else 1
/-- A tile's queries. -/
def ques (t : Fin cfg0.N) (r : Fin 512) (x : Fin 256) : ℝ := Cert.MlaHost.qpad X0 X1 (hd t) (row t r) x

theorem packU_eq : packU (fun i => ↑(X4 i)) = fun i : S8x256x4096.Idx => ((vals X4 (i 0) (i 1) (i 2).val : ℝ) : EReal) := by
  funext i
  idx_vars i
  show (_ : EReal) = _
  pointwise [packU]
  unfold vals
  rw [at_val]
  by_cases h : i1.val < 128
  · rw [dif_pos h, dif_pos h]
  · rw [dif_neg h, dif_neg h]
    exact EReal.coe_one.symm

section
variable (h0 : m ((c.tc : Thread nD τ).loc main_arg0) = fun i => ((X0 i : ℝ) : EReal))
  (h1 : m ((c.tc : Thread nD τ).loc main_arg1) = fun i => ((X1 i : ℝ) : EReal))
  (h2 : m ((c.tc : Thread nD τ).loc main_arg2) = fun i => ((X2 i : ℝ) : EReal))
  (h3 : m ((c.tc : Thread nD τ).loc main_arg3) = fun i => ((X3 i : ℝ) : EReal))
  (h4 : m ((c.tc : Thread nD τ).loc main_arg4) = fun i => ((X4 i : ℝ) : EReal))

include h0 h1 in
theorem Q_eq : Q c m t = fun y : S1x512x256.Idx => ((ques X0 X1 t (y 1) (y 2) : ℝ) : EReal) := by
  funext y
  obtain ⟨z, r, x, rfl⟩ : ∃ (a : Fin 1) (b : Fin 512) (d : Fin 256), y = ix3 a b d := ⟨y 0, y 1, y 2, eq_ix3 y⟩
  have h : iblk m c 0 t (ix3 z r x) = V m c main_v10 (ix3 (hd t) (row t r) x) := by blk_ext [iblk, idx t, row, hd]
  have e : V m c main_v10 = fun i : S8x4096x256.Idx => ((Cert.MlaHost.qpad X0 X1 (i 0) (i 1) (i 2) : ℝ) : EReal) := by
    rw [(entry c m).1, h0, h1]
    exact Cert.MlaHost.packQ_eq X0 X1
  exact h.trans (congrFun e _)

include h2 h3 in
theorem K_eq : K c m t = fun y : S1x4096x256.Idx => ((keys X2 X3 (hd t) (y 1).val (y 2) : ℝ) : EReal) := by
  funext y
  obtain ⟨z, r, x, rfl⟩ : ∃ (a : Fin 1) (b : Fin 4096) (d : Fin 256), y = ix3 a b d := ⟨y 0, y 1, y 2, eq_ix3 y⟩
  have h : iblk m c 1 t (ix3 z r x) = V m c main_v11 (ix3 (hd t) r x) := by blk_ext [iblk, idx t, hd]
  have e : V m c main_v11 = fun i : S8x4096x256.Idx => ((Cert.MlaHost.kpad X2 X3 (i 0) (i 1) (i 2) : ℝ) : EReal) := by
    rw [(entry c m).2.1, h2, h3]
    exact Cert.MlaHost.packK_eq X2 X3
  refine h.trans ((congrFun e _).trans ?_)
  show _ = ((keys X2 X3 (hd t) r.val x : ℝ) : EReal)
  unfold keys
  rw [at_val]
  rfl

include h4 in
theorem U_eq : U c m t = fun y : S1x256x4096.Idx => ((vals X4 (hd t) (y 1) (y 2).val : ℝ) : EReal) := by
  funext y
  obtain ⟨z, r, x, rfl⟩ : ∃ (a : Fin 1) (b : Fin 256) (d : Fin 4096), y = ix3 a b d := ⟨y 0, y 1, y 2, eq_ix3 y⟩
  have h : iblk m c 2 t (ix3 z r x) = V m c main_v12 (ix3 (hd t) r x) := by blk_ext [iblk, idx t, hd]
  have e : V m c main_v12 = fun i : S8x256x4096.Idx => ((vals X4 (i 0) (i 1) (i 2).val : ℝ) : EReal) := by
    rw [(entry c m).2.2, h4]
    exact packU_eq X4
  exact h.trans (congrFun e _)
end

/-- A load of consecutive keys. -/
theorem ldK {W : Vec Ideal S1x4096x256 .bf16} {f : ℕ → Fin 256 → ℝ} (hW : W = fun y : S1x4096x256.Idx => ((f (y 1).val (y 2) : ℝ) : EReal))
    {off : Fin 3 → ℕ} {n : ℕ} (inb : ∀ a, off a + ![1, n, 256] a ≤ S1x4096x256.size a) {o : ℕ} (ho : off = ![0, o, 0]) :
    View.ld W (Rect.unit (s := S1x4096x256) off ![1, n, 256] inb)
      = fun y => ((f (o + (y 1).val) ⟨(y 2).val, (y 2).isLt⟩ : ℝ) : EReal) := by
  subst ho
  funext y
  rw [View.ld_apply, hW]
  show ((f (o + 1 * (y 1).val) ⟨0 + 1 * (y 2).val, _⟩ : ℝ) : EReal) = _
  simp only [one_mul, zero_add]

/-- A load of the values of consecutive keys. -/
theorem ldU {W : Vec Ideal S1x256x4096 .bf16} {f : Fin 256 → ℕ → ℝ} (hW : W = fun y : S1x256x4096.Idx => ((f (y 1) (y 2).val : ℝ) : EReal))
    {off : Fin 3 → ℕ} {n : ℕ} (inb : ∀ a, off a + ![1, 256, n] a ≤ S1x256x4096.size a) {o : ℕ} (ho : off = ![0, 0, o]) :
    View.ld W (Rect.unit (s := S1x256x4096) off ![1, 256, n] inb)
      = fun y => ((f ⟨(y 1).val, (y 1).isLt⟩ (o + (y 2).val) : ℝ) : EReal) := by
  subst ho
  funext y
  rw [View.ld_apply, hW]
  show ((f ⟨0 + 1 * (y 1).val, _⟩ (o + 1 * (y 2).val) : ℝ) : EReal) = _
  simp only [one_mul, zero_add]

section
variable {q : Fin 512 → Fin 256 → ℝ} {k : ℕ → Fin 256 → ℝ} {v : Fin 256 → ℕ → ℝ}
  (hQ : Q c m t = fun y : S1x512x256.Idx => ((q (y 1) (y 2) : ℝ) : EReal))
  (hK : K c m t = fun y : S1x4096x256.Idx => ((k (y 1).val (y 2) : ℝ) : EReal))
  (hU : U c m t = fun y : S1x256x4096.Idx => ((v (y 1) (y 2).val : ℝ) : EReal))
include hQ hK hU

theorem st_loop : St q k v (fun _ => 2048 * (t.val % 8 / 4)) (loop7 c m t) (loop8 c m t) := by
  have ht := trips1 t
  by_cases h : t.val % 8 < 4
  · rw [if_pos h] at ht
    have e : 2048 * (t.val % 8 / 4) = 0 := by omega
    rw [e]
    unfold loop7 loop8
    rw [dif_neg (by omega), dif_neg (by omega)]
    exact start q k v
  · rw [if_neg h] at ht
    have e : 2048 * (t.val % 8 / 4) = 0 + 2048 := by omega
    rw [e]
    unfold loop7 loop8
    rw [dif_pos ht, dif_pos ht, ldK hK _ (offs_loop t _).1, ldU hU _ (offs_loop t _).2, hQ]
    exact quad_step q k v 0 (start q k v)

theorem st_pair (h : k0_cond1 (grid0.coords t) = 1#1) {a : Vec Ideal S8x512 .f32} {b : Vec Ideal S256x512 .f32}
    (hs : St q k v (fun _ => 2048 * (t.val % 8 / 4)) a b) :
    St q k v (fun _ => 2048 * (t.val % 8 / 4) + 1024) (pair7 c m t h a) (pair8 c m t h a b) := by
  unfold pair7 pair8
  rw [ldK hK _ (offs t).1, ldU hU _ (offs t).2.1, hQ]
  exact pair_step q k v _ hs

theorem st_one (h : k0_cond2 (grid0.coords t) = 1#1) (h' : t.val % 2 = 1) {a : Vec Ideal S8x512 .f32} {b : Vec Ideal S256x512 .f32}
    (hs : St q k v (fun _ => 512 * (t.val % 8 - 1)) a b) :
    St q k v (fun _ => 512 * (t.val % 8 - 1) + 512) (one7 c m t h a) (one8 c m t h a b) := by
  unfold one7 one8
  rw [ldK hK _ ((offs t).2.2.1 h').1, ldU hU _ ((offs t).2.2.1 h').2, hQ]
  exact one_step q k v _ hs

theorem st_diag {a : Vec Ideal S8x512 .f32} {b : Vec Ideal S256x512 .f32} (hs : St q k v (fun _ => 512 * (t.val % 8)) a b) :
    St q k v (fun j => 512 * (t.val % 8) + (j.val + 1)) (diag7 c m t a) (diag8 c m t a b) := by
  have hq : diagQ c m t = bQhi q := by
    funext y
    unfold diagQ
    rw [View.ld_apply, hQ]
    obtain ⟨z, r, x, rfl⟩ : ∃ (a : Fin 1) (b : Fin 256) (d : Fin 256), y = ix3 a b d := ⟨y 0, y 1, y 2, eq_ix3 y⟩
    show ((q ⟨256 + 1 * r.val, _⟩ ⟨0 + 1 * x.val, _⟩ : ℝ) : EReal) = _
    simp only [one_mul, zero_add]
    rfl
  have hk : diagK c m t = bLo k (512 * (t.val % 8) + 256) := ldK hK _ (offs t).2.2.2.2.1
  have hlo : View.ld (K c m t) (Rect.unit (k0_off9 (grid0.coords t)) ![1, 256, 256] (k0_off9_inb _)) = bLo k (512 * (t.val % 8)) := ldK hK _ (offs t).2.2.2.1
  have hu : View.ld (U c m t) (Rect.unit (k0_off11 (grid0.coords t)) ![1, 256, 256] (k0_off11_inb _)) = bU v (512 * (t.val % 8)) := ldU hU _ (offs t).2.2.2.2.2.1
  have hu' : View.ld (U c m t) (Rect.unit (k0_off12 (grid0.coords t)) ![1, 256, 256] (k0_off12_inb _)) = bU v (512 * (t.val % 8) + 256) := ldU hU _ (offs t).2.2.2.2.2.2
  have hb : Q c m t = bQ q := hQ
  unfold diag7 diag8 diagLo diagS
  rw [hq, hk, hlo, hu, hu', hb]
  exact diag_step q k v _ a b hs

theorem St.cast {N N' : Fin 512 → ℕ} {a : Vec Ideal S8x512 .f32} {b : Vec Ideal S256x512 .f32} (h : St q k v N a b) (e : N = N') : St q k v N' a b := e ▸ h

/-- A point's results are those of a state over each query's own keys. -/
theorem outs_st : ∃ a b, outsAt0 m c t.val t.isLt = (outO b, outL a b) ∧ St q k v (fun j => 512 * (t.val % 8) + (j.val + 1)) a b := by
  have hl := st_loop c m t hQ hK hU
  by_cases h0 : t.val % 4 = 2 ∨ t.val % 4 = 3
  · have hp := st_pair c m t hQ hK hU ((hcond0_0 t).mpr h0) hl
    by_cases h1 : t.val % 2 = 1
    · have ho := st_one c m t hQ hK hU ((hcond0_1 t).mpr h1) h1 (St.cast c m t hQ hK hU hp (funext fun _ => by omega))
      exact ⟨_, _, outs_D c m t h0 h1, st_diag c m t hQ hK hU (St.cast c m t hQ hK hU ho (funext fun _ => by omega))⟩
    · exact ⟨_, _, outs_C c m t h0 h1, st_diag c m t hQ hK hU (St.cast c m t hQ hK hU hp (funext fun _ => by omega))⟩
  · by_cases h1 : t.val % 2 = 1
    · have ho := st_one c m t hQ hK hU ((hcond0_1 t).mpr h1) h1 (St.cast c m t hQ hK hU hl (funext fun _ => by omega))
      exact ⟨_, _, outs_B c m t h0 h1, st_diag c m t hQ hK hU (St.cast c m t hQ hK hU ho (funext fun _ => by omega))⟩
    · exact ⟨_, _, outs_A c m t h0 h1, st_diag c m t hQ hK hU (St.cast c m t hQ hK hU hl (funext fun _ => by omega))⟩
end

end Cert.FwdPoint

end
-- ==== Proof.FwdRef.lean ====
/- The attention's output and row logarithms as the reference computes them, in real numbers. -/
module

public import proofs.«01_k».proof.Proof.Gen.FwdRefIdeal.Run
public import proofs.«01_k».proof.Proof.Gen.FwdRefIdeal
public import proofs.«01_k».proof.Proof.MlaHost

@[expose] public section

set_option maxRecDepth 16384

noncomputable section

namespace Cert.FwdRef

open Cert.FwdRefIdeal Cert.FwdRefIdeal.Gen Cert.FwdRefIdeal.Value Cert.MlaPure Cert.MlaRef Cert.Reals
open Idealize.ShloMosaic Idealize.ShloMosaic.Pointwise Idealize.ShloMosaic.Tactic Idealize.ShloMosaic.TcCoe Idealize.SL.Sem

/-- The weighted values, the heads side by side. -/
def mix (p : FVec Ideal S8x4096x4096 .f32) (a4 : FVec Ideal S4096x8x128 .f32) : FVec Ideal S4096x1024 .bf16 :=
  truncf .bf16 (shapeCast S4096x1024 (transpose S4096x8x128 [2, 0, 1] (Host.dotGeneral dot_S4096x8x128_S8x4096x4096_S8x128x4096_0_2_2_1_1_0 none a4 p)
    transposes_S8x128x4096_S4096x8x128_2_0_1) shapeCasts_S4096x8x128_S4096x1024) bitsLt_bf16_f32

/-- A row's logarithm in base two. -/
def rowLog (e : FVec Ideal S8x4096x4096 .f32) (t : FVec Ideal S8x4096 .f32) : FVec Ideal S8x4096 .f32 :=
  Host.divf (addf t (Host.log (Host.reduceAdd e (constant S_ .f32 0x00000000#32) reducesTo_S8x4096x4096_S8x4096_d2 h_S_)))
    (broadcastInDim S8x4096 ![] bcast_S_S8x4096 (Host.log (constant S_ .f32 0x40000000#32)))

variable (X0 : S4096x8x128.Idx → ℝ) (X1 : S4096x8x64.Idx → ℝ) (X2 : S4096x8x128.Idx → ℝ) (X3 : S4096x64.Idx → ℝ)
  (X4 : S4096x8x128.Idx → ℝ)

/-- The output's entry. -/
def fo (r : Fin 4096) (h : Fin 8) (x : Fin 128) : ℝ := ∑ k, X4 (ix3 k h x) * soft (sc X0 X1 X2 X3 h r) r k
/-- The row logarithm's entry. -/
def fl (h : Fin 8) (r : Fin 4096) : ℝ := lse2 (sc X0 X1 X2 X3 h r) r

/-- The output. -/
def out (i : S4096x1024.Idx) : EReal :=
  ((fo X0 X1 X2 X3 X4 (i 0) ⟨(i 1).val / 128, by have : (i 1).val < 1024 := (i 1).isLt; omega⟩ ⟨(i 1).val % 128, by omega⟩ : ℝ) : EReal)
/-- The row logarithms. -/
def lse (i : S8x8x4096.Idx) : EReal := ((fl X0 X1 X2 X3 (i 0) (i 2) : ℝ) : EReal)

theorem mix_eq : mix (fun i : S8x4096x4096.Idx => ((soft (sc X0 X1 X2 X3 (i 0) (i 1)) (i 1) (i 2) : ℝ) : EReal)) (fun i => ↑(X4 i)) = out X0 X1 X2 X3 X4 := by
  funext i
  idx_vars i
  show (_ : EReal) = _
  pointwise [mix]
  simp only [← EReal.coe_mul, coe_sum]
  rfl

theorem rowLog_eq (f : Fin 8 → Fin 4096 → Fin 4096 → ℝ) :
    rowLog (fun i : S8x4096x4096.Idx => ((ex (f (i 0) (i 1)) (i 1) (i 2) : ℝ) : EReal)) (fun i : S8x4096.Idx => ((top (f (i 0) (i 1)) (i 1) : ℝ) : EReal))
      = fun i : S8x4096.Idx => ((lse2 (f (i 0) (i 1)) (i 1) : ℝ) : EReal) := by
  funext i
  idx_vars i
  show (_ : EReal) = _
  pointwise [rowLog]
  rw [Cert.MlaHost.log_two]
  have e : ((∑ k, ex (f i0 i1) i1 k : ℝ)) = den (f i0 i1) i1 := rfl
  simp only [coe_sum, e, Cert.MlaHost.log_pos (den_pos _ _), ← EReal.coe_add]
  exact div_coe (Real.log_pos (by norm_num)).ne'

variable (m : (ℓ : Loc nD τ sig) → Buf (Elt Ideal) ℓ)

/-- The reference's run, each result at its real-valued form. -/
theorem ref_run (ρ : Dev nD → PrngReg) (hm : ∀ c : Dev nD,
      m ((c.tc : Thread nD τ).loc main_arg0) = (fun i => ((X0 i : ℝ) : EReal))
      ∧ m ((c.tc : Thread nD τ).loc main_arg1) = (fun i => ((X1 i : ℝ) : EReal))
      ∧ m ((c.tc : Thread nD τ).loc main_arg2) = (fun i => ((X2 i : ℝ) : EReal))
      ∧ m ((c.tc : Thread nD τ).loc main_arg3) = (fun i => ((X3 i : ℝ) : EReal))
      ∧ m ((c.tc : Thread nD τ).loc main_arg4) = (fun i => ((X4 i : ℝ) : EReal))) :
    θ_run defs (onTc (τ := τ) (main (F := Ideal))) ⟨m, fun _ => 0, ρ⟩ fun r => ∀ c : Dev nD,
      r.2.mem ((c.tc : Thread nD τ).loc main_v53) = out X0 X1 X2 X3 X4
      ∧ r.2.mem ((c.tc : Thread nD τ).loc main_v55) = lse X0 X1 X2 X3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run m ρ)
  obtain ⟨e0, e1, rest⟩ := h c
  obtain ⟨h0, h1, h2, h3, h4⟩ := hm c
  refine ⟨e0.trans ?_, e1.trans ?_, rest⟩
  · show mix (weights (expoOf (m ((c.tc : Thread nD τ).loc main_arg0)) (m ((c.tc : Thread nD τ).loc main_arg1)) (m ((c.tc : Thread nD τ).loc main_arg2)) (m ((c.tc : Thread nD τ).loc main_arg3)))) (m ((c.tc : Thread nD τ).loc main_arg4)) = _
    rw [h0, h1, h2, h3, h4, expoOf_eq, weights_eq]
    exact mix_eq X0 X1 X2 X3 X4
  · show Cert.MlaHost.rows8 (rowLog (expo (scores (m ((c.tc : Thread nD τ).loc main_arg0)) (m ((c.tc : Thread nD τ).loc main_arg1)) (m ((c.tc : Thread nD τ).loc main_arg2)) (m ((c.tc : Thread nD τ).loc main_arg3)))
      (tops (scores (m ((c.tc : Thread nD τ).loc main_arg0)) (m ((c.tc : Thread nD τ).loc main_arg1)) (m ((c.tc : Thread nD τ).loc main_arg2)) (m ((c.tc : Thread nD τ).loc main_arg3)))))
      (tops (scores (m ((c.tc : Thread nD τ).loc main_arg0)) (m ((c.tc : Thread nD τ).loc main_arg1)) (m ((c.tc : Thread nD τ).loc main_arg2)) (m ((c.tc : Thread nD τ).loc main_arg3))))) = _
    rw [h0, h1, h2, h3, scores_eq, tops_eq, expo_eq]
    exact (congrArg Cert.MlaHost.rows8 (rowLog_eq (sc X0 X1 X2 X3))).trans (Cert.MlaHost.rows8_eq fun i => lse2 (sc X0 X1 X2 X3 (i 0) (i 1)) (i 1))

end Cert.FwdRef

end
-- ==== Proof.FwdOut.lean ====
/- What the arrays of the attention's forward kernel hold after its run. -/
module

public import proofs.«01_k».proof.Proof.FwdPoint
public import proofs.«01_k».proof.Proof.FwdRef
public import proofs.«01_k».proof.Proof.Gen.FwdKernelIdeal.Value

@[expose] public section

set_option maxRecDepth 16384

noncomputable section

namespace Cert.FwdOut

open Cert.FwdKernelIdeal Cert.FwdKernelIdeal.Gen Cert.FwdState Cert.FwdSteps Cert.FwdPoint Cert.FwdPure Cert.FwdRef Cert.MlaPure Cert.MlaRef Cert.Reals
open Idealize.ShloMosaic Idealize.ShloMosaic.Pointwise Idealize.ShloMosaic.Tactic Idealize.ShloMosaic.TcCoe Idealize.SL.Sem
open Idealize.ShloMosaic.Pipeline (Dat)

theorem outO_pt (b : Vec Ideal S256x512 .f32) (r : Fin 512) (x : Fin 128) :
    outO b (ix2 r x) = FloatOps.divf (F := Ideal) (φ := .f32) (b (ix2 (⟨x.val, by omega⟩ : Fin 256) r)) (b (ix2 (⟨128, by omega⟩ : Fin 256) r)) := by
  show (_ : EReal) = _
  pointwise [outO, k0_pay32]

theorem outL_pt (a : Vec Ideal S8x512 .f32) (b : Vec Ideal S256x512 .f32) (z : Fin 1) (e : Fin 8) (r : Fin 512) :
    outL a b (ix3 z e r) = (a (ix2 e r) : EReal) * (s2 : EReal)
      + FloatOps.log (F := Ideal) (φ := .f32) (b (ix2 (⟨128 + e.val, by omega⟩ : Fin 256) r)) * (((Real.log 2)⁻¹ : ℝ) : EReal) := by
  show (_ : EReal) = _
  pointwise [outL, k0_pay1, k0_pay31]
  rw [named_scale2, named_log2e]

variable (X0 : S4096x8x128.Idx → ℝ) (X1 : S4096x8x64.Idx → ℝ) (X2 : S4096x8x128.Idx → ℝ) (X3 : S4096x64.Idx → ℝ)
  (X4 : S4096x8x128.Idx → ℝ)

theorem raw_eq (t : Fin cfg0.N) (r : Fin 512) (k : Fin 4096) :
    raw (ques X0 X1 t) (keys X2 X3 (hd t)) r k.val * scale = sc X0 X1 X2 X3 (hd t) (row t r) k := by
  unfold raw keys ques
  rw [at_val]
  exact Cert.MlaHost.pad_dot X0 X1 X2 X3 (hd t) (row t r) k

theorem vals_lt (h : Fin 8) (x : Fin 128) (k : Fin 4096) : vals X4 h ⟨x.val, by omega⟩ k.val = X4 (ix3 k h x) := by
  unfold vals
  rw [at_val]
  exact dif_pos x.isLt

theorem vals_ge (h : Fin 8) (d : Fin 256) (hd : 128 ≤ d.val) (n : ℕ) : vals X4 h d n = 1 := dif_neg (by omega)

section
variable {X0 X1 X2 X3 X4}
variable {t : Fin cfg0.N} {a : Vec Ideal S8x512 .f32} {b : Vec Ideal S256x512 .f32}
  (hs : St (ques X0 X1 t) (keys X2 X3 (hd t)) (vals X4 (hd t)) (fun j => 512 * (t.val % 8) + (j.val + 1)) a b)
include hs

theorem held (r : Fin 512) : Held (raw (ques X0 X1 t) (keys X2 X3 (hd t)) r) (vals X4 (hd t)) ((row t r).val + 1) (a (ix2 (0 : Fin 8) r)) (fun d => b (ix2 d r)) := by
  have h := hs.2 r
  have e : 512 * (t.val % 8) + (r.val + 1) = (row t r).val + 1 := by
    show _ = t.val % 8 * 512 + r.val + 1
    omega
  exact e ▸ h

theorem outO_eq (r : Fin 512) (x : Fin 128) : outO b (ix2 r x) = ((fo X0 X1 X2 X3 X4 (row t r) (hd t) x : ℝ) : EReal) :=
  (outO_pt b r x).trans (Held.out (sc X0 X1 X2 X3 (hd t) (row t r)) (fun k => X4 (ix3 k (hd t) x)) (row t r) (raw_eq X0 X1 X2 X3 t r) (held hs r) _ _
    (vals_lt X4 (hd t) x) (fun k => vals_ge X4 (hd t) _ (le_refl 128) k.val))

theorem outL_eq (z : Fin 1) (e : Fin 8) (r : Fin 512) : outL a b (ix3 z e r) = ((fl X0 X1 X2 X3 (hd t) (row t r) : ℝ) : EReal) := by
  refine (outL_pt a b z e r).trans ?_
  rw [hs.1 e r]
  exact Held.log (sc X0 X1 X2 X3 (hd t) (row t r)) (row t r) (raw_eq X0 X1 X2 X3 t r) (held hs r) _
    (fun k => vals_ge X4 (hd t) _ (by show 128 ≤ 128 + e.val; omega) k.val)
end

theorem emb3 (t : Fin cfg0.N) (r : Fin 512) (x : Fin 128) : ((cfg0.win 3).blk t).view.emb (ix2 r x : S512x128.Idx) = (ix2 (row t r) (⟨t.val / 8 * 128 + x.val, by have := (idx t).2.2.2.2.2; omega⟩ : Fin 1024) : S4096x1024.Idx) := by
  blk_ext [idx t, row]
theorem emb4 (t : Fin cfg0.N) (z : Fin 1) (e : Fin 8) (r : Fin 512) : ((cfg0.win 4).blk t).view.emb (ix3 z e r : S1x8x512.Idx) = (ix3 (hd t) e (row t r) : S8x8x4096.Idx) := by
  blk_ext [idx t, row, hd]

variable (c : Dev nD) (m : (ℓ : Loc nD τ sig) → Buf (Elt Ideal) ℓ)

section
variable (h0 : m ((c.tc : Thread nD τ).loc main_arg0) = fun i => ((X0 i : ℝ) : EReal))
  (h1 : m ((c.tc : Thread nD τ).loc main_arg1) = fun i => ((X1 i : ℝ) : EReal))
  (h2 : m ((c.tc : Thread nD τ).loc main_arg2) = fun i => ((X2 i : ℝ) : EReal))
  (h3 : m ((c.tc : Thread nD τ).loc main_arg3) = fun i => ((X3 i : ℝ) : EReal))
  (h4 : m ((c.tc : Thread nD τ).loc main_arg4) = fun i => ((X4 i : ℝ) : EReal))
include h0 h1 h2 h3 h4

theorem final3 : (dats m 0 c).arrAt 3 (cfgs 0).N = out X0 X1 X2 X3 X4 := by
  refine (dats m 0 c).arrAt_eq_of_covers 3 _ (by decide +kernel) fun t hf y => ?_
  obtain ⟨r, x, rfl⟩ : ∃ (a : Fin 512) (b : Fin 128), y = ix2 a b := ⟨y 0, y 1, eq_ix2 y⟩
  refine Eq.trans ?_ (congrArg (out X0 X1 X2 X3 X4) (emb3 t r x).symm)
  blk_simp
  rw [after0_3]
  obtain ⟨a, b, e, hs⟩ := outs_st c m t (Q_eq c m t X0 X1 h0 h1) (K_eq c m t X2 X3 h2 h3) (U_eq c m t X4 h4)
  rw [e]
  refine (outO_eq hs r x).trans ?_
  have e1 : (⟨(t.val / 8 * 128 + x.val) / 128, by have := (idx t).2.2.2.2.2; omega⟩ : Fin 8) = hd t := Fin.ext (by show (t.val / 8 * 128 + x.val) / 128 = t.val / 8; omega)
  have e2 : (⟨(t.val / 8 * 128 + x.val) % 128, by omega⟩ : Fin 128) = x := Fin.ext (by show (t.val / 8 * 128 + x.val) % 128 = x.val; omega)
  show _ = ((fo X0 X1 X2 X3 X4 (row t r) ⟨(t.val / 8 * 128 + x.val) / 128, _⟩ ⟨(t.val / 8 * 128 + x.val) % 128, _⟩ : ℝ) : EReal)
  rw [e1, e2]

theorem final4 : (dats m 0 c).arrAt 4 (cfgs 0).N = lse X0 X1 X2 X3 := by
  refine (dats m 0 c).arrAt_eq_of_covers 4 _ (by decide +kernel) fun t hf y => ?_
  obtain ⟨z, e', r, rfl⟩ : ∃ (a : Fin 1) (b : Fin 8) (d : Fin 512), y = ix3 a b d := ⟨y 0, y 1, y 2, eq_ix3 y⟩
  refine Eq.trans ?_ (congrArg (lse X0 X1 X2 X3) (emb4 t z e' r).symm)
  blk_simp
  rw [after0_4]
  obtain ⟨a, b, e, hs⟩ := outs_st c m t (Q_eq c m t X0 X1 h0 h1) (K_eq c m t X2 X3 h2 h3) (U_eq c m t X4 h4)
  rw [e]
  exact outL_eq hs z e' r
end

/-- The kernel's run, each result at its real-valued form. -/
theorem ker_run (ρ : Dev nD → PrngReg) (hm : ∀ c : Dev nD,
      m ((c.tc : Thread nD τ).loc main_arg0) = (fun i => ((X0 i : ℝ) : EReal))
      ∧ m ((c.tc : Thread nD τ).loc main_arg1) = (fun i => ((X1 i : ℝ) : EReal))
      ∧ m ((c.tc : Thread nD τ).loc main_arg2) = (fun i => ((X2 i : ℝ) : EReal))
      ∧ m ((c.tc : Thread nD τ).loc main_arg3) = (fun i => ((X3 i : ℝ) : EReal))
      ∧ m ((c.tc : Thread nD τ).loc main_arg4) = (fun i => ((X4 i : ℝ) : EReal))) :
    θ_run defs (onTc (τ := τ) (main (F := Ideal))) ⟨m, fun _ => 0, ρ⟩ fun r => ∀ c : Dev nD,
      r.2.mem ((c.tc : Thread nD τ).loc main_v13_0) = out X0 X1 X2 X3 X4
      ∧ r.2.mem ((c.tc : Thread nD τ).loc main_v13_1) = lse X0 X1 X2 X3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run_blocks m ρ)
  obtain ⟨e0, e1, rest⟩ := h c
  obtain ⟨h0, h1, h2, h3, h4⟩ := hm c
  exact ⟨e0.trans (final3 X0 X1 X2 X3 X4 c m h0 h1 h2 h3 h4), e1.trans (final4 X0 X1 X2 X3 X4 c m h0 h1 h2 h3 h4), rest⟩

end Cert.FwdOut

end
-- ==== Proof.FwdClaim.lean ====
/- The attention forward kernel's results are the reference's. -/
module

public import proofs.«01_k».proof.Defs
public import proofs.«01_k».proof.Proof.FwdOut

@[expose] public section

set_option maxRecDepth 16384

noncomputable section

open Idealize.ShloMosaic Idealize.ShloMosaic.TcCoe Idealize.SL.Sem

namespace Cert.FwdClaim

instance pre : Cert.Pre_fwd_finite.Facts where
  bcast_S_S4096x8x128 := by decide
  bcast_S_S4096x8x64 := by decide
  bcast_S_S4096x64 := by decide

theorem frame_ref : Cert.quiescent_FwdRefIdeal := fun m ρ _ =>
  (θ_run Cert.FwdRefIdeal.defs _ _).mono (fun r h => ⟨fun c => (h c).2.2, sem_eq_zero_of_no_sems (by decide) r.2⟩) (Cert.FwdRefIdeal.Value.run m ρ)

theorem preserves : Cert.preserves_FwdKernel_FwdKernelIdeal :=
  ⟨IdealRules.named_const.statement _ _ _ _ _ rfl, IdealRules.named_const.statement _ _ _ _ _ rfl, IdealRules.named_const.statement _ _ _ _ _ rfl⟩

open Cert.FwdKernelIdeal in
theorem algebraic : Cert.algebraic_FwdKernelIdeal_FwdRefIdeal_pre_fwd_finite := by
  intro m g m' g' hpre hagree
  have hreal : ∃ (X0 : S4096x8x128.Idx → ℝ) (X1 : S4096x8x64.Idx → ℝ) (X2 : S4096x8x128.Idx → ℝ) (X3 : S4096x64.Idx → ℝ) (X4 : S4096x8x128.Idx → ℝ), ∀ c : Dev nD,
      m ((c.tc : Thread nD τ).loc main_arg0) = (fun i => ((X0 i : ℝ) : EReal))
      ∧ m ((c.tc : Thread nD τ).loc main_arg1) = (fun i => ((X1 i : ℝ) : EReal))
      ∧ m ((c.tc : Thread nD τ).loc main_arg2) = (fun i => ((X2 i : ℝ) : EReal))
      ∧ m ((c.tc : Thread nD τ).loc main_arg3) = (fun i => ((X3 i : ℝ) : EReal))
      ∧ m ((c.tc : Thread nD τ).loc main_arg4) = (fun i => ((X4 i : ℝ) : EReal)) := by
    obtain ⟨h0, h1, h2, h3, h4⟩ := hpre 0
    obtain ⟨X0, e0⟩ := Cert.Reals.exists_real _ _ h0
    obtain ⟨X1, e1⟩ := Cert.Reals.exists_real _ _ h1
    obtain ⟨X2, e2⟩ := Cert.Reals.exists_real _ _ h2
    obtain ⟨X3, e3⟩ := Cert.Reals.exists_real _ _ h3
    obtain ⟨X4, e4⟩ := Cert.Reals.exists_real _ _ h4
    refine ⟨X0, X1, X2, X3, X4, fun c => ?_⟩
    obtain rfl : c = 0 := Subsingleton.elim _ _
    exact ⟨e0, e1, e2, e3, e4⟩
  obtain ⟨X0, X1, X2, X3, X4, hm⟩ := hreal
  exact ⟨_, _, Cert.FwdOut.ker_run X0 X1 X2 X3 X4 m g hm,
    Cert.FwdRef.ref_run X0 X1 X2 X3 X4 m' g' fun c =>
      ⟨(hagree c).1.trans (hm c).1, (hagree c).2.1.trans (hm c).2.1, (hagree c).2.2.1.trans (hm c).2.2.1,
        (hagree c).2.2.2.1.trans (hm c).2.2.2.1, (hagree c).2.2.2.2.trans (hm c).2.2.2.2⟩⟩

end Cert.FwdClaim

end
-- ==== Proof.WinPure.lean ====
/- The windowed attention of one query in real numbers: a softmax over masked scores and one sink. -/
module

public import proofs.«01_k».proof.Proof.Reals
public import Idealize.ShloMosaic.Lib.Pointwise

@[expose] public section

noncomputable section

namespace Cert.WinPure

open Idealize.ShloMosaic Cert.Reals

/-- A score where the mask's bit is set, minus infinity elsewhere. -/
def msk (v : BitVec 1) (x : ℝ) : EReal := if v = 1#1 then (x : EReal) else ⊥

/-- The weight of a score relative to `μ`. -/
def wt (v : BitVec 1) (x μ : ℝ) : ℝ := if v = 1#1 then Real.exp (x - μ) else 0

theorem msk_lt (v : BitVec 1) (x : ℝ) : msk v x < ⊤ := by
  unfold msk
  split
  · exact EReal.coe_lt_top _
  · exact bot_lt_top

theorem exp_msk (v : BitVec 1) (x μ : ℝ) : Ideal.exp (msk v x - (μ : EReal)) = (wt v x μ : EReal) := by
  unfold msk wt
  split
  · rw [← EReal.coe_sub]; rfl
  · rw [EReal.bot_sub]; rfl

theorem add_msk (v : BitVec 1) (x y : ℝ) : (x : EReal) + msk v y = msk v (x + y) := by
  unfold msk
  split
  · rw [EReal.coe_add]
  · exact EReal.add_bot _

theorem wt_nonneg (v : BitVec 1) (x μ : ℝ) : 0 ≤ wt v x μ := by
  unfold wt
  split
  · exact (Real.exp_pos _).le
  · exact le_rfl

theorem wt_shift (v : BitVec 1) (x μ : ℝ) : wt v x μ = wt v x 0 * Real.exp (-μ) := by
  unfold wt
  split
  · rw [← Real.exp_add, sub_zero, sub_eq_add_neg]
  · rw [zero_mul]

/-- The sum of the weights and the sink's. -/
def tot (v : Fin 256 → BitVec 1) (s : Fin 256 → ℝ) (σ μ : ℝ) : ℝ := ∑ k, wt (v k) (s k) μ + Real.exp (σ - μ)

theorem tot_pos (v : Fin 256 → BitVec 1) (s : Fin 256 → ℝ) (σ μ : ℝ) : 0 < tot v s σ μ :=
  add_pos_of_nonneg_of_pos (Finset.sum_nonneg fun _ _ => wt_nonneg _ _ _) (Real.exp_pos _)

theorem tot_shift (v : Fin 256 → BitVec 1) (s : Fin 256 → ℝ) (σ μ : ℝ) : tot v s σ μ = tot v s σ 0 * Real.exp (-μ) := by
  unfold tot
  rw [add_mul, Finset.sum_mul, ← Real.exp_add, sub_zero, sub_eq_add_neg]
  exact congrArg (· + _) (Finset.sum_congr rfl fun k _ => wt_shift _ _ _)

/-- The attention's entry: the values `x` weighted. -/
def att (v : Fin 256 → BitVec 1) (s : Fin 256 → ℝ) (σ : ℝ) (x : Fin 256 → ℝ) : ℝ := (∑ k, x k * wt (v k) (s k) 0) / tot v s σ 0

/-- The weighted sum times the reciprocal of the weights' sum, whatever the weights are relative to. -/
theorem att_ker (v : Fin 256 → BitVec 1) (s : Fin 256 → ℝ) (σ : ℝ) (x : Fin 256 → ℝ) (μ : ℝ) :
    (∑ k, x k * wt (v k) (s k) μ) * (1 / tot v s σ μ) = att v s σ x := by
  have e : ∑ k, x k * wt (v k) (s k) μ = (∑ k, x k * wt (v k) (s k) 0) * Real.exp (-μ) := by
    rw [Finset.sum_mul]
    exact Finset.sum_congr rfl fun k _ => by rw [wt_shift, mul_assoc]
  rw [e, tot_shift, att, mul_one_div]
  exact mul_div_mul_right _ _ (Real.exp_ne_zero _)

/-- The values weighted by the softmax. -/
theorem att_ref (v : Fin 256 → BitVec 1) (s : Fin 256 → ℝ) (σ : ℝ) (x : Fin 256 → ℝ) (μ : ℝ) :
    ∑ k, x k * (wt (v k) (s k) μ / tot v s σ μ) = att v s σ x := by
  rw [← att_ker v s σ x μ, Finset.sum_mul]
  exact Finset.sum_congr rfl fun k _ => by rw [mul_one_div, mul_div_assoc]

theorem real_of {x : EReal} (h : x < ⊤) (h' : ⊥ < x) : ∃ μ : ℝ, x = (μ : EReal) :=
  ⟨x.toReal, (EReal.coe_toReal h.ne h'.ne').symm⟩

/-- The greatest of some values below infinity, one of which is not minus infinity, is real. -/
theorem real_fold {n : ℕ} (f : Fin n → EReal) (h : ∀ k, f k < ⊤) (k0 : Fin n) (h0 : ⊥ < f k0) :
    ∃ μ : ℝ, Finset.univ.fold max (⊥ : EReal) f = (μ : EReal) :=
  real_of ((Finset.fold_max_lt _).2 ⟨bot_lt_top, fun k _ => h k⟩) ((Finset.lt_fold_max _).2 (Or.inr ⟨k0, Finset.mem_univ _, h0⟩))

/-- The greatest masked score, against the sink. -/
theorem real_max (v : Fin 256 → BitVec 1) (s : Fin 256 → ℝ) (σ : ℝ) :
    ∃ μ : ℝ, max (Finset.univ.fold max (⊥ : EReal) fun k => msk (v k) (s k)) (σ : EReal) = (μ : EReal) :=
  real_of (max_lt ((Finset.fold_max_lt _).2 ⟨bot_lt_top, fun k _ => msk_lt _ _⟩) (EReal.coe_lt_top _))
    (lt_max_of_lt_right (EReal.bot_lt_coe _))

/-- Where the mask's bit is not set, neither the score nor the value counts. -/
theorem att_congr {v : Fin 256 → BitVec 1} {s s' : Fin 256 → ℝ} {σ : ℝ} {x x' : Fin 256 → ℝ} (h : ∀ k, v k = 1#1 → s k = s' k ∧ x k = x' k) :
    att v s σ x = att v s' σ x' := by
  have hw : ∀ k, wt (v k) (s k) 0 = wt (v k) (s' k) 0 := fun k => by
    unfold wt
    split
    · next e => rw [(h k e).1]
    · rfl
  have hx : ∀ k, x k * wt (v k) (s k) 0 = x' k * wt (v k) (s' k) 0 := fun k => by
    by_cases e : v k = 1#1
    · rw [hw, (h k e).2]
    · unfold wt
      rw [if_neg e, if_neg e, mul_zero, mul_zero]
  unfold att tot
  rw [Finset.sum_congr rfl fun k _ => hx k, Finset.sum_congr rfl fun k _ => hw k]

/-- The slope of a head: 2 to the power of −8·(h+1)/16. -/
def slope (h : ℕ) : ℝ := (Real.sqrt 2 ^ (h + 1))⁻¹

theorem slope_exp (h : ℕ) : Real.exp (Real.log 2 * (-8 * (1 + (h : ℝ)) / 16)) = slope h := by
  have e : Real.sqrt 2 = Real.exp (Real.log 2 / 2) := by rw [Real.exp_half, Real.exp_log two_pos]
  rw [slope, e, ← Real.exp_nat_mul, ← Real.exp_neg]
  congr 1
  push_cast
  ring

theorem slope_odd (k : ℕ) : slope (2 * k + 1) = (2 ^ (k + 1))⁻¹ := by
  rw [slope, show 2 * k + 1 + 1 = 2 * (k + 1) by ring, pow_mul, Real.sq_sqrt (by norm_num)]

theorem slope_even (k : ℕ) : slope (2 * k) = (2 ^ k * Real.sqrt 2)⁻¹ := by
  rw [slope, pow_succ, pow_mul, Real.sq_sqrt (by norm_num)]

/-- The distance of a key of the window from a query of the block. -/
def dist (r : Fin 128) (k : Fin 256) : BitVec 32 := IntOp.subi (IntOp.addi 128#32 (BitVec.ofNat 32 r.val)) (BitVec.ofNat 32 k.val)
/-- Whether a key's position is not before the first. -/
def begun (n : BitVec 32) (k : Fin 256) : BitVec 1 :=
  IntOp.cmpi .sge (IntOp.addi (IntOp.muli (IntOp.subi n 1#32) 128#32) (BitVec.ofNat 32 k.val)) 0#32
/-- Whether the key counts: within the window, and not before the first position. -/
def vm (n : BitVec 32) (r : Fin 128) (k : Fin 256) : BitVec 1 :=
  IntOp.andi (IntOp.andi (IntOp.cmpi .sge (dist r k) 0#32) (IntOp.cmpi .slt (dist r k) 128#32)) (begun n k)

theorem begun_eq : ∀ (n : Fin 32) (k : Fin 256), begun (BitVec.ofNat 32 n.val) k = if 128 ≤ 128 * n.val + k.val then 1#1 else 0#1 := by decide +kernel

theorem vm_pos (n : Fin 32) (r : Fin 128) (k : Fin 256) (h : vm (BitVec.ofNat 32 n.val) r k = 1#1) : 128 ≤ 128 * n.val + k.val := by
  by_contra hc
  unfold vm at h
  rw [begun_eq, if_neg hc] at h
  exact (by decide : ∀ b : BitVec 1, IntOp.andi b 0#1 ≠ 1#1) _ h

theorem vm_later (n : Fin 32) (r : Fin 128) (k : Fin 256) (h : 1 ≤ n.val) : vm (BitVec.ofNat 32 n.val) r k = vm 1#32 r k := by
  have e := begun_eq 1 k
  unfold vm
  rw [begun_eq, if_pos (by omega), show (1#32 : BitVec 32) = BitVec.ofNat 32 (1 : Fin 32).val from rfl, e, if_pos (by show 128 ≤ 128 * 1 + k.val; omega)]

/-- The position of a key of a block's window (where there is one). -/
def wrow (n : Fin 32) (k : Fin 256) : Fin 4096 := ⟨128 * n.val + k.val - 128, by omega⟩
/-- The position of a query of a block. -/
def qrow (n : Fin 32) (r : Fin 128) : Fin 4096 := ⟨128 * n.val + r.val, by omega⟩

/-- The score of a key. -/
def sc (X : Fin 4096 → Fin 4032 → ℝ) (n : Fin 32) (r : Fin 128) (h : Fin 16) (k : Fin 256) : ℝ :=
  (∑ d : Fin 64, X (wrow n k) ⟨1024 + (64 * (h.val / 8) + d.val), by omega⟩ * X (qrow n r) ⟨64 * h.val + d.val, by omega⟩) * (1 / 8)
    + -(slope h.val) * ((dist r k).toInt : ℝ)

/-- The windowed attention. -/
def win (X : Fin 4096 → Fin 4032 → ℝ) (S : Fin 16 → ℝ) (n : Fin 32) (r : Fin 128) (h : Fin 16) (d : Fin 64) : ℝ :=
  att (vm (BitVec.ofNat 32 n.val) r) (sc X n r h) (S h) fun k => X (wrow n k) ⟨1152 + (64 * (h.val / 8) + d.val), by omega⟩

/-- A sum over two heads' columns, of which one head's count. -/
theorem half_sum (j : ℕ) (hj : j < 2) (f : Fin 128 → ℝ) (g : Fin 64 → ℝ) (e : ℝ) :
    ∑ c : Fin 128, f c * ((if j = c.val / 64 then g ⟨c.val % 64, by omega⟩ else 0) * e) = (∑ d : Fin 64, f ⟨64 * j + d.val, by omega⟩ * g d) * e := by
  have h := Fin.sum_univ_add (a := 64) (b := 64) fun c : Fin 128 => f c * ((if j = c.val / 64 then g ⟨c.val % 64, by omega⟩ else 0) * e)
  refine h.trans ?_
  have a : ∀ d : Fin 64, (Fin.castAdd 64 d).val / 64 = 0 ∧ (Fin.castAdd 64 d).val % 64 = d.val := fun d => by
    rw [Fin.val_castAdd]
    omega
  have b : ∀ d : Fin 64, (Fin.natAdd 64 d).val / 64 = 1 ∧ (Fin.natAdd 64 d).val % 64 = d.val := fun d => by
    rw [Fin.val_natAdd]
    omega
  rw [Finset.sum_mul]
  obtain rfl | rfl : j = 0 ∨ j = 1 := by omega
  · rw [← add_zero (∑ d : Fin 64, _ * e)]
    refine congrArg₂ (· + ·) (Finset.sum_congr rfl fun d _ => ?_) (Finset.sum_eq_zero fun d _ => ?_)
    · rw [if_pos (a d).1.symm, mul_assoc]
      exact congrArg₂ (fun x y => f x * (g y * e)) (Fin.ext (by show d.val = 64 * 0 + d.val; omega)) (Fin.ext (a d).2)
    · rw [if_neg (by rw [(b d).1]; omega), zero_mul, mul_zero]
  · rw [← zero_add (∑ d : Fin 64, _ * e)]
    refine congrArg₂ (· + ·) (Finset.sum_eq_zero fun d _ => ?_) (Finset.sum_congr rfl fun d _ => ?_)
    · rw [if_neg (by rw [(a d).1]; omega), zero_mul, mul_zero]
    · rw [if_pos (b d).1.symm, mul_assoc]
      exact congrArg₂ (fun x y => f x * (g y * e)) (Fin.ext (by show 64 + d.val = 64 * 1 + d.val; omega)) (Fin.ext (b d).2)

end Cert.WinPure

end
-- ==== Proof.WinPay.lean ====
/- The payloads of the windowed attention's kernel at an index. -/
module

public import proofs.«01_k».proof.Proof.Gen.WinKernelIdeal.Skeleton
public import proofs.«01_k».proof.Proof.Gen.WinKernelIdeal
public import proofs.«01_k».proof.Proof.MlaPure
public import proofs.«01_k».proof.Proof.WinPure
public import Idealize.ShloMosaic.Lib.Pointwise

@[expose] public section

set_option maxRecDepth 16384

noncomputable section

namespace Cert.WinPay

open Cert.WinKernelIdeal Cert.WinKernelIdeal.Gen Cert.MlaPure Cert.Reals Cert.WinPure
open Idealize.ShloMosaic Idealize.ShloMosaic.Pointwise Idealize.ShloMosaic.Tactic

theorem keys_pay (x y : Vec Ideal S128x256 .bf16) (k : Fin 256) (c : Fin 128) :
    k0_pay17 (F := Ideal) x y (ix2 k c) = if h : k.val < 128 then (show EReal from x (ix2 ⟨k.val, h⟩ ⟨c.val, by omega⟩))
      else y (ix2 ⟨k.val - 128, by omega⟩ ⟨c.val, by omega⟩) := by
  show (_ : EReal) = _
  pointwise [k0_pay17, k0_pay15, k0_pay16]

theorem vals_pay (x y : Vec Ideal S128x256 .bf16) (k : Fin 256) (c : Fin 128) :
    k0_pay18 (F := Ideal) x y (ix2 k c) = if h : k.val < 128 then (show EReal from x (ix2 ⟨k.val, h⟩ ⟨128 + c.val, by omega⟩))
      else y (ix2 ⟨k.val - 128, by omega⟩ ⟨128 + c.val, by omega⟩) := by
  show (_ : EReal) = _
  pointwise [k0_pay18, k0_pay15, k0_pay16]

theorem left_half : ∀ c : Fin 128, IntOp.cmpi .slt (BitVec.ofNat 32 c.val) 64#32 = if c.val < 64 then 1#1 else 0#1 := by decide

/-- The head of a row of the stack. -/
def head (R : Fin 2048) : Fin 16 := ⟨8 * (R.val / 1024) + 2 * (R.val / 128 % 4) + R.val / 512 % 2, by omega⟩
/-- Its query in the block. -/
def qry (R : Fin 2048) : Fin 128 := ⟨R.val % 128, by omega⟩
/-- A column of a head. -/
def hcol (h : Fin 16) (d : Fin 64) : Fin 1024 := ⟨64 * h.val + d.val, by omega⟩

theorem stack_pay (q0 q1 q2 q3 q4 q5 q6 q7 : FVec Ideal S128x128 .bf16) (X : Fin 128 → Fin 1024 → EReal)
    (e0 : ∀ r c, q0 (ix2 r c) = X r ⟨c.val, by omega⟩) (e1 : ∀ r c, q1 (ix2 r c) = X r ⟨128 + c.val, by omega⟩)
    (e2 : ∀ r c, q2 (ix2 r c) = X r ⟨256 + c.val, by omega⟩) (e3 : ∀ r c, q3 (ix2 r c) = X r ⟨384 + c.val, by omega⟩)
    (e4 : ∀ r c, q4 (ix2 r c) = X r ⟨512 + c.val, by omega⟩) (e5 : ∀ r c, q5 (ix2 r c) = X r ⟨640 + c.val, by omega⟩)
    (e6 : ∀ r c, q6 (ix2 r c) = X r ⟨768 + c.val, by omega⟩) (e7 : ∀ r c, q7 (ix2 r c) = X r ⟨896 + c.val, by omega⟩)
    (R : Fin 2048) (c : Fin 128) :
    k0_pay24 (F := Ideal) k0_pay19 (k0_pay20 q0 q1 q2 q3) (k0_pay21 q4) (k0_pay22 q5) (k0_pay23 q6) q7 (ix2 R c)
      = (if R.val / 1024 = c.val / 64 then X (qry R) (hcol (head R) ⟨c.val % 64, by omega⟩) else 0) * Ideal.ofBits .f32 0x3E000000#32 := by
  show (_ : EReal) = _
  pointwise [k0_pay24, k0_pay19, k0_pay20, k0_pay21, k0_pay22, k0_pay23]
  simp only [left_half, select_if, e0, e1, e2, e3, e4, e5, e6, e7]
  refine congrArg (· * _) ?_
  repeat' split
  all_goals
    first
      | rfl
      | (exfalso; omega)
      | exact congrArg₂ X (Fin.ext (by simp only [qry]; omega)) (Fin.ext (by simp only [hcol, head]; omega))

/-- A query's column of the output, from keys, values, queries, biases and sinks in rows. -/
def core (v11 v14 : FVec Ideal S256x128 .f32) (v48 : FVec Ideal S2048x128 .f32) (v49 : Vec Ideal S256x2048 .f32) (v129 : FVec Ideal S1x2048 .f32) :
    FVec Ideal S128x2048 .f32 :=
  have v133 : FVec Ideal S256x2048 .f32 := addf (matmul dot_S256x128_S2048x128_S256x2048_1_1_0_0_n_n none (truncf .bf16 v11 bitsLt_bf16_f32)
    (truncf .bf16 v48 bitsLt_bf16_f32) (constant S256x2048 .f32 0x00000000#32)) v49
  have v136 : FVec Ideal S1x2048 .f32 := maximumf (shapeCast S1x2048 (multiReduction .maximumf [0] S2048 v133 0xFF800000#32 reduces_S256x2048_S2048 (.inl rfl) rfl)
    shapeCasts_S2048_S1x2048) v129
  have v139 : FVec Ideal S256x2048 .f32 := exp (subf v133 (broadcastTo S256x2048 v136 broadcasts_S1x2048_S256x2048))
  have v144 : FVec Ideal S1x2048 .f32 := addf (shapeCast S1x2048 (multiReduction .add [0] S2048 v139 0x00000000#32 reduces_S256x2048_S2048 (.inl rfl) rfl)
    shapeCasts_S2048_S1x2048) (exp (subf v129 v136))
  mulf (matmul dot_S128x256_S256x2048_S128x2048_1_0_0_1_n_n none (truncf .bf16 (transpose S128x256 [1, 0] v14 transposes_S256x128_p1_0_S128x256) bitsLt_bf16_f32)
      (truncf .bf16 v139 bitsLt_bf16_f32) (constant S128x2048 .f32 0x00000000#32))
    (broadcastTo S128x2048 (divf (broadcast S1x2048 (Scalar.ofBits .f32 0x3F800000#32)) v144) broadcasts_S1x2048_S128x2048)

theorem core_pay (v11 v14 : FVec Ideal S256x128 .f32) (v48 : FVec Ideal S2048x128 .f32) (v49 : Vec Ideal S256x2048 .f32) (v129 : FVec Ideal S1x2048 .f32)
    (K V : Fin 256 → Fin 128 → ℝ) (Q : Fin 2048 → Fin 128 → ℝ) (v : Fin 256 → Fin 2048 → BitVec 1) (β : Fin 256 → Fin 2048 → ℝ) (σ : Fin 2048 → ℝ)
    (hK : ∀ k c, v11 (ix2 k c) = ((K k c : ℝ) : EReal)) (hV : ∀ k c, v14 (ix2 k c) = ((V k c : ℝ) : EReal))
    (hQ : ∀ R c, v48 (ix2 R c) = ((Q R c : ℝ) : EReal)) (hβ : ∀ k R, v49 (ix2 k R) = msk (v k R) (β k R))
    (hσ : ∀ R, v129 (ix2 0 R) = ((σ R : ℝ) : EReal)) (e : Fin 128) (R : Fin 2048) :
    core v11 v14 v48 v49 v129 (ix2 e R)
      = ((att (fun k => v k R) (fun k => ∑ c, K k c * Q R c + β k R) (σ R) (fun k => V k e) : ℝ) : EReal) := by
  show (_ : EReal) = _
  pointwise [core]
  simp only [hK, hV, hQ, hβ, hσ, ofBits_ninf, ofBits_one, ← EReal.coe_mul, coe_sum, add_msk]
  obtain ⟨μ, hμ⟩ := real_max (fun k => v k R) (fun k => ∑ c, K k c * Q R c + β k R) (σ R)
  have he : Ideal.exp ((σ R : EReal) - (μ : EReal)) = ((Real.exp (σ R - μ) : ℝ) : EReal) := by
    rw [← EReal.coe_sub]
    rfl
  simp only [hμ, exp_msk, he, ← EReal.coe_mul, coe_sum, ← EReal.coe_add, ← EReal.coe_one]
  refine (congrArg (_ * ·) (div_coe (tot_pos (fun k => v k R) (fun k => ∑ c, K k c * Q R c + β k R) (σ R) μ).ne')).trans ?_
  rw [← EReal.coe_mul]
  exact congrArg _ (att_ker _ _ _ _ _)

/-- Sixteen choices by number. -/
theorem pick {α : Type} (f : Fin 16 → α) (b : Fin 16) : ∀ x : BitVec 32, x = BitVec.ofNat 32 b.val →
    Scalar.select (IntOp.cmpi .eq x 0#32) (f 0) (Scalar.select (IntOp.cmpi .eq x 1#32) (f 1) (Scalar.select (IntOp.cmpi .eq x 2#32) (f 2)
    (Scalar.select (IntOp.cmpi .eq x 3#32) (f 3) (Scalar.select (IntOp.cmpi .eq x 4#32) (f 4) (Scalar.select (IntOp.cmpi .eq x 5#32) (f 5)
    (Scalar.select (IntOp.cmpi .eq x 6#32) (f 6) (Scalar.select (IntOp.cmpi .eq x 7#32) (f 7) (Scalar.select (IntOp.cmpi .eq x 8#32) (f 8)
    (Scalar.select (IntOp.cmpi .eq x 9#32) (f 9) (Scalar.select (IntOp.cmpi .eq x 10#32) (f 10) (Scalar.select (IntOp.cmpi .eq x 11#32) (f 11)
    (Scalar.select (IntOp.cmpi .eq x 12#32) (f 12) (Scalar.select (IntOp.cmpi .eq x 13#32) (f 13) (Scalar.select (IntOp.cmpi .eq x 14#32) (f 14)
    (f 15))))))))))))))) = f b := by
  rintro x rfl
  fin_cases b <;> rfl

/-- The number of a row's block of the stack. -/
def blk (R : Fin 2048) : Fin 16 := ⟨R.val / 128, by omega⟩
/-- The head of a block of the stack. -/
def bhead (b : Fin 16) : Fin 16 := ⟨8 * (b.val / 8) + 2 * (b.val % 4) + b.val / 4 % 2, by omega⟩

theorem head_blk (R : Fin 2048) : bhead (blk R) = head R := Fin.ext (by simp only [bhead, blk, head]; omega)

theorem shift_row : ∀ R : Fin 2048, IntOp.shrsi .vector (BitVec.ofNat 32 R.val) 7#32 = BitVec.ofNat 32 (blk R).val := by decide +kernel
theorem low_row : ∀ R : Fin 2048, IntOp.andi (BitVec.ofNat 32 R.val) 127#32 = BitVec.ofNat 32 (qry R).val := by decide +kernel

/-- The sinks' row. -/
def sinks (v50 v51 v52 : Elt Ideal .f32) (v117 : FVec Ideal S1x2048 .f32) : FVec Ideal S1x2048 .f32 :=
  select (cmpi .eq k0_pay25 (broadcast S1x2048 0#32)) (broadcast S1x2048 v50)
    (select (cmpi .eq k0_pay25 (broadcast S1x2048 1#32)) (broadcast S1x2048 v51)
      (select (cmpi .eq k0_pay25 (broadcast S1x2048 2#32)) (broadcast S1x2048 v52) v117))

theorem sinks_pay (f : Fin 16 → EReal) (R : Fin 2048) :
    sinks (f 0) (f 1) (f 2) (k0_pay27 (F := Ideal) (f 3) (f 4) (f 5) (f 6) (f 7) (f 8) (f 9) (f 10) (f 11) (f 12) (f 13) (f 14) k0_pay25 (k0_pay26 (f 15)) 14#32) (ix2 0 R)
      = f (blk R) := by
  show (_ : EReal) = _
  pointwise [sinks, k0_pay25, k0_pay26, k0_pay27]
  exact pick f (blk R) _ (shift_row R)

theorem main_pay (v11 v14 : FVec Ideal S256x128 .f32) (v48 : FVec Ideal S2048x128 .f32) (v49 : Vec Ideal S256x2048 .f32) (v50 v51 v52 : Elt Ideal .f32)
    (v117 : FVec Ideal S1x2048 .f32) :
    k0_pay28 (F := Ideal) v11 v14 v48 v49 v50 v51 v52 k0_pay25 v117 2#32 = core v11 v14 v48 v49 (sinks v50 v51 v52 v117) := rfl

/-- The rows of a tile's product at a row and a column of the output. -/
def tat (D : FVec Ideal S128x2048 .f32) (w : Fin 8) (r e : Fin 128) : EReal :=
  D (ix2 ⟨64 * (w.val / 4) + e.val % 64, by omega⟩ ⟨1024 * (w.val / 4) + 512 * (e.val / 64) + 128 * (w.val % 4) + r.val, by omega⟩)

theorem tat_of (D : FVec Ideal S128x2048 .f32) (w : Fin 8) (r e : Fin 128) (a : e.val < 64 → Fin 128) (b : e.val < 64 → Fin 2048)
    (a' : ¬e.val < 64 → Fin 128) (b' : ¬e.val < 64 → Fin 2048)
    (h : ∀ q, (a q).val = 64 * (w.val / 4) + e.val ∧ (b q).val = 1024 * (w.val / 4) + 128 * (w.val % 4) + r.val)
    (h' : ∀ q, (a' q).val + 64 = 64 * (w.val / 4) + e.val ∧ (b' q).val = 1024 * (w.val / 4) + 512 + 128 * (w.val % 4) + r.val) :
    (if q : e.val < 64 then D (ix2 (a q) (b q)) else D (ix2 (a' q) (b' q))) = tat D w r e := by
  unfold tat
  split
  · next q =>
    have := h q
    exact congrArg₂ (fun x y => D (ix2 x y)) (Fin.ext (by show _ = 64 * (w.val / 4) + e.val % 64; omega))
      (Fin.ext (by show _ = 1024 * (w.val / 4) + 512 * (e.val / 64) + 128 * (w.val % 4) + r.val; omega))
  · next q =>
    have := h' q
    exact congrArg₂ (fun x y => D (ix2 x y)) (Fin.ext (by show _ = 64 * (w.val / 4) + e.val % 64; omega))
      (Fin.ext (by show _ = 1024 * (w.val / 4) + 512 * (e.val / 64) + 128 * (w.val % 4) + r.val; omega))

/-- The columns of the first four tiles, turned. -/
def turn (D : FVec Ideal S128x2048 .f32) : FVec Ideal S512x128 .f32 :=
  transpose S512x128 [1, 0] (concatenate S128x512 0 [⟨S64x512, extractStridedSlice S64x512 ![0, 0] D slices_S128x2048_o0_0_S64x512⟩,
    ⟨S64x512, extractStridedSlice S64x512 ![0, 512] D slices_S128x2048_o0_512_S64x512⟩] concatenates_S64x512_S64x512_S128x512_d0) transposes_S128x512_p1_0_S512x128

theorem tiles_right (D : FVec Ideal S128x2048 .f32) (r e : Fin 128) :
    k0_pay3 (F := Ideal) D (ix2 r e) = tat D 4 r e ∧ k0_pay4 (F := Ideal) D (ix2 r e) = tat D 5 r e
    ∧ k0_pay5 (F := Ideal) D (ix2 r e) = tat D 6 r e ∧ k0_pay6 (F := Ideal) D (ix2 r e) = tat D 7 r e := by
  refine ⟨?_, ?_, ?_, ?_⟩ <;>
  (show (_ : EReal) = _
   pointwise [k0_pay3, k0_pay4, k0_pay5, k0_pay6, k0_pay2]
   refine tat_of D _ r e (fun _ => _) (fun _ => _) (fun _ => _) (fun _ => _) (fun h => ?_) (fun h => ?_)
   · exact ⟨by simp; try omega, by simp; try omega⟩
   · exact ⟨by simp; try omega, by simp; try omega⟩)

theorem tiles_left (D : FVec Ideal S128x2048 .f32) (r e : Fin 128) :
    truncf (F := Ideal) .bf16 (extractStridedSlice S128x128 ![0, 0] (turn D) slices_S512x128_o0_0_S128x128) bitsLt_bf16_f32 (ix2 r e) = tat D 0 r e
    ∧ truncf (F := Ideal) .bf16 (extractStridedSlice S128x128 ![128, 0] (turn D) slices_S512x128_o128_0_S128x128) bitsLt_bf16_f32 (ix2 r e) = tat D 1 r e
    ∧ truncf (F := Ideal) .bf16 (extractStridedSlice S128x128 ![256, 0] (turn D) slices_S512x128_o256_0_S128x128) bitsLt_bf16_f32 (ix2 r e) = tat D 2 r e
    ∧ truncf (F := Ideal) .bf16 (extractStridedSlice S128x128 ![384, 0] (turn D) slices_S512x128_o384_0_S128x128) bitsLt_bf16_f32 (ix2 r e) = tat D 3 r e := by
  refine ⟨?_, ?_, ?_, ?_⟩ <;>
  (show (_ : EReal) = _
   pointwise [turn]
   refine tat_of D _ r e (fun _ => _) (fun _ => _) (fun _ => _) (fun _ => _) (fun h => ?_) (fun h => ?_)
   · exact ⟨by simp; try omega, by simp; try omega⟩
   · exact ⟨by simp; try omega, by simp; try omega⟩)

theorem named_slope (k : Fin 8) (s : String) (x : BitVec 32) (hs : κ s = some (((2 ^ k.val * Real.sqrt 2)⁻¹ : ℝ) : EReal)) :
    Named.named (F := Ideal) (φ := .f32) κ s x = ((slope (2 * k.val) : ℝ) : EReal) := by
  rw [slope_even]
  exact IdealRules.named_const.ideal_named_scalar _ _ _ _ hs

/-- The slopes by block of the stack, as the kernel has them. -/
def coef : Fin 16 → EReal :=
  ![Named.named (F := Ideal) (φ := .f32) κ "slope0" 0x3F3504F3#32, Named.named (F := Ideal) (φ := .f32) κ "slope1" 0x3EB504F3#32,
    Named.named (F := Ideal) (φ := .f32) κ "slope2" 0x3E3504F3#32, Named.named (F := Ideal) (φ := .f32) κ "slope3" 0x3DB504F3#32,
    Ideal.ofBits .f32 0x3F000000#32, Ideal.ofBits .f32 0x3E800000#32, Ideal.ofBits .f32 0x3E000000#32, Ideal.ofBits .f32 0x3D800000#32,
    Named.named (F := Ideal) (φ := .f32) κ "slope4" 0x3D3504F3#32, Named.named (F := Ideal) (φ := .f32) κ "slope5" 0x3CB504F3#32,
    Named.named (F := Ideal) (φ := .f32) κ "slope6" 0x3C3504F3#32, Named.named (F := Ideal) (φ := .f32) κ "slope7" 0x3BB504F3#32,
    Ideal.ofBits .f32 0x3D000000#32, Ideal.ofBits .f32 0x3C800000#32, Ideal.ofBits .f32 0x3C000000#32, Ideal.ofBits .f32 0x3B800000#32]

theorem named_mask : Named.named (F := Ideal) (φ := .f32) κ "mask" 0xF149F2CA#32 = (⊥ : EReal) :=
  IdealRules.named_const.ideal_named_scalar _ _ _ _ rfl

theorem coef_eq (b : Fin 16) : coef b = ((slope (bhead b).val : ℝ) : EReal) := by
  have n0 := named_slope 0 "slope0" 0x3F3504F3#32 (by norm_num [κ])
  have n1 := named_slope 1 "slope1" 0x3EB504F3#32 (by norm_num [κ])
  have n2 := named_slope 2 "slope2" 0x3E3504F3#32 (by norm_num [κ])
  have n3 := named_slope 3 "slope3" 0x3DB504F3#32 (by norm_num [κ])
  have n4 := named_slope 4 "slope4" 0x3D3504F3#32 (by norm_num [κ])
  have n5 := named_slope 5 "slope5" 0x3CB504F3#32 (by norm_num [κ])
  have n6 := named_slope 6 "slope6" 0x3C3504F3#32 (by norm_num [κ])
  have n7 := named_slope 7 "slope7" 0x3BB504F3#32 (by norm_num [κ])
  have o0 : Ideal.ofBits .f32 0x3F000000#32 = ((slope 1 : ℝ) : EReal) := by
    rw [slope_odd 0]; simp [Ideal.ofBits, Ideal.ieee, -EReal.coe_mul]; norm_num
  have o1 : Ideal.ofBits .f32 0x3E800000#32 = ((slope 3 : ℝ) : EReal) := by
    rw [slope_odd 1]; simp [Ideal.ofBits, Ideal.ieee, -EReal.coe_mul]; norm_num
  have o2 : Ideal.ofBits .f32 0x3E000000#32 = ((slope 5 : ℝ) : EReal) := by
    rw [slope_odd 2]; simp [Ideal.ofBits, Ideal.ieee, -EReal.coe_mul]; norm_num
  have o3 : Ideal.ofBits .f32 0x3D800000#32 = ((slope 7 : ℝ) : EReal) := by
    rw [slope_odd 3]; simp [Ideal.ofBits, Ideal.ieee, -EReal.coe_mul]; norm_num
  have o4 : Ideal.ofBits .f32 0x3D000000#32 = ((slope 9 : ℝ) : EReal) := by
    rw [slope_odd 4]; simp [Ideal.ofBits, Ideal.ieee, -EReal.coe_mul]; norm_num
  have o5 : Ideal.ofBits .f32 0x3C800000#32 = ((slope 11 : ℝ) : EReal) := by
    rw [slope_odd 5]; simp [Ideal.ofBits, Ideal.ieee, -EReal.coe_mul]; norm_num
  have o6 : Ideal.ofBits .f32 0x3C000000#32 = ((slope 13 : ℝ) : EReal) := by
    rw [slope_odd 6]; simp [Ideal.ofBits, Ideal.ieee, -EReal.coe_mul]; norm_num
  have o7 : Ideal.ofBits .f32 0x3B800000#32 = ((slope 15 : ℝ) : EReal) := by
    rw [slope_odd 7]; simp [Ideal.ofBits, Ideal.ieee, -EReal.coe_mul]; norm_num
  fin_cases b
  exacts [n0, n1, n2, n3, o0, o1, o2, o3, n4, n5, n6, n7, o4, o5, o6, o7]

theorem bias_pay (n : BitVec 32) (k : Fin 256) (R : Fin 2048) :
    k0_pay14 (F := Ideal) k0_pay7 (k0_pay8 n) (k0_pay12 k0_pay9 k0_pay10 k0_pay11 (coef 10)) (k0_pay13 k0_pay9) (coef 0) (ix2 k R)
      = msk (vm n (qry R) k) (-(slope (head R).val) * ((dist (qry R) k).toInt : ℝ)) := by
  show (_ : EReal) = _
  pointwise [k0_pay14, k0_pay7, k0_pay8, k0_pay9, k0_pay10, k0_pay11, k0_pay12, k0_pay13]
  rw [low_row, named_mask]
  have key : ∀ z : EReal, z = coef (blk R) → Scalar.select (vm n (qry R) k) ((0 - z) * FloatOps.sitofp (F := Ideal) .f32 (dist (qry R) k)) (⊥ : EReal)
      = msk (vm n (qry R) k) (-(slope (head R).val) * ((dist (qry R) k).toInt : ℝ)) := by
    rintro z rfl
    rw [coef_eq, head_blk]
    unfold msk
    rcases (by decide : ∀ b : BitVec 1, b = 1#1 ∨ b = 0#1) (vm n (qry R) k) with e | e <;> rw [e]
    · rw [if_pos rfl]
      show ((0 : EReal) - ((slope (head R).val : ℝ) : EReal)) * (((dist (qry R) k).toInt : ℝ) : EReal) = _
      rw [← EReal.coe_zero, ← EReal.coe_sub, ← EReal.coe_mul, zero_sub]
    · rw [if_neg (by decide)]
      rfl
  exact key _ (pick coef (blk R) _ (shift_row R))

end Cert.WinPay

end
-- ==== Proof.WinCore.lean ====
/- What the windowed attention's kernel computes from its blocks, in real numbers. -/
module

public import proofs.«01_k».proof.Proof.WinPay

@[expose] public section

set_option maxRecDepth 16384

noncomputable section

namespace Cert.WinPay

open Cert.WinKernelIdeal Cert.WinKernelIdeal.Gen Cert.MlaPure Cert.Reals Cert.WinPure
open Idealize.ShloMosaic Idealize.ShloMosaic.Pointwise Idealize.ShloMosaic.Tactic

theorem ld16 (x : Vec Ideal S16 .f32) (h : Fin 16) (inb) (hp) :
    View.ld x (Rect.unit (s := S16) ![h.val] ![1] inb) (Shape.Idx.first hp) = x (ix1 h) := by
  refine congrArg x (funext fun a => ?_)
  match a with
  | 0 => exact Fin.ext (by show h.val + 1 * _ = h.val; exact congrArg (h.val + ·) rfl)

theorem ld1024 (x : Vec Ideal S128x1024 .bf16) (o : ℕ) (ho : o + 128 ≤ 1024) (inb) (r c : Fin 128) :
    View.ld x (Rect.unit (s := S128x1024) ![0, o] ![128, 128] inb) (ix2 r c) = x (ix2 r ⟨o + c.val, by omega⟩) := by
  refine congrArg x (funext fun a => ?_)
  match a with
  | 0 => exact Fin.ext (by show 0 + 1 * r.val = r.val; omega)
  | 1 => exact Fin.ext (by show o + 1 * c.val = o + c.val; omega)

/-- The sinks in the order of the stack's blocks. -/
def ordered (x : Vec Ideal S16 .f32) : Fin 16 → EReal :=
  ![View.ld x (Rect.unit ![0] ![1] inb_S16_S1_0) (Shape.Idx.first (by decide)), View.ld x (Rect.unit ![2] ![1] inb_S16_S1_2) (Shape.Idx.first (by decide)),
    View.ld x (Rect.unit ![4] ![1] inb_S16_S1_4) (Shape.Idx.first (by decide)), View.ld x (Rect.unit ![6] ![1] inb_S16_S1_6) (Shape.Idx.first (by decide)),
    View.ld x (Rect.unit ![1] ![1] inb_S16_S1_1) (Shape.Idx.first (by decide)), View.ld x (Rect.unit ![3] ![1] inb_S16_S1_3) (Shape.Idx.first (by decide)),
    View.ld x (Rect.unit ![5] ![1] inb_S16_S1_5) (Shape.Idx.first (by decide)), View.ld x (Rect.unit ![7] ![1] inb_S16_S1_7) (Shape.Idx.first (by decide)),
    View.ld x (Rect.unit ![8] ![1] inb_S16_S1_8) (Shape.Idx.first (by decide)), View.ld x (Rect.unit ![10] ![1] inb_S16_S1_10) (Shape.Idx.first (by decide)),
    View.ld x (Rect.unit ![12] ![1] inb_S16_S1_12) (Shape.Idx.first (by decide)), View.ld x (Rect.unit ![14] ![1] inb_S16_S1_14) (Shape.Idx.first (by decide)),
    View.ld x (Rect.unit ![9] ![1] inb_S16_S1_9) (Shape.Idx.first (by decide)), View.ld x (Rect.unit ![11] ![1] inb_S16_S1_11) (Shape.Idx.first (by decide)),
    View.ld x (Rect.unit ![13] ![1] inb_S16_S1_13) (Shape.Idx.first (by decide)), View.ld x (Rect.unit ![15] ![1] inb_S16_S1_15) (Shape.Idx.first (by decide))]

theorem ordered_eq (x : Vec Ideal S16 .f32) (b : Fin 16) : ordered x b = x (ix1 (bhead b)) := by
  fin_cases b
  exacts [ld16 x 0 _ _, ld16 x 2 _ _, ld16 x 4 _ _, ld16 x 6 _ _, ld16 x 1 _ _, ld16 x 3 _ _, ld16 x 5 _ _, ld16 x 7 _ _,
    ld16 x 8 _ _, ld16 x 10 _ _, ld16 x 12 _ _, ld16 x 14 _ _, ld16 x 9 _ _, ld16 x 11 _ _, ld16 x 13 _ _, ld16 x 15 _ _]

/-- The stacked queries. -/
def stack (x : Vec Ideal S128x1024 .bf16) : FVec Ideal S2048x128 .f32 :=
  k0_pay24 k0_pay19
    (k0_pay20 (View.ld x (Rect.unit ![0, 0] ![128, 128] inb_S128x1024_S128x128_0_0)) (View.ld x (Rect.unit ![0, 128] ![128, 128] inb_S128x1024_S128x128_0_128))
      (View.ld x (Rect.unit ![0, 256] ![128, 128] inb_S128x1024_S128x128_0_256)) (View.ld x (Rect.unit ![0, 384] ![128, 128] inb_S128x1024_S128x128_0_384)))
    (k0_pay21 (View.ld x (Rect.unit ![0, 512] ![128, 128] inb_S128x1024_S128x128_0_512)))
    (k0_pay22 (View.ld x (Rect.unit ![0, 640] ![128, 128] inb_S128x1024_S128x128_0_640)))
    (k0_pay23 (View.ld x (Rect.unit ![0, 768] ![128, 128] inb_S128x1024_S128x128_0_768)))
    (View.ld x (Rect.unit ![0, 896] ![128, 128] inb_S128x1024_S128x128_0_896))

/-- The output's columns in rows, from the blocks. -/
def cols (x0 : Vec Ideal S16 .f32) (x1 : Vec Ideal S128x1024 .bf16) (x2 x3 : Vec Ideal S128x256 .bf16) (s : Vec Ideal S256x2048 .f32) : FVec Ideal S128x2048 .f32 :=
  k0_pay28 (k0_pay17 x2 x3) (k0_pay18 x2 x3) (stack x1) s (ordered x0 0) (ordered x0 1) (ordered x0 2) k0_pay25
    (k0_pay27 (ordered x0 3) (ordered x0 4) (ordered x0 5) (ordered x0 6) (ordered x0 7) (ordered x0 8) (ordered x0 9) (ordered x0 10) (ordered x0 11) (ordered x0 12)
      (ordered x0 13) (ordered x0 14) k0_pay25 (k0_pay26 (ordered x0 15)) 14#32) 2#32

theorem cols_raw (x0 : Vec Ideal S16 .f32) (x1 : Vec Ideal S128x1024 .bf16) (x2 x3 : Vec Ideal S128x256 .bf16) (s : Vec Ideal S256x2048 .f32) :
    k0_pay28 (k0_pay17 x2 x3) (k0_pay18 x2 x3) (k0_pay24 k0_pay19
    (k0_pay20 (View.ld x1 (Rect.unit ![0, 0] ![128, 128] inb_S128x1024_S128x128_0_0)) (View.ld x1 (Rect.unit ![0, 128] ![128, 128] inb_S128x1024_S128x128_0_128))
      (View.ld x1 (Rect.unit ![0, 256] ![128, 128] inb_S128x1024_S128x128_0_256)) (View.ld x1 (Rect.unit ![0, 384] ![128, 128] inb_S128x1024_S128x128_0_384)))
    (k0_pay21 (View.ld x1 (Rect.unit ![0, 512] ![128, 128] inb_S128x1024_S128x128_0_512)))
    (k0_pay22 (View.ld x1 (Rect.unit ![0, 640] ![128, 128] inb_S128x1024_S128x128_0_640)))
    (k0_pay23 (View.ld x1 (Rect.unit ![0, 768] ![128, 128] inb_S128x1024_S128x128_0_768)))
    (View.ld x1 (Rect.unit ![0, 896] ![128, 128] inb_S128x1024_S128x128_0_896))) s (View.ld x0 (Rect.unit ![0] ![1] inb_S16_S1_0) (Shape.Idx.first (by decide))) (View.ld x0 (Rect.unit ![2] ![1] inb_S16_S1_2) (Shape.Idx.first (by decide))) (View.ld x0 (Rect.unit ![4] ![1] inb_S16_S1_4) (Shape.Idx.first (by decide))) k0_pay25
      (k0_pay27 (View.ld x0 (Rect.unit ![6] ![1] inb_S16_S1_6) (Shape.Idx.first (by decide))) (View.ld x0 (Rect.unit ![1] ![1] inb_S16_S1_1) (Shape.Idx.first (by decide))) (View.ld x0 (Rect.unit ![3] ![1] inb_S16_S1_3) (Shape.Idx.first (by decide))) (View.ld x0 (Rect.unit ![5] ![1] inb_S16_S1_5) (Shape.Idx.first (by decide))) (View.ld x0 (Rect.unit ![7] ![1] inb_S16_S1_7) (Shape.Idx.first (by decide))) (View.ld x0 (Rect.unit ![8] ![1] inb_S16_S1_8) (Shape.Idx.first (by decide))) (View.ld x0 (Rect.unit ![10] ![1] inb_S16_S1_10) (Shape.Idx.first (by decide))) (View.ld x0 (Rect.unit ![12] ![1] inb_S16_S1_12) (Shape.Idx.first (by decide))) (View.ld x0 (Rect.unit ![14] ![1] inb_S16_S1_14) (Shape.Idx.first (by decide))) (View.ld x0 (Rect.unit ![9] ![1] inb_S16_S1_9) (Shape.Idx.first (by decide))) (View.ld x0 (Rect.unit ![11] ![1] inb_S16_S1_11) (Shape.Idx.first (by decide))) (View.ld x0 (Rect.unit ![13] ![1] inb_S16_S1_13) (Shape.Idx.first (by decide))) k0_pay25 (k0_pay26 (View.ld x0 (Rect.unit ![15] ![1] inb_S16_S1_15) (Shape.Idx.first (by decide)))) 14#32) 2#32 = cols x0 x1 x2 x3 s := rfl

theorem ofBits_eighth : Ideal.ofBits .f32 0x3E000000#32 = ((1 / 8 : ℝ) : EReal) := by
  simp [Ideal.ofBits, Ideal.ieee, -EReal.coe_mul]; norm_num

/-- Two blocks of rows, one after the other. -/
def two (A B : Fin 128 → Fin 256 → ℝ) (k : Fin 256) (j : Fin 256) : ℝ := if h : k.val < 128 then A ⟨k.val, h⟩ j else B ⟨k.val - 128, by omega⟩ j

theorem cols_at (x0 : Vec Ideal S16 .f32) (x1 : Vec Ideal S128x1024 .bf16) (x2 x3 : Vec Ideal S128x256 .bf16) (s : Vec Ideal S256x2048 .f32)
    (S : Fin 16 → ℝ) (Q : Fin 128 → Fin 1024 → ℝ) (A B : Fin 128 → Fin 256 → ℝ) (v : Fin 256 → Fin 2048 → BitVec 1) (β : Fin 256 → Fin 2048 → ℝ)
    (h0 : ∀ h, x0 (ix1 h) = ((S h : ℝ) : EReal)) (h1 : ∀ r j, x1 (ix2 r j) = ((Q r j : ℝ) : EReal))
    (h2 : ∀ r j, x2 (ix2 r j) = ((A r j : ℝ) : EReal)) (h3 : ∀ r j, x3 (ix2 r j) = ((B r j : ℝ) : EReal))
    (hβ : ∀ k R, s (ix2 k R) = msk (v k R) (β k R)) (e : Fin 128) (R : Fin 2048) :
    cols x0 x1 x2 x3 s (ix2 e R)
      = ((att (fun k => v k R) (fun k => ∑ c : Fin 128, two A B k ⟨c.val, by omega⟩
          * ((if R.val / 1024 = c.val / 64 then Q (qry R) (hcol (head R) ⟨c.val % 64, by omega⟩) else 0) * (1 / 8)) + β k R)
        (S (head R)) (fun k => two A B k ⟨128 + e.val, by omega⟩) : ℝ) : EReal) := by
  unfold cols
  rw [main_pay]
  refine core_pay _ _ _ s _ (fun k c => two A B k ⟨c.val, by omega⟩) (fun k c => two A B k ⟨128 + c.val, by omega⟩)
    (fun R c => (if R.val / 1024 = c.val / 64 then Q (qry R) (hcol (head R) ⟨c.val % 64, by omega⟩) else 0) * (1 / 8)) v β (fun R => S (head R))
    (fun k c => (keys_pay x2 x3 k c).trans ?_) (fun k c => (vals_pay x2 x3 k c).trans ?_) (fun R c => ?_) hβ (fun R => ?_) e R
  · unfold two
    by_cases h : k.val < 128
    · rw [dif_pos h, dif_pos h]; exact h2 _ _
    · rw [dif_neg h, dif_neg h]; exact h3 _ _
  · unfold two
    by_cases h : k.val < 128
    · rw [dif_pos h, dif_pos h]; exact h2 _ _
    · rw [dif_neg h, dif_neg h]; exact h3 _ _
  · refine (stack_pay _ _ _ _ _ _ _ _ (fun r j => x1 (ix2 r j)) (fun r c => (ld1024 x1 0 (by omega) _ r c).trans (congrArg (fun z => x1 (ix2 r z)) (Fin.ext (Nat.zero_add _))))
      (ld1024 x1 128 (by omega) _) (ld1024 x1 256 (by omega) _) (ld1024 x1 384 (by omega) _) (ld1024 x1 512 (by omega) _)
      (ld1024 x1 640 (by omega) _) (ld1024 x1 768 (by omega) _) (ld1024 x1 896 (by omega) _) R c).trans ?_
    rw [ofBits_eighth, EReal.coe_mul]
    refine congrArg (· * _) ?_
    by_cases h : R.val / 1024 = c.val / 64
    · rw [if_pos h, if_pos h]; exact h1 _ _
    · rw [if_neg h, if_neg h]; rfl
  · refine (sinks_pay (ordered x0) R).trans ?_
    rw [ordered_eq, head_blk]
    exact h0 _

/-- A tile of the output, from the columns in rows: the windowed attention's entries. -/
theorem tile_at (X : Fin 4096 → Fin 4032 → ℝ) (S : Fin 16 → ℝ) (n : Fin 32) (D : FVec Ideal S128x2048 .f32)
    (h : ∀ (R : Fin 2048) (d : Fin 64), D (ix2 ⟨64 * (R.val / 1024) + d.val, by omega⟩ R) = ((win X S n (qry R) (head R) d : ℝ) : EReal))
    (w : Fin 8) (r e : Fin 128) :
    tat D w r e = ((win X S n r ⟨(128 * w.val + e.val) / 64, by omega⟩ ⟨(128 * w.val + e.val) % 64, by omega⟩ : ℝ) : EReal) := by
  have g := h ⟨1024 * (w.val / 4) + 512 * (e.val / 64) + 128 * (w.val % 4) + r.val, by omega⟩ ⟨e.val % 64, by omega⟩
  have q : qry ⟨1024 * (w.val / 4) + 512 * (e.val / 64) + 128 * (w.val % 4) + r.val, by omega⟩ = r := Fin.ext (by simp only [qry]; omega)
  have p : head ⟨1024 * (w.val / 4) + 512 * (e.val / 64) + 128 * (w.val % 4) + r.val, by omega⟩ = ⟨(128 * w.val + e.val) / 64, by omega⟩ := Fin.ext (by simp only [head]; omega)
  have o : (⟨e.val % 64, by omega⟩ : Fin 64) = ⟨(128 * w.val + e.val) % 64, by omega⟩ := Fin.ext (by simp only []; omega)
  rw [q, p, o] at g
  refine Eq.trans ?_ g
  exact congrArg (fun z => D (ix2 z _)) (Fin.ext (by simp only []; omega))

/-- The columns in rows of block `n`, from its blocks of the input. -/
theorem cols_win (x0 : Vec Ideal S16 .f32) (x1 : Vec Ideal S128x1024 .bf16) (x2 x3 : Vec Ideal S128x256 .bf16) (s : Vec Ideal S256x2048 .f32)
    (X : Fin 4096 → Fin 4032 → ℝ) (S : Fin 16 → ℝ) (n : Fin 32)
    (h0 : ∀ h, x0 (ix1 h) = ((S h : ℝ) : EReal)) (h1 : ∀ (r : Fin 128) (j : Fin 1024), x1 (ix2 r j) = ((X (qrow n r) ⟨j.val, by omega⟩ : ℝ) : EReal))
    (h2 : ∀ (r : Fin 128) (j : Fin 256), x2 (ix2 r j) = ((X ⟨(n.val - 1) * 128 + r.val, by omega⟩ ⟨1024 + j.val, by omega⟩ : ℝ) : EReal))
    (h3 : ∀ (r : Fin 128) (j : Fin 256), x3 (ix2 r j) = ((X (qrow n r) ⟨1024 + j.val, by omega⟩ : ℝ) : EReal))
    (hs : ∀ k R, s (ix2 k R) = msk (vm (BitVec.ofNat 32 n.val) (qry R) k) (-(slope (head R).val) * ((dist (qry R) k).toInt : ℝ)))
    (R : Fin 2048) (d : Fin 64) :
    cols x0 x1 x2 x3 s (ix2 ⟨64 * (R.val / 1024) + d.val, by omega⟩ R) = ((win X S n (qry R) (head R) d : ℝ) : EReal) := by
  refine (cols_at x0 x1 x2 x3 s S (fun r j => X (qrow n r) ⟨j.val, by omega⟩) (fun r j => X ⟨(n.val - 1) * 128 + r.val, by omega⟩ ⟨1024 + j.val, by omega⟩)
    (fun r j => X (qrow n r) ⟨1024 + j.val, by omega⟩) (fun k R => vm (BitVec.ofNat 32 n.val) (qry R) k) (fun k R => -(slope (head R).val) * ((dist (qry R) k).toInt : ℝ))
    h0 h1 h2 h3 hs _ R).trans (congrArg _ ?_)
  unfold win
  refine att_congr fun k hk => ?_
  have pos := vm_pos n (qry R) k hk
  have rows : ∀ j : Fin 256, two (fun r j => X ⟨(n.val - 1) * 128 + r.val, by omega⟩ ⟨1024 + j.val, by omega⟩) (fun r j => X (qrow n r) ⟨1024 + j.val, by omega⟩) k j
      = X (wrow n k) ⟨1024 + j.val, by omega⟩ := fun j => by
    unfold two
    split
    · exact congrArg (fun z => X z _) (Fin.ext (by simp only [wrow]; omega))
    · exact congrArg (fun z => X z _) (Fin.ext (by simp only [wrow, qrow]; omega))
  have hh : (head R).val / 8 = R.val / 1024 := by simp only [head]; omega
  constructor
  · simp only [rows]
    unfold sc
    refine congrArg (· + _) ((half_sum (R.val / 1024) (by omega) (fun c => X (wrow n k) ⟨1024 + c.val, by omega⟩)
      (fun d => X (qrow n (qry R)) ⟨64 * (head R).val + d.val, by omega⟩) (1 / 8)).trans ?_)
    refine congrArg (· * _) (Finset.sum_congr rfl fun x _ => congrArg (· * _) ?_)
    exact congrArg (X (wrow n k)) (Fin.ext (by simp only []; omega))
  · rw [rows]
    exact congrArg (X (wrow n k)) (Fin.ext (by simp only []; omega))

end Cert.WinPay

end
-- ==== Proof.WinBlk.lean ====
/- The blocks the windowed attention's kernel reads, from its arguments. -/
module

public import proofs.«01_k».proof.Proof.Gen.WinKernelIdeal.Frame
public import proofs.«01_k».proof.Proof.InpValue
public import proofs.«01_k».proof.Proof.WinPure

@[expose] public section

set_option maxRecDepth 16384

noncomputable section

open Idealize.ShloMosaic Idealize.ShloMosaic.TcCoe Idealize.SL.Sem Idealize.ShloMosaic.Tactic
open Idealize.ShloMosaic.Pipeline (Dat)

namespace Cert.WinValue

open Cert.WinKernelIdeal Cert.WinKernelIdeal.Gen Cert.WinPure

variable (m : (ℓ : Loc nD τ sig) → Buf (Elt Ideal) ℓ) (c : Dev nD)

theorem idx : ∀ t : Fin cfg0.N, win0_0.index t = ![0] ∧ win0_1.index t = ![t.val, 0] ∧ win0_2.index t = ![t.val - 1, 15]
    ∧ win0_3.index t = ![t.val, 15] ∧ win0_4.index t = ![t.val, 0] ∧ t.val < 32 ∧ ((grid0.coords t) 0).val = t.val :=
  (by decide +kernel : ∀ t : Fin grid0.N, _)

/-- The number of a point's block. -/
def pt (t : Fin cfg0.N) : Fin 32 := ⟨t.val, (idx t).2.2.2.2.2.1⟩
/-- Row `r` of block `t`. -/
def row (t : Fin cfg0.N) (r : Fin 128) : Fin 4096 := ⟨t.val * 128 + r.val, by have := (idx t).2.2.2.2.2.1; omega⟩
/-- Row `r` of the block before (of the first block at the first point). -/
def prow (t : Fin cfg0.N) (r : Fin 128) : Fin 4096 := ⟨(t.val - 1) * 128 + r.val, by have := (idx t).2.2.2.2.2.1; omega⟩

theorem row_eq (t : Fin cfg0.N) (r : Fin 128) : row t r = qrow (pt t) r := Fin.ext (by simp only [row, qrow, pt]; omega)

def aX : FVec Ideal S4096x4032 .f32 := m ((c.tc : Thread nD τ).loc main_arg0)
def aS : FVec Ideal S16 .f32 := m ((c.tc : Thread nD τ).loc main_arg1)

theorem entry : V m c main_v7 = truncf .bf16 (Cert.InpValue.packP (aX m c)) bitsLt_bf16_f32 := by
  show StableHlo.after (List.flatten [hostOps0]) (fun b => m (c, b)) (Proc.devRef .tc _) = _
  simp only [hostOps0, List.flatten_cons, List.flatten_nil, List.append_nil, List.cons_append, List.nil_append]
  after_results_simp <;> rfl

theorem pack_q (P : FVec Ideal S4096x4032 .f32) (r : Fin 4096) (j : Fin 1024) :
    Cert.InpValue.packP P (ix2 r ⟨j.val, by omega⟩) = P (ix2 r ⟨j.val, by omega⟩) := by
  show (_ : EReal) = _
  pointwise [Cert.InpValue.packP]

theorem pack_kv (P : FVec Ideal S4096x4032 .f32) (r : Fin 4096) (j : Fin 256) :
    Cert.InpValue.packP P (ix2 r ⟨3840 + j.val, by omega⟩) = P (ix2 r ⟨1024 + j.val, by omega⟩) := by
  show (_ : EReal) = _
  pointwise [Cert.InpValue.packP]
  rw [dif_neg (by omega), dif_neg (by omega), dif_neg (by omega), dif_neg (by omega), dif_neg (by omega)]
  exact congrArg (fun z => P (ix2 r z)) (Fin.ext (by simp only []; omega))

theorem blk0 (t : Fin cfg0.N) (h : Fin 16) : iblk m c 0 t (ix1 h) = aS m c (ix1 h) := by
  have e : iblk m c 0 t (ix1 h) = V m c main_arg1 (ix1 h) := by blk_ext [iblk, idx t]
  rw [e, V_main_arg1]
  rfl

theorem blk1 (t : Fin cfg0.N) (r : Fin 128) (j : Fin 1024) : iblk m c 1 t (ix2 r j) = aX m c (ix2 (row t r) ⟨j.val, by omega⟩) := by
  have e : iblk m c 1 t (ix2 r j) = V m c main_v7 (ix2 (row t r) ⟨j.val, by omega⟩) := by blk_ext [iblk, idx t, row]
  rw [e, entry]
  exact pack_q (aX m c) (row t r) j

theorem blk2 (t : Fin cfg0.N) (r : Fin 128) (j : Fin 256) : iblk m c 2 t (ix2 r j) = aX m c (ix2 (prow t r) ⟨1024 + j.val, by omega⟩) := by
  have e : iblk m c 2 t (ix2 r j) = V m c main_v7 (ix2 (prow t r) ⟨3840 + j.val, by omega⟩) := by blk_ext [iblk, idx t, prow]
  rw [e, entry]
  exact pack_kv (aX m c) (prow t r) j

theorem blk3 (t : Fin cfg0.N) (r : Fin 128) (j : Fin 256) : iblk m c 3 t (ix2 r j) = aX m c (ix2 (row t r) ⟨1024 + j.val, by omega⟩) := by
  have e : iblk m c 3 t (ix2 r j) = V m c main_v7 (ix2 (row t r) ⟨3840 + j.val, by omega⟩) := by blk_ext [iblk, idx t, row]
  rw [e, entry]
  exact pack_kv (aX m c) (row t r) j

theorem emb4 (t : Fin cfg0.N) (y : S128x1024.Idx) : ((cfg0.win 4).blk t).view.emb y = (ix2 (row t (y 0)) (y 1) : S4096x1024.Idx) := by
  blk_ext [idx t, row]

end Cert.WinValue

end
-- ==== Proof.WinOut.lean ====
/- The windowed attention as an array. -/
module

public import proofs.«01_k».proof.Proof.WinPure

@[expose] public section

noncomputable section

namespace Cert.WinPure

open Idealize.ShloMosaic Idealize.ShloMosaic.Pointwise

/-- The windowed attention's entry at a row and a column. -/
def entry (X : (⟨2, ![4096, 4032]⟩ : Shape).Idx → ℝ) (S : (⟨1, ![16]⟩ : Shape).Idx → ℝ) (a : Fin 4096) (b : Fin 1024) : ℝ :=
  win (fun a b => X (ix2 a b)) (fun h => S (ix1 h)) ⟨a.val / 128, by omega⟩ ⟨a.val % 128, by omega⟩ ⟨b.val / 64, by omega⟩ ⟨b.val % 64, by omega⟩

end Cert.WinPure

end
-- ==== Proof.WinValue.lean ====
/- The windowed attention's kernel computes the windowed attention. -/
module

public import proofs.«01_k».proof.Proof.Gen.WinKernelIdeal.Frame
public import proofs.«01_k».proof.Proof.InpValue
public import proofs.«01_k».proof.Proof.WinCore
public import proofs.«01_k».proof.Proof.WinBlk
public import proofs.«01_k».proof.Proof.WinOut

@[expose] public section

set_option maxRecDepth 16384

noncomputable section

open Idealize.ShloMosaic Idealize.ShloMosaic.TcCoe Idealize.SL.Sem Idealize.ShloMosaic.Tactic
open Idealize.ShloMosaic.Pipeline (Dat)

namespace Cert.WinValue

open Cert.WinKernelIdeal Cert.WinKernelIdeal.Gen Cert.WinPure Cert.WinPay

variable (m : (ℓ : Loc nD τ sig) → Buf (Elt Ideal) ℓ) (c : Dev nD)

/-- The bias and mask that the kernel keeps, for block `n`. -/
def kept (n : BitVec 32) : Vec Ideal S256x2048 .f32 := fun y => msk (vm n (qry (y 1)) (y 0)) (-(slope (head (y 1)).val) * ((dist (qry (y 1)) (y 0)).toInt : ℝ))

theorem made (t : Fin cfg0.N) :
    k0_pay14 (F := Ideal) k0_pay7 (k0_pay8 (BitVec.ofNat 32 ((grid0.coords t) 0).val)) (k0_pay12 k0_pay9 k0_pay10 k0_pay11 (coef 10)) (k0_pay13 k0_pay9) (coef 0) = kept (BitVec.ofNat 32 t.val) := by
  funext y
  rw [(idx t).2.2.2.2.2.2, eq_ix2 y]
  exact bias_pay _ _ _

theorem scratch_A (t : Fin cfg0.N) (h0 : t.val < 2) : (outsAt0 m c t.val t.isLt).2 = kept (BitVec.ofNat 32 t.val) := by
  rw [outsAt0_A m c t h0, ← made t]
  funext y
  unfold sout0_A_0
  frame_out
  rfl

theorem scratch_B : ∀ (n : ℕ) (hn : n < cfg0.N), 1 ≤ n → (outsAt0 m c n hn).2 = kept 1#32
  | 0, _, h => absurd h (by omega)
  | 1, hn, _ => scratch_A m c ⟨1, hn⟩ (by show 1 < 2; omega)
  | n + 2, hn, _ => (congrArg Prod.snd (outsAt0_B m c ⟨n + 2, hn⟩ (by show ¬n + 2 < 2; omega))).trans (scratch_B (n + 1) (by omega) (by omega))

theorem kept_at (n : Fin 32) (s : Vec Ideal S256x2048 .f32) (h : s = kept (BitVec.ofNat 32 n.val) ∨ (1 ≤ n.val ∧ s = kept 1#32)) (k : Fin 256) (R : Fin 2048) :
    s (ix2 k R) = msk (vm (BitVec.ofNat 32 n.val) (qry R) k) (-(slope (head R).val) * ((dist (qry R) k).toInt : ℝ)) := by
  rcases h with rfl | ⟨hn, rfl⟩
  · rfl
  · rw [vm_later n (qry R) k hn]; rfl

theorem lefts (v11 v14 : FVec Ideal S256x128 .f32) (v48 : FVec Ideal S2048x128 .f32) (v49 : Vec Ideal S256x2048 .f32) (v50 v51 v52 : Elt Ideal .f32) (v68 : IVec S1x2048 32) (v117 : FVec Ideal S1x2048 .f32) (c2 : BitVec 32) (r e : Fin 128) :
    k0_pay30 (F := Ideal) v11 v14 v48 v49 v50 v51 v52 v68 v117 c2 (ix2 r e) = tat (k0_pay28 (F := Ideal) v11 v14 v48 v49 v50 v51 v52 v68 v117 c2) 0 r e ∧ k0_pay31 (F := Ideal) v11 v14 v48 v49 v50 v51 v52 v68 v117 c2 (ix2 r e) = tat (k0_pay28 (F := Ideal) v11 v14 v48 v49 v50 v51 v52 v68 v117 c2) 1 r e
    ∧ k0_pay32 (F := Ideal) v11 v14 v48 v49 v50 v51 v52 v68 v117 c2 (ix2 r e) = tat (k0_pay28 (F := Ideal) v11 v14 v48 v49 v50 v51 v52 v68 v117 c2) 2 r e ∧ k0_pay1 (F := Ideal) (k0_pay29 (F := Ideal) v11 v14 v48 v49 v50 v51 v52 v68 v117 c2) (ix2 r e) = tat (k0_pay28 (F := Ideal) v11 v14 v48 v49 v50 v51 v52 v68 v117 c2) 3 r e :=
  tiles_left (k0_pay28 (F := Ideal) v11 v14 v48 v49 v50 v51 v52 v68 v117 c2) r e

variable (X : S4096x4032.Idx → ℝ) (S : S16.Idx → ℝ)

def OUT : FVec Ideal S4096x1024 .bf16 := fun i => ((Cert.WinPure.entry X S (i 0) (i 1) : ℝ) : EReal)

/-- The arguments are these arrays of real numbers. -/
def Real : Prop := aX m c = (fun i => ((X i : ℝ) : EReal)) ∧ aS m c = (fun i => ((S i : ℝ) : EReal))

variable (hm : Real m c X S)
include hm

/-- A tile of a point's output. -/
theorem tile (t : Fin cfg0.N) (s : Vec Ideal S256x2048 .f32) (hs : s = kept (BitVec.ofNat 32 t.val) ∨ (1 ≤ t.val ∧ s = kept 1#32)) (w : Fin 8) (r e : Fin 128) :
    tat (cols (iblk m c 0 t) (iblk m c 1 t) (iblk m c 2 t) (iblk m c 3 t) s) w r e = OUT X S (ix2 (row t r) ⟨128 * w.val + e.val, by omega⟩) := by
  refine (tile_at (fun a b => X (ix2 a b)) (fun h => S (ix1 h)) (pt t) _ (fun R d => cols_win _ _ _ _ s _ _ (pt t)
    (fun h => (blk0 m c t h).trans (congrFun hm.2 _))
    (fun r j => ((blk1 m c t r j).trans (congrFun hm.1 _)).trans (congrArg (fun z => ((X (ix2 z _) : ℝ) : EReal)) (row_eq t r)))
    (fun r j => (blk2 m c t r j).trans (congrFun hm.1 _))
    (fun r j => ((blk3 m c t r j).trans (congrFun hm.1 _)).trans (congrArg (fun z => ((X (ix2 z _) : ℝ) : EReal)) (row_eq t r)))
    (kept_at (pt t) s hs) R d) w r e).trans ?_
  unfold OUT Cert.WinPure.entry
  refine congrArg₂ (fun a b => ((win _ _ a b _ _ : ℝ) : EReal)) (Fin.ext ?_) (Fin.ext ?_)
  · show t.val = (t.val * 128 + r.val) / 128
    omega
  · show r.val = (t.val * 128 + r.val) % 128
    omega

/-- The tile stored at `x` is what the result holds there. -/
theorem stored (t : Fin cfg0.N) (s : Vec Ideal S256x2048 .f32) (hs : s = kept (BitVec.ofNat 32 t.val) ∨ (1 ≤ t.val ∧ s = kept 1#32)) (w : Fin 8)
    (D : FVec Ideal S128x2048 .f32) (hD : D = cols (iblk m c 0 t) (iblk m c 1 t) (iblk m c 2 t) (iblk m c 3 t) s)
    (P : Vec Ideal S128x128 .bf16) (hP : ∀ r e, P (ix2 r e) = tat D w r e)
    (x : S128x128.Idx) (y : S128x1024.Idx) (h0 : (y 0).val = (x 0).val) (h1 : (y 1).val = 128 * w.val + (x 1).val) :
    P x = OUT X S (ix2 (row t (y 0)) (y 1)) := by
  rw [eq_ix2 x]
  refine ((hP _ _).trans ((congrArg (fun D => tat D w (x 0) (x 1)) hD).trans (tile m c X S hm t s hs w (x 0) (x 1)))).trans ?_
  exact congrArg₂ (fun a b => OUT X S (ix2 (row t a) b)) (Fin.ext h0.symm) (Fin.ext h1.symm)

set_option maxHeartbeats 1000000 in
theorem out_A (t : Fin cfg0.N) (h0 : t.val < 2) (y : S128x1024.Idx) : (outsAt0 m c t.val t.isLt).1 y = OUT X S (ix2 (row t (y 0)) (y 1)) := by
  have st := stored m c X S hm t _ (Or.inl rfl)
  rw [← made t] at st
  rw [outsAt0_A m c t h0]
  unfold out0_A_4
  frame_out
  canon_tiles x h
  · exact st 7 _ (cols_raw _ _ _ _ _) _ (fun r e => (tiles_right _ r e).2.2.2) x y (by assumption) (by assumption)
  · exact st 6 _ (cols_raw _ _ _ _ _) _ (fun r e => (tiles_right _ r e).2.2.1) x y (by assumption) (by assumption)
  · exact st 5 _ (cols_raw _ _ _ _ _) _ (fun r e => (tiles_right _ r e).2.1) x y (by assumption) (by assumption)
  · exact st 4 _ (cols_raw _ _ _ _ _) _ (fun r e => (tiles_right _ r e).1) x y (by assumption) (by assumption)
  · exact st 3 _ (cols_raw _ _ _ _ _) _ (fun r e => (lefts _ _ _ _ _ _ _ _ _ _ r e).2.2.2) x y (by assumption) (by assumption)
  · exact st 2 _ (cols_raw _ _ _ _ _) _ (fun r e => (lefts _ _ _ _ _ _ _ _ _ _ r e).2.2.1) x y (by assumption) (by assumption)
  · exact st 1 _ (cols_raw _ _ _ _ _) _ (fun r e => (lefts _ _ _ _ _ _ _ _ _ _ r e).2.1) x y (by assumption) (by assumption)
  · exact st 0 _ (cols_raw _ _ _ _ _) _ (fun r e => (lefts _ _ _ _ _ _ _ _ _ _ r e).1) x y (by assumption) (by simp only [Fin.val_zero, Nat.mul_zero, Nat.zero_add]; assumption)

set_option maxHeartbeats 1000000 in
theorem out_B (t : Fin cfg0.N) (h0 : ¬t.val < 2) (y : S128x1024.Idx) : (outsAt0 m c t.val t.isLt).1 y = OUT X S (ix2 (row t (y 0)) (y 1)) := by
  have hs := scratch_B m c (t.val - 1) (Nat.lt_of_le_of_lt (Nat.sub_le _ _) t.isLt) (by omega)
  rw [outsAt0_B m c t h0]
  generalize (outsAt0 m c (t.val - 1) _).2 = s at hs ⊢
  have st := stored m c X S hm t s (Or.inr ⟨by omega, hs⟩)
  clear hs
  unfold out0_B_4
  frame_out
  have hr : View.read (Elt Ideal) (View.whole cc0_scratch0) ((Memref.isWhole_whole cc0_scratch0).unread s) = s := (Memref.isWhole_whole cc0_scratch0).read_unread s
  canon_tiles x h
  all_goals rw [hr]
  · exact st 7 _ (cols_raw _ _ _ _ _) _ (fun r e => (tiles_right _ r e).2.2.2) x y (by assumption) (by assumption)
  · exact st 6 _ (cols_raw _ _ _ _ _) _ (fun r e => (tiles_right _ r e).2.2.1) x y (by assumption) (by assumption)
  · exact st 5 _ (cols_raw _ _ _ _ _) _ (fun r e => (tiles_right _ r e).2.1) x y (by assumption) (by assumption)
  · exact st 4 _ (cols_raw _ _ _ _ _) _ (fun r e => (tiles_right _ r e).1) x y (by assumption) (by assumption)
  · exact st 3 _ (cols_raw _ _ _ _ _) _ (fun r e => (lefts _ _ _ _ _ _ _ _ _ _ r e).2.2.2) x y (by assumption) (by assumption)
  · exact st 2 _ (cols_raw _ _ _ _ _) _ (fun r e => (lefts _ _ _ _ _ _ _ _ _ _ r e).2.2.1) x y (by assumption) (by assumption)
  · exact st 1 _ (cols_raw _ _ _ _ _) _ (fun r e => (lefts _ _ _ _ _ _ _ _ _ _ r e).2.1) x y (by assumption) (by assumption)
  · exact st 0 _ (cols_raw _ _ _ _ _) _ (fun r e => (lefts _ _ _ _ _ _ _ _ _ _ r e).1) x y (by assumption) (by simp only [Fin.val_zero, Nat.mul_zero, Nat.zero_add]; assumption)

theorem final4 : (dats m 0 c).arrAt 4 cfg0.N = OUT X S := by
  refine (dats m 0 c).arrAt_eq_of_covers 4 _ (by decide +kernel) fun t hf y => ?_
  refine Eq.trans ?_ (congrArg (OUT X S) (emb4 t y).symm)
  blk_simp
  rw [after0_4]
  by_cases h0 : t.val < 2
  · exact out_A m c X S hm t h0 y
  · exact out_B m c X S hm t h0 y

omit hm in
/-- The kernel's run, its result the windowed attention of the arguments. -/
theorem ker_run (ρ : Dev nD → PrngReg) (hm : ∀ c, Real m c X S) :
    θ_run defs (onTc (τ := τ) (main (F := Ideal))) ⟨m, fun _ => 0, ρ⟩ fun r => ∀ c : Dev nD,
      r.2.mem ((c.tc : Thread nD τ).loc main_v8) = OUT X S
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 4).trans (final4 m c X S (hm c)), h.2 c⟩) (θ_run_and (run_main m ρ) (unchanged m ρ))

end Cert.WinValue

end
-- ==== Proof.WinFold.lean ====
/- The windowed attention's reference: the reductions of its softmax. -/
module

public import proofs.«01_k».proof.Proof.Gen.WinRefIdeal.Run
public import proofs.«01_k».proof.Proof.Gen.WinRefIdeal
public import proofs.«01_k».proof.Proof.MlaPure
public import proofs.«01_k».proof.Proof.MlaHost
public import proofs.«01_k».proof.Proof.WinPure
public import Idealize.ShloMosaic.Lib.Pointwise

@[expose] public section

set_option maxRecDepth 16384

noncomputable section

namespace Cert.WinRef

open Cert.WinRefIdeal Cert.WinRefIdeal.Gen Cert.MlaPure Cert.Reals Cert.WinPure
open Idealize.ShloMosaic Idealize.ShloMosaic.Pointwise Idealize.ShloMosaic.Tactic

section
variable {n0 n1 n2 n3 n4 n5 : ℕ}

/-- The entries that a sum or maximum over the last of six axes joins. -/
theorem fiber (h : (⟨6, ![n0, n1, n2, n3, n4, n5]⟩ : Shape).ReducesTo [5] ⟨5, ![n0, n1, n2, n3, n4]⟩)
    (a0 : Fin n0) (a1 : Fin n1) (a2 : Fin n2) (a3 : Fin n3) (a4 : Fin n4) (i : (⟨6, ![n0, n1, n2, n3, n4, n5]⟩ : Shape).Idx) :
    h.drop i = ix5 a0 a1 a2 a3 a4 ↔ ∃ k : Fin n5, ix6 a0 a1 a2 a3 a4 k = i := by
  constructor
  · intro e
    refine ⟨i 5, ?_⟩
    funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

/-- A reduction over the last of six axes, along it. -/
theorem fold_last {α : Type} {u : Shape} (h : (⟨6, ![n0, n1, n2, n3, n4, n5]⟩ : Shape).ReducesTo [5] ⟨5, ![n0, n1, n2, n3, n4]⟩)
    (op : α → α → α) [Std.Commutative op] [Std.Associative op] (x : (⟨6, ![n0, n1, n2, n3, n4, n5]⟩ : Shape).Idx → α) (init : u.Idx → α) (hu : 0 < u.numel)
    (a0 : Fin n0) (a1 : Fin n1) (a2 : Fin n2) (a3 : Fin n3) (a4 : Fin n4) :
    Host.reduce op x init h hu (ix5 a0 a1 a2 a3 a4) = Finset.univ.fold op (init (Shape.Idx.first hu)) fun k : Fin n5 => x (ix6 a0 a1 a2 a3 a4 k) :=
  (Host.reduce_eq_fold op x init h hu _).trans
    (Finset.fold_filter_eq_fold_of_fiber op _ (fun k : Fin n5 => ix6 a0 a1 a2 a3 a4 k) (fun _ _ e => congrFun e 5) (fiber h a0 a1 a2 a3 a4) _ x)

/-- A sum over the last of six axes, along it. -/
theorem sum_last (h : (⟨6, ![n0, n1, n2, n3, n4, n5]⟩ : Shape).ReducesTo [5] ⟨5, ![n0, n1, n2, n3, n4]⟩)
    (x : (⟨6, ![n0, n1, n2, n3, n4, n5]⟩ : Shape).Idx → EReal) (init : EReal) (a0 : Fin n0) (a1 : Fin n1) (a2 : Fin n2) (a3 : Fin n3) (a4 : Fin n4) :
    Ideal.hostReduceAdd h x init (ix5 a0 a1 a2 a3 a4) = init + ∑ k : Fin n5, x (ix6 a0 a1 a2 a3 a4 k) :=
  congrArg (init + ·) (Finset.sum_filter_eq_sum_of_fiber _ (fun k : Fin n5 => ix6 a0 a1 a2 a3 a4 k) (fun _ _ e => congrFun e 5) (fiber h a0 a1 a2 a3 a4) x)

end

def tops (y : FVec Ideal S1x32x2x8x128x257 .f32) : FVec Ideal S1x32x2x8x128 .f32 :=
  Host.reduce FloatOps.maximumf y (constant S_ .f32 0xFF800000#32) reducesTo_S1x32x2x8x128x257_S1x32x2x8x128_d5 h_S_

theorem tops_at (y : FVec Ideal S1x32x2x8x128x257 .f32) (n : Fin 32) (j : Fin 2) (g : Fin 8) (r : Fin 128) :
    tops y (ix5 0 n j g r) = Finset.univ.fold max (⊥ : EReal) fun k : Fin 257 => (show EReal from y (ix6 0 n j g r k)) := by
  refine (fold_last reducesTo_S1x32x2x8x128x257_S1x32x2x8x128_d5 (FloatOps.maximumf (F := Ideal) (φ := .f32)) y _ h_S_ 0 n j g r).trans ?_
  exact congrArg (fun b => Finset.univ.fold max b fun k : Fin 257 => (show EReal from y (ix6 0 n j g r k))) ofBits_ninf

def totals (e : FVec Ideal S1x32x2x8x128x257 .f32) : FVec Ideal S1x32x2x8x128 .f32 :=
  Host.reduceAdd e (constant S_ .f32 0x00000000#32) reducesTo_S1x32x2x8x128x257_S1x32x2x8x128_d5 h_S_

theorem totals_at (e : FVec Ideal S1x32x2x8x128x257 .f32) (n : Fin 32) (j : Fin 2) (g : Fin 8) (r : Fin 128) :
    totals e (ix5 0 n j g r) = ∑ k : Fin 257, (show EReal from e (ix6 0 n j g r k)) := by
  have h : ∀ x : EReal, (Ideal.ofBits .f32 0x00000000#32 : EReal) + x = x := fun x => by rw [ofBits_zero, EReal.coe_zero, zero_add]
  exact (sum_last reducesTo_S1x32x2x8x128x257_S1x32x2x8x128_d5 e (Ideal.ofBits .f32 0x00000000#32) 0 n j g r).trans (h _)

end Cert.WinRef

end
-- ==== Proof.WinSoft.lean ====
/- The windowed attention's reference: its exponentials. -/
module

public import proofs.«01_k».proof.Proof.Gen.WinRefIdeal.Run
public import proofs.«01_k».proof.Proof.Gen.WinRefIdeal
public import proofs.«01_k».proof.Proof.MlaPure
public import proofs.«01_k».proof.Proof.MlaHost
public import proofs.«01_k».proof.Proof.WinPure
public import proofs.«01_k».proof.Proof.WinFold
public import Idealize.ShloMosaic.Lib.Pointwise

@[expose] public section

set_option maxRecDepth 16384

noncomputable section

namespace Cert.WinRef

open Cert.WinRefIdeal Cert.WinRefIdeal.Gen Cert.MlaPure Cert.Reals Cert.WinPure
open Idealize.ShloMosaic Idealize.ShloMosaic.Pointwise Idealize.ShloMosaic.Tactic

/-- The exponentials of the differences from given values. -/
def powers (y : FVec Ideal S1x32x2x8x128x257 .f32) (t : FVec Ideal S1x32x2x8x128 .f32) : FVec Ideal S1x32x2x8x128x257 .f32 :=
  Host.exp (subf y (broadcastInDim S1x32x2x8x128x257 ![0, 1, 2, 3, 4, 5] bcast_S1x32x2x8x128x1_S1x32x2x8x128x257_0_1_2_3_4_5 (broadcastInDim S1x32x2x8x128x1 ![0, 1, 2, 3, 4] bcast_S1x32x2x8x128_S1x32x2x8x128x1_0_1_2_3_4 (maximumf (broadcastInDim S1x32x2x8x128 ![] bcast_S_S1x32x2x8x128 (constant S_ .f32 0xFF800000#32)) t))))

theorem powers_at (y : FVec Ideal S1x32x2x8x128x257 .f32) (t : FVec Ideal S1x32x2x8x128 .f32) (n : Fin 32) (j : Fin 2) (g : Fin 8) (r : Fin 128) (k : Fin 257) :
    powers y t (ix6 0 n j g r k) = Ideal.exp ((show EReal from y (ix6 0 n j g r k)) - max (Ideal.ofBits .f32 0xFF800000#32) (show EReal from t (ix5 0 n j g r))) := by
  show (_ : EReal) = _
  pointwise [powers]

def expo (y : FVec Ideal S1x32x2x8x128x257 .f32) : FVec Ideal S1x32x2x8x128x257 .f32 := powers y (tops y)

theorem expo_at (y : FVec Ideal S1x32x2x8x128x257 .f32) (n : Fin 32) (j : Fin 2) (g : Fin 8) (r : Fin 128) (k : Fin 257) :
    expo y (ix6 0 n j g r k) = Ideal.exp ((show EReal from y (ix6 0 n j g r k)) - max ⊥ (Finset.univ.fold max ⊥ fun k : Fin 257 => (show EReal from y (ix6 0 n j g r k)))) :=
  (powers_at y (tops y) n j g r k).trans
    (congrArg₂ (fun a b => Ideal.exp ((show EReal from y (ix6 0 n j g r k)) - max a b)) ofBits_ninf (tops_at y n j g r))

end Cert.WinRef

end
-- ==== Proof.WinScores.lean ====
/- The windowed attention's reference: its windows, mask, slopes and scores. -/
module

public import proofs.«01_k».proof.Proof.Gen.WinRefIdeal.Run
public import proofs.«01_k».proof.Proof.Gen.WinRefIdeal
public import proofs.«01_k».proof.Proof.MlaPure
public import proofs.«01_k».proof.Proof.MlaHost
public import proofs.«01_k».proof.Proof.WinPure
public import Idealize.ShloMosaic.Lib.Pointwise

@[expose] public section

set_option maxRecDepth 16384

noncomputable section

namespace Cert.WinRef

open Cert.WinRefIdeal Cert.WinRefIdeal.Gen Cert.MlaPure Cert.Reals Cert.WinPure
open Idealize.ShloMosaic Idealize.ShloMosaic.Pointwise Idealize.ShloMosaic.Tactic

/-- The blocks of keys or values, one block of zeros in front. -/
def blocks (z : FVec Ideal S4096x128 .f32) : FVec Ideal S1x33x128x2x64 .f32 :=
  shapeCast _ (concatenate S1x4224x2x64 1 [⟨S1x128x2x64, (broadcastInDim S1x128x2x64 ![] bcast_S_S1x128x2x64 (constant S_ .f32 0x00000000#32))⟩,
    ⟨S1x4096x2x64, (shapeCast _ z shapeCasts_S4096x128_S1x4096x2x64)⟩] concatenates_S1x128x2x64_S1x4096x2x64_S1x4224x2x64_d1) shapeCasts_S1x4224x2x64_S1x33x128x2x64

/-- The windows: each block and the one before. -/
def window (z : FVec Ideal S4096x128 .f32) : FVec Ideal S1x32x256x2x64 .f32 :=
  concatenate S1x32x256x2x64 2 [⟨S1x32x128x2x64, (extractStridedSlice S1x32x128x2x64 ![0, 0, 0, 0, 0] (blocks z) slices_S1x33x128x2x64_S1x32x128x2x64_0_0_0_0_0)⟩,
    ⟨S1x32x128x2x64, (extractStridedSlice S1x32x128x2x64 ![0, 1, 0, 0, 0] (blocks z) slices_S1x33x128x2x64_S1x32x128x2x64_0_1_0_0_0)⟩] concatenates_S1x32x128x2x64_S1x32x128x2x64_S1x32x256x2x64_d2

theorem window_at (z : FVec Ideal S4096x128 .f32) (n : Fin 32) (k : Fin 256) (j : Fin 2) (d : Fin 64) (h : 128 ≤ 128 * n.val + k.val) :
    window z (ix5 0 n k j d) = z (ix2 (wrow n k) ⟨64 * j.val + d.val, by omega⟩) := by
  show (_ : EReal) = _
  pointwise [window, blocks]
  split <;>
  (rw [dif_neg (by omega)]
   exact congrArg₂ (fun a b => z (ix2 a b)) (Fin.ext (by simp only [wrow]; omega)) (Fin.ext (by simp only []; omega)))

theorem window_zero (z : FVec Ideal S4096x128 .f32) (n : Fin 32) (k : Fin 256) (j : Fin 2) (d : Fin 64) (h : ¬128 ≤ 128 * n.val + k.val) :
    window z (ix5 0 n k j d) = (0 : EReal) := by
  show (_ : EReal) = _
  pointwise [window, blocks]
  split
  · rw [dif_pos (by omega)]
  · exfalso; omega

def delta : IVec S128x256 32 :=
  subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0)))

def valid : IVec S1x32x2x8x128x256 1 :=
  broadcastInDim S1x32x2x8x128x256 ![0, 1, 2, 3, 4, 5] bcast_S1x32x1x1x128x256_S1x32x2x8x128x256_0_1_2_3_4_5 (broadcastInDim S1x32x1x1x128x256 ![1, 4, 5] bcast_S32x128x256_S1x32x1x1x128x256_1_4_5 (andi (broadcastInDim S32x128x256 ![0, 1, 2] bcast_S1x128x256_S32x128x256_0_1_2 (broadcastInDim S1x128x256 ![1, 2] bcast_S128x256_S1x128x256_1_2 (andi (cmpi .sge delta (broadcastInDim S128x256 ![] bcast_S_S128x256 (constantI S_ 32 0#32))) (cmpi .slt delta (broadcastInDim S128x256 ![] bcast_S_S128x256 (constantI S_ 32 128#32)))))) (broadcastInDim S32x128x256 ![0, 1, 2] bcast_S32x1x256_S32x128x256_0_1_2 (broadcastInDim S32x1x256 ![0, 2] bcast_S32x256_S32x1x256_0_2 (cmpi .sge (addi (broadcastInDim S32x256 ![0, 1] bcast_S32x1_S32x256_0_1 (muli (subi (broadcastInDim S32x1 ![0] bcast_S32_S32x1_0 (iotaInDim S32 32 0)) (broadcastInDim S32x1 ![] bcast_S_S32x1 (constantI S_ 32 1#32))) (broadcastInDim S32x1 ![] bcast_S_S32x1 (constantI S_ 32 128#32)))) (broadcastInDim S32x256 ![0, 1] bcast_S1x256_S32x256_0_1 (broadcastInDim S1x256 ![1] bcast_S256_S1x256_1 (iotaInDim S256 32 0)))) (broadcastInDim S32x256 ![] bcast_S_S32x256 (constantI S_ 32 0#32)))))))

theorem delta_eq : delta = fun i : S128x256.Idx => dist (i 0) (i 1) := by
  funext i
  idx_vars i
  pointwise [delta]
  rfl

theorem valid_at (n : Fin 32) (j : Fin 2) (g : Fin 8) (r : Fin 128) (k : Fin 256) : valid (ix6 0 n j g r k) = vm (BitVec.ofNat 32 n.val) r k := by
  unfold valid
  rw [delta_eq]
  pointwise
  rfl

/-- The slopes as the reference computes them. -/
def slopes : FVec Ideal S16 .f32 :=
  Host.exp (mulf (broadcastInDim S16 ![] bcast_S_S16 (Host.log (constant S_ .f32 0x40000000#32))) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32))))

theorem slopes_eq : slopes = fun i : S16.Idx => ((slope (i 0).val : ℝ) : EReal) := by
  funext i
  idx_vars i
  show (_ : EReal) = _
  pointwise [slopes]
  have two : Ideal.ofBits .f32 0xC1000000#32 = ((-8 : ℝ) : EReal) := by simp [Ideal.ofBits, Ideal.ieee, -EReal.coe_mul]; norm_num
  have sixteen : Ideal.ofBits .f32 0x41800000#32 = ((16 : ℝ) : EReal) := by simp [Ideal.ofBits, Ideal.ieee, -EReal.coe_mul]; norm_num
  have whole : (FloatOps.sitofp (F := Ideal) .f32 (BitVec.ofNat 32 i0.val) : EReal) = (((i0.val : ℕ) : ℝ) : EReal) := by
    have e : ∀ x : Fin 16, (BitVec.ofNat 32 x.val).toInt = (x.val : ℤ) := by decide
    show (((BitVec.ofNat 32 i0.val).toInt : ℝ) : EReal) = _
    rw [e i0]
    norm_cast
  have fin : Ideal.exp (Ideal.log (Ideal.ofBits .f32 0x40000000#32) * Ideal.div (Ideal.ofBits .f32 0xC1000000#32 * (1 + (FloatOps.sitofp (F := Ideal) .f32 (BitVec.ofNat 32 i0.val) : EReal))) (Ideal.ofBits .f32 0x41800000#32)) = ((slope i0.val : ℝ) : EReal) := by
    rw [Cert.MlaHost.log_two, two, sixteen, whole, ← EReal.coe_one, ← EReal.coe_add, ← EReal.coe_mul, div_coe (by norm_num), ← EReal.coe_mul, ← slope_exp]
    rfl
  exact fin

/-- The masked scores from the windows of keys. -/
def scores (w : FVec Ideal S1x32x256x2x64 .f32) (q : FVec Ideal S4096x1024 .f32) (s : FVec Ideal S16 .f32) : FVec Ideal S1x32x2x8x128x256 .f32 :=
  select valid (addf (mulf (transpose S1x32x2x8x128x256 [0, 1, 2, 5, 4, 3] (Host.dotGeneral dot_S1x32x256x2x64_S1x32x128x2x8x64_S1x32x2x256x128x8_4_5_2_24_013_013 none w (shapeCast _ (shapeCast _ q shapeCasts_S4096x1024_S1x4096x16x64) shapeCasts_S1x4096x16x64_S1x32x128x2x8x64)) transposes_S1x32x2x256x128x8_S1x32x2x8x128x256_0_1_2_5_4_3) (broadcastInDim S1x32x2x8x128x256 ![] bcast_S_S1x32x2x8x128x256 (constant S_ .f32 0x3E000000#32))) (broadcastInDim S1x32x2x8x128x256 ![0, 1, 2, 3, 4, 5] bcast_S1x1x2x8x128x256_S1x32x2x8x128x256_0_1_2_3_4_5 (broadcastInDim S1x1x2x8x128x256 ![2, 3, 4, 5] bcast_S2x8x128x256_S1x1x2x8x128x256_2_3_4_5 (mulf (broadcastInDim S2x8x128x256 ![0, 1, 2, 3] bcast_S2x8x1x1_S2x8x128x256_0_1_2_3 (Host.negf (broadcastInDim S2x8x1x1 ![0, 1] bcast_S2x8_S2x8x1x1_0_1 (shapeCast _ s shapeCasts_S16_S2x8)))) (broadcastInDim S2x8x128x256 ![0, 1, 2, 3] bcast_S1x1x128x256_S2x8x128x256_0_1_2_3 (broadcastInDim S1x1x128x256 ![2, 3] bcast_S128x256_S1x1x128x256_2_3 (sitofp .f32 delta))))))) (broadcastInDim S1x32x2x8x128x256 ![] bcast_S_S1x32x2x8x128x256 (id (constant S_ .f32 0xFF800000#32)))

/-- A head by half and place. -/
def hd (j : Fin 2) (g : Fin 8) : Fin 16 := ⟨8 * j.val + g.val, by omega⟩

theorem scores_at (w : FVec Ideal S1x32x256x2x64 .f32) (q : FVec Ideal S4096x1024 .f32) (s : FVec Ideal S16 .f32)
    (n : Fin 32) (j : Fin 2) (g : Fin 8) (r : Fin 128) (k : Fin 256) :
    scores w q s (ix6 0 n j g r k) = Scalar.select (vm (BitVec.ofNat 32 n.val) r k)
      ((∑ d : Fin 64, (show EReal from w (ix5 0 n k j d)) * q (ix2 (qrow n r) ⟨64 * (hd j g).val + d.val, by omega⟩)) * Ideal.ofBits .f32 0x3E000000#32
        + -(show EReal from s (ix1 (hd j g))) * FloatOps.sitofp (F := Ideal) .f32 (dist r k)) (Ideal.ofBits .f32 0xFF800000#32) := by
  rw [← valid_at n j g r k]
  unfold scores
  rw [delta_eq]
  show (_ : EReal) = _
  pointwise
  congr 1
  · refine congrArg₂ (· + ·) (congrArg (· * _) (Finset.sum_congr rfl fun x _ => congrArg (_ * ·) ?_)) (congrArg (fun z => -z * _) ?_)
    · exact congrArg₂ (fun a b => q (ix2 a b)) (Fin.ext (by simp only [qrow]; omega)) (Fin.ext (by simp only [hd]; omega))
    · exact congrArg (fun a => s (ix1 a)) (Fin.ext (by simp only [hd]; omega))

/-- The scores and the sinks. -/
def joined (x : FVec Ideal S1x32x2x8x128x256 .f32) (a : FVec Ideal S16 .f32) : FVec Ideal S1x32x2x8x128x257 .f32 :=
  concatenate S1x32x2x8x128x257 5 [⟨S1x32x2x8x128x256, x⟩, ⟨S1x32x2x8x128x1, (broadcastInDim S1x32x2x8x128x1 ![2, 3, 4, 5] bcast_S2x8x1x1_S1x32x2x8x128x1_2_3_4_5 (shapeCast _ a shapeCasts_S16_S2x8x1x1))⟩] concatenates_S1x32x2x8x128x256_S1x32x2x8x128x1_S1x32x2x8x128x257_d5

theorem joined_at (x : FVec Ideal S1x32x2x8x128x256 .f32) (a : FVec Ideal S16 .f32) (n : Fin 32) (j : Fin 2) (g : Fin 8) (r : Fin 128) (k : Fin 257) :
    joined x a (ix6 0 n j g r k) = if h : k.val < 256 then (show EReal from x (ix6 0 n j g r ⟨k.val, h⟩)) else a (ix1 (hd j g)) := by
  show (_ : EReal) = _
  pointwise [joined]
  split
  · rfl
  · exact congrArg (fun b => a (ix1 b)) (Fin.ext (by simp only [hd]; omega))

end Cert.WinRef

end
-- ==== Proof.WinMix.lean ====
/- The windowed attention's reference: its weighted values. -/
module

public import proofs.«01_k».proof.Proof.Gen.WinRefIdeal.Run
public import proofs.«01_k».proof.Proof.Gen.WinRefIdeal
public import proofs.«01_k».proof.Proof.MlaPure
public import proofs.«01_k».proof.Proof.MlaHost
public import proofs.«01_k».proof.Proof.WinPure
public import proofs.«01_k».proof.Proof.WinFold
public import proofs.«01_k».proof.Proof.WinScores
public import Idealize.ShloMosaic.Lib.Pointwise

@[expose] public section

set_option maxRecDepth 16384

noncomputable section

namespace Cert.WinRef

open Cert.WinRefIdeal Cert.WinRefIdeal.Gen Cert.MlaPure Cert.Reals Cert.WinPure
open Idealize.ShloMosaic Idealize.ShloMosaic.Pointwise Idealize.ShloMosaic.Tactic

/-- The weighted values, as the result lays them out. -/
def result (v : FVec Ideal S1x32x256x2x64 .f32) (e : FVec Ideal S1x32x2x8x128x257 .f32) : FVec Ideal S4096x1024 .bf16 :=
  truncf .bf16 (shapeCast _ (shapeCast _ (transpose S1x32x128x2x8x64 [0, 1, 5, 2, 4, 3] (Host.dotGeneral dot_S1x32x256x2x64_S1x32x2x8x128x256_S1x32x2x64x8x128_2_5_4_34_013_012 none v (extractStridedSlice S1x32x2x8x128x256 ![0, 0, 0, 0, 0, 0] (Host.divf e (broadcastInDim S1x32x2x8x128x257 ![0, 1, 2, 3, 4, 5] bcast_S1x32x2x8x128x1_S1x32x2x8x128x257_0_1_2_3_4_5 (broadcastInDim S1x32x2x8x128x1 ![0, 1, 2, 3, 4] bcast_S1x32x2x8x128_S1x32x2x8x128x1_0_1_2_3_4 (totals e)))) slices_S1x32x2x8x128x257_S1x32x2x8x128x256_0_0_0_0_0_0)) transposes_S1x32x2x64x8x128_S1x32x128x2x8x64_0_1_5_2_4_3) shapeCasts_S1x32x128x2x8x64_S1x4096x1024) shapeCasts_S1x4096x1024_S4096x1024) bitsLt_bf16_f32

theorem result_at (v : FVec Ideal S1x32x256x2x64 .f32) (e : FVec Ideal S1x32x2x8x128x257 .f32) (n : Fin 32) (r : Fin 128) (j : Fin 2) (g : Fin 8) (d : Fin 64) :
    result v e (ix2 (qrow n r) ⟨64 * (hd j g).val + d.val, by omega⟩) = ∑ k : Fin 256, (show EReal from v (ix5 0 n k j d))
      * Ideal.div (show EReal from e (ix6 0 n j g r ⟨k.val, by omega⟩)) (∑ k : Fin 257, (show EReal from e (ix6 0 n j g r k))) := by
  show (_ : EReal) = _
  pointwise [result]
  refine Finset.sum_congr rfl fun k _ => ?_
  refine (congrArg (fun z => _ * Ideal.div _ z) (totals_at e _ _ _ _)).trans ?_
  have i1 : (⟨(qrow n r).val / 128, by omega⟩ : Fin 32) = n := Fin.ext (by simp only [qrow]; omega)
  have i2 : (⟨(qrow n r).val % 128, by omega⟩ : Fin 128) = r := Fin.ext (by simp only [qrow]; omega)
  have i3 : (⟨(64 * (hd j g).val + d.val) / 512, by omega⟩ : Fin 2) = j := Fin.ext (by simp only [hd]; omega)
  have i4 : (⟨(64 * (hd j g).val + d.val) / 64 % 8, by omega⟩ : Fin 8) = g := Fin.ext (by simp only [hd]; omega)
  have i5 : (⟨(64 * (hd j g).val + d.val) % 64, by omega⟩ : Fin 64) = d := Fin.ext (by simp only [hd]; omega)
  simp only [i1, i2, i3, i4, i5]

end Cert.WinRef

end
-- ==== Proof.WinRef.lean ====
/- The windowed attention's reference computes the windowed attention. -/
module

public import proofs.«01_k».proof.Proof.WinSoft
public import proofs.«01_k».proof.Proof.WinMix
public import proofs.«01_k».proof.Proof.WinOut

@[expose] public section

set_option maxRecDepth 16384

noncomputable section

namespace Cert.WinRef

open Cert.WinRefIdeal Cert.WinRefIdeal.Gen Cert.MlaPure Cert.Reals Cert.WinPure
open Idealize.ShloMosaic Idealize.ShloMosaic.TcCoe Idealize.SL.Sem Idealize.ShloMosaic.Pointwise Idealize.ShloMosaic.Tactic

/-- The softmax of masked scores and a sink, weighing some values. -/
theorem soft (v : Fin 256 → BitVec 1) (s x : Fin 256 → ℝ) (σ : ℝ) (y : Fin 257 → EReal) (w : Fin 256 → EReal)
    (hy : ∀ k : Fin 256, y k.castSucc = msk (v k) (s k)) (hσ : y (Fin.last 256) = ((σ : ℝ) : EReal)) (hw : ∀ k, w k = ((x k : ℝ) : EReal)) :
    ∑ k : Fin 256, w k * Ideal.div (Ideal.exp (y k.castSucc - max ⊥ (Finset.univ.fold max ⊥ y)))
        (∑ k : Fin 257, Ideal.exp (y k - max ⊥ (Finset.univ.fold max ⊥ y)))
      = ((att v s σ x : ℝ) : EReal) := by
  obtain ⟨μ, hμ⟩ := real_fold y (fun k => by
    refine Fin.lastCases ?_ (fun k => ?_) k
    · rw [hσ]; exact EReal.coe_lt_top _
    · rw [hy]; exact msk_lt _ _) (Fin.last 256) (by rw [hσ]; exact EReal.bot_lt_coe _)
  have hb : max (⊥ : EReal) (Finset.univ.fold max ⊥ y) = (μ : EReal) := by rw [hμ]; exact max_eq_right bot_le
  rw [hb]
  have ht : ∑ k : Fin 257, Ideal.exp (y k - (μ : EReal)) = ((tot v s σ μ : ℝ) : EReal) := by
    rw [Fin.sum_univ_castSucc]
    simp only [hy, hσ, exp_msk]
    unfold tot
    rw [EReal.coe_add, coe_sum, ← EReal.coe_sub]
    rfl
  rw [ht, ← att_ref v s σ x μ, ← coe_sum]
  refine Finset.sum_congr rfl fun k _ => ?_
  rw [hw, hy, exp_msk, div_coe (tot_pos v s σ μ).ne', EReal.coe_mul]

/-- A window's entry is real. -/
def wv (X : Fin 4096 → Fin 4032 → ℝ) (o : ℕ) (ho : o + 128 ≤ 4032) (n : Fin 32) (j : Fin 2) (d : Fin 64) (k : Fin 256) : ℝ :=
  if 128 ≤ 128 * n.val + k.val then X (wrow n k) ⟨o + (64 * j.val + d.val), by omega⟩ else 0

theorem window_real (X : Fin 4096 → Fin 4032 → ℝ) (o : ℕ) (ho : o + 128 ≤ 4032) (z : FVec Ideal S4096x128 .f32)
    (hz : ∀ (r : Fin 4096) (j : Fin 128), z (ix2 r j) = ((X r ⟨o + j.val, by omega⟩ : ℝ) : EReal)) (n : Fin 32) (k : Fin 256) (j : Fin 2) (d : Fin 64) :
    window z (ix5 0 n k j d) = ((wv X o ho n j d k : ℝ) : EReal) := by
  unfold wv
  by_cases h : 128 ≤ 128 * n.val + k.val
  · rw [if_pos h]; exact (window_at z n k j d h).trans (hz _ _)
  · rw [if_neg h]; exact window_zero z n k j d h

theorem select_one {α : Type} {v : BitVec 1} (h : v = 1#1) (a b : α) : Scalar.select v a b = a := if_pos h

theorem select_other {α : Type} {v : BitVec 1} (h : ¬v = 1#1) (a b : α) : Scalar.select v a b = b := if_neg h

theorem eighth : Ideal.ofBits .f32 0x3E000000#32 = ((1 / 8 : ℝ) : EReal) := by
  simp [Ideal.ofBits, Ideal.ieee, -EReal.coe_mul]; norm_num

theorem scores_real (X : Fin 4096 → Fin 4032 → ℝ) (z : FVec Ideal S4096x128 .f32) (q : FVec Ideal S4096x1024 .f32)
    (hz : ∀ (r : Fin 4096) (j : Fin 128), z (ix2 r j) = ((X r ⟨1024 + j.val, by omega⟩ : ℝ) : EReal))
    (hq : ∀ (r : Fin 4096) (j : Fin 1024), q (ix2 r j) = ((X r ⟨j.val, by omega⟩ : ℝ) : EReal))
    (n : Fin 32) (j : Fin 2) (g : Fin 8) (r : Fin 128) (k : Fin 256) :
    scores (window z) q slopes (ix6 0 n j g r k) = msk (vm (BitVec.ofNat 32 n.val) r k) (sc X n r (hd j g) k) := by
  refine (scores_at (window z) q slopes n j g r k).trans ?_
  unfold msk
  by_cases hv : vm (BitVec.ofNat 32 n.val) r k = 1#1
  · rw [if_pos hv, select_one hv, eighth, slopes_eq]
    have hk := vm_pos n r k hv
    have hj : (hd j g).val / 8 = j.val := by simp only [hd]; omega
    have e : ∑ d : Fin 64, (show EReal from window z (ix5 0 n k j d)) * q (ix2 (qrow n r) ⟨64 * (hd j g).val + d.val, by omega⟩)
        = ((∑ d : Fin 64, X (wrow n k) ⟨1024 + (64 * ((hd j g).val / 8) + d.val), by omega⟩ * X (qrow n r) ⟨64 * (hd j g).val + d.val, by omega⟩ : ℝ) : EReal) := by
      rw [← coe_sum]
      refine Finset.sum_congr rfl fun d _ => ?_
      rw [EReal.coe_mul]
      refine congrArg₂ (· * ·) (((window_at z n k j d hk).trans (hz _ _)).trans (congrArg (fun a => ((X (wrow n k) a : ℝ) : EReal)) (Fin.ext ?_))) (hq _ _)
      show 1024 + (64 * j.val + d.val) = 1024 + (64 * ((hd j g).val / 8) + d.val)
      rw [hj]
    rw [e]
    unfold sc
    rw [EReal.coe_add, EReal.coe_mul, EReal.coe_mul, EReal.coe_neg]
    rfl
  · rw [if_neg hv, select_other hv]
    exact ofBits_ninf

/-- The reference's entry in real numbers. -/
theorem value (X : Fin 4096 → Fin 4032 → ℝ) (S : Fin 16 → ℝ) (zk zv : FVec Ideal S4096x128 .f32) (q : FVec Ideal S4096x1024 .f32) (b : FVec Ideal S16 .f32)
    (hk : ∀ (r : Fin 4096) (j : Fin 128), zk (ix2 r j) = ((X r ⟨1024 + j.val, by omega⟩ : ℝ) : EReal))
    (hv : ∀ (r : Fin 4096) (j : Fin 128), zv (ix2 r j) = ((X r ⟨1152 + j.val, by omega⟩ : ℝ) : EReal))
    (hq : ∀ (r : Fin 4096) (j : Fin 1024), q (ix2 r j) = ((X r ⟨j.val, by omega⟩ : ℝ) : EReal))
    (hb : ∀ h, b (ix1 h) = ((S h : ℝ) : EReal))
    (n : Fin 32) (r : Fin 128) (j : Fin 2) (g : Fin 8) (d : Fin 64) :
    result (window zv) (expo (joined (scores (window zk) q slopes) b)) (ix2 (qrow n r) ⟨64 * (hd j g).val + d.val, by omega⟩)
      = ((win X S n r (hd j g) d : ℝ) : EReal) := by
  refine (result_at _ _ n r j g d).trans ?_
  simp only [expo_at]
  refine (soft (vm (BitVec.ofNat 32 n.val) r) (sc X n r (hd j g)) (wv X 1152 (by omega) n j d) (S (hd j g))
    (fun k => (show EReal from joined (scores (window zk) q slopes) b (ix6 0 n j g r k))) _ (fun k => ?_) ?_ (fun k => window_real X 1152 (by omega) zv hv n k j d)).trans ?_
  · refine (joined_at _ b n j g r k.castSucc).trans ?_
    rw [dif_pos (show k.castSucc.val < 256 from k.isLt)]
    exact scores_real X zk q hk hq n j g r k
  · refine (joined_at _ b n j g r (Fin.last 256)).trans ?_
    rw [dif_neg (show ¬(Fin.last 256).val < 256 by simp)]
    exact hb _
  · refine congrArg _ ?_
    unfold win
    refine att_congr fun k hk => ⟨rfl, ?_⟩
    unfold wv
    rw [if_pos (vm_pos n r k hk)]
    exact congrArg (X (wrow n k)) (Fin.ext (by simp only [hd]; omega))

open Cert.WinRefIdeal.Value in
theorem out_eq (m : (ℓ : Loc nD τ sig) → Buf (Elt Ideal) ℓ) (c : Dev nD) (a : FVec Ideal S4096x4032 .f32) (b : FVec Ideal S16 .f32)
    (ha : m ((c.tc : Thread nD τ).loc main_arg0) = a) (hb : m ((c.tc : Thread nD τ).loc main_arg1) = b) :
    res_out0 m c = result (window (extractStridedSlice S4096x128 ![0, 1152] a slices_S4096x4032_S4096x128_0_1152))
      (expo (joined (scores (window (extractStridedSlice S4096x128 ![0, 1024] a slices_S4096x4032_S4096x128_0_1024))
        (extractStridedSlice S4096x1024 ![0, 0] a slices_S4096x4032_S4096x1024_0_0) slopes) b)) := by
  subst ha
  subst hb
  rfl

variable (X : S4096x4032.Idx → ℝ) (S : S16.Idx → ℝ)

theorem cut_k (r : Fin 4096) (j : Fin 128) : extractStridedSlice S4096x128 ![0, 1024] (fun i => ((X i : ℝ) : EReal) : FVec Ideal S4096x4032 .f32) slices_S4096x4032_S4096x128_0_1024 (ix2 r j)
    = ((X (ix2 r ⟨1024 + j.val, by omega⟩) : ℝ) : EReal) := by
  show (_ : EReal) = _
  pointwise
theorem cut_v (r : Fin 4096) (j : Fin 128) : extractStridedSlice S4096x128 ![0, 1152] (fun i => ((X i : ℝ) : EReal) : FVec Ideal S4096x4032 .f32) slices_S4096x4032_S4096x128_0_1152 (ix2 r j)
    = ((X (ix2 r ⟨1152 + j.val, by omega⟩) : ℝ) : EReal) := by
  show (_ : EReal) = _
  pointwise
theorem cut_q (r : Fin 4096) (j : Fin 1024) : extractStridedSlice S4096x1024 ![0, 0] (fun i => ((X i : ℝ) : EReal) : FVec Ideal S4096x4032 .f32) slices_S4096x4032_S4096x1024_0_0 (ix2 r j)
    = ((X (ix2 r ⟨j.val, by omega⟩) : ℝ) : EReal) := by
  show (_ : EReal) = _
  pointwise

open Cert.WinRefIdeal.Value in
/-- The reference's result is the windowed attention of the arguments. -/
theorem out_win (m : (ℓ : Loc nD τ sig) → Buf (Elt Ideal) ℓ) (c : Dev nD)
    (ha : m ((c.tc : Thread nD τ).loc main_arg0) = (fun i => ((X i : ℝ) : EReal))) (hb : m ((c.tc : Thread nD τ).loc main_arg1) = (fun i => ((S i : ℝ) : EReal))) :
    res_out0 m c = fun i : S4096x1024.Idx => ((entry X S (i 0) (i 1) : ℝ) : EReal) := by
  rw [out_eq m c _ _ ha hb]
  funext i
  obtain ⟨a, b, rfl⟩ : ∃ (a : Fin 4096) (b : Fin 1024), i = ix2 a b := ⟨i 0, i 1, eq_ix2 i⟩
  have h := value (fun a b => X (ix2 a b)) (fun h => S (ix1 h)) _ _ _ (fun i => ((S i : ℝ) : EReal)) (cut_k X) (cut_v X) (cut_q X) (fun _ => rfl)
    ⟨a.val / 128, by omega⟩ ⟨a.val % 128, by omega⟩ ⟨b.val / 512, by omega⟩ ⟨b.val / 64 % 8, by omega⟩ ⟨b.val % 64, by omega⟩
  have p : qrow ⟨a.val / 128, by omega⟩ ⟨a.val % 128, by omega⟩ = a := Fin.ext (by simp only [qrow]; omega)
  have e : hd ⟨b.val / 512, by omega⟩ ⟨b.val / 64 % 8, by omega⟩ = ⟨b.val / 64, by omega⟩ := Fin.ext (by simp only [hd]; omega)
  have o : (⟨64 * (hd ⟨b.val / 512, by omega⟩ ⟨b.val / 64 % 8, by omega⟩).val + b.val % 64, by simp only [hd]; omega⟩ : Fin 1024) = b := Fin.ext (by simp only [hd]; omega)
  refine Eq.trans ?_ (h.trans ?_)
  · exact congrArg₂ (fun x y => result _ _ (ix2 x y)) p.symm o.symm
  · rw [e]; rfl

open Cert.WinRefIdeal.Value in
/-- The reference's run, its result the windowed attention of the arguments. -/
theorem ref_run (m : (ℓ : Loc nD τ sig) → Buf (Elt Ideal) ℓ) (ρ : Dev nD → PrngReg) (hm : ∀ c : Dev nD,
      m ((c.tc : Thread nD τ).loc main_arg0) = (fun i => ((X i : ℝ) : EReal)) ∧ m ((c.tc : Thread nD τ).loc main_arg1) = (fun i => ((S i : ℝ) : EReal))) :
    θ_run defs (onTc (τ := τ) (main (F := Ideal))) ⟨m, fun _ => 0, ρ⟩ fun r => ∀ c : Dev nD,
      r.2.mem ((c.tc : Thread nD τ).loc main_v102) = (fun i : S4096x1024.Idx => ((entry X S (i 0) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (out_win X S m c (hm c).1 (hm c).2), (h c).2⟩) (run m ρ)

end Cert.WinRef

end
-- ==== Proof.WinClaim.lean ====
/- The windowed attention kernel's result is the reference's. -/
module

public import proofs.«01_k».proof.Defs
public import proofs.«01_k».proof.Proof.WinValue
public import proofs.«01_k».proof.Proof.WinRef

@[expose] public section

set_option maxRecDepth 16384

noncomputable section

open Idealize.ShloMosaic Idealize.ShloMosaic.TcCoe Idealize.SL.Sem

namespace Cert.WinClaim

instance pre : Cert.Pre_win_finite.Facts where
  bcast_S_S4096x4032 := by decide
  bcast_S_S16 := by decide

theorem frame_ref : Cert.quiescent_WinRefIdeal := fun m ρ _ =>
  (θ_run Cert.WinRefIdeal.defs _ _).mono (fun r h => ⟨fun c => (h c).2, sem_eq_zero_of_no_sems (by decide) r.2⟩) (Cert.WinRefIdeal.Value.run m ρ)

theorem preserves : Cert.preserves_WinKernel_WinKernelIdeal :=
  ⟨IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl⟩

open Cert.WinKernelIdeal in
theorem algebraic : Cert.algebraic_WinKernelIdeal_WinRefIdeal_pre_win_finite := by
  intro m g m' g' hpre hagree
  have hreal : ∃ (X : S4096x4032.Idx → ℝ) (S : S16.Idx → ℝ), ∀ c : Dev nD,
      m ((c.tc : Thread nD τ).loc main_arg0) = (fun i => ((X i : ℝ) : EReal)) ∧ m ((c.tc : Thread nD τ).loc main_arg1) = (fun i => ((S i : ℝ) : EReal)) := by
    obtain ⟨h0, h1⟩ := hpre 0
    obtain ⟨X, e0⟩ := Cert.Reals.exists_real _ _ h0
    obtain ⟨S, e1⟩ := Cert.Reals.exists_real _ _ h1
    refine ⟨X, S, fun c => ?_⟩
    obtain rfl : c = 0 := Subsingleton.elim _ _
    exact ⟨e0, e1⟩
  obtain ⟨X, S, hm⟩ := hreal
  exact ⟨_, Cert.WinValue.ker_run m X S g hm,
    Cert.WinRef.ref_run X S m' g' fun c => ⟨(hagree c).1.trans (hm c).1, (hagree c).2.trans (hm c).2⟩⟩

end Cert.WinClaim

end
-- ==== Proof.ProjValue.lean ====
/- What the arrays of the first forward kernel hold after its run, and its results. -/
module

public import proofs.«01_k».proof.Proof.Gen.ProjKernelIdeal.Frame
public import proofs.«01_k».proof.Proof.InpValue
public import Idealize.ShloMosaic.Lib.Pipeline.ValueKit

@[expose] public section

set_option maxRecDepth 16384

noncomputable section

open Idealize.ShloMosaic Idealize.ShloMosaic.TcCoe Idealize.SL.Sem Idealize.ShloMosaic.Tactic
open Idealize.ShloMosaic.Pipeline (Dat)

namespace Cert.ProjValue

open Cert.ProjKernelIdeal Cert.ProjKernelIdeal.Gen

/-- The normed row at a column. -/
def hn (X : S4096x2048.Idx → EReal) (G : S2048.Idx → EReal) (r : Fin 4096) (k : Fin 2048) : EReal :=
  X (ix2 r k) * Ideal.rsqrt (Ideal.div (∑ j, X (ix2 r j) * X (ix2 r j)) (Ideal.ofBits FTy.f32 1157627904#32)
    + Ideal.ofBits FTy.f32 897988541#32) * G (ix1 k)

/-- The column of the kernel's order that holds a column of the weight. -/
def col (n : Fin 4032) : Fin 4096 :=
  if h : n.val < 1024 then ⟨n.val, by omega⟩ else if h : n.val - 1024 < 256 then ⟨3840 + (n.val - 1024), by omega⟩
  else if h : n.val - 1024 - 256 < 1024 then ⟨1024 + (n.val - 1024 - 256), by omega⟩
  else if h : n.val - 1024 - 256 - 1024 < 704 then ⟨3072 + (n.val - 1024 - 256 - 1024), by omega⟩
  else ⟨2048 + (n.val - 1024 - 256 - 1024 - 704), by omega⟩

theorem col_cases (n : Fin 4032) : (n.val < 1024 ∧ (col n).val = n.val) ∨ (1024 ≤ n.val ∧ n.val < 1280 ∧ (col n).val = 2816 + n.val)
    ∨ (1280 ≤ n.val ∧ n.val < 2304 ∧ (col n).val + 256 = n.val) ∨ (2304 ≤ n.val ∧ n.val < 3008 ∧ (col n).val = 768 + n.val)
    ∨ (3008 ≤ n.val ∧ (col n).val + 960 = n.val) := by
  unfold col
  split
  · exact .inl ⟨by omega, rfl⟩
  split
  · exact .inr (.inl ⟨by omega, by omega, by show 3840 + (n.val - 1024) = _; omega⟩)
  split
  · exact .inr (.inr (.inl ⟨by omega, by omega, by show 1024 + (n.val - 1024 - 256) + _ = _; omega⟩))
  split
  · exact .inr (.inr (.inr (.inl ⟨by omega, by omega, by show 3072 + (n.val - 1024 - 256 - 1024) = _; omega⟩)))
  · exact .inr (.inr (.inr (.inr ⟨by omega, by show 2048 + (n.val - 1024 - 256 - 1024 - 704) + _ = _; omega⟩)))

theorem packW_apply (a : FVec Ideal S2048x4032 .f32) (k : Fin 2048) (q : Fin 4096) :
    Cert.InpValue.packW a (ix2 k q) = (if h : q.val < 1024 then (show EReal from a (ix2 k ⟨q.val, by omega⟩))
      else if h : q.val - 1024 < 1024 then a (ix2 k ⟨1280 + (q.val - 1024), by omega⟩)
      else if h : q.val - 1024 - 1024 < 1024 then a (ix2 k ⟨3008 + (q.val - 1024 - 1024), by omega⟩)
      else if h : q.val - 1024 - 1024 - 1024 < 704 then a (ix2 k ⟨2304 + (q.val - 1024 - 1024 - 1024), by omega⟩)
      else if h : q.val - 1024 - 1024 - 1024 - 704 < 64 then 0
      else a (ix2 k ⟨1024 + (q.val - 1024 - 1024 - 1024 - 704 - 64), by omega⟩)) := by
  show (_ : EReal) = _
  pointwise [Cert.InpValue.packW]

theorem packW_col (a : FVec Ideal S2048x4032 .f32) (k : Fin 2048) (n : Fin 4032) :
    Cert.InpValue.packW a (ix2 k (col n)) = a (ix2 k n) := by
  rw [packW_apply]
  have at_ : ∀ (z : ℕ) (hz : z < 4032), z = n.val → (show EReal from a (ix2 k ⟨z, hz⟩)) = a (ix2 k n) := fun z hz e => by
    obtain rfl := e
    rfl
  rcases col_cases n with ⟨h1, h⟩ | ⟨h1, h2, h⟩ | ⟨h1, h2, h⟩ | ⟨h1, h2, h⟩ | ⟨h1, h⟩
  · rw [dif_pos (by omega)]
    exact at_ _ _ (by omega)
  · rw [dif_neg (by omega), dif_neg (by omega), dif_neg (by omega), dif_neg (by omega), dif_neg (by omega)]
    exact at_ _ _ (by omega)
  · rw [dif_neg (by omega), dif_pos (by omega)]
    exact at_ _ _ (by omega)
  · rw [dif_neg (by omega), dif_neg (by omega), dif_neg (by omega), dif_pos (by omega)]
    exact at_ _ _ (by omega)
  · rw [dif_neg (by omega), dif_neg (by omega), dif_pos (by omega)]
    exact at_ _ _ (by omega)

/-- The product's columns in the weight's order. -/
def pick (D : FVec Ideal S4096x4096 .bf16) : FVec Ideal S4096x4032 .bf16 :=
  concatenate S4096x4032 1 [⟨S4096x1024, extractStridedSlice S4096x1024 ![0, 0] D slices_S4096x4096_S4096x1024_0_0⟩,
    ⟨S4096x256, extractStridedSlice S4096x256 ![0, 3840] D slices_S4096x4096_S4096x256_0_3840⟩,
    ⟨S4096x1024, extractStridedSlice S4096x1024 ![0, 1024] D slices_S4096x4096_S4096x1024_0_1024⟩,
    ⟨S4096x704, extractStridedSlice S4096x704 ![0, 3072] D slices_S4096x4096_S4096x704_0_3072⟩,
    ⟨S4096x1024, extractStridedSlice S4096x1024 ![0, 2048] D slices_S4096x4096_S4096x1024_0_2048⟩]
    concatenates_S4096x1024_S4096x256_S4096x1024_S4096x704_S4096x1024_S4096x4032_d1

theorem pick_apply (D : FVec Ideal S4096x4096 .bf16) (r : Fin 4096) (n : Fin 4032) : pick D (ix2 r n) = D (ix2 r (col n)) := by
  show (_ : EReal) = _
  pointwise [pick]
  unfold col
  repeat'
    split
    · rfl
  rfl

/-- A product over the normed rows. -/
def prod {N : ℕ} (X : S4096x2048.Idx → EReal) (G : S2048.Idx → EReal) (U : Fin 2048 → Fin N → EReal) (r : Fin 4096) (n : Fin N) : EReal :=
  ∑ k, hn X G r k * U k n

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ t.val < 8 :=
  (by decide +kernel : ∀ t : Fin grid0.N, _)

/-- Row `r` of block `t`. -/
def row (t : Fin cfg0.N) (r : Fin 512) : Fin 4096 := ⟨t.val * 512 + r.val, by have := (idx t).2.2.2.2.2; omega⟩

theorem entry :
    V m c main_v8 = truncf .bf16 (Cert.InpValue.packW (m ((c.tc : Thread nD τ).loc main_arg2))) bitsLt_bf16_f32
    ∧ V m c main_v0 = shapeCast S1x2048 (m ((c.tc : Thread nD τ).loc main_arg1)) shapeCasts_S2048_S1x2048 := by
  refine ⟨?_, ?_⟩ <;>
  (show StableHlo.after (List.flatten [hostOps0]) (fun b => m (c, b)) (Proc.devRef .tc _) = _
   simp only [hostOps0, List.flatten_cons, List.flatten_nil, List.append_nil, List.cons_append, List.nil_append]
   after_results_simp <;> rfl)

theorem blk0 (t : Fin cfg0.N) (r : Fin 512) (k : Fin 2048) :
    iblk m c 0 t (ix2 r k) = m ((c.tc : Thread nD τ).loc main_arg0) (ix2 (row t r) k) := by blk_ext [iblk, V, idx t, row]
theorem blk1 (t : Fin cfg0.N) (k : Fin 2048) :
    iblk m c 1 t (ix2 0 k) = m ((c.tc : Thread nD τ).loc main_arg1) (ix1 k) := by
  have h : iblk m c 1 t (ix2 0 k) = V m c main_v0 (ix2 0 k) := by blk_ext [iblk, idx t]
  rw [h, (entry m c).2]
  show (_ : EReal) = _
  pointwise
theorem blk2 (t : Fin cfg0.N) (k : Fin 2048) (n : Fin 4096) :
    iblk m c 2 t (ix2 k n) = Cert.InpValue.packW (m ((c.tc : Thread nD τ).loc main_arg2)) (ix2 k n) := by
  have h : iblk m c 2 t (ix2 k n) = V m c main_v8 (ix2 k n) := by blk_ext [iblk, idx t]
  rw [h, (entry m c).1]
  rfl

theorem norm_blk (t : Fin cfg0.N) : k0_pay3 (F := Ideal) (iblk m c 0 t) (iblk m c 1 t)
    = fun y : S512x2048.Idx => hn (m ((c.tc : Thread nD τ).loc main_arg0)) (m ((c.tc : Thread nD τ).loc main_arg1)) (row t (y 0)) (y 1) := by
  have e0 := blk0 m c t
  have e1 := blk1 m c t
  generalize iblk m c 0 t = x0 at *
  generalize iblk m c 1 t = x1 at *
  funext y
  idx_vars y
  show (_ : EReal) = _
  pointwise [k0_pay3]
  unfold hn
  simp only [e0, e1]

/-- The four column blocks of the product are one product. -/
theorem pays (h : FVec Ideal S512x2048 .bf16) (w : Vec Ideal S2048x1024 .bf16) (r : Fin 512) (n : Fin 1024) :
    k0_pay4 (F := Ideal) h w (ix2 r n) = ∑ k, (show EReal from h (ix2 r k)) * w (ix2 k n)
    ∧ k0_pay5 (F := Ideal) h w (ix2 r n) = ∑ k, (show EReal from h (ix2 r k)) * w (ix2 k n)
    ∧ k0_pay1 (F := Ideal) h w (ix2 r n) = ∑ k, (show EReal from h (ix2 r k)) * w (ix2 k n)
    ∧ k0_pay2 (F := Ideal) h w (ix2 r n) = ∑ k, (show EReal from h (ix2 r k)) * w (ix2 k n) := by
  refine ⟨?_, ?_, ?_, ?_⟩ <;>
  (show (_ : EReal) = _
   pointwise [k0_pay4, k0_pay5, k0_pay1, k0_pay2])

theorem emb3 (t : Fin cfg0.N) (y : S512x4096.Idx) : ((cfg0.win 3).blk t).view.emb y = (ix2 (row t (y 0)) (y 1) : S4096x4096.Idx) := by
  blk_ext [idx t, row]
theorem emb4 (t : Fin cfg0.N) (y : S512x2048.Idx) : ((cfg0.win 4).blk t).view.emb y = (ix2 (row t (y 0)) (y 1) : S4096x2048.Idx) := by
  blk_ext [idx t, row]

/-- The product's array. -/
def OUT (i : S4096x4096.Idx) : EReal :=
  prod (m ((c.tc : Thread nD τ).loc main_arg0)) (m ((c.tc : Thread nD τ).loc main_arg1))
    (fun k n => Cert.InpValue.packW (m ((c.tc : Thread nD τ).loc main_arg2)) (ix2 k n)) (i 0) (i 1)
/-- The normed rows. -/
def NRM (i : S4096x2048.Idx) : EReal :=
  hn (m ((c.tc : Thread nD τ).loc main_arg0)) (m ((c.tc : Thread nD τ).loc main_arg1)) (i 0) (i 1)

theorem final4 : (dats m 0 c).arrAt 4 (cfgs 0).N = NRM m c := by
  refine (dats m 0 c).arrAt_eq_of_covers 4 _ (by decide +kernel) fun t hf y => ?_
  refine Eq.trans ?_ (congrArg (NRM m c) (emb4 t y).symm)
  refine Eq.trans ?_ (congrFun (norm_blk m c t) y)
  blk_simp
  rw [after0_4]
  unfold outsAt0 out0_A_4
  frame_out

theorem final3 : (dats m 0 c).arrAt 3 (cfgs 0).N = OUT m c := by
  refine (dats m 0 c).arrAt_eq_of_covers 3 _ (by decide +kernel) fun t hf y => ?_
  refine Eq.trans ?_ (congrArg (OUT m c) (emb3 t y).symm)
  blk_simp
  rw [after0_3]
  unfold outsAt0 out0_A_3
  frame_out
  rw [norm_blk]
  have e2 := blk2 m c t
  generalize iblk m c 2 t = x2 at *
  canon_tiles x h
  all_goals
    have e0 : row t (y 0) = row t (x 0) := congrArg (row t) (Fin.ext h0)
    rw [eq_ix2 x, e0]
    first
      | refine (pays _ _ (x 0) (x 1)).1.trans ?_
      | refine (pays _ _ (x 0) (x 1)).2.1.trans ?_
      | refine (pays _ _ (x 0) (x 1)).2.2.1.trans ?_
      | refine (pays _ _ (x 0) (x 1)).2.2.2.trans ?_
    refine Finset.sum_congr rfl fun k _ => congrArg (_ * ·) (Eq.trans ?_ (e2 k (y 1)))
    refine congrArg x2 (funext fun a => ?_)
    match a with
    | 0 => exact Fin.ext (by show 0 + 1 * k.val = k.val; omega)
    | 1 =>
      refine Fin.ext (Eq.trans ?_ h1.symm)
      first
        | exact congrArg (_ + ·) (Nat.one_mul _)
        | exact (congrArg (_ + ·) (Nat.one_mul _)).trans (Nat.zero_add _)

/-- What the host lines after the launch leave. -/
theorem tail : Pipeline.afterTail₀ cfgs (dats m) 0 (V0 m) [hostOps1] c main_v15 = pick ((dats m 0 c).arrAt 3 (cfgs 0).N) := by
  have e3 := Pipeline.withArrays_arr spec0 launch0.win.arr_inj c (V0 m c) (fun w => (dats m 0 c).arrAt w (cfgs 0).N) 3
  rw [← e3]
  unfold Pipeline.afterTail₀
  generalize Pipeline.withArrays spec0 c (V0 m c) (fun w => (dats m 0 c).arrAt w (cfgs 0).N) = W
  show StableHlo.after (List.flatten [hostOps1]) W (Proc.devRef .tc _) = _
  simp only [hostOps1, List.flatten_cons, List.flatten_nil, List.append_nil, List.cons_append, List.nil_append]
  after_results_simp <;> rfl

theorem result : pick (OUT m c) = fun i : S4096x4032.Idx =>
    prod (m ((c.tc : Thread nD τ).loc main_arg0)) (m ((c.tc : Thread nD τ).loc main_arg1))
      (fun k n => m ((c.tc : Thread nD τ).loc main_arg2) (ix2 k n)) (i 0) (i 1) := by
  funext i
  obtain ⟨r, n, rfl⟩ : ∃ (a : Fin 4096) (b : Fin 4032), i = ix2 a b := ⟨i 0, i 1, eq_ix2 i⟩
  refine (pick_apply _ r n).trans ?_
  unfold OUT prod
  exact Finset.sum_congr rfl fun k _ => congrArg (_ * ·) (packW_col _ k n)

/-- The kernel's run, each result as a function of the arguments. -/
theorem ker_run (ρ : Dev nD → PrngReg) :
    θ_run defs (onTc (τ := τ) (main (F := Ideal))) ⟨m, fun _ => 0, ρ⟩ fun r => ∀ c : Dev nD,
      r.2.mem ((c.tc : Thread nD τ).loc main_v15) = (fun i : S4096x4032.Idx =>
        prod (m ((c.tc : Thread nD τ).loc main_arg0)) (m ((c.tc : Thread nD τ).loc main_arg1))
          (fun k n => m ((c.tc : Thread nD τ).loc main_arg2) (ix2 k n)) (i 0) (i 1))
      ∧ r.2.mem ((c.tc : Thread nD τ).loc main_v9_1) = (fun i : S4096x2048.Idx =>
        hn (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run_main m ρ)
  have hp : Pipeline.FramePost cfgs (dats m) 0 (Pipeline.afterTail₀ cfgs (dats m) 0 (V0 m) [hostOps1]) r := h
  exact ⟨(hp.rest_eq c main_v15 (by decide)).trans ((tail m c).trans ((congrArg pick (final3 m c)).trans (result m c))),
    ((h c).1 4).trans (final4 m c),
    ((h c).1 0).trans (((dats m 0 c).arrAt_in 0 rfl _).trans (A_eq m c 0)),
    (hp.rest_eq c main_arg1 (by decide)).trans (W_main_arg1 m (dats m) c),
    (hp.rest_eq c main_arg2 (by decide)).trans (W_main_arg2 m (dats m) c)⟩

end Cert.ProjValue

end
-- ==== Proof.ProjClaim.lean ====
/- The first forward kernel's results are the reference's. -/
module

public import proofs.«01_k».proof.Defs
public import proofs.«01_k».proof.Proof.ProjValue
public import proofs.«01_k».proof.Proof.Gen.ProjRefIdeal.Run

@[expose] public section

set_option maxRecDepth 16384

noncomputable section

open Idealize.ShloMosaic Idealize.ShloMosaic.TcCoe Idealize.SL.Sem Idealize.ShloMosaic.Tactic

namespace Cert.ProjClaim

section
open Cert.ProjRefIdeal Cert.ProjRefIdeal.Gen

theorem ref_run (m : (ℓ : Loc nD τ sig) → Buf (Elt Ideal) ℓ) (ρ : Dev nD → PrngReg) (X : Dev nD → S4096x2048.Idx → EReal) (G : Dev nD → S2048.Idx → EReal)
    (W : Dev nD → S2048x4032.Idx → EReal) (hm : ∀ c : Dev nD, m ((c.tc : Thread nD τ).loc main_arg0) = X c
      ∧ m ((c.tc : Thread nD τ).loc main_arg1) = G c ∧ m ((c.tc : Thread nD τ).loc main_arg2) = W c) :
    θ_run defs (onTc (τ := τ) (main (F := Ideal))) ⟨m, fun _ => 0, ρ⟩ fun r => ∀ c : Dev nD,
      r.2.mem ((c.tc : Thread nD τ).loc main_v14) = (fun i : S4096x4032.Idx => Cert.ProjValue.prod (X c) (G c) (fun k n => W c (ix2 k n)) (i 0) (i 1))
      ∧ r.2.mem ((c.tc : Thread nD τ).loc main_v15) = (fun i : S4096x2048.Idx => Cert.ProjValue.hn (X c) (G c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h0, h1, h2⟩ := h c
  obtain ⟨e0, e1, e2⟩ := hm c
  rw [← e0, ← e1, ← e2]
  refine ⟨h0.trans (funext fun i => ?_), h1.trans (funext fun i => ?_), h2⟩ <;>
  (idx_vars i
   show (_ : EReal) = _
   pointwise [Cert.ProjValue.prod, Cert.ProjValue.hn])

end

theorem frame_ref : Cert.quiescent_ProjRefIdeal := fun m ρ _ =>
  (θ_run Cert.ProjRefIdeal.defs _ _).mono (fun r h => ⟨fun c => (h c).2.2, sem_eq_zero_of_no_sems (by decide) r.2⟩) (Cert.ProjRefIdeal.Value.run m ρ)

theorem algebraic : Cert.algebraic_ProjKernelIdeal_ProjRefIdeal := by
  intro m g m' g' _ hagree
  exact ⟨_, _, Cert.ProjValue.ker_run m g, Cert.ProjClaim.ref_run m' g' (fun c => m ((c.tc : Thread Cert.ProjKernelIdeal.nD Cert.ProjKernelIdeal.τ).loc Cert.ProjKernelIdeal.main_arg0))
    (fun c => m ((c.tc : Thread Cert.ProjKernelIdeal.nD Cert.ProjKernelIdeal.τ).loc Cert.ProjKernelIdeal.main_arg1))
    (fun c => m ((c.tc : Thread Cert.ProjKernelIdeal.nD Cert.ProjKernelIdeal.τ).loc Cert.ProjKernelIdeal.main_arg2)) hagree⟩

end Cert.ProjClaim

end
-- ==== Proof.LatPure.lean ====
/- The latent attention's inputs: the arrays the forward kernel reads, and what it computes of them. -/
module

public import proofs.«01_k».proof.Proof.Gen.LatKernelIdeal.Skeleton
public import proofs.«01_k».proof.Proof.InpValue
public import Idealize.ShloMosaic.Lib.Pipeline.ValueKit

@[expose] public section

set_option maxRecDepth 16384

noncomputable section

open Idealize.ShloMosaic Idealize.ShloMosaic.TcCoe Idealize.SL.Sem Idealize.ShloMosaic.Tactic

namespace Cert.LatPure

/-- A normed row at a column. -/
def nr {n : ℕ} (x g : Fin n → EReal) (d : BitVec 32) (k : Fin n) : EReal :=
  x k * Ideal.rsqrt (Ideal.div (∑ j, x j * x j) (Ideal.ofBits FTy.f32 d) + Ideal.ofBits FTy.f32 897988541#32) * g k

/-- The normed query row times a column. -/
def qf (P : Cert.LatKernelIdeal.S4096x4032.Idx → EReal) (G : Cert.LatKernelIdeal.S384.Idx → EReal) {N : ℕ} (W : Fin 384 → Fin N → EReal) (r : Fin 4096) (n : Fin N) : EReal :=
  ∑ k, nr (fun j : Fin 384 => P (ix2 r ⟨2304 + j.val, by omega⟩)) (fun j => G (ix1 j)) 1136656384#32 k * W k n

/-- The normed key row times a column. -/
def kf (P : Cert.LatKernelIdeal.S4096x4032.Idx → EReal) (G : Cert.LatKernelIdeal.S256.Idx → EReal) {N : ℕ} (W : Fin 256 → Fin N → EReal) (r : Fin 4096) (n : Fin N) : EReal :=
  ∑ k, nr (fun j : Fin 256 => P (ix2 r ⟨2688 + j.val, by omega⟩)) (fun j => G (ix1 j)) 1132462080#32 k * W k n

/-- The rotary embedding of a row of 64. -/
def ro (x : Fin 64 → EReal) (u v : Fin 32 → EReal) (k : Fin 64) : EReal :=
  if h : k.val < 32 then x k * u ⟨k.val, h⟩ - x ⟨32 + k.val, by omega⟩ * v ⟨k.val, h⟩
  else x ⟨32 + (k.val - 32), by omega⟩ * u ⟨k.val - 32, by omega⟩ + x ⟨k.val - 32, by omega⟩ * v ⟨k.val - 32, by omega⟩

/-- The kernel's form of it on a row of 128. -/
def rot (x u v w : Fin 128 → EReal) (k : Fin 128) : EReal :=
  x k * u k + x ⟨(k.val + 128 - 32) % 128, Nat.mod_lt _ (by omega)⟩ * v k + x ⟨(k.val + 128 - 96) % 128, Nat.mod_lt _ (by omega)⟩ * w k

/-- The two forms agree on the first 64 columns. -/
theorem rot_ro (x u v w : Fin 128 → EReal) (y : Fin 64 → EReal) (a b : Fin 32 → EReal)
    (hx : ∀ k : Fin 64, x ⟨k.val, by omega⟩ = y k)
    (hu : ∀ k : Fin 32, u ⟨k.val, by omega⟩ = a k ∧ u ⟨32 + k.val, by omega⟩ = a k)
    (hv : ∀ k : Fin 32, v ⟨k.val, by omega⟩ = 0 ∧ v ⟨32 + k.val, by omega⟩ = b k)
    (hw : ∀ k : Fin 32, w ⟨k.val, by omega⟩ = -b k ∧ w ⟨32 + k.val, by omega⟩ = 0) (k : Fin 64) :
    rot x u v w ⟨k.val, by omega⟩ = ro y a b k := by
  unfold rot ro
  by_cases h : k.val < 32
  · rw [dif_pos h, hx k, (hu ⟨k.val, h⟩).1, (hv ⟨k.val, h⟩).1, (hw ⟨k.val, h⟩).1]
    have e : (⟨(k.val + 128 - 96) % 128, Nat.mod_lt _ (by omega)⟩ : Fin 128) = ⟨32 + k.val, by omega⟩ := Fin.ext (by show (k.val + 128 - 96) % 128 = 32 + k.val; omega)
    rw [e, hx ⟨32 + k.val, by omega⟩, mul_zero, add_zero, mul_neg, sub_eq_add_neg]
  · have e : (⟨k.val, by omega⟩ : Fin 128) = ⟨32 + (k.val - 32), by omega⟩ := Fin.ext (by show k.val = 32 + (k.val - 32); omega)
    have e1 : (⟨(k.val + 128 - 32) % 128, Nat.mod_lt _ (by omega)⟩ : Fin 128) = ⟨k.val - 32, by omega⟩ := Fin.ext (by show (k.val + 128 - 32) % 128 = k.val - 32; omega)
    have a1 : u ⟨k.val, by omega⟩ = a ⟨k.val - 32, by omega⟩ := (congrArg u e).trans (hu ⟨k.val - 32, by omega⟩).2
    have a2 : v ⟨k.val, by omega⟩ = b ⟨k.val - 32, by omega⟩ := (congrArg v e).trans (hv ⟨k.val - 32, by omega⟩).2
    have a3 : w ⟨k.val, by omega⟩ = 0 := (congrArg w e).trans (hw ⟨k.val - 32, by omega⟩).2
    have e2 : (⟨32 + (k.val - 32), by omega⟩ : Fin 64) = k := Fin.ext (by show 32 + (k.val - 32) = k.val; omega)
    rw [dif_neg h, e2, hx k, a1, a2, a3, e1, hx ⟨k.val - 32, by omega⟩, mul_zero, add_zero]

section
open Cert.LatKernelIdeal Cert.LatKernelIdeal.Gen

/-- The rotary angles: position times inverse frequency. -/
def ang : FVec Ideal S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1
      (Host.powf (broadcastInDim S32 ![] bcast_S_S32 (constant S_ .f32 0x461C4000#32)) (Host.divf (Host.negf (addf (broadcastInDim S32 ![] bcast_S_S32 (constant S_ .f32 0x00000000#32))
        (mulf (broadcastInDim S32 ![] bcast_S_S32 (constant S_ .f32 0x40000000#32)) (sitofp .f32 (iotaInDim S32 32 0)))))
        (broadcastInDim S32 ![] bcast_S_S32 (constant S_ .f32 0x42800000#32))))))
def co : FVec Ideal S4096x32 .f32 := Host.cos ang
def si : FVec Ideal S4096x32 .f32 := Host.sin ang

/-- Three pieces side by side: a table of the kernel. -/
def table (a b : FVec Ideal S4096x32 .f32) : FVec Ideal S4096x128 .f32 :=
  concatenate S4096x128 1 [⟨S4096x32, a⟩, ⟨S4096x32, b⟩, ⟨S4096x64, broadcastInDim S4096x64 ![] bcast_S_S4096x64 (constant S_ .f32 0x00000000#32)⟩]
    concatenates_S4096x32_S4096x32_S4096x64_S4096x128_d1
def zeros : FVec Ideal S4096x32 .f32 := broadcastInDim S4096x32 ![] bcast_S_S4096x32 (constant S_ .f32 0x00000000#32)

theorem table_apply (a b : FVec Ideal S4096x32 .f32) (r : Fin 4096) (k : Fin 32) :
    table a b (ix2 r ⟨k.val, by omega⟩) = a (ix2 r k) ∧ table a b (ix2 r ⟨32 + k.val, by omega⟩) = b (ix2 r k) := by
  refine ⟨?_, ?_⟩ <;>
  (show (_ : EReal) = _
   pointwise [table])

/-- The query weight's columns in the kernel's order, the rotary ones padded. -/
def wqP (a : FVec Ideal S384x1536 .f32) : FVec Ideal S384x2048 .bf16 :=
  truncf .bf16 (concatenate S384x2048 1 [⟨S384x1024, shapeCast S384x1024 (extractStridedSlice S384x8x128 ![0, 0, 0] (shapeCast S384x8x192 a shapeCasts_S384x1536_S384x8x192) slices_S384x8x192_S384x8x128_0_0_0) shapeCasts_S384x8x128_S384x1024⟩,
    ⟨S384x1024, shapeCast S384x1024 (concatenate S384x8x128 2 [⟨S384x8x64, extractStridedSlice S384x8x64 ![0, 0, 128] (shapeCast S384x8x192 a shapeCasts_S384x1536_S384x8x192) slices_S384x8x192_S384x8x64_0_0_128⟩,
      ⟨S384x8x64, broadcastInDim S384x8x64 ![] bcast_S_S384x8x64 (constant S_ .f32 0x00000000#32)⟩] concatenates_S384x8x64_S384x8x64_S384x8x128_d2) shapeCasts_S384x8x128_S384x1024⟩]
    concatenates_S384x1024_S384x1024_S384x2048_d1) bitsLt_bf16_f32

/-- The key weight's columns in the kernel's order. -/
def wkP (a : FVec Ideal S256x2048 .f32) : FVec Ideal S256x2048 .bf16 :=
  truncf .bf16 (concatenate S256x2048 1 [⟨S256x1024, shapeCast S256x1024 (extractStridedSlice S256x8x128 ![0, 0, 0] (shapeCast S256x8x256 a shapeCasts_S256x2048_S256x8x256) slices_S256x8x256_S256x8x128_0_0_0) shapeCasts_S256x8x128_S256x1024⟩,
    ⟨S256x1024, shapeCast S256x1024 (extractStridedSlice S256x8x128 ![0, 0, 128] (shapeCast S256x8x256 a shapeCasts_S256x2048_S256x8x256) slices_S256x8x256_S256x8x128_0_0_128) shapeCasts_S256x8x128_S256x1024⟩]
    concatenates_S256x1024_S256x1024_S256x2048_d1) bitsLt_bf16_f32

theorem wqP_low (a : FVec Ideal S384x1536 .f32) (k : Fin 384) (h : Fin 8) (n : Fin 128) :
    wqP a (ix2 k ⟨128 * h.val + n.val, by omega⟩) = a (ix2 k ⟨h.val * 192 + n.val, by omega⟩) := by
  show (_ : EReal) = _
  pointwise [wqP]
  rw [dif_pos (by omega)]
theorem wqP_high (a : FVec Ideal S384x1536 .f32) (k : Fin 384) (h : Fin 8) (n : Fin 64) :
    wqP a (ix2 k ⟨1024 + 128 * h.val + n.val, by omega⟩) = a (ix2 k ⟨h.val * 192 + (128 + n.val), by omega⟩) := by
  show (_ : EReal) = _
  pointwise [wqP]
  rw [dif_neg (by omega), dif_pos (by omega)]
  exact congrArg (fun z => a (ix2 k z)) (Fin.ext (by simp only []; omega))
theorem wkP_low (a : FVec Ideal S256x2048 .f32) (k : Fin 256) (h : Fin 8) (n : Fin 128) :
    wkP a (ix2 k ⟨128 * h.val + n.val, by omega⟩) = a (ix2 k ⟨h.val * 256 + n.val, by omega⟩) := by
  show (_ : EReal) = _
  pointwise [wkP]
  rw [dif_pos (by omega)]
theorem wkP_high (a : FVec Ideal S256x2048 .f32) (k : Fin 256) (h : Fin 8) (n : Fin 128) :
    wkP a (ix2 k ⟨1024 + 128 * h.val + n.val, by omega⟩) = a (ix2 k ⟨h.val * 256 + (128 + n.val), by omega⟩) := by
  show (_ : EReal) = _
  pointwise [wkP]
  rw [dif_neg (by omega)]
  exact congrArg (fun z => a (ix2 k z)) (Fin.ext (by simp only []; omega))

end

end Cert.LatPure

end
-- ==== Proof.LatValue.lean ====
/- What the arrays of the latent attention's preparing kernel hold after its run, and its results. -/
module

public import proofs.«01_k».proof.Proof.Gen.LatKernelIdeal.Frame
public import proofs.«01_k».proof.Proof.LatPure

@[expose] public section

set_option maxRecDepth 16384

noncomputable section

open Idealize.ShloMosaic Idealize.ShloMosaic.TcCoe Idealize.SL.Sem Idealize.ShloMosaic.Tactic
open Idealize.ShloMosaic.Pipeline (Dat)

namespace Cert.LatValue

open Cert.LatKernelIdeal Cert.LatKernelIdeal.Gen Cert.LatPure

theorem pay1 (x0 : Vec Ideal S512x384 .bf16) (x1 : Vec Ideal S1x384 .f32) (x3 : Vec Ideal S384x2048 .bf16) (r : Fin 512) (n : Fin 2048) :
    k0_pay1 (F := Ideal) x0 x1 x3 (ix2 r n) = ∑ k, nr (fun j : Fin 384 => x0 (ix2 r j)) (fun j => x1 (ix2 0 j)) 1136656384#32 k * x3 (ix2 k n) := by
  show (_ : EReal) = _
  pointwise [k0_pay1, nr]
theorem pay4 (x0 : Vec Ideal S512x256 .bf16) (x1 : Vec Ideal S1x256 .f32) (x3 : Vec Ideal S256x2048 .bf16) (r : Fin 512) (n : Fin 2048) :
    k0_pay4 (F := Ideal) (k0_pay2 x0 x1) (k0_pay3 x3) (ix2 r n) = ∑ k, nr (fun j : Fin 256 => x0 (ix2 r j)) (fun j => x1 (ix2 0 j)) 1132462080#32 k * x3 (ix2 k n) := by
  show (_ : EReal) = _
  pointwise [k0_pay4, k0_pay2, k0_pay3, nr]
theorem pay11 (a : FVec Ideal S512x256 .f32) (b : FVec Ideal S256x2048 .bf16) :
    k0_pay11 (F := Ideal) a b = fun i : S512x128.Idx => k0_pay4 a b (ix2 (i 0) ⟨(i 1).val, by have : (i 1).val < 128 := (i 1).isLt; omega⟩) := by
  funext i
  idx_vars i
  show (_ : EReal) = _
  pointwise [k0_pay11, k0_pay4]
theorem pay8 (u v w : Vec Ideal S512x128 .f32) (x : Vec Ideal S512x128 .bf16) (r : Fin 512) (k : Fin 128) :
    k0_pay8 (F := Ideal) u v w x (ix2 r k) = rot (fun k => x (ix2 r k)) (fun k => u (ix2 r k)) (fun k => v (ix2 r k)) (fun k => w (ix2 r k)) k := by
  show (_ : EReal) = _
  pointwise [k0_pay8, k0_pay5, k0_pay6, k0_pay7, rot]

variable (m : (ℓ : Loc nD τ sig) → Buf (Elt Ideal) ℓ) (c : Dev nD)

theorem idx : ∀ t : Fin cfg0.N, win0_0.index t = ![t.val, 4] ∧ win0_1.index t = ![0, 0] ∧ win0_2.index t = ![0, 0]
    ∧ win0_3.index t = ![0, 0] ∧ win0_4.index t = ![0, 0] ∧ win0_5.index t = ![t.val, 0] ∧ win0_6.index t = ![t.val, 0] ∧ win0_7.index t = ![t.val, 0]
    ∧ win0_8.index t = ![0, t.val, 0] ∧ win0_9.index t = ![0, t.val, 0] ∧ win0_10.index t = ![0, t.val, 0] ∧ win0_11.index t = ![0, 0, t.val] ∧ t.val < 8 :=
  (by decide +kernel : ∀ t : Fin grid0.N, _)

/-- Row `r` of block `t`. -/
def row (t : Fin cfg0.N) (r : Fin 512) : Fin 4096 := ⟨t.val * 512 + r.val, by have := (idx t).2.2.2.2.2.2.2.2.2.2.2.2; omega⟩

def aP : FVec Ideal S4096x4032 .f32 := m ((c.tc : Thread nD τ).loc main_arg0)
def aG : FVec Ideal S384 .f32 := m ((c.tc : Thread nD τ).loc main_arg1)
def aH : FVec Ideal S256 .f32 := m ((c.tc : Thread nD τ).loc main_arg2)
def aQ : FVec Ideal S384x1536 .f32 := m ((c.tc : Thread nD τ).loc main_arg3)
def aK : FVec Ideal S256x2048 .f32 := m ((c.tc : Thread nD τ).loc main_arg4)

theorem entry :
    V m c main_v21 = truncf .bf16 (Cert.InpValue.packP (aP m c)) bitsLt_bf16_f32
    ∧ V m c main_v22 = shapeCast S1x384 (aG m c) shapeCasts_S384_S1x384
    ∧ V m c main_v23 = shapeCast S1x256 (aH m c) shapeCasts_S256_S1x256
    ∧ V m c main_v24 = wqP (aQ m c) ∧ V m c main_v25 = wkP (aK m c)
    ∧ V m c main_v46 = table co co ∧ V m c main_v47 = table zeros si ∧ V m c main_v49 = table (Host.negf si) zeros := by
  refine ⟨?_, ?_, ?_, ?_, ?_, ?_, ?_, ?_⟩ <;>
  (show StableHlo.after (List.flatten [hostOps0]) (fun b => m (c, b)) (Proc.devRef .tc _) = _
   simp only [hostOps0, List.flatten_cons, List.flatten_nil, List.append_nil, List.cons_append, List.nil_append]
   after_results_simp <;> rfl)

theorem packP_apply (P : FVec Ideal S4096x4032 .f32) (r : Fin 4096) (j : Fin 704) :
    Cert.InpValue.packP P (ix2 r ⟨3072 + j.val, by omega⟩) = P (ix2 r ⟨2304 + j.val, by omega⟩) := by
  show (_ : EReal) = _
  pointwise [Cert.InpValue.packP]
  rw [dif_neg (by omega), dif_neg (by omega), dif_neg (by omega), dif_pos (by omega)]
  exact congrArg (fun z => P (ix2 r z)) (Fin.ext (by simp only []; omega))

theorem blk0 (t : Fin cfg0.N) (r : Fin 512) (j : Fin 768) :
    X0_0 m c t (ix2 r j) = Cert.InpValue.packP (aP m c) (ix2 (row t r) ⟨3072 + j.val, by omega⟩) := by
  have h : X0_0 m c t (ix2 r j) = V m c main_v21 (ix2 (row t r) ⟨3072 + j.val, by omega⟩) := by
    unfold X0_0 Pipeline.Window.fill
    rw [dif_pos (moved0_0 t _)]
    blk_ext [iblk, idx t, row]
  rw [h, (entry m c).1]
  rfl
theorem blk1 (t : Fin cfg0.N) (k : Fin 384) : iblk m c 1 t (ix2 0 k) = aG m c (ix1 k) := by
  have h : iblk m c 1 t (ix2 0 k) = V m c main_v22 (ix2 0 k) := by blk_ext [iblk, idx t]
  rw [h, (entry m c).2.1]
  show (_ : EReal) = _
  pointwise
theorem blk2 (t : Fin cfg0.N) (k : Fin 256) : iblk m c 2 t (ix2 0 k) = aH m c (ix1 k) := by
  have h : iblk m c 2 t (ix2 0 k) = V m c main_v23 (ix2 0 k) := by blk_ext [iblk, idx t]
  rw [h, (entry m c).2.2.1]
  show (_ : EReal) = _
  pointwise
theorem blk3 (t : Fin cfg0.N) (k : Fin 384) (n : Fin 2048) : iblk m c 3 t (ix2 k n) = wqP (aQ m c) (ix2 k n) := by
  have h : iblk m c 3 t (ix2 k n) = V m c main_v24 (ix2 k n) := by blk_ext [iblk, idx t]
  rw [h, (entry m c).2.2.2.1]
theorem blk4 (t : Fin cfg0.N) (k : Fin 256) (n : Fin 2048) : iblk m c 4 t (ix2 k n) = wkP (aK m c) (ix2 k n) := by
  have h : iblk m c 4 t (ix2 k n) = V m c main_v25 (ix2 k n) := by blk_ext [iblk, idx t]
  rw [h, (entry m c).2.2.2.2.1]
theorem blk5 (t : Fin cfg0.N) (r : Fin 512) (k : Fin 128) : iblk m c 5 t (ix2 r k) = table co co (ix2 (row t r) k) := by
  have h : iblk m c 5 t (ix2 r k) = V m c main_v46 (ix2 (row t r) k) := by blk_ext [iblk, idx t, row]
  rw [h, (entry m c).2.2.2.2.2.1]
theorem blk6 (t : Fin cfg0.N) (r : Fin 512) (k : Fin 128) : iblk m c 6 t (ix2 r k) = table zeros si (ix2 (row t r) k) := by
  have h : iblk m c 6 t (ix2 r k) = V m c main_v47 (ix2 (row t r) k) := by blk_ext [iblk, idx t, row]
  rw [h, (entry m c).2.2.2.2.2.2.1]
theorem blk7 (t : Fin cfg0.N) (r : Fin 512) (k : Fin 128) : iblk m c 7 t (ix2 r k) = table (Host.negf si) zeros (ix2 (row t r) k) := by
  have h : iblk m c 7 t (ix2 r k) = V m c main_v49 (ix2 (row t r) k) := by blk_ext [iblk, idx t, row]
  rw [h, (entry m c).2.2.2.2.2.2.2]

/-- The kernel's query columns. -/
def qv (r : Fin 4096) (n : Fin 2048) : EReal := qf (aP m c) (aG m c) (fun k n => wqP (aQ m c) (ix2 k n)) r n
/-- The kernel's key and value columns. -/
def kv (r : Fin 4096) (n : Fin 2048) : EReal := kf (aP m c) (aH m c) (fun k n => wkP (aK m c) (ix2 k n)) r n
/-- The rotary step of the kernel on a row. -/
def rr (x : Fin 128 → EReal) (r : Fin 4096) (k : Fin 128) : EReal :=
  rot x (fun k => table co co (ix2 r k)) (fun k => table zeros si (ix2 r k)) (fun k => table (Host.negf si) zeros (ix2 r k)) k

def OUT8 (i : S8x4096x256.Idx) : EReal :=
  if h : (i 2).val < 128 then qv m c (i 1) ⟨128 * (i 0).val + (i 2).val, by have : (i 0).val < 8 := (i 0).isLt; omega⟩
  else rr (fun k => qv m c (i 1) ⟨1024 + 128 * (i 0).val + k.val, by have : (i 0).val < 8 := (i 0).isLt; omega⟩) (i 1)
    ⟨(i 2).val - 128, by have : (i 2).val < 256 := (i 2).isLt; omega⟩
def OUT9 (i : S8x4096x256.Idx) : EReal :=
  if h : (i 2).val < 128 then kv m c (i 1) ⟨128 * (i 0).val + (i 2).val, by have : (i 0).val < 8 := (i 0).isLt; omega⟩
  else rr (fun k => Cert.InpValue.packP (aP m c) (ix2 (i 1) ⟨3712 + k.val, by omega⟩)) (i 1)
    ⟨(i 2).val - 128, by have : (i 2).val < 256 := (i 2).isLt; omega⟩
def OUT10 (i : S8x4096x128.Idx) : EReal :=
  kv m c (i 1) ⟨1024 + 128 * (i 0).val + (i 2).val, by have : (i 0).val < 8 := (i 0).isLt; have : (i 2).val < 128 := (i 2).isLt; omega⟩
def OUT11 (i : S8x256x4096.Idx) : EReal :=
  if h : (i 1).val < 128 then kv m c (i 2) ⟨1024 + 128 * (i 0).val + (i 1).val, by have : (i 0).val < 8 := (i 0).isLt; omega⟩
  else Ideal.ofBits FTy.bf16 0x3F80#16

theorem emb8 (t : Fin cfg0.N) (y : S8x512x256.Idx) : ((cfg0.win 8).blk t).view.emb y = (ix3 (y 0) (row t (y 1)) (y 2) : S8x4096x256.Idx) := by
  blk_ext [idx t, row]
theorem emb9 (t : Fin cfg0.N) (y : S8x512x256.Idx) : ((cfg0.win 9).blk t).view.emb y = (ix3 (y 0) (row t (y 1)) (y 2) : S8x4096x256.Idx) := by
  blk_ext [idx t, row]
theorem emb10 (t : Fin cfg0.N) (y : S8x512x128.Idx) : ((cfg0.win 10).blk t).view.emb y = (ix3 (y 0) (row t (y 1)) (y 2) : S8x4096x128.Idx) := by
  blk_ext [idx t, row]
theorem emb11 (t : Fin cfg0.N) (y : S8x256x512.Idx) : ((cfg0.win 11).blk t).view.emb y = (ix3 (y 0) (y 1) (row t (y 2)) : S8x256x4096.Idx) := by
  blk_ext [idx t, row]

/-- The query columns a block computes. -/
theorem qT (t : Fin cfg0.N) (r : Fin 512) (n : Fin 2048) :
    k0_pay1 (F := Ideal) (View.ld (X0_0 m c t) (Rect.unit ![0, 0] ![512, 384] inb_S512x768_S512x384_0_0)) (iblk m c 1 t) (iblk m c 3 t) (ix2 r n)
      = qv m c (row t r) n := by
  refine (pay1 _ _ _ r n).trans ?_
  have e : ∀ j : Fin 384, View.ld (X0_0 m c t) (Rect.unit ![0, 0] ![512, 384] inb_S512x768_S512x384_0_0) (ix2 r j)
      = aP m c (ix2 (row t r) ⟨2304 + j.val, by omega⟩) := fun j => by
    refine Eq.trans (congrArg (X0_0 m c t) (funext fun a => ?_)) ((blk0 m c t r ⟨j.val, by omega⟩).trans (packP_apply _ _ ⟨j.val, by omega⟩))
    match a with
    | 0 => exact Fin.ext (by show 0 + 1 * r.val = r.val; omega)
    | 1 => exact Fin.ext (by show 0 + 1 * j.val = j.val; omega)
  simp only [e, blk1 m c t, blk3 m c t]
  rfl

/-- The key and value columns a block computes. -/
theorem kT (t : Fin cfg0.N) (r : Fin 512) (n : Fin 2048) :
    k0_pay4 (F := Ideal) (k0_pay2 (View.ld (X0_0 m c t) (Rect.unit ![0, 384] ![512, 256] inb_S512x768_S512x256_0_384)) (iblk m c 2 t)) (k0_pay3 (iblk m c 4 t)) (ix2 r n)
      = kv m c (row t r) n := by
  refine (pay4 _ _ _ r n).trans ?_
  have e : ∀ j : Fin 256, View.ld (X0_0 m c t) (Rect.unit ![0, 384] ![512, 256] inb_S512x768_S512x256_0_384) (ix2 r j)
      = aP m c (ix2 (row t r) ⟨2688 + j.val, by omega⟩) := fun j => by
    refine Eq.trans (congrArg (X0_0 m c t) (funext fun a => ?_)) ((blk0 m c t r ⟨384 + j.val, by omega⟩).trans
      (Eq.trans ?_ ((packP_apply _ _ ⟨384 + j.val, by omega⟩).trans (congrArg (fun z => aP m c (ix2 (row t r) z)) (Fin.ext ?_)))))
    · match a with
      | 0 => exact Fin.ext (by show 0 + 1 * r.val = r.val; omega)
      | 1 => exact Fin.ext (by show 384 + 1 * j.val = 384 + j.val; omega)
    · rfl
    · show 2304 + (384 + j.val) = 2688 + j.val
      omega
  simp only [e, blk2 m c t, blk4 m c t]
  rfl

/-- The rotated key row a block computes. -/
theorem rT (t : Fin cfg0.N) (r : Fin 512) (k : Fin 128) :
    k0_pay8 (F := Ideal) (iblk m c 5 t) (iblk m c 6 t) (iblk m c 7 t) (View.ld (X0_0 m c t) (Rect.unit ![0, 640] ![512, 128] inb_S512x768_S512x128_0_640)) (ix2 r k)
      = rr (fun k => Cert.InpValue.packP (aP m c) (ix2 (row t r) ⟨3712 + k.val, by omega⟩)) (row t r) k := by
  refine (pay8 _ _ _ _ r k).trans ?_
  have e : ∀ j : Fin 128, View.ld (X0_0 m c t) (Rect.unit ![0, 640] ![512, 128] inb_S512x768_S512x128_0_640) (ix2 r j)
      = Cert.InpValue.packP (aP m c) (ix2 (row t r) ⟨3712 + j.val, by omega⟩) := fun j => by
    refine Eq.trans (congrArg (X0_0 m c t) (funext fun a => ?_)) ((blk0 m c t r ⟨640 + j.val, by omega⟩).trans
      (congrArg (fun z => Cert.InpValue.packP (aP m c) (ix2 (row t r) z)) (Fin.ext ?_)))
    · match a with
      | 0 => exact Fin.ext (by show 0 + 1 * r.val = r.val; omega)
      | 1 => exact Fin.ext (by show 640 + 1 * j.val = 640 + j.val; omega)
    · show 3072 + (640 + j.val) = 3712 + j.val
      omega
  simp only [e, blk5 m c t, blk6 m c t, blk7 m c t]
  rfl

theorem at2 (f : Fin 4096 → Fin 2048 → EReal) (t : Fin cfg0.N) {a b : Fin 512} {n n' : Fin 2048} (h : b.val = a.val) (h' : n.val = n'.val) :
    f (row t a) n = f (row t b) n' := by
  obtain rfl := Fin.ext h
  obtain rfl := Fin.ext h'
  rfl
theorem rr_at (f : Fin 4096 → Fin 2048 → EReal) (t : Fin cfg0.N) {a b : Fin 512} {p q : ℕ} (hp : p + 128 ≤ 2048) (hq : q + 128 ≤ 2048) {k k' : Fin 128}
    (h : b.val = a.val) (h' : p = q) (h2 : k.val = k'.val) :
    rr (fun j => f (row t a) ⟨p + j.val, by omega⟩) (row t a) k = rr (fun j => f (row t b) ⟨q + j.val, by omega⟩) (row t b) k' := by
  obtain rfl := Fin.ext h
  obtain rfl := Fin.ext h2
  subst h'
  rfl

theorem final10 : (dats m 0 c).arrAt 10 (cfgs 0).N = OUT10 m c := by
  refine (dats m 0 c).arrAt_eq_of_covers 10 _ (by decide +kernel) fun t hf y => ?_
  refine Eq.trans ?_ (congrArg (OUT10 m c) (emb10 t y).symm)
  blk_simp
  rw [after0_10]
  unfold outsAt0 out0_A_10
  frame_out
  have eK := kT m c t
  generalize k0_pay4 (F := Ideal) (k0_pay2 (View.ld (X0_0 m c t) (Rect.unit ![0, 384] ![512, 256] inb_S512x768_S512x256_0_384)) (iblk m c 2 t)) (k0_pay3 (iblk m c 4 t)) = T at *
  canon_tiles x h
  all_goals
    obtain ⟨xa, xb, xc, rfl⟩ : ∃ (xa : Fin 1) (xb : Fin 512) (xc : Fin 128), x = ix3 xa xb xc := ⟨x 0, x 1, x 2, eq_ix3 x⟩
    simp only [ix3_0, ix3_1, ix3_2] at h0 h1 h2 x0_lt x1_lt x2_lt
    unfold OUT10
    simp only [ix3_0, ix3_1, ix3_2]
    open_payloads
    show (_ : EReal) = _
    pointwise
    refine (eK _ _).trans (at2 (kv m c) t (by first | exact h1 | omega) (by simp only []; omega))

theorem final9 : (dats m 0 c).arrAt 9 (cfgs 0).N = OUT9 m c := by
  refine (dats m 0 c).arrAt_eq_of_covers 9 _ (by decide +kernel) fun t hf y => ?_
  refine Eq.trans ?_ (congrArg (OUT9 m c) (emb9 t y).symm)
  blk_simp
  rw [after0_9]
  unfold outsAt0 out0_A_9
  frame_out
  rw [pay11]
  have eK := kT m c t
  generalize k0_pay4 (F := Ideal) (k0_pay2 (View.ld (X0_0 m c t) (Rect.unit ![0, 384] ![512, 256] inb_S512x768_S512x256_0_384)) (iblk m c 2 t)) (k0_pay3 (iblk m c 4 t)) = T at *
  have eR := rT m c t
  generalize k0_pay8 (F := Ideal) (iblk m c 5 t) (iblk m c 6 t) (iblk m c 7 t) (View.ld (X0_0 m c t) (Rect.unit ![0, 640] ![512, 128] inb_S512x768_S512x128_0_640)) = R at *
  canon_tiles x h
  all_goals
    obtain ⟨xa, xb, xc, rfl⟩ : ∃ (xa : Fin 1) (xb : Fin 512) (xc : Fin 128), x = ix3 xa xb xc := ⟨x 0, x 1, x 2, eq_ix3 x⟩
    simp only [ix3_0, ix3_1, ix3_2] at h0 h1 h2 x0_lt x1_lt x2_lt
    unfold OUT9
    simp only [ix3_0, ix3_1, ix3_2]
    open_payloads
    show (_ : EReal) = _
    pointwise
    first
      | rw [dif_pos (by omega)]
        exact (eK _ _).trans (at2 (kv m c) t (by first | exact h1 | omega) (by simp only []; omega))
      | rw [dif_neg (by omega)]
        refine (eR _ _).trans ?_
        rw [show y 1 = xb from Fin.ext h1]
        exact congrArg _ (Fin.ext (by simp only []; omega))

theorem final8 : (dats m 0 c).arrAt 8 (cfgs 0).N = OUT8 m c := by
  refine (dats m 0 c).arrAt_eq_of_covers 8 _ (by decide +kernel) fun t hf y => ?_
  refine Eq.trans ?_ (congrArg (OUT8 m c) (emb8 t y).symm)
  blk_simp
  rw [after0_8]
  unfold outsAt0 out0_A_8
  frame_out
  have eQ := qT m c t
  generalize k0_pay1 (F := Ideal) (View.ld (X0_0 m c t) (Rect.unit ![0, 0] ![512, 384] inb_S512x768_S512x384_0_0)) (iblk m c 1 t) (iblk m c 3 t) = T at *
  have e5 := blk5 m c t
  have e6 := blk6 m c t
  have e7 := blk7 m c t
  generalize iblk m c 5 t = x5 at *
  generalize iblk m c 6 t = x6 at *
  generalize iblk m c 7 t = x7 at *
  canon_tiles x h
  all_goals
    obtain ⟨xa, xb, xc, rfl⟩ : ∃ (xa : Fin 1) (xb : Fin 512) (xc : Fin 128), x = ix3 xa xb xc := ⟨x 0, x 1, x 2, eq_ix3 x⟩
    simp only [ix3_0, ix3_1, ix3_2] at h0 h1 h2 x0_lt x1_lt x2_lt
    unfold OUT8
    simp only [ix3_0, ix3_1, ix3_2]
    open_payloads
    show (_ : EReal) = _
    pointwise
    first
      | rw [dif_pos (by omega)]
        exact (eQ _ _).trans (at2 (qv m c) t (by first | exact h1 | omega) (by simp only []; omega))
      | rw [dif_neg (by omega)]
        simp only [eQ, e5, e6, e7]
        exact rr_at (qv m c) t (by omega) (by omega) h1 (by omega) (by simp only []; omega)

theorem final11 : (dats m 0 c).arrAt 11 (cfgs 0).N = OUT11 m c := by
  refine (dats m 0 c).arrAt_eq_of_covers 11 _ (by decide +kernel) fun t hf y => ?_
  refine Eq.trans ?_ (congrArg (OUT11 m c) (emb11 t y).symm)
  blk_simp
  rw [after0_11]
  unfold outsAt0 out0_A_11
  frame_out
  have eK := kT m c t
  generalize k0_pay4 (F := Ideal) (k0_pay2 (View.ld (X0_0 m c t) (Rect.unit ![0, 384] ![512, 256] inb_S512x768_S512x256_0_384)) (iblk m c 2 t)) (k0_pay3 (iblk m c 4 t)) = T at *
  canon_tiles x h
  all_goals
    obtain ⟨xa, xb, xc, rfl⟩ : ∃ (xa : Fin 1) (xb : Fin 128) (xc : Fin 512), x = ix3 xa xb xc := ⟨x 0, x 1, x 2, eq_ix3 x⟩
    simp only [ix3_0, ix3_1, ix3_2] at h0 h1 h2 x0_lt x1_lt x2_lt
    unfold OUT11
    simp only [ix3_0, ix3_1, ix3_2]
    open_payloads
    show (_ : EReal) = _
    pointwise
    first
      | rw [dif_pos (by omega)]
        exact (eK _ _).trans (at2 (kv m c) t (by first | exact h2 | omega) (by simp only []; omega))
      | rw [dif_neg (by omega)]

end Cert.LatValue

end
-- ==== Proof.LatTail.lean ====
/- The results of the latent attention's preparing kernel as functions of its arguments. -/
module

public import proofs.«01_k».proof.Proof.LatValue

@[expose] public section

set_option maxRecDepth 16384

noncomputable section

open Idealize.ShloMosaic Idealize.ShloMosaic.TcCoe Idealize.SL.Sem Idealize.ShloMosaic.Tactic
open Idealize.ShloMosaic.Pipeline (Dat)

namespace Cert.LatTail

open Cert.LatKernelIdeal Cert.LatKernelIdeal.Gen Cert.LatPure Cert.LatValue

section
variable (P : S4096x4032.Idx → EReal) (G : S384.Idx → EReal) (H : S256.Idx → EReal) (Q : S384x1536.Idx → EReal) (K : S256x2048.Idx → EReal)

/-- The queries' plain part. -/
def R0 (i : S4096x8x128.Idx) : EReal := qf P G (fun (k : Fin 384) (n : Fin 1536) => Q (ix2 k n)) (i 0) ⟨(i 1).val * 192 + (i 2).val, by
  have : (i 1).val < 8 := (i 1).isLt
  have : (i 2).val < 128 := (i 2).isLt
  omega⟩
/-- The queries' rotary part. -/
def R1 (i : S4096x8x64.Idx) : EReal := ro (fun k => qf P G (fun (k : Fin 384) (n : Fin 1536) => Q (ix2 k n)) (i 0) ⟨(i 1).val * 192 + (128 + k.val), by
  have : (i 1).val < 8 := (i 1).isLt
  omega⟩) (fun k => co (ix2 (i 0) k)) (fun k => si (ix2 (i 0) k)) (i 2)
/-- The keys' plain part. -/
def R2 (i : S4096x8x128.Idx) : EReal := kf P H (fun (k : Fin 256) (n : Fin 2048) => K (ix2 k n)) (i 0) ⟨(i 1).val * 256 + (i 2).val, by
  have : (i 1).val < 8 := (i 1).isLt
  have : (i 2).val < 128 := (i 2).isLt
  omega⟩
/-- The keys' rotary part, the same for every head. -/
def R3 (i : S4096x8x64.Idx) : EReal := ro (fun k => P (ix2 (i 0) ⟨2944 + k.val, by omega⟩)) (fun k => co (ix2 (i 0) k)) (fun k => si (ix2 (i 0) k)) (i 2)
/-- The values. -/
def R4 (i : S4096x8x128.Idx) : EReal := kf P H (fun (k : Fin 256) (n : Fin 2048) => K (ix2 k n)) (i 0) ⟨(i 1).val * 256 + (128 + (i 2).val), by
  have : (i 1).val < 8 := (i 1).isLt
  have : (i 2).val < 128 := (i 2).isLt
  omega⟩
/-- The values turned, over rows of ones. -/
def R5 (i : S8x256x4096.Idx) : EReal :=
  if h : (i 1).val < 128 then kf P H (fun (k : Fin 256) (n : Fin 2048) => K (ix2 k n)) (i 2) ⟨(i 0).val * 256 + (128 + (i 1).val), by
    have : (i 0).val < 8 := (i 0).isLt
    omega⟩
  else 1
end

variable (m : (ℓ : Loc nD τ sig) → Buf (Elt Ideal) ℓ) (c : Dev nD)

theorem qv_low (r : Fin 4096) (h : Fin 8) (n : Fin 128) : qv m c r ⟨128 * h.val + n.val, by omega⟩
    = qf (aP m c) (aG m c) (fun (k : Fin 384) (n : Fin 1536) => aQ m c (ix2 k n)) r ⟨h.val * 192 + n.val, by omega⟩ := by
  unfold qv qf
  exact Finset.sum_congr rfl fun k _ => congrArg (_ * ·) (wqP_low (aQ m c) k h n)
theorem qv_high (r : Fin 4096) (h : Fin 8) (n : Fin 64) : qv m c r ⟨1024 + 128 * h.val + n.val, by omega⟩
    = qf (aP m c) (aG m c) (fun (k : Fin 384) (n : Fin 1536) => aQ m c (ix2 k n)) r ⟨h.val * 192 + (128 + n.val), by omega⟩ := by
  unfold qv qf
  exact Finset.sum_congr rfl fun k _ => congrArg (_ * ·) (wqP_high (aQ m c) k h n)
theorem kv_low (r : Fin 4096) (h : Fin 8) (n : Fin 128) : kv m c r ⟨128 * h.val + n.val, by omega⟩
    = kf (aP m c) (aH m c) (fun (k : Fin 256) (n : Fin 2048) => aK m c (ix2 k n)) r ⟨h.val * 256 + n.val, by omega⟩ := by
  unfold kv kf
  exact Finset.sum_congr rfl fun k _ => congrArg (_ * ·) (wkP_low (aK m c) k h n)
theorem kv_high (r : Fin 4096) (h : Fin 8) (n : Fin 128) : kv m c r ⟨1024 + 128 * h.val + n.val, by omega⟩
    = kf (aP m c) (aH m c) (fun (k : Fin 256) (n : Fin 2048) => aK m c (ix2 k n)) r ⟨h.val * 256 + (128 + n.val), by omega⟩ := by
  unfold kv kf
  exact Finset.sum_congr rfl fun k _ => congrArg (_ * ·) (wkP_high (aK m c) k h n)

theorem zeros_apply (i : S4096x32.Idx) : zeros i = (0 : EReal) := by
  idx_vars i
  show (_ : EReal) = _
  pointwise [zeros]
theorem neg_apply (i : S4096x32.Idx) : Host.negf si i = -(show EReal from si i) := rfl

/-- The kernel's rotary step on the first 64 columns. -/
theorem rr_eq (x : Fin 128 → EReal) (y : Fin 64 → EReal) (r : Fin 4096) (hx : ∀ k : Fin 64, x ⟨k.val, by omega⟩ = y k) (k : Fin 64) :
    rr x r ⟨k.val, by omega⟩ = ro y (fun k => co (ix2 r k)) (fun k => si (ix2 r k)) k :=
  rot_ro x _ _ _ y _ _ hx (fun k => table_apply co co r k)
    (fun k => ⟨(table_apply zeros si r k).1.trans (zeros_apply _), (table_apply zeros si r k).2⟩)
    (fun k => ⟨(table_apply (Host.negf si) zeros r k).1.trans (neg_apply _), (table_apply (Host.negf si) zeros r k).2.trans (zeros_apply _)⟩) k

def turn (D : FVec Ideal S8x4096x256 .bf16) : FVec Ideal S4096x8x256 .bf16 := transpose S4096x8x256 [1, 0, 2] D transposes_S8x4096x256_S4096x8x256_1_0_2
def plain (D : FVec Ideal S8x4096x256 .bf16) : FVec Ideal S4096x8x128 .bf16 := extractStridedSlice S4096x8x128 ![0, 0, 0] (turn D) slices_S4096x8x256_S4096x8x128_0_0_0
def rotary (D : FVec Ideal S8x4096x256 .bf16) : FVec Ideal S4096x8x64 .bf16 := extractStridedSlice S4096x8x64 ![0, 0, 128] (turn D) slices_S4096x8x256_S4096x8x64_0_0_128
def turn2 (D : FVec Ideal S8x4096x128 .bf16) : FVec Ideal S4096x8x128 .bf16 := transpose S4096x8x128 [1, 0, 2] D transposes_S8x4096x128_S4096x8x128_1_0_2

theorem plain_apply (D : FVec Ideal S8x4096x256 .bf16) (r : Fin 4096) (h : Fin 8) (k : Fin 128) : plain D (ix3 r h k) = D (ix3 h r ⟨k.val, by omega⟩) := by
  show (_ : EReal) = _
  pointwise [plain, turn]
theorem rotary_apply (D : FVec Ideal S8x4096x256 .bf16) (r : Fin 4096) (h : Fin 8) (k : Fin 64) : rotary D (ix3 r h k) = D (ix3 h r ⟨128 + k.val, by omega⟩) := by
  show (_ : EReal) = _
  pointwise [rotary, turn]
theorem turn2_apply (D : FVec Ideal S8x4096x128 .bf16) (r : Fin 4096) (h : Fin 8) (k : Fin 128) : turn2 D (ix3 r h k) = D (ix3 h r k) := by
  show (_ : EReal) = _
  pointwise [turn2]

theorem tail : Pipeline.afterTail₀ cfgs (dats m) 0 (V0 m) [hostOps1] c main_v53 = plain ((dats m 0 c).arrAt 8 (cfgs 0).N)
    ∧ Pipeline.afterTail₀ cfgs (dats m) 0 (V0 m) [hostOps1] c main_v54 = rotary ((dats m 0 c).arrAt 8 (cfgs 0).N)
    ∧ Pipeline.afterTail₀ cfgs (dats m) 0 (V0 m) [hostOps1] c main_v55 = plain ((dats m 0 c).arrAt 9 (cfgs 0).N)
    ∧ Pipeline.afterTail₀ cfgs (dats m) 0 (V0 m) [hostOps1] c main_v56 = rotary ((dats m 0 c).arrAt 9 (cfgs 0).N)
    ∧ Pipeline.afterTail₀ cfgs (dats m) 0 (V0 m) [hostOps1] c main_v57 = turn2 ((dats m 0 c).arrAt 10 (cfgs 0).N) := by
  have e8 := Pipeline.withArrays_arr spec0 launch0.win.arr_inj c (V0 m c) (fun w => (dats m 0 c).arrAt w (cfgs 0).N) 8
  have e9 := Pipeline.withArrays_arr spec0 launch0.win.arr_inj c (V0 m c) (fun w => (dats m 0 c).arrAt w (cfgs 0).N) 9
  have e10 := Pipeline.withArrays_arr spec0 launch0.win.arr_inj c (V0 m c) (fun w => (dats m 0 c).arrAt w (cfgs 0).N) 10
  rw [← e8, ← e9, ← e10]
  unfold Pipeline.afterTail₀
  generalize Pipeline.withArrays spec0 c (V0 m c) (fun w => (dats m 0 c).arrAt w (cfgs 0).N) = W
  refine ⟨?_, ?_, ?_, ?_, ?_⟩ <;>
  (show StableHlo.after (List.flatten [hostOps1]) W (Proc.devRef .tc _) = _
   simp only [hostOps1, List.flatten_cons, List.flatten_nil, List.append_nil, List.cons_append, List.nil_append]
   after_results_simp <;> rfl)

theorem res0 : plain (OUT8 m c) = R0 (aP m c) (aG m c) (aQ m c) := by
  funext i
  obtain ⟨r, h, k, rfl⟩ : ∃ (r : Fin 4096) (h : Fin 8) (k : Fin 128), i = ix3 r h k := ⟨i 0, i 1, i 2, eq_ix3 i⟩
  refine (plain_apply _ r h k).trans ((dif_pos (show k.val < 128 from k.isLt)).trans (qv_low m c r h k))
theorem res2 : plain (OUT9 m c) = R2 (aP m c) (aH m c) (aK m c) := by
  funext i
  obtain ⟨r, h, k, rfl⟩ : ∃ (r : Fin 4096) (h : Fin 8) (k : Fin 128), i = ix3 r h k := ⟨i 0, i 1, i 2, eq_ix3 i⟩
  refine (plain_apply _ r h k).trans ((dif_pos (show k.val < 128 from k.isLt)).trans (kv_low m c r h k))
theorem res1 : rotary (OUT8 m c) = R1 (aP m c) (aG m c) (aQ m c) := by
  funext i
  obtain ⟨r, h, k, rfl⟩ : ∃ (r : Fin 4096) (h : Fin 8) (k : Fin 64), i = ix3 r h k := ⟨i 0, i 1, i 2, eq_ix3 i⟩
  refine (rotary_apply _ r h k).trans ((dif_neg (show ¬ 128 + k.val < 128 by omega)).trans ?_)
  refine Eq.trans (congrArg (rr _ r) (Fin.ext (a := (⟨128 + k.val - 128, by omega⟩ : Fin 128)) (b := ⟨k.val, by omega⟩) (show 128 + k.val - 128 = k.val by omega))) (rr_eq _ _ r (fun k => qv_high m c r h k) k)
theorem res3 : rotary (OUT9 m c) = R3 (aP m c) := by
  funext i
  obtain ⟨r, h, k, rfl⟩ : ∃ (r : Fin 4096) (h : Fin 8) (k : Fin 64), i = ix3 r h k := ⟨i 0, i 1, i 2, eq_ix3 i⟩
  refine (rotary_apply _ r h k).trans ((dif_neg (show ¬ 128 + k.val < 128 by omega)).trans ?_)
  refine Eq.trans (congrArg (rr _ r) (Fin.ext (a := (⟨128 + k.val - 128, by omega⟩ : Fin 128)) (b := ⟨k.val, by omega⟩) (show 128 + k.val - 128 = k.val by omega))) (rr_eq _ _ r (fun k => ?_) k)
  refine Eq.trans (congrArg (fun z => Cert.InpValue.packP (aP m c) (ix2 r z)) (Fin.ext ?_))
    ((packP_apply (aP m c) r ⟨640 + k.val, by omega⟩).trans (congrArg (fun z => aP m c (ix2 r z)) (Fin.ext ?_)))
  · show 3712 + k.val = 3072 + (640 + k.val)
    omega
  · show 2304 + (640 + k.val) = 2944 + k.val
    omega
theorem res4 : turn2 (OUT10 m c) = R4 (aP m c) (aH m c) (aK m c) := by
  funext i
  obtain ⟨r, h, k, rfl⟩ : ∃ (r : Fin 4096) (h : Fin 8) (k : Fin 128), i = ix3 r h k := ⟨i 0, i 1, i 2, eq_ix3 i⟩
  exact (turn2_apply _ r h k).trans (kv_high m c r h k)
theorem one_bits : Ideal.ofBits FTy.bf16 0x3F80#16 = 1 := by
  pointwise
theorem res5 : OUT11 m c = R5 (aP m c) (aH m c) (aK m c) := by
  funext i
  unfold OUT11 R5
  by_cases h : (i 1).val < 128
  · rw [dif_pos h, dif_pos h]
    exact kv_high m c (i 2) (i 0) ⟨(i 1).val, h⟩
  · rw [dif_neg h, dif_neg h]
    exact one_bits

/-- The kernel's run, each result as a function of the arguments. -/
theorem ker_run (ρ : Dev nD → PrngReg) :
    θ_run defs (onTc (τ := τ) (main (F := Ideal))) ⟨m, fun _ => 0, ρ⟩ fun r => ∀ c : Dev nD,
      r.2.mem ((c.tc : Thread nD τ).loc main_v53) = R0 (aP m c) (aG m c) (aQ m c)
      ∧ r.2.mem ((c.tc : Thread nD τ).loc main_v54) = R1 (aP m c) (aG m c) (aQ m c)
      ∧ r.2.mem ((c.tc : Thread nD τ).loc main_v55) = R2 (aP m c) (aH m c) (aK m c)
      ∧ r.2.mem ((c.tc : Thread nD τ).loc main_v56) = R3 (aP m c)
      ∧ r.2.mem ((c.tc : Thread nD τ).loc main_v57) = R4 (aP m c) (aH m c) (aK m c)
      ∧ r.2.mem ((c.tc : Thread nD τ).loc main_v50_3) = R5 (aP m c) (aH m c) (aK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run_main m ρ)
  have hp : Pipeline.FramePost cfgs (dats m) 0 (Pipeline.afterTail₀ cfgs (dats m) 0 (V0 m) [hostOps1]) r := h
  obtain ⟨t0, t1, t2, t3, t4⟩ := tail m c
  exact ⟨(hp.rest_eq c main_v53 (by decide)).trans (t0.trans ((congrArg plain (final8 m c)).trans (res0 m c))),
    (hp.rest_eq c main_v54 (by decide)).trans (t1.trans ((congrArg rotary (final8 m c)).trans (res1 m c))),
    (hp.rest_eq c main_v55 (by decide)).trans (t2.trans ((congrArg plain (final9 m c)).trans (res2 m c))),
    (hp.rest_eq c main_v56 (by decide)).trans (t3.trans ((congrArg rotary (final9 m c)).trans (res3 m c))),
    (hp.rest_eq c main_v57 (by decide)).trans (t4.trans ((congrArg turn2 (final10 m c)).trans (res4 m c))),
    ((h c).1 11).trans ((final11 m c).trans (res5 m c)),
    (hp.rest_eq c main_arg0 (by decide)).trans (W_main_arg0 m (dats m) c),
    (hp.rest_eq c main_arg1 (by decide)).trans (W_main_arg1 m (dats m) c),
    (hp.rest_eq c main_arg2 (by decide)).trans (W_main_arg2 m (dats m) c),
    (hp.rest_eq c main_arg3 (by decide)).trans (W_main_arg3 m (dats m) c),
    (hp.rest_eq c main_arg4 (by decide)).trans (W_main_arg4 m (dats m) c)⟩

end Cert.LatTail

end
-- ==== Proof.LatClaim.lean ====
/- The results of the latent attention's preparing kernel are the reference's. -/
module

public import proofs.«01_k».proof.Defs
public import proofs.«01_k».proof.Proof.LatTail
public import proofs.«01_k».proof.Proof.Gen.LatRefIdeal.Run

@[expose] public section

set_option maxRecDepth 16384

noncomputable section

open Idealize.ShloMosaic Idealize.ShloMosaic.TcCoe Idealize.SL.Sem Idealize.ShloMosaic.Tactic

namespace Cert.LatClaim

section
open Cert.LatRefIdeal Cert.LatRefIdeal.Gen Cert.LatPure Cert.LatTail

theorem ref_run (m : (ℓ : Loc nD τ sig) → Buf (Elt Ideal) ℓ) (ρ : Dev nD → PrngReg) (P : Dev nD → S4096x4032.Idx → EReal) (G : Dev nD → S384.Idx → EReal)
    (H : Dev nD → S256.Idx → EReal) (Q : Dev nD → S384x1536.Idx → EReal) (K : Dev nD → S256x2048.Idx → EReal)
    (hm : ∀ c : Dev nD, m ((c.tc : Thread nD τ).loc main_arg0) = P c ∧ m ((c.tc : Thread nD τ).loc main_arg1) = G c
      ∧ m ((c.tc : Thread nD τ).loc main_arg2) = H c ∧ m ((c.tc : Thread nD τ).loc main_arg3) = Q c ∧ m ((c.tc : Thread nD τ).loc main_arg4) = K c) :
    θ_run defs (onTc (τ := τ) (main (F := Ideal))) ⟨m, fun _ => 0, ρ⟩ fun r => ∀ c : Dev nD,
      r.2.mem ((c.tc : Thread nD τ).loc main_v86) = R0 (P c) (G c) (Q c)
      ∧ r.2.mem ((c.tc : Thread nD τ).loc main_v87) = R1 (P c) (G c) (Q c)
      ∧ r.2.mem ((c.tc : Thread nD τ).loc main_v89) = R2 (P c) (H c) (K c)
      ∧ r.2.mem ((c.tc : Thread nD τ).loc main_v92) = R3 (P c)
      ∧ r.2.mem ((c.tc : Thread nD τ).loc main_v93) = R4 (P c) (H c) (K c)
      ∧ r.2.mem ((c.tc : Thread nD τ).loc main_v94) = R5 (P c) (H c) (K c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h0, h1, h2, h3, h4, h5, h6⟩ := h c
  obtain ⟨e0, e1, e2, e3, e4⟩ := hm c
  rw [← e0, ← e1, ← e2, ← e3, ← e4]
  refine ⟨h0.trans (funext fun i => ?_), h1.trans (funext fun i => ?_), h2.trans (funext fun i => ?_), h3.trans (funext fun i => ?_),
    h4.trans (funext fun i => ?_), h5.trans (funext fun i => ?_), h6⟩
  · idx_vars i
    show (_ : EReal) = _
    pointwise [R0, qf, nr]
  · idx_vars i
    show (_ : EReal) = _
    unfold Value.res_main_v87
    pointwise [R1, qf, nr, ro, co, si, ang]
  · idx_vars i
    show (_ : EReal) = _
    pointwise [R2, kf, nr]
  · idx_vars i
    show (_ : EReal) = _
    pointwise [R3, ro, co, si, ang]
  · idx_vars i
    show (_ : EReal) = _
    pointwise [R4, kf, nr]
  · idx_vars i
    show (_ : EReal) = _
    pointwise [R5, kf, nr]

end

theorem frame_ref : Cert.quiescent_LatRefIdeal := fun m ρ _ =>
  (θ_run Cert.LatRefIdeal.defs _ _).mono (fun r h => ⟨fun c => (h c).2.2.2.2.2.2, sem_eq_zero_of_no_sems (by decide) r.2⟩) (Cert.LatRefIdeal.Value.run m ρ)

theorem algebraic : Cert.algebraic_LatKernelIdeal_LatRefIdeal := by
  intro m g m' g' _ hagree
  exact ⟨_, _, _, _, _, _, Cert.LatTail.ker_run m g, ref_run m' g' (fun c => m ((c.tc : Thread Cert.LatKernelIdeal.nD Cert.LatKernelIdeal.τ).loc Cert.LatKernelIdeal.main_arg0))
    (fun c => m ((c.tc : Thread Cert.LatKernelIdeal.nD Cert.LatKernelIdeal.τ).loc Cert.LatKernelIdeal.main_arg1))
    (fun c => m ((c.tc : Thread Cert.LatKernelIdeal.nD Cert.LatKernelIdeal.τ).loc Cert.LatKernelIdeal.main_arg2))
    (fun c => m ((c.tc : Thread Cert.LatKernelIdeal.nD Cert.LatKernelIdeal.τ).loc Cert.LatKernelIdeal.main_arg3))
    (fun c => m ((c.tc : Thread Cert.LatKernelIdeal.nD Cert.LatKernelIdeal.τ).loc Cert.LatKernelIdeal.main_arg4)) hagree⟩

end Cert.LatClaim

end
-- ==== Proof.OptValue.lean ====
/- What the arrays of the optimiser's kernel hold after its run, and its results. -/
module

public import proofs.«01_k».proof.Proof.Gen.OptKernelIdeal.Frame
public import Idealize.ShloMosaic.Lib.Pipeline.ValueKit

@[expose] public section

set_option maxRecDepth 16384

noncomputable section

open Idealize.ShloMosaic Idealize.ShloMosaic.TcCoe Idealize.SL.Sem Idealize.ShloMosaic.Tactic
open Idealize.ShloMosaic.Pipeline (Dat)

namespace Cert.OptValue

open Cert.OptKernelIdeal Cert.OptKernelIdeal.Gen

/-- The new first moment. -/
def mo (g a : EReal) : EReal := Ideal.ofBits FTy.f32 0x3F666666#32 * a + Ideal.ofBits FTy.f32 0x3DCCCCCD#32 * g
/-- The new second moment. -/
def ve (g a : EReal) : EReal := Ideal.ofBits FTy.f32 0x3F7FBE77#32 * a + Ideal.ofBits FTy.f32 0x3A83126F#32 * (g * g)
/-- The step of a weight. -/
def de (g w a b : EReal) : EReal := Ideal.ofBits FTy.f32 0xBA83126F#32 *
  (Ideal.div (Ideal.div (mo g a) (Ideal.ofBits FTy.f32 0x3F26BD02#32)) (Ideal.sqrt (Ideal.div (ve g b) (Ideal.ofBits FTy.f32 0x3C231ACC#32)) + Ideal.ofBits FTy.f32 0x322BCC77#32)
    + Ideal.ofBits FTy.f32 0x3C23D70A#32 * w)
/-- The devices' parts summed. -/
def gs (p : S8x256x2048.Idx → EReal) (r : Fin 256) (n : Fin 2048) : EReal := ∑ d : Fin 8, p (ix3 d r n)

variable (m : (ℓ : Loc nD τ sig) → Buf (Elt Ideal) ℓ) (c : Dev nD)

theorem idx : ∀ t : Fin cfg0.N, (t.val / 2 = 0 → win0_0.index t = ![0, t.val % 2, 0]) ∧ (t.val / 2 = 1 → win0_1.index t = ![0, t.val % 2, 0])
    ∧ (t.val / 2 = 2 → win0_2.index t = ![0, t.val % 2, 0]) ∧ (t.val / 2 = 3 → win0_3.index t = ![0, t.val % 2, 0])
    ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] ∧ t.val < 8 :=
  (by decide +kernel : ∀ t : Fin grid0.N, _)

/-- The rows of a layer's parts. -/
def row (t : Fin cfg0.N) (r : Fin 128) : Fin 256 := ⟨t.val % 2 * 128 + r.val, by omega⟩
/-- The layer of a point. -/
def lay (t : Fin cfg0.N) : Fin 4 := ⟨t.val / 2, by have := (idx t).2.2.2.2.2.2.2.2.2.2.2; omega⟩

abbrev aP (l : Fin 4) : S8x256x2048.Idx → EReal := match l with
  | 0 => m ((c.tc : Thread nD τ).loc main_arg0)
  | 1 => m ((c.tc : Thread nD τ).loc main_arg1)
  | 2 => m ((c.tc : Thread nD τ).loc main_arg2)
  | 3 => m ((c.tc : Thread nD τ).loc main_arg3)
abbrev aW : S4x256x2048.Idx → EReal := m ((c.tc : Thread nD τ).loc main_arg4)
abbrev aM : S4x256x2048.Idx → EReal := m ((c.tc : Thread nD τ).loc main_arg5)
abbrev aV : S4x256x2048.Idx → EReal := m ((c.tc : Thread nD τ).loc main_arg6)

def flat (a : FVec Ideal S4x256x2048 .f32) : FVec Ideal S1024x2048 .f32 := shapeCast S1024x2048 a shapeCasts_S4x256x2048_S1024x2048
def fold (a : FVec Ideal S1024x2048 .f32) : FVec Ideal S4x256x2048 .f32 := shapeCast S4x256x2048 a shapeCasts_S1024x2048_S4x256x2048

theorem fold_apply (a : FVec Ideal S1024x2048 .f32) (l : Fin 4) (r : Fin 256) (n : Fin 2048) : fold a (ix3 l r n) = a (ix2 ⟨l.val * 256 + r.val, by omega⟩ n) := by
  show (_ : EReal) = _
  pointwise [fold]
theorem flat_apply (a : FVec Ideal S4x256x2048 .f32) (R : Fin 1024) (n : Fin 2048) :
    flat a (ix2 R n) = a (ix3 ⟨R.val / 256, by omega⟩ ⟨R.val % 256, by omega⟩ n) := by
  show (_ : EReal) = _
  pointwise [flat]

theorem entry : V m c main_v0 = truncf (F := Ideal) .bf16 (aP m c 0) bitsLt_bf16_f32 ∧ V m c main_v1 = truncf (F := Ideal) .bf16 (aP m c 1) bitsLt_bf16_f32
    ∧ V m c main_v2 = truncf (F := Ideal) .bf16 (aP m c 2) bitsLt_bf16_f32 ∧ V m c main_v3 = truncf (F := Ideal) .bf16 (aP m c 3) bitsLt_bf16_f32
    ∧ V m c main_v4 = flat (aW m c) ∧ V m c main_v5 = flat (aM m c) ∧ V m c main_v6 = flat (aV m c) := by
  refine ⟨?_, ?_, ?_, ?_, ?_, ?_, ?_⟩ <;>
  (show StableHlo.after (List.flatten [hostOps0]) (fun b => m (c, b)) (Proc.devRef .tc _) = _
   simp only [hostOps0, List.flatten_cons, List.flatten_nil, List.append_nil, List.cons_append, List.nil_append]
   after_results_simp <;> rfl)

theorem blk0 (t : Fin cfg0.N) (ht : t.val / 2 = 0) (d : Fin 8) (r : Fin 128) (n : Fin 2048) : iblk m c 0 t (ix3 d r n) = aP m c 0 (ix3 d (row t r) n) := by
  have h : iblk m c 0 t (ix3 d r n) = V m c main_v0 (ix3 d (row t r) n) := by blk_ext [iblk, (idx t).1 ht, row]
  rw [h, (entry m c).1]
  rfl
theorem blk1 (t : Fin cfg0.N) (ht : t.val / 2 = 1) (d : Fin 8) (r : Fin 128) (n : Fin 2048) : iblk m c 1 t (ix3 d r n) = aP m c 1 (ix3 d (row t r) n) := by
  have h : iblk m c 1 t (ix3 d r n) = V m c main_v1 (ix3 d (row t r) n) := by blk_ext [iblk, (idx t).2.1 ht, row]
  rw [h, (entry m c).2.1]
  rfl
theorem blk2 (t : Fin cfg0.N) (ht : t.val / 2 = 2) (d : Fin 8) (r : Fin 128) (n : Fin 2048) : iblk m c 2 t (ix3 d r n) = aP m c 2 (ix3 d (row t r) n) := by
  have h : iblk m c 2 t (ix3 d r n) = V m c main_v2 (ix3 d (row t r) n) := by blk_ext [iblk, (idx t).2.2.1 ht, row]
  rw [h, (entry m c).2.2.1]
  rfl
theorem blk3 (t : Fin cfg0.N) (ht : t.val / 2 = 3) (d : Fin 8) (r : Fin 128) (n : Fin 2048) : iblk m c 3 t (ix3 d r n) = aP m c 3 (ix3 d (row t r) n) := by
  have h : iblk m c 3 t (ix3 d r n) = V m c main_v3 (ix3 d (row t r) n) := by blk_ext [iblk, (idx t).2.2.2.1 ht, row]
  rw [h, (entry m c).2.2.2.1]
  rfl
/-- The row of the flat arrays. -/
def big (t : Fin cfg0.N) (r : Fin 128) : Fin 1024 := ⟨t.val * 128 + r.val, by have := (idx t).2.2.2.2.2.2.2.2.2.2.2; omega⟩
theorem big_flat (a : S4x256x2048.Idx → EReal) (t : Fin cfg0.N) (r : Fin 128) (n : Fin 2048) : flat a (ix2 (big t r) n) = a (ix3 (lay t) (row t r) n) :=
  (flat_apply a _ n).trans (congrArg₂ (fun l q => a (ix3 l q n)) (Fin.ext (by show (t.val * 128 + r.val) / 256 = t.val / 2; omega))
    (Fin.ext (by show (t.val * 128 + r.val) % 256 = t.val % 2 * 128 + r.val; omega)))
theorem blk4 (t : Fin cfg0.N) (r : Fin 128) (n : Fin 2048) : iblk m c 4 t (ix2 r n) = aW m c (ix3 (lay t) (row t r) n) := by
  have h : iblk m c 4 t (ix2 r n) = V m c main_v4 (ix2 (big t r) n) := by blk_ext [iblk, idx t, big]
  rw [h, (entry m c).2.2.2.2.1, big_flat]
theorem blk5 (t : Fin cfg0.N) (r : Fin 128) (n : Fin 2048) : iblk m c 5 t (ix2 r n) = aM m c (ix3 (lay t) (row t r) n) := by
  have h : iblk m c 5 t (ix2 r n) = V m c main_v5 (ix2 (big t r) n) := by blk_ext [iblk, idx t, big]
  rw [h, (entry m c).2.2.2.2.2.1, big_flat]
theorem blk6 (t : Fin cfg0.N) (r : Fin 128) (n : Fin 2048) : iblk m c 6 t (ix2 r n) = aV m c (ix3 (lay t) (row t r) n) := by
  have h : iblk m c 6 t (ix2 r n) = V m c main_v6 (ix2 (big t r) n) := by blk_ext [iblk, idx t, big]
  rw [h, (entry m c).2.2.2.2.2.2, big_flat]

theorem gs_eq (p : S8x256x2048.Idx → EReal) (r : Fin 256) (n : Fin 2048) : gs p r n = p (ix3 0 r n) + p (ix3 1 r n) + p (ix3 2 r n) + p (ix3 3 r n)
    + p (ix3 4 r n) + p (ix3 5 r n) + p (ix3 6 r n) + p (ix3 7 r n) := Fin.sum_univ_eight _

theorem mo_pay (g a : FVec Ideal S128x2048 .f32) (r : Fin 128) (n : Fin 2048) :
    k0_pay1 (F := Ideal) g a (Scalar.ofBits .f32 0x3F666666#32) (ix2 r n) = mo (g (ix2 r n)) (a (ix2 r n)) := by
  show (_ : EReal) = _
  pointwise [k0_pay1, mo]
theorem ve_pay (g : FVec Ideal S128x2048 .f32) (b : Vec Ideal S128x2048 .f32) (r : Fin 128) (n : Fin 2048) :
    k0_pay2 (F := Ideal) g b (ix2 r n) = ve (g (ix2 r n)) (b (ix2 r n)) := by
  show (_ : EReal) = _
  pointwise [k0_pay2, ve]
theorem de_pay (g a : FVec Ideal S128x2048 .f32) (b w : Vec Ideal S128x2048 .f32) (r : Fin 128) (n : Fin 2048) :
    k0_pay3 (F := Ideal) g a (Scalar.ofBits .f32 0x3F666666#32) b w (ix2 r n) = de (g (ix2 r n)) (w (ix2 r n)) (a (ix2 r n)) (b (ix2 r n)) := by
  show (_ : EReal) = _
  pointwise [k0_pay3, k0_pay1, k0_pay2, de, mo, ve]

/-- The summed gradient in the results' shape. -/
def GR (l : Fin 4) (r : Fin 256) (n : Fin 2048) : EReal := gs (aP m c l) r n

/-- What a point leaves in the four results' blocks: the gradient, the step, the two moments. -/
def Leaves (t : Fin cfg0.N) (r : Fin 128) (n : Fin 2048) : Prop :=
  (outsAt0 m c t.val t.isLt).1 (ix2 r n) = GR m c (lay t) (row t r) n
  ∧ (outsAt0 m c t.val t.isLt).2.1 (ix2 r n) = de (GR m c (lay t) (row t r) n) (aW m c (ix3 (lay t) (row t r) n)) (aM m c (ix3 (lay t) (row t r) n)) (aV m c (ix3 (lay t) (row t r) n))
  ∧ (outsAt0 m c t.val t.isLt).2.2.1 (ix2 r n) = mo (GR m c (lay t) (row t r) n) (aM m c (ix3 (lay t) (row t r) n))
  ∧ (outsAt0 m c t.val t.isLt).2.2.2 (ix2 r n) = ve (GR m c (lay t) (row t r) n) (aV m c (ix3 (lay t) (row t r) n))

set_option maxHeartbeats 2000000 in
theorem leaves_A (t : Fin cfg0.N) (h : t.val / 2 = 0) (r : Fin 128) (n : Fin 2048) : Leaves m c t r n := by
  have h8 := (idx t).2.2.2.2.2.2.2.2.2.2.2
  unfold Leaves GR
  rw [outsAt0_A m c t (by omega) (by omega) (by omega) (by omega), show lay t = 0 from Fin.ext h]
  have e0 := blk0 m c t h
  have e4 := blk4 m c t
  have e5 := blk5 m c t
  have e6 := blk6 m c t
  rw [show lay t = 0 from Fin.ext h] at e4 e5 e6
  unfold out0_A_7 out0_A_8 out0_A_9 out0_A_10
  generalize iblk m c 0 t = x0 at *
  generalize iblk m c 4 t = x4 at *
  generalize iblk m c 5 t = x5 at *
  generalize iblk m c 6 t = x6 at *
  refine ⟨?_, ?_, ?_, ?_⟩ <;> frame_out
  · show (_ : EReal) = _
    pointwise [k0_pay13]
    simp only [gs_eq, e0]
  · refine (de_pay _ _ _ _ r n).trans ?_
    pointwise [k0_pay13, k0_pay14]
    simp only [gs_eq, e0, e4, e5, e6]
  · refine (mo_pay _ _ r n).trans ?_
    pointwise [k0_pay13, k0_pay14]
    simp only [gs_eq, e0, e5]
  · refine (ve_pay _ _ r n).trans ?_
    pointwise [k0_pay13]
    simp only [gs_eq, e0, e6]

set_option maxHeartbeats 2000000 in
theorem leaves_B (t : Fin cfg0.N) (h : t.val / 2 = 1) (r : Fin 128) (n : Fin 2048) : Leaves m c t r n := by
  have h8 := (idx t).2.2.2.2.2.2.2.2.2.2.2
  unfold Leaves GR
  rw [outsAt0_B m c t (by omega) (by omega) (by omega) (by omega), show lay t = 1 from Fin.ext h]
  have e0 := blk1 m c t h
  have e4 := blk4 m c t
  have e5 := blk5 m c t
  have e6 := blk6 m c t
  rw [show lay t = 1 from Fin.ext h] at e4 e5 e6
  unfold out0_B_7 out0_B_8 out0_B_9 out0_B_10
  generalize iblk m c 1 t = x0 at *
  generalize iblk m c 4 t = x4 at *
  generalize iblk m c 5 t = x5 at *
  generalize iblk m c 6 t = x6 at *
  refine ⟨?_, ?_, ?_, ?_⟩ <;> frame_out
  · show (_ : EReal) = _
    pointwise [k0_pay15]
    simp only [gs_eq, e0]
  · refine (de_pay _ _ _ _ r n).trans ?_
    pointwise [k0_pay15, k0_pay16]
    simp only [gs_eq, e0, e4, e5, e6]
  · refine (mo_pay _ _ r n).trans ?_
    pointwise [k0_pay15, k0_pay16]
    simp only [gs_eq, e0, e5]
  · refine (ve_pay _ _ r n).trans ?_
    pointwise [k0_pay15]
    simp only [gs_eq, e0, e6]

set_option maxHeartbeats 2000000 in
theorem leaves_C (t : Fin cfg0.N) (h : t.val / 2 = 2) (r : Fin 128) (n : Fin 2048) : Leaves m c t r n := by
  have h8 := (idx t).2.2.2.2.2.2.2.2.2.2.2
  unfold Leaves GR
  rw [outsAt0_C m c t (by omega) (by omega) (by omega) (by omega), show lay t = 2 from Fin.ext h]
  have e0 := blk2 m c t h
  have e4 := blk4 m c t
  have e5 := blk5 m c t
  have e6 := blk6 m c t
  rw [show lay t = 2 from Fin.ext h] at e4 e5 e6
  unfold out0_C_7 out0_C_8 out0_C_9 out0_C_10
  generalize iblk m c 2 t = x0 at *
  generalize iblk m c 4 t = x4 at *
  generalize iblk m c 5 t = x5 at *
  generalize iblk m c 6 t = x6 at *
  refine ⟨?_, ?_, ?_, ?_⟩ <;> frame_out
  · show (_ : EReal) = _
    pointwise [k0_pay17]
    simp only [gs_eq, e0]
  · refine (de_pay _ _ _ _ r n).trans ?_
    pointwise [k0_pay17, k0_pay18]
    simp only [gs_eq, e0, e4, e5, e6]
  · refine (mo_pay _ _ r n).trans ?_
    pointwise [k0_pay17, k0_pay18]
    simp only [gs_eq, e0, e5]
  · refine (ve_pay _ _ r n).trans ?_
    pointwise [k0_pay17]
    simp only [gs_eq, e0, e6]

set_option maxHeartbeats 2000000 in
theorem leaves_D (t : Fin cfg0.N) (h : t.val / 2 = 3) (r : Fin 128) (n : Fin 2048) : Leaves m c t r n := by
  have h8 := (idx t).2.2.2.2.2.2.2.2.2.2.2
  unfold Leaves GR
  rw [outsAt0_D m c t (by omega) (by omega) (by omega) (by omega), show lay t = 3 from Fin.ext h]
  have e0 := blk3 m c t h
  have e4 := blk4 m c t
  have e5 := blk5 m c t
  have e6 := blk6 m c t
  rw [show lay t = 3 from Fin.ext h] at e4 e5 e6
  unfold out0_D_7 out0_D_8 out0_D_9 out0_D_10
  generalize iblk m c 3 t = x0 at *
  generalize iblk m c 4 t = x4 at *
  generalize iblk m c 5 t = x5 at *
  generalize iblk m c 6 t = x6 at *
  refine ⟨?_, ?_, ?_, ?_⟩ <;> frame_out
  · show (_ : EReal) = _
    pointwise [k0_pay19]
    simp only [gs_eq, e0]
  · refine (de_pay _ _ _ _ r n).trans ?_
    pointwise [k0_pay19, k0_pay20]
    simp only [gs_eq, e0, e4, e5, e6]
  · refine (mo_pay _ _ r n).trans ?_
    pointwise [k0_pay19, k0_pay20]
    simp only [gs_eq, e0, e5]
  · refine (ve_pay _ _ r n).trans ?_
    pointwise [k0_pay19]
    simp only [gs_eq, e0, e6]

theorem leaves (t : Fin cfg0.N) (r : Fin 128) (n : Fin 2048) : Leaves m c t r n := by
  have h8 := (idx t).2.2.2.2.2.2.2.2.2.2.2
  by_cases h0 : t.val / 2 = 0
  · exact leaves_A m c t h0 r n
  by_cases h1 : t.val / 2 = 1
  · exact leaves_B m c t h1 r n
  by_cases h2 : t.val / 2 = 2
  · exact leaves_C m c t h2 r n
  exact leaves_D m c t (by omega) r n

/-- The four results over layers and rows. -/
def O7 (i : S4x256x2048.Idx) : EReal := GR m c (i 0) (i 1) (i 2)
def O8 (i : S4x256x2048.Idx) : EReal := de (O7 m c i) (aW m c i) (aM m c i) (aV m c i)
def O9 (i : S4x256x2048.Idx) : EReal := mo (O7 m c i) (aM m c i)
def O10 (i : S4x256x2048.Idx) : EReal := ve (O7 m c i) (aV m c i)

theorem emb7 (t : Fin cfg0.N) (y : S128x2048.Idx) : ((cfg0.win 7).blk t).view.emb y = (ix2 (big t (y 0)) (y 1) : S1024x2048.Idx) := by blk_ext [idx t, big]
theorem emb8 (t : Fin cfg0.N) (y : S128x2048.Idx) : ((cfg0.win 8).blk t).view.emb y = (ix2 (big t (y 0)) (y 1) : S1024x2048.Idx) := by blk_ext [idx t, big]
theorem emb9 (t : Fin cfg0.N) (y : S128x2048.Idx) : ((cfg0.win 9).blk t).view.emb y = (ix2 (big t (y 0)) (y 1) : S1024x2048.Idx) := by blk_ext [idx t, big]
theorem emb10 (t : Fin cfg0.N) (y : S128x2048.Idx) : ((cfg0.win 10).blk t).view.emb y = (ix2 (big t (y 0)) (y 1) : S1024x2048.Idx) := by blk_ext [idx t, big]

theorem final7 : (dats m 0 c).arrAt 7 (cfgs 0).N = flat (O7 m c) := by
  refine (dats m 0 c).arrAt_eq_of_covers 7 _ (by decide +kernel) fun t hf y => ?_
  refine Eq.trans ?_ ((congrArg (flat (O7 m c)) (emb7 t y)).trans (big_flat _ t _ _)).symm
  blk_simp
  rw [after0_7]
  obtain ⟨r, n, rfl⟩ : ∃ (r : Fin 128) (n : Fin 2048), y = ix2 r n := ⟨y 0, y 1, eq_ix2 y⟩
  exact (leaves m c t r n).1

theorem final8 : (dats m 0 c).arrAt 8 (cfgs 0).N = flat (O8 m c) := by
  refine (dats m 0 c).arrAt_eq_of_covers 8 _ (by decide +kernel) fun t hf y => ?_
  refine Eq.trans ?_ ((congrArg (flat (O8 m c)) (emb8 t y)).trans (big_flat _ t _ _)).symm
  blk_simp
  rw [after0_8]
  obtain ⟨r, n, rfl⟩ : ∃ (r : Fin 128) (n : Fin 2048), y = ix2 r n := ⟨y 0, y 1, eq_ix2 y⟩
  exact (leaves m c t r n).2.1

theorem final9 : (dats m 0 c).arrAt 9 (cfgs 0).N = flat (O9 m c) := by
  refine (dats m 0 c).arrAt_eq_of_covers 9 _ (by decide +kernel) fun t hf y => ?_
  refine Eq.trans ?_ ((congrArg (flat (O9 m c)) (emb9 t y)).trans (big_flat _ t _ _)).symm
  blk_simp
  rw [after0_9]
  obtain ⟨r, n, rfl⟩ : ∃ (r : Fin 128) (n : Fin 2048), y = ix2 r n := ⟨y 0, y 1, eq_ix2 y⟩
  exact (leaves m c t r n).2.2.1

theorem final10 : (dats m 0 c).arrAt 10 (cfgs 0).N = flat (O10 m c) := by
  refine (dats m 0 c).arrAt_eq_of_covers 10 _ (by decide +kernel) fun t hf y => ?_
  refine Eq.trans ?_ ((congrArg (flat (O10 m c)) (emb10 t y)).trans (big_flat _ t _ _)).symm
  blk_simp
  rw [after0_10]
  obtain ⟨r, n, rfl⟩ : ∃ (r : Fin 128) (n : Fin 2048), y = ix2 r n := ⟨y 0, y 1, eq_ix2 y⟩
  exact (leaves m c t r n).2.2.2

theorem fold_flat (a : FVec Ideal S4x256x2048 .f32) : fold (flat a) = a := by
  funext i
  obtain ⟨l, r, n, rfl⟩ : ∃ (l : Fin 4) (r : Fin 256) (n : Fin 2048), i = ix3 l r n := ⟨i 0, i 1, i 2, eq_ix3 i⟩
  exact (fold_apply _ l r n).trans ((flat_apply a _ n).trans (congrArg₂ (fun u v => a (ix3 u v n))
    (Fin.ext (by show (l.val * 256 + r.val) / 256 = l.val; omega)) (Fin.ext (by show (l.val * 256 + r.val) % 256 = r.val; omega))))

theorem tail : Pipeline.afterTail₀ cfgs (dats m) 0 (V0 m) [hostOps1] c main_v8 = fold ((dats m 0 c).arrAt 7 (cfgs 0).N)
    ∧ Pipeline.afterTail₀ cfgs (dats m) 0 (V0 m) [hostOps1] c main_v9 = fold ((dats m 0 c).arrAt 8 (cfgs 0).N)
    ∧ Pipeline.afterTail₀ cfgs (dats m) 0 (V0 m) [hostOps1] c main_v10 = fold ((dats m 0 c).arrAt 9 (cfgs 0).N)
    ∧ Pipeline.afterTail₀ cfgs (dats m) 0 (V0 m) [hostOps1] c main_v11 = fold ((dats m 0 c).arrAt 10 (cfgs 0).N) := by
  have e7 := Pipeline.withArrays_arr spec0 launch0.win.arr_inj c (V0 m c) (fun w => (dats m 0 c).arrAt w (cfgs 0).N) 7
  have e8 := Pipeline.withArrays_arr spec0 launch0.win.arr_inj c (V0 m c) (fun w => (dats m 0 c).arrAt w (cfgs 0).N) 8
  have e9 := Pipeline.withArrays_arr spec0 launch0.win.arr_inj c (V0 m c) (fun w => (dats m 0 c).arrAt w (cfgs 0).N) 9
  have e10 := Pipeline.withArrays_arr spec0 launch0.win.arr_inj c (V0 m c) (fun w => (dats m 0 c).arrAt w (cfgs 0).N) 10
  rw [← e7, ← e8, ← e9, ← e10]
  unfold Pipeline.afterTail₀
  generalize Pipeline.withArrays spec0 c (V0 m c) (fun w => (dats m 0 c).arrAt w (cfgs 0).N) = W
  refine ⟨?_, ?_, ?_, ?_⟩ <;>
  (show StableHlo.after (List.flatten [hostOps1]) W (Proc.devRef .tc _) = _
   simp only [hostOps1, List.flatten_cons, List.flatten_nil, List.append_nil, List.cons_append, List.nil_append]
   after_results_simp <;> rfl)

/-- The kernel's run, each result as a function of the arguments. -/
theorem ker_run (ρ : Dev nD → PrngReg) :
    θ_run defs (onTc (τ := τ) (main (F := Ideal))) ⟨m, fun _ => 0, ρ⟩ fun r => ∀ c : Dev nD,
      r.2.mem ((c.tc : Thread nD τ).loc main_v8) = O7 m c
      ∧ r.2.mem ((c.tc : Thread nD τ).loc main_v9) = O8 m c
      ∧ r.2.mem ((c.tc : Thread nD τ).loc main_v10) = O9 m c
      ∧ r.2.mem ((c.tc : Thread nD τ).loc main_v11) = O10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (run_main m ρ)
  have hp : Pipeline.FramePost cfgs (dats m) 0 (Pipeline.afterTail₀ cfgs (dats m) 0 (V0 m) [hostOps1]) r := h
  obtain ⟨t7, t8, t9, t10⟩ := tail m c
  exact ⟨(hp.rest_eq c main_v8 (by decide)).trans (t7.trans ((congrArg fold (final7 m c)).trans (fold_flat _))),
    (hp.rest_eq c main_v9 (by decide)).trans (t8.trans ((congrArg fold (final8 m c)).trans (fold_flat _))),
    (hp.rest_eq c main_v10 (by decide)).trans (t9.trans ((congrArg fold (final9 m c)).trans (fold_flat _))),
    (hp.rest_eq c main_v11 (by decide)).trans (t10.trans ((congrArg fold (final10 m c)).trans (fold_flat _))),
    (hp.rest_eq c main_arg0 (by decide)).trans (W_main_arg0 m (dats m) c),
    (hp.rest_eq c main_arg1 (by decide)).trans (W_main_arg1 m (dats m) c),
    (hp.rest_eq c main_arg2 (by decide)).trans (W_main_arg2 m (dats m) c),
    (hp.rest_eq c main_arg3 (by decide)).trans (W_main_arg3 m (dats m) c),
    (hp.rest_eq c main_arg4 (by decide)).trans (W_main_arg4 m (dats m) c),
    (hp.rest_eq c main_arg5 (by decide)).trans (W_main_arg5 m (dats m) c),
    (hp.rest_eq c main_arg6 (by decide)).trans (W_main_arg6 m (dats m) c)⟩

end Cert.OptValue

end
-- ==== Proof.OptClaim.lean ====
/- The optimiser kernel's results are the reference's. -/
module

public import proofs.«01_k».proof.Defs
public import proofs.«01_k».proof.Proof.OptValue
public import proofs.«01_k».proof.Proof.Gen.OptRefIdeal.Run

@[expose] public section

set_option maxRecDepth 16384

noncomputable section

open Idealize.ShloMosaic Idealize.ShloMosaic.TcCoe Idealize.SL.Sem Idealize.ShloMosaic.Tactic

namespace Cert.OptClaim

section
open Cert.OptRefIdeal Cert.OptRefIdeal.Gen Cert.OptValue

/-- The gradients of all layers, from the layers' parts. -/
def sums (P : Fin 4 → S8x256x2048.Idx → EReal) (i : S4x256x2048.Idx) : EReal := gs (P (i 0)) (i 1) (i 2)

/-- The reference's gradients: the sums of the parts, one layer over the other. -/
def stack (P : Fin 4 → FVec Ideal S8x256x2048 .f32) : FVec Ideal S4x256x2048 .f32 :=
  concatenate S4x256x2048 0 [⟨S1x256x2048, broadcastInDim S1x256x2048 ![1, 2] bcast_S256x2048_S1x256x2048_1_2 (Host.reduceAdd (P 0) (constant S_ .f32 0x00000000#32) reducesTo_S8x256x2048_S256x2048_d0 h_S_)⟩,
    ⟨S1x256x2048, broadcastInDim S1x256x2048 ![1, 2] bcast_S256x2048_S1x256x2048_1_2 (Host.reduceAdd (P 1) (constant S_ .f32 0x00000000#32) reducesTo_S8x256x2048_S256x2048_d0 h_S_)⟩,
    ⟨S1x256x2048, broadcastInDim S1x256x2048 ![1, 2] bcast_S256x2048_S1x256x2048_1_2 (Host.reduceAdd (P 2) (constant S_ .f32 0x00000000#32) reducesTo_S8x256x2048_S256x2048_d0 h_S_)⟩,
    ⟨S1x256x2048, broadcastInDim S1x256x2048 ![1, 2] bcast_S256x2048_S1x256x2048_1_2 (Host.reduceAdd (P 3) (constant S_ .f32 0x00000000#32) reducesTo_S8x256x2048_S256x2048_d0 h_S_)⟩]
    concatenates_S1x256x2048_S1x256x2048_S1x256x2048_S1x256x2048_S4x256x2048_d0

theorem stack_eq (P : Fin 4 → FVec Ideal S8x256x2048 .f32) : stack P = sums P := by
  funext i
  obtain ⟨l, r, n, rfl⟩ : ∃ (l : Fin 4) (r : Fin 256) (n : Fin 2048), i = ix3 l r n := ⟨i 0, i 1, i 2, eq_ix3 i⟩
  show (_ : EReal) = _
  match l with
  | 0 => pointwise [stack, sums, gs]
  | 1 => pointwise [stack, sums, gs]
  | 2 => pointwise [stack, sums, gs]
  | 3 => pointwise [stack, sums, gs]

theorem ref_run (m : (ℓ : Loc nD τ sig) → Buf (Elt Ideal) ℓ) (ρ : Dev nD → PrngReg) (P : Dev nD → Fin 4 → S8x256x2048.Idx → EReal)
    (W M V : Dev nD → S4x256x2048.Idx → EReal)
    (hm : ∀ c : Dev nD, m ((c.tc : Thread nD τ).loc main_arg0) = P c 0 ∧ m ((c.tc : Thread nD τ).loc main_arg1) = P c 1
      ∧ m ((c.tc : Thread nD τ).loc main_arg2) = P c 2 ∧ m ((c.tc : Thread nD τ).loc main_arg3) = P c 3
      ∧ m ((c.tc : Thread nD τ).loc main_arg4) = W c ∧ m ((c.tc : Thread nD τ).loc main_arg5) = M c ∧ m ((c.tc : Thread nD τ).loc main_arg6) = V c) :
    θ_run defs (onTc (τ := τ) (main (F := Ideal))) ⟨m, fun _ => 0, ρ⟩ fun r => ∀ c : Dev nD,
      r.2.mem ((c.tc : Thread nD τ).loc main_v8) = sums (P c)
      ∧ r.2.mem ((c.tc : Thread nD τ).loc main_v32) = (fun i : S4x256x2048.Idx => de (sums (P c) i) (W c i) (M c i) (V c i))
      ∧ r.2.mem ((c.tc : Thread nD τ).loc main_v13) = (fun i : S4x256x2048.Idx => mo (sums (P c) i) (M c i))
      ∧ r.2.mem ((c.tc : Thread nD τ).loc main_v19) = (fun i : S4x256x2048.Idx => ve (sums (P c) i) (V c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Value.run m ρ)
  obtain ⟨h0, h1, h2, h3, h4⟩ := h c
  obtain ⟨e0, e1, e2, e3, e4, e5, e6⟩ := hm c
  unfold Value.res_main_v32 at h1
  rw [e0, e1, e2, e3, e5] at h2
  rw [e0, e1, e2, e3, e6] at h3
  rw [e0, e1, e2, e3, e4, e5, e6] at h1
  rw [e0, e1, e2, e3] at h0
  have e := stack_eq (P c)
  unfold stack at e
  rw [e] at h0 h1 h2 h3
  generalize sums (P c) = G at *
  refine ⟨h0, h1.trans (funext fun i => ?_), h2.trans (funext fun i => ?_), h3.trans (funext fun i => ?_), h4⟩ <;>
  (idx_vars i
   show (_ : EReal) = _
   pointwise [de, mo, ve])

end

theorem frame_ref : Cert.quiescent_OptRefIdeal := fun m ρ _ =>
  (θ_run Cert.OptRefIdeal.defs _ _).mono (fun r h => ⟨fun c => (h c).2.2.2.2, sem_eq_zero_of_no_sems (by decide) r.2⟩) (Cert.OptRefIdeal.Value.run m ρ)

theorem algebraic : Cert.algebraic_OptKernelIdeal_OptRefIdeal := by
  intro m g m' g' _ hagree
  exact ⟨_, _, _, _, Cert.OptValue.ker_run m g, ref_run m' g' (fun c => Cert.OptValue.aP m c) (fun c => Cert.OptValue.aW m c)
    (fun c => Cert.OptValue.aM m c) (fun c => Cert.OptValue.aV m c) hagree⟩

end Cert.OptClaim

end
-- ==== Proof.TnValue.lean ====
/- What the array of the weight gradient's product holds after its run. -/
module

public import proofs.«01_k».proof.Proof.Gen.TnKernelIdeal.Value
public import Idealize.ShloMosaic.Lib.Pipeline.ValueKit

@[expose] public section

set_option maxRecDepth 16384

noncomputable section

open Idealize.ShloMosaic Idealize.ShloMosaic.TcCoe Idealize.SL.Sem Idealize.ShloMosaic.Tactic
open Idealize.ShloMosaic.Pipeline (Dat)

namespace Cert.TnValue

open Cert.TnKernelIdeal Cert.TnKernelIdeal.Gen

/-- The product over the rows. -/
def prod (Y D : S4096x2048.Idx → EReal) (i : S2048x2048.Idx) : EReal := ∑ k : Fin 4096, Y (ix2 k (i 0)) * D (ix2 k (i 1))

/-- The rows are two halves. -/
theorem halves (f : Fin 4096 → EReal) : ∑ k, f k = ∑ k : Fin 2048, f ⟨k.val, by omega⟩ + ∑ k : Fin 2048, f ⟨2048 + k.val, by omega⟩ :=
  Fin.sum_univ_add (a := 2048) (b := 2048) f

variable (m : (ℓ : Loc nD τ sig) → Buf (Elt Ideal) ℓ) (c : Dev nD)

theorem idx : ∀ t : Fin cfg0.N, win0_0.index t = ![t.val % 2, t.val / 4] ∧ win0_1.index t = ![t.val % 2, t.val / 2 % 2]
    ∧ win0_2.index t = ![t.val / 4, t.val / 2 % 2] ∧ t.val < 8 :=
  (by decide +kernel : ∀ t : Fin grid0.N, _)

/-- A row of the block at a point. -/
def row (t : Fin cfg0.N) (k : Fin 2048) : Fin 4096 := ⟨t.val % 2 * 2048 + k.val, by omega⟩
/-- A column of the left block at a point. -/
def left (t : Fin cfg0.N) (i : Fin 1024) : Fin 2048 := ⟨t.val / 4 * 1024 + i.val, by have := (idx t).2.2.2; omega⟩
/-- A column of the right block at a point. -/
def right (t : Fin cfg0.N) (j : Fin 1024) : Fin 2048 := ⟨t.val / 2 % 2 * 1024 + j.val, by omega⟩

abbrev aY : S4096x2048.Idx → EReal := m ((c.tc : Thread nD τ).loc main_arg0)
abbrev aD : S4096x2048.Idx → EReal := m ((c.tc : Thread nD τ).loc main_arg1)

theorem entry : V m c main_v0 = truncf (F := Ideal) .bf16 (aY m c) bitsLt_bf16_f32 ∧ V m c main_v1 = truncf (F := Ideal) .bf16 (aD m c) bitsLt_bf16_f32 := by
  refine ⟨?_, ?_⟩ <;>
  (show StableHlo.after (List.flatten [hostOps0]) (fun b => m (c, b)) (Proc.devRef .tc _) = _
   simp only [hostOps0, List.flatten_cons, List.flatten_nil, List.append_nil, List.cons_append, List.nil_append]
   after_results_simp <;> rfl)

theorem blk0 (t : Fin cfg0.N) (k : Fin 2048) (i : Fin 1024) : iblk m c 0 t (ix2 k i) = aY m c (ix2 (row t k) (left t i)) := by
  have h : iblk m c 0 t (ix2 k i) = V m c main_v0 (ix2 (row t k) (left t i)) := by blk_ext [iblk, idx t, row, left]
  rw [h, (entry m c).1]
  rfl
theorem blk1 (t : Fin cfg0.N) (k : Fin 2048) (j : Fin 1024) : iblk m c 1 t (ix2 k j) = aD m c (ix2 (row t k) (right t j)) := by
  have h : iblk m c 1 t (ix2 k j) = V m c main_v1 (ix2 (row t k) (right t j)) := by blk_ext [iblk, idx t, row, right]
  rw [h, (entry m c).2]
  rfl

theorem pay1 (i j : Fin 1024) : k0_pay1 (F := Ideal) (ix2 i j) = (0 : EReal) := by
  show (_ : EReal) = _
  pointwise [k0_pay1]
theorem pay2 (a : Vec Ideal S1024x1024 .f32) (x y : Vec Ideal S2048x1024 .bf16) (i j : Fin 1024) :
    k0_pay2 (F := Ideal) a x y (ix2 i j) = (show EReal from a (ix2 i j)) + ∑ k : Fin 2048, (show EReal from x (ix2 k i)) * y (ix2 k j) := by
  show (_ : EReal) = _
  pointwise [k0_pay2]

theorem emb2 (t : Fin cfg0.N) (y : S1024x1024.Idx) : ((cfg0.win 2).blk t).view.emb y = (ix2 (left t (y 0)) (right t (y 1)) : S2048x2048.Idx) := by
  blk_ext [idx t, left, right]

/-- The sum carried after the first half of the rows. -/
theorem first (t : Fin cfg0.N) (h : t.val % 2 = 0) :
    (outsAt0 m c t.val t.isLt).2 = k0_pay2 (F := Ideal) (k0_pay1 (F := Ideal)) (iblk m c 0 t) (iblk m c 1 t) := by
  rw [outsAt0_A m c t h (by omega)]
  unfold sout0_A_0
  frame_out
/-- What is stored after the second half. -/
theorem second (t : Fin cfg0.N) (h : t.val % 2 = 1) : (outsAt0 m c t.val t.isLt).1
    = k0_pay3 (F := Ideal) (k0_pay2 (outsAt0 m c (t.val - 1) (Nat.lt_of_le_of_lt (Nat.sub_le _ _) t.isLt)).2 (iblk m c 0 t) (iblk m c 1 t)) := by
  rw [outsAt0_B m c t (by omega) h]
  unfold out0_B_2
  frame_out
  exact congrArg (fun a => k0_pay3 (F := Ideal) (k0_pay2 (F := Ideal) a _ _)) ((Memref.isWhole_whole cc0_scratch0).read_unread _)

theorem final2 : (dats m 0 c).arrAt 2 (cfgs 0).N = prod (aY m c) (aD m c) := by
  refine (dats m 0 c).arrAt_eq_of_covers 2 _ (by decide +kernel) fun t hf y => ?_
  refine Eq.trans ?_ (congrArg (prod (aY m c) (aD m c)) (emb2 t y).symm)
  have ht : t.val % 2 = 1 := (flush0_2 t).mp hf
  have h8 := (idx t).2.2.2
  blk_simp
  rw [after0_2, second m c t ht]
  have e := first m c ⟨t.val - 1, Nat.lt_of_le_of_lt (Nat.sub_le _ _) t.isLt⟩ (by show (t.val - 1) % 2 = 0; omega)
  rw [show (outsAt0 m c (t.val - 1) (Nat.lt_of_le_of_lt (Nat.sub_le _ _) t.isLt)).2 = _ from e]
  obtain ⟨i, j, rfl⟩ : ∃ i j : Fin 1024, y = ix2 i j := ⟨y 0, y 1, eq_ix2 y⟩
  refine (pay2 _ _ _ i j).trans ?_
  refine (congrArg (· + _) (pay2 _ _ _ i j)).trans ?_
  rw [pay1, zero_add]
  refine Eq.trans ?_ (halves fun k => aY m c (ix2 k (left t i)) * aD m c (ix2 k (right t j))).symm
  refine congrArg₂ (· + ·) (Finset.sum_congr rfl fun k _ => ?_) (Finset.sum_congr rfl fun k _ => ?_)
  · rw [blk0, blk1]
    refine congrArg₂ (fun (a : S4096x2048.Idx) b => aY m c a * aD m c b) (congrArg₂ ix2 (Fin.ext ?_) (Fin.ext ?_)) (congrArg₂ ix2 (Fin.ext ?_) (Fin.ext ?_))
    · show (t.val - 1) % 2 * 2048 + k.val = k.val
      omega
    · show (t.val - 1) / 4 * 1024 + i.val = t.val / 4 * 1024 + i.val
      omega
    · show (t.val - 1) % 2 * 2048 + k.val = k.val
      omega
    · show (t.val - 1) / 2 % 2 * 1024 + j.val = t.val / 2 % 2 * 1024 + j.val
      omega
  · rw [blk0, blk1]
    have e : row t k = ⟨2048 + k.val, by omega⟩ := Fin.ext (by show t.val % 2 * 2048 + k.val = 2048 + k.val; omega)
    rw [e]

/-- The kernel's run, the result as a function of the arguments. -/
theorem ker_run (ρ : Dev nD → PrngReg) :
    θ_run defs (onTc (τ := τ) (main (F := Ideal))) ⟨m, fun _ => 0, ρ⟩ fun r => ∀ c : Dev nD,
      r.2.mem ((c.tc : Thread nD τ).loc main_v2) = prod (aY m c) (aD m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final2 m c), (h c).2⟩) (Value.run_blocks m ρ)

end Cert.TnValue

end
-- ==== Proof.TnClaim.lean ====
/- The weight gradient's product is the reference's. -/
module

public import proofs.«01_k».proof.Defs
public import proofs.«01_k».proof.Proof.TnValue
public import proofs.«01_k».proof.Proof.Gen.TnRefIdeal.Run

@[expose] public section

set_option maxRecDepth 16384

noncomputable section

open Idealize.ShloMosaic Idealize.ShloMosaic.TcCoe Idealize.SL.Sem Idealize.ShloMosaic.Tactic

namespace Cert.TnClaim

section
open Cert.TnRefIdeal Cert.TnRefIdeal.Gen

theorem ref_run (m : (ℓ : Loc nD τ sig) → Buf (Elt Ideal) ℓ) (ρ : Dev nD → PrngReg) (Y D : Dev nD → S4096x2048.Idx → EReal)
    (hm : ∀ c : Dev nD, m ((c.tc : Thread nD τ).loc main_arg0) = Y c ∧ m ((c.tc : Thread nD τ).loc main_arg1) = D c) :
    θ_run defs (onTc (τ := τ) (main (F := Ideal))) ⟨m, fun _ => 0, ρ⟩ fun r => ∀ c : Dev nD,
      r.2.mem ((c.tc : Thread nD τ).loc main_v2) = Cert.TnValue.prod (Y c) (D c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run m ρ)
  obtain ⟨h0, h1⟩ := h c
  obtain ⟨e0, e1⟩ := hm c
  rw [← e0, ← e1]
  refine ⟨h0.trans (funext fun i => ?_), h1⟩
  idx_vars i
  show (_ : EReal) = _
  pointwise [Cert.TnValue.prod]

end

theorem frame_ref : Cert.quiescent_TnRefIdeal := fun m ρ _ =>
  (θ_run Cert.TnRefIdeal.defs _ _).mono (fun r h => ⟨fun c => (h c).2, sem_eq_zero_of_no_sems (by decide) r.2⟩) (Cert.TnRefIdeal.Value.run m ρ)

theorem algebraic : Cert.algebraic_TnKernelIdeal_TnRefIdeal := by
  intro m g m' g' _ hagree
  exact ⟨_, Cert.TnValue.ker_run m g, ref_run m' g' (fun c => m ((c.tc : Thread Cert.TnKernelIdeal.nD Cert.TnKernelIdeal.τ).loc Cert.TnKernelIdeal.main_arg0))
    (fun c => m ((c.tc : Thread Cert.TnKernelIdeal.nD Cert.TnKernelIdeal.τ).loc Cert.TnKernelIdeal.main_arg1)) hagree⟩

end Cert.TnClaim

end
-- ==== Proof.lean ====
module

public import proofs.«01_k».proof.Defs
public import proofs.«01_k».proof.Proof.Gen.MlaKernel.Frame
public import proofs.«01_k».proof.Proof.Gen.MlaKernelIdeal.Frame
public import proofs.«01_k».proof.Proof.Gen.MlaKernel
public import proofs.«01_k».proof.Proof.Gen.MlaKernelIdeal
public import proofs.«01_k».proof.Proof.Gen.MlaKernelIdeal.Skeleton
public import proofs.«01_k».proof.Proof.Gen.MlaKernelIdeal.Loops
public import proofs.«01_k».proof.Proof.Gen.MlaRefIdeal
public import proofs.«01_k».proof.Proof.Gen.MlaRefIdeal.Run
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossRefIdeal
public import proofs.«01_k».proof.Proof.Gen.LossKernelIdeal.Value
public import proofs.«01_k».proof.Proof.Gen.LossRefIdeal.Run
public import proofs.«01_k».proof.Proof.LossClaim
public import proofs.«01_k».proof.Proof.MlaFrames
public import proofs.«01_k».proof.Proof.MlaClaim
public import proofs.«01_k».proof.Proof.InpClaim
public import proofs.«01_k».proof.Proof.GateClaim
public import proofs.«01_k».proof.Proof.FwdClaim
public import proofs.«01_k».proof.Proof.WinClaim
public import proofs.«01_k».proof.Proof.ProjClaim
public import proofs.«01_k».proof.Proof.LatClaim
public import proofs.«01_k».proof.Proof.OptClaim
public import proofs.«01_k».proof.Proof.TnClaim
public import proofs.«01_k».proof.Proof.Gen.InpKernelIdeal.Value
public import proofs.«01_k».proof.Proof.Gen.InpRefIdeal.Run
public import proofs.«01_k».proof.Proof.Gen.GateKernelIdeal.Value
public import proofs.«01_k».proof.Proof.Gen.GateRefIdeal.Run
public import proofs.«01_k».proof.Proof.Gen.InpKernel
public import proofs.«01_k».proof.Proof.Gen.InpKernel.Skeleton
public import proofs.«01_k».proof.Proof.Gen.InpKernel.Launch
public import proofs.«01_k».proof.Proof.Gen.InpKernel.Points
public import proofs.«01_k».proof.Proof.Gen.InpKernel.Frame
public import proofs.«01_k».proof.Proof.Gen.InpKernelIdeal
public import proofs.«01_k».proof.Proof.Gen.InpKernelIdeal.Skeleton
public import proofs.«01_k».proof.Proof.Gen.InpKernelIdeal.Launch
public import proofs.«01_k».proof.Proof.Gen.InpKernelIdeal.Points
public import proofs.«01_k».proof.Proof.Gen.InpKernelIdeal.Frame
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.InpRefIdeal
public import proofs.«01_k».proof.Proof.Gen.GateRefIdeal
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjRefIdeal
public import proofs.«01_k».proof.Proof.Gen.ProjRefIdeal.Run
public import proofs.«01_k».proof.Proof.Gen.LatKernel
public import proofs.«01_k».proof.Proof.Gen.LatKernel.Skeleton
public import proofs.«01_k».proof.Proof.Gen.LatKernel.Launch
public import proofs.«01_k».proof.Proof.Gen.LatKernel.Points
public import proofs.«01_k».proof.Proof.Gen.LatKernel.Frame
public import proofs.«01_k».proof.Proof.Gen.LatKernelIdeal
public import proofs.«01_k».proof.Proof.Gen.LatKernelIdeal.Skeleton
public import proofs.«01_k».proof.Proof.Gen.LatKernelIdeal.Launch
public import proofs.«01_k».proof.Proof.Gen.LatKernelIdeal.Points
public import proofs.«01_k».proof.Proof.Gen.LatKernelIdeal.Frame
public import proofs.«01_k».proof.Proof.Gen.LatRefIdeal
public import proofs.«01_k».proof.Proof.Gen.LatRefIdeal.Run
public import proofs.«01_k».proof.Proof.Gen.WinKernel
public import proofs.«01_k».proof.Proof.Gen.WinKernel.Skeleton
public import proofs.«01_k».proof.Proof.Gen.WinKernel.Launch
public import proofs.«01_k».proof.Proof.Gen.WinKernel.Points
public import proofs.«01_k».proof.Proof.Gen.WinKernel.Frame
public import proofs.«01_k».proof.Proof.Gen.WinKernelIdeal
public import proofs.«01_k».proof.Proof.Gen.WinKernelIdeal.Skeleton
public import proofs.«01_k».proof.Proof.Gen.WinKernelIdeal.Launch
public import proofs.«01_k».proof.Proof.Gen.WinKernelIdeal.Points
public import proofs.«01_k».proof.Proof.Gen.WinKernelIdeal.Frame
public import proofs.«01_k».proof.Proof.Gen.WinRefIdeal
public import proofs.«01_k».proof.Proof.Gen.WinRefIdeal.Run
public import proofs.«01_k».proof.Proof.Gen.OptKernel
public import proofs.«01_k».proof.Proof.Gen.OptKernel.Skeleton
public import proofs.«01_k».proof.Proof.Gen.OptKernel.Launch
public import proofs.«01_k».proof.Proof.Gen.OptKernel.Points
public import proofs.«01_k».proof.Proof.Gen.OptKernel.Frame
public import proofs.«01_k».proof.Proof.Gen.OptKernelIdeal
public import proofs.«01_k».proof.Proof.Gen.OptKernelIdeal.Skeleton
public import proofs.«01_k».proof.Proof.Gen.OptKernelIdeal.Launch
public import proofs.«01_k».proof.Proof.Gen.OptKernelIdeal.Points
public import proofs.«01_k».proof.Proof.Gen.OptKernelIdeal.Frame
public import proofs.«01_k».proof.Proof.Gen.OptRefIdeal
public import proofs.«01_k».proof.Proof.Gen.OptRefIdeal.Run
public import proofs.«01_k».proof.Proof.Gen.TnKernel
public import proofs.«01_k».proof.Proof.Gen.TnKernel.Skeleton
public import proofs.«01_k».proof.Proof.Gen.TnKernel.Launch
public import proofs.«01_k».proof.Proof.Gen.TnKernel.Points
public import proofs.«01_k».proof.Proof.Gen.TnKernel.Frame
public import proofs.«01_k».proof.Proof.Gen.TnKernelIdeal
public import proofs.«01_k».proof.Proof.Gen.TnKernelIdeal.Skeleton
public import proofs.«01_k».proof.Proof.Gen.TnKernelIdeal.Launch
public import proofs.«01_k».proof.Proof.Gen.TnKernelIdeal.Points
public import proofs.«01_k».proof.Proof.Gen.TnKernelIdeal.Frame
public import proofs.«01_k».proof.Proof.Gen.TnKernelIdeal.Value
public import proofs.«01_k».proof.Proof.Gen.TnRefIdeal
public import proofs.«01_k».proof.Proof.Gen.TnRefIdeal.Run
public import proofs.«01_k».proof.Proof.Gen.FwdKernel
public import proofs.«01_k».proof.Proof.Gen.FwdKernel.Skeleton
public import proofs.«01_k».proof.Proof.Gen.FwdKernel.Loops
public import proofs.«01_k».proof.Proof.Gen.FwdKernel.Launch
public import proofs.«01_k».proof.Proof.Gen.FwdKernel.Frame
public import proofs.«01_k».proof.Proof.Gen.FwdKernelIdeal
public import proofs.«01_k».proof.Proof.Gen.FwdKernelIdeal.Skeleton
public import proofs.«01_k».proof.Proof.Gen.FwdKernelIdeal.Loops
public import proofs.«01_k».proof.Proof.Gen.FwdKernelIdeal.Launch
public import proofs.«01_k».proof.Proof.Gen.FwdKernelIdeal.Frame
public import proofs.«01_k».proof.Proof.Gen.FwdKernelIdeal.Value
public import proofs.«01_k».proof.Proof.Gen.FwdRefIdeal
public import proofs.«01_k».proof.Proof.Gen.FwdRefIdeal.Run
public import Idealize.ShloMosaic.Adequacy
public import Idealize.ShloMosaic.Init

@[expose] public section

noncomputable section

namespace Cert.Proof

open Idealize.ShloMosaic Idealize.SL.Sem Cert.LossKernel

/-- The reference runs no kernel: its arguments end as they began, and it has no semaphore. -/
theorem frame_loss_ref : Cert.quiescent_LossRefIdeal := fun m ρ _ =>
  (θ_run Cert.LossRefIdeal.defs _ _).mono (fun r h => ⟨fun c => (h c).2.2.2.2,
    sem_eq_zero_of_no_sems (by decide) r.2⟩) (Cert.LossRefIdeal.Value.run m ρ)

/-- The same for the last gradient's reference. -/
theorem frame_inp_ref : Cert.quiescent_InpRefIdeal := fun m ρ _ =>
  (θ_run Cert.InpRefIdeal.defs _ _).mono (fun r h => ⟨fun c => (h c).2.2.2,
    sem_eq_zero_of_no_sems (by decide) r.2⟩) (Cert.InpRefIdeal.Value.run m ρ)

/-- The same for the gates' reference. -/
theorem frame_gate_ref : Cert.quiescent_GateRefIdeal := fun m ρ _ =>
  (θ_run Cert.GateRefIdeal.defs _ _).mono (fun r h => ⟨fun c => (h c).2.2.2.2,
    sem_eq_zero_of_no_sems (by decide) r.2⟩) (Cert.GateRefIdeal.Value.run m ρ)

theorem claim : Cert.Claim :=
  ⟨Cert.LossKernel.Gen.facts, Cert.LossKernelIdeal.Gen.facts, Cert.LossRefIdeal.Gen.facts,
    Cert.MlaKernel.Gen.facts, Cert.MlaKernelIdeal.Gen.facts, Cert.MlaRefIdeal.Gen.facts,
    Cert.InpKernel.Gen.facts, Cert.InpKernelIdeal.Gen.facts, Cert.InpRefIdeal.Gen.facts,
    Cert.GateKernel.Gen.facts, Cert.GateKernelIdeal.Gen.facts, Cert.GateRefIdeal.Gen.facts,
    Cert.FwdKernel.Gen.facts, Cert.FwdKernelIdeal.Gen.facts, Cert.FwdRefIdeal.Gen.facts,
    Cert.ProjKernel.Gen.facts, Cert.ProjKernelIdeal.Gen.facts, Cert.ProjRefIdeal.Gen.facts,
    Cert.LatKernel.Gen.facts, Cert.LatKernelIdeal.Gen.facts, Cert.LatRefIdeal.Gen.facts,
    Cert.WinKernel.Gen.facts, Cert.WinKernelIdeal.Gen.facts, Cert.WinRefIdeal.Gen.facts,
    Cert.OptKernel.Gen.facts, Cert.OptKernelIdeal.Gen.facts, Cert.OptRefIdeal.Gen.facts,
    Cert.TnKernel.Gen.facts, Cert.TnKernelIdeal.Gen.facts, Cert.TnRefIdeal.Gen.facts,
    Cert.LossClaim.pre, Cert.MlaClaim.pre, Cert.InpClaim.pre, Cert.GateClaim.pre, Cert.FwdClaim.pre, Cert.WinClaim.pre,
    fun m ρ _ => Cert.LossKernel.Gen.frame m ρ, fun m ρ _ => Cert.LossKernelIdeal.Gen.frame m ρ,
    fun m ρ _ => Cert.LossKernelIdeal.Gen.frame m ρ, frame_loss_ref, fun m ρ _ => frame_loss_ref m ρ trivial,
    Cert.MlaRun.frame_kernel, Cert.MlaRun.frame_kernel_ideal, fun m ρ _ => Cert.MlaRun.frame_kernel_ideal m ρ trivial,
    Cert.MlaRun.frame_ref, fun m ρ _ => Cert.MlaRun.frame_ref m ρ trivial,
    fun m ρ _ => Cert.InpKernel.Gen.frame m ρ, fun m ρ _ => Cert.InpKernelIdeal.Gen.frame m ρ,
    fun m ρ _ => Cert.InpKernelIdeal.Gen.frame m ρ, frame_inp_ref, fun m ρ _ => frame_inp_ref m ρ trivial,
    fun m ρ _ => Cert.GateKernel.Gen.frame m ρ, fun m ρ _ => Cert.GateKernelIdeal.Gen.frame m ρ,
    fun m ρ _ => Cert.GateKernelIdeal.Gen.frame m ρ, frame_gate_ref, fun m ρ _ => frame_gate_ref m ρ trivial,
    fun m ρ _ => Cert.FwdKernel.Gen.frame m ρ, fun m ρ _ => Cert.FwdKernelIdeal.Gen.frame m ρ,
    fun m ρ _ => Cert.FwdKernelIdeal.Gen.frame m ρ, Cert.FwdClaim.frame_ref, fun m ρ _ => Cert.FwdClaim.frame_ref m ρ trivial,
    fun m ρ _ => Cert.ProjKernel.Gen.frame m ρ, fun m ρ _ => Cert.ProjKernelIdeal.Gen.frame m ρ, Cert.ProjClaim.frame_ref,
    fun m ρ _ => Cert.LatKernel.Gen.frame m ρ, fun m ρ _ => Cert.LatKernelIdeal.Gen.frame m ρ, Cert.LatClaim.frame_ref,
    fun m ρ _ => Cert.WinKernel.Gen.frame m ρ, fun m ρ _ => Cert.WinKernelIdeal.Gen.frame m ρ,
    fun m ρ _ => Cert.WinKernelIdeal.Gen.frame m ρ, Cert.WinClaim.frame_ref, fun m ρ _ => Cert.WinClaim.frame_ref m ρ trivial,
    fun m ρ _ => Cert.OptKernel.Gen.frame m ρ, fun m ρ _ => Cert.OptKernelIdeal.Gen.frame m ρ, Cert.OptClaim.frame_ref,
    fun m ρ _ => Cert.TnKernel.Gen.frame m ρ, fun m ρ _ => Cert.TnKernelIdeal.Gen.frame m ρ, Cert.TnClaim.frame_ref,
    trivial, Cert.LossClaim.algebraic, Cert.MlaClaim.preserves, Cert.MlaClaim.algebraic,
    trivial, Cert.InpClaim.algebraic, trivial, Cert.GateClaim.algebraic,
    Cert.FwdClaim.preserves, Cert.FwdClaim.algebraic,
    trivial, Cert.ProjClaim.algebraic, trivial, Cert.LatClaim.algebraic,
    Cert.WinClaim.preserves, Cert.WinClaim.algebraic, trivial, Cert.OptClaim.algebraic, trivial, Cert.TnClaim.algebraic⟩

end Cert.Proof

end
